-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite13 [hPre_finite13 : Cert.Pre_finite13.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite13.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite13 [hPre_finite13 : Cert.Pre_finite13.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite13.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite13 [hKernel19Ideal : Cert.Kernel19Ideal.Facts] [hPre_finite13 : Cert.Pre_finite13.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite13 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite13 [hReference19Ideal : Cert.Reference19Ideal.Facts] [hPre_finite13 : Cert.Pre_finite13.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite13 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)) (v3 : (c : Dev Cert.Kernel9Ideal.nD) → Buf (Elt Ideal) ((c.tc : Thread Cert.Kernel9Ideal.nD Cert.Kernel9Ideal.τ).loc Cert.Kernel9Ideal.main_v2_3)) (v4 : (c : Dev Cert.Kernel9Ideal.nD) → Buf (Elt Ideal) ((c.tc : Thread Cert.Kernel9Ideal.nD Cert.Kernel9Ideal.τ).loc Cert.Kernel9Ideal.main_v2_4)) (v5 : (c : Dev Cert.Kernel9Ideal.nD) → Buf (Elt Ideal) ((c.tc : Thread Cert.Kernel9Ideal.nD Cert.Kernel9Ideal.τ).loc Cert.Kernel9Ideal.main_v2_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_v2_3) = v3 c
          ∧ r.2.mem ((c.tc : Thread Cert.Kernel9Ideal.nD Cert.Kernel9Ideal.τ).loc Cert.Kernel9Ideal.main_v2_4) = v4 c
          ∧ r.2.mem ((c.tc : Thread Cert.Kernel9Ideal.nD Cert.Kernel9Ideal.τ).loc Cert.Kernel9Ideal.main_v2_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_v32) = v2 c
          ∧ r.2.mem ((c.tc : Thread Cert.Reference9Ideal.nD Cert.Reference9Ideal.τ).loc Cert.Reference9Ideal.main_v34) = v3 c
          ∧ r.2.mem ((c.tc : Thread Cert.Reference9Ideal.nD Cert.Reference9Ideal.τ).loc Cert.Reference9Ideal.main_v35) = v4 c
          ∧ r.2.mem ((c.tc : Thread Cert.Reference9Ideal.nD Cert.Reference9Ideal.τ).loc Cert.Reference9Ideal.main_v36) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v59) = v0 c
          ∧ r.2.mem ((c.tc : Thread Cert.Reference13Ideal.nD Cert.Reference13Ideal.τ).loc Cert.Reference13Ideal.main_v62) = v1 c
          ∧ r.2.mem ((c.tc : Thread Cert.Reference13Ideal.nD Cert.Reference13Ideal.τ).loc Cert.Reference13Ideal.main_v33) = v2 c
          ∧ r.2.mem ((c.tc : Thread Cert.Reference13Ideal.nD Cert.Reference13Ideal.τ).loc Cert.Reference13Ideal.main_v30) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v9) = v1 c
          ∧ r.2.mem ((c.tc : Thread Cert.Reference15Ideal.nD Cert.Reference15Ideal.τ).loc Cert.Reference15Ideal.main_v24) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v10) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_v33) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v28) = v1 c
          ∧ r.2.mem ((c.tc : Thread Cert.Reference17Ideal.nD Cert.Reference17Ideal.τ).loc Cert.Reference17Ideal.main_v29) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v74) = v0 c
          ∧ r.2.mem ((c.tc : Thread Cert.Reference18Ideal.nD Cert.Reference18Ideal.τ).loc Cert.Reference18Ideal.main_v77) = v1 c
          ∧ r.2.mem ((c.tc : Thread Cert.Reference18Ideal.nD Cert.Reference18Ideal.τ).loc Cert.Reference18Ideal.main_v48) = v2 c
          ∧ r.2.mem ((c.tc : Thread Cert.Reference18Ideal.nD Cert.Reference18Ideal.τ).loc Cert.Reference18Ideal.main_v45) = v3 c
          ∧ r.2.mem ((c.tc : Thread Cert.Reference18Ideal.nD Cert.Reference18Ideal.τ).loc Cert.Reference18Ideal.main_v78) = v4 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal_pre_finite13 [hKernel19Ideal : Cert.Kernel19Ideal.Facts] [hReference19Ideal : Cert.Reference19Ideal.Facts] [hPre_finite13 : Cert.Pre_finite13.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite13 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v59) = v0 c
          ∧ r.2.mem ((c.tc : Thread Cert.Reference19Ideal.nD Cert.Reference19Ideal.τ).loc Cert.Reference19Ideal.main_v60) = v1 c
          ∧ r.2.mem ((c.tc : Thread Cert.Reference19Ideal.nD Cert.Reference19Ideal.τ).loc Cert.Reference19Ideal.main_v33) = v2 c
          ∧ r.2.mem ((c.tc : Thread Cert.Reference19Ideal.nD Cert.Reference19Ideal.τ).loc Cert.Reference19Ideal.main_v30) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite2 : Cert.Pre_finite2.Facts) (hPre_finite6 : Cert.Pre_finite6.Facts) (hPre_finite13 : Cert.Pre_finite13.Facts) (hPre_finite18 : Cert.Pre_finite18.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Kernel19Ideal_pre_finite13 (hKernel19Ideal := hKernel19Ideal) (hPre_finite13 := hPre_finite13)
    ∧ quiescent_Reference19Ideal (hReference19Ideal := hReference19Ideal)
    ∧ quiescent_Reference19Ideal_pre_finite13 (hReference19Ideal := hReference19Ideal) (hPre_finite13 := hPre_finite13)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal_pre_finite13 (hKernel19Ideal := hKernel19Ideal) (hReference19Ideal := hReference19Ideal) (hPre_finite13 := hPre_finite13)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S8320x11264 : Shape := ⟨2, ![8320, 11264]⟩
abbrev S8320x1024 : Shape := ⟨2, ![8320, 1024]⟩
abbrev S8320x3072 : Shape := ⟨2, ![8320, 3072]⟩
abbrev S_ : Shape := ⟨0, ![]⟩

class Facts : Prop where
  slices_S8320x11264_S8320x3072_0_4096 : S8320x11264.Slices ![0, 4096] S8320x3072
  bitsLt_bf16_f32 : FTy.bits .bf16 < FTy.bits .f32
  bcast_S_S8320x3072 : S_.BroadcastsInDim S8320x3072 (![] : Fin 0 → Fin S8320x3072.rank)
  reducesTo_S8320x3072_S_d0_1 : S8320x3072.ReducesTo [0, 1] S_
  h_S_ : 0 < S_.numel
  bcast_S_S8320x1024 : S_.BroadcastsInDim S8320x1024 (![] : Fin 0 → Fin S8320x1024.rank)
  reducesTo_S8320x1024_S_d0_1 : S8320x1024.ReducesTo [0, 1] S_

variable [Facts]

def fn {F : FTy → Type} [FloatOps F] (main_arg0 : FVec F S8320x11264 .bf16) (main_arg1 : FVec F S8320x1024 .f32) : IVec S_ 1 :=
  let main_v0 : FVec F S8320x3072 .bf16 := (extractStridedSlice S8320x3072 ![0, 4096] · slices_S8320x11264_S8320x3072_0_4096) main_arg0
  let main_v1 : FVec F S8320x3072 .f32 := (extf .f32 · bitsLt_bf16_f32) main_v0
  let main_v2 : FVec F S8320x3072 .f32 := subf main_v1 main_v1
  let main_cst : FVec F S_ .f32 := constant S_ .f32 0x00000000#32
  let main_v3 : FVec F S8320x3072 .f32 := broadcastInDim S8320x3072 ![] bcast_S_S8320x3072 main_cst
  let main_v4 : IVec S8320x3072 1 := cmpf .oeq main_v2 main_v3
  let main_c : IVec S_ 1 := constantI S_ 1 1#1
  let main_v5 : IVec S_ 1 := (fun x v => Host.reduce IntOp.andi x v reducesTo_S8320x3072_S_d0_1 h_S_) main_v4 main_c
  let main_v6 : FVec F S8320x1024 .f32 := subf main_arg1 main_arg1
  let main_cst_0 : FVec F S_ .f32 := constant S_ .f32 0x00000000#32
  let main_v7 : FVec F S8320x1024 .f32 := broadcastInDim S8320x1024 ![] bcast_S_S8320x1024 main_cst_0
  let main_v8 : IVec S8320x1024 1 := cmpf .oeq main_v6 main_v7
  let main_c_1 : IVec S_ 1 := constantI S_ 1 1#1
  let main_v9 : IVec S_ 1 := (fun x v => Host.reduce IntOp.andi x v reducesTo_S8320x1024_S_d0_1 h_S_) main_v8 main_c_1
  let main_v10 : IVec S_ 1 := andi main_v5 main_v9
  main_v10
-- ==== Pre_finite13.lean ====
abbrev S8320x2048 : Shape := ⟨2, ![8320, 2048]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S8320x2048 : S_.BroadcastsInDim S8320x2048 (![] : Fin 0 → Fin S8320x2048.rank)
  reducesTo_S8320x2048_S_d0_1 : S8320x2048.ReducesTo [0, 1] S_

variable [Facts]

def fn {F : FTy → Type} [FloatOps F] (main_arg0 : FVec F S8320x2048 .f32) (main_arg1 : FVec F S1x2048 .f32) (main_arg2 : FVec F S8320x2048 .f32) : IVec S_ 1 :=
  let main_v0 : FVec F S1x2048 .f32 := subf main_arg1 main_arg1
  let main_cst : FVec F S_ .f32 := constant S_ .f32 0x00000000#32
  let main_v1 : FVec F S1x2048 .f32 := broadcastInDim S1x2048 ![] bcast_S_S1x2048 main_cst
  let main_v2 : IVec S1x2048 1 := cmpf .oeq main_v0 main_v1
  let main_c : IVec S_ 1 := constantI S_ 1 1#1
  let main_v3 : IVec S_ 1 := (fun x v => Host.reduce IntOp.andi x v reducesTo_S1x2048_S_d0_1 h_S_) main_v2 main_c
  let main_v4 : FVec F S8320x2048 .f32 := subf main_arg2 main_arg2
  let main_cst_0 : FVec F S_ .f32 := constant S_ .f32 0x00000000#32
  let main_v5 : FVec F S8320x2048 .f32 := broadcastInDim S8320x2048 ![] bcast_S_S8320x2048 main_cst_0
  let main_v6 : IVec S8320x2048 1 := cmpf .oeq main_v4 main_v5
  let main_c_1 : IVec S_ 1 := constantI S_ 1 1#1
  let main_v7 : IVec S_ 1 := (fun x v => Host.reduce IntOp.andi x v reducesTo_S8320x2048_S_d0_1 h_S_) main_v6 main_c_1
  let main_v8 : IVec S_ 1 := andi main_v3 main_v7
  main_v8
-- ==== Pre_finite18.lean ====
abbrev S8320x2048 : Shape := ⟨2, ![8320, 2048]⟩
abbrev S1x2048 : Shape := ⟨2, ![1, 2048]⟩
abbrev S8192x2048 : Shape := ⟨2, ![8192, 2048]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8320x2048 .f32) (main_arg1 : FVec F S1x2048 .f32) (main_arg2 : FVec F S1x2048 .f32) (main_arg3 : FVec F S8192x2048 .f32) : IVec S_ 1 :=
  let main_v0 : FVec F S1x2048 .f32 := subf main_arg1 main_arg1
  let main_cst : FVec F S_ .f32 := constant S_ .f32 0x00000000#32
  let main_v1 : FVec F S1x2048 .f32 := broadcastInDim S1x2048 ![] bcast_S_S1x2048 main_cst
  let main_v2 : IVec S1x2048 1 := cmpf .oeq main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048 .f32 := subf main_arg2 main_arg2
  let main_cst_0 : FVec F S_ .f32 := constant S_ .f32 0x00000000#32
  let main_v5 : FVec F S1x2048 .f32 := broadcastInDim S1x2048 ![] bcast_S_S1x2048 main_cst_0
  let main_v6 : IVec S1x2048 1 := cmpf .oeq main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S8192x2048 .f32 := subf main_arg3 main_arg3
  let main_cst_2 : FVec F S_ .f32 := constant S_ .f32 0x00000000#32
  let main_v10 : FVec F S8192x2048 .f32 := broadcastInDim S8192x2048 ![] bcast_S_S8192x2048 main_cst_2
  let main_v11 : IVec S8192x2048 1 := cmpf .oeq main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Pre_finite2.lean ====
abbrev S8320x2048 : Shape := ⟨2, ![8320, 2048]⟩
abbrev S8x2048x704 : Shape := ⟨3, ![8, 2048, 704]⟩
abbrev S8x704x2048 : Shape := ⟨3, ![8, 704, 2048]⟩
abbrev S_ : Shape := ⟨0, ![]⟩

class Facts : Prop where
  bcast_S_S8320x2048 : S_.BroadcastsInDim S8320x2048 (![] : Fin 0 → Fin S8320x2048.rank)
  reducesTo_S8320x2048_S_d0_1 : S8320x2048.ReducesTo [0, 1] S_
  h_S_ : 0 < S_.numel
  bitsLt_bf16_f32 : FTy.bits .bf16 < FTy.bits .f32
  bcast_S_S8x2048x704 : S_.BroadcastsInDim S8x2048x704 (![] : Fin 0 → Fin S8x2048x704.rank)
  reducesTo_S8x2048x704_S_d0_1_2 : S8x2048x704.ReducesTo [0, 1, 2] S_
  bcast_S_S8x704x2048 : S_.BroadcastsInDim S8x704x2048 (![] : Fin 0 → Fin S8x704x2048.rank)
  reducesTo_S8x704x2048_S_d0_1_2 : S8x704x2048.ReducesTo [0, 1, 2] S_

variable [Facts]

def fn_part1 {F : FTy → Type} [FloatOps F] (main_v15 : IVec S_ 1) (main_v16 : FVec F S8x704x2048 .f32) (main_cst_4 : FVec F S_ .f32) : IVec S_ 1 :=
  let main_v17 : FVec F S8x704x2048 .f32 := broadcastInDim S8x704x2048 ![] bcast_S_S8x704x2048 main_cst_4
  let main_v18 : IVec S8x704x2048 1 := cmpf .oeq main_v16 main_v17
  let main_c_5 : IVec S_ 1 := constantI S_ 1 1#1
  let main_v19 : IVec S_ 1 := (fun x v => Host.reduce IntOp.andi x v reducesTo_S8x704x2048_S_d0_1_2 h_S_) main_v18 main_c_5
  let main_v20 : IVec S_ 1 := andi main_v15 main_v19
  main_v20

def fn {F : FTy → Type} [FloatOps F] (main_arg0 : FVec F S8320x2048 .f32) (main_arg1 : FVec F S8x2048x704 .bf16) (main_arg2 : FVec F S8x2048x704 .bf16) (main_arg3 : FVec F S8x704x2048 .bf16) (main_arg4 : FVec F S8320x2048 .f32) : IVec S_ 1 :=
  let main_v0 : FVec F S8320x2048 .f32 := subf main_arg0 main_arg0
  let main_cst : FVec F S_ .f32 := constant S_ .f32 0x00000000#32
  let main_v1 : FVec F S8320x2048 .f32 := broadcastInDim S8320x2048 ![] bcast_S_S8320x2048 main_cst
  let main_v2 : IVec S8320x2048 1 := cmpf .oeq main_v0 main_v1
  let main_c : IVec S_ 1 := constantI S_ 1 1#1
  let main_v3 : IVec S_ 1 := (fun x v => Host.reduce IntOp.andi x v reducesTo_S8320x2048_S_d0_1 h_S_) main_v2 main_c
  let main_v4 : FVec F S8320x2048 .f32 := subf main_arg4 main_arg4
  let main_cst_0 : FVec F S_ .f32 := constant S_ .f32 0x00000000#32
  let main_v5 : FVec F S8320x2048 .f32 := broadcastInDim S8320x2048 ![] bcast_S_S8320x2048 main_cst_0
  let main_v6 : IVec S8320x2048 1 := cmpf .oeq main_v4 main_v5
  let main_c_1 : IVec S_ 1 := constantI S_ 1 1#1
  let main_v7 : IVec S_ 1 := (fun x v => Host.reduce IntOp.andi x v reducesTo_S8320x2048_S_d0_1 h_S_) main_v6 main_c_1
  let main_v8 : IVec S_ 1 := andi main_v3 main_v7
  let main_v9 : FVec F S8x2048x704 .f32 := (extf .f32 · bitsLt_bf16_f32) main_arg2
  let main_v10 : FVec F S8x704x2048 .f32 := (extf .f32 · bitsLt_bf16_f32) main_arg3
  let main_v11 : FVec F S8x2048x704 .f32 := subf main_v9 main_v9
  let main_cst_2 : FVec F S_ .f32 := constant S_ .f32 0x00000000#32
  let main_v12 : FVec F S8x2048x704 .f32 := broadcastInDim S8x2048x704 ![] bcast_S_S8x2048x704 main_cst_2
  let main_v13 : IVec S8x2048x704 1 := cmpf .oeq main_v11 main_v12
  let main_c_3 : IVec S_ 1 := constantI S_ 1 1#1
  let main_v14 : IVec S_ 1 := (fun x v => Host.reduce IntOp.andi x v reducesTo_S8x2048x704_S_d0_1_2 h_S_) main_v13 main_c_3
  let main_v15 : IVec S_ 1 := andi main_v8 main_v14
  let main_v16 : FVec F S8x704x2048 .f32 := subf main_v10 main_v10
  let main_cst_4 : FVec F S_ .f32 := constant S_ .f32 0x00000000#32
  fn_part1 (F := F) main_v15 main_v16 main_cst_4
-- ==== Pre_finite6.lean ====
abbrev S8320x2048 : Shape := ⟨2, ![8320, 2048]⟩
abbrev S8x2048x704 : Shape := ⟨3, ![8, 2048, 704]⟩
abbrev S_ : Shape := ⟨0, ![]⟩

class Facts : Prop where
  bitsLt_bf16_f32 : FTy.bits .bf16 < FTy.bits .f32
  bcast_S_S8320x2048 : S_.BroadcastsInDim S8320x2048 (![] : Fin 0 → Fin S8320x2048.rank)
  reducesTo_S8320x2048_S_d0_1 : S8320x2048.ReducesTo [0, 1] S_
  h_S_ : 0 < S_.numel
  bcast_S_S8x2048x704 : S_.BroadcastsInDim S8x2048x704 (![] : Fin 0 → Fin S8x2048x704.rank)
  reducesTo_S8x2048x704_S_d0_1_2 : S8x2048x704.ReducesTo [0, 1, 2] S_

variable [Facts]

def fn {F : FTy → Type} [FloatOps F] (main_arg0 : FVec F S8320x2048 .f32) (main_arg1 : FVec F S8x2048x704 .bf16) (main_arg2 : FVec F S8x2048x704 .bf16) : IVec S_ 1 :=
  let main_v0 : FVec F S8x2048x704 .f32 := (extf .f32 · bitsLt_bf16_f32) main_arg2
  let main_v1 : FVec F S8320x2048 .f32 := subf main_arg0 main_arg0
  let main_cst : FVec F S_ .f32 := constant S_ .f32 0x00000000#32
  let main_v2 : FVec F S8320x2048 .f32 := broadcastInDim S8320x2048 ![] bcast_S_S8320x2048 main_cst
  let main_v3 : IVec S8320x2048 1 := cmpf .oeq main_v1 main_v2
  let main_c : IVec S_ 1 := constantI S_ 1 1#1
  let main_v4 : IVec S_ 1 := (fun x v => Host.reduce IntOp.andi x v reducesTo_S8320x2048_S_d0_1 h_S_) main_v3 main_c
  let main_v5 : FVec F S8x2048x704 .f32 := subf main_v0 main_v0
  let main_cst_0 : FVec F S_ .f32 := constant S_ .f32 0x00000000#32
  let main_v6 : FVec F S8x2048x704 .f32 := broadcastInDim S8x2048x704 ![] bcast_S_S8x2048x704 main_cst_0
  let main_v7 : IVec S8x2048x704 1 := cmpf .oeq main_v5 main_v6
  let main_c_1 : IVec S_ 1 := constantI S_ 1 1#1
  let main_v8 : IVec S_ 1 := (fun x v => Host.reduce IntOp.andi x v reducesTo_S8x2048x704_S_d0_1_2 h_S_) main_v7 main_c_1
  let main_v9 : IVec S_ 1 := andi main_v4 main_v8
  main_v9
-- ==== Kernel.lean ====
abbrev S8320x11264 : Shape := ⟨2, ![8320, 11264]⟩
abbrev S8320x1024 : Shape := ⟨2, ![8320, 1024]⟩
abbrev S65 : Shape := ⟨1, ![65]⟩
abbrev S_ : Shape := ⟨0, ![]⟩
abbrev S8320x8x128 : Shape := ⟨3, ![8320, 8, 128]⟩
abbrev S8x8320x128 : Shape := ⟨3, ![8, 8320, 128]⟩
abbrev S8x8320x8320 : Shape := ⟨3, ![8, 8320, 8320]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S65x128 : Shape := ⟨2, ![65, 128]⟩
abbrev S1x8320x8320 : Shape := ⟨3, ![1, 8320, 8320]⟩
abbrev S8x8320 : Shape := ⟨2, ![8, 8320]⟩
abbrev S8x8320x1 : Shape := ⟨3, ![8, 8320, 1]⟩
abbrev S1x65 : Shape := ⟨2, ![1, 65]⟩
abbrev S4x65 : Shape := ⟨2, ![4, 65]⟩
abbrev S128x256 : Shape := ⟨2, ![128, 256]⟩
abbrev S8320x256 : Shape := ⟨2, ![8320, 256]⟩
abbrev S2x128x128 : Shape := ⟨3, ![2, 128, 128]⟩
abbrev S1x1 : Shape := ⟨2, ![1, 1]⟩
abbrev S128x128 : Shape := ⟨2, ![128, 128]⟩
abbrev S1x128x1 : Shape := ⟨3, ![1, 128, 1]⟩
abbrev S128x1 : Shape := ⟨2, ![128, 1]⟩
abbrev S384x128 : Shape := ⟨2, ![384, 128]⟩
abbrev S128x384 : Shape := ⟨2, ![128, 384]⟩
abbrev S128 : Shape := ⟨1, ![128]⟩

abbrev nBuf : Space → Nat
  | .hbm => 107
  | .vmem => 16
  | .smem => 1
  | _ => 0

abbrev bufTy : (tb : Table) → Fin (tcTables nBuf tb) → BufTy
  | .hbm, ⟨0, _⟩ => ⟨S8320x11264, .bf16⟩
  | .hbm, ⟨1, _⟩ => ⟨S8320x1024, .f32⟩
  | .hbm, ⟨2, _⟩ => ⟨S65, .i32⟩
  | .hbm, ⟨3, _⟩ => ⟨S_, .i32⟩
  | .hbm, ⟨4, _⟩ => ⟨S_, .i32⟩
  | .hbm, ⟨5, _⟩ => ⟨S65, .i32⟩
  | .hbm, ⟨6, _⟩ => ⟨S65, .i32⟩
  | .hbm, ⟨7, _⟩ => ⟨S65, .i32⟩
  | .hbm, ⟨8, _⟩ => ⟨S_, .i32⟩
  | .hbm, ⟨9, _⟩ => ⟨S65, .i32⟩
  | .hbm, ⟨10, _⟩ => ⟨S65, .i1⟩
  | .hbm, ⟨11, _⟩ => ⟨S65, .i32⟩
  | .hbm, ⟨12, _⟩ => ⟨S65, .i32⟩
  | .hbm, ⟨13, _⟩ => ⟨S_, .i32⟩
  | .hbm, ⟨14, _⟩ => ⟨S65, .i32⟩
  | .hbm, ⟨15, _⟩ => ⟨S65, .i1⟩
  | .hbm, ⟨16, _⟩ => ⟨S65, .i1⟩
  | .hbm, ⟨17, _⟩ => ⟨S_, .i32⟩
  | .hbm, ⟨18, _⟩ => ⟨S65, .i32⟩
  | .hbm, ⟨19, _⟩ => ⟨S65, .i32⟩
  | .hbm, ⟨20, _⟩ => ⟨S65, .i32⟩
  | .hbm, ⟨21, _⟩ => ⟨S_, .i32⟩
  | .hbm, ⟨22, _⟩ => ⟨S65, .i32⟩
  | .hbm, ⟨23, _⟩ => ⟨S65, .i32⟩
  | .hbm, ⟨24, _⟩ => ⟨S_, .i32⟩
  | .hbm, ⟨25, _⟩ => ⟨S65, .i32⟩
  | .hbm, ⟨26, _⟩ => ⟨S65, .i32⟩
  | .hbm, ⟨27, _⟩ => ⟨S8320x1024, .bf16⟩
  | .hbm, ⟨28, _⟩ => ⟨S8320x1024, .bf16⟩
  | .hbm, ⟨29, _⟩ => ⟨S8320x1024, .f32⟩
  | .hbm, ⟨30, _⟩ => ⟨S8320x8x128, .f32⟩
  | .hbm, ⟨31, _⟩ => ⟨S8x8320x128, .f32⟩
  | .hbm, ⟨32, _⟩ => ⟨S8320x1024, .f32⟩
  | .hbm, ⟨33, _⟩ => ⟨S8320x8x128, .f32⟩
  | .hbm, ⟨34, _⟩ => ⟨S8x8320x128, .f32⟩
  | .hbm, ⟨35, _⟩ => ⟨S8x8320x8320, .f32⟩
  | .hbm, ⟨36, _⟩ => ⟨S_, .f32⟩
  | .hbm, ⟨37, _⟩ => ⟨S8x8320x8320, .f32⟩
  | .hbm, ⟨38, _⟩ => ⟨S8x8320x8320, .f32⟩
  | .hbm, ⟨39, _⟩ => ⟨S8320, .i32⟩
  | .hbm, ⟨40, _⟩ => ⟨S1x8320, .i32⟩
  | .hbm, ⟨41, _⟩ => ⟨S8320x1, .i32⟩
  | .hbm, ⟨42, _⟩ => ⟨S8320x8320, .i32⟩
  | .hbm, ⟨43, _⟩ => ⟨S8320x8320, .i32⟩
  | .hbm, ⟨44, _⟩ => ⟨S8320x8320, .i1⟩
  | .hbm, ⟨45, _⟩ => ⟨S_, .i32⟩
  | .hbm, ⟨46, _⟩ => ⟨S8320, .i32⟩
  | .hbm, ⟨47, _⟩ => ⟨S8320, .i1⟩
  | .hbm, ⟨48, _⟩ => ⟨S1x8320, .i1⟩
  | .hbm, ⟨49, _⟩ => ⟨S8320x8320, .i1⟩
  | .hbm, ⟨50, _⟩ => ⟨S8320x8320, .i1⟩
  | .hbm, ⟨51, _⟩ => ⟨S8x8320x8320, .f32⟩
  | .hbm, ⟨52, _⟩ => ⟨S8x8320x8320, .f32⟩
  | .hbm, ⟨53, _⟩ => ⟨S_, .f32⟩
  | .hbm, ⟨54, _⟩ => ⟨S8x8320x8320, .f32⟩
  | .hbm, ⟨55, _⟩ => ⟨S8x8320x8320, .f32⟩
  | .hbm, ⟨56, _⟩ => ⟨S8x8320x8320, .f32⟩
  | .hbm, ⟨57, _⟩ => ⟨S8x8320x8320, .f32⟩
  | .hbm, ⟨58, _⟩ => ⟨S8x8320x8320, .i1⟩
  | .hbm, ⟨59, _⟩ => ⟨S8x8320x8320, .f32⟩
  | .hbm, ⟨60, _⟩ => ⟨S8x8320x8320, .f32⟩
  | .hbm, ⟨61, _⟩ => ⟨S8x8320x8320, .f32⟩
  | .hbm, ⟨62, _⟩ => ⟨S8x8320x8320, .f32⟩
  | .hbm, ⟨63, _⟩ => ⟨S8x8320x8320, .f32⟩
  | .hbm, ⟨64, _⟩ => ⟨S8x8320x8320, .f32⟩
  | .hbm, ⟨65, _⟩ => ⟨S8x8320x8320, .f32⟩
  | .hbm, ⟨66, _⟩ => ⟨S8x8320x8320, .f32⟩
  | .hbm, ⟨67, _⟩ => ⟨S8x8320x8320, .f32⟩
  | .hbm, ⟨68, _⟩ => ⟨S_, .f32⟩
  | .hbm, ⟨69, _⟩ => ⟨S_, .f32⟩
  | .hbm, ⟨70, _⟩ => ⟨S8x8320x8320, .i1⟩
  | .hbm, ⟨71, _⟩ => ⟨S8x8320x8320, .f32⟩
  | .hbm, ⟨72, _⟩ => ⟨S8x8320x8320, .f32⟩
  | .hbm, ⟨73, _⟩ => ⟨S_, .i32⟩
  | .hbm, ⟨74, _⟩ => ⟨S65, .i32⟩
  | .hbm, ⟨75, _⟩ => ⟨S65, .i32⟩
  | .hbm, ⟨76, _⟩ => ⟨S65, .i32⟩
  | .hbm, ⟨77, _⟩ => ⟨S_, .i32⟩
  | .hbm, ⟨78, _⟩ => ⟨S65, .i32⟩
  | .hbm, ⟨79, _⟩ => ⟨S65, .i32⟩
  | .hbm, ⟨80, _⟩ => ⟨S_, .i32⟩
  | .hbm, ⟨81, _⟩ => ⟨S65, .i32⟩
  | .hbm, ⟨82, _⟩ => ⟨S65, .i32⟩
  | .hbm, ⟨83, _⟩ => ⟨S8320, .i32⟩
  | .hbm, ⟨84, _⟩ => ⟨S1x8320, .i32⟩
  | .hbm, ⟨85, _⟩ => ⟨S65x128, .i32⟩
  | .hbm, ⟨86, _⟩ => ⟨S8320, .i32⟩
  | .hbm, ⟨87, _⟩ => ⟨S8320x1, .i32⟩
  | .hbm, ⟨88, _⟩ => ⟨S8320x8320, .i32⟩
  | .hbm, ⟨89, _⟩ => ⟨S8320x8320, .i32⟩
  | .hbm, ⟨90, _⟩ => ⟨S8320x8320, .i1⟩
  | .hbm, ⟨91, _⟩ => ⟨S1x8320x8320, .i1⟩
  | .hbm, ⟨92, _⟩ => ⟨S_, .f32⟩
  | .hbm, ⟨93, _⟩ => ⟨S_, .f32⟩
  | .hbm, ⟨94, _⟩ => ⟨S8x8320x8320, .i1⟩
  | .hbm, ⟨95, _⟩ => ⟨S8x8320x8320, .f32⟩
  | .hbm, ⟨96, _⟩ => ⟨S8x8320x8320, .f32⟩
  | .hbm, ⟨97, _⟩ => ⟨S_, .f32⟩
  | .hbm, ⟨98, _⟩ => ⟨S8x8320, .f32⟩
  | .hbm, ⟨99, _⟩ => ⟨S8x8320x1, .f32⟩
  | .hbm, ⟨100, _⟩ => ⟨S8x8320x128, .f32⟩
  | .hbm, ⟨101, _⟩ => ⟨S65, .f32⟩
  | .hbm, ⟨102, _⟩ => ⟨S1x65, .f32⟩
  | .hbm, ⟨103, _⟩ => ⟨S4x65, .f32⟩
  | .hbm, ⟨104, _⟩ => ⟨S8320x1024, .bf16⟩
  | .hbm, ⟨105, _⟩ => ⟨S8320x1024, .bf16⟩
  | .hbm, ⟨106, _⟩ => ⟨S8320x1024, .bf16⟩
  | .local _ .vmem, ⟨0, _⟩ => ⟨S128x256, .bf16⟩
  | .local _ .vmem, ⟨1, _⟩ => ⟨S128x256, .bf16⟩
  | .local _ .vmem, ⟨2, _⟩ => ⟨S8320x256, .bf16⟩
  | .local _ .vmem, ⟨3, _⟩ => ⟨S8320x256, .bf16⟩
  | .local _ .vmem, ⟨4, _⟩ => ⟨S128x256, .f32⟩
  | .local _ .vmem, ⟨5, _⟩ => ⟨S128x256, .f32⟩
  | .local _ .vmem, ⟨6, _⟩ => ⟨S2x128x128, .f32⟩
  | .local _ .vmem, ⟨7, _⟩ => ⟨S2x128x128, .f32⟩
  | .local _ .vmem, ⟨8, _⟩ => ⟨S128x256, .bf16⟩
  | .local _ .vmem, ⟨9, _⟩ => ⟨S128x256, .bf16⟩
  | .local _ .vmem, ⟨10, _⟩ => ⟨S8320x256, .bf16⟩
  | .local _ .vmem, ⟨11, _⟩ => ⟨S8320x256, .bf16⟩
  | .local _ .vmem, ⟨12, _⟩ => ⟨S8320x256, .bf16⟩
  | .local _ .vmem, ⟨13, _⟩ => ⟨S8320x256, .bf16⟩
  | .local _ .vmem, ⟨14, _⟩ => ⟨S8320x256, .f32⟩
  | .local _ .vmem, ⟨15, _⟩ => ⟨S8320x256, .f32⟩
  | .local _ .smem, ⟨0, _⟩ => ⟨S4x65, .f32⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_c_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_call1_call0_cst : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_v8 : Ref sig .tc := ⟨.hbm, 62, rfl⟩
abbrev main_call1_call0_v9 : Ref sig .tc := ⟨.hbm, 63, rfl⟩
abbrev main_call1_call0_v10 : Ref sig .tc := ⟨.hbm, 64, rfl⟩
abbrev main_call1_call0_v11 : Ref sig .tc := ⟨.hbm, 65, rfl⟩
abbrev main_call1_v1 : Ref sig .tc := ⟨.hbm, 66, rfl⟩
abbrev main_v29 : Ref sig .tc := ⟨.hbm, 67, rfl⟩
abbrev main_cst_3 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v30 : Ref sig .tc := ⟨.hbm, 72, rfl⟩
abbrev main_c_4 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_5 : Ref sig .tc := ⟨.hbm, 77, rfl⟩
abbrev main_v34 : Ref sig .tc := ⟨.hbm, 78, rfl⟩
abbrev main_v35 : Ref sig .tc := ⟨.hbm, 79, rfl⟩
abbrev main_c_6 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_7 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v47 : Ref sig .tc := ⟨.hbm, 96, rfl⟩
abbrev main_cst_8 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54_0 : Ref sig .tc := ⟨.hbm, 104, rfl⟩
abbrev main_v54_1 : Ref sig .tc := ⟨.hbm, 105, rfl⟩
abbrev main_v54_2 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 65], ![false, false]⟩

def k0_off1 (i : grid0.Coords) : Fin 2 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat]
@[reducible] def k0_t1_loop (v6 : BitVec 32) : Scf.Loop 32 :=
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_16 : BitVec 32 := 1#32
  ⟨c0_i32_14, v50, c1_i32_16⟩

def k0_mult1 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_27 : BitVec 32 := 0#32
  let v65 : BitVec 32 := Scalar.addi v61 c0_i32_27
  let c0_i32_28 : BitVec 32 := 0#32
  let v66 : BitVec 32 := Scalar.maxsi v65 c0_i32_28
  let c128_i32 : BitVec 32 := 128#32
  let v67 : BitVec 32 := Scalar.muli v66 c128_i32
  v67
def k0_off2 (i : grid0.Coords) (v6 : BitVec 32) (k0_t1 : Fin (k0_t1_loop v6).trips) (c0_i32_27 : BitVec 32) : Fin 2 → Nat :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let v65 : BitVec 32 := Scalar.addi v61 c0_i32_27
  let c0_i32_28 : BitVec 32 := 0#32
  let v66 : BitVec 32 := Scalar.maxsi v65 c0_i32_28
  let c128_i32 : BitVec 32 := 128#32
  let v67 : BitVec 32 := Scalar.muli v66 c128_i32
  let v68 : BitVec 32 := v67
  let v69 : Index := Scalar.indexCast v68
  let c0_29 : Index := 0#32
  ![v69.toNat, 0]
def k0_mult2 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_30 : BitVec 32 := 1#32
  let v71 : BitVec 32 := Scalar.addi v61 c1_i32_30
  let c0_i32_31 : BitVec 32 := 0#32
  let v72 : BitVec 32 := Scalar.maxsi v71 c0_i32_31
  let c128_i32_32 : BitVec 32 := 128#32
  let v73 : BitVec 32 := Scalar.muli v72 c128_i32_32
  v73
def k0_mult3 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32 : BitVec 32 := 2#32
  let v77 : BitVec 32 := Scalar.addi v61 c2_i32
  let c0_i32_34 : BitVec 32 := 0#32
  let v78 : BitVec 32 := Scalar.maxsi v77 c0_i32_34
  let c128_i32_35 : BitVec 32 := 128#32
  let v79 : BitVec 32 := Scalar.muli v78 c128_i32_35
  v79
def k0_mult4 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_37 : BitVec 32 := 0#32
  let v84 : BitVec 32 := Scalar.addi v61 c0_i32_37
  let c0_i32_38 : BitVec 32 := 0#32
  let v85 : BitVec 32 := Scalar.maxsi v84 c0_i32_38
  let c128_i32_39 : BitVec 32 := 128#32
  let v86 : BitVec 32 := Scalar.muli v85 c128_i32_39
  v86
def k0_mult5 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_41 : BitVec 32 := 1#32
  let v90 : BitVec 32 := Scalar.addi v61 c1_i32_41
  let c0_i32_42 : BitVec 32 := 0#32
  let v91 : BitVec 32 := Scalar.maxsi v90 c0_i32_42
  let c128_i32_43 : BitVec 32 := 128#32
  let v92 : BitVec 32 := Scalar.muli v91 c128_i32_43
  v92
def k0_mult6 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32_45 : BitVec 32 := 2#32
  let v96 : BitVec 32 := Scalar.addi v61 c2_i32_45
  let c0_i32_46 : BitVec 32 := 0#32
  let v97 : BitVec 32 := Scalar.maxsi v96 c0_i32_46
  let c128_i32_47 : BitVec 32 := 128#32
  let v98 : BitVec 32 := Scalar.muli v97 c128_i32_47
  v98
def k0_mult7 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_76 : BitVec 32 := 0#32
  let v218 : BitVec 32 := Scalar.addi v61 c0_i32_76
  let c0_i32_77 : BitVec 32 := 0#32
  let v219 : BitVec 32 := Scalar.maxsi v218 c0_i32_77
  let c128_i32_78 : BitVec 32 := 128#32
  let v220 : BitVec 32 := Scalar.muli v219 c128_i32_78
  v220
def k0_mult8 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_83 : BitVec 32 := 1#32
  let v238 : BitVec 32 := Scalar.addi v61 c1_i32_83
  let c0_i32_84 : BitVec 32 := 0#32
  let v239 : BitVec 32 := Scalar.maxsi v238 c0_i32_84
  let c128_i32_85 : BitVec 32 := 128#32
  let v240 : BitVec 32 := Scalar.muli v239 c128_i32_85
  v240
def k0_mult9 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32_90 : BitVec 32 := 2#32
  let v258 : BitVec 32 := Scalar.addi v61 c2_i32_90
  let c0_i32_91 : BitVec 32 := 0#32
  let v259 : BitVec 32 := Scalar.maxsi v258 c0_i32_91
  let c128_i32_92 : BitVec 32 := 128#32
  let v260 : BitVec 32 := Scalar.muli v259 c128_i32_92
  v260
def k0_mult10 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_101 : BitVec 32 := 0#32
  let v282 : BitVec 32 := Scalar.addi v61 c0_i32_101
  let c0_i32_102 : BitVec 32 := 0#32
  let v283 : BitVec 32 := Scalar.maxsi v282 c0_i32_102
  let c128_i32_103 : BitVec 32 := 128#32
  let v284 : BitVec 32 := Scalar.muli v283 c128_i32_103
  v284
def k0_off3 (i : grid0.Coords) (v6 : BitVec 32) (k0_t1 : Fin (k0_t1_loop v6).trips) (c0_i32_101 : BitVec 32) : Fin 2 → Nat :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let v282 : BitVec 32 := Scalar.addi v61 c0_i32_101
  let c0_i32_102 : BitVec 32 := 0#32
  let v283 : BitVec 32 := Scalar.maxsi v282 c0_i32_102
  let c128_i32_103 : BitVec 32 := 128#32
  let v284 : BitVec 32 := Scalar.muli v283 c128_i32_103
  let v285 : BitVec 32 := v284
  let v286 : Index := Scalar.indexCast v285
  let c128_104 : Index := 128#32
  ![v286.toNat, 128]
def k0_mult11 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_105 : BitVec 32 := 1#32
  let v288 : BitVec 32 := Scalar.addi v61 c1_i32_105
  let c0_i32_106 : BitVec 32 := 0#32
  let v289 : BitVec 32 := Scalar.maxsi v288 c0_i32_106
  let c128_i32_107 : BitVec 32 := 128#32
  let v290 : BitVec 32 := Scalar.muli v289 c128_i32_107
  v290
def k0_mult12 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32_109 : BitVec 32 := 2#32
  let v294 : BitVec 32 := Scalar.addi v61 c2_i32_109
  let c0_i32_110 : BitVec 32 := 0#32
  let v295 : BitVec 32 := Scalar.maxsi v294 c0_i32_110
  let c128_i32_111 : BitVec 32 := 128#32
  let v296 : BitVec 32 := Scalar.muli v295 c128_i32_111
  v296
def k0_mult13 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_113 : BitVec 32 := 0#32
  let v301 : BitVec 32 := Scalar.addi v61 c0_i32_113
  let c0_i32_114 : BitVec 32 := 0#32
  let v302 : BitVec 32 := Scalar.maxsi v301 c0_i32_114
  let c128_i32_115 : BitVec 32 := 128#32
  let v303 : BitVec 32 := Scalar.muli v302 c128_i32_115
  v303
def k0_mult14 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_117 : BitVec 32 := 1#32
  let v307 : BitVec 32 := Scalar.addi v61 c1_i32_117
  let c0_i32_118 : BitVec 32 := 0#32
  let v308 : BitVec 32 := Scalar.maxsi v307 c0_i32_118
  let c128_i32_119 : BitVec 32 := 128#32
  let v309 : BitVec 32 := Scalar.muli v308 c128_i32_119
  v309
def k0_mult15 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32_121 : BitVec 32 := 2#32
  let v313 : BitVec 32 := Scalar.addi v61 c2_i32_121
  let c0_i32_122 : BitVec 32 := 0#32
  let v314 : BitVec 32 := Scalar.maxsi v313 c0_i32_122
  let c128_i32_123 : BitVec 32 := 128#32
  let v315 : BitVec 32 := Scalar.muli v314 c128_i32_123
  v315
def k0_mult16 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c0_i32_153 : BitVec 32 := 0#32
  let v435 : BitVec 32 := Scalar.addi v61 c0_i32_153
  let c0_i32_154 : BitVec 32 := 0#32
  let v436 : BitVec 32 := Scalar.maxsi v435 c0_i32_154
  let c128_i32_155 : BitVec 32 := 128#32
  let v437 : BitVec 32 := Scalar.muli v436 c128_i32_155
  v437
def k0_mult17 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c1_i32_160 : BitVec 32 := 1#32
  let v455 : BitVec 32 := Scalar.addi v61 c1_i32_160
  let c0_i32_161 : BitVec 32 := 0#32
  let v456 : BitVec 32 := Scalar.maxsi v455 c0_i32_161
  let c128_i32_162 : BitVec 32 := 128#32
  let v457 : BitVec 32 := Scalar.muli v456 c128_i32_162
  v457
def k0_mult18 (i : grid0.Coords) (v6 : BitVec 32) (k0_t1 : Fin (k0_t1_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c1_i32_16 : BitVec 32 := 1#32
  let arg13 : BitVec 32 := Scf.iv c0_i32_14 c1_i32_16 k0_t1
  let c3_i32_22 : BitVec 32 := 3#32
  let v60 : BitVec 32 := Scalar.muli arg13 c3_i32_22
  let v61 : BitVec 32 := Scalar.addi v8 v60
  let c2_i32_167 : BitVec 32 := 2#32
  let v475 : BitVec 32 := Scalar.addi v61 c2_i32_167
  let c0_i32_168 : BitVec 32 := 0#32
  let v476 : BitVec 32 := Scalar.maxsi v475 c0_i32_168
  let c128_i32_169 : BitVec 32 := 128#32
  let v477 : BitVec 32 := Scalar.muli v476 c128_i32_169
  v477
@[reducible] def k0_t2_loop (v6 : BitVec 32) : Scf.Loop 32 :=
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let v47 : BitVec 32 := Scalar.addi c0_i32_14 v46
  let c1_i32_17 : BitVec 32 := 1#32
  ⟨v50, v47, c1_i32_17⟩
def k0_mult19 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_27 : BitVec 32 := 0#32
  let v65 : BitVec 32 := Scalar.addi v61 c0_i32_27
  let c0_i32_28 : BitVec 32 := 0#32
  let v66 : BitVec 32 := Scalar.maxsi v65 c0_i32_28
  let c128_i32 : BitVec 32 := 128#32
  let v67 : BitVec 32 := Scalar.muli v66 c128_i32
  v67
def k0_off4 (i : grid0.Coords) (v6 : BitVec 32) (k0_t2 : Fin (k0_t2_loop v6).trips) (c0_i32_27 : BitVec 32) : Fin 2 → Nat :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let v65 : BitVec 32 := Scalar.addi v61 c0_i32_27
  let c0_i32_28 : BitVec 32 := 0#32
  let v66 : BitVec 32 := Scalar.maxsi v65 c0_i32_28
  let c128_i32 : BitVec 32 := 128#32
  let v67 : BitVec 32 := Scalar.muli v66 c128_i32
  let v68 : BitVec 32 := v67
  let v69 : Index := Scalar.indexCast v68
  let c0_29 : Index := 0#32
  ![v69.toNat, 0]
def k0_mult20 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_30 : BitVec 32 := 1#32
  let v71 : BitVec 32 := Scalar.addi v61 c1_i32_30
  let c0_i32_31 : BitVec 32 := 0#32
  let v72 : BitVec 32 := Scalar.maxsi v71 c0_i32_31
  let c128_i32_32 : BitVec 32 := 128#32
  let v73 : BitVec 32 := Scalar.muli v72 c128_i32_32
  v73
def k0_mult21 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32 : BitVec 32 := 2#32
  let v77 : BitVec 32 := Scalar.addi v61 c2_i32
  let c0_i32_34 : BitVec 32 := 0#32
  let v78 : BitVec 32 := Scalar.maxsi v77 c0_i32_34
  let c128_i32_35 : BitVec 32 := 128#32
  let v79 : BitVec 32 := Scalar.muli v78 c128_i32_35
  v79
def k0_mult22 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_37 : BitVec 32 := 0#32
  let v84 : BitVec 32 := Scalar.addi v61 c0_i32_37
  let c0_i32_38 : BitVec 32 := 0#32
  let v85 : BitVec 32 := Scalar.maxsi v84 c0_i32_38
  let c128_i32_39 : BitVec 32 := 128#32
  let v86 : BitVec 32 := Scalar.muli v85 c128_i32_39
  v86
def k0_mult23 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_41 : BitVec 32 := 1#32
  let v90 : BitVec 32 := Scalar.addi v61 c1_i32_41
  let c0_i32_42 : BitVec 32 := 0#32
  let v91 : BitVec 32 := Scalar.maxsi v90 c0_i32_42
  let c128_i32_43 : BitVec 32 := 128#32
  let v92 : BitVec 32 := Scalar.muli v91 c128_i32_43
  v92
def k0_mult24 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32_45 : BitVec 32 := 2#32
  let v96 : BitVec 32 := Scalar.addi v61 c2_i32_45
  let c0_i32_46 : BitVec 32 := 0#32
  let v97 : BitVec 32 := Scalar.maxsi v96 c0_i32_46
  let c128_i32_47 : BitVec 32 := 128#32
  let v98 : BitVec 32 := Scalar.muli v97 c128_i32_47
  v98
def k0_mult25 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_76 : BitVec 32 := 0#32
  let v218 : BitVec 32 := Scalar.addi v61 c0_i32_76
  let c0_i32_77 : BitVec 32 := 0#32
  let v219 : BitVec 32 := Scalar.maxsi v218 c0_i32_77
  let c128_i32_78 : BitVec 32 := 128#32
  let v220 : BitVec 32 := Scalar.muli v219 c128_i32_78
  v220
def k0_mult26 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_83 : BitVec 32 := 1#32
  let v238 : BitVec 32 := Scalar.addi v61 c1_i32_83
  let c0_i32_84 : BitVec 32 := 0#32
  let v239 : BitVec 32 := Scalar.maxsi v238 c0_i32_84
  let c128_i32_85 : BitVec 32 := 128#32
  let v240 : BitVec 32 := Scalar.muli v239 c128_i32_85
  v240
def k0_mult27 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32_90 : BitVec 32 := 2#32
  let v258 : BitVec 32 := Scalar.addi v61 c2_i32_90
  let c0_i32_91 : BitVec 32 := 0#32
  let v259 : BitVec 32 := Scalar.maxsi v258 c0_i32_91
  let c128_i32_92 : BitVec 32 := 128#32
  let v260 : BitVec 32 := Scalar.muli v259 c128_i32_92
  v260
def k0_mult28 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_101 : BitVec 32 := 0#32
  let v282 : BitVec 32 := Scalar.addi v61 c0_i32_101
  let c0_i32_102 : BitVec 32 := 0#32
  let v283 : BitVec 32 := Scalar.maxsi v282 c0_i32_102
  let c128_i32_103 : BitVec 32 := 128#32
  let v284 : BitVec 32 := Scalar.muli v283 c128_i32_103
  v284
def k0_off5 (i : grid0.Coords) (v6 : BitVec 32) (k0_t2 : Fin (k0_t2_loop v6).trips) (c0_i32_101 : BitVec 32) : Fin 2 → Nat :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let v282 : BitVec 32 := Scalar.addi v61 c0_i32_101
  let c0_i32_102 : BitVec 32 := 0#32
  let v283 : BitVec 32 := Scalar.maxsi v282 c0_i32_102
  let c128_i32_103 : BitVec 32 := 128#32
  let v284 : BitVec 32 := Scalar.muli v283 c128_i32_103
  let v285 : BitVec 32 := v284
  let v286 : Index := Scalar.indexCast v285
  let c128_104 : Index := 128#32
  ![v286.toNat, 128]
def k0_mult29 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_105 : BitVec 32 := 1#32
  let v288 : BitVec 32 := Scalar.addi v61 c1_i32_105
  let c0_i32_106 : BitVec 32 := 0#32
  let v289 : BitVec 32 := Scalar.maxsi v288 c0_i32_106
  let c128_i32_107 : BitVec 32 := 128#32
  let v290 : BitVec 32 := Scalar.muli v289 c128_i32_107
  v290
def k0_mult30 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32_109 : BitVec 32 := 2#32
  let v294 : BitVec 32 := Scalar.addi v61 c2_i32_109
  let c0_i32_110 : BitVec 32 := 0#32
  let v295 : BitVec 32 := Scalar.maxsi v294 c0_i32_110
  let c128_i32_111 : BitVec 32 := 128#32
  let v296 : BitVec 32 := Scalar.muli v295 c128_i32_111
  v296
def k0_mult31 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_113 : BitVec 32 := 0#32
  let v301 : BitVec 32 := Scalar.addi v61 c0_i32_113
  let c0_i32_114 : BitVec 32 := 0#32
  let v302 : BitVec 32 := Scalar.maxsi v301 c0_i32_114
  let c128_i32_115 : BitVec 32 := 128#32
  let v303 : BitVec 32 := Scalar.muli v302 c128_i32_115
  v303
def k0_mult32 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_117 : BitVec 32 := 1#32
  let v307 : BitVec 32 := Scalar.addi v61 c1_i32_117
  let c0_i32_118 : BitVec 32 := 0#32
  let v308 : BitVec 32 := Scalar.maxsi v307 c0_i32_118
  let c128_i32_119 : BitVec 32 := 128#32
  let v309 : BitVec 32 := Scalar.muli v308 c128_i32_119
  v309
def k0_mult33 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32_121 : BitVec 32 := 2#32
  let v313 : BitVec 32 := Scalar.addi v61 c2_i32_121
  let c0_i32_122 : BitVec 32 := 0#32
  let v314 : BitVec 32 := Scalar.maxsi v313 c0_i32_122
  let c128_i32_123 : BitVec 32 := 128#32
  let v315 : BitVec 32 := Scalar.muli v314 c128_i32_123
  v315
def k0_mult34 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c0_i32_153 : BitVec 32 := 0#32
  let v435 : BitVec 32 := Scalar.addi v61 c0_i32_153
  let c0_i32_154 : BitVec 32 := 0#32
  let v436 : BitVec 32 := Scalar.maxsi v435 c0_i32_154
  let c128_i32_155 : BitVec 32 := 128#32
  let v437 : BitVec 32 := Scalar.muli v436 c128_i32_155
  v437
def k0_mult35 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c1_i32_160 : BitVec 32 := 1#32
  let v455 : BitVec 32 := Scalar.addi v61 c1_i32_160
  let c0_i32_161 : BitVec 32 := 0#32
  let v456 : BitVec 32 := Scalar.maxsi v455 c0_i32_161
  let c128_i32_162 : BitVec 32 := 128#32
  let v457 : BitVec 32 := Scalar.muli v456 c128_i32_162
  v457
def k0_mult36 (i : grid0.Coords) (v6 : BitVec 32) (k0_t2 : Fin (k0_t2_loop v6).trips) : BitVec 32 :=
  let arg1 : BitVec 32 := BitVec.ofNat 32 (i 1).val
  let c1_i32 : BitVec 32 := 1#32
  let v7 : BitVec 32 := Scalar.addi arg1 c1_i32
  let v8 : BitVec 32 := Scalar.subi v7 v6
  let c0_i32_14 : BitVec 32 := 0#32
  let c0_i32_1 : BitVec 32 := 0#32
  let v22 : BitVec 1 := Scalar.cmpi .sgt v6 c0_i32_1
  let v23 : BitVec 32 := Scalar.extui v22
  let c0_i32_2 : BitVec 32 := 0#32
  let v24 : BitVec 1 := Scalar.cmpi .slt v6 c0_i32_2
  let v25 : BitVec 32 := Scalar.extui v24
  let v26 : BitVec 32 := Scalar.subi v23 v25
  let c3_i32 : BitVec 32 := 3#32
  let c0_i32_3 : BitVec 32 := 0#32
  let v27 : BitVec 1 := Scalar.cmpi .sgt c3_i32 c0_i32_3
  let v28 : BitVec 32 := Scalar.extui v27
  let c0_i32_4 : BitVec 32 := 0#32
  let v29 : BitVec 1 := Scalar.cmpi .slt c3_i32 c0_i32_4
  let v30 : BitVec 32 := Scalar.extui v29
  let v31 : BitVec 32 := Scalar.subi v28 v30
  let v32 : BitVec 1 := Scalar.cmpi .ne v26 v31
  let v33 : BitVec 32 := Scalar.remsi v6 c3_i32
  let c0_i32_5 : BitVec 32 := 0#32
  let v34 : BitVec 1 := Scalar.cmpi .ne v33 c0_i32_5
  let v35 : BitVec 1 := Scalar.andi v32 v34
  let v21 : BitVec 32 := Scalar.divsi v6 c3_i32
  let c1_i32_6 : BitVec 32 := 1#32
  let v36 : BitVec 32 := Scalar.subi v21 c1_i32_6
  let v37 : BitVec 32 := Scalar.select v35 v36 v21
  let v46 : BitVec 32 := Scalar.subi v37 c0_i32_14
  let c1_i32_15 : BitVec 32 := 1#32
  let v48 : BitVec 32 := Scalar.divsi v46 c1_i32_15
  let v49 : BitVec 32 := Scalar.muli v48 c1_i32_15
  let v50 : BitVec 32 := Scalar.addi c0_i32_14 v49
  let c1_i32_17 : BitVec 32 := 1#32
  let arg13 : BitVec 32 := Scf.iv v50 c1_i32_17 k0_t2
  let c3_i32_22 : BitVec 32 := 3#32
  let v60 : BitVec 32 := Scalar.muli arg13 c3_i32_22
  let v61 : BitVec 32 := Scalar.addi v8 v60
  let c2_i32_167 : BitVec 32 := 2#32
  let v475 : BitVec 32 := Scalar.addi v61 c2_i32_167
  let c0_i32_168 : BitVec 32 := 0#32
  let v476 : BitVec 32 := Scalar.maxsi v475 c0_i32_168
  let c128_i32_169 : BitVec 32 := 128#32
  let v477 : BitVec 32 := Scalar.muli v476 c128_i32_169
  v477

def k0_chk1_0 (i : grid0.Coords) (v6 : BitVec 32) : Prop :=
  ((k0_t1_loop v6).OK) ∧
  (∀ k0_t1 : Fin (k0_t1_loop v6).trips, 128 ∣ (k0_mult1 i v6 k0_t1).toNat) ∧
  (∀ k0_t1 : Fin (k0_t1_loop v6).trips, ∀ (r : Fin 3), ∀ a, (k0_off2 i v6 k0_t1 (BitVec.ofNat 32 r.val)) a + S128x128.size a ≤ S8320x256.size a) ∧
  (∀ k0_t1 : Fin (k0_t1_loop v6).trips, 128 ∣ (k0_mult2 i v6 k0_t1).toNat) ∧
  (∀ k0_t1 : Fin (k0_t1_loop v6).trips, 128 ∣ (k0_mult3 i v6 k0_t1).toNat) ∧
  (∀ k0_t1 : Fin (k0_t1_loop v6).trips, 128 ∣ (k0_mult4 i v6 k0_t1).toNat) ∧
  (∀ k0_t1 : Fin (k0_t1_loop v6).trips, 128 ∣ (k0_mult5 i v6 k0_t1).toNat) ∧
  (∀ k0_t1 : Fin (k0_t1_loop v6).trips, 128 ∣ (k0_mult6 i v6 k0_t1).toNat) ∧
  (∀ k0_t1 : Fin (k0_t1_loop v6).trips, 128 ∣ (k0_mult7 i v6 k0_t1).toNat) ∧
  (∀ k0_t1 : Fin (k0_t1_loop v6).trips, 128 ∣ (k0_mult8 i v6 k0_t1).toNat) ∧
  (∀ k0_t1 : Fin (k0_t1_loop v6).trips, 128 ∣ (k0_mult9 i v6 k0_t1).toNat) ∧
  (∀ k0_t1 : Fin (k0_t1_loop v6).trips, 128 ∣ (k0_mult10 i v6 k0_t1).toNat) ∧
  (∀ k0_t1 : Fin (k0_t1_loop v6).trips, ∀ (r : Fin 3), ∀ a, (k0_off3 i v6 k0_t1 (BitVec.ofNat 32 r.val)) a + S128x128.size a ≤ S8320x256.size a) ∧
  (∀ k0_t1 : Fin (k0_t1_loop v6).trips, 128 ∣ (k0_mult11 i v6 k0_t1).toNat) ∧
  (∀ k0_t1 : Fin (k0_t1_loop v6).trips, 128 ∣ (k0_mult12 i v6 k0_t1).toNat) ∧
  (∀ k0_t1 : Fin (k0_t1_loop v6).trips, 128 ∣ (k0_mult13 i v6 k0_t1).toNat) ∧
  (∀ k0_t1 : Fin (k0_t1_loop v6).trips, 128 ∣ (k0_mult14 i v6 k0_t1).toNat) ∧
  (∀ k0_t1 : Fin (k0_t1_loop v6).trips, 128 ∣ (k0_mult15 i v6 k0_t1).toNat) ∧
  (∀ k0_t1 : Fin (k0_t1_loop v6).trips, 128 ∣ (k0_mult16 i v6 k0_t1).toNat) ∧
  (∀ k0_t1 : Fin (k0_t1_loop v6).trips, 128 ∣ (k0_mult17 i v6 k0_t1).toNat) ∧
  (∀ k0_t1 : Fin (k0_t1_loop v6).trips, 128 ∣ (k0_mult18 i v6 k0_t1).toNat) ∧
  ((k0_t2_loop v6).OK) ∧
  (∀ k0_t2 : Fin (k0_t2_loop v6).trips, 128 ∣ (k0_mult19 i v6 k0_t2).toNat) ∧
  (∀ k0_t2 : Fin (k0_t2_loop v6).trips, ∀ (r : Fin 3), ∀ a, (k0_off4 i v6 k0_t2 (BitVec.ofNat 32 r.val)) a + S128x128.size a ≤ S8320x256.size a) ∧
  (∀ k0_t2 : Fin (k0_t2_loop v6).trips, 128 ∣ (k0_mult20 i v6 k0_t2).toNat) ∧
  (∀ k0_t2 : Fin (k0_t2_loop v6).trips, 128 ∣ (k0_mult21 i v6 k0_t2).toNat) ∧
  (∀ k0_t2 : Fin (k0_t2_loop v6).trips, 128 ∣ (k0_mult22 i v6 k0_t2).toNat) ∧
  (∀ k0_t2 : Fin (k0_t2_loop v6).trips, 128 ∣ (k0_mult23 i v6 k0_t2).toNat) ∧
  (∀ k0_t2 : Fin (k0_t2_loop v6).trips, 128 ∣ (k0_mult24 i v6 k0_t2).toNat) ∧
  (∀ k0_t2 : Fin (k0_t2_loop v6).trips, 128 ∣ (k0_mult25 i v6 k0_t2).toNat) ∧
  (∀ k0_t2 : Fin (k0_t2_loop v6).trips, 128 ∣ (k0_mult26 i v6 k0_t2).toNat) ∧
  (∀ k0_t2 : Fin (k0_t2_loop v6).trips, 128 ∣ (k0_mult27 i v6 k0_t2).toNat)
def k0_chk1_1 (i : grid0.Coords) (v6 : BitVec 32) : Prop :=
  (∀ k0_t2 : Fin (k0_t2_loop v6).trips, 128 ∣ (k0_mult28 i v6 k0_t2).toNat) ∧
  (∀ k0_t2 : Fin (k0_t2_loop v6).trips, ∀ (r : Fin 3), ∀ a, (k0_off5 i v6 k0_t2 (BitVec.ofNat 32 r.val)) a + S128x128.size a ≤ S8320x256.size a) ∧
  (∀ k0_t2 : Fin (k0_t2_loop v6).trips, 128 ∣ (k0_mult29 i v6 k0_t2).toNat) ∧
  (∀ k0_t2 : Fin (k0_t2_loop v6).trips, 128 ∣ (k0_mult30 i v6 k0_t2).toNat) ∧
  (∀ k0_t2 : Fin (k0_t2_loop v6).trips, 128 ∣ (k0_mult31 i v6 k0_t2).toNat) ∧
  (∀ k0_t2 : Fin (k0_t2_loop v6).trips, 128 ∣ (k0_mult32 i v6 k0_t2).toNat) ∧
  (∀ k0_t2 : Fin (k0_t2_loop v6).trips, 128 ∣ (k0_mult33 i v6 k0_t2).toNat) ∧
  (∀ k0_t2 : Fin (k0_t2_loop v6).trips, 128 ∣ (k0_mult34 i v6 k0_t2).toNat) ∧
  (∀ k0_t2 : Fin (k0_t2_loop v6).trips, 128 ∣ (k0_mult35 i v6 k0_t2).toNat) ∧
  (∀ k0_t2 : Fin (k0_t2_loop v6).trips, 128 ∣ (k0_mult36 i v6 k0_t2).toNat)
def k0_chk1 (i : grid0.Coords) (v6 : BitVec 32) : Prop :=
  k0_chk1_0 i v6 ∧
  k0_chk1_1 i v6
theorem k0_t1_ok : ∀ (i : grid0.Coords) (v6 : BitVec 32) (k0_hw1 : k0_chk1 i v6), (k0_t1_loop v6).OK := fun i v6 k0_hw1 => k0_hw1.1.1
theorem k0_mult1_dvd : ∀ (i : grid0.Coords) (v6 : BitVec 32) (k0_hw1 : k0_chk1 i v6) (k0_t1 : Fin (k0_t1_loop v6).trips), 128 ∣ (k0_mult1 i v6 k0_t1).toNat := fun i v6 k0_hw1 k0_t1 => k0_hw1.1.2.1 k0_t1
theorem k0_off2_inb : ∀ (i : grid0.Coords) (v6 : BitVec 32) (k0_hw1 : k0_chk1 i v6) (k0_t1 : Fin (k0_t1_loop v6).trips), ∀ (r : Fin 3), ∀ a, (k0_off2 i v6 k0_t1 (BitVec.ofNat 32 r.val)) a + S128x128.size a ≤ S8320x256.size a := fun i v6 k0_hw1 k0_t1 r => k0_hw1.1.2.2.1 k0_t1 r
theorem k0_mult2_dvd : ∀ (i : grid0.Coords) (v6 : BitVec 32) (k0_hw1 : k0_chk1 i v6) (k0_t1 : Fin (k0_t1_loop v6).trips), 128 ∣ (k0_mult2 i v6 k0_t1).toNat := fun i v6 k0_hw1 k0_t1 => k0_hw1.1.2.2.2.1 k0_t1
theorem k0_mult3_dvd : ∀ (i : grid0.Coords) (v6 : BitVec 32) (k0_hw1 : k0_chk1 i v6) (k0_t1 : Fin (k0_t1_loop v6).trips), 128 ∣ (k0_mult3 i v6 k0_t1).toNat := fun i v6 k0_hw1 k0_t1 => k0_hw1.1.2.2.2.2.1 k0_t1
theorem k0_mult4_dvd : ∀ (i : grid0.Coords) (v6 : BitVec 32) (k0_hw1 : k0_chk1 i v6) (k0_t1 : Fin (k0_t1_loop v6).trips), 128 ∣ (k0_mult4 i v6 k0_t1).toNat := fun i v6 k0_hw1 k0_t1 => k0_hw1.1.2.2.2.2.2.1 k0_t1
theorem k0_mult5_dvd : ∀ (i : grid0.Coords) (v6 : BitVec 32) (k0_hw1 : k0_chk1 i v6) (k0_t1 : Fin (k0_t1_loop v6).trips), 128 ∣ (k0_mult5 i v6 k0_t1).toNat := fun i v6 k0_hw1 k0_t1 => k0_hw1.1.2.2.2.2.2.2.1 k0_t1
theorem k0_mult6_dvd : ∀ (i : grid0.Coords) (v6 : BitVec 32) (k0_hw1 : k0_chk1 i v6) (k0_t1 : Fin (k0_t1_loop v6).trips), 128 ∣ (k0_mult6 i v6 k0_t1).toNat := fun i v6 k0_hw1 k0_t1 => k0_hw1.1.2.2.2.2.2.2.2.1 k0_t1
theorem k0_mult7_dvd : ∀ (i : grid0.Coords) (v6 : BitVec 32) (k0_hw1 : k0_chk1 i v6) (k0_t1 : Fin (k0_t1_loop v6).trips), 128 ∣ (k0_mult7 i v6 k0_t1).toNat := fun i v6 k0_hw1 k0_t1 => k0_hw1.1.2.2.2.2.2.2.2.2.1 k0_t1
theorem k0_mult8_dvd : ∀ (i : grid0.Coords) (v6 : BitVec 32) (k0_hw1 : k0_chk1 i v6) (k0_t1 : Fin (k0_t1_loop v6).trips), 128 ∣ (k0_mult8 i v6 k0_t1).toNat := fun i v6 k0_hw1 k0_t1 => k0_hw1.1.2.2.2.2.2.2.2.2.2.1 k0_t1
theorem k0_mult9_dvd : ∀ (i : grid0.Coords) (v6 : BitVec 32) (k0_hw1 : k0_chk1 i v6) (k0_t1 : Fin (k0_t1_loop v6).trips), 128 ∣ (k0_mult9 i v6 k0_t1).toNat := fun i v6 k0_hw1 k0_t1 => k0_hw1.1.2.2.2.2.2.2.2.2.2.2.1 k0_t1
theorem k0_mult10_dvd : ∀ (i : grid0.Coords) (v6 : BitVec 32) (k0_hw1 : k0_chk1 i v6) (k0_t1 : Fin (k0_t1_loop v6).trips), 128 ∣ (k0_mult10 i v6 k0_t1).toNat := fun i v6 k0_hw1 k0_t1 => k0_hw1.1.2.2.2.2.2.2.2.2.2.2.2.1 k0_t1
theorem k0_off3_inb : ∀ (i : grid0.Coords) (v6 : BitVec 32) (k0_hw1 : k0_chk1 i v6) (k0_t1 : Fin (k0_t1_loop v6).trips), ∀ (r : Fin 3), ∀ a, (k0_off3 i v6 k0_t1 (BitVec.ofNat 32 r.val)) a + S128x128.size a ≤ S8320x256.size a := fun i v6 k0_hw1 k0_t1 r => k0_hw1.1.2.2.2.2.2.2.2.2.2.2.2.2.1 k0_t1 r
theorem k0_mult11_dvd : ∀ (i : grid0.Coords) (v6 : BitVec 32) (k0_hw1 : k0_chk1 i v6) (k0_t1 : Fin (k0_t1_loop v6).trips), 128 ∣ (k0_mult11 i v6 k0_t1).toNat := fun i v6 k0_hw1 k0_t1 => k0_hw1.1.2.2.2.2.2.2.2.2.2.2.2.2.2.1 k0_t1
theorem k0_mult12_dvd : ∀ (i : grid0.Coords) (v6 : BitVec 32) (k0_hw1 : k0_chk1 i v6) (k0_t1 : Fin (k0_t1_loop v6).trips), 128 ∣ (k0_mult12 i v6 k0_t1).toNat := fun i v6 k0_hw1 k0_t1 => k0_hw1.1.2.2.2.2.2.2.2.2.2.2.2.2.2.2.1 k0_t1
theorem k0_mult13_dvd : ∀ (i : grid0.Coords) (v6 : BitVec 32) (k0_hw1 : k0_chk1 i v6) (k0_t1 : Fin (k0_t1_loop v6).trips), 128 ∣ (k0_mult13 i v6 k0_t1).toNat := fun i v6 k0_hw1 k0_t1 => k0_hw1.1.2.2.2.2.2.2.2.2.2.2.2.2.2.2.2.1 k0_t1
theorem k0_mult14_dvd : ∀ (i : grid0.Coords) (v6 : BitVec 32) (k0_hw1 : k0_chk1 i v6) (k0_t1 : Fin (k0_t1_loop v6).trips), 128 ∣ (k0_mult14 i v6 k0_t1).toNat := fun i v6 k0_hw1 k0_t1 => k0_hw1.1.2.2.2.2.2.2.2.2.2.2.2.2.2.2.2.2.1 k0_t1
theorem k0_mult15_dvd : ∀ (i : grid0.Coords) (v6 : BitVec 32) (k0_hw1 : k0_chk1 i v6) (k0_t1 : Fin (k0_t1_loop v6).trips), 128 ∣ (k0_mult15 i v6 k0_t1).toNat := fun i v6 k0_hw1 k0_t1 => k0_hw1.1.2.2.2.2.2.2.2.2.2.2.2.2.2.2.2.2.2.1 k0_t1
theorem k0_mult16_dvd : ∀ (i : grid0.Coords) (v6 : BitVec 32) (k0_hw1 : k0_chk1 i v6) (k0_t1 : Fin (k0_t1_loop v6).trips), 128 ∣ (k0_mult16 i v6 k0_t1).toNat := fun i v6 k0_hw1 k0_t1 => k0_hw1.1.2.2.2.2.2.2.2.2.2.2.2.2.2.2.2.2.2.2.1 k0_t1
theorem k0_mult17_dvd : ∀ (i : grid0.Coords) (v6 : BitVec 32) (k0_hw1 : k0_chk1 i v6) (k0_t1 : Fin (k0_t1_loop v6).trips), 128 ∣ (k0_mult17 i v6 k0_t1).toNat := fun i v6 k0_hw1 k0_t1 => k0_hw1.1.2.2.2.2.2.2.2.2.2.2.2.2.2.2.2.2.2.2.2.1 k0_t1
theorem k0_mult18_dvd : ∀ (i : grid0.Coords) (v6 : BitVec 32) (k0_hw1 : k0_chk1 i v6) (k0_t1 : Fin (k0_t1_loop v6).trips), 128 ∣ (k0_mult18 i v6 k0_t1).toNat := fun i v6 k0_hw1 k0_t1 => k0_hw1.1.2.2.2.2.2.2.2.2.2.2.2.2.2.2.2.2.2.2.2.2.1 k0_t1
theorem k0_t2_ok : ∀ (i : grid0.Coords) (v6 : BitVec 32) (k0_hw1 : k0_chk1 i v6), (k0_t2_loop v6).OK := fun i v6 k0_hw1 => k0_hw1.1.2.2.2.2.2.2.2.2.2.2.2.2.2.2.2.2.2.2.2.2.2.1
theorem k0_mult19_dvd : ∀ (i : grid0.Coords) (v6 : BitVec 32) (k0_hw1 : k0_chk1 i v6) (k0_t2 : Fin (k0_t2_loop v6).trips), 128 ∣ (k0_mult19 i v6 k0_t2).toNat := fun i v6 k0_hw1 k0_t2 => k0_hw1.1.2.2.2.2.2.2.2.2.2.2.2.2.2.2.2.2.2.2.2.2.2.2.1 k0_t2
theorem k0_off4_inb : ∀ (i : grid0.Coords) (v6 : BitVec 32) (k0_hw1 : k0_chk1 i v6) (k0_t2 : Fin (k0_t2_loop v6).trips), ∀ (r : Fin 3), ∀ a, (k0_off4 i v6 k0_t2 (BitVec.ofNat 32 r.val)) a + S128x128.size a ≤ S8320x256.size a := fun i v6 k0_hw1 k0_t2 r => k0_hw1.1.2.2.2.2.2.2.2.2.2.2.2.2.2.2.2.2.2.2.2.2.2.2.2.1 k0_t2 r
theorem k0_mult20_dvd : ∀ (i : grid0.Coords) (v6 : BitVec 32) (k0_hw1 : k0_chk1 i v6) (k0_t2 : Fin (k0_t2_loop v6).trips), 128 ∣ (k0_mult20 i v6 k0_t2).toNat := fun i v6 k0_hw1 k0_t2 => k0_hw1.1.2.2.2.2.2.2.2.2.2.2.2.2.2.2.2.2.2.2.2.2.2.2.2.2.1 k0_t2
theorem k0_mult21_dvd : ∀ (i : grid0.Coords) (v6 : BitVec 32) (k0_hw1 : k0_chk1 i v6) (k0_t2 : Fin (k0_t2_loop v6).trips), 128 ∣ (k0_mult21 i v6 k0_t2).toNat := fun i v6 k0_hw1 k0_t2 => k0_hw1.1.2.2.2.2.2.2.2.2.2.2.2.2.2.2.2.2.2.2.2.2.2.2.2.2.2.1 k0_t2
theorem k0_mult22_dvd : ∀ (i : grid0.Coords) (v6 : BitVec 32) (k0_hw1 : k0_chk1 i v6) (k0_t2 : Fin (k0_t2_loop v6).trips), 128 ∣ (k0_mult22 i v6 k0_t2).toNat := fun i v6 k0_hw1 k0_t2 => k0_hw1.1.2.2.2.2.2.2.2.2.2.2.2.2.2.2.2.2.2.2.2.2.2.2.2.2.2.2.1 k0_t2
theorem k0_mult23_dvd : ∀ (i : grid0.Coords) (v6 : BitVec 32) (k0_hw1 : k0_chk1 i v6) (k0_t2 : Fin (k0_t2_loop v6).trips), 128 ∣ (k0_mult23 i v6 k0_t2).toNat := fun i v6 k0_hw1 k0_t2 => k0_hw1.1.2.2.2.2.2.2.2.2.2.2.2.2.2.2.2.2.2.2.2.2.2.2.2.2.2.2.2.1 k0_t2
theorem k0_mult24_dvd : ∀ (i : grid0.Coords) (v6 : BitVec 32) (k0_hw1 : k0_chk1 i v6) (k0_t2 : Fin (k0_t2_loop v6).trips), 128 ∣ (k0_mult24 i v6 k0_t2).toNat := fun i v6 k0_hw1 k0_t2 => k0_hw1.1.2.2.2.2.2.2.2.2.2.2.2.2.2.2.2.2.2.2.2.2.2.2.2.2.2.2.2.2.1 k0_t2
theorem k0_mult25_dvd : ∀ (i : grid0.Coords) (v6 : BitVec 32) (k0_hw1 : k0_chk1 i v6) (k0_t2 : Fin (k0_t2_loop v6).trips), 128 ∣ (k0_mult25 i v6 k0_t2).toNat := fun i v6 k0_hw1 k0_t2 => k0_hw1.1.2.2.2.2.2.2.2.2.2.2.2.2.2.2.2.2.2.2.2.2.2.2.2.2.2.2.2.2.2.1 k0_t2
theorem k0_mult26_dvd : ∀ (i : grid0.Coords) (v6 : BitVec 32) (k0_hw1 : k0_chk1 i v6) (k0_t2 : Fin (k0_t2_loop v6).trips), 128 ∣ (k0_mult26 i v6 k0_t2).toNat := fun i v6 k0_hw1 k0_t2 => k0_hw1.1.2.2.2.2.2.2.2.2.2.2.2.2.2.2.2.2.2.2.2.2.2.2.2.2.2.2.2.2.2.2.1 k0_t2
theorem k0_mult27_dvd : ∀ (i : grid0.Coords) (v6 : BitVec 32) (k0_hw1 : k0_chk1 i v6) (k0_t2 : Fin (k0_t2_loop v6).trips), 128 ∣ (k0_mult27 i v6 k0_t2).toNat := fun i v6 k0_hw1 k0_t2 => k0_hw1.1.2.2.2.2.2.2.2.2.2.2.2.2.2.2.2.2.2.2.2.2.2.2.2.2.2.2.2.2.2.2.2 k0_t2
theorem k0_mult28_dvd : ∀ (i : grid0.Coords) (v6 : BitVec 32) (k0_hw1 : k0_chk1 i v6) (k0_t2 : Fin (k0_t2_loop v6).trips), 128 ∣ (k0_mult28 i v6 k0_t2).toNat := fun i v6 k0_hw1 k0_t2 => k0_hw1.2.1 k0_t2
theorem k0_off5_inb : ∀ (i : grid0.Coords) (v6 : BitVec 32) (k0_hw1 : k0_chk1 i v6) (k0_t2 : Fin (k0_t2_loop v6).trips), ∀ (r : Fin 3), ∀ a, (k0_off5 i v6 k0_t2 (BitVec.ofNat 32 r.val)) a + S128x128.size a ≤ S8320x256.size a := fun i v6 k0_hw1 k0_t2 r => k0_hw1.2.2.1 k0_t2 r
theorem k0_mult29_dvd : ∀ (i : grid0.Coords) (v6 : BitVec 32) (k0_hw1 : k0_chk1 i v6) (k0_t2 : Fin (k0_t2_loop v6).trips), 128 ∣ (k0_mult29 i v6 k0_t2).toNat := fun i v6 k0_hw1 k0_t2 => k0_hw1.2.2.2.1 k0_t2
theorem k0_mult30_dvd : ∀ (i : grid0.Coords) (v6 : BitVec 32) (k0_hw1 : k0_chk1 i v6) (k0_t2 : Fin (k0_t2_loop v6).trips), 128 ∣ (k0_mult30 i v6 k0_t2).toNat := fun i v6 k0_hw1 k0_t2 => k0_hw1.2.2.2.2.1 k0_t2
theorem k0_mult31_dvd : ∀ (i : grid0.Coords) (v6 : BitVec 32) (k0_hw1 : k0_chk1 i v6) (k0_t2 : Fin (k0_t2_loop v6).trips), 128 ∣ (k0_mult31 i v6 k0_t2).toNat := fun i v6 k0_hw1 k0_t2 => k0_hw1.2.2.2.2.2.1 k0_t2
theorem k0_mult32_dvd : ∀ (i : grid0.Coords) (v6 : BitVec 32) (k0_hw1 : k0_chk1 i v6) (k0_t2 : Fin (k0_t2_loop v6).trips), 128 ∣ (k0_mult32 i v6 k0_t2).toNat := fun i v6 k0_hw1 k0_t2 => k0_hw1.2.2.2.2.2.2.1 k0_t2
theorem k0_mult33_dvd : ∀ (i : grid0.Coords) (v6 : BitVec 32) (k0_hw1 : k0_chk1 i v6) (k0_t2 : Fin (k0_t2_loop v6).trips), 128 ∣ (k0_mult33 i v6 k0_t2).toNat := fun i v6 k0_hw1 k0_t2 => k0_hw1.2.2.2.2.2.2.2.1 k0_t2
theorem k0_mult34_dvd : ∀ (i : grid0.Coords) (v6 : BitVec 32) (k0_hw1 : k0_chk1 i v6) (k0_t2 : Fin (k0_t2_loop v6).trips), 128 ∣ (k0_mult34 i v6 k0_t2).toNat := fun i v6 k0_hw1 k0_t2 => k0_hw1.2.2.2.2.2.2.2.2.1 k0_t2
theorem k0_mult35_dvd : ∀ (i : grid0.Coords) (v6 : BitVec 32) (k0_hw1 : k0_chk1 i v6) (k0_t2 : Fin (k0_t2_loop v6).trips), 128 ∣ (k0_mult35 i v6 k0_t2).toNat := fun i v6 k0_hw1 k0_t2 => k0_hw1.2.2.2.2.2.2.2.2.2.1 k0_t2
theorem k0_mult36_dvd : ∀ (i : grid0.Coords) (v6 : BitVec 32) (k0_hw1 : k0_chk1 i v6) (k0_t2 : Fin (k0_t2_loop v6).trips), 128 ∣ (k0_mult36 i v6 k0_t2).toNat := fun i v6 k0_hw1 k0_t2 => k0_hw1.2.2.2.2.2.2.2.2.2.2 k0_t2

def k0_cond2 (i : grid0.Coords) : BitVec 1 :=
  let arg1 : BitVec 32 := BitVec.ofNat 32 (i 1).val
  let c64_i32 : BitVec 32 := 64#32
  let v57 : BitVec 1 := Scalar.cmpi .eq arg1 c64_i32
  let v58 : BitVec 32 := Scalar.extui v57
  let c0_i32_21 : BitVec 32 := 0#32
  let v59 : BitVec 1 := Scalar.cmpi .ne v58 c0_i32_21
  v59

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8320x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8320x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S4x65 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8320x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8320x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8320x11264 : Shape := ⟨2, ![8320, 11264]⟩
abbrev S8320x1024 : Shape := ⟨2, ![8320, 1024]⟩
abbrev S8320x8x128 : Shape := ⟨3, ![8320, 8, 128]⟩
abbrev S8x8320x128 : Shape := ⟨3, ![8, 8320, 128]⟩
abbrev S8x8320x8320 : Shape := ⟨3, ![8, 8320, 8320]⟩
abbrev S_ : Shape := ⟨0, ![]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S8x128x8320 : Shape := ⟨3, ![8, 128, 8320]⟩

abbrev nBuf : Space → Nat
  | .hbm => 191
  | .vmem => 0
  | .smem => 0
  | _ => 0

abbrev hbmTy0_0 (i : Nat) : BufTy := match i % 128 with
  | 0 => ⟨S8320x11264, .bf16⟩
  | 1 => ⟨S8320x1024, .f32⟩
  | 2 => ⟨S8320x11264, .f32⟩
  | 3 => ⟨S8320x1024, .f32⟩
  | 4 => ⟨S8320x1024, .f32⟩
  | 5 => ⟨S8320x1024, .f32⟩
  | 6 => ⟨S8320x8x128, .f32⟩
  | 7 => ⟨S8x8320x128, .f32⟩
  | 8 => ⟨S8320x8x128, .f32⟩
  | 9 => ⟨S8x8320x128, .f32⟩
  | 10 => ⟨S8320x8x128, .f32⟩
  | 11 => ⟨S8x8320x128, .f32⟩
  | 12 => ⟨S8x8320x8320, .f32⟩
  | 13 => ⟨S_, .f32⟩
  | 14 => ⟨S8x8320x8320, .f32⟩
  | 15 => ⟨S8x8320x8320, .f32⟩
  | 16 => ⟨S8320, .i32⟩
  | 17 => ⟨S1x8320, .i32⟩
  | 18 => ⟨S8320x1, .i32⟩
  | 19 => ⟨S8320x8320, .i32⟩
  | 20 => ⟨S8320x8320, .i32⟩
  | 21 => ⟨S8320x8320, .i1⟩
  | 22 => ⟨S_, .i32⟩
  | 23 => ⟨S8320, .i32⟩
  | 24 => ⟨S8320, .i1⟩
  | 25 => ⟨S1x8320, .i1⟩
  | 26 => ⟨S8320x8320, .i1⟩
  | 27 => ⟨S8320x8320, .i1⟩
  | 28 => ⟨S8x8320x8320, .f32⟩
  | 29 => ⟨S_, .f32⟩
  | 30 => ⟨S8x8320x8320, .f32⟩
  | 31 => ⟨S8x8320x8320, .f32⟩
  | 32 => ⟨S8x8320x8320, .f32⟩
  | 33 => ⟨S8x8320x8320, .f32⟩
  | 34 => ⟨S8x8320x8320, .i1⟩
  | 35 => ⟨S8x8320x8320, .f32⟩
  | 36 => ⟨S8x8320x8320, .f32⟩
  | 37 => ⟨S8x8320x8320, .f32⟩
  | 38 => ⟨S8x8320x8320, .f32⟩
  | 39 => ⟨S8x8320x8320, .f32⟩
  | 40 => ⟨S8x8320x8320, .f32⟩
  | 41 => ⟨S8x8320x8320, .f32⟩
  | 42 => ⟨S8x8320x8320, .f32⟩
  | 43 => ⟨S_, .f32⟩
  | 44 => ⟨S8x8320x8320, .f32⟩
  | 45 => ⟨S8x8320x8320, .i1⟩
  | 46 => ⟨S_, .f32⟩
  | 47 => ⟨S8x8320x8320, .f32⟩
  | 48 => ⟨S8x8320x8320, .f32⟩
  | 49 => ⟨S_, .f32⟩
  | 50 => ⟨S8x8320x8320, .f32⟩
  | 51 => ⟨S8x8320x8320, .i1⟩
  | 52 => ⟨S_, .f32⟩
  | 53 => ⟨S8x8320x8320, .f32⟩
  | 54 => ⟨S8x8320x8320, .f32⟩
  | 55 => ⟨S8x8320x8320, .f32⟩
  | 56 => ⟨S8x8320x8320, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S8x8320x8320, .f32⟩
  | 65 => ⟨S8x8320x8320, .i1⟩
  | 66 => ⟨S_, .f32⟩
  | 67 => ⟨S8x8320x8320, .f32⟩
  | 68 => ⟨S8x8320x8320, .f32⟩
  | 69 => ⟨S8x8320x8320, .f32⟩
  | 70 => ⟨S8x8320x8320, .f32⟩
  | 71 => ⟨S8x8320x8320, .f32⟩
  | 72 => ⟨S_, .f32⟩
  | 73 => ⟨S8x8320x8320, .f32⟩
  | 74 => ⟨S8x8320x8320, .f32⟩
  | 75 => ⟨S8x8320x8320, .f32⟩
  | 76 => ⟨S8x8320x8320, .f32⟩
  | 77 => ⟨S8x8320x8320, .f32⟩
  | 78 => ⟨S_, .f32⟩
  | 79 => ⟨S8x8320x8320, .f32⟩
  | 80 => ⟨S8x8320x8320, .f32⟩
  | 81 => ⟨S8x8320x8320, .f32⟩
  | 82 => ⟨S8x8320x8320, .f32⟩
  | 83 => ⟨S8x8320x8320, .i1⟩
  | 84 => ⟨S8x8320x8320, .f32⟩
  | 85 => ⟨S8x8320x8320, .f32⟩
  | 86 => ⟨S8x8320x8320, .f32⟩
  | 87 => ⟨S8x8320x8320, .f32⟩
  | 88 => ⟨S8x8320x8320, .f32⟩
  | 89 => ⟨S8x8320x8320, .f32⟩
  | 90 => ⟨S8x8320x8320, .f32⟩
  | 91 => ⟨S8x8320x8320, .f32⟩
  | 92 => ⟨S_, .f32⟩
  | 93 => ⟨S8x8320x8320, .f32⟩
  | 94 => ⟨S8x8320x8320, .i1⟩
  | 95 => ⟨S_, .f32⟩
  | 96 => ⟨S8x8320x8320, .f32⟩
  | 97 => ⟨S8x8320x8320, .f32⟩
  | 98 => ⟨S_, .f32⟩
  | 99 => ⟨S8x8320x8320, .f32⟩
  | 100 => ⟨S8x8320x8320, .i1⟩
  | 101 => ⟨S_, .f32⟩
  | 102 => ⟨S8x8320x8320, .f32⟩
  | 103 => ⟨S8x8320x8320, .f32⟩
  | 104 => ⟨S8x8320x8320, .f32⟩
  | 105 => ⟨S8x8320x8320, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S8x8320x8320, .f32⟩
  | 114 => ⟨S8x8320x8320, .i1⟩
  | 115 => ⟨S_, .f32⟩
  | 116 => ⟨S8x8320x8320, .f32⟩
  | 117 => ⟨S8x8320x8320, .f32⟩
  | 118 => ⟨S8x8320x8320, .f32⟩
  | 119 => ⟨S8x8320x8320, .f32⟩
  | 120 => ⟨S8x8320x8320, .f32⟩
  | 121 => ⟨S_, .f32⟩
  | 122 => ⟨S8x8320x8320, .f32⟩
  | 123 => ⟨S8x8320x8320, .f32⟩
  | 124 => ⟨S8x8320x8320, .f32⟩
  | 125 => ⟨S_, .f32⟩
  | 126 => ⟨S_, .f32⟩
  | 127 => ⟨S8x8320x8320, .i1⟩
  | _ => ⟨S8320x11264, .bf16⟩

abbrev hbmTy0_1 (i : Nat) : BufTy := match i % 128 with
  | 0 => ⟨S8x8320x8320, .f32⟩
  | 1 => ⟨S8x8320x8320, .f32⟩
  | 2 => ⟨S_, .f32⟩
  | 3 => ⟨S8x8320x8320, .f32⟩
  | 4 => ⟨S8x8320x8320, .f32⟩
  | 5 => ⟨S_, .f32⟩
  | 6 => ⟨S_, .f32⟩
  | 7 => ⟨S8x8320x8320, .f32⟩
  | 8 => ⟨S8x8320x8320, .f32⟩
  | 9 => ⟨S8x8320x8320, .f32⟩
  | 10 => ⟨S8x8320x8320, .f32⟩
  | 11 => ⟨S8x8320x8320, .f32⟩
  | 12 => ⟨S_, .f32⟩
  | 13 => ⟨S_, .f32⟩
  | 14 => ⟨S8x8320x8320, .i1⟩
  | 15 => ⟨S8x8320x8320, .f32⟩
  | 16 => ⟨S8x8320x8320, .f32⟩
  | 17 => ⟨S_, .f32⟩
  | 18 => ⟨S8x8320x8320, .f32⟩
  | 19 => ⟨S8x128x8320, .f32⟩
  | 20 => ⟨S8320x8x128, .f32⟩
  | 21 => ⟨S8320x1024, .f32⟩
  | 22 => ⟨S8320x8x128, .f32⟩
  | 23 => ⟨S8x128x8320, .f32⟩
  | 24 => ⟨S8x8320x8320, .f32⟩
  | 25 => ⟨S8x128x8320, .f32⟩
  | 26 => ⟨S8x8320x128, .f32⟩
  | 27 => ⟨S_, .f32⟩
  | 28 => ⟨S8x8320x8320, .f32⟩
  | 29 => ⟨S8x8320x8320, .f32⟩
  | 30 => ⟨S8x8320x8320, .f32⟩
  | 31 => ⟨S8x8320x8320, .f32⟩
  | 32 => ⟨S8x8320x8320, .f32⟩
  | 33 => ⟨S_, .f32⟩
  | 34 => ⟨S_, .f32⟩
  | 35 => ⟨S8x8320x8320, .f32⟩
  | 36 => ⟨S8x8320x8320, .f32⟩
  | 37 => ⟨S8x8320x8320, .f32⟩
  | 38 => ⟨S_, .f32⟩
  | 39 => ⟨S8x8320x8320, .f32⟩
  | 40 => ⟨S8x8320x8320, .f32⟩
  | 41 => ⟨S8x8320x8320, .f32⟩
  | 42 => ⟨S8x8320x8320, .f32⟩
  | 43 => ⟨S8x8320x8320, .f32⟩
  | 44 => ⟨S8x8320x8320, .f32⟩
  | 45 => ⟨S8x8320x8320, .f32⟩
  | 46 => ⟨S8x8320x8320, .f32⟩
  | 47 => ⟨S8x8320x8320, .f32⟩
  | 48 => ⟨S8x8320x8320, .f32⟩
  | 49 => ⟨S_, .f32⟩
  | 50 => ⟨S8x8320x8320, .f32⟩
  | 51 => ⟨S8x8320x8320, .f32⟩
  | 52 => ⟨S8x8320x128, .f32⟩
  | 53 => ⟨S8x8320x128, .f32⟩
  | 54 => ⟨S8320x8x128, .f32⟩
  | 55 => ⟨S8320x1024, .f32⟩
  | 56 => ⟨S8320x8x128, .f32⟩
  | 57 => ⟨S8320x1024, .f32⟩
  | 58 => ⟨S8320x8x128, .f32⟩
  | 59 => ⟨S8320x1024, .f32⟩
  | 60 => ⟨S8320x1024, .bf16⟩
  | 61 => ⟨S8320x1024, .bf16⟩
  | 62 => ⟨S8320x1024, .bf16⟩
  | _ => ⟨S8320x11264, .bf16⟩

abbrev hbmTy (i : Nat) : BufTy := match i / 128 with
  | 0 => hbmTy0_0 i
  | 1 => hbmTy0_1 i
  | _ => ⟨S8320x11264, .bf16⟩

abbrev bufTy : (tb : Table) → Fin (tcTables nBuf tb) → BufTy
  | .hbm, ⟨i, _⟩ => hbmTy i
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1_0 : Ref sig .tc := ⟨.hbm, 42, rfl⟩
abbrev main_call0_call0_cst_0 : Ref sig .tc := ⟨.hbm, 43, rfl⟩
abbrev main_call0_call0_v13 : Ref sig .tc := ⟨.hbm, 44, rfl⟩
abbrev main_call0_call0_v14 : Ref sig .tc := ⟨.hbm, 45, rfl⟩
abbrev main_call0_call0_cst_1 : Ref sig .tc := ⟨.hbm, 46, rfl⟩
abbrev main_call0_call0_v15 : Ref sig .tc := ⟨.hbm, 47, rfl⟩
abbrev main_call0_call0_v16 : Ref sig .tc := ⟨.hbm, 48, rfl⟩
abbrev main_call0_call0_cst_2 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_cst_3 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_v21 : Ref sig .tc := ⟨.hbm, 55, rfl⟩
abbrev main_v24_1 : Ref sig .tc := ⟨.hbm, 56, rfl⟩
abbrev main_call0_call0_cst_4 : Ref sig .tc := ⟨.hbm, 57, rfl⟩
abbrev main_call0_call0_cst_5 : Ref sig .tc := ⟨.hbm, 58, rfl⟩
abbrev main_call0_call0_v23 : Ref sig .tc := ⟨.hbm, 59, rfl⟩
abbrev main_call0_call0_cst_6 : Ref sig .tc := ⟨.hbm, 60, rfl⟩
abbrev main_call0_call0_cst_7 : Ref sig .tc := ⟨.hbm, 61, rfl⟩
abbrev main_call0_call0_v24 : Ref sig .tc := ⟨.hbm, 62, rfl⟩
abbrev main_call0_call0_cst_8 : Ref sig .tc := ⟨.hbm, 63, rfl⟩
abbrev main_call0_call0_v25 : Ref sig .tc := ⟨.hbm, 64, rfl⟩
abbrev main_call0_call0_v26 : Ref sig .tc := ⟨.hbm, 65, rfl⟩
abbrev main_call0_call0_cst_9 : Ref sig .tc := ⟨.hbm, 66, rfl⟩
abbrev main_call0_call0_v27 : Ref sig .tc := ⟨.hbm, 67, rfl⟩
abbrev main_call0_call0_v28 : Ref sig .tc := ⟨.hbm, 68, rfl⟩
abbrev main_call0_call0_v29 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_cst_10 : Ref sig .tc := ⟨.hbm, 72, rfl⟩
abbrev main_call0_call0_v32 : Ref sig .tc := ⟨.hbm, 73, rfl⟩
abbrev main_v24_2 : Ref sig .tc := ⟨.hbm, 74, rfl⟩
abbrev main_v24_0 : Ref sig .tc := ⟨.hbm, 75, rfl⟩
abbrev main_v25 : Ref sig .tc := ⟨.hbm, 76, rfl⟩
abbrev main_call1_v0 : Ref sig .tc := ⟨.hbm, 77, rfl⟩
abbrev main_call1_call0_cst : Ref sig .tc := ⟨.hbm, 78, rfl⟩
abbrev main_call1_call0_v0 : Ref sig .tc := ⟨.hbm, 79, rfl⟩
abbrev main_call1_call0_v1 : Ref sig .tc := ⟨.hbm, 80, rfl⟩
abbrev main_call1_call0_v2 : Ref sig .tc := ⟨.hbm, 81, rfl⟩
abbrev main_call1_call0_v3 : Ref sig .tc := ⟨.hbm, 82, rfl⟩
abbrev main_call1_call0_v4 : Ref sig .tc := ⟨.hbm, 83, rfl⟩
abbrev main_call1_call0_v5 : Ref sig .tc := ⟨.hbm, 84, rfl⟩
abbrev main_call1_call0_v6 : Ref sig .tc := ⟨.hbm, 85, rfl⟩
abbrev main_call1_call0_v7 : Ref sig .tc := ⟨.hbm, 86, rfl⟩
abbrev main_call1_call0_v8 : Ref sig .tc := ⟨.hbm, 87, rfl⟩
abbrev main_call1_call0_v9 : Ref sig .tc := ⟨.hbm, 88, rfl⟩
abbrev main_call1_call0_v10 : Ref sig .tc := ⟨.hbm, 89, rfl⟩
abbrev main_call1_call0_v11 : Ref sig .tc := ⟨.hbm, 90, rfl⟩
abbrev main_call1_v1_0 : Ref sig .tc := ⟨.hbm, 91, rfl⟩
abbrev main_call1_call0_cst_0 : Ref sig .tc := ⟨.hbm, 92, rfl⟩
abbrev main_call1_call0_v13 : Ref sig .tc := ⟨.hbm, 93, rfl⟩
abbrev main_call1_call0_v14 : Ref sig .tc := ⟨.hbm, 94, rfl⟩
abbrev main_call1_call0_cst_1 : Ref sig .tc := ⟨.hbm, 95, rfl⟩
abbrev main_call1_call0_v15 : Ref sig .tc := ⟨.hbm, 96, rfl⟩
abbrev main_call1_call0_v16 : Ref sig .tc := ⟨.hbm, 97, rfl⟩
abbrev main_call1_call0_cst_2 : Ref sig .tc := ⟨.hbm, 98, rfl⟩
abbrev main_call1_call0_v17 : Ref sig .tc := ⟨.hbm, 99, rfl⟩
abbrev main_call1_call0_v18 : Ref sig .tc := ⟨.hbm, 100, rfl⟩
abbrev main_call1_call0_cst_3 : Ref sig .tc := ⟨.hbm, 101, rfl⟩
abbrev main_call1_call0_v19 : Ref sig .tc := ⟨.hbm, 102, rfl⟩
abbrev main_call1_call0_v20 : Ref sig .tc := ⟨.hbm, 103, rfl⟩
abbrev main_call1_call0_v21 : Ref sig .tc := ⟨.hbm, 104, rfl⟩
abbrev main_v26_1 : Ref sig .tc := ⟨.hbm, 105, rfl⟩
abbrev main_call1_call0_cst_4 : Ref sig .tc := ⟨.hbm, 106, rfl⟩
abbrev main_call1_call0_cst_5 : Ref sig .tc := ⟨.hbm, 107, rfl⟩
abbrev main_call1_call0_v23 : Ref sig .tc := ⟨.hbm, 108, rfl⟩
abbrev main_call1_call0_cst_6 : Ref sig .tc := ⟨.hbm, 109, rfl⟩
abbrev main_call1_call0_cst_7 : Ref sig .tc := ⟨.hbm, 110, rfl⟩
abbrev main_call1_call0_v24 : Ref sig .tc := ⟨.hbm, 111, rfl⟩
abbrev main_call1_call0_cst_8 : Ref sig .tc := ⟨.hbm, 112, rfl⟩
abbrev main_call1_call0_v25 : Ref sig .tc := ⟨.hbm, 113, rfl⟩
abbrev main_call1_call0_v26 : Ref sig .tc := ⟨.hbm, 114, rfl⟩
abbrev main_call1_call0_cst_9 : Ref sig .tc := ⟨.hbm, 115, rfl⟩
abbrev main_call1_call0_v27 : Ref sig .tc := ⟨.hbm, 116, rfl⟩
abbrev main_call1_call0_v28 : Ref sig .tc := ⟨.hbm, 117, rfl⟩
abbrev main_call1_call0_v29 : Ref sig .tc := ⟨.hbm, 118, rfl⟩
abbrev main_call1_call0_v30 : Ref sig .tc := ⟨.hbm, 119, rfl⟩
abbrev main_call1_call0_v31 : Ref sig .tc := ⟨.hbm, 120, rfl⟩
abbrev main_call1_call0_cst_10 : Ref sig .tc := ⟨.hbm, 121, rfl⟩
abbrev main_call1_call0_v32 : Ref sig .tc := ⟨.hbm, 122, rfl⟩
abbrev main_v26_2 : Ref sig .tc := ⟨.hbm, 123, rfl⟩
abbrev main_v26_0 : Ref sig .tc := ⟨.hbm, 124, rfl⟩
abbrev main_cst_0 : Ref sig .tc := ⟨.hbm, 125, rfl⟩
abbrev main_call2_v0 : Ref sig .tc := ⟨.hbm, 126, rfl⟩
abbrev main_v27_1 : Ref sig .tc := ⟨.hbm, 127, rfl⟩
abbrev main_call2_v2 : Ref sig .tc := ⟨.hbm, 128, rfl⟩
abbrev main_v27_0 : Ref sig .tc := ⟨.hbm, 129, rfl⟩
abbrev main_call2_cst : Ref sig .tc := ⟨.hbm, 130, rfl⟩
abbrev main_v27_2 : Ref sig .tc := ⟨.hbm, 131, rfl⟩
abbrev main_v28 : Ref sig .tc := ⟨.hbm, 132, rfl⟩
abbrev main_call4_call0_cst : Ref sig .tc := ⟨.hbm, 133, rfl⟩
abbrev main_call4_call0_v0 : Ref sig .tc := ⟨.hbm, 134, rfl⟩
abbrev main_v29 : Ref sig .tc := ⟨.hbm, 135, rfl⟩
abbrev main_v30 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_cst_1 : Ref sig .tc := ⟨.hbm, 140, rfl⟩
abbrev main_call6_v0 : Ref sig .tc := ⟨.hbm, 141, rfl⟩
abbrev main_v34_1 : Ref sig .tc := ⟨.hbm, 142, rfl⟩
abbrev main_call6_v2 : Ref sig .tc := ⟨.hbm, 143, rfl⟩
abbrev main_v34_0 : Ref sig .tc := ⟨.hbm, 144, rfl⟩
abbrev main_call6_cst : Ref sig .tc := ⟨.hbm, 145, rfl⟩
abbrev main_v34_2 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_v40 : Ref sig .tc := ⟨.hbm, 152, rfl⟩
abbrev main_v41 : Ref sig .tc := ⟨.hbm, 153, rfl⟩
abbrev main_v42 : Ref sig .tc := ⟨.hbm, 154, rfl⟩
abbrev main_call7_cst : Ref sig .tc := ⟨.hbm, 155, rfl⟩
abbrev main_call7_v0 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_call9_call0_cst : Ref sig .tc := ⟨.hbm, 161, rfl⟩
abbrev main_call9_call0_v0 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_call11_cst : Ref sig .tc := ⟨.hbm, 166, rfl⟩
abbrev main_call11_v0 : Ref sig .tc := ⟨.hbm, 167, rfl⟩
abbrev main_v50 : Ref sig .tc := ⟨.hbm, 168, rfl⟩
abbrev main_call12_v0 : Ref sig .tc := ⟨.hbm, 169, rfl⟩
abbrev main_call12_v1 : Ref sig .tc := ⟨.hbm, 170, rfl⟩
abbrev main_v51 : Ref sig .tc := ⟨.hbm, 171, rfl⟩
abbrev main_v52 : Ref sig .tc := ⟨.hbm, 172, rfl⟩
abbrev main_call13_v0 : Ref sig .tc := ⟨.hbm, 173, rfl⟩
abbrev main_call13_v1 : Ref sig .tc := ⟨.hbm, 174, rfl⟩
abbrev main_v53 : Ref sig .tc := ⟨.hbm, 175, rfl⟩
abbrev main_v54 : Ref sig .tc := ⟨.hbm, 176, rfl⟩
abbrev main_cst_2 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩
abbrev main_v64 : Ref sig .tc := ⟨.hbm, 187, rfl⟩
abbrev main_v65 : Ref sig .tc := ⟨.hbm, 188, rfl⟩
abbrev main_v66 : Ref sig .tc := ⟨.hbm, 189, rfl⟩
abbrev main_v67 : Ref sig .tc := ⟨.hbm, 190, rfl⟩

abbrev nD : Nat := 1
abbrev τ : Topo := Topo.v7x

variable {F : FTy → Type} [FloatOps F]
-- ==== Kernel2.lean ====
abbrev S8320x2048 : Shape := ⟨2, ![8320, 2048]⟩
abbrev S8x2048x704 : Shape := ⟨3, ![8, 2048, 704]⟩
abbrev S8x704x2048 : Shape := ⟨3, ![8, 704, 2048]⟩
abbrev S8x704x8320 : Shape := ⟨3, ![8, 704, 8320]⟩
abbrev S8x8320x704 : Shape := ⟨3, ![8, 8320, 704]⟩
abbrev S_ : Shape := ⟨0, ![]⟩
abbrev S640x2048 : Shape := ⟨2, ![640, 2048]⟩
abbrev S2x704x2048 : Shape := ⟨3, ![2, 704, 2048]⟩
abbrev S2x640x704 : Shape := ⟨3, ![2, 640, 704]⟩
abbrev S1x704x2048 : Shape := ⟨3, ![1, 704, 2048]⟩
abbrev S704x2048 : Shape := ⟨2, ![704, 2048]⟩
abbrev S640x704 : Shape := ⟨2, ![640, 704]⟩
abbrev S1x640x704 : Shape := ⟨3, ![1, 640, 704]⟩

abbrev nBuf : Space → Nat
  | .hbm => 34
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S8320x2048, .f32⟩
  | .hbm, ⟨5, _⟩ => ⟨S8x2048x704, .f32⟩
  | .hbm, ⟨6, _⟩ => ⟨S8x704x8320, .f32⟩
  | .hbm, ⟨7, _⟩ => ⟨S8x8320x704, .f32⟩
  | .hbm, ⟨8, _⟩ => ⟨S8x2048x704, .f32⟩
  | .hbm, ⟨9, _⟩ => ⟨S8x704x8320, .f32⟩
  | .hbm, ⟨10, _⟩ => ⟨S8x8320x704, .f32⟩
  | .hbm, ⟨11, _⟩ => ⟨S8x8320x704, .f32⟩
  | .hbm, ⟨12, _⟩ => ⟨S8x8320x704, .f32⟩
  | .hbm, ⟨13, _⟩ => ⟨S_, .f32⟩
  | .hbm, ⟨14, _⟩ => ⟨S8x8320x704, .f32⟩
  | .hbm, ⟨15, _⟩ => ⟨S8x8320x704, .f32⟩
  | .hbm, ⟨16, _⟩ => ⟨S_, .f32⟩
  | .hbm, ⟨17, _⟩ => ⟨S8x8320x704, .f32⟩
  | .hbm, ⟨18, _⟩ => ⟨S8x8320x704, .f32⟩
  | .hbm, ⟨19, _⟩ => ⟨S_, .f32⟩
  | .hbm, ⟨20, _⟩ => ⟨S8x8320x704, .f32⟩
  | .hbm, ⟨21, _⟩ => ⟨S8x8320x704, .f32⟩
  | .hbm, ⟨22, _⟩ => ⟨S8x8320x704, .f32⟩
  | .hbm, ⟨23, _⟩ => ⟨S8x8320x704, .f32⟩
  | .hbm, ⟨24, _⟩ => ⟨S8x8320x704, .f32⟩
  | .hbm, ⟨25, _⟩ => ⟨S8x8320x704, .f32⟩
  | .hbm, ⟨26, _⟩ => ⟨S8x8320x704, .f32⟩
  | .hbm, ⟨27, _⟩ => ⟨S8x8320x704, .f32⟩
  | .hbm, ⟨28, _⟩ => ⟨S_, .f32⟩
  | .hbm, ⟨29, _⟩ => ⟨S8320x2048, .f32⟩
  | .hbm, ⟨30, _⟩ => ⟨S8320x2048, .f32⟩
  | .hbm, ⟨31, _⟩ => ⟨S8320x2048, .bf16⟩
  | .hbm, ⟨32, _⟩ => ⟨S8x8320x704, .bf16⟩
  | .hbm, ⟨33, _⟩ => ⟨S8x8320x704, .bf16⟩
  | .local _ .vmem, ⟨0, _⟩ => ⟨S640x2048, .bf16⟩
  | .local _ .vmem, ⟨1, _⟩ => ⟨S640x2048, .bf16⟩
  | .local _ .vmem, ⟨2, _⟩ => ⟨S2x704x2048, .bf16⟩
  | .local _ .vmem, ⟨3, _⟩ => ⟨S2x704x2048, .bf16⟩
  | .local _ .vmem, ⟨4, _⟩ => ⟨S2x640x704, .f32⟩
  | .local _ .vmem, ⟨5, _⟩ => ⟨S2x640x704, .f32⟩
  | .local _ .vmem, ⟨6, _⟩ => ⟨S2x640x704, .f32⟩
  | .local _ .vmem, ⟨7, _⟩ => ⟨S2x640x704, .f32⟩
  | .local _ .vmem, ⟨8, _⟩ => ⟨S2x640x704, .bf16⟩
  | .local _ .vmem, ⟨9, _⟩ => ⟨S2x640x704, .bf16⟩
  | .local _ .vmem, ⟨10, _⟩ => ⟨S2x640x704, .bf16⟩
  | .local _ .vmem, ⟨11, _⟩ => ⟨S2x640x704, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x640x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x640x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x640x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x640x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8320x2048 : Shape := ⟨2, ![8320, 2048]⟩
abbrev S8x2048x704 : Shape := ⟨3, ![8, 2048, 704]⟩
abbrev S8x704x2048 : Shape := ⟨3, ![8, 704, 2048]⟩
abbrev S2048x8x704 : Shape := ⟨3, ![2048, 8, 704]⟩
abbrev S2048x5632 : Shape := ⟨2, ![2048, 5632]⟩
abbrev S5632x2048 : Shape := ⟨2, ![5632, 2048]⟩
abbrev S8320x5632 : Shape := ⟨2, ![8320, 5632]⟩
abbrev S_ : Shape := ⟨0, ![]⟩
abbrev S8320x8x704 : Shape := ⟨3, ![8320, 8, 704]⟩
abbrev S8x8320x704 : Shape := ⟨3, ![8, 8320, 704]⟩

abbrev nBuf : Space → Nat
  | .hbm => 49
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S8320x2048, .f32⟩
  | .hbm, ⟨5, _⟩ => ⟨S8x2048x704, .f32⟩
  | .hbm, ⟨6, _⟩ => ⟨S2048x8x704, .f32⟩
  | .hbm, ⟨7, _⟩ => ⟨S2048x5632, .f32⟩
  | .hbm, ⟨8, _⟩ => ⟨S8x2048x704, .f32⟩
  | .hbm, ⟨9, _⟩ => ⟨S2048x8x704, .f32⟩
  | .hbm, ⟨10, _⟩ => ⟨S2048x5632, .f32⟩
  | .hbm, ⟨11, _⟩ => ⟨S8x704x2048, .f32⟩
  | .hbm, ⟨12, _⟩ => ⟨S5632x2048, .f32⟩
  | .hbm, ⟨13, _⟩ => ⟨S8320x5632, .f32⟩
  | .hbm, ⟨14, _⟩ => ⟨S8320x5632, .f32⟩
  | .hbm, ⟨15, _⟩ => ⟨S8320x5632, .f32⟩
  | .hbm, ⟨16, _⟩ => ⟨S8320x5632, .f32⟩
  | .hbm, ⟨17, _⟩ => ⟨S_, .f32⟩
  | .hbm, ⟨18, _⟩ => ⟨S8320x5632, .f32⟩
  | .hbm, ⟨19, _⟩ => ⟨S8320x5632, .f32⟩
  | .hbm, ⟨20, _⟩ => ⟨S_, .f32⟩
  | .hbm, ⟨21, _⟩ => ⟨S8320x5632, .f32⟩
  | .hbm, ⟨22, _⟩ => ⟨S8320x5632, .f32⟩
  | .hbm, ⟨23, _⟩ => ⟨S_, .f32⟩
  | .hbm, ⟨24, _⟩ => ⟨S8320x5632, .f32⟩
  | .hbm, ⟨25, _⟩ => ⟨S8320x5632, .f32⟩
  | .hbm, ⟨26, _⟩ => ⟨S8320x5632, .f32⟩
  | .hbm, ⟨27, _⟩ => ⟨S8320x5632, .f32⟩
  | .hbm, ⟨28, _⟩ => ⟨S8320x5632, .f32⟩
  | .hbm, ⟨29, _⟩ => ⟨S8320x2048, .f32⟩
  | .hbm, ⟨30, _⟩ => ⟨S_, .f32⟩
  | .hbm, ⟨31, _⟩ => ⟨S8320x2048, .f32⟩
  | .hbm, ⟨32, _⟩ => ⟨S8320x2048, .f32⟩
  | .hbm, ⟨33, _⟩ => ⟨S_, .f32⟩
  | .hbm, ⟨34, _⟩ => ⟨S8320x2048, .f32⟩
  | .hbm, ⟨35, _⟩ => ⟨S8320x2048, .f32⟩
  | .hbm, ⟨36, _⟩ => ⟨S8320x5632, .f32⟩
  | .hbm, ⟨37, _⟩ => ⟨S8320x5632, .f32⟩
  | .hbm, ⟨38, _⟩ => ⟨S8320x5632, .f32⟩
  | .hbm, ⟨39, _⟩ => ⟨S8320x5632, .f32⟩
  | .hbm, ⟨40, _⟩ => ⟨S8320x5632, .f32⟩
  | .hbm, ⟨41, _⟩ => ⟨S8320x5632, .f32⟩
  | .hbm, ⟨42, _⟩ => ⟨S8320x5632, .f32⟩
  | .hbm, ⟨43, _⟩ => ⟨S8320x8x704, .f32⟩
  | .hbm, ⟨44, _⟩ => ⟨S8x8320x704, .f32⟩
  | .hbm, ⟨45, _⟩ => ⟨S8x8320x704, .bf16⟩
  | .hbm, ⟨46, _⟩ => ⟨S8320x8x704, .f32⟩
  | .hbm, ⟨47, _⟩ => ⟨S8x8320x704, .f32⟩
  | .hbm, ⟨48, _⟩ => ⟨S8x8320x704, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v10_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v10_1 : Ref sig .tc := ⟨.hbm, 26, rfl⟩
abbrev main_v10_0 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== Kernel3.lean ====
abbrev S8x8320x704 : Shape := ⟨3, ![8, 8320, 704]⟩
abbrev S8320x2048 : Shape := ⟨2, ![8320, 2048]⟩
abbrev S_ : Shape := ⟨0, ![]⟩
abbrev S8x704x2048 : Shape := ⟨3, ![8, 704, 2048]⟩
abbrev S1x1664x704 : Shape := ⟨3, ![1, 1664, 704]⟩
abbrev S1664x2048 : Shape := ⟨2, ![1664, 2048]⟩
abbrev S1x704x2048 : Shape := ⟨3, ![1, 704, 2048]⟩
abbrev S704x2048 : Shape := ⟨2, ![704, 2048]⟩
abbrev S1664x704 : Shape := ⟨2, ![1664, 704]⟩

abbrev nBuf : Space → Nat
  | .hbm => 7
  | .vmem => 7
  | .smem => 0
  | _ => 0

abbrev bufTy : (tb : Table) → Fin (tcTables nBuf tb) → BufTy
  | .hbm, ⟨0, _⟩ => ⟨S8x8320x704, .bf16⟩
  | .hbm, ⟨1, _⟩ => ⟨S8320x2048, .f32⟩
  | .hbm, ⟨2, _⟩ => ⟨S_, .f32⟩
  | .hbm, ⟨3, _⟩ => ⟨S8320x2048, .f32⟩
  | .hbm, ⟨4, _⟩ => ⟨S8320x2048, .f32⟩
  | .hbm, ⟨5, _⟩ => ⟨S8320x2048, .bf16⟩
  | .hbm, ⟨6, _⟩ => ⟨S8x704x2048, .bf16⟩
  | .local _ .vmem, ⟨0, _⟩ => ⟨S1x1664x704, .bf16⟩
  | .local _ .vmem, ⟨1, _⟩ => ⟨S1x1664x704, .bf16⟩
  | .local _ .vmem, ⟨2, _⟩ => ⟨S1664x2048, .bf16⟩
  | .local _ .vmem, ⟨3, _⟩ => ⟨S1664x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8x8320x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1664x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8x8320x704 : Shape := ⟨3, ![8, 8320, 704]⟩
abbrev S8320x2048 : Shape := ⟨2, ![8320, 2048]⟩
abbrev S8320x8x704 : Shape := ⟨3, ![8320, 8, 704]⟩
abbrev S8320x5632 : Shape := ⟨2, ![8320, 5632]⟩
abbrev S_ : Shape := ⟨0, ![]⟩
abbrev S8x704x2048 : Shape := ⟨3, ![8, 704, 2048]⟩
abbrev S5632x2048 : Shape := ⟨2, ![5632, 2048]⟩
abbrev S2048x5632 : Shape := ⟨2, ![2048, 5632]⟩

abbrev nBuf : Space → Nat
  | .hbm => 19
  | .vmem => 0
  | .smem => 0
  | _ => 0

abbrev bufTy : (tb : Table) → Fin (tcTables nBuf tb) → BufTy
  | .hbm, ⟨0, _⟩ => ⟨S8x8320x704, .bf16⟩
  | .hbm, ⟨1, _⟩ => ⟨S8320x2048, .f32⟩
  | .hbm, ⟨2, _⟩ => ⟨S8x8320x704, .f32⟩
  | .hbm, ⟨3, _⟩ => ⟨S8320x8x704, .f32⟩
  | .hbm, ⟨4, _⟩ => ⟨S8320x5632, .f32⟩
  | .hbm, ⟨5, _⟩ => ⟨S_, .f32⟩
  | .hbm, ⟨6, _⟩ => ⟨S8x704x2048, .f32⟩
  | .hbm, ⟨7, _⟩ => ⟨S5632x2048, .f32⟩
  | .hbm, ⟨8, _⟩ => ⟨S8320x2048, .f32⟩
  | .hbm, ⟨9, _⟩ => ⟨S_, .f32⟩
  | .hbm, ⟨10, _⟩ => ⟨S8320x2048, .f32⟩
  | .hbm, ⟨11, _⟩ => ⟨S8320x2048, .f32⟩
  | .hbm, ⟨12, _⟩ => ⟨S_, .f32⟩
  | .hbm, ⟨13, _⟩ => ⟨S8320x2048, .f32⟩
  | .hbm, ⟨14, _⟩ => ⟨S8320x2048, .f32⟩
  | .hbm, ⟨15, _⟩ => ⟨S2048x5632, .f32⟩
  | .hbm, ⟨16, _⟩ => ⟨S5632x2048, .f32⟩
  | .hbm, ⟨17, _⟩ => ⟨S8x704x2048, .f32⟩
  | .hbm, ⟨18, _⟩ => ⟨S8x704x2048, .bf16⟩
  | _, _ => ⟨S8x8320x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S8320x2048 : Shape := ⟨2, ![8320, 2048]⟩
abbrev S8x8320x704 : Shape := ⟨3, ![8, 8320, 704]⟩
abbrev S8x2048x704 : Shape := ⟨3, ![8, 2048, 704]⟩
abbrev S1664x2048 : Shape := ⟨2, ![1664, 2048]⟩
abbrev S1x1664x704 : Shape := ⟨3, ![1, 1664, 704]⟩
abbrev S1x2048x704 : Shape := ⟨3, ![1, 2048, 704]⟩
abbrev S2048x704 : Shape := ⟨2, ![2048, 704]⟩
abbrev S1664x704 : Shape := ⟨2, ![1664, 704]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .f32⟩
  | .hbm, ⟨1, _⟩ => ⟨S8x8320x704, .bf16⟩
  | .hbm, ⟨2, _⟩ => ⟨S8320x2048, .bf16⟩
  | .hbm, ⟨3, _⟩ => ⟨S8x2048x704, .bf16⟩
  | .local _ .vmem, ⟨0, _⟩ => ⟨S1664x2048, .bf16⟩
  | .local _ .vmem, ⟨1, _⟩ => ⟨S1664x2048, .bf16⟩
  | .local _ .vmem, ⟨2, _⟩ => ⟨S1x1664x704, .bf16⟩
  | .local _ .vmem, ⟨3, _⟩ => ⟨S1x1664x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x704, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1664x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8320x2048 : Shape := ⟨2, ![8320, 2048]⟩
abbrev S8x8320x704 : Shape := ⟨3, ![8, 8320, 704]⟩
abbrev S_ : Shape := ⟨0, ![]⟩
abbrev S8x2048x704 : Shape := ⟨3, ![8, 2048, 704]⟩
abbrev S2048x8x704 : Shape := ⟨3, ![2048, 8, 704]⟩
abbrev S2048x5632 : Shape := ⟨2, ![2048, 5632]⟩
abbrev S8320x5632 : Shape := ⟨2, ![8320, 5632]⟩
abbrev S8320x8x704 : Shape := ⟨3, ![8320, 8, 704]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8x8320x704, .bf16⟩
  | .hbm, ⟨2, _⟩ => ⟨S_, .f32⟩
  | .hbm, ⟨3, _⟩ => ⟨S8x2048x704, .f32⟩
  | .hbm, ⟨4, _⟩ => ⟨S2048x8x704, .f32⟩
  | .hbm, ⟨5, _⟩ => ⟨S2048x5632, .f32⟩
  | .hbm, ⟨6, _⟩ => ⟨S8320x5632, .f32⟩
  | .hbm, ⟨7, _⟩ => ⟨S8x8320x704, .f32⟩
  | .hbm, ⟨8, _⟩ => ⟨S8320x8x704, .f32⟩
  | .hbm, ⟨9, _⟩ => ⟨S8320x5632, .f32⟩
  | .hbm, ⟨10, _⟩ => ⟨S5632x2048, .f32⟩
  | .hbm, ⟨11, _⟩ => ⟨S2048x5632, .f32⟩
  | .hbm, ⟨12, _⟩ => ⟨S2048x8x704, .f32⟩
  | .hbm, ⟨13, _⟩ => ⟨S8x2048x704, .f32⟩
  | .hbm, ⟨14, _⟩ => ⟨S8x2048x704, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S8x8320x704 : Shape := ⟨3, ![8, 8320, 704]⟩
abbrev S8x2048x704 : Shape := ⟨3, ![8, 2048, 704]⟩
abbrev S8320x2048 : Shape := ⟨2, ![8320, 2048]⟩
abbrev S2x640x704 : Shape := ⟨3, ![2, 640, 704]⟩
abbrev S2x2048x704 : Shape := ⟨3, ![2, 2048, 704]⟩
abbrev S640x2048 : Shape := ⟨2, ![640, 2048]⟩
abbrev S1x640x704 : Shape := ⟨3, ![1, 640, 704]⟩
abbrev S640x704 : Shape := ⟨2, ![640, 704]⟩
abbrev S1x2048x704 : Shape := ⟨3, ![1, 2048, 704]⟩
abbrev S2048x704 : Shape := ⟨2, ![2048, 704]⟩

abbrev nBuf : Space → Nat
  | .hbm => 6
  | .vmem => 13
  | .smem => 0
  | _ => 0

abbrev bufTy : (tb : Table) → Fin (tcTables nBuf tb) → BufTy
  | .hbm, ⟨0, _⟩ => ⟨S8x8320x704, .bf16⟩
  | .hbm, ⟨1, _⟩ => ⟨S8x8320x704, .bf16⟩
  | .hbm, ⟨2, _⟩ => ⟨S8x2048x704, .bf16⟩
  | .hbm, ⟨3, _⟩ => ⟨S8x2048x704, .bf16⟩
  | .hbm, ⟨4, _⟩ => ⟨S8320x2048, .f32⟩
  | .hbm, ⟨5, _⟩ => ⟨S8320x2048, .f32⟩
  | .local _ .vmem, ⟨0, _⟩ => ⟨S2x640x704, .bf16⟩
  | .local _ .vmem, ⟨1, _⟩ => ⟨S2x640x704, .bf16⟩
  | .local _ .vmem, ⟨2, _⟩ => ⟨S2x2048x704, .bf16⟩
  | .local _ .vmem, ⟨3, _⟩ => ⟨S2x2048x704, .bf16⟩
  | .local _ .vmem, ⟨4, _⟩ => ⟨S2x640x704, .bf16⟩
  | .local _ .vmem, ⟨5, _⟩ => ⟨S2x640x704, .bf16⟩
  | .local _ .vmem, ⟨6, _⟩ => ⟨S2x2048x704, .bf16⟩
  | .local _ .vmem, ⟨7, _⟩ => ⟨S2x2048x704, .bf16⟩
  | .local _ .vmem, ⟨8, _⟩ => ⟨S640x2048, .f32⟩
  | .local _ .vmem, ⟨9, _⟩ => ⟨S640x2048, .f32⟩
  | .local _ .vmem, ⟨10, _⟩ => ⟨S640x2048, .f32⟩
  | .local _ .vmem, ⟨11, _⟩ => ⟨S640x2048, .f32⟩
  | .local _ .vmem, ⟨12, _⟩ => ⟨S640x2048, .f32⟩
  | _, _ => ⟨S8x8320x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_34 : BitVec 32 := 0#32
  let v37 : BitVec 1 := Scalar.cmpi .ne v36 c0_i32_34
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x640x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x640x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S8x8320x704 : Shape := ⟨3, ![8, 8320, 704]⟩
abbrev S8x2048x704 : Shape := ⟨3, ![8, 2048, 704]⟩
abbrev S8320x2048 : Shape := ⟨2, ![8320, 2048]⟩
abbrev S2048x8x704 : Shape := ⟨3, ![2048, 8, 704]⟩
abbrev S2048x5632 : Shape := ⟨2, ![2048, 5632]⟩
abbrev S_ : Shape := ⟨0, ![]⟩
abbrev S8320x5632 : Shape := ⟨2, ![8320, 5632]⟩
abbrev S8320x8x704 : Shape := ⟨3, ![8320, 8, 704]⟩

abbrev nBuf : Space → Nat
  | .hbm => 31
  | .vmem => 0
  | .smem => 0
  | _ => 0

abbrev bufTy : (tb : Table) → Fin (tcTables nBuf tb) → BufTy
  | .hbm, ⟨0, _⟩ => ⟨S8x8320x704, .bf16⟩
  | .hbm, ⟨1, _⟩ => ⟨S8x8320x704, .bf16⟩
  | .hbm, ⟨2, _⟩ => ⟨S8x2048x704, .bf16⟩
  | .hbm, ⟨3, _⟩ => ⟨S8x2048x704, .bf16⟩
  | .hbm, ⟨4, _⟩ => ⟨S8320x2048, .f32⟩
  | .hbm, ⟨5, _⟩ => ⟨S8x2048x704, .f32⟩
  | .hbm, ⟨6, _⟩ => ⟨S2048x8x704, .f32⟩
  | .hbm, ⟨7, _⟩ => ⟨S2048x5632, .f32⟩
  | .hbm, ⟨8, _⟩ => ⟨S8x2048x704, .f32⟩
  | .hbm, ⟨9, _⟩ => ⟨S2048x8x704, .f32⟩
  | .hbm, ⟨10, _⟩ => ⟨S2048x5632, .f32⟩
  | .hbm, ⟨11, _⟩ => ⟨S_, .f32⟩
  | .hbm, ⟨12, _⟩ => ⟨S8320x2048, .f32⟩
  | .hbm, ⟨13, _⟩ => ⟨S_, .f32⟩
  | .hbm, ⟨14, _⟩ => ⟨S8320x2048, .f32⟩
  | .hbm, ⟨15, _⟩ => ⟨S8320x2048, .f32⟩
  | .hbm, ⟨16, _⟩ => ⟨S8320x5632, .f32⟩
  | .hbm, ⟨17, _⟩ => ⟨S8320x5632, .f32⟩
  | .hbm, ⟨18, _⟩ => ⟨S8x8320x704, .f32⟩
  | .hbm, ⟨19, _⟩ => ⟨S8320x8x704, .f32⟩
  | .hbm, ⟨20, _⟩ => ⟨S8320x5632, .f32⟩
  | .hbm, ⟨21, _⟩ => ⟨S8x8320x704, .f32⟩
  | .hbm, ⟨22, _⟩ => ⟨S8320x8x704, .f32⟩
  | .hbm, ⟨23, _⟩ => ⟨S8320x5632, .f32⟩
  | .hbm, ⟨24, _⟩ => ⟨S8320x2048, .f32⟩
  | .hbm, ⟨25, _⟩ => ⟨S8320x2048, .f32⟩
  | .hbm, ⟨26, _⟩ => ⟨S8320x2048, .f32⟩
  | .hbm, ⟨27, _⟩ => ⟨S_, .f32⟩
  | .hbm, ⟨28, _⟩ => ⟨S8320x2048, .f32⟩
  | .hbm, ⟨29, _⟩ => ⟨S8320x2048, .f32⟩
  | .hbm, ⟨30, _⟩ => ⟨S8320x2048, .f32⟩
  | _, _ => ⟨S8x8320x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S8320x2048 : Shape := ⟨2, ![8320, 2048]⟩
abbrev S8x2048x704 : Shape := ⟨3, ![8, 2048, 704]⟩
abbrev S8x8320x704 : Shape := ⟨3, ![8, 8320, 704]⟩
abbrev S640x2048 : Shape := ⟨2, ![640, 2048]⟩
abbrev S1x2048x704 : Shape := ⟨3, ![1, 2048, 704]⟩
abbrev S1x640x704 : Shape := ⟨3, ![1, 640, 704]⟩
abbrev S2048x704 : Shape := ⟨2, ![2048, 704]⟩
abbrev S640x704 : Shape := ⟨2, ![640, 704]⟩

abbrev nBuf : Space → Nat
  | .hbm => 7
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S8x2048x704, .bf16⟩
  | .hbm, ⟨2, _⟩ => ⟨S8x2048x704, .bf16⟩
  | .hbm, ⟨3, _⟩ => ⟨S8320x2048, .bf16⟩
  | .hbm, ⟨4, _⟩ => ⟨S8x8320x704, .f32⟩
  | .hbm, ⟨5, _⟩ => ⟨S8x8320x704, .f32⟩
  | .hbm, ⟨6, _⟩ => ⟨S8x8320x704, .bf16⟩
  | .local _ .vmem, ⟨0, _⟩ => ⟨S640x2048, .bf16⟩
  | .local _ .vmem, ⟨1, _⟩ => ⟨S640x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x640x704, .f32⟩
  | .local _ .vmem, ⟨7, _⟩ => ⟨S1x640x704, .f32⟩
  | .local _ .vmem, ⟨8, _⟩ => ⟨S1x640x704, .f32⟩
  | .local _ .vmem, ⟨9, _⟩ => ⟨S1x640x704, .f32⟩
  | .local _ .vmem, ⟨10, _⟩ => ⟨S1x640x704, .bf16⟩
  | .local _ .vmem, ⟨11, _⟩ => ⟨S1x640x704, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x640x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x640x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x640x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S8320x2048 : Shape := ⟨2, ![8320, 2048]⟩
abbrev S8x2048x704 : Shape := ⟨3, ![8, 2048, 704]⟩
abbrev S2048x8x704 : Shape := ⟨3, ![2048, 8, 704]⟩
abbrev S2048x5632 : Shape := ⟨2, ![2048, 5632]⟩
abbrev S8320x5632 : Shape := ⟨2, ![8320, 5632]⟩
abbrev S_ : Shape := ⟨0, ![]⟩
abbrev S8320x8x704 : Shape := ⟨3, ![8320, 8, 704]⟩
abbrev S8x8320x704 : Shape := ⟨3, ![8, 8320, 704]⟩

abbrev nBuf : Space → Nat
  | .hbm => 40
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8x2048x704, .bf16⟩
  | .hbm, ⟨2, _⟩ => ⟨S8x2048x704, .bf16⟩
  | .hbm, ⟨3, _⟩ => ⟨S8x2048x704, .f32⟩
  | .hbm, ⟨4, _⟩ => ⟨S2048x8x704, .f32⟩
  | .hbm, ⟨5, _⟩ => ⟨S2048x5632, .f32⟩
  | .hbm, ⟨6, _⟩ => ⟨S8320x5632, .f32⟩
  | .hbm, ⟨7, _⟩ => ⟨S8x2048x704, .f32⟩
  | .hbm, ⟨8, _⟩ => ⟨S2048x8x704, .f32⟩
  | .hbm, ⟨9, _⟩ => ⟨S2048x5632, .f32⟩
  | .hbm, ⟨10, _⟩ => ⟨S8320x5632, .f32⟩
  | .hbm, ⟨11, _⟩ => ⟨S8320x5632, .f32⟩
  | .hbm, ⟨12, _⟩ => ⟨S8320x5632, .f32⟩
  | .hbm, ⟨13, _⟩ => ⟨S_, .f32⟩
  | .hbm, ⟨14, _⟩ => ⟨S8320x5632, .f32⟩
  | .hbm, ⟨15, _⟩ => ⟨S8320x5632, .f32⟩
  | .hbm, ⟨16, _⟩ => ⟨S_, .f32⟩
  | .hbm, ⟨17, _⟩ => ⟨S8320x5632, .f32⟩
  | .hbm, ⟨18, _⟩ => ⟨S8320x5632, .f32⟩
  | .hbm, ⟨19, _⟩ => ⟨S_, .f32⟩
  | .hbm, ⟨20, _⟩ => ⟨S8320x5632, .f32⟩
  | .hbm, ⟨21, _⟩ => ⟨S8320x5632, .f32⟩
  | .hbm, ⟨22, _⟩ => ⟨S8320x5632, .f32⟩
  | .hbm, ⟨23, _⟩ => ⟨S8320x5632, .f32⟩
  | .hbm, ⟨24, _⟩ => ⟨S8320x5632, .f32⟩
  | .hbm, ⟨25, _⟩ => ⟨S_, .f32⟩
  | .hbm, ⟨26, _⟩ => ⟨S8320x5632, .f32⟩
  | .hbm, ⟨27, _⟩ => ⟨S8320x5632, .f32⟩
  | .hbm, ⟨28, _⟩ => ⟨S8320x5632, .f32⟩
  | .hbm, ⟨29, _⟩ => ⟨S8320x5632, .f32⟩
  | .hbm, ⟨30, _⟩ => ⟨S8320x5632, .f32⟩
  | .hbm, ⟨31, _⟩ => ⟨S8320x5632, .f32⟩
  | .hbm, ⟨32, _⟩ => ⟨S8320x5632, .f32⟩
  | .hbm, ⟨33, _⟩ => ⟨S8320x8x704, .f32⟩
  | .hbm, ⟨34, _⟩ => ⟨S8x8320x704, .f32⟩
  | .hbm, ⟨35, _⟩ => ⟨S8320x8x704, .f32⟩
  | .hbm, ⟨36, _⟩ => ⟨S8x8320x704, .f32⟩
  | .hbm, ⟨37, _⟩ => ⟨S8320x8x704, .f32⟩
  | .hbm, ⟨38, _⟩ => ⟨S8x8320x704, .f32⟩
  | .hbm, ⟨39, _⟩ => ⟨S8x8320x704, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel7.lean ====
abbrev S8320x2048 : Shape := ⟨2, ![8320, 2048]⟩
abbrev S8320x11264 : Shape := ⟨2, ![8320, 11264]⟩
abbrev S8x2048x1408 : Shape := ⟨3, ![8, 2048, 1408]⟩
abbrev S1664x2048 : Shape := ⟨2, ![1664, 2048]⟩
abbrev S1664x1408 : Shape := ⟨2, ![1664, 1408]⟩
abbrev S1x2048x1408 : Shape := ⟨3, ![1, 2048, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .f32⟩
  | .hbm, ⟨1, _⟩ => ⟨S8320x11264, .bf16⟩
  | .hbm, ⟨2, _⟩ => ⟨S8320x2048, .bf16⟩
  | .hbm, ⟨3, _⟩ => ⟨S8x2048x1408, .bf16⟩
  | .local _ .vmem, ⟨0, _⟩ => ⟨S1664x2048, .bf16⟩
  | .local _ .vmem, ⟨1, _⟩ => ⟨S1664x2048, .bf16⟩
  | .local _ .vmem, ⟨2, _⟩ => ⟨S1664x1408, .bf16⟩
  | .local _ .vmem, ⟨3, _⟩ => ⟨S1664x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8320x2048 : Shape := ⟨2, ![8320, 2048]⟩
abbrev S8320x11264 : Shape := ⟨2, ![8320, 11264]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S11264x2048 : Shape := ⟨2, ![11264, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x11264, .bf16⟩
  | .hbm, ⟨2, _⟩ => ⟨S_, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S8320x11264, .f32⟩
  | .hbm, ⟨7, _⟩ => ⟨S8320x11264, .f32⟩
  | .hbm, ⟨8, _⟩ => ⟨S11264x2048, .f32⟩
  | .hbm, ⟨9, _⟩ => ⟨S2048x11264, .f32⟩
  | .hbm, ⟨10, _⟩ => ⟨S2048x8x1408, .f32⟩
  | .hbm, ⟨11, _⟩ => ⟨S8x2048x1408, .f32⟩
  | .hbm, ⟨12, _⟩ => ⟨S8x2048x1408, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S8320x11264 : Shape := ⟨2, ![8320, 11264]⟩
abbrev S8x2048x1408 : Shape := ⟨3, ![8, 2048, 1408]⟩
abbrev S8320x2048 : Shape := ⟨2, ![8320, 2048]⟩
abbrev S640x2816 : Shape := ⟨2, ![640, 2816]⟩
abbrev S2x2048x1408 : Shape := ⟨3, ![2, 2048, 1408]⟩
abbrev S640x2048 : Shape := ⟨2, ![640, 2048]⟩
abbrev S640x1408 : Shape := ⟨2, ![640, 1408]⟩
abbrev S1x2048x1408 : Shape := ⟨3, ![1, 2048, 1408]⟩
abbrev S2048x1408 : Shape := ⟨2, ![2048, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8320x11264, .bf16⟩
  | .hbm, ⟨1, _⟩ => ⟨S8x2048x1408, .bf16⟩
  | .hbm, ⟨2, _⟩ => ⟨S8320x2048, .f32⟩
  | .hbm, ⟨3, _⟩ => ⟨S8320x2048, .f32⟩
  | .local _ .vmem, ⟨0, _⟩ => ⟨S640x2816, .bf16⟩
  | .local _ .vmem, ⟨1, _⟩ => ⟨S640x2816, .bf16⟩
  | .local _ .vmem, ⟨2, _⟩ => ⟨S2x2048x1408, .bf16⟩
  | .local _ .vmem, ⟨3, _⟩ => ⟨S2x2048x1408, .bf16⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | .local _ .vmem, ⟨7, _⟩ => ⟨S640x2048, .f32⟩
  | .local _ .vmem, ⟨8, _⟩ => ⟨S640x2048, .f32⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference8Ideal.lean ====
abbrev S8320x11264 : Shape := ⟨2, ![8320, 11264]⟩
abbrev S8x2048x1408 : Shape := ⟨3, ![8, 2048, 1408]⟩
abbrev S8320x2048 : Shape := ⟨2, ![8320, 2048]⟩
abbrev S2048x8x1408 : Shape := ⟨3, ![2048, 8, 1408]⟩
abbrev S2048x11264 : Shape := ⟨2, ![2048, 11264]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8320x11264, .bf16⟩
  | .hbm, ⟨1, _⟩ => ⟨S8x2048x1408, .bf16⟩
  | .hbm, ⟨2, _⟩ => ⟨S8320x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S_, .f32⟩
  | .hbm, ⟨7, _⟩ => ⟨S8320x2048, .f32⟩
  | .hbm, ⟨8, _⟩ => ⟨S_, .f32⟩
  | .hbm, ⟨9, _⟩ => ⟨S8320x2048, .f32⟩
  | .hbm, ⟨10, _⟩ => ⟨S8320x2048, .f32⟩
  | .hbm, ⟨11, _⟩ => ⟨S8320x11264, .f32⟩
  | .hbm, ⟨12, _⟩ => ⟨S8320x11264, .f32⟩
  | .hbm, ⟨13, _⟩ => ⟨S8320x2048, .f32⟩
  | .hbm, ⟨14, _⟩ => ⟨S_, .f32⟩
  | .hbm, ⟨15, _⟩ => ⟨S8320x2048, .f32⟩
  | .hbm, ⟨16, _⟩ => ⟨S8320x2048, .f32⟩
  | .hbm, ⟨17, _⟩ => ⟨S8320x2048, .f32⟩
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel9.lean ====
abbrev S8320x2048 : Shape := ⟨2, ![8320, 2048]⟩
abbrev S8x256x2048 : Shape := ⟨3, ![8, 256, 2048]⟩
abbrev S8320x11264 : Shape := ⟨2, ![8320, 11264]⟩
abbrev S1x4096 : Shape := ⟨2, ![1, 4096]⟩
abbrev S2048x2048 : Shape := ⟨2, ![2048, 2048]⟩
abbrev S1x2048 : Shape := ⟨2, ![1, 2048]⟩
abbrev S640x2048 : Shape := ⟨2, ![640, 2048]⟩
abbrev S512x2048 : Shape := ⟨2, ![512, 2048]⟩
abbrev S640x512 : Shape := ⟨2, ![640, 512]⟩
abbrev S1x512 : Shape := ⟨2, ![1, 512]⟩
abbrev S512 : Shape := ⟨1, ![512]⟩

abbrev nBuf : Space → Nat
  | .hbm => 14
  | .vmem => 28
  | .smem => 0
  | _ => 0

abbrev bufTy : (tb : Table) → Fin (tcTables nBuf tb) → BufTy
  | .hbm, ⟨0, _⟩ => ⟨S8320x2048, .f32⟩
  | .hbm, ⟨1, _⟩ => ⟨S8x256x2048, .bf16⟩
  | .hbm, ⟨2, _⟩ => ⟨S8320x11264, .f32⟩
  | .hbm, ⟨3, _⟩ => ⟨S1x4096, .f32⟩
  | .hbm, ⟨4, _⟩ => ⟨S8320x2048, .f32⟩
  | .hbm, ⟨5, _⟩ => ⟨S8320x2048, .f32⟩
  | .hbm, ⟨6, _⟩ => ⟨S8320x2048, .bf16⟩
  | .hbm, ⟨7, _⟩ => ⟨S2048x2048, .bf16⟩
  | .hbm, ⟨8, _⟩ => ⟨S8320x2048, .bf16⟩
  | .hbm, ⟨9, _⟩ => ⟨S8320x2048, .bf16⟩
  | .hbm, ⟨10, _⟩ => ⟨S8320x2048, .bf16⟩
  | .hbm, ⟨11, _⟩ => ⟨S8320x2048, .bf16⟩
  | .hbm, ⟨12, _⟩ => ⟨S1x2048, .f32⟩
  | .hbm, ⟨13, _⟩ => ⟨S1x2048, .f32⟩
  | .local _ .vmem, ⟨0, _⟩ => ⟨S640x2048, .bf16⟩
  | .local _ .vmem, ⟨1, _⟩ => ⟨S640x2048, .bf16⟩
  | .local _ .vmem, ⟨2, _⟩ => ⟨S512x2048, .bf16⟩
  | .local _ .vmem, ⟨3, _⟩ => ⟨S512x2048, .bf16⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S640x512, .f32⟩
  | .local _ .vmem, ⟨13, _⟩ => ⟨S640x512, .f32⟩
  | .local _ .vmem, ⟨14, _⟩ => ⟨S640x512, .f32⟩
  | .local _ .vmem, ⟨15, _⟩ => ⟨S640x512, .f32⟩
  | .local _ .vmem, ⟨16, _⟩ => ⟨S640x512, .bf16⟩
  | .local _ .vmem, ⟨17, _⟩ => ⟨S640x512, .bf16⟩
  | .local _ .vmem, ⟨18, _⟩ => ⟨S640x512, .bf16⟩
  | .local _ .vmem, ⟨19, _⟩ => ⟨S640x512, .bf16⟩
  | .local _ .vmem, ⟨20, _⟩ => ⟨S640x512, .bf16⟩
  | .local _ .vmem, ⟨21, _⟩ => ⟨S640x512, .bf16⟩
  | .local _ .vmem, ⟨22, _⟩ => ⟨S640x512, .bf16⟩
  | .local _ .vmem, ⟨23, _⟩ => ⟨S640x512, .bf16⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![4, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S640x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S640x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S640x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S640x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S640x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]
-- ==== Reference9Ideal.lean ====
abbrev S8320x2048 : Shape := ⟨2, ![8320, 2048]⟩
abbrev S8x256x2048 : Shape := ⟨3, ![8, 256, 2048]⟩
abbrev S8320x11264 : Shape := ⟨2, ![8320, 11264]⟩
abbrev S1x4096 : Shape := ⟨2, ![1, 4096]⟩
abbrev S2048x2048 : Shape := ⟨2, ![2048, 2048]⟩
abbrev S8320x4096 : Shape := ⟨2, ![8320, 4096]⟩
abbrev S_ : Shape := ⟨0, ![]⟩
abbrev S4096 : Shape := ⟨1, ![4096]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8x256x2048, .bf16⟩
  | .hbm, ⟨2, _⟩ => ⟨S8320x11264, .f32⟩
  | .hbm, ⟨3, _⟩ => ⟨S1x4096, .f32⟩
  | .hbm, ⟨4, _⟩ => ⟨S8320x2048, .f32⟩
  | .hbm, ⟨5, _⟩ => ⟨S8320x2048, .f32⟩
  | .hbm, ⟨6, _⟩ => ⟨S8x256x2048, .f32⟩
  | .hbm, ⟨7, _⟩ => ⟨S2048x2048, .f32⟩
  | .hbm, ⟨8, _⟩ => ⟨S8320x4096, .f32⟩
  | .hbm, ⟨9, _⟩ => ⟨S8320x4096, .f32⟩
  | .hbm, ⟨10, _⟩ => ⟨S8320x4096, .f32⟩
  | .hbm, ⟨11, _⟩ => ⟨S8320x4096, .f32⟩
  | .hbm, ⟨12, _⟩ => ⟨S8320x4096, .f32⟩
  | .hbm, ⟨13, _⟩ => ⟨S_, .f32⟩
  | .hbm, ⟨14, _⟩ => ⟨S8320x4096, .f32⟩
  | .hbm, ⟨15, _⟩ => ⟨S8320x4096, .f32⟩
  | .hbm, ⟨16, _⟩ => ⟨S_, .f32⟩
  | .hbm, ⟨17, _⟩ => ⟨S8320x4096, .f32⟩
  | .hbm, ⟨18, _⟩ => ⟨S8320x4096, .f32⟩
  | .hbm, ⟨19, _⟩ => ⟨S_, .f32⟩
  | .hbm, ⟨20, _⟩ => ⟨S8320x4096, .f32⟩
  | .hbm, ⟨21, _⟩ => ⟨S8320x4096, .f32⟩
  | .hbm, ⟨22, _⟩ => ⟨S8320x4096, .f32⟩
  | .hbm, ⟨23, _⟩ => ⟨S8320x2048, .f32⟩
  | .hbm, ⟨24, _⟩ => ⟨S8320x2048, .f32⟩
  | .hbm, ⟨25, _⟩ => ⟨S8320x2048, .f32⟩
  | .hbm, ⟨26, _⟩ => ⟨S8320x2048, .f32⟩
  | .hbm, ⟨27, _⟩ => ⟨S8320x2048, .f32⟩
  | .hbm, ⟨28, _⟩ => ⟨S8320x2048, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S8320x2048, .f32⟩
  | .hbm, ⟨33, _⟩ => ⟨S8320x2048, .f32⟩
  | .hbm, ⟨34, _⟩ => ⟨S8320x4096, .f32⟩
  | .hbm, ⟨35, _⟩ => ⟨S8320x4096, .f32⟩
  | .hbm, ⟨36, _⟩ => ⟨S_, .f32⟩
  | .hbm, ⟨37, _⟩ => ⟨S4096, .f32⟩
  | .hbm, ⟨38, _⟩ => ⟨S1x4096, .f32⟩
  | .hbm, ⟨39, _⟩ => ⟨S8320x2048, .bf16⟩
  | .hbm, ⟨40, _⟩ => ⟨S8320x2048, .bf16⟩
  | .hbm, ⟨41, _⟩ => ⟨S8320x2048, .f32⟩
  | .hbm, ⟨42, _⟩ => ⟨S8320x2048, .bf16⟩
  | .hbm, ⟨43, _⟩ => ⟨S8320x2048, .f32⟩
  | .hbm, ⟨44, _⟩ => ⟨S8320x2048, .bf16⟩
  | .hbm, ⟨45, _⟩ => ⟨S1x2048, .f32⟩
  | .hbm, ⟨46, _⟩ => ⟨S1x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel10.lean ====
abbrev S8320x1024 : Shape := ⟨2, ![8320, 1024]⟩
abbrev S8320x2048 : Shape := ⟨2, ![8320, 2048]⟩
abbrev S8x1024x256 : Shape := ⟨3, ![8, 1024, 256]⟩
abbrev S1664x1024 : Shape := ⟨2, ![1664, 1024]⟩
abbrev S1664x256 : Shape := ⟨2, ![1664, 256]⟩
abbrev S1x1024x256 : Shape := ⟨3, ![1, 1024, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S8x1024x256, .bf16⟩
  | .local _ .vmem, ⟨0, _⟩ => ⟨S1664x1024, .bf16⟩
  | .local _ .vmem, ⟨1, _⟩ => ⟨S1664x1024, .bf16⟩
  | .local _ .vmem, ⟨2, _⟩ => ⟨S1664x256, .bf16⟩
  | .local _ .vmem, ⟨3, _⟩ => ⟨S1664x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8320x1024 : Shape := ⟨2, ![8320, 1024]⟩
abbrev S8320x2048 : Shape := ⟨2, ![8320, 2048]⟩
abbrev S_ : Shape := ⟨0, ![]⟩
abbrev S8x1024x256 : Shape := ⟨3, ![8, 1024, 256]⟩
abbrev S1024x8x256 : Shape := ⟨3, ![1024, 8, 256]⟩
abbrev S1024x2048 : Shape := ⟨2, ![1024, 2048]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S8320x1024, .f32⟩
  | .hbm, ⟨3, _⟩ => ⟨S_, .f32⟩
  | .hbm, ⟨4, _⟩ => ⟨S8x1024x256, .f32⟩
  | .hbm, ⟨5, _⟩ => ⟨S1024x8x256, .f32⟩
  | .hbm, ⟨6, _⟩ => ⟨S1024x2048, .f32⟩
  | .hbm, ⟨7, _⟩ => ⟨S8320x2048, .f32⟩
  | .hbm, ⟨8, _⟩ => ⟨S8320x2048, .f32⟩
  | .hbm, ⟨9, _⟩ => ⟨S2048x1024, .f32⟩
  | .hbm, ⟨10, _⟩ => ⟨S1024x2048, .f32⟩
  | .hbm, ⟨11, _⟩ => ⟨S1024x8x256, .f32⟩
  | .hbm, ⟨12, _⟩ => ⟨S8x1024x256, .f32⟩
  | .hbm, ⟨13, _⟩ => ⟨S8x1024x256, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel11.lean ====
abbrev S8320x2048 : Shape := ⟨2, ![8320, 2048]⟩
abbrev S8x256x2048 : Shape := ⟨3, ![8, 256, 2048]⟩
abbrev S1664x256 : Shape := ⟨2, ![1664, 256]⟩
abbrev S1664x2048 : Shape := ⟨2, ![1664, 2048]⟩
abbrev S1x256x2048 : Shape := ⟨3, ![1, 256, 2048]⟩
abbrev S256x2048 : Shape := ⟨2, ![256, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .f32⟩
  | .hbm, ⟨2, _⟩ => ⟨S8320x2048, .bf16⟩
  | .hbm, ⟨3, _⟩ => ⟨S8x256x2048, .bf16⟩
  | .local _ .vmem, ⟨0, _⟩ => ⟨S1664x256, .bf16⟩
  | .local _ .vmem, ⟨1, _⟩ => ⟨S1664x256, .bf16⟩
  | .local _ .vmem, ⟨2, _⟩ => ⟨S1664x2048, .bf16⟩
  | .local _ .vmem, ⟨3, _⟩ => ⟨S1664x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S256x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1664x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S8320x2048 : Shape := ⟨2, ![8320, 2048]⟩
abbrev S_ : Shape := ⟨0, ![]⟩
abbrev S8x256x2048 : Shape := ⟨3, ![8, 256, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .f32⟩
  | .hbm, ⟨2, _⟩ => ⟨S8320x2048, .f32⟩
  | .hbm, ⟨3, _⟩ => ⟨S_, .f32⟩
  | .hbm, ⟨4, _⟩ => ⟨S8x256x2048, .f32⟩
  | .hbm, ⟨5, _⟩ => ⟨S2048x2048, .f32⟩
  | .hbm, ⟨6, _⟩ => ⟨S8320x2048, .f32⟩
  | .hbm, ⟨7, _⟩ => ⟨S2048x2048, .f32⟩
  | .hbm, ⟨8, _⟩ => ⟨S2048x2048, .f32⟩
  | .hbm, ⟨9, _⟩ => ⟨S8x256x2048, .f32⟩
  | .hbm, ⟨10, _⟩ => ⟨S8x256x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8320x2048 : Shape := ⟨2, ![8320, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S8320x1024 : Shape := ⟨2, ![8320, 1024]⟩
abbrev S640x2048 : Shape := ⟨2, ![640, 2048]⟩
abbrev S640x1024 : Shape := ⟨2, ![640, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S8x1024x256, .bf16⟩
  | .hbm, ⟨2, _⟩ => ⟨S1024x8x256, .bf16⟩
  | .hbm, ⟨3, _⟩ => ⟨S1024x2048, .bf16⟩
  | .hbm, ⟨4, _⟩ => ⟨S8320x1024, .f32⟩
  | .local _ .vmem, ⟨0, _⟩ => ⟨S640x2048, .bf16⟩
  | .local _ .vmem, ⟨1, _⟩ => ⟨S640x2048, .bf16⟩
  | .local _ .vmem, ⟨2, _⟩ => ⟨S1024x2048, .bf16⟩
  | .local _ .vmem, ⟨3, _⟩ => ⟨S640x1024, .f32⟩
  | .local _ .vmem, ⟨4, _⟩ => ⟨S640x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S8320x2048 : Shape := ⟨2, ![8320, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S8320x1024 : Shape := ⟨2, ![8320, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8x1024x256, .bf16⟩
  | .hbm, ⟨2, _⟩ => ⟨S8x1024x256, .f32⟩
  | .hbm, ⟨3, _⟩ => ⟨S1024x8x256, .f32⟩
  | .hbm, ⟨4, _⟩ => ⟨S1024x2048, .f32⟩
  | .hbm, ⟨5, _⟩ => ⟨S_, .f32⟩
  | .hbm, ⟨6, _⟩ => ⟨S8320x1024, .f32⟩
  | .hbm, ⟨7, _⟩ => ⟨S8320x2048, .f32⟩
  | .hbm, ⟨8, _⟩ => ⟨S8320x2048, .f32⟩
  | .hbm, ⟨9, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8320x2048 : Shape := ⟨2, ![8320, 2048]⟩
abbrev S1x2048 : Shape := ⟨2, ![1, 2048]⟩
abbrev S320x2048 : Shape := ⟨2, ![320, 2048]⟩
abbrev S320 : Shape := ⟨1, ![320]⟩
abbrev S320x1 : Shape := ⟨2, ![320, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S8320x2048, .f32⟩
  | .hbm, ⟨3, _⟩ => ⟨S8320x2048, .f32⟩
  | .hbm, ⟨4, _⟩ => ⟨S8320x2048, .bf16⟩
  | .hbm, ⟨5, _⟩ => ⟨S1x2048, .f32⟩
  | .hbm, ⟨6, _⟩ => ⟨S1x2048, .f32⟩
  | .local _ .vmem, ⟨0, _⟩ => ⟨S320x2048, .f32⟩
  | .local _ .vmem, ⟨1, _⟩ => ⟨S320x2048, .f32⟩
  | .local _ .vmem, ⟨2, _⟩ => ⟨S1x2048, .f32⟩
  | .local _ .vmem, ⟨3, _⟩ => ⟨S320x2048, .f32⟩
  | .local _ .vmem, ⟨4, _⟩ => ⟨S320x2048, .f32⟩
  | .local _ .vmem, ⟨5, _⟩ => ⟨S320x2048, .f32⟩
  | .local _ .vmem, ⟨6, _⟩ => ⟨S320x2048, .f32⟩
  | .local _ .vmem, ⟨7, _⟩ => ⟨S320x2048, .bf16⟩
  | .local _ .vmem, ⟨8, _⟩ => ⟨S320x2048, .bf16⟩
  | .local _ .vmem, ⟨9, _⟩ => ⟨S1x2048, .f32⟩
  | .local _ .vmem, ⟨10, _⟩ => ⟨S1x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S8320x2048 : Shape := ⟨2, ![8320, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩
abbrev S2048 : Shape := ⟨1, ![2048]⟩

abbrev nBuf : Space → Nat
  | .hbm => 84
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S8320x2048, .f32⟩
  | .hbm, ⟨3, _⟩ => ⟨S_, .f32⟩
  | .hbm, ⟨4, _⟩ => ⟨S1x2048, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S8320x2048, .f32⟩
  | .hbm, ⟨12, _⟩ => ⟨S8320x2048, .f32⟩
  | .hbm, ⟨13, _⟩ => ⟨S8320x2048, .f32⟩
  | .hbm, ⟨14, _⟩ => ⟨S_, .f32⟩
  | .hbm, ⟨15, _⟩ => ⟨S8320x2048, .f32⟩
  | .hbm, ⟨16, _⟩ => ⟨S8320x2048, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x2048, .f32⟩
  | .hbm, ⟨24, _⟩ => ⟨S8320x2048, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x1, .f32⟩
  | .hbm, ⟨29, _⟩ => ⟨S8320x1, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x2048, .f32⟩
  | .hbm, ⟨34, _⟩ => ⟨S8320x2048, .f32⟩
  | .hbm, ⟨35, _⟩ => ⟨S8320x2048, .f32⟩
  | .hbm, ⟨36, _⟩ => ⟨S8320x2048, .f32⟩
  | .hbm, ⟨37, _⟩ => ⟨S8320x2048, .f32⟩
  | .hbm, ⟨38, _⟩ => ⟨S8320x2048, .f32⟩
  | .hbm, ⟨39, _⟩ => ⟨S8320x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8320x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8320x2048, .f32⟩
  | .hbm, ⟨48, _⟩ => ⟨S8320x2048, .f32⟩
  | .hbm, ⟨49, _⟩ => ⟨S8320x2048, .f32⟩
  | .hbm, ⟨50, _⟩ => ⟨S_, .f32⟩
  | .hbm, ⟨51, _⟩ => ⟨S8320, .f32⟩
  | .hbm, ⟨52, _⟩ => ⟨S8320x1, .f32⟩
  | .hbm, ⟨53, _⟩ => ⟨S8320x2048, .f32⟩
  | .hbm, ⟨54, _⟩ => ⟨S8320x2048, .f32⟩
  | .hbm, ⟨55, _⟩ => ⟨S8320x1, .f32⟩
  | .hbm, ⟨56, _⟩ => ⟨S8320x2048, .f32⟩
  | .hbm, ⟨57, _⟩ => ⟨S_, .f32⟩
  | .hbm, ⟨58, _⟩ => ⟨S8320, .f32⟩
  | .hbm, ⟨59, _⟩ => ⟨S8320x1, .f32⟩
  | .hbm, ⟨60, _⟩ => ⟨S_, .f32⟩
  | .hbm, ⟨61, _⟩ => ⟨S8320x1, .f32⟩
  | .hbm, ⟨62, _⟩ => ⟨S8320x1, .f32⟩
  | .hbm, ⟨63, _⟩ => ⟨S_, .f32⟩
  | .hbm, ⟨64, _⟩ => ⟨S8320, .f32⟩
  | .hbm, ⟨65, _⟩ => ⟨S8320x2048, .f32⟩
  | .hbm, ⟨66, _⟩ => ⟨S8320x2048, .f32⟩
  | .hbm, ⟨67, _⟩ => ⟨S8320x2048, .f32⟩
  | .hbm, ⟨68, _⟩ => ⟨S_, .f32⟩
  | .hbm, ⟨69, _⟩ => ⟨S8320, .f32⟩
  | .hbm, ⟨70, _⟩ => ⟨S8320x1, .f32⟩
  | .hbm, ⟨71, _⟩ => ⟨S8320x2048, .f32⟩
  | .hbm, ⟨72, _⟩ => ⟨S8320x1, .f32⟩
  | .hbm, ⟨73, _⟩ => ⟨S_, .f32⟩
  | .hbm, ⟨74, _⟩ => ⟨S8320x1, .f32⟩
  | .hbm, ⟨75, _⟩ => ⟨S8320x1, .f32⟩
  | .hbm, ⟨76, _⟩ => ⟨S_, .f32⟩
  | .hbm, ⟨77, _⟩ => ⟨S8320, .f32⟩
  | .hbm, ⟨78, _⟩ => ⟨S8320x2048, .f32⟩
  | .hbm, ⟨79, _⟩ => ⟨S8320x2048, .f32⟩
  | .hbm, ⟨80, _⟩ => ⟨S_, .f32⟩
  | .hbm, ⟨81, _⟩ => ⟨S8320x2048, .f32⟩
  | .hbm, ⟨82, _⟩ => ⟨S8320x2048, .f32⟩
  | .hbm, ⟨83, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_16 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel14.lean ====
abbrev S8320x2048 : Shape := ⟨2, ![8320, 2048]⟩
abbrev S8x2048x1408 : Shape := ⟨3, ![8, 2048, 1408]⟩
abbrev S8320x11264 : Shape := ⟨2, ![8320, 11264]⟩
abbrev S640x2048 : Shape := ⟨2, ![640, 2048]⟩
abbrev S1x2048x1408 : Shape := ⟨3, ![1, 2048, 1408]⟩
abbrev S640x1408 : Shape := ⟨2, ![640, 1408]⟩
abbrev S2048x1408 : Shape := ⟨2, ![2048, 1408]⟩

abbrev nBuf : Space → Nat
  | .hbm => 5
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S8x2048x1408, .bf16⟩
  | .hbm, ⟨2, _⟩ => ⟨S8320x2048, .bf16⟩
  | .hbm, ⟨3, _⟩ => ⟨S8320x11264, .f32⟩
  | .hbm, ⟨4, _⟩ => ⟨S8320x11264, .bf16⟩
  | .local _ .vmem, ⟨0, _⟩ => ⟨S640x2048, .bf16⟩
  | .local _ .vmem, ⟨1, _⟩ => ⟨S640x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S640x1408, .f32⟩
  | .local _ .vmem, ⟨5, _⟩ => ⟨S640x1408, .f32⟩
  | .local _ .vmem, ⟨6, _⟩ => ⟨S640x1408, .bf16⟩
  | .local _ .vmem, ⟨7, _⟩ => ⟨S640x1408, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8320x2048 : Shape := ⟨2, ![8320, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S8320x11264 : Shape := ⟨2, ![8320, 11264]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S8320x11264, .f32⟩
  | .hbm, ⟨6, _⟩ => ⟨S8320x11264, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S8320x1024 : Shape := ⟨2, ![8320, 1024]⟩
abbrev S8x1024x256 : Shape := ⟨3, ![8, 1024, 256]⟩
abbrev S8320x11264 : Shape := ⟨2, ![8320, 11264]⟩
abbrev S1x4096 : Shape := ⟨2, ![1, 4096]⟩
abbrev S1024x8x256 : Shape := ⟨3, ![1024, 8, 256]⟩
abbrev S1024x2048 : Shape := ⟨2, ![1024, 2048]⟩
abbrev S8320x2048 : Shape := ⟨2, ![8320, 2048]⟩
abbrev S640x1024 : Shape := ⟨2, ![640, 1024]⟩
abbrev S1024x512 : Shape := ⟨2, ![1024, 512]⟩
abbrev S640x512 : Shape := ⟨2, ![640, 512]⟩
abbrev S1x512 : Shape := ⟨2, ![1, 512]⟩

abbrev nBuf : Space → Nat
  | .hbm => 13
  | .vmem => 22
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8x1024x256, .bf16⟩
  | .hbm, ⟨3, _⟩ => ⟨S8x1024x256, .bf16⟩
  | .hbm, ⟨4, _⟩ => ⟨S8320x11264, .f32⟩
  | .hbm, ⟨5, _⟩ => ⟨S1x4096, .f32⟩
  | .hbm, ⟨6, _⟩ => ⟨S1024x8x256, .bf16⟩
  | .hbm, ⟨7, _⟩ => ⟨S1024x2048, .bf16⟩
  | .hbm, ⟨8, _⟩ => ⟨S1024x8x256, .bf16⟩
  | .hbm, ⟨9, _⟩ => ⟨S1024x2048, .bf16⟩
  | .hbm, ⟨10, _⟩ => ⟨S8320x2048, .f32⟩
  | .hbm, ⟨11, _⟩ => ⟨S8320x2048, .f32⟩
  | .hbm, ⟨12, _⟩ => ⟨S8320x2048, .bf16⟩
  | .local _ .vmem, ⟨0, _⟩ => ⟨S640x1024, .bf16⟩
  | .local _ .vmem, ⟨1, _⟩ => ⟨S640x1024, .bf16⟩
  | .local _ .vmem, ⟨2, _⟩ => ⟨S1024x512, .bf16⟩
  | .local _ .vmem, ⟨3, _⟩ => ⟨S1024x512, .bf16⟩
  | .local _ .vmem, ⟨4, _⟩ => ⟨S640x1024, .bf16⟩
  | .local _ .vmem, ⟨5, _⟩ => ⟨S640x1024, .bf16⟩
  | .local _ .vmem, ⟨6, _⟩ => ⟨S1024x512, .bf16⟩
  | .local _ .vmem, ⟨7, _⟩ => ⟨S1024x512, .bf16⟩
  | .local _ .vmem, ⟨8, _⟩ => ⟨S640x512, .f32⟩
  | .local _ .vmem, ⟨9, _⟩ => ⟨S640x512, .f32⟩
  | .local _ .vmem, ⟨10, _⟩ => ⟨S640x512, .f32⟩
  | .local _ .vmem, ⟨11, _⟩ => ⟨S640x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S640x512, .f32⟩
  | .local _ .vmem, ⟨17, _⟩ => ⟨S640x512, .f32⟩
  | .local _ .vmem, ⟨18, _⟩ => ⟨S640x512, .f32⟩
  | .local _ .vmem, ⟨19, _⟩ => ⟨S640x512, .f32⟩
  | .local _ .vmem, ⟨20, _⟩ => ⟨S640x512, .bf16⟩
  | .local _ .vmem, ⟨21, _⟩ => ⟨S640x512, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S640x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S640x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference15Ideal.lean ====
abbrev S8320x1024 : Shape := ⟨2, ![8320, 1024]⟩
abbrev S8x1024x256 : Shape := ⟨3, ![8, 1024, 256]⟩
abbrev S8320x11264 : Shape := ⟨2, ![8320, 11264]⟩
abbrev S1x4096 : Shape := ⟨2, ![1, 4096]⟩
abbrev S1024x8x256 : Shape := ⟨3, ![1024, 8, 256]⟩
abbrev S1024x2048 : Shape := ⟨2, ![1024, 2048]⟩
abbrev S8320x2048 : Shape := ⟨2, ![8320, 2048]⟩
abbrev S8320x4096 : Shape := ⟨2, ![8320, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8x1024x256, .bf16⟩
  | .hbm, ⟨3, _⟩ => ⟨S8x1024x256, .bf16⟩
  | .hbm, ⟨4, _⟩ => ⟨S8320x11264, .f32⟩
  | .hbm, ⟨5, _⟩ => ⟨S1x4096, .f32⟩
  | .hbm, ⟨6, _⟩ => ⟨S8320x1024, .f32⟩
  | .hbm, ⟨7, _⟩ => ⟨S8x1024x256, .f32⟩
  | .hbm, ⟨8, _⟩ => ⟨S1024x8x256, .f32⟩
  | .hbm, ⟨9, _⟩ => ⟨S1024x2048, .f32⟩
  | .hbm, ⟨10, _⟩ => ⟨S8320x2048, .f32⟩
  | .hbm, ⟨11, _⟩ => ⟨S8320x1024, .f32⟩
  | .hbm, ⟨12, _⟩ => ⟨S8x1024x256, .f32⟩
  | .hbm, ⟨13, _⟩ => ⟨S1024x8x256, .f32⟩
  | .hbm, ⟨14, _⟩ => ⟨S1024x2048, .f32⟩
  | .hbm, ⟨15, _⟩ => ⟨S8320x2048, .f32⟩
  | .hbm, ⟨16, _⟩ => ⟨S8320x4096, .f32⟩
  | .hbm, ⟨17, _⟩ => ⟨S8320x4096, .f32⟩
  | .hbm, ⟨18, _⟩ => ⟨S8320x4096, .f32⟩
  | .hbm, ⟨19, _⟩ => ⟨S8320x4096, .f32⟩
  | .hbm, ⟨20, _⟩ => ⟨S8320x4096, .f32⟩
  | .hbm, ⟨21, _⟩ => ⟨S_, .f32⟩
  | .hbm, ⟨22, _⟩ => ⟨S8320x4096, .f32⟩
  | .hbm, ⟨23, _⟩ => ⟨S8320x4096, .f32⟩
  | .hbm, ⟨24, _⟩ => ⟨S_, .f32⟩
  | .hbm, ⟨25, _⟩ => ⟨S8320x4096, .f32⟩
  | .hbm, ⟨26, _⟩ => ⟨S8320x4096, .f32⟩
  | .hbm, ⟨27, _⟩ => ⟨S8320x2048, .f32⟩
  | .hbm, ⟨28, _⟩ => ⟨S8320x2048, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel16.lean ====
abbrev S8x8320x704 : Shape := ⟨3, ![8, 8320, 704]⟩
abbrev S8x704x2048 : Shape := ⟨3, ![8, 704, 2048]⟩
abbrev S8320x2048 : Shape := ⟨2, ![8320, 2048]⟩
abbrev S1x2048 : Shape := ⟨2, ![1, 2048]⟩
abbrev S8x320x704 : Shape := ⟨3, ![8, 320, 704]⟩
abbrev S320x2048 : Shape := ⟨2, ![320, 2048]⟩
abbrev S1x320x704 : Shape := ⟨3, ![1, 320, 704]⟩
abbrev S320x704 : Shape := ⟨2, ![320, 704]⟩
abbrev S1x704x2048 : Shape := ⟨3, ![1, 704, 2048]⟩
abbrev S704x2048 : Shape := ⟨2, ![704, 2048]⟩
abbrev S320 : Shape := ⟨1, ![320]⟩
abbrev S320x1 : Shape := ⟨2, ![320, 1]⟩

abbrev nBuf : Space → Nat
  | .hbm => 8
  | .vmem => 13
  | .smem => 0
  | _ => 0

abbrev bufTy : (tb : Table) → Fin (tcTables nBuf tb) → BufTy
  | .hbm, ⟨0, _⟩ => ⟨S8x8320x704, .bf16⟩
  | .hbm, ⟨1, _⟩ => ⟨S8x704x2048, .bf16⟩
  | .hbm, ⟨2, _⟩ => ⟨S8320x2048, .f32⟩
  | .hbm, ⟨3, _⟩ => ⟨S1x2048, .f32⟩
  | .hbm, ⟨4, _⟩ => ⟨S1x2048, .f32⟩
  | .hbm, ⟨5, _⟩ => ⟨S8320x2048, .f32⟩
  | .hbm, ⟨6, _⟩ => ⟨S8320x2048, .f32⟩
  | .hbm, ⟨7, _⟩ => ⟨S8320x2048, .bf16⟩
  | .local _ .vmem, ⟨0, _⟩ => ⟨S8x320x704, .bf16⟩
  | .local _ .vmem, ⟨1, _⟩ => ⟨S8x320x704, .bf16⟩
  | .local _ .vmem, ⟨2, _⟩ => ⟨S8x704x2048, .bf16⟩
  | .local _ .vmem, ⟨3, _⟩ => ⟨S320x2048, .f32⟩
  | .local _ .vmem, ⟨4, _⟩ => ⟨S320x2048, .f32⟩
  | .local _ .vmem, ⟨5, _⟩ => ⟨S1x2048, .f32⟩
  | .local _ .vmem, ⟨6, _⟩ => ⟨S1x2048, .f32⟩
  | .local _ .vmem, ⟨7, _⟩ => ⟨S320x2048, .f32⟩
  | .local _ .vmem, ⟨8, _⟩ => ⟨S320x2048, .f32⟩
  | .local _ .vmem, ⟨9, _⟩ => ⟨S320x2048, .f32⟩
  | .local _ .vmem, ⟨10, _⟩ => ⟨S320x2048, .f32⟩
  | .local _ .vmem, ⟨11, _⟩ => ⟨S320x2048, .bf16⟩
  | .local _ .vmem, ⟨12, _⟩ => ⟨S320x2048, .bf16⟩
  | _, _ => ⟨S8x8320x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![26, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x320x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x704x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S320x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S320x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S320x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference16Ideal.lean ====
abbrev S8x8320x704 : Shape := ⟨3, ![8, 8320, 704]⟩
abbrev S8x704x2048 : Shape := ⟨3, ![8, 704, 2048]⟩
abbrev S8320x2048 : Shape := ⟨2, ![8320, 2048]⟩
abbrev S1x2048 : Shape := ⟨2, ![1, 2048]⟩
abbrev S_ : Shape := ⟨0, ![]⟩
abbrev S8320x8x704 : Shape := ⟨3, ![8320, 8, 704]⟩
abbrev S8320x5632 : Shape := ⟨2, ![8320, 5632]⟩
abbrev S5632x2048 : Shape := ⟨2, ![5632, 2048]⟩
abbrev S8320 : Shape := ⟨1, ![8320]⟩
abbrev S8320x1 : Shape := ⟨2, ![8320, 1]⟩

abbrev nBuf : Space → Nat
  | .hbm => 46
  | .vmem => 0
  | .smem => 0
  | _ => 0

abbrev bufTy : (tb : Table) → Fin (tcTables nBuf tb) → BufTy
  | .hbm, ⟨0, _⟩ => ⟨S8x8320x704, .bf16⟩
  | .hbm, ⟨1, _⟩ => ⟨S8x704x2048, .bf16⟩
  | .hbm, ⟨2, _⟩ => ⟨S8320x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8320x2048, .f32⟩
  | .hbm, ⟨7, _⟩ => ⟨S8320x2048, .f32⟩
  | .hbm, ⟨8, _⟩ => ⟨S8x8320x704, .f32⟩
  | .hbm, ⟨9, _⟩ => ⟨S8320x8x704, .f32⟩
  | .hbm, ⟨10, _⟩ => ⟨S8320x5632, .f32⟩
  | .hbm, ⟨11, _⟩ => ⟨S8x704x2048, .f32⟩
  | .hbm, ⟨12, _⟩ => ⟨S5632x2048, .f32⟩
  | .hbm, ⟨13, _⟩ => ⟨S8320x2048, .f32⟩
  | .hbm, ⟨14, _⟩ => ⟨S_, .f32⟩
  | .hbm, ⟨15, _⟩ => ⟨S8320x2048, .f32⟩
  | .hbm, ⟨16, _⟩ => ⟨S8320x2048, .f32⟩
  | .hbm, ⟨17, _⟩ => ⟨S8320x2048, .f32⟩
  | .hbm, ⟨18, _⟩ => ⟨S_, .f32⟩
  | .hbm, ⟨19, _⟩ => ⟨S8320, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x2048, .f32⟩
  | .hbm, ⟨25, _⟩ => ⟨S8320x2048, .f32⟩
  | .hbm, ⟨26, _⟩ => ⟨S8320x2048, .f32⟩
  | .hbm, ⟨27, _⟩ => ⟨S_, .f32⟩
  | .hbm, ⟨28, _⟩ => ⟨S8320, .f32⟩
  | .hbm, ⟨29, _⟩ => ⟨S8320x1, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x2048, .f32⟩
  | .hbm, ⟨34, _⟩ => ⟨S8320x2048, .f32⟩
  | .hbm, ⟨35, _⟩ => ⟨S_, .f32⟩
  | .hbm, ⟨36, _⟩ => ⟨S8320x1, .f32⟩
  | .hbm, ⟨37, _⟩ => ⟨S8320x1, .f32⟩
  | .hbm, ⟨38, _⟩ => ⟨S8320x1, .f32⟩
  | .hbm, ⟨39, _⟩ => ⟨S8320x2048, .f32⟩
  | .hbm, ⟨40, _⟩ => ⟨S8320x2048, .f32⟩
  | .hbm, ⟨41, _⟩ => ⟨S8320x2048, .f32⟩
  | .hbm, ⟨42, _⟩ => ⟨S8320x2048, .f32⟩
  | .hbm, ⟨43, _⟩ => ⟨S8320x2048, .f32⟩
  | .hbm, ⟨44, _⟩ => ⟨S8320x2048, .f32⟩
  | .hbm, ⟨45, _⟩ => ⟨S8320x2048, .bf16⟩
  | _, _ => ⟨S8x8320x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel17.lean ====
abbrev S8320x2048 : Shape := ⟨2, ![8320, 2048]⟩
abbrev S8x256x2048 : Shape := ⟨3, ![8, 256, 2048]⟩
abbrev S1x2048 : Shape := ⟨2, ![1, 2048]⟩
abbrev S2048x2048 : Shape := ⟨2, ![2048, 2048]⟩
abbrev S320x2048 : Shape := ⟨2, ![320, 2048]⟩
abbrev S320 : Shape := ⟨1, ![320]⟩
abbrev S320x1 : Shape := ⟨2, ![320, 1]⟩

abbrev nBuf : Space → Nat
  | .hbm => 9
  | .vmem => 13
  | .smem => 0
  | _ => 0

abbrev bufTy : (tb : Table) → Fin (tcTables nBuf tb) → BufTy
  | .hbm, ⟨0, _⟩ => ⟨S8320x2048, .bf16⟩
  | .hbm, ⟨1, _⟩ => ⟨S8x256x2048, .bf16⟩
  | .hbm, ⟨2, _⟩ => ⟨S8320x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S8320x2048, .f32⟩
  | .hbm, ⟨7, _⟩ => ⟨S8320x2048, .f32⟩
  | .hbm, ⟨8, _⟩ => ⟨S8320x2048, .bf16⟩
  | .local _ .vmem, ⟨0, _⟩ => ⟨S320x2048, .bf16⟩
  | .local _ .vmem, ⟨1, _⟩ => ⟨S320x2048, .bf16⟩
  | .local _ .vmem, ⟨2, _⟩ => ⟨S2048x2048, .bf16⟩
  | .local _ .vmem, ⟨3, _⟩ => ⟨S320x2048, .f32⟩
  | .local _ .vmem, ⟨4, _⟩ => ⟨S320x2048, .f32⟩
  | .local _ .vmem, ⟨5, _⟩ => ⟨S1x2048, .f32⟩
  | .local _ .vmem, ⟨6, _⟩ => ⟨S1x2048, .f32⟩
  | .local _ .vmem, ⟨7, _⟩ => ⟨S320x2048, .f32⟩
  | .local _ .vmem, ⟨8, _⟩ => ⟨S320x2048, .f32⟩
  | .local _ .vmem, ⟨9, _⟩ => ⟨S320x2048, .f32⟩
  | .local _ .vmem, ⟨10, _⟩ => ⟨S320x2048, .f32⟩
  | .local _ .vmem, ⟨11, _⟩ => ⟨S320x2048, .bf16⟩
  | .local _ .vmem, ⟨12, _⟩ => ⟨S320x2048, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S320x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S320x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S320x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S320x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference17Ideal.lean ====
abbrev S8320x2048 : Shape := ⟨2, ![8320, 2048]⟩
abbrev S8x256x2048 : Shape := ⟨3, ![8, 256, 2048]⟩
abbrev S1x2048 : Shape := ⟨2, ![1, 2048]⟩
abbrev S_ : Shape := ⟨0, ![]⟩
abbrev S2048x2048 : Shape := ⟨2, ![2048, 2048]⟩
abbrev S8320 : Shape := ⟨1, ![8320]⟩
abbrev S8320x1 : Shape := ⟨2, ![8320, 1]⟩

abbrev nBuf : Space → Nat
  | .hbm => 41
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8x256x2048, .bf16⟩
  | .hbm, ⟨2, _⟩ => ⟨S8320x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8320x2048, .f32⟩
  | .hbm, ⟨7, _⟩ => ⟨S8320x2048, .f32⟩
  | .hbm, ⟨8, _⟩ => ⟨S8320x2048, .f32⟩
  | .hbm, ⟨9, _⟩ => ⟨S8x256x2048, .f32⟩
  | .hbm, ⟨10, _⟩ => ⟨S2048x2048, .f32⟩
  | .hbm, ⟨11, _⟩ => ⟨S8320x2048, .f32⟩
  | .hbm, ⟨12, _⟩ => ⟨S8320x2048, .f32⟩
  | .hbm, ⟨13, _⟩ => ⟨S_, .f32⟩
  | .hbm, ⟨14, _⟩ => ⟨S8320, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x2048, .f32⟩
  | .hbm, ⟨20, _⟩ => ⟨S8320x2048, .f32⟩
  | .hbm, ⟨21, _⟩ => ⟨S8320x2048, .f32⟩
  | .hbm, ⟨22, _⟩ => ⟨S_, .f32⟩
  | .hbm, ⟨23, _⟩ => ⟨S8320, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x2048, .f32⟩
  | .hbm, ⟨29, _⟩ => ⟨S8320x2048, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x1, .f32⟩
  | .hbm, ⟨34, _⟩ => ⟨S8320x2048, .f32⟩
  | .hbm, ⟨35, _⟩ => ⟨S8320x2048, .f32⟩
  | .hbm, ⟨36, _⟩ => ⟨S8320x2048, .f32⟩
  | .hbm, ⟨37, _⟩ => ⟨S8320x2048, .f32⟩
  | .hbm, ⟨38, _⟩ => ⟨S8320x2048, .f32⟩
  | .hbm, ⟨39, _⟩ => ⟨S8320x2048, .f32⟩
  | .hbm, ⟨40, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel18.lean ====
abbrev S8320x2048 : Shape := ⟨2, ![8320, 2048]⟩
abbrev S1x2048 : Shape := ⟨2, ![1, 2048]⟩
abbrev S8192x2048 : Shape := ⟨2, ![8192, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S1x2048, .f32⟩
  | .hbm, ⟨3, _⟩ => ⟨S8192x2048, .f32⟩
  | .hbm, ⟨4, _⟩ => ⟨S8320x2048, .f32⟩
  | .hbm, ⟨5, _⟩ => ⟨S8320x2048, .bf16⟩
  | .hbm, ⟨6, _⟩ => ⟨S1x2048, .f32⟩
  | .hbm, ⟨7, _⟩ => ⟨S1x2048, .f32⟩
  | .hbm, ⟨8, _⟩ => ⟨S1x128, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | .local _ .vmem, ⟨10, _⟩ => ⟨S1x2048, .f32⟩
  | .local _ .vmem, ⟨11, _⟩ => ⟨S1x2048, .f32⟩
  | .local _ .vmem, ⟨12, _⟩ => ⟨S1x128, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S8320x2048 : Shape := ⟨2, ![8320, 2048]⟩
abbrev S1x2048 : Shape := ⟨2, ![1, 2048]⟩
abbrev S8192x2048 : Shape := ⟨2, ![8192, 2048]⟩
abbrev S_ : Shape := ⟨0, ![]⟩
abbrev S8320 : Shape := ⟨1, ![8320]⟩
abbrev S8320x1 : Shape := ⟨2, ![8320, 1]⟩
abbrev S8192 : Shape := ⟨1, ![8192]⟩
abbrev S2048 : Shape := ⟨1, ![2048]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S8320x2048, .f32⟩
  | .hbm, ⟨11, _⟩ => ⟨S8320x2048, .f32⟩
  | .hbm, ⟨12, _⟩ => ⟨S8320x2048, .f32⟩
  | .hbm, ⟨13, _⟩ => ⟨S_, .f32⟩
  | .hbm, ⟨14, _⟩ => ⟨S8320x2048, .f32⟩
  | .hbm, ⟨15, _⟩ => ⟨S8320x2048, .f32⟩
  | .hbm, ⟨16, _⟩ => ⟨S_, .f32⟩
  | .hbm, ⟨17, _⟩ => ⟨S8320, .f32⟩
  | .hbm, ⟨18, _⟩ => ⟨S8320x1, .f32⟩
  | .hbm, ⟨19, _⟩ => ⟨S_, .f32⟩
  | .hbm, ⟨20, _⟩ => ⟨S8320x1, .f32⟩
  | .hbm, ⟨21, _⟩ => ⟨S8320x1, .f32⟩
  | .hbm, ⟨22, _⟩ => ⟨S8320x2048, .f32⟩
  | .hbm, ⟨23, _⟩ => ⟨S8320x2048, .f32⟩
  | .hbm, ⟨24, _⟩ => ⟨S_, .f32⟩
  | .hbm, ⟨25, _⟩ => ⟨S8320x1, .f32⟩
  | .hbm, ⟨26, _⟩ => ⟨S8320x1, .f32⟩
  | .hbm, ⟨27, _⟩ => ⟨S8320x1, .f32⟩
  | .hbm, ⟨28, _⟩ => ⟨S8320x1, .f32⟩
  | .hbm, ⟨29, _⟩ => ⟨S_, .f32⟩
  | .hbm, ⟨30, _⟩ => ⟨S8320x1, .f32⟩
  | .hbm, ⟨31, _⟩ => ⟨S8320x1, .f32⟩
  | .hbm, ⟨32, _⟩ => ⟨S8320x2048, .f32⟩
  | .hbm, ⟨33, _⟩ => ⟨S8320x2048, .f32⟩
  | .hbm, ⟨34, _⟩ => ⟨S8320x2048, .f32⟩
  | .hbm, ⟨35, _⟩ => ⟨S8320x2048, .f32⟩
  | .hbm, ⟨36, _⟩ => ⟨S8320x2048, .f32⟩
  | .hbm, ⟨37, _⟩ => ⟨S8320x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8320x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S8320x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S8320x2048, .f32⟩
  | .hbm, ⟨72, _⟩ => ⟨S8320x2048, .f32⟩
  | .hbm, ⟨73, _⟩ => ⟨S8320x2048, .f32⟩
  | .hbm, ⟨74, _⟩ => ⟨S_, .f32⟩
  | .hbm, ⟨75, _⟩ => ⟨S8320, .f32⟩
  | .hbm, ⟨76, _⟩ => ⟨S8320x1, .f32⟩
  | .hbm, ⟨77, _⟩ => ⟨S8320x2048, .f32⟩
  | .hbm, ⟨78, _⟩ => ⟨S8320x2048, .f32⟩
  | .hbm, ⟨79, _⟩ => ⟨S8320x1, .f32⟩
  | .hbm, ⟨80, _⟩ => ⟨S8320x2048, .f32⟩
  | .hbm, ⟨81, _⟩ => ⟨S_, .f32⟩
  | .hbm, ⟨82, _⟩ => ⟨S8320, .f32⟩
  | .hbm, ⟨83, _⟩ => ⟨S8320x1, .f32⟩
  | .hbm, ⟨84, _⟩ => ⟨S_, .f32⟩
  | .hbm, ⟨85, _⟩ => ⟨S8320x1, .f32⟩
  | .hbm, ⟨86, _⟩ => ⟨S8320x1, .f32⟩
  | .hbm, ⟨87, _⟩ => ⟨S_, .f32⟩
  | .hbm, ⟨88, _⟩ => ⟨S8320, .f32⟩
  | .hbm, ⟨89, _⟩ => ⟨S8320x2048, .f32⟩
  | .hbm, ⟨90, _⟩ => ⟨S8320x2048, .f32⟩
  | .hbm, ⟨91, _⟩ => ⟨S8320x2048, .f32⟩
  | .hbm, ⟨92, _⟩ => ⟨S_, .f32⟩
  | .hbm, ⟨93, _⟩ => ⟨S8320, .f32⟩
  | .hbm, ⟨94, _⟩ => ⟨S8320x1, .f32⟩
  | .hbm, ⟨95, _⟩ => ⟨S8320x2048, .f32⟩
  | .hbm, ⟨96, _⟩ => ⟨S8320x1, .f32⟩
  | .hbm, ⟨97, _⟩ => ⟨S_, .f32⟩
  | .hbm, ⟨98, _⟩ => ⟨S8320x1, .f32⟩
  | .hbm, ⟨99, _⟩ => ⟨S8320x1, .f32⟩
  | .hbm, ⟨100, _⟩ => ⟨S_, .f32⟩
  | .hbm, ⟨101, _⟩ => ⟨S8320, .f32⟩
  | .hbm, ⟨102, _⟩ => ⟨S8320x2048, .f32⟩
  | .hbm, ⟨103, _⟩ => ⟨S8320x2048, .f32⟩
  | .hbm, ⟨104, _⟩ => ⟨S_, .f32⟩
  | .hbm, ⟨105, _⟩ => ⟨S8320x2048, .f32⟩
  | .hbm, ⟨106, _⟩ => ⟨S8320x2048, .f32⟩
  | .hbm, ⟨107, _⟩ => ⟨S8320x2048, .bf16⟩
  | .hbm, ⟨108, _⟩ => ⟨S1x128, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_cst_11 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_14 : Ref sig .tc := ⟨.hbm, 62, rfl⟩
abbrev main_v43 : Ref sig .tc := ⟨.hbm, 63, rfl⟩
abbrev main_cst_15 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_16 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_21 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_cst_23 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_24 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Kernel19.lean ====
abbrev S8320x2048 : Shape := ⟨2, ![8320, 2048]⟩
abbrev S1x2048 : Shape := ⟨2, ![1, 2048]⟩
abbrev S320x2048 : Shape := ⟨2, ![320, 2048]⟩
abbrev S320 : Shape := ⟨1, ![320]⟩
abbrev S320x1 : Shape := ⟨2, ![320, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S8320x2048, .f32⟩
  | .hbm, ⟨3, _⟩ => ⟨S8320x2048, .f32⟩
  | .hbm, ⟨4, _⟩ => ⟨S8320x2048, .bf16⟩
  | .hbm, ⟨5, _⟩ => ⟨S1x2048, .f32⟩
  | .hbm, ⟨6, _⟩ => ⟨S1x2048, .f32⟩
  | .local _ .vmem, ⟨0, _⟩ => ⟨S320x2048, .f32⟩
  | .local _ .vmem, ⟨1, _⟩ => ⟨S320x2048, .f32⟩
  | .local _ .vmem, ⟨2, _⟩ => ⟨S1x2048, .f32⟩
  | .local _ .vmem, ⟨3, _⟩ => ⟨S320x2048, .f32⟩
  | .local _ .vmem, ⟨4, _⟩ => ⟨S320x2048, .f32⟩
  | .local _ .vmem, ⟨5, _⟩ => ⟨S320x2048, .f32⟩
  | .local _ .vmem, ⟨6, _⟩ => ⟨S320x2048, .f32⟩
  | .local _ .vmem, ⟨7, _⟩ => ⟨S320x2048, .bf16⟩
  | .local _ .vmem, ⟨8, _⟩ => ⟨S320x2048, .bf16⟩
  | .local _ .vmem, ⟨9, _⟩ => ⟨S1x2048, .f32⟩
  | .local _ .vmem, ⟨10, _⟩ => ⟨S1x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S8320x2048 : Shape := ⟨2, ![8320, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩
abbrev S2048 : Shape := ⟨1, ![2048]⟩

abbrev nBuf : Space → Nat
  | .hbm => 81
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S8320x2048, .f32⟩
  | .hbm, ⟨3, _⟩ => ⟨S_, .f32⟩
  | .hbm, ⟨4, _⟩ => ⟨S1x2048, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S8320x2048, .f32⟩
  | .hbm, ⟨12, _⟩ => ⟨S8320x2048, .f32⟩
  | .hbm, ⟨13, _⟩ => ⟨S8320x2048, .f32⟩
  | .hbm, ⟨14, _⟩ => ⟨S_, .f32⟩
  | .hbm, ⟨15, _⟩ => ⟨S8320x2048, .f32⟩
  | .hbm, ⟨16, _⟩ => ⟨S8320x2048, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x2048, .f32⟩
  | .hbm, ⟨24, _⟩ => ⟨S8320x2048, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x1, .f32⟩
  | .hbm, ⟨29, _⟩ => ⟨S8320x1, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x2048, .f32⟩
  | .hbm, ⟨34, _⟩ => ⟨S8320x2048, .f32⟩
  | .hbm, ⟨35, _⟩ => ⟨S8320x2048, .f32⟩
  | .hbm, ⟨36, _⟩ => ⟨S8320x2048, .f32⟩
  | .hbm, ⟨37, _⟩ => ⟨S8320x2048, .f32⟩
  | .hbm, ⟨38, _⟩ => ⟨S8320x2048, .f32⟩
  | .hbm, ⟨39, _⟩ => ⟨S8320x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8320x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8320x2048, .f32⟩
  | .hbm, ⟨48, _⟩ => ⟨S8320x2048, .f32⟩
  | .hbm, ⟨49, _⟩ => ⟨S8320x2048, .f32⟩
  | .hbm, ⟨50, _⟩ => ⟨S_, .f32⟩
  | .hbm, ⟨51, _⟩ => ⟨S8320, .f32⟩
  | .hbm, ⟨52, _⟩ => ⟨S8320x1, .f32⟩
  | .hbm, ⟨53, _⟩ => ⟨S8320x2048, .f32⟩
  | .hbm, ⟨54, _⟩ => ⟨S8320x2048, .f32⟩
  | .hbm, ⟨55, _⟩ => ⟨S8320x1, .f32⟩
  | .hbm, ⟨56, _⟩ => ⟨S8320x2048, .f32⟩
  | .hbm, ⟨57, _⟩ => ⟨S_, .f32⟩
  | .hbm, ⟨58, _⟩ => ⟨S8320, .f32⟩
  | .hbm, ⟨59, _⟩ => ⟨S8320x1, .f32⟩
  | .hbm, ⟨60, _⟩ => ⟨S_, .f32⟩
  | .hbm, ⟨61, _⟩ => ⟨S8320x1, .f32⟩
  | .hbm, ⟨62, _⟩ => ⟨S8320x1, .f32⟩
  | .hbm, ⟨63, _⟩ => ⟨S_, .f32⟩
  | .hbm, ⟨64, _⟩ => ⟨S8320, .f32⟩
  | .hbm, ⟨65, _⟩ => ⟨S8320x2048, .f32⟩
  | .hbm, ⟨66, _⟩ => ⟨S8320x2048, .f32⟩
  | .hbm, ⟨67, _⟩ => ⟨S8320x2048, .f32⟩
  | .hbm, ⟨68, _⟩ => ⟨S_, .f32⟩
  | .hbm, ⟨69, _⟩ => ⟨S8320, .f32⟩
  | .hbm, ⟨70, _⟩ => ⟨S8320x1, .f32⟩
  | .hbm, ⟨71, _⟩ => ⟨S8320x2048, .f32⟩
  | .hbm, ⟨72, _⟩ => ⟨S8320x1, .f32⟩
  | .hbm, ⟨73, _⟩ => ⟨S_, .f32⟩
  | .hbm, ⟨74, _⟩ => ⟨S8320x1, .f32⟩
  | .hbm, ⟨75, _⟩ => ⟨S8320x1, .f32⟩
  | .hbm, ⟨76, _⟩ => ⟨S_, .f32⟩
  | .hbm, ⟨77, _⟩ => ⟨S8320, .f32⟩
  | .hbm, ⟨78, _⟩ => ⟨S8320x2048, .f32⟩
  | .hbm, ⟨79, _⟩ => ⟨S8320x2048, .f32⟩
  | .hbm, ⟨80, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Kernel20.lean ====
abbrev S2048x704 : Shape := ⟨2, ![2048, 704]⟩
abbrev S8x2048x704 : Shape := ⟨3, ![8, 2048, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .bf16⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2048x704 : Shape := ⟨2, ![2048, 704]⟩
abbrev S8x2048x704 : Shape := ⟨3, ![8, 2048, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .bf16⟩
  | .hbm, ⟨4, _⟩ => ⟨S8x2048x704, .f32⟩
  | .hbm, ⟨5, _⟩ => ⟨S_, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S_, .f32⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S_, .f32⟩
  | .hbm, ⟨26, _⟩ => ⟨S2048x704, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S1x2048 : Shape := ⟨2, ![1, 2048]⟩
abbrev S1x1x2048 : Shape := ⟨3, ![1, 1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S1x2048 : Shape := ⟨2, ![1, 2048]⟩
abbrev S1x1x2048 : Shape := ⟨3, ![1, 1, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x1x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.Words.lean ====
/-
  The words of the kernel's key-block loop: how many trips it makes for a count word `v`, which rows of the keys a
  trip reads and updates, and that every one of them lies inside the arrays, for every count word whatever.
-/
module

public import proofs.«01_k».proof.KernelIdeal
public import Idealize.ShloMosaic.Lib.Affine
public import Idealize.ShloMosaic.Lib.LoopRemainder

@[expose] public section

noncomputable section

namespace Cert.KernelIdeal.Hand

open Cert.KernelIdeal Idealize.ShloMosaic Idealize.ShloMosaic.Affine

/-- The literal 3, 1 and 0 as integers. -/
theorem isInt_three : IsInt 3#32 3 := Affine.ofNat 3 ⟨rfl, by decide⟩
theorem isInt_one : IsInt 1#32 1 := Affine.ofNat 1 ⟨rfl, by decide⟩
theorem isInt_zero : IsInt 0#32 0 := Affine.ofNat 0 ⟨rfl, by decide⟩

/-- A word divided by three and rounded down, as the kernel computes it. -/
@[reducible] def thirdW (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 3#32 0#32)) (Scalar.extui (Scalar.cmpi .slt 3#32 0#32))))
      (Scalar.cmpi .ne (Scalar.remsi v 3#32) 0#32))
    (Scalar.subi (Scalar.divsi v 3#32) 1#32) (Scalar.divsi v 3#32)

/-- Of a nonnegative count it is the quotient. -/
theorem thirdW_nonneg {v : BitVec 32} (h : 0 ≤ v.toInt) : IsInt (thirdW v) (v.toInt / 3) := by
  have hv := word v
  have hr := word_range v
  have hd := Affine.divsi hv isInt_three (e := v.toInt / 3) ⟨rfl, h, by decide⟩
  have hd1 := Affine.subi hd isInt_one (e := v.toInt / 3 - 1) ⟨rfl, by omega, by omega⟩
  refine select_fails ?_ hd1 hd rfl
  have hlt : Fails (Scalar.cmpi .slt v 0#32) := slt_fails hv isInt_zero (by omega)
  have hsU := Affine.subi (extui_holds (sgt_holds isInt_three isInt_zero (by omega)) rfl)
    (extui_fails (slt_fails isInt_three isInt_zero (by omega)) rfl) (e := 1) (by decide)
  by_cases h0 : v.toInt = 0
  · have hrem := Affine.remsi hv isInt_three (e := 0) ⟨by rw [h0]; rfl, h, by decide⟩
    exact andi_fails_right (cmpi_term _ (word _) (word _)) (ne_fails hrem isInt_zero rfl)
  · have h2 := Affine.subi (extui_holds (sgt_holds hv isInt_zero (by omega)) rfl) (extui_fails hlt rfl) (e := 1) (by decide)
    exact andi_fails_left (ne_fails h2 hsU rfl) (cmpi_term _ (word _) (word _))

/-- Of a negative count it is not positive. -/
theorem thirdW_neg {v : BitVec 32} (h : v.toInt < 0) : (thirdW v).toInt ≤ 0 := by
  have hr := word_range v
  have h3 : (3#32 : BitVec 32).toInt = 3 := by decide
  have ht : v.toInt.tdiv 3 = -((-v.toInt) / 3) := by
    conv_lhs => rw [← neg_neg v.toInt, Int.neg_tdiv, Int.tdiv_eq_ediv_of_nonneg (by omega)]
  have hq : (Scalar.divsi v 3#32).toInt = v.toInt.tdiv 3 := by
    have hne : ¬IntOp.SDivCorner v 3#32 := by
      rintro (h0 | ⟨-, h1⟩)
      · exact absurd h0 (by decide)
      · exact absurd h1 (by decide)
    rw [Scalar.divsi, IntOp.divsi, if_neg hne, BitVec.toInt_sdiv, h3]
    rw [ht]; apply Int.bmod_eq_of_le <;> omega
  have hd : IsInt (Scalar.divsi v 3#32) (v.toInt.tdiv 3) := by unfold IsInt; exact hq
  have hd1 := Affine.subi hd isInt_one (e := v.toInt.tdiv 3 - 1) ⟨rfl, by rw [ht]; omega, by rw [ht]; omega⟩
  unfold IsInt at hd1
  unfold thirdW Scalar.select
  split
  · rw [hd1, ht]; omega
  · rw [hq, ht]; omega

/-- The loop's upper bound is that quotient. -/
theorem ub_eq (v : BitVec 32) : (k0_t1_loop v).ub = thirdW v := by
  show Scalar.addi 0#32 (Scalar.muli (Scalar.divsi (Scalar.subi (thirdW v) 0#32) 1#32) 1#32) = thirdW v
  rw [Scalar.muli_divsi_one]
  simp [Scalar.addi, Scalar.subi, IntOp.addi, IntOp.subi]

theorem ub_word (v : BitVec 32) : IsInt (k0_t1_loop v).ub (thirdW v).toInt := by
  rw [ub_eq]; exact word _

/-- The loop's number of trips: a third of the count, rounded down; none for a negative count. -/
theorem trips_eq_third (v : BitVec 32) : (k0_t1_loop v).trips = (v.toInt / 3).toNat := by
  by_cases h : 0 ≤ v.toInt
  · have hu : IsInt (k0_t1_loop v).ub (v.toInt / 3) := by rw [ub_eq]; exact thirdW_nonneg h
    exact trips_eq isInt_zero hu isInt_one _ ⟨by decide, by omega⟩
  · have hn := thirdW_neg (v := v) (by omega)
    have := trips_le isInt_zero (ub_word v) isInt_one 0 ⟨by decide, by omega⟩
    have h0 : (k0_t1_loop v).trips = 0 := Nat.le_zero.mp this
    rw [h0]; omega

/-- A trip exists only for a positive count, whose windows it lies in. -/
theorem trip_bound {v : BitVec 32} {t : ℕ} (h : t < (k0_t1_loop v).trips) : 3 * (t : ℤ) + 3 ≤ v.toInt := by
  rw [trips_eq_third] at h; omega

theorem loop_ok (v : BitVec 32) : (k0_t1_loop v).OK := by
  have h := word_range (k0_t1_loop v).ub
  refine ok isInt_zero (ub_word v) isInt_one ⟨by decide, ?_⟩
  have := word_range (thirdW v)
  omega

/-- The first row of the `u`-th key block of trip `t`, the block's number held at zero where it is negative. -/
@[reducible] def rowW (i : grid0.Coords) (v : BitVec 32) (t : ℕ) (u : BitVec 32) : BitVec 32 :=
  Scalar.muli (Scalar.maxsi (Scalar.addi (Scalar.addi
    (Scalar.subi (Scalar.addi (BitVec.ofNat 32 (i 1).val) 1#32) v)
    (Scalar.muli (Scf.iv 0#32 1#32 t) 3#32)) u) 0#32) 128#32

/-- The number of that key block as an integer: negative for the blocks before the first. -/
theorem block_isInt (i : grid0.Coords) (v : BitVec 32) {t : ℕ} (ht : t < (k0_t1_loop v).trips) :
    IsInt (Scalar.addi (Scalar.subi (Scalar.addi (BitVec.ofNat 32 (i 1).val) 1#32) v)
      (Scalar.muli (Scf.iv 0#32 1#32 t) 3#32)) ((i 1).val + 1 - v.toInt + 3 * t) := by
  have hb := trip_bound ht
  have hr := word_range v
  have hi : (i 1).val < 65 := (i 1).isLt
  have h1 := Affine.addi (Affine.ofNat (i 1).val (e := ((i 1).val : ℤ)) ⟨rfl, by omega⟩) isInt_one
    (e := (i 1).val + 1) ⟨rfl, by omega, by omega⟩
  have h2 := Affine.subi h1 (word v) (e := (i 1).val + 1 - v.toInt) ⟨rfl, by omega, by omega⟩
  have h3 := Affine.iv isInt_zero isInt_one t (e := (t : ℤ)) ⟨by omega, by omega, by omega⟩
  have h4 := Affine.muli h3 isInt_three (e := 3 * (t : ℤ)) ⟨by omega, by omega, by omega⟩
  exact Affine.addi h2 h4 (e := (i 1).val + 1 - v.toInt + 3 * t) ⟨rfl, by omega, by omega⟩

theorem row_isInt (i : grid0.Coords) (v : BitVec 32) {t : ℕ} (ht : t < (k0_t1_loop v).trips) (u : ℕ) (hu : u < 3) :
    IsInt (rowW i v t (BitVec.ofNat 32 u)) (max ((i 1).val + 1 - v.toInt + 3 * t + u) 0 * 128) := by
  have hb := trip_bound ht
  have hr := word_range v
  have hi : (i 1).val < 65 := (i 1).isLt
  have h5 := Affine.addi (block_isInt i v ht) (Affine.ofNat u (e := (u : ℤ)) ⟨rfl, by omega⟩)
    (e := (i 1).val + 1 - v.toInt + 3 * t + u) ⟨rfl, by omega, by omega⟩
  have h6 := Affine.maxsi h5 isInt_zero (e := max ((i 1).val + 1 - v.toInt + 3 * t + u) 0) rfl
  exact Affine.muli h6 (Affine.ofNat 128 (e := 128) ⟨rfl, by decide⟩) ⟨rfl, by omega, by omega⟩

/-- The same row as a natural number. -/
theorem row_toNat (i : grid0.Coords) (v : BitVec 32) {t : ℕ} (ht : t < (k0_t1_loop v).trips) (u : ℕ) (hu : u < 3) :
    (rowW i v t (BitVec.ofNat 32 u)).toNat = ((i 1).val + 1 + 3 * t + u - v.toNat) * 128 := by
  have hb := trip_bound ht
  have hn : (v.toNat : ℤ) = v.toInt := toNat_of (word v) (by omega)
  have := toNat_of (row_isInt i v ht u hu) (by omega)
  omega

theorem row_dvd (i : grid0.Coords) (v : BitVec 32) {t : ℕ} (ht : t < (k0_t1_loop v).trips) (u : ℕ) (hu : u < 3) :
    128 ∣ (rowW i v t (BitVec.ofNat 32 u)).toNat := by
  rw [row_toNat i v ht u hu]; exact Dvd.intro_left _ rfl

/-- The rows a trip names lie inside the arrays of 8320 rows. -/
theorem row_le (i : grid0.Coords) (v : BitVec 32) {t : ℕ} (ht : t < (k0_t1_loop v).trips) (u : ℕ) (hu : u < 3) :
    (rowW i v t (BitVec.ofNat 32 u)).toNat + 128 ≤ 8320 := by
  have hb := trip_bound ht
  have hn : (v.toNat : ℤ) = v.toInt := toNat_of (word v) (by omega)
  have hi : (i 1).val < 65 := (i 1).isLt
  rw [row_toNat i v ht u hu]; omega

theorem off2_eq (i : grid0.Coords) (v : BitVec 32) (t : Fin (k0_t1_loop v).trips) (u : BitVec 32) :
    k0_off2 i v t u = ![(rowW i v t u).toNat, 0] := rfl
theorem off3_eq (i : grid0.Coords) (v : BitVec 32) (t : Fin (k0_t1_loop v).trips) (u : BitVec 32) :
    k0_off3 i v t u = ![(rowW i v t u).toNat, 128] := rfl

theorem no_trip (v : BitVec 32) (k : Fin (k0_t2_loop v).trips) : False := Scf.rem_no_trip _ _ k

/-- THE SIDE CONDITION the body assumes of the count word it reads holds of every word: the loops are well formed, the
    row numbers are multiples of 128, and the blocks of rows lie inside their arrays. -/
theorem chk (i : grid0.Coords) (v : BitVec 32) : k0_chk1 i v := by
  have h0 := fun t : Fin (k0_t1_loop v).trips => row_dvd i v t.isLt 0 (by decide)
  have h1 := fun t : Fin (k0_t1_loop v).trips => row_dvd i v t.isLt 1 (by decide)
  have h2 := fun t : Fin (k0_t1_loop v).trips => row_dvd i v t.isLt 2 (by decide)
  have hl : ∀ t : Fin (k0_t1_loop v).trips, ∀ (r : Fin 3), ∀ a,
      (k0_off2 i v t (BitVec.ofNat 32 r.val)) a + S128x128.size a ≤ S8320x256.size a := fun t r a => by
    rw [off2_eq]
    have := row_le i v t.isLt r.val r.isLt
    fin_cases a
    · simpa using this
    · simp
  have hr : ∀ t : Fin (k0_t1_loop v).trips, ∀ (r : Fin 3), ∀ a,
      (k0_off3 i v t (BitVec.ofNat 32 r.val)) a + S128x128.size a ≤ S8320x256.size a := fun t r a => by
    rw [off3_eq]
    have := row_le i v t.isLt r.val r.isLt
    fin_cases a
    · simpa using this
    · simp
  have hk : (k0_t2_loop v).OK := Scf.rem_ok _ _
  exact ⟨⟨loop_ok v, h0, hl, h1, h2, h0, h1, h2, h0, h1, h2, h0, hr, h1, h2, h0, h1, h2, h0, h1, h2, hk,
      fun k => (no_trip v k).elim, fun k => (no_trip v k).elim, fun k => (no_trip v k).elim,
      fun k => (no_trip v k).elim, fun k => (no_trip v k).elim, fun k => (no_trip v k).elim,
      fun k => (no_trip v k).elim, fun k => (no_trip v k).elim, fun k => (no_trip v k).elim,
      fun k => (no_trip v k).elim⟩,
    ⟨fun k => (no_trip v k).elim, fun k => (no_trip v k).elim, fun k => (no_trip v k).elim,
      fun k => (no_trip v k).elim, fun k => (no_trip v k).elim, fun k => (no_trip v k).elim,
      fun k => (no_trip v k).elim, fun k => (no_trip v k).elim, fun k => (no_trip v k).elim,
      fun k => (no_trip v k).elim⟩⟩

end Cert.KernelIdeal.Hand

end
-- ==== Proof.Body.lean ====
module

public import proofs.«01_k».proof.Proof.Words
public import proofs.«01_k».proof.Proof.Gen.KernelIdeal.Frame
public import proofs.«01_k».proof.Proof.Gen.KernelIdeal.Skeleton
public import proofs.«01_k».proof.Proof.Gen.KernelIdeal.Loops
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether this is the first query block, as the kernel computes it. -/
def firstW (i : grid0.Coords) : BitVec 1 :=
  Scalar.cmpi .ne (Scalar.extui (Scalar.cmpi .eq (BitVec.ofNat 32 (i 1).val) 0#32) : BitVec 32) 0#32

section Run
variable (c : Dev nD) (i : grid0.Coords)
  (arg2 : Memref sig .tc .vmem S128x256 .bf16) (harg2 : arg2.IsWhole) (arg3 : Memref sig .tc .vmem S8320x256 .bf16) (harg3 : arg3.IsWhole)
  (arg4 : Memref sig .tc .vmem S8320x256 .bf16) (harg4 : arg4.IsWhole) (arg5 : Memref sig .tc .vmem S128x256 .f32) (harg5 : arg5.IsWhole)
  (arg6 : Memref sig .tc .vmem S2x128x128 .f32) (harg6 : arg6.IsWhole) (arg7 : Memref sig .tc .smem S4x65 .f32) (harg7 : arg7.IsWhole)
  (arg8 : Memref sig .tc .vmem S128x256 .bf16) (harg8 : arg8.IsWhole) (arg9 : Memref sig .tc .vmem S8320x256 .bf16) (harg9 : arg9.IsWhole)
  (arg10 : Memref sig .tc .vmem S8320x256 .bf16) (harg10 : arg10.IsWhole) (arg11 : Memref sig .tc .vmem S8320x256 .f32) (harg11 : arg11.IsWhole)
  (arg12 : Memref sig .tc .vmem S8320x256 .f32) (harg12 : arg12.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)

/-- The kernel's body at a first query block: the scratch buffers are zeroed, so what they held does not matter; the block of the
    gradient of `q` and both scratch buffers end at contents the run names. -/
def run_first (f8 : BufTy.Contents (Elt F) arg8.view.ty) (hc1 : firstW i = 1#1) (hc2 : ¬ k0_cond2 i = 1#1) :
    Σ' (g8 : BufTy.Contents (Elt F) arg8.view.ty) (g11 : BufTy.Contents (Elt F) arg11.view.ty),
    { g12 : BufTy.Contents (Elt F) arg12.view.ty // ∀ (f11 : BufTy.Contents (Elt F) arg11.view.ty) (f12 : BufTy.Contents (Elt F) arg12.view.ty) (E : Set ℕ),
     (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12)) : sProp 𝕄)
     ⊢ wp Idealize.ShloMosaic.frame (wpE (defs₀ (F := F)) Variants.none (c : Thread nD τ) none) E
       (cc0_sb_bwd (F := F) i arg2 harg2 arg3 harg3 arg4 harg4 arg5 harg5 arg6 harg6 arg7 harg7 arg8 harg8 arg9 harg9 arg10 harg10 arg11 harg11 arg12 harg12)
       (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} g8) ∗ (arg11.view.loc (c : Thread nD τ) ↦[arg11.view.set]{fullShare} g11) ∗ (arg12.view.loc (c : Thread nD τ) ↦[arg12.view.set]{fullShare} g12))) } := by
  have hchk := chk i
  unfold firstW at hc1
  refine ⟨?_, ?_, ?_, fun f11 f12 E => ?run⟩
  case run =>
    simp only [cc0_sb_bwd_eq_skeleton]; unfold cc0_sb_bwd_skel
    iintro ⟨H2, H3, H4, H5, H6, H7, H8, H11, H12⟩
    sl_exec
    sl_step
    sl_close

variable (f8 : BufTy.Contents (Elt F) arg8.view.ty) (f9 : BufTy.Contents (Elt F) arg9.view.ty) (f10 : BufTy.Contents (Elt F) arg10.view.ty)
  (f11 : BufTy.Contents (Elt F) arg11.view.ty) (f12 : BufTy.Contents (Elt F) arg12.view.ty)

/-- The kernel's body at a query block that is neither first nor last: it adds to what the scratch buffers hold. -/
def run_mid (hc1 : ¬ firstW i = 1#1) (hc2 : ¬ k0_cond2 i = 1#1) :
    Σ' (g8 : BufTy.Contents (Elt F) arg8.view.ty) (g11 : BufTy.Contents (Elt F) arg11.view.ty),
    { g12 : BufTy.Contents (Elt F) arg12.view.ty // ∀ (E : Set ℕ),
     (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12)) : sProp 𝕄)
     ⊢ wp Idealize.ShloMosaic.frame (wpE (defs₀ (F := F)) Variants.none (c : Thread nD τ) none) E
       (cc0_sb_bwd (F := F) i arg2 harg2 arg3 harg3 arg4 harg4 arg5 harg5 arg6 harg6 arg7 harg7 arg8 harg8 arg9 harg9 arg10 harg10 arg11 harg11 arg12 harg12)
       (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} g8) ∗ (arg11.view.loc (c : Thread nD τ) ↦[arg11.view.set]{fullShare} g11) ∗ (arg12.view.loc (c : Thread nD τ) ↦[arg12.view.set]{fullShare} g12))) } := by
  have hchk := chk i
  unfold firstW at hc1
  refine ⟨?_, ?_, ?_, fun E => ?run⟩
  case run =>
    simp only [cc0_sb_bwd_eq_skeleton]; unfold cc0_sb_bwd_skel
    iintro ⟨H2, H3, H4, H5, H6, H7, H8, H11, H12⟩
    sl_exec
    sl_step
    sl_close

/-- The kernel's body at the last query block: as in the middle, and the two scratch buffers are written out. -/
def run_last (hc1 : ¬ firstW i = 1#1) (hc2 : k0_cond2 i = 1#1) :
    Σ' (g8 : BufTy.Contents (Elt F) arg8.view.ty) (g9 : BufTy.Contents (Elt F) arg9.view.ty) (g10 : BufTy.Contents (Elt F) arg10.view.ty) (g11 : BufTy.Contents (Elt F) arg11.view.ty),
    { g12 : BufTy.Contents (Elt F) arg12.view.ty // ∀ (E : Set ℕ),
     (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
     ⊢ wp Idealize.ShloMosaic.frame (wpE (defs₀ (F := F)) Variants.none (c : Thread nD τ) none) E
       (cc0_sb_bwd (F := F) i arg2 harg2 arg3 harg3 arg4 harg4 arg5 harg5 arg6 harg6 arg7 harg7 arg8 harg8 arg9 harg9 arg10 harg10 arg11 harg11 arg12 harg12)
       (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12))) } := by
  have hchk := chk i
  unfold firstW at hc1
  refine ⟨?_, ?_, ?_, ?_, ?_, fun E => ?run⟩
  case run =>
    simp only [cc0_sb_bwd_eq_skeleton]; unfold cc0_sb_bwd_skel
    iintro ⟨H2, H3, H4, H5, H6, H7, H8, H9, H10, H11, H12⟩
    sl_exec
    sl_step
    sl_close

end Run
end Cert.KernelIdeal.Hand
end
-- ==== Proof.Model.lean ====
module

public import proofs.«01_k».proof.Proof.Words
public import proofs.«01_k».proof.Proof.Gen.KernelIdeal.Skeleton
public import Idealize.ShloMosaic.Lib.ValueIdx

/-!
  What one grid point of the kernel computes, as plain functions of the blocks it reads: no memory, no views.
  A grid point holds two heads; each trip of its loop takes a window of three key blocks.
-/

@[expose] public section

set_option maxRecDepth 16384

noncomputable section

namespace Cert.KernelIdeal.Hand

open Cert.KernelIdeal Cert.KernelIdeal.Gen
open Idealize.ShloMosaic

variable {F : FTy → Type} [FloatOps F]

/-! ## One head, one window -/

section Head

variable (a jl w : BitVec 32) (q g : FVec F S128x128 .bf16) (kw vw : FVec F S384x128 .bf16) (right psum : FVec F S128x1 .f32) (dq : FVec F S128x128 .f32)

/-- The sum of log(1 − β) right of the window, for the next window. -/
def hRight : FVec F S128x1 .f32 := k0_pay29 right w (k0_pay20 a jl q kw) (k0_pay21 a jl q kw) (k0_pay22 a jl q kw)

/-- The attention weights of the window. -/
def hA : FVec F S128x384 .f32 :=
  k0_pay30 k0_pay171 right w (k0_pay17 q kw) (k0_pay18 a jl) (k0_pay20 a jl q kw) (k0_pay21 a jl q kw) (k0_pay22 a jl q kw) (k0_pay25 a jl q kw)
    (k0_pay26 a k0_pay171 jl q kw)

/-- The weights times the incoming gradient's products with the values. -/
def hP : FVec F S128x384 .f32 :=
  k0_pay31 k0_pay171 right w g vw (k0_pay17 q kw) (k0_pay18 a jl) (k0_pay20 a jl q kw) (k0_pay21 a jl q kw) (k0_pay22 a jl q kw) (k0_pay25 a jl q kw)
    (k0_pay26 a k0_pay171 jl q kw)

/-- Their sums left of each key within its own key block. -/
def hScan : FVec F S384x128 .f32 :=
  k0_pay35 k0_pay171 k0_pay172 right w g vw (k0_pay17 q kw) (k0_pay18 a jl) (k0_pay20 a jl q kw) (k0_pay21 a jl q kw) (k0_pay22 a jl q kw)
    (k0_pay25 a jl q kw) (k0_pay26 a k0_pay171 jl q kw)

/-- Their sum over the first key block of the window. -/
def hS0 : FVec F S128x1 .f32 :=
  k0_pay36 k0_pay171 right w g vw (k0_pay17 q kw) (k0_pay18 a jl) (k0_pay20 a jl q kw) (k0_pay21 a jl q kw) (k0_pay22 a jl q kw) (k0_pay25 a jl q kw)
    (k0_pay26 a k0_pay171 jl q kw)

/-- Their sum over the second key block of the window. -/
def hS1 : FVec F S128x1 .f32 :=
  k0_pay37 k0_pay171 right w g vw (k0_pay17 q kw) (k0_pay18 a jl) (k0_pay20 a jl q kw) (k0_pay21 a jl q kw) (k0_pay22 a jl q kw) (k0_pay25 a jl q kw)
    (k0_pay26 a k0_pay171 jl q kw)

/-- Their sum over the third key block of the window. -/
def hS2 : FVec F S128x1 .f32 :=
  k0_pay38 k0_pay171 right w g vw (k0_pay17 q kw) (k0_pay18 a jl) (k0_pay20 a jl q kw) (k0_pay21 a jl q kw) (k0_pay22 a jl q kw) (k0_pay25 a jl q kw)
    (k0_pay26 a k0_pay171 jl q kw)

/-- The gradient of `q` with the window added. -/
def hDq : FVec F S128x128 .f32 :=
  k0_pay41 dq psum kw (k0_pay17 q kw) (k0_pay18 a jl) (hP a jl w q g kw vw right) (hScan a jl w q g kw vw right) (hS0 a jl w q g kw vw right)
    (hS1 a jl w q g kw vw right)

/-- The window's addition to the gradient of `k`. -/
def hDk : FVec F S384x128 .f32 :=
  k0_pay42 psum q (k0_pay17 q kw) (k0_pay18 a jl) (hP a jl w q g kw vw right) (hScan a jl w q g kw vw right) (hS0 a jl w q g kw vw right)
    (hS1 a jl w q g kw vw right)

/-- The window's addition to the gradient of `v`. -/
def hDv : FVec F S384x128 .f32 := k0_pay43 g (hA a jl w q kw right)

/-- The sum of the weighted products up to the window's end. -/
def hPsum : FVec F S128x1 .f32 :=
  k0_pay52 psum (k0_pay39 (hS0 a jl w q g kw vw right) (hS1 a jl w q g kw vw right) (hS2 a jl w q g kw vw right))

end Head

/-! ## The blocks of a window -/

/-- The key block that trip `t` of query block `i` reads in place `u`; blocks left of the first one are read as the first. -/
def keyBlk (i : ℕ) (v : BitVec 32) (t u : ℕ) : Fin 65 := ⟨min (i + 1 + 3 * t + u - v.toNat) 64, by omega⟩

/-- Head `h`'s columns of key block `b`. -/
def pick {e : EltTy} (X : Vec F S8320x256 e) (b : Fin 65) (h : Fin 2) : Vec F S128x128 e := fun y =>
  X (ValueIdx.ix2 ⟨b.val * 128 + (y 0).val, by have := b.isLt; have : (y 0).val < 128 := (y 0).isLt; omega⟩
    ⟨h.val * 128 + (y 1).val, by have := h.isLt; have : (y 1).val < 128 := (y 1).isLt; omega⟩)

/-- Head `h`'s columns of a query block. -/
def pickT {e : EltTy} (X : Vec F S128x256 e) (h : Fin 2) : Vec F S128x128 e := fun y =>
  X (ValueIdx.ix2 (y 0) ⟨h.val * 128 + (y 1).val, by have := h.isLt; have : (y 1).val < 128 := (y 1).isLt; omega⟩)

/-- The keys (or values) of a window. -/
def keyWin (X : Vec F S8320x256 .bf16) (i : ℕ) (v : BitVec 32) (t : ℕ) (h : Fin 2) : FVec F S384x128 .bf16 :=
  k0_pay14 (pick X (keyBlk i v t 0) h) (pick X (keyBlk i v t 1) h) (pick X (keyBlk i v t 2) h)

/-- `K` with the `u`-th third of `D` added to head `h`'s columns of key block `b`. -/
def addBlk (K : Vec F S8320x256 .f32) (b : Fin 65) (h : Fin 2) (D : FVec F S384x128 .f32) (u : Fin 3) : Vec F S8320x256 .f32 := fun y =>
  if hy : (b.val * 128 ≤ (y 0).val ∧ (y 0).val < b.val * 128 + 128) ∧ h.val * 128 ≤ (y 1).val ∧ (y 1).val < h.val * 128 + 128 then
    FloatOps.addf (K y : F .f32) (D (ValueIdx.ix2 ⟨u.val * 128 + ((y 0).val - b.val * 128), by have := u.isLt; omega⟩ ⟨(y 1).val - h.val * 128, by omega⟩))
  else K y

/-- `K` with the three thirds of `D` added to head `h`'s columns of the window's key blocks, one after another. -/
def addWin (K : Vec F S8320x256 .f32) (i : ℕ) (v : BitVec 32) (t : ℕ) (h : Fin 2) (D : FVec F S384x128 .f32) : Vec F S8320x256 .f32 :=
  addBlk (addBlk (addBlk K (keyBlk i v t 0) h D 0) (keyBlk i v t 1) h D 1) (keyBlk i v t 2) h D 2

/-! ## The trips of one grid point -/

/-- What a trip hands to the next: for both heads the gradient of `q`, the sum right of the window, the sum left of it. -/
abbrev Carry (F : FTy → Type) : Type :=
  FVec F S128x128 .f32 × FVec F S128x128 .f32 × FVec F S128x1 .f32 × FVec F S128x1 .f32 × FVec F S128x1 .f32 × FVec F S128x1 .f32

/-- A grid point's state: what the trips hand on, and the two scratch buffers. -/
abbrev PtState (F : FTy → Type) : Type := Carry F × Vec F S8320x256 .f32 × Vec F S8320x256 .f32

/-- The number of the window's first key block, as the kernel computes it. -/
def leftW (i : ℕ) (v : BitVec 32) (t : ℕ) : BitVec 32 :=
  Scalar.addi (Scalar.subi (Scalar.addi (BitVec.ofNat 32 i) 1#32) v) (Scalar.muli (Scf.iv 0#32 1#32 t) 3#32)

section Point

variable (i : ℕ) (v : BitVec 32) (X2 : Vec F S128x256 .bf16) (X3 X4 : Vec F S8320x256 .bf16) (X5 : Vec F S128x256 .f32)

/-- Head `h`'s rows of the incoming gradient. -/
def gradT (h : Fin 2) : FVec F S128x128 .bf16 := k0_pay13 (pickT X5 h)

/-- One trip. -/
def ptStep (t : ℕ) (S : PtState F) : PtState F :=
  let a := BitVec.ofNat 32 i
  let jl := leftW i v t
  let w := Scf.iv 0#32 1#32 t
  let D := fun (h : Fin 2) (right psum : FVec F S128x1 .f32) => hDk a jl w (pickT X2 h) (gradT X5 h) (keyWin X3 i v t h) (keyWin X4 i v t h) right psum
  let E := fun (h : Fin 2) (right : FVec F S128x1 .f32) => hDv a jl w (pickT X2 h) (gradT X5 h) (keyWin X3 i v t h) right
  let P := fun (h : Fin 2) (right psum : FVec F S128x1 .f32) => hPsum a jl w (pickT X2 h) (gradT X5 h) (keyWin X3 i v t h) (keyWin X4 i v t h) right psum
  let Q := fun (h : Fin 2) (right psum : FVec F S128x1 .f32) (dq : FVec F S128x128 .f32) =>
    hDq a jl w (pickT X2 h) (gradT X5 h) (keyWin X3 i v t h) (keyWin X4 i v t h) right psum dq
  let R := fun (h : Fin 2) (right : FVec F S128x1 .f32) => hRight a jl w (pickT X2 h) (keyWin X3 i v t h) right
  ((Q 0 S.1.2.2.1 S.1.2.2.2.2.1 S.1.1, Q 1 S.1.2.2.2.1 S.1.2.2.2.2.2 S.1.2.1, R 0 S.1.2.2.1, R 1 S.1.2.2.2.1,
      P 0 S.1.2.2.1 S.1.2.2.2.2.1, P 1 S.1.2.2.2.1 S.1.2.2.2.2.2),
    addWin (addWin S.2.1 i v t 0 (D 0 S.1.2.2.1 S.1.2.2.2.2.1)) i v t 1 (D 1 S.1.2.2.2.1 S.1.2.2.2.2.2),
    addWin (addWin S.2.2 i v t 0 (E 0 S.1.2.2.1)) i v t 1 (E 1 S.1.2.2.2.1))

/-- The state before trip `n`. -/
def ptAt (S : PtState F) : ℕ → PtState F
  | 0 => S
  | n + 1 => ptStep i v X2 X3 X4 X5 n (ptAt S n)

/-- Head `h`'s column of starting sums. -/
def startCol (X6 : Vec F S2x128x128 .f32) (h : Fin 2) : FVec F S128x1 .f32 := fun y => X6 (ValueIdx.ix3 h (y 0) 0)

/-- The state before the first trip, the scratch buffers at `K` and `V`. -/
def ptInit (X6 : Vec F S2x128x128 .f32) (K V : Vec F S8320x256 .f32) : PtState F :=
  ((k0_pay173, k0_pay174, startCol X6 0, startCol X6 1, k0_pay3, k0_pay4), K, V)

/-- The state a grid point ends in. -/
def ptEnd (X6 : Vec F S2x128x128 .f32) (K V : Vec F S8320x256 .f32) : PtState F :=
  ptAt i v X2 X3 X4 X5 (ptInit X6 K V) (v.toInt / 3).toNat

end Point

/-- The block of the gradient of `q` a grid point writes. -/
def dqBlk (A : Carry F) : Vec F S128x256 .bf16 := fun y =>
  if hy : (y 1).val < 128 then k0_pay9 A.1 (ValueIdx.ix2 (y 0) ⟨(y 1).val, hy⟩)
  else k0_pay10 A.2.1 (ValueIdx.ix2 (y 0) ⟨(y 1).val - 128, by have : (y 1).val < 256 := (y 1).isLt; omega⟩)

end Cert.KernelIdeal.Hand

end
-- ==== Proof.Trip.lean ====
module

public import proofs.«01_k».proof.Proof.Model
public import proofs.«01_k».proof.Proof.Gen.KernelIdeal.Loops
public import Idealize.ShloMosaic.Lib.VecWindow
public import Idealize.ShloMosaic.Lib.Pointwise

/-!
  The loop of one grid point, as the run of the kernel's body leaves it, is the plain model of `Model.lean`: its loads are the model's
  blocks, its stores the model's additions.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## Where the loads and stores lie -/

/-- The row a trip touches is its key block's first row. -/
theorem row_keyBlk (i : grid0.Coords) (v : BitVec 32) (t : Fin (k0_t1_loop v).trips) (u : ℕ) (hu : u < 3) :
    (rowW i v t.val (BitVec.ofNat 32 u)).toNat = (keyBlk (i 1).val v t.val u).val * 128 := by
  have h := row_toNat i v t.isLt u hu
  have h2 := row_le i v t.isLt u hu
  have h3 : (keyBlk (i 1).val v t.val u).val = min ((i 1).val + 1 + 3 * t.val + u - v.toNat) 64 := rfl
  omega

theorem off2_blk (i : grid0.Coords) (v : BitVec 32) (t : Fin (k0_t1_loop v).trips) (u : ℕ) (hu : u < 3) :
    k0_off2 i v t (BitVec.ofNat 32 u) = ![(keyBlk (i 1).val v t.val u).val * 128, (0 : Fin 2).val * 128] := by
  rw [off2_eq, row_keyBlk i v t u hu]; rfl

theorem off3_blk (i : grid0.Coords) (v : BitVec 32) (t : Fin (k0_t1_loop v).trips) (u : ℕ) (hu : u < 3) :
    k0_off3 i v t (BitVec.ofNat 32 u) = ![(keyBlk (i 1).val v t.val u).val * 128, (1 : Fin 2).val * 128] := by
  rw [off3_eq, row_keyBlk i v t u hu]; rfl

/-- A load of 128 rows at a key block and a head's columns is the model's block. -/
theorem load_pick {e : EltTy} (M : Memref sig .tc .vmem S8320x256 e) (f : BufTy.Contents (Elt F) M.view.ty) {off : Fin 2 → ℕ}
    (inb : ∀ a, off a + S128x128.size a ≤ S8320x256.size a) (b : Fin 65) (h : Fin 2) (ho : off = ![b.val * 128, h.val * 128]) :
    View.readAt (Elt F) M.view (Rect.unit (s := S8320x256) off S128x128.size inb).toLoadRect f = pick (M.view.read (Elt F) f) b h := by
  subst ho
  funext y
  refine congrArg (M.view.read (Elt F) f) (funext fun a => Fin.ext ?_)
  fin_cases a
  · show b.val * 128 + 1 * (y 0).val = b.val * 128 + (y 0).val; omega
  · show h.val * 128 + 1 * (y 1).val = h.val * 128 + (y 1).val; omega

/-- A load of a head's columns of a query block is the model's. -/
theorem load_pickT {e : EltTy} (M : Memref sig .tc .vmem S128x256 e) (f : BufTy.Contents (Elt F) M.view.ty) {off : Fin 2 → ℕ}
    (inb : ∀ a, off a + S128x128.size a ≤ S128x256.size a) (h : Fin 2) (ho : off = ![0, h.val * 128]) :
    View.readAt (Elt F) M.view (Rect.unit (s := S128x256) off S128x128.size inb).toLoadRect f = pickT (M.view.read (Elt F) f) h := by
  subst ho
  funext y
  refine congrArg (M.view.read (Elt F) f) (funext fun a => Fin.ext ?_)
  fin_cases a
  · show 0 + 1 * (y 0).val = (y 0).val; omega
  · show h.val * 128 + 1 * (y 1).val = h.val * 128 + (y 1).val; omega

/-- A store of the block just loaded plus a third of `D` is the model's addition. -/
theorem store_addBlk (M : Memref sig .tc .vmem S8320x256 .f32) (f : BufTy.Contents (Elt F) M.view.ty) (L : List (View.Piece (Elt F) S8320x256 .f32))
    {off : Fin 2 → ℕ} (inb : ∀ a, off a + S128x128.size a ≤ S8320x256.size a) (b : Fin 65) (h : Fin 2) (ho : off = ![b.val * 128, h.val * 128])
    (D : FVec F S384x128 .f32) (u : Fin 3) (w : FVec F S128x128 .f32) (K : Vec F S8320x256 .f32)
    (hK : M.view.read (Elt F) (M.view.writes (Elt F) f L) = K)
    (hw : ∀ r l : Fin 128, w (ValueIdx.ix2 r l) = FloatOps.addf (pick K b h (ValueIdx.ix2 r l) : F .f32)
      (D (ValueIdx.ix2 ⟨u.val * 128 + r.val, by have := u.isLt; omega⟩ l))) :
    M.view.read (Elt F) (M.view.writes (Elt F) f (⟨Rect.unit (s := S8320x256) off S128x128.size inb, w⟩ :: L)) = addBlk K b h D u := by
  rw [View.read_writes_cons_put M.view f inb w L rfl, hK]
  subst ho
  funext y
  unfold VecWindow.put addBlk
  have hy1 : (y 1).val < 256 := (y 1).isLt
  have hy0 : (y 0).val < 8320 := (y 0).isLt
  have hb := b.isLt; have hh := h.isLt
  by_cases hy : (b.val * 128 ≤ (y 0).val ∧ (y 0).val < b.val * 128 + 128) ∧ h.val * 128 ≤ (y 1).val ∧ (y 1).val < h.val * 128 + 128
  · rw [dif_pos hy, dif_pos (by intro a; fin_cases a <;> [exact hy.1; exact hy.2])]
    have e := hw ⟨(y 0).val - b.val * 128, by omega⟩ ⟨(y 1).val - h.val * 128, by omega⟩
    refine Eq.trans ?_ (e.trans ?_)
    · refine congrArg w (funext fun a => Fin.ext ?_)
      fin_cases a <;> rfl
    · refine congrArg₂ _ ?_ rfl
      refine congrArg K (funext fun a => Fin.ext ?_)
      fin_cases a
      · show b.val * 128 + ((y 0).val - b.val * 128) = (y 0).val; omega
      · show h.val * 128 + ((y 1).val - h.val * 128) = (y 1).val; omega
  · rw [dif_neg hy, dif_neg (by intro hall; exact hy ⟨hall 0, hall 1⟩)]

/-! ## The second head's operations are the first's -/

theorem pay53_eq : @k0_pay53 F _ = @k0_pay13 F _ := rfl
theorem pay54_eq : @k0_pay54 F = @k0_pay14 F := rfl
theorem pay57_eq : @k0_pay57 F _ = @k0_pay17 F _ := rfl
theorem pay58_eq : k0_pay58 = k0_pay18 := rfl
theorem pay60_eq : @k0_pay60 F _ = @k0_pay20 F _ := rfl
theorem pay61_eq : @k0_pay61 F _ = @k0_pay21 F _ := rfl
theorem pay62_eq : @k0_pay62 F _ = @k0_pay22 F _ := rfl
theorem pay65_eq : @k0_pay65 F _ = @k0_pay25 F _ := rfl
theorem pay66_eq : @k0_pay66 F _ = @k0_pay26 F _ := rfl
theorem pay69_eq : @k0_pay69 F _ = @k0_pay29 F _ := rfl
theorem pay70_eq : @k0_pay70 F _ = @k0_pay30 F _ := rfl
theorem pay71_eq : @k0_pay71 F _ = @k0_pay31 F _ := rfl
theorem pay75_eq : @k0_pay75 F _ = @k0_pay35 F _ := rfl
theorem pay76_eq : @k0_pay76 F _ = @k0_pay36 F _ := rfl
theorem pay77_eq : @k0_pay77 F _ = @k0_pay37 F _ := rfl
theorem pay78_eq : @k0_pay78 F _ = @k0_pay38 F _ := rfl
theorem pay79_eq : @k0_pay79 F _ = @k0_pay39 F _ := rfl
theorem pay81_eq : @k0_pay81 F _ = @k0_pay41 F _ := rfl
theorem pay82_eq : @k0_pay82 F _ = @k0_pay42 F _ := rfl
theorem pay83_eq : @k0_pay83 F _ = @k0_pay43 F _ := rfl
theorem pay55_eq : @k0_pay55 F = @k0_pay14 F := rfl
theorem pay15_eq : @k0_pay15 F = @k0_pay14 F := rfl
theorem pay6_eq : @k0_pay6 F _ = @k0_pay52 F _ := rfl

/-! ## One trip -/

/-- What a trip hands on, the blocks it works with given. -/
def carryOf (a jl w : BitVec 32) (q : Fin 2 → Vec F S128x128 .bf16) (g : Fin 2 → Vec F S128x128 .f32) (kw vw : Fin 2 → FVec F S384x128 .bf16) (S : Carry F) :
    Carry F :=
  (hDq a jl w (q 0) (k0_pay13 (g 0)) (kw 0) (vw 0) S.2.2.1 S.2.2.2.2.1 S.1, hDq a jl w (q 1) (k0_pay13 (g 1)) (kw 1) (vw 1) S.2.2.2.1 S.2.2.2.2.2 S.2.1,
    hRight a jl w (q 0) (kw 0) S.2.2.1, hRight a jl w (q 1) (kw 1) S.2.2.2.1,
    hPsum a jl w (q 0) (k0_pay13 (g 0)) (kw 0) (vw 0) S.2.2.1 S.2.2.2.2.1, hPsum a jl w (q 1) (k0_pay13 (g 1)) (kw 1) (vw 1) S.2.2.2.1 S.2.2.2.2.2)

section Loop

variable (c : Dev nD) (i : grid0.Coords)
  (arg2 : Memref sig .tc .vmem S128x256 .bf16) (harg2 : arg2.IsWhole) (arg3 : Memref sig .tc .vmem S8320x256 .bf16) (harg3 : arg3.IsWhole)
  (arg4 : Memref sig .tc .vmem S8320x256 .bf16) (harg4 : arg4.IsWhole) (arg5 : Memref sig .tc .vmem S128x256 .f32) (harg5 : arg5.IsWhole)
  (arg6 : Memref sig .tc .vmem S2x128x128 .f32) (harg6 : arg6.IsWhole) (arg7 : Memref sig .tc .smem S4x65 .f32) (harg7 : arg7.IsWhole)
  (arg8 : Memref sig .tc .vmem S128x256 .bf16) (harg8 : arg8.IsWhole) (arg9 : Memref sig .tc .vmem S8320x256 .bf16) (harg9 : arg9.IsWhole)
  (arg10 : Memref sig .tc .vmem S8320x256 .bf16) (harg10 : arg10.IsWhole) (arg11 : Memref sig .tc .vmem S8320x256 .f32) (harg11 : arg11.IsWhole)
  (arg12 : Memref sig .tc .vmem S8320x256 .f32) (harg12 : arg12.IsWhole) (v : BitVec 32) (hv : k0_chk1 i v)
  (X2 : BufTy.Contents (Elt F) arg2.view.ty) (X3 : BufTy.Contents (Elt F) arg3.view.ty) (X4 : BufTy.Contents (Elt F) arg4.view.ty)
  (X5 : BufTy.Contents (Elt F) arg5.view.ty)

/-- The model's step at what the point's blocks read. -/
abbrev stepM (t : ℕ) (S : PtState F) : PtState F :=
  ptStep (i 1).val v (arg2.view.read (Elt F) X2) (arg3.view.read (Elt F) X3) (arg4.view.read (Elt F) X4) (arg5.view.read (Elt F) X5) t S

/-- The window a trip loads for the first head. -/
def rawWin2 (M : Memref sig .tc .vmem S8320x256 .bf16) (X : BufTy.Contents (Elt F) M.view.ty) (k : Fin (k0_t1_loop v).trips) : FVec F S384x128 .bf16 :=
  k0_pay14 (View.readAt (Elt F) M.view (Rect.unit (s := S8320x256) (k0_off2 i v k 0#32) S128x128.size (k0_off2_inb i v hv k 0)).toLoadRect X)
    (View.readAt (Elt F) M.view (Rect.unit (s := S8320x256) (k0_off2 i v k 1#32) S128x128.size (k0_off2_inb i v hv k 1)).toLoadRect X)
    (View.readAt (Elt F) M.view (Rect.unit (s := S8320x256) (k0_off2 i v k 2#32) S128x128.size (k0_off2_inb i v hv k 2)).toLoadRect X)

/-- It is the model's window. -/
theorem rawWin2_eq (M : Memref sig .tc .vmem S8320x256 .bf16) (X : BufTy.Contents (Elt F) M.view.ty) (k : Fin (k0_t1_loop v).trips) :
    rawWin2 i v hv M X k = keyWin (M.view.read (Elt F) X) (i 1).val v k.val 0 := by
  unfold rawWin2 keyWin
  exact congr (congr (congrArg k0_pay14 (load_pick M X (k0_off2_inb i v hv k 0) _ 0 (off2_blk i v k 0 (by decide))))
    (load_pick M X (k0_off2_inb i v hv k 1) _ 0 (off2_blk i v k 1 (by decide)))) (load_pick M X (k0_off2_inb i v hv k 2) _ 0 (off2_blk i v k 2 (by decide)))

/-- The window a trip loads for the second head. -/
def rawWin3 (M : Memref sig .tc .vmem S8320x256 .bf16) (X : BufTy.Contents (Elt F) M.view.ty) (k : Fin (k0_t1_loop v).trips) : FVec F S384x128 .bf16 :=
  k0_pay14 (View.readAt (Elt F) M.view (Rect.unit (s := S8320x256) (k0_off3 i v k 0#32) S128x128.size (k0_off3_inb i v hv k 0)).toLoadRect X)
    (View.readAt (Elt F) M.view (Rect.unit (s := S8320x256) (k0_off3 i v k 1#32) S128x128.size (k0_off3_inb i v hv k 1)).toLoadRect X)
    (View.readAt (Elt F) M.view (Rect.unit (s := S8320x256) (k0_off3 i v k 2#32) S128x128.size (k0_off3_inb i v hv k 2)).toLoadRect X)

/-- It is the model's window. -/
theorem rawWin3_eq (M : Memref sig .tc .vmem S8320x256 .bf16) (X : BufTy.Contents (Elt F) M.view.ty) (k : Fin (k0_t1_loop v).trips) :
    rawWin3 i v hv M X k = keyWin (M.view.read (Elt F) X) (i 1).val v k.val 1 := by
  unfold rawWin3 keyWin
  exact congr (congr (congrArg k0_pay14 (load_pick M X (k0_off3_inb i v hv k 0) _ 1 (off3_blk i v k 0 (by decide))))
    (load_pick M X (k0_off3_inb i v hv k 1) _ 1 (off3_blk i v k 1 (by decide)))) (load_pick M X (k0_off3_inb i v hv k 2) _ 1 (off3_blk i v k 2 (by decide)))

/-- The columns of one head that a trip loads of a query block. -/
def rawT {e : EltTy} (M : Memref sig .tc .vmem S128x256 e) (X : BufTy.Contents (Elt F) M.view.ty) (h : Fin 2) : Vec F S128x128 e :=
  match h with
  | 0 => View.readAt (Elt F) M.view (Rect.unit (s := S128x256) ![0, 0] S128x128.size inb_S128x256_S128x128_0_0).toLoadRect X
  | 1 => View.readAt (Elt F) M.view (Rect.unit (s := S128x256) ![0, 128] S128x128.size inb_S128x256_S128x128_0_128).toLoadRect X

/-- They are the model's. -/
theorem rawT_eq {e : EltTy} (M : Memref sig .tc .vmem S128x256 e) (X : BufTy.Contents (Elt F) M.view.ty) (h : Fin 2) :
    rawT M X h = pickT (M.view.read (Elt F) X) h := by
  match h with
  | 0 => exact load_pickT M X _ 0 rfl
  | 1 => exact load_pickT M X _ 1 rfl

/-- The window a trip loads for head `h`. -/
def rawWin (M : Memref sig .tc .vmem S8320x256 .bf16) (X : BufTy.Contents (Elt F) M.view.ty) (k : Fin (k0_t1_loop v).trips) (h : Fin 2) : FVec F S384x128 .bf16 :=
  match h with
  | 0 => rawWin2 i v hv M X k
  | 1 => rawWin3 i v hv M X k

theorem rawWin_eq (M : Memref sig .tc .vmem S8320x256 .bf16) (X : BufTy.Contents (Elt F) M.view.ty) (k : Fin (k0_t1_loop v).trips) (h : Fin 2) :
    rawWin i v hv M X k h = keyWin (M.view.read (Elt F) X) (i 1).val v k.val h := by
  match h with
  | 0 => exact rawWin2_eq i v hv M X k
  | 1 => exact rawWin3_eq i v hv M X k

/-- A trip hands on what the model's step does. -/
theorem trip_result (k : Fin (k0_t1_loop v).trips) (acc : Carry F) (f11 : BufTy.Contents (Elt F) arg11.view.ty) (f12 : BufTy.Contents (Elt F) arg12.view.ty)
    (K V : Vec F S8320x256 .f32) :
    tripR_k0_t1 (F := F) Variants.none c none i arg2 harg2 arg3 harg3 arg4 harg4 arg5 harg5 arg6 harg6 arg7 harg7 arg8 harg8 arg9 harg9 arg10 harg10 arg11
        harg11 arg12 harg12 (BitVec.ofNat 32 (i 1).val) v hv (Scalar.subi (Scalar.addi (BitVec.ofNat 32 (i 1).val) 1#32) v) k0_pay171 k0_pay172 X2 X3 X4 X5 k acc f11 f12
      = (stepM i arg2 arg3 arg4 arg5 v X2 X3 X4 X5 k.val (acc, K, V)).1 := by
  have e : tripR_k0_t1 (F := F) Variants.none c none i arg2 harg2 arg3 harg3 arg4 harg4 arg5 harg5 arg6 harg6 arg7 harg7 arg8 harg8 arg9 harg9 arg10 harg10 arg11
        harg11 arg12 harg12 (BitVec.ofNat 32 (i 1).val) v hv (Scalar.subi (Scalar.addi (BitVec.ofNat 32 (i 1).val) 1#32) v) k0_pay171 k0_pay172 X2 X3 X4 X5 k acc f11 f12
      = carryOf (BitVec.ofNat 32 (i 1).val) (leftW (i 1).val v k.val) (Scf.iv 0#32 1#32 k.val) (rawT arg2 X2) (rawT arg5 X5) (rawWin i v hv arg3 X3 k)
          (rawWin i v hv arg4 X4 k) acc := by
    unfold tripR_k0_t1 trip_k0_t1
    rfl
  rw [e, funext (rawT_eq arg2 X2), funext (rawT_eq arg5 X5), funext (rawWin_eq i v hv arg3 X3 k), funext (rawWin_eq i v hv arg4 X4 k)]
  rfl

/-- The store a trip makes, in the form it is printed in: the block loaded plus a third of `D`. -/
theorem store_third (M : Memref sig .tc .vmem S8320x256 .f32) (f : BufTy.Contents (Elt F) M.view.ty) (L : List (View.Piece (Elt F) S8320x256 .f32))
    {off : Fin 2 → ℕ} (inb : ∀ a, off a + S128x128.size a ≤ S8320x256.size a) (b : Fin 65) (h : Fin 2) (ho : off = ![b.val * 128, h.val * 128])
    (D : FVec F S384x128 .f32) (u : Fin 3) {o : Fin 2 → ℕ} (hs : S384x128.Slices o S128x128) (hc : S128x128.ShapeCasts S128x128) (hu : o = ![u.val * 128, 0])
    (K : Vec F S8320x256 .f32) (hK : M.view.read (Elt F) (M.view.writes (Elt F) f L) = K) :
    M.view.read (Elt F) (M.view.writes (Elt F) f (⟨Rect.unit (s := S8320x256) off S128x128.size inb,
        shapeCast S128x128 (addf (View.readAt (Elt F) M.view (Rect.unit (s := S8320x256) off S128x128.size inb).toLoadRect (M.view.writes (Elt F) f L) : FVec F S128x128 .f32)
          (extractStridedSlice S128x128 o D hs)) hc⟩ :: L)) = addBlk K b h D u := by
  refine store_addBlk M f L inb b h ho D u _ K hK fun r l => ?_
  subst hu
  rw [load_pick M _ inb b h ho, hK]
  refine (congrFun (shapeCast_id _ hc) _).trans ?_
  refine congrArg (FloatOps.addf (pick K b h (ValueIdx.ix2 r l) : F .f32)) (congrArg D (funext fun a => Fin.ext ?_))
  fin_cases a
  · rfl
  · show 0 + l.val = l.val; omega

/-- A trip leaves in the scratch buffer of the gradient of k what the model's step does. -/
theorem trip_store11 (k : Fin (k0_t1_loop v).trips) (acc : Carry F) (f11 : BufTy.Contents (Elt F) arg11.view.ty) (f12 : BufTy.Contents (Elt F) arg12.view.ty)
    (K V : Vec F S8320x256 .f32) (h11 : arg11.view.read (Elt F) f11 = K) :
    arg11.view.read (Elt F) (arg11.view.writes (Elt F) f11 (tripL_k0_t1 (F := F) Variants.none c none i arg2 harg2 arg3 harg3 arg4 harg4 arg5 harg5 arg6 harg6 arg7 harg7 arg8 harg8 arg9 harg9 arg10 harg10 arg11
        harg11 arg12 harg12 (BitVec.ofNat 32 (i 1).val) v hv (Scalar.subi (Scalar.addi (BitVec.ofNat 32 (i 1).val) 1#32) v) k0_pay171 k0_pay172 X2 X3 X4 X5 k acc f11 f12).1)
      = (stepM i arg2 arg3 arg4 arg5 v X2 X3 X4 X5 k.val (acc, K, V)).2.1 := by
  have e1 : arg11.view.read (Elt F) (arg11.view.writes (Elt F) f11 (trip_k0_t1.sl.HW_arg11_1 (F := F) i arg2 arg3 arg4 arg5 arg11 (BitVec.ofNat 32 (i 1).val) v hv (Scalar.subi (Scalar.addi (BitVec.ofNat 32 (i 1).val) 1#32) v) k0_pay171 k0_pay172 X2 X3 X4 X5 k acc f11)) = addBlk K (keyBlk (i 1).val v k.val 0) 0 (hDk (BitVec.ofNat 32 (i 1).val) (leftW (i 1).val v k.val) (Scf.iv 0#32 1#32 k.val) (rawT arg2 X2 0) (k0_pay13 (rawT arg5 X5 0)) (rawWin i v hv arg3 X3 k 0) (rawWin i v hv arg4 X4 k 0) acc.2.2.1 acc.2.2.2.2.1) 0 :=
    store_third arg11 f11 [] (k0_off2_inb i v hv k 0) _ 0 (off2_blk i v k 0 (by decide)) _ 0 slices_S384x128_o0_0_S128x128 shapeCasts_S128x128_S128x128 rfl _ h11
  generalize q1 : addBlk (F := F) _ _ _ _ _ = Q1 at e1
  have e2 : arg11.view.read (Elt F) (arg11.view.writes (Elt F) f11 (trip_k0_t1.sl.HW_arg11_2 (F := F) i arg2 arg3 arg4 arg5 arg11 (BitVec.ofNat 32 (i 1).val) v hv (Scalar.subi (Scalar.addi (BitVec.ofNat 32 (i 1).val) 1#32) v) k0_pay171 k0_pay172 X2 X3 X4 X5 k acc f11)) = addBlk Q1 (keyBlk (i 1).val v k.val 1) 0 (hDk (BitVec.ofNat 32 (i 1).val) (leftW (i 1).val v k.val) (Scf.iv 0#32 1#32 k.val) (rawT arg2 X2 0) (k0_pay13 (rawT arg5 X5 0)) (rawWin i v hv arg3 X3 k 0) (rawWin i v hv arg4 X4 k 0) acc.2.2.1 acc.2.2.2.2.1) 1 :=
    store_third arg11 f11 (trip_k0_t1.sl.HW_arg11_1 (F := F) i arg2 arg3 arg4 arg5 arg11 (BitVec.ofNat 32 (i 1).val) v hv (Scalar.subi (Scalar.addi (BitVec.ofNat 32 (i 1).val) 1#32) v) k0_pay171 k0_pay172 X2 X3 X4 X5 k acc f11) (k0_off2_inb i v hv k 1) _ 0 (off2_blk i v k 1 (by decide)) _ 1 slices_S384x128_o128_0_S128x128 shapeCasts_S128x128_S128x128 rfl _ e1
  generalize q2 : addBlk (F := F) _ _ _ _ _ = Q2 at e2
  have e3 : arg11.view.read (Elt F) (arg11.view.writes (Elt F) f11 (trip_k0_t1.sl.HW_arg11_3 (F := F) i arg2 arg3 arg4 arg5 arg11 (BitVec.ofNat 32 (i 1).val) v hv (Scalar.subi (Scalar.addi (BitVec.ofNat 32 (i 1).val) 1#32) v) k0_pay171 k0_pay172 X2 X3 X4 X5 k acc f11)) = addBlk Q2 (keyBlk (i 1).val v k.val 2) 0 (hDk (BitVec.ofNat 32 (i 1).val) (leftW (i 1).val v k.val) (Scf.iv 0#32 1#32 k.val) (rawT arg2 X2 0) (k0_pay13 (rawT arg5 X5 0)) (rawWin i v hv arg3 X3 k 0) (rawWin i v hv arg4 X4 k 0) acc.2.2.1 acc.2.2.2.2.1) 2 :=
    store_third arg11 f11 (trip_k0_t1.sl.HW_arg11_2 (F := F) i arg2 arg3 arg4 arg5 arg11 (BitVec.ofNat 32 (i 1).val) v hv (Scalar.subi (Scalar.addi (BitVec.ofNat 32 (i 1).val) 1#32) v) k0_pay171 k0_pay172 X2 X3 X4 X5 k acc f11) (k0_off2_inb i v hv k 2) _ 0 (off2_blk i v k 2 (by decide)) _ 2 slices_S384x128_o256_0_S128x128 shapeCasts_S128x128_S128x128 rfl _ e2
  generalize q3 : addBlk (F := F) _ _ _ _ _ = Q3 at e3
  have e4 : arg11.view.read (Elt F) (arg11.view.writes (Elt F) f11 (trip_k0_t1.sl.HW_arg11_4 (F := F) i arg2 arg3 arg4 arg5 arg11 (BitVec.ofNat 32 (i 1).val) v hv (Scalar.subi (Scalar.addi (BitVec.ofNat 32 (i 1).val) 1#32) v) k0_pay171 k0_pay172 X2 X3 X4 X5 k acc f11)) = addBlk Q3 (keyBlk (i 1).val v k.val 0) 1 (hDk (BitVec.ofNat 32 (i 1).val) (leftW (i 1).val v k.val) (Scf.iv 0#32 1#32 k.val) (rawT arg2 X2 1) (k0_pay13 (rawT arg5 X5 1)) (rawWin i v hv arg3 X3 k 1) (rawWin i v hv arg4 X4 k 1) acc.2.2.2.1 acc.2.2.2.2.2) 0 :=
    store_third arg11 f11 (trip_k0_t1.sl.HW_arg11_3 (F := F) i arg2 arg3 arg4 arg5 arg11 (BitVec.ofNat 32 (i 1).val) v hv (Scalar.subi (Scalar.addi (BitVec.ofNat 32 (i 1).val) 1#32) v) k0_pay171 k0_pay172 X2 X3 X4 X5 k acc f11) (k0_off3_inb i v hv k 0) _ 1 (off3_blk i v k 0 (by decide)) _ 0 slices_S384x128_o0_0_S128x128 shapeCasts_S128x128_S128x128 rfl _ e3
  generalize q4 : addBlk (F := F) _ _ _ _ _ = Q4 at e4
  have e5 : arg11.view.read (Elt F) (arg11.view.writes (Elt F) f11 (trip_k0_t1.sl.HW_arg11_5 (F := F) i arg2 arg3 arg4 arg5 arg11 (BitVec.ofNat 32 (i 1).val) v hv (Scalar.subi (Scalar.addi (BitVec.ofNat 32 (i 1).val) 1#32) v) k0_pay171 k0_pay172 X2 X3 X4 X5 k acc f11)) = addBlk Q4 (keyBlk (i 1).val v k.val 1) 1 (hDk (BitVec.ofNat 32 (i 1).val) (leftW (i 1).val v k.val) (Scf.iv 0#32 1#32 k.val) (rawT arg2 X2 1) (k0_pay13 (rawT arg5 X5 1)) (rawWin i v hv arg3 X3 k 1) (rawWin i v hv arg4 X4 k 1) acc.2.2.2.1 acc.2.2.2.2.2) 1 :=
    store_third arg11 f11 (trip_k0_t1.sl.HW_arg11_4 (F := F) i arg2 arg3 arg4 arg5 arg11 (BitVec.ofNat 32 (i 1).val) v hv (Scalar.subi (Scalar.addi (BitVec.ofNat 32 (i 1).val) 1#32) v) k0_pay171 k0_pay172 X2 X3 X4 X5 k acc f11) (k0_off3_inb i v hv k 1) _ 1 (off3_blk i v k 1 (by decide)) _ 1 slices_S384x128_o128_0_S128x128 shapeCasts_S128x128_S128x128 rfl _ e4
  generalize q5 : addBlk (F := F) _ _ _ _ _ = Q5 at e5
  have e6 := store_third arg11 f11 (trip_k0_t1.sl.HW_arg11_5 (F := F) i arg2 arg3 arg4 arg5 arg11 (BitVec.ofNat 32 (i 1).val) v hv (Scalar.subi (Scalar.addi (BitVec.ofNat 32 (i 1).val) 1#32) v) k0_pay171 k0_pay172 X2 X3 X4 X5 k acc f11) (k0_off3_inb i v hv k 2) _ 1 (off3_blk i v k 2 (by decide)) (hDk (BitVec.ofNat 32 (i 1).val) (leftW (i 1).val v k.val) (Scf.iv 0#32 1#32 k.val) (rawT arg2 X2 1) (k0_pay13 (rawT arg5 X5 1)) (rawWin i v hv arg3 X3 k 1) (rawWin i v hv arg4 X4 k 1) acc.2.2.2.1 acc.2.2.2.2.2) 2 slices_S384x128_o256_0_S128x128 shapeCasts_S128x128_S128x128 rfl _ e5
  unfold tripL_k0_t1 trip_k0_t1
  refine Eq.trans e6 ?_
  subst q5 q4 q3 q2 q1
  rw [rawT_eq arg2 X2, rawT_eq arg2 X2, rawT_eq arg5 X5, rawT_eq arg5 X5, rawWin_eq i v hv arg3 X3 k, rawWin_eq i v hv arg3 X3 k, rawWin_eq i v hv arg4 X4 k, rawWin_eq i v hv arg4 X4 k]
  rfl

/-- A trip leaves in the scratch buffer of the gradient of v what the model's step does. -/
theorem trip_store12 (k : Fin (k0_t1_loop v).trips) (acc : Carry F) (f11 : BufTy.Contents (Elt F) arg11.view.ty) (f12 : BufTy.Contents (Elt F) arg12.view.ty)
    (K V : Vec F S8320x256 .f32) (h12 : arg12.view.read (Elt F) f12 = V) :
    arg12.view.read (Elt F) (arg12.view.writes (Elt F) f12 (tripL_k0_t1 (F := F) Variants.none c none i arg2 harg2 arg3 harg3 arg4 harg4 arg5 harg5 arg6 harg6 arg7 harg7 arg8 harg8 arg9 harg9 arg10 harg10 arg11
        harg11 arg12 harg12 (BitVec.ofNat 32 (i 1).val) v hv (Scalar.subi (Scalar.addi (BitVec.ofNat 32 (i 1).val) 1#32) v) k0_pay171 k0_pay172 X2 X3 X4 X5 k acc f11 f12).2)
      = (stepM i arg2 arg3 arg4 arg5 v X2 X3 X4 X5 k.val (acc, K, V)).2.2 := by
  have e1 : arg12.view.read (Elt F) (arg12.view.writes (Elt F) f12 (trip_k0_t1.sl.HW_arg12_1 (F := F) i arg2 arg3 arg5 arg12 (BitVec.ofNat 32 (i 1).val) v hv (Scalar.subi (Scalar.addi (BitVec.ofNat 32 (i 1).val) 1#32) v) k0_pay171 X2 X3 X5 k acc f12)) = addBlk V (keyBlk (i 1).val v k.val 0) 0 (hDv (BitVec.ofNat 32 (i 1).val) (leftW (i 1).val v k.val) (Scf.iv 0#32 1#32 k.val) (rawT arg2 X2 0) (k0_pay13 (rawT arg5 X5 0)) (rawWin i v hv arg3 X3 k 0) acc.2.2.1) 0 :=
    store_third arg12 f12 [] (k0_off2_inb i v hv k 0) _ 0 (off2_blk i v k 0 (by decide)) _ 0 slices_S384x128_o0_0_S128x128 shapeCasts_S128x128_S128x128 rfl _ h12
  generalize q1 : addBlk (F := F) _ _ _ _ _ = Q1 at e1
  have e2 : arg12.view.read (Elt F) (arg12.view.writes (Elt F) f12 (trip_k0_t1.sl.HW_arg12_2 (F := F) i arg2 arg3 arg5 arg12 (BitVec.ofNat 32 (i 1).val) v hv (Scalar.subi (Scalar.addi (BitVec.ofNat 32 (i 1).val) 1#32) v) k0_pay171 X2 X3 X5 k acc f12)) = addBlk Q1 (keyBlk (i 1).val v k.val 1) 0 (hDv (BitVec.ofNat 32 (i 1).val) (leftW (i 1).val v k.val) (Scf.iv 0#32 1#32 k.val) (rawT arg2 X2 0) (k0_pay13 (rawT arg5 X5 0)) (rawWin i v hv arg3 X3 k 0) acc.2.2.1) 1 :=
    store_third arg12 f12 (trip_k0_t1.sl.HW_arg12_1 (F := F) i arg2 arg3 arg5 arg12 (BitVec.ofNat 32 (i 1).val) v hv (Scalar.subi (Scalar.addi (BitVec.ofNat 32 (i 1).val) 1#32) v) k0_pay171 X2 X3 X5 k acc f12) (k0_off2_inb i v hv k 1) _ 0 (off2_blk i v k 1 (by decide)) _ 1 slices_S384x128_o128_0_S128x128 shapeCasts_S128x128_S128x128 rfl _ e1
  generalize q2 : addBlk (F := F) _ _ _ _ _ = Q2 at e2
  have e3 : arg12.view.read (Elt F) (arg12.view.writes (Elt F) f12 (trip_k0_t1.sl.HW_arg12_3 (F := F) i arg2 arg3 arg5 arg12 (BitVec.ofNat 32 (i 1).val) v hv (Scalar.subi (Scalar.addi (BitVec.ofNat 32 (i 1).val) 1#32) v) k0_pay171 X2 X3 X5 k acc f12)) = addBlk Q2 (keyBlk (i 1).val v k.val 2) 0 (hDv (BitVec.ofNat 32 (i 1).val) (leftW (i 1).val v k.val) (Scf.iv 0#32 1#32 k.val) (rawT arg2 X2 0) (k0_pay13 (rawT arg5 X5 0)) (rawWin i v hv arg3 X3 k 0) acc.2.2.1) 2 :=
    store_third arg12 f12 (trip_k0_t1.sl.HW_arg12_2 (F := F) i arg2 arg3 arg5 arg12 (BitVec.ofNat 32 (i 1).val) v hv (Scalar.subi (Scalar.addi (BitVec.ofNat 32 (i 1).val) 1#32) v) k0_pay171 X2 X3 X5 k acc f12) (k0_off2_inb i v hv k 2) _ 0 (off2_blk i v k 2 (by decide)) _ 2 slices_S384x128_o256_0_S128x128 shapeCasts_S128x128_S128x128 rfl _ e2
  generalize q3 : addBlk (F := F) _ _ _ _ _ = Q3 at e3
  have e4 : arg12.view.read (Elt F) (arg12.view.writes (Elt F) f12 (trip_k0_t1.sl.HW_arg12_4 (F := F) i arg2 arg3 arg5 arg12 (BitVec.ofNat 32 (i 1).val) v hv (Scalar.subi (Scalar.addi (BitVec.ofNat 32 (i 1).val) 1#32) v) k0_pay171 X2 X3 X5 k acc f12)) = addBlk Q3 (keyBlk (i 1).val v k.val 0) 1 (hDv (BitVec.ofNat 32 (i 1).val) (leftW (i 1).val v k.val) (Scf.iv 0#32 1#32 k.val) (rawT arg2 X2 1) (k0_pay13 (rawT arg5 X5 1)) (rawWin i v hv arg3 X3 k 1) acc.2.2.2.1) 0 :=
    store_third arg12 f12 (trip_k0_t1.sl.HW_arg12_3 (F := F) i arg2 arg3 arg5 arg12 (BitVec.ofNat 32 (i 1).val) v hv (Scalar.subi (Scalar.addi (BitVec.ofNat 32 (i 1).val) 1#32) v) k0_pay171 X2 X3 X5 k acc f12) (k0_off3_inb i v hv k 0) _ 1 (off3_blk i v k 0 (by decide)) _ 0 slices_S384x128_o0_0_S128x128 shapeCasts_S128x128_S128x128 rfl _ e3
  generalize q4 : addBlk (F := F) _ _ _ _ _ = Q4 at e4
  have e5 : arg12.view.read (Elt F) (arg12.view.writes (Elt F) f12 (trip_k0_t1.sl.HW_arg12_5 (F := F) i arg2 arg3 arg5 arg12 (BitVec.ofNat 32 (i 1).val) v hv (Scalar.subi (Scalar.addi (BitVec.ofNat 32 (i 1).val) 1#32) v) k0_pay171 X2 X3 X5 k acc f12)) = addBlk Q4 (keyBlk (i 1).val v k.val 1) 1 (hDv (BitVec.ofNat 32 (i 1).val) (leftW (i 1).val v k.val) (Scf.iv 0#32 1#32 k.val) (rawT arg2 X2 1) (k0_pay13 (rawT arg5 X5 1)) (rawWin i v hv arg3 X3 k 1) acc.2.2.2.1) 1 :=
    store_third arg12 f12 (trip_k0_t1.sl.HW_arg12_4 (F := F) i arg2 arg3 arg5 arg12 (BitVec.ofNat 32 (i 1).val) v hv (Scalar.subi (Scalar.addi (BitVec.ofNat 32 (i 1).val) 1#32) v) k0_pay171 X2 X3 X5 k acc f12) (k0_off3_inb i v hv k 1) _ 1 (off3_blk i v k 1 (by decide)) _ 1 slices_S384x128_o128_0_S128x128 shapeCasts_S128x128_S128x128 rfl _ e4
  generalize q5 : addBlk (F := F) _ _ _ _ _ = Q5 at e5
  have e6 := store_third arg12 f12 (trip_k0_t1.sl.HW_arg12_5 (F := F) i arg2 arg3 arg5 arg12 (BitVec.ofNat 32 (i 1).val) v hv (Scalar.subi (Scalar.addi (BitVec.ofNat 32 (i 1).val) 1#32) v) k0_pay171 X2 X3 X5 k acc f12) (k0_off3_inb i v hv k 2) _ 1 (off3_blk i v k 2 (by decide)) (hDv (BitVec.ofNat 32 (i 1).val) (leftW (i 1).val v k.val) (Scf.iv 0#32 1#32 k.val) (rawT arg2 X2 1) (k0_pay13 (rawT arg5 X5 1)) (rawWin i v hv arg3 X3 k 1) acc.2.2.2.1) 2 slices_S384x128_o256_0_S128x128 shapeCasts_S128x128_S128x128 rfl _ e5
  unfold tripL_k0_t1 trip_k0_t1
  refine Eq.trans e6 ?_
  subst q5 q4 q3 q2 q1
  rw [rawT_eq arg2 X2, rawT_eq arg2 X2, rawT_eq arg5 X5, rawT_eq arg5 X5, rawWin_eq i v hv arg3 X3 k, rawWin_eq i v hv arg3 X3 k]
  rfl

end Loop

end Cert.KernelIdeal.Hand

end
-- ==== Proof.Point.lean ====
module

public import proofs.«01_k».proof.Proof.Body
public import proofs.«01_k».proof.Proof.Trip
public import Idealize.ShloMosaic.Lib.Pointwise

/-!
  What the body's runs leave behind, in the words of the plain model: the block of the gradient of `q` and the two scratch buffers
  are those of `ptEnd`, at what the point's blocks read.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The count of key blocks a grid point walks, as the kernel reads it. -/
def cntW (C : Vec F S4x65 .f32) (i : grid0.Coords) : BitVec 32 :=
  Scalar.fptosi 32 (C (ValueIdx.ix2 (⟨(i 0).val, (i 0).isLt⟩ : Fin 4) (⟨(i 1).val, (i 1).isLt⟩ : Fin 65)) : F .f32)

/-- The state a grid point ends in, its count read. -/
def ptOf (i : grid0.Coords) (X2 : Vec F S128x256 .bf16) (X3 X4 : Vec F S8320x256 .bf16) (X5 : Vec F S128x256 .f32) (X6 : Vec F S2x128x128 .f32)
    (C : Vec F S4x65 .f32) (K V : Vec F S8320x256 .f32) : PtState F :=
  ptEnd (i 1).val (cntW C i) X2 X3 X4 X5 X6 K V

section Loop

variable  (c : Dev nD) (i : grid0.Coords)
  (arg2 : Memref sig .tc .vmem S128x256 .bf16) (harg2 : arg2.IsWhole) (arg3 : Memref sig .tc .vmem S8320x256 .bf16) (harg3 : arg3.IsWhole)
  (arg4 : Memref sig .tc .vmem S8320x256 .bf16) (harg4 : arg4.IsWhole) (arg5 : Memref sig .tc .vmem S128x256 .f32) (harg5 : arg5.IsWhole)
  (arg6 : Memref sig .tc .vmem S2x128x128 .f32) (harg6 : arg6.IsWhole) (arg7 : Memref sig .tc .smem S4x65 .f32) (harg7 : arg7.IsWhole)
  (arg8 : Memref sig .tc .vmem S128x256 .bf16) (harg8 : arg8.IsWhole) (arg9 : Memref sig .tc .vmem S8320x256 .bf16) (harg9 : arg9.IsWhole)
  (arg10 : Memref sig .tc .vmem S8320x256 .bf16) (harg10 : arg10.IsWhole) (arg11 : Memref sig .tc .vmem S8320x256 .f32) (harg11 : arg11.IsWhole)
  (arg12 : Memref sig .tc .vmem S8320x256 .f32) (harg12 : arg12.IsWhole)
  (X2 : BufTy.Contents (Elt F) arg2.view.ty) (X3 : BufTy.Contents (Elt F) arg3.view.ty) (X4 : BufTy.Contents (Elt F) arg4.view.ty)
  (X5 : BufTy.Contents (Elt F) arg5.view.ty) (v : BitVec 32) (hv : k0_chk1 i v)
  (G11 : BufTy.Contents (Elt F) arg11.view.ty) (G12 : BufTy.Contents (Elt F) arg12.view.ty) (init : Carry F)

/-- The state before each trip is the model's. -/
theorem loop_state (n : ℕ) (hn : n ≤ (k0_t1_loop v).trips) :
    (st_k0_t1 (F := F) Variants.none c none i arg2 harg2 arg3 harg3 arg4 harg4 arg5 harg5 arg6 harg6 arg7 harg7 arg8 harg8 arg9 harg9 arg10 harg10 arg11
            harg11 arg12 harg12 (BitVec.ofNat 32 (i 1).val) v hv (Scalar.subi (Scalar.addi (BitVec.ofNat 32 (i 1).val) 1#32) v) k0_pay171 k0_pay172 X2 X3 X4 X5 G11 G12 init n).1 = (ptAt (i 1).val v (arg2.view.read (Elt F) X2) (arg3.view.read (Elt F) X3) (arg4.view.read (Elt F) X4) (arg5.view.read (Elt F) X5)
            (init, arg11.view.read (Elt F) G11, arg12.view.read (Elt F) G12) n).1 ∧
    arg11.view.read (Elt F) (arg11.view.writes (Elt F) G11 (st_k0_t1 (F := F) Variants.none c none i arg2 harg2 arg3 harg3 arg4 harg4 arg5 harg5 arg6 harg6 arg7 harg7 arg8 harg8 arg9 harg9 arg10 harg10 arg11
            harg11 arg12 harg12 (BitVec.ofNat 32 (i 1).val) v hv (Scalar.subi (Scalar.addi (BitVec.ofNat 32 (i 1).val) 1#32) v) k0_pay171 k0_pay172 X2 X3 X4 X5 G11 G12 init n).2.1) = (ptAt (i 1).val v (arg2.view.read (Elt F) X2) (arg3.view.read (Elt F) X3) (arg4.view.read (Elt F) X4) (arg5.view.read (Elt F) X5)
            (init, arg11.view.read (Elt F) G11, arg12.view.read (Elt F) G12) n).2.1 ∧
    arg12.view.read (Elt F) (arg12.view.writes (Elt F) G12 (st_k0_t1 (F := F) Variants.none c none i arg2 harg2 arg3 harg3 arg4 harg4 arg5 harg5 arg6 harg6 arg7 harg7 arg8 harg8 arg9 harg9 arg10 harg10 arg11
            harg11 arg12 harg12 (BitVec.ofNat 32 (i 1).val) v hv (Scalar.subi (Scalar.addi (BitVec.ofNat 32 (i 1).val) 1#32) v) k0_pay171 k0_pay172 X2 X3 X4 X5 G11 G12 init n).2.2) = (ptAt (i 1).val v (arg2.view.read (Elt F) X2) (arg3.view.read (Elt F) X3) (arg4.view.read (Elt F) X4) (arg5.view.read (Elt F) X5)
            (init, arg11.view.read (Elt F) G11, arg12.view.read (Elt F) G12) n).2.2 := by
  induction n with
  | zero => exact ⟨rfl, rfl, rfl⟩
  | succ n ih =>
    obtain ⟨h1, h2, h3⟩ := ih (Nat.le_of_succ_le hn)
    have hs := st_k0_t1_succ (F := F) Variants.none c none i arg2 harg2 arg3 harg3 arg4 harg4 arg5 harg5 arg6 harg6 arg7 harg7 arg8 harg8 arg9 harg9 arg10 harg10 arg11
            harg11 arg12 harg12 (BitVec.ofNat 32 (i 1).val) v hv (Scalar.subi (Scalar.addi (BitVec.ofNat 32 (i 1).val) 1#32) v) k0_pay171 k0_pay172 X2 X3 X4 X5 G11 G12 init ⟨n, hn⟩
    rw [hs]
    generalize st_k0_t1 (F := F) Variants.none c none i arg2 harg2 arg3 harg3 arg4 harg4 arg5 harg5 arg6 harg6 arg7 harg7 arg8 harg8 arg9 harg9 arg10 harg10 arg11
            harg11 arg12 harg12 (BitVec.ofNat 32 (i 1).val) v hv (Scalar.subi (Scalar.addi (BitVec.ofNat 32 (i 1).val) 1#32) v) k0_pay171 k0_pay172 X2 X3 X4 X5 G11 G12 init n = st at h1 h2 h3
    have e : ptAt (i 1).val v (arg2.view.read (Elt F) X2) (arg3.view.read (Elt F) X3) (arg4.view.read (Elt F) X4) (arg5.view.read (Elt F) X5)
        (init, arg11.view.read (Elt F) G11, arg12.view.read (Elt F) G12) (n + 1) = stepM i arg2 arg3 arg4 arg5 v X2 X3 X4 X5 n (ptAt (i 1).val v (arg2.view.read (Elt F) X2) (arg3.view.read (Elt F) X3) (arg4.view.read (Elt F) X4) (arg5.view.read (Elt F) X5)
            (init, arg11.view.read (Elt F) G11, arg12.view.read (Elt F) G12) n) := rfl
    rw [e]
    generalize ptAt (i 1).val v (arg2.view.read (Elt F) X2) (arg3.view.read (Elt F) X3) (arg4.view.read (Elt F) X4) (arg5.view.read (Elt F) X5)
            (init, arg11.view.read (Elt F) G11, arg12.view.read (Elt F) G12) n = S at h1 h2 h3
    obtain ⟨a, K, V⟩ := S
    obtain ⟨acc, L11, L12⟩ := st
    dsimp only at h1 h2 h3
    subst h1
    refine ⟨?_, ?_, ?_⟩
    · exact trip_result c i arg2 harg2 arg3 harg3 arg4 harg4 arg5 harg5 arg6 harg6 arg7 harg7 arg8 harg8 arg9 harg9 arg10 harg10 arg11
            harg11 arg12 harg12 v hv X2 X3 X4 X5 ⟨n, hn⟩ acc (arg11.view.writes (Elt F) G11 L11) (arg12.view.writes (Elt F) G12 L12) K V
    · dsimp only
      rw [View.writes_append]
      exact trip_store11 c i arg2 harg2 arg3 harg3 arg4 harg4 arg5 harg5 arg6 harg6 arg7 harg7 arg8 harg8 arg9 harg9 arg10 harg10 arg11
            harg11 arg12 harg12 v hv X2 X3 X4 X5 ⟨n, hn⟩ acc (arg11.view.writes (Elt F) G11 L11) (arg12.view.writes (Elt F) G12 L12) K V h2
    · dsimp only
      rw [View.writes_append]
      exact trip_store12 c i arg2 harg2 arg3 harg3 arg4 harg4 arg5 harg5 arg6 harg6 arg7 harg7 arg8 harg8 arg9 harg9 arg10 harg10 arg11
            harg11 arg12 harg12 v hv X2 X3 X4 X5 ⟨n, hn⟩ acc (arg11.view.writes (Elt F) G11 L11) (arg12.view.writes (Elt F) G12 L12) K V h3

end Loop

section End

variable  (c : Dev nD) (i : grid0.Coords)
  (arg2 : Memref sig .tc .vmem S128x256 .bf16) (harg2 : arg2.IsWhole) (arg3 : Memref sig .tc .vmem S8320x256 .bf16) (harg3 : arg3.IsWhole)
  (arg4 : Memref sig .tc .vmem S8320x256 .bf16) (harg4 : arg4.IsWhole) (arg5 : Memref sig .tc .vmem S128x256 .f32) (harg5 : arg5.IsWhole)
  (arg6 : Memref sig .tc .vmem S2x128x128 .f32) (harg6 : arg6.IsWhole) (arg7 : Memref sig .tc .smem S4x65 .f32) (harg7 : arg7.IsWhole)
  (arg8 : Memref sig .tc .vmem S128x256 .bf16) (harg8 : arg8.IsWhole) (arg9 : Memref sig .tc .vmem S8320x256 .bf16) (harg9 : arg9.IsWhole)
  (arg10 : Memref sig .tc .vmem S8320x256 .bf16) (harg10 : arg10.IsWhole) (arg11 : Memref sig .tc .vmem S8320x256 .f32) (harg11 : arg11.IsWhole)
  (arg12 : Memref sig .tc .vmem S8320x256 .f32) (harg12 : arg12.IsWhole)
  (X2 : BufTy.Contents (Elt F) arg2.view.ty) (X3 : BufTy.Contents (Elt F) arg3.view.ty) (X4 : BufTy.Contents (Elt F) arg4.view.ty)
  (X5 : BufTy.Contents (Elt F) arg5.view.ty) (v : BitVec 32) (hv : k0_chk1 i v)
  (G11 : BufTy.Contents (Elt F) arg11.view.ty) (G12 : BufTy.Contents (Elt F) arg12.view.ty) (init : Carry F)

/-- The state after the last trip. -/
theorem loop_end (n : ℕ) (hn : n = (k0_t1_loop v).trips) (K V : Vec F S8320x256 .f32) (hK : arg11.view.read (Elt F) G11 = K)
    (hV : arg12.view.read (Elt F) G12 = V) :
    (st_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) v hv (Scalar.subi (Scalar.addi (BitVec.ofNat 32 (i 1).val) 1#32) v) k0_pay171 k0_pay172 X2 X3 X4 X5 G11 G12 init n).1 = (ptAt (i 1).val v (arg2.view.read (Elt F) X2) (arg3.view.read (Elt F) X3) (arg4.view.read (Elt F) X4) (arg5.view.read (Elt F) X5) (init, K, V) (v.toInt / 3).toNat).1 ∧
    arg11.view.read (Elt F) (arg11.view.writes (Elt F) G11 (st_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) v hv (Scalar.subi (Scalar.addi (BitVec.ofNat 32 (i 1).val) 1#32) v) k0_pay171 k0_pay172 X2 X3 X4 X5 G11 G12 init n).2.1) = (ptAt (i 1).val v (arg2.view.read (Elt F) X2) (arg3.view.read (Elt F) X3) (arg4.view.read (Elt F) X4) (arg5.view.read (Elt F) X5) (init, K, V) (v.toInt / 3).toNat).2.1 ∧
    arg12.view.read (Elt F) (arg12.view.writes (Elt F) G12 (st_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) v hv (Scalar.subi (Scalar.addi (BitVec.ofNat 32 (i 1).val) 1#32) v) k0_pay171 k0_pay172 X2 X3 X4 X5 G11 G12 init n).2.2) = (ptAt (i 1).val v (arg2.view.read (Elt F) X2) (arg3.view.read (Elt F) X3) (arg4.view.read (Elt F) X4) (arg5.view.read (Elt F) X5) (init, K, V) (v.toInt / 3).toNat).2.2 := by
  subst hn hK hV
  have h := loop_state c i arg2 harg2 arg3 harg3 arg4 harg4 arg5 harg5 arg6 harg6 arg7 harg7 arg8 harg8 arg9 harg9 arg10 harg10 arg11 harg11 arg12 harg12 X2 X3 X4 X5 v hv G11 G12 init _ (le_refl _)
  rwa [← trips_eq_third v]

/-- The remainder loop makes no trip. -/
theorem rest_none (a v8 v50 : BitVec 32) (v14 v20 : FVec F S128x128 .bf16) (n : ℕ) : st_k0_t2 (F := F) Variants.none c none i arg2 harg2 arg3 harg3 arg4 harg4 arg5 harg5 arg6 harg6 arg7 harg7 arg8 harg8 arg9 harg9 arg10 harg10 arg11 harg11 arg12 harg12 a v hv v8 v14 v20 v50 X2 X3 X4 X5 G11 G12 init n = (init, [], []) := by
  induction n with
  | zero => rfl
  | succ n ih =>
    rw [st_k0_t2.eq_2]
    unfold st_k0_t2Step
    rw [dif_neg fun h => no_trip v ⟨n, h⟩]
    exact ih

end End

/-- A head's column of starting sums as the body loads it. -/
theorem start_load (M : Memref sig .tc .vmem S2x128x128 .f32) (X : BufTy.Contents (Elt F) M.view.ty) (h : Fin 2) {off : Fin 3 → ℕ}
    (inb : ∀ a, off a + S1x128x1.size a ≤ S2x128x128.size a) (ho : off = ![h.val, 0, 0]) :
    shapeCast S128x1 (View.readAt (Elt F) M.view (Rect.unit (s := S2x128x128) off S1x128x1.size inb).toLoadRect X : Vec F S1x128x1 .f32) shapeCasts_S1x128x1_S128x1
      = startCol (M.view.read (Elt F) X) h := by
  subst ho
  funext y
  generalize hZ : (View.readAt (Elt F) M.view (Rect.unit (s := S2x128x128) ![h.val, 0, 0] S1x128x1.size inb).toLoadRect X : Vec F S1x128x1 .f32) = Z
  have e : shapeCast S128x1 Z shapeCasts_S1x128x1_S128x1 y = Z (ValueIdx.ix3 0 (y 0) 0) := by
    pointwise
    rfl
  rw [e, ← hZ]
  refine congrArg (M.view.read (Elt F) X) (funext fun a => Fin.ext ?_)
  fin_cases a
  · show h.val + 1 * 0 = h.val; omega
  · show 0 + 1 * (y 0).val = (y 0).val; omega
  · rfl

/-- The count word as the body loads it. -/
theorem count_load (i : grid0.Coords) (M : Memref sig .tc .smem S4x65 .f32) (X : BufTy.Contents (Elt F) M.view.ty) {off : Fin 2 → ℕ}
    (inb : ∀ a, off a + S1x1.size a ≤ S4x65.size a) (ho : off = ![(i 0).val, (i 1).val]) (y : S1x1.Idx) :
    (Scalar.fptosi 32 (View.readAt (Elt F) M.view (Rect.unit (s := S4x65) off S1x1.size inb).toLoadRect X y : F .f32) : BitVec 32) = cntW (M.view.read (Elt F) X) i := by
  subst ho
  unfold cntW
  refine congrArg (Scalar.fptosi 32) (congrArg (M.view.read (Elt F) X) (funext fun a => Fin.ext ?_))
  have h0 : (y 0).val < 1 := (y 0).isLt
  have h1 : (y 1).val < 1 := (y 1).isLt
  fin_cases a
  · show (i 0).val + 1 * (y 0).val = (i 0).val; omega
  · show (i 1).val + 1 * (y 1).val = (i 1).val; omega

/-- The two halves of the block of the gradient of `q`, written one after the other. -/
theorem dq_store (M : Memref sig .tc .vmem S128x256 .bf16) (f : BufTy.Contents (Elt F) M.view.ty) (A : Carry F) :
    M.view.read (Elt F) (M.view.writes (Elt F) f [⟨Rect.unit (s := S128x256) ![0, 128] S128x128.size inb_S128x256_S128x128_0_128, k0_pay10 A.2.1⟩,
      ⟨Rect.unit (s := S128x256) ![0, 0] S128x128.size inb_S128x256_S128x128_0_0, k0_pay9 A.1⟩]) = dqBlk A := by
  rw [View.read_writes_cons_put M.view f _ _ _ rfl, View.read_writes_cons_put M.view f _ _ _ rfl]
  funext y
  have hy1 : (y 1).val < 256 := (y 1).isLt
  have hy0 : (y 0).val < 128 := (y 0).isLt
  unfold VecWindow.put dqBlk
  by_cases hy : (y 1).val < 128
  · rw [dif_pos hy, dif_neg (by intro h; have := (h 1).1; change 128 ≤ (y 1).val at this; omega),
      dif_pos (by intro a; fin_cases a <;> [exact ⟨Nat.zero_le _, hy0⟩; exact ⟨Nat.zero_le _, hy⟩])]
    refine congrArg (k0_pay9 A.1) (funext fun a => Fin.ext ?_)
    fin_cases a <;> rfl
  · rw [dif_neg hy, dif_pos (by intro a; fin_cases a <;> [exact ⟨Nat.zero_le _, hy0⟩; exact ⟨by show 128 ≤ (y 1).val; omega, by show (y 1).val < 128 + 128; omega⟩])]
    refine congrArg (k0_pay10 A.2.1) (funext fun a => Fin.ext ?_)
    fin_cases a <;> rfl

/-- A load of a whole scratch buffer is what it reads. -/
theorem load_all (M : Memref sig .tc .vmem S8320x256 .f32) (X : BufTy.Contents (Elt F) M.view.ty) {off : Fin 2 → ℕ}
    (inb : ∀ a, off a + S8320x256.size a ≤ S8320x256.size a) (ho : off = ![0, 0]) :
    View.readAt (Elt F) M.view (Rect.unit (s := S8320x256) off S8320x256.size inb).toLoadRect X = M.view.read (Elt F) X := by
  subst ho
  funext y
  refine congrArg (M.view.read (Elt F) X) (funext fun a => Fin.ext ?_)
  fin_cases a
  · show 0 + 1 * (y 0).val = (y 0).val; omega
  · show 0 + 1 * (y 1).val = (y 1).val; omega

section Run

variable  (c : Dev nD) (i : grid0.Coords)
  (arg2 : Memref sig .tc .vmem S128x256 .bf16) (harg2 : arg2.IsWhole) (arg3 : Memref sig .tc .vmem S8320x256 .bf16) (harg3 : arg3.IsWhole)
  (arg4 : Memref sig .tc .vmem S8320x256 .bf16) (harg4 : arg4.IsWhole) (arg5 : Memref sig .tc .vmem S128x256 .f32) (harg5 : arg5.IsWhole)
  (arg6 : Memref sig .tc .vmem S2x128x128 .f32) (harg6 : arg6.IsWhole) (arg7 : Memref sig .tc .smem S4x65 .f32) (harg7 : arg7.IsWhole)
  (arg8 : Memref sig .tc .vmem S128x256 .bf16) (harg8 : arg8.IsWhole) (arg9 : Memref sig .tc .vmem S8320x256 .bf16) (harg9 : arg9.IsWhole)
  (arg10 : Memref sig .tc .vmem S8320x256 .bf16) (harg10 : arg10.IsWhole) (arg11 : Memref sig .tc .vmem S8320x256 .f32) (harg11 : arg11.IsWhole)
  (arg12 : Memref sig .tc .vmem S8320x256 .f32) (harg12 : arg12.IsWhole)
  (X2 : BufTy.Contents (Elt F) arg2.view.ty) (X3 : BufTy.Contents (Elt F) arg3.view.ty) (X4 : BufTy.Contents (Elt F) arg4.view.ty)
  (X5 : BufTy.Contents (Elt F) arg5.view.ty)
  (X6 : BufTy.Contents (Elt F) arg6.view.ty) (X7 : BufTy.Contents (Elt F) arg7.view.ty)
  (f8 : BufTy.Contents (Elt F) arg8.view.ty) (f9 : BufTy.Contents (Elt F) arg9.view.ty) (f10 : BufTy.Contents (Elt F) arg10.view.ty)
  (f11 : BufTy.Contents (Elt F) arg11.view.ty) (f12 : BufTy.Contents (Elt F) arg12.view.ty)

/-- A first query block: the scratch buffers start at zero. -/
theorem first_result (hc1 : firstW i = 1#1) (hc2 : ¬ k0_cond2 i = 1#1) :
    arg8.view.read (Elt F) ((run_first c i arg2 harg2 arg3 harg3 arg4 harg4 arg5 harg5 arg6 harg6 arg7 harg7 arg8 harg8 arg9 harg9 arg10 harg10 arg11 harg11 arg12 harg12 X2 X3 X4 X5 X6 X7 f8 hc1 hc2).1) = dqBlk (ptOf i (arg2.view.read (Elt F) X2) (arg3.view.read (Elt F) X3) (arg4.view.read (Elt F) X4) (arg5.view.read (Elt F) X5) (arg6.view.read (Elt F) X6)
      (arg7.view.read (Elt F) X7) k0_pay169 k0_pay170).1 ∧
    arg11.view.read (Elt F) ((run_first c i arg2 harg2 arg3 harg3 arg4 harg4 arg5 harg5 arg6 harg6 arg7 harg7 arg8 harg8 arg9 harg9 arg10 harg10 arg11 harg11 arg12 harg12 X2 X3 X4 X5 X6 X7 f8 hc1 hc2).2.1) = (ptOf i (arg2.view.read (Elt F) X2) (arg3.view.read (Elt F) X3) (arg4.view.read (Elt F) X4) (arg5.view.read (Elt F) X5) (arg6.view.read (Elt F) X6)
      (arg7.view.read (Elt F) X7) k0_pay169 k0_pay170).2.1 ∧
    arg12.view.read (Elt F) ((run_first c i arg2 harg2 arg3 harg3 arg4 harg4 arg5 harg5 arg6 harg6 arg7 harg7 arg8 harg8 arg9 harg9 arg10 harg10 arg11 harg11 arg12 harg12 X2 X3 X4 X5 X6 X7 f8 hc1 hc2).2.2.1) = (ptOf i (arg2.view.read (Elt F) X2) (arg3.view.read (Elt F) X3) (arg4.view.read (Elt F) X4) (arg5.view.read (Elt F) X5) (arg6.view.read (Elt F) X6)
      (arg7.view.read (Elt F) X7) k0_pay169 k0_pay170).2.2 := by
  have hv : Scalar.fptosi 32 (run_first.sl.r i arg7 X7) = cntW (arg7.view.read (Elt F) X7) i := count_load i arg7 X7 (k0_off1_inb i) (k0_off1_eq i) _
  have hK : arg11.view.read (Elt F) (arg11.view.writes (Elt F) arg11.view.junk run_first.sl.H11_1) = k0_pay169 := by
    unfold run_first.sl.H11_1
    exact View.read_writes_full arg11.view _ _ _ _
  have hV : arg12.view.read (Elt F) (arg12.view.writes (Elt F) arg12.view.junk run_first.sl.H12_1) = k0_pay170 := by
    unfold run_first.sl.H12_1
    exact View.read_writes_full arg12.view _ _ _ _
  have key := fun n (hn : (k0_t1_loop (Scalar.fptosi 32 (run_first.sl.r i arg7 X7))).trips = n) => loop_end c i arg2 harg2 arg3 harg3 arg4 harg4 arg5 harg5 arg6 harg6 arg7 harg7 arg8 harg8 arg9 harg9 arg10 harg10 arg11 harg11 arg12 harg12 X2 X3 X4 X5
    (Scalar.fptosi 32 (run_first.sl.r i arg7 X7)) (chk i _) (arg11.view.writes (Elt F) arg11.view.junk run_first.sl.H11_1) (arg12.view.writes (Elt F) arg12.view.junk run_first.sl.H12_1) (k0_pay173, k0_pay174, k0_pay1 (run_first.sl.r_1 arg6 X6), k0_pay2 (View.readAt (Elt F) arg6.view (Rect.unit (s := S2x128x128) ![1, 0, 0] S1x128x1.size inb_S2x128x128_S1x128x1_1_0_0).toLoadRect X6), k0_pay3, k0_pay4) n hn.symm _ _ hK hV
  have e0 : k0_pay1 (run_first.sl.r_1 arg6 X6) = startCol (arg6.view.read (Elt F) X6) 0 := start_load arg6 X6 0 inb_S2x128x128_S1x128x1_0_0_0 rfl
  have e1 : k0_pay2 (View.readAt (Elt F) arg6.view (Rect.unit (s := S2x128x128) ![1, 0, 0] S1x128x1.size inb_S2x128x128_S1x128x1_1_0_0).toLoadRect X6)
    = startCol (arg6.view.read (Elt F) X6) 1 := start_load arg6 X6 1 inb_S2x128x128_S1x128x1_1_0_0 rfl
  have eP : ptOf i (arg2.view.read (Elt F) X2) (arg3.view.read (Elt F) X3) (arg4.view.read (Elt F) X4) (arg5.view.read (Elt F) X5) (arg6.view.read (Elt F) X6)
      (arg7.view.read (Elt F) X7) k0_pay169 k0_pay170 = ptAt (i 1).val (Scalar.fptosi 32 (run_first.sl.r i arg7 X7)) (arg2.view.read (Elt F) X2) (arg3.view.read (Elt F) X3) (arg4.view.read (Elt F) X4)
      (arg5.view.read (Elt F) X5) ((k0_pay173, k0_pay174, k0_pay1 (run_first.sl.r_1 arg6 X6), k0_pay2 (View.readAt (Elt F) arg6.view (Rect.unit (s := S2x128x128) ![1, 0, 0] S1x128x1.size inb_S2x128x128_S1x128x1_1_0_0).toLoadRect X6), k0_pay3, k0_pay4), k0_pay169, k0_pay170) ((Scalar.fptosi 32 (run_first.sl.r i arg7 X7)).toInt / 3).toNat := by
    unfold ptOf ptEnd ptInit
    rw [← hv, ← e0, ← e1]
  rw [eP]
  unfold run_first
  dsimp only [run_first.sl.v6, run_first.sl.v7, run_first.sl.v8]
  rw [rest_none]
  generalize hn : Scf.trips _ _ _ = n
  obtain ⟨k1, k2, k3⟩ := key n hn
  generalize st_k0_t1 (F := F) _ _ _ _ _ _ _ _ _ _ _ _ _ _ _ _ _ _ _ _ _ _ _ _ _ _ _ _ _ _ _ _ _ _ _ _ _ _ _ n = S1 at k1 k2 k3 ⊢
  dsimp only [List.nil_append]
  refine ⟨(dq_store arg8 f8 _).trans (congrArg dqBlk k1), ?_, ?_⟩
  · rw [View.writes_append]; exact k2
  · rw [View.writes_append]; exact k3

/-- A query block in the middle. -/
theorem mid_result (hc1 : ¬ firstW i = 1#1) (hc2 : ¬ k0_cond2 i = 1#1) :
    arg8.view.read (Elt F) ((run_mid c i arg2 harg2 arg3 harg3 arg4 harg4 arg5 harg5 arg6 harg6 arg7 harg7 arg8 harg8 arg9 harg9 arg10 harg10 arg11 harg11 arg12 harg12 X2 X3 X4 X5 X6 X7 f8 f11 f12 hc1 hc2).1) = dqBlk (ptOf i (arg2.view.read (Elt F) X2) (arg3.view.read (Elt F) X3) (arg4.view.read (Elt F) X4) (arg5.view.read (Elt F) X5) (arg6.view.read (Elt F) X6)
      (arg7.view.read (Elt F) X7) (arg11.view.read (Elt F) f11) (arg12.view.read (Elt F) f12)).1 ∧
    arg11.view.read (Elt F) ((run_mid c i arg2 harg2 arg3 harg3 arg4 harg4 arg5 harg5 arg6 harg6 arg7 harg7 arg8 harg8 arg9 harg9 arg10 harg10 arg11 harg11 arg12 harg12 X2 X3 X4 X5 X6 X7 f8 f11 f12 hc1 hc2).2.1) = (ptOf i (arg2.view.read (Elt F) X2) (arg3.view.read (Elt F) X3) (arg4.view.read (Elt F) X4) (arg5.view.read (Elt F) X5) (arg6.view.read (Elt F) X6)
      (arg7.view.read (Elt F) X7) (arg11.view.read (Elt F) f11) (arg12.view.read (Elt F) f12)).2.1 ∧
    arg12.view.read (Elt F) ((run_mid c i arg2 harg2 arg3 harg3 arg4 harg4 arg5 harg5 arg6 harg6 arg7 harg7 arg8 harg8 arg9 harg9 arg10 harg10 arg11 harg11 arg12 harg12 X2 X3 X4 X5 X6 X7 f8 f11 f12 hc1 hc2).2.2.1) = (ptOf i (arg2.view.read (Elt F) X2) (arg3.view.read (Elt F) X3) (arg4.view.read (Elt F) X4) (arg5.view.read (Elt F) X5) (arg6.view.read (Elt F) X6)
      (arg7.view.read (Elt F) X7) (arg11.view.read (Elt F) f11) (arg12.view.read (Elt F) f12)).2.2 := by
  have hv : Scalar.fptosi 32 (run_mid.sl.r i arg7 X7) = cntW (arg7.view.read (Elt F) X7) i := count_load i arg7 X7 (k0_off1_inb i) (k0_off1_eq i) _
  have hK : arg11.view.read (Elt F) f11 = _ := rfl
  have hV : arg12.view.read (Elt F) f12 = _ := rfl
  have key := fun n (hn : (k0_t1_loop (Scalar.fptosi 32 (run_mid.sl.r i arg7 X7))).trips = n) => loop_end c i arg2 harg2 arg3 harg3 arg4 harg4 arg5 harg5 arg6 harg6 arg7 harg7 arg8 harg8 arg9 harg9 arg10 harg10 arg11 harg11 arg12 harg12 X2 X3 X4 X5
    (Scalar.fptosi 32 (run_mid.sl.r i arg7 X7)) (chk i _) (f11) (f12) (k0_pay173, k0_pay174, k0_pay1 (run_mid.sl.r_1 arg6 X6), k0_pay2 (View.readAt (Elt F) arg6.view (Rect.unit (s := S2x128x128) ![1, 0, 0] S1x128x1.size inb_S2x128x128_S1x128x1_1_0_0).toLoadRect X6), k0_pay3, k0_pay4) n hn.symm _ _ hK hV
  have e0 : k0_pay1 (run_mid.sl.r_1 arg6 X6) = startCol (arg6.view.read (Elt F) X6) 0 := start_load arg6 X6 0 inb_S2x128x128_S1x128x1_0_0_0 rfl
  have e1 : k0_pay2 (View.readAt (Elt F) arg6.view (Rect.unit (s := S2x128x128) ![1, 0, 0] S1x128x1.size inb_S2x128x128_S1x128x1_1_0_0).toLoadRect X6)
    = startCol (arg6.view.read (Elt F) X6) 1 := start_load arg6 X6 1 inb_S2x128x128_S1x128x1_1_0_0 rfl
  have eP : ptOf i (arg2.view.read (Elt F) X2) (arg3.view.read (Elt F) X3) (arg4.view.read (Elt F) X4) (arg5.view.read (Elt F) X5) (arg6.view.read (Elt F) X6)
      (arg7.view.read (Elt F) X7) (arg11.view.read (Elt F) f11) (arg12.view.read (Elt F) f12) = ptAt (i 1).val (Scalar.fptosi 32 (run_mid.sl.r i arg7 X7)) (arg2.view.read (Elt F) X2) (arg3.view.read (Elt F) X3) (arg4.view.read (Elt F) X4)
      (arg5.view.read (Elt F) X5) ((k0_pay173, k0_pay174, k0_pay1 (run_mid.sl.r_1 arg6 X6), k0_pay2 (View.readAt (Elt F) arg6.view (Rect.unit (s := S2x128x128) ![1, 0, 0] S1x128x1.size inb_S2x128x128_S1x128x1_1_0_0).toLoadRect X6), k0_pay3, k0_pay4), arg11.view.read (Elt F) f11, arg12.view.read (Elt F) f12) ((Scalar.fptosi 32 (run_mid.sl.r i arg7 X7)).toInt / 3).toNat := by
    unfold ptOf ptEnd ptInit
    rw [← hv, ← e0, ← e1]
  rw [eP]
  unfold run_mid
  dsimp only [run_mid.sl.v6, run_mid.sl.v7, run_mid.sl.v8]
  rw [rest_none]
  generalize hn : Scf.trips _ _ _ = n
  obtain ⟨k1, k2, k3⟩ := key n hn
  generalize st_k0_t1 (F := F) _ _ _ _ _ _ _ _ _ _ _ _ _ _ _ _ _ _ _ _ _ _ _ _ _ _ _ _ _ _ _ _ _ _ _ _ _ _ _ n = S1 at k1 k2 k3 ⊢
  dsimp only [List.nil_append]
  exact ⟨(dq_store arg8 f8 _).trans (congrArg dqBlk k1), k2, k3⟩

/-- The last query block: the scratch buffers are written out as well. -/
theorem last_result (hc1 : ¬ firstW i = 1#1) (hc2 : k0_cond2 i = 1#1) :
    arg8.view.read (Elt F) ((run_last c i arg2 harg2 arg3 harg3 arg4 harg4 arg5 harg5 arg6 harg6 arg7 harg7 arg8 harg8 arg9 harg9 arg10 harg10 arg11 harg11 arg12 harg12 X2 X3 X4 X5 X6 X7 f8 f9 f10 f11 f12 hc1 hc2).1) = dqBlk (ptOf i (arg2.view.read (Elt F) X2) (arg3.view.read (Elt F) X3) (arg4.view.read (Elt F) X4) (arg5.view.read (Elt F) X5) (arg6.view.read (Elt F) X6)
      (arg7.view.read (Elt F) X7) (arg11.view.read (Elt F) f11) (arg12.view.read (Elt F) f12)).1 ∧
    arg11.view.read (Elt F) ((run_last c i arg2 harg2 arg3 harg3 arg4 harg4 arg5 harg5 arg6 harg6 arg7 harg7 arg8 harg8 arg9 harg9 arg10 harg10 arg11 harg11 arg12 harg12 X2 X3 X4 X5 X6 X7 f8 f9 f10 f11 f12 hc1 hc2).2.2.2.1) = (ptOf i (arg2.view.read (Elt F) X2) (arg3.view.read (Elt F) X3) (arg4.view.read (Elt F) X4) (arg5.view.read (Elt F) X5) (arg6.view.read (Elt F) X6)
      (arg7.view.read (Elt F) X7) (arg11.view.read (Elt F) f11) (arg12.view.read (Elt F) f12)).2.1 ∧
    arg12.view.read (Elt F) ((run_last c i arg2 harg2 arg3 harg3 arg4 harg4 arg5 harg5 arg6 harg6 arg7 harg7 arg8 harg8 arg9 harg9 arg10 harg10 arg11 harg11 arg12 harg12 X2 X3 X4 X5 X6 X7 f8 f9 f10 f11 f12 hc1 hc2).2.2.2.2.1) = (ptOf i (arg2.view.read (Elt F) X2) (arg3.view.read (Elt F) X3) (arg4.view.read (Elt F) X4) (arg5.view.read (Elt F) X5) (arg6.view.read (Elt F) X6)
      (arg7.view.read (Elt F) X7) (arg11.view.read (Elt F) f11) (arg12.view.read (Elt F) f12)).2.2 ∧
    arg9.view.read (Elt F) (run_last c i arg2 harg2 arg3 harg3 arg4 harg4 arg5 harg5 arg6 harg6 arg7 harg7 arg8 harg8 arg9 harg9 arg10 harg10 arg11 harg11 arg12 harg12 X2 X3 X4 X5 X6 X7 f8 f9 f10 f11 f12 hc1 hc2).2.1 = k0_pay11 (ptOf i (arg2.view.read (Elt F) X2) (arg3.view.read (Elt F) X3) (arg4.view.read (Elt F) X4) (arg5.view.read (Elt F) X5) (arg6.view.read (Elt F) X6)
      (arg7.view.read (Elt F) X7) (arg11.view.read (Elt F) f11) (arg12.view.read (Elt F) f12)).2.1 ∧
    arg10.view.read (Elt F) (run_last c i arg2 harg2 arg3 harg3 arg4 harg4 arg5 harg5 arg6 harg6 arg7 harg7 arg8 harg8 arg9 harg9 arg10 harg10 arg11 harg11 arg12 harg12 X2 X3 X4 X5 X6 X7 f8 f9 f10 f11 f12 hc1 hc2).2.2.1 = k0_pay12 (ptOf i (arg2.view.read (Elt F) X2) (arg3.view.read (Elt F) X3) (arg4.view.read (Elt F) X4) (arg5.view.read (Elt F) X5) (arg6.view.read (Elt F) X6)
      (arg7.view.read (Elt F) X7) (arg11.view.read (Elt F) f11) (arg12.view.read (Elt F) f12)).2.2 := by
  have hv : Scalar.fptosi 32 (run_last.sl.r i arg7 X7) = cntW (arg7.view.read (Elt F) X7) i := count_load i arg7 X7 (k0_off1_inb i) (k0_off1_eq i) _
  have hK : arg11.view.read (Elt F) f11 = _ := rfl
  have hV : arg12.view.read (Elt F) f12 = _ := rfl
  have key := fun n (hn : (k0_t1_loop (Scalar.fptosi 32 (run_last.sl.r i arg7 X7))).trips = n) => loop_end c i arg2 harg2 arg3 harg3 arg4 harg4 arg5 harg5 arg6 harg6 arg7 harg7 arg8 harg8 arg9 harg9 arg10 harg10 arg11 harg11 arg12 harg12 X2 X3 X4 X5
    (Scalar.fptosi 32 (run_last.sl.r i arg7 X7)) (chk i _) (f11) (f12) (k0_pay173, k0_pay174, k0_pay1 (run_last.sl.r_1 arg6 X6), k0_pay2 (View.readAt (Elt F) arg6.view (Rect.unit (s := S2x128x128) ![1, 0, 0] S1x128x1.size inb_S2x128x128_S1x128x1_1_0_0).toLoadRect X6), k0_pay3, k0_pay4) n hn.symm _ _ hK hV
  have e0 : k0_pay1 (run_last.sl.r_1 arg6 X6) = startCol (arg6.view.read (Elt F) X6) 0 := start_load arg6 X6 0 inb_S2x128x128_S1x128x1_0_0_0 rfl
  have e1 : k0_pay2 (View.readAt (Elt F) arg6.view (Rect.unit (s := S2x128x128) ![1, 0, 0] S1x128x1.size inb_S2x128x128_S1x128x1_1_0_0).toLoadRect X6)
    = startCol (arg6.view.read (Elt F) X6) 1 := start_load arg6 X6 1 inb_S2x128x128_S1x128x1_1_0_0 rfl
  have eP : ptOf i (arg2.view.read (Elt F) X2) (arg3.view.read (Elt F) X3) (arg4.view.read (Elt F) X4) (arg5.view.read (Elt F) X5) (arg6.view.read (Elt F) X6)
      (arg7.view.read (Elt F) X7) (arg11.view.read (Elt F) f11) (arg12.view.read (Elt F) f12) = ptAt (i 1).val (Scalar.fptosi 32 (run_last.sl.r i arg7 X7)) (arg2.view.read (Elt F) X2) (arg3.view.read (Elt F) X3) (arg4.view.read (Elt F) X4)
      (arg5.view.read (Elt F) X5) ((k0_pay173, k0_pay174, k0_pay1 (run_last.sl.r_1 arg6 X6), k0_pay2 (View.readAt (Elt F) arg6.view (Rect.unit (s := S2x128x128) ![1, 0, 0] S1x128x1.size inb_S2x128x128_S1x128x1_1_0_0).toLoadRect X6), k0_pay3, k0_pay4), arg11.view.read (Elt F) f11, arg12.view.read (Elt F) f12) ((Scalar.fptosi 32 (run_last.sl.r i arg7 X7)).toInt / 3).toNat := by
    unfold ptOf ptEnd ptInit
    rw [← hv, ← e0, ← e1]
  have h60 : run_last.sl.v60 c i arg2 harg2 arg3 harg3 arg4 harg4 arg5 harg5 arg6 harg6 arg7 harg7 arg8 harg8 arg9 harg9 arg10 harg10 arg11 harg11 arg12 harg12 X2 X3 X4 X5 X6 X7 f11 f12 (chk i) = (ptAt (i 1).val (Scalar.fptosi 32 (run_last.sl.r i arg7 X7)) (arg2.view.read (Elt F) X2) (arg3.view.read (Elt F) X3) (arg4.view.read (Elt F) X4)
      (arg5.view.read (Elt F) X5) ((k0_pay173, k0_pay174, k0_pay1 (run_last.sl.r_1 arg6 X6), k0_pay2 (View.readAt (Elt F) arg6.view (Rect.unit (s := S2x128x128) ![1, 0, 0] S1x128x1.size inb_S2x128x128_S1x128x1_1_0_0).toLoadRect X6), k0_pay3, k0_pay4), arg11.view.read (Elt F) f11, arg12.view.read (Elt F) f12) ((Scalar.fptosi 32 (run_last.sl.r i arg7 X7)).toInt / 3).toNat).2.1 := by
    unfold run_last.sl.v60
    dsimp only [run_last.sl.v6, run_last.sl.v7, run_last.sl.v8]
    rw [rest_none]
    generalize hn : Scf.trips _ _ _ = n
    obtain ⟨k1, k2, k3⟩ := key n hn
    generalize st_k0_t1 (F := F) _ _ _ _ _ _ _ _ _ _ _ _ _ _ _ _ _ _ _ _ _ _ _ _ _ _ _ _ _ _ _ _ _ _ _ _ _ _ _ n = S1 at k1 k2 k3 ⊢
    dsimp only [List.nil_append]
    exact (load_all arg11 _ _ rfl).trans k2
  have h63 : run_last.sl.v63 c i arg2 harg2 arg3 harg3 arg4 harg4 arg5 harg5 arg6 harg6 arg7 harg7 arg8 harg8 arg9 harg9 arg10 harg10 arg11 harg11 arg12 harg12 X2 X3 X4 X5 X6 X7 f11 f12 (chk i) = (ptAt (i 1).val (Scalar.fptosi 32 (run_last.sl.r i arg7 X7)) (arg2.view.read (Elt F) X2) (arg3.view.read (Elt F) X3) (arg4.view.read (Elt F) X4)
      (arg5.view.read (Elt F) X5) ((k0_pay173, k0_pay174, k0_pay1 (run_last.sl.r_1 arg6 X6), k0_pay2 (View.readAt (Elt F) arg6.view (Rect.unit (s := S2x128x128) ![1, 0, 0] S1x128x1.size inb_S2x128x128_S1x128x1_1_0_0).toLoadRect X6), k0_pay3, k0_pay4), arg11.view.read (Elt F) f11, arg12.view.read (Elt F) f12) ((Scalar.fptosi 32 (run_last.sl.r i arg7 X7)).toInt / 3).toNat).2.2 := by
    unfold run_last.sl.v63
    dsimp only [run_last.sl.v6, run_last.sl.v7, run_last.sl.v8]
    rw [rest_none]
    generalize hn : Scf.trips _ _ _ = n
    obtain ⟨k1, k2, k3⟩ := key n hn
    generalize st_k0_t1 (F := F) _ _ _ _ _ _ _ _ _ _ _ _ _ _ _ _ _ _ _ _ _ _ _ _ _ _ _ _ _ _ _ _ _ _ _ _ _ _ _ n = S1 at k1 k2 k3 ⊢
    dsimp only [List.nil_append]
    exact (load_all arg12 _ _ rfl).trans k3
  rw [eP]
  unfold run_last
  dsimp only [run_last.sl.v6, run_last.sl.v7, run_last.sl.v8]
  rw [rest_none]
  generalize hn : Scf.trips _ _ _ = n
  obtain ⟨k1, k2, k3⟩ := key n hn
  generalize st_k0_t1 (F := F) _ _ _ _ _ _ _ _ _ _ _ _ _ _ _ _ _ _ _ _ _ _ _ _ _ _ _ _ _ _ _ _ _ _ _ _ _ _ _ n = S1 at k1 k2 k3 ⊢
  dsimp only [List.nil_append]
  refine ⟨(dq_store arg8 f8 _).trans (congrArg dqBlk k1), k2, k3, ?_, ?_⟩
  · exact (View.read_writes_full arg9.view _ _ _ _).trans (congrArg k0_pay11 h60)
  · exact (View.read_writes_full arg10.view _ _ _ _).trans (congrArg k0_pay12 h63)

end Run

end Cert.KernelIdeal.Hand

end
-- ==== Proof.Owned.lean ====
module

public import proofs.«01_k».proof.Proof.Point

/-!
  The kernel's body at a grid point, on memory owned at the contents its blocks read: what it needs and what it leaves.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S128x256 .bf16) (harg2 : arg2.IsWhole)
  (arg3 : Memref sig .tc .vmem S8320x256 .bf16) (harg3 : arg3.IsWhole)
  (arg4 : Memref sig .tc .vmem S8320x256 .bf16) (harg4 : arg4.IsWhole)
  (arg5 : Memref sig .tc .vmem S128x256 .f32) (harg5 : arg5.IsWhole)
  (arg6 : Memref sig .tc .vmem S2x128x128 .f32) (harg6 : arg6.IsWhole)
  (arg7 : Memref sig .tc .smem S4x65 .f32) (harg7 : arg7.IsWhole)
  (arg8 : Memref sig .tc .vmem S128x256 .bf16) (harg8 : arg8.IsWhole)
  (arg9 : Memref sig .tc .vmem S8320x256 .bf16) (harg9 : arg9.IsWhole)
  (arg10 : Memref sig .tc .vmem S8320x256 .bf16) (harg10 : arg10.IsWhole)
  (arg11 : Memref sig .tc .vmem S8320x256 .f32) (harg11 : arg11.IsWhole)
  (arg12 : Memref sig .tc .vmem S8320x256 .f32) (harg12 : arg12.IsWhole)
  (Y2 : Vec F S128x256 .bf16) (Y3 : Vec F S8320x256 .bf16) (Y4 : Vec F S8320x256 .bf16) (Y5 : Vec F S128x256 .f32) (Y6 : Vec F S2x128x128 .f32) (Y7 : Vec F S4x65 .f32)

/-- The body at a first query block, on blocks that read `Y2` to `Y7`. -/
theorem point_first (hc1 : firstW i = 1#1) (hc2 : ¬ k0_cond2 i = 1#1) :
    (iprop(owns (c : Thread nD τ) arg2 fullShare Y2 ∗
        owns (c : Thread nD τ) arg3 fullShare Y3 ∗
        owns (c : Thread nD τ) arg4 fullShare Y4 ∗
        owns (c : Thread nD τ) arg5 fullShare Y5 ∗
        owns (c : Thread nD τ) arg6 fullShare Y6 ∗
        owns (c : Thread nD τ) arg7 fullShare Y7 ∗
        (∃ d, owns (c : Thread nD τ) arg8 fullShare d) ∗
        (∃ d, owns (c : Thread nD τ) arg11 fullShare d) ∗
        (∃ d, owns (c : Thread nD τ) arg12 fullShare d)) : sProp 𝕄)
      ⊢ wp Idealize.ShloMosaic.frame (wpE (defs₀ (F := F)) Variants.none (c : Thread nD τ) none) Set.univ
        (cc0_sb_bwd (F := F) i arg2 harg2 arg3 harg3 arg4 harg4 arg5 harg5 arg6 harg6 arg7 harg7 arg8 harg8 arg9 harg9 arg10 harg10 arg11 harg11 arg12 harg12) (fun _ => iprop(owns (c : Thread nD τ) arg2 fullShare Y2 ∗
        owns (c : Thread nD τ) arg3 fullShare Y3 ∗
        owns (c : Thread nD τ) arg4 fullShare Y4 ∗
        owns (c : Thread nD τ) arg5 fullShare Y5 ∗
        owns (c : Thread nD τ) arg6 fullShare Y6 ∗
        owns (c : Thread nD τ) arg7 fullShare Y7 ∗
        owns (c : Thread nD τ) arg8 fullShare (dqBlk (ptOf i Y2 Y3 Y4 Y5 Y6 Y7 k0_pay169 k0_pay170).1) ∗
        owns (c : Thread nD τ) arg11 fullShare (ptOf i Y2 Y3 Y4 Y5 Y6 Y7 k0_pay169 k0_pay170).2.1 ∗
        owns (c : Thread nD τ) arg12 fullShare (ptOf i Y2 Y3 Y4 Y5 Y6 Y7 k0_pay169 k0_pay170).2.2)) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d11, %f11, -, H11⟩, ⟨%d12, %f12, -, H12⟩⟩
  subst e2; subst e3; subst e4; subst e5; subst e6; subst e7
  obtain ⟨r8, r11, r12⟩ := first_result (F := F) c i arg2 harg2 arg3 harg3 arg4 harg4 arg5 harg5 arg6 harg6 arg7 harg7 arg8 harg8 arg9 harg9 arg10 harg10 arg11 harg11 arg12 harg12 f2 f3 f4 f5 f6 f7 f8 hc1 hc2
  iapply (wp_wand_r _ _ _)
  isplitl [H2 H3 H4 H5 H6 H7 H8 H11 H12]
  · iapply ((run_first (F := F) c i arg2 harg2 arg3 harg3 arg4 harg4 arg5 harg5 arg6 harg6 arg7 harg7 arg8 harg8 arg9 harg9 arg10 harg10 arg11 harg11 arg12 harg12 f2 f3 f4 f5 f6 f7 f8 hc1 hc2).2.2.2 f11 f12 Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    iexact H12
  iintro %a ⟨H2, H3, H4, H5, H6, H7, H8, H11, H12⟩
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact r8
  isplitl [H11]
  · iexists _; isplitr; swap; · iexact H11
    ipureintro; exact r11
  iexists _; isplitr; swap; · iexact H12
  ipureintro; exact r12

/-- The body at a query block in the middle, on scratch buffers that read `K` and `V`. -/
theorem point_mid (K V : Vec F S8320x256 .f32) (hc1 : ¬ firstW i = 1#1) (hc2 : ¬ k0_cond2 i = 1#1) :
    (iprop(owns (c : Thread nD τ) arg2 fullShare Y2 ∗
        owns (c : Thread nD τ) arg3 fullShare Y3 ∗
        owns (c : Thread nD τ) arg4 fullShare Y4 ∗
        owns (c : Thread nD τ) arg5 fullShare Y5 ∗
        owns (c : Thread nD τ) arg6 fullShare Y6 ∗
        owns (c : Thread nD τ) arg7 fullShare Y7 ∗
        (∃ d, owns (c : Thread nD τ) arg8 fullShare d) ∗
        owns (c : Thread nD τ) arg11 fullShare K ∗
        owns (c : Thread nD τ) arg12 fullShare V) : sProp 𝕄)
      ⊢ wp Idealize.ShloMosaic.frame (wpE (defs₀ (F := F)) Variants.none (c : Thread nD τ) none) Set.univ
        (cc0_sb_bwd (F := F) i arg2 harg2 arg3 harg3 arg4 harg4 arg5 harg5 arg6 harg6 arg7 harg7 arg8 harg8 arg9 harg9 arg10 harg10 arg11 harg11 arg12 harg12) (fun _ => iprop(owns (c : Thread nD τ) arg2 fullShare Y2 ∗
        owns (c : Thread nD τ) arg3 fullShare Y3 ∗
        owns (c : Thread nD τ) arg4 fullShare Y4 ∗
        owns (c : Thread nD τ) arg5 fullShare Y5 ∗
        owns (c : Thread nD τ) arg6 fullShare Y6 ∗
        owns (c : Thread nD τ) arg7 fullShare Y7 ∗
        owns (c : Thread nD τ) arg8 fullShare (dqBlk (ptOf i Y2 Y3 Y4 Y5 Y6 Y7 K V).1) ∗
        owns (c : Thread nD τ) arg11 fullShare (ptOf i Y2 Y3 Y4 Y5 Y6 Y7 K V).2.1 ∗
        owns (c : Thread nD τ) arg12 fullShare (ptOf i Y2 Y3 Y4 Y5 Y6 Y7 K V).2.2)) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%f11, %e11, H11⟩, ⟨%f12, %e12, H12⟩⟩
  subst e2; subst e3; subst e4; subst e5; subst e6; subst e7; subst e11; subst e12
  obtain ⟨r8, r11, r12⟩ := mid_result (F := F) c i arg2 harg2 arg3 harg3 arg4 harg4 arg5 harg5 arg6 harg6 arg7 harg7 arg8 harg8 arg9 harg9 arg10 harg10 arg11 harg11 arg12 harg12 f2 f3 f4 f5 f6 f7 f8 f11 f12 hc1 hc2
  iapply (wp_wand_r _ _ _)
  isplitl [H2 H3 H4 H5 H6 H7 H8 H11 H12]
  · iapply ((run_mid (F := F) c i arg2 harg2 arg3 harg3 arg4 harg4 arg5 harg5 arg6 harg6 arg7 harg7 arg8 harg8 arg9 harg9 arg10 harg10 arg11 harg11 arg12 harg12 f2 f3 f4 f5 f6 f7 f8 f11 f12 hc1 hc2).2.2.2 Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    iexact H12
  iintro %a ⟨H2, H3, H4, H5, H6, H7, H8, H11, H12⟩
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact r8
  isplitl [H11]
  · iexists _; isplitr; swap; · iexact H11
    ipureintro; exact r11
  iexists _; isplitr; swap; · iexact H12
  ipureintro; exact r12

/-- The body at the last query block, on scratch buffers that read `K` and `V`. -/
theorem point_last (K V : Vec F S8320x256 .f32) (hc1 : ¬ firstW i = 1#1) (hc2 : k0_cond2 i = 1#1) :
    (iprop(owns (c : Thread nD τ) arg2 fullShare Y2 ∗
        owns (c : Thread nD τ) arg3 fullShare Y3 ∗
        owns (c : Thread nD τ) arg4 fullShare Y4 ∗
        owns (c : Thread nD τ) arg5 fullShare Y5 ∗
        owns (c : Thread nD τ) arg6 fullShare Y6 ∗
        owns (c : Thread nD τ) arg7 fullShare Y7 ∗
        (∃ d, owns (c : Thread nD τ) arg8 fullShare d) ∗
        (∃ d, owns (c : Thread nD τ) arg9 fullShare d) ∗
        (∃ d, owns (c : Thread nD τ) arg10 fullShare d) ∗
        owns (c : Thread nD τ) arg11 fullShare K ∗
        owns (c : Thread nD τ) arg12 fullShare V) : sProp 𝕄)
      ⊢ wp Idealize.ShloMosaic.frame (wpE (defs₀ (F := F)) Variants.none (c : Thread nD τ) none) Set.univ
        (cc0_sb_bwd (F := F) i arg2 harg2 arg3 harg3 arg4 harg4 arg5 harg5 arg6 harg6 arg7 harg7 arg8 harg8 arg9 harg9 arg10 harg10 arg11 harg11 arg12 harg12) (fun _ => iprop(owns (c : Thread nD τ) arg2 fullShare Y2 ∗
        owns (c : Thread nD τ) arg3 fullShare Y3 ∗
        owns (c : Thread nD τ) arg4 fullShare Y4 ∗
        owns (c : Thread nD τ) arg5 fullShare Y5 ∗
        owns (c : Thread nD τ) arg6 fullShare Y6 ∗
        owns (c : Thread nD τ) arg7 fullShare Y7 ∗
        owns (c : Thread nD τ) arg8 fullShare (dqBlk (ptOf i Y2 Y3 Y4 Y5 Y6 Y7 K V).1) ∗
        owns (c : Thread nD τ) arg9 fullShare (k0_pay11 (ptOf i Y2 Y3 Y4 Y5 Y6 Y7 K V).2.1) ∗
        owns (c : Thread nD τ) arg10 fullShare (k0_pay12 (ptOf i Y2 Y3 Y4 Y5 Y6 Y7 K V).2.2) ∗
        owns (c : Thread nD τ) arg11 fullShare (ptOf i Y2 Y3 Y4 Y5 Y6 Y7 K V).2.1 ∗
        owns (c : Thread nD τ) arg12 fullShare (ptOf i Y2 Y3 Y4 Y5 Y6 Y7 K V).2.2)) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%f11, %e11, H11⟩, ⟨%f12, %e12, H12⟩⟩
  subst e2; subst e3; subst e4; subst e5; subst e6; subst e7; subst e11; subst e12
  obtain ⟨r8, r11, r12, r9, r10⟩ := last_result (F := F) c i arg2 harg2 arg3 harg3 arg4 harg4 arg5 harg5 arg6 harg6 arg7 harg7 arg8 harg8 arg9 harg9 arg10 harg10 arg11 harg11 arg12 harg12 f2 f3 f4 f5 f6 f7 f8 f9 f10 f11 f12 hc1 hc2
  iapply (wp_wand_r _ _ _)
  isplitl [H2 H3 H4 H5 H6 H7 H8 H9 H10 H11 H12]
  · iapply ((run_last (F := F) c i arg2 harg2 arg3 harg3 arg4 harg4 arg5 harg5 arg6 harg6 arg7 harg7 arg8 harg8 arg9 harg9 arg10 harg10 arg11 harg11 arg12 harg12 f2 f3 f4 f5 f6 f7 f8 f9 f10 f11 f12 hc1 hc2).2.2.2.2.2 Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %a ⟨H2, H3, H4, H5, H6, H7, H8, H9, H10, H11, H12⟩
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact r8
  isplitl [H9]
  · iexists _; isplitr; swap; · iexact H9
    ipureintro; exact r9
  isplitl [H10]
  · iexists _; isplitr; swap; · iexact H10
    ipureintro; exact r10
  isplitl [H11]
  · iexists _; isplitr; swap; · iexact H11
    ipureintro; exact r11
  iexists _; isplitr; swap; · iexact H12
  ipureintro; exact r12

end Cert.KernelIdeal.Hand

end
-- ==== Proof.Run.lean ====
module

public import proofs.«01_k».proof.Proof.Owned
public import proofs.«01_k».proof.Proof.Gen.KernelIdeal.Frame

/-!
  The run of the whole program over any float values: the two scratch buffers carry the sums of the gradients of `k` and of `v` from
  one query block to the next, and each grid point leaves its blocks as the plain model says.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points are first and last in their head pair -/

/-- A point is a first query block exactly at the multiples of 65. -/
theorem first_iff : ∀ t : Fin cfg0.N, firstW (grid0.coords t) = 1#1 ↔ t.val % 65 = 0 :=
  (by decide +kernel : ∀ t : Fin grid0.N, firstW (grid0.coords t) = 1#1 ↔ t.val % 65 = 0)

/-- A point is a last query block exactly where 64 is left over. -/
theorem last_iff : ∀ t : Fin cfg0.N, k0_cond2 (grid0.coords t) = 1#1 ↔ t.val % 65 = 64 :=
  (by decide +kernel : ∀ t : Fin grid0.N, k0_cond2 (grid0.coords t) = 1#1 ↔ t.val % 65 = 64)

/-! ## What the points compute -/

/-- The state point `t` ends in, from scratch buffers `S`. -/
def ptT (c : Dev nD) (t : Fin cfg0.N) (S : Vec F S8320x256 .f32 × Vec F S8320x256 .f32) : PtState F :=
  ptOf (grid0.coords t) (iblk m c 0 t) (iblk m c 1 t) (iblk m c 2 t) (iblk m c 3 t) (iblk m c 4 t) (iblk m c 5 t) S.1 S.2

/-- The zeros a head pair starts its scratch buffers with. -/
def zeroScr : Vec F S8320x256 .f32 × Vec F S8320x256 .f32 := (k0_pay169, k0_pay170)

/-- The scratch buffers point `n` adds to. -/
def scrIn (c : Dev nD) : ℕ → Vec F S8320x256 .f32 × Vec F S8320x256 .f32
  | 0 => zeroScr
  | n + 1 => if (n + 1) % 65 = 0 then zeroScr else if h : n < cfg0.N then (ptT m c ⟨n, h⟩ (scrIn c n)).2 else zeroScr

theorem scrIn_first (c : Dev nD) (n : ℕ) (h : n % 65 = 0) : scrIn m c n = zeroScr := by
  cases n with
  | zero => rfl
  | succ n => unfold scrIn; exact if_pos h

theorem scrIn_succ (c : Dev nD) (t : Fin cfg0.N) (h : (t.val + 1) % 65 ≠ 0) : scrIn m c (t.val + 1) = (ptT m c t (scrIn m c t.val)).2 := by
  conv_lhs => unfold scrIn
  rw [if_neg h, dif_pos t.isLt]

/-- The state point `t` ends in. -/
def ptFin (c : Dev nD) (t : Fin cfg0.N) : PtState F := ptT m c t (scrIn m c t.val)

/-- What the scratch buffers are known to hold before point `n`: nothing at a first query block, else the sums so far. -/
def scrInv (c : Dev nD) (n : ℕ) (_ : n ≤ cfg0.N) : sProp 𝕄 :=
  iprop(∃ d0, ∃ d1, ⌜n % 65 ≠ 0 → d0 = (scrIn m c n).1 ∧ d1 = (scrIn m c n).2⌝ ∗ owns (c : Thread nD τ) (Memref.whole cc0_scratch0) fullShare d0
    ∗ owns (c : Thread nD τ) (Memref.whole cc0_scratch1) fullShare d1 ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqBlk (ptFin m c t).1
    | ⟨7, _⟩ => k0_pay11 (ptFin m c t).2.1
    | ⟨8, _⟩ => k0_pay12 (ptFin m c t).2.2
  Φ t := scrInv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = dqBlk (ptFin m c t).1 := by dsimp only [dats]
theorem after0_7 (c : Dev nD) (t : Fin cfg0.N) : (dats m 0 c).after 7 t = k0_pay11 (ptFin m c t).2.1 := by dsimp only [dats]
theorem after0_8 (c : Dev nD) (t : Fin cfg0.N) : (dats m 0 c).after 8 t = k0_pay12 (ptFin m c t).2.2 := by dsimp only [dats]

theorem inv_before (c : Dev nD) (t : Fin cfg0.N) : (dats m 0 c).Φ t.castSucc = scrInv m c t.val (Nat.le_of_lt t.isLt) := by
  dsimp only [dats]; exact Dat.Φ_castSucc (scrInv m c) t

theorem at_succ {α : Sort _} {N : ℕ} (S : (n : ℕ) → n ≤ N → α) (t : Fin N) :
    S (Fin.succ t).val (Nat.le_of_lt_succ (Fin.succ t).isLt) = S (t.val + 1) t.isLt := rfl

theorem inv_after (c : Dev nD) (t : Fin cfg0.N) : (dats m 0 c).Φ t.succ = scrInv m c (t.val + 1) t.isLt := by
  dsimp only [dats]; exact at_succ (scrInv m c) t

/-! ## The two results that only the last query block writes -/

/-- How the body leaves the block of result 1: written at a last query block, else as it found it. -/
def left7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

theorem left7_idle (c : Dev nD) (t : Fin cfg0.N) (h : ¬ k0_cond2 (grid0.coords t) = 1#1) :
    left7 m c t = iprop(∃ d, owns (c : Thread nD τ) (st0_7 t) fullShare ((dats m 0 c).before 7 t d)) := by
  have hi : cfg0.idle 7 (cfg0.grid.coords t) = true := by
    show (!(k0_cond2 (grid0.coords t) == 1#1)) = true
    rw [beq_eq_false_iff_ne.mpr h]; rfl
  have hf : (cfg0.win 7).flush t = false := Bool.eq_false_iff.mpr fun e => h ((last_iff t).mpr ((flush0_7 t).mp e))
  unfold left7
  rw [hi, hf]

theorem left7_last (c : Dev nD) (t : Fin cfg0.N) (h : k0_cond2 (grid0.coords t) = 1#1) :
    left7 m c t = owns (c : Thread nD τ) (st0_7 t) fullShare ((dats m 0 c).after 7 t) := by
  have hi : cfg0.idle 7 (cfg0.grid.coords t) = false := by
    show (!(k0_cond2 (grid0.coords t) == 1#1)) = false
    rw [h]; rfl
  unfold left7
  rw [hi]

/-- How the body leaves the block of result 2: written at a last query block, else as it found it. -/
def left8 (c : Dev nD) (t : Fin cfg0.N) : sProp 𝕄 :=
  match cfg0.idle 8 (cfg0.grid.coords t) with
  | true =>
    match (cfg0.win 8).flush t with
    | false => iprop(∃ d, owns (c : Thread nD τ) (st0_8 t) fullShare ((dats m 0 c).before 8 t d))
    | true => owns (c : Thread nD τ) (st0_8 t) fullShare ((dats m 0 c).after 8 t)
  | false => owns (c : Thread nD τ) (st0_8 t) fullShare ((dats m 0 c).after 8 t)

theorem left8_idle (c : Dev nD) (t : Fin cfg0.N) (h : ¬ k0_cond2 (grid0.coords t) = 1#1) :
    left8 m c t = iprop(∃ d, owns (c : Thread nD τ) (st0_8 t) fullShare ((dats m 0 c).before 8 t d)) := by
  have hi : cfg0.idle 8 (cfg0.grid.coords t) = true := by
    show (!(k0_cond2 (grid0.coords t) == 1#1)) = true
    rw [beq_eq_false_iff_ne.mpr h]; rfl
  have hf : (cfg0.win 8).flush t = false := Bool.eq_false_iff.mpr fun e => h ((last_iff t).mpr ((flush0_8 t).mp e))
  unfold left8
  rw [hi, hf]

theorem left8_last (c : Dev nD) (t : Fin cfg0.N) (h : k0_cond2 (grid0.coords t) = 1#1) :
    left8 m c t = owns (c : Thread nD τ) (st0_8 t) fullShare ((dats m 0 c).after 8 t) := by
  have hi : cfg0.idle 8 (cfg0.grid.coords t) = false := by
    show (!(k0_cond2 (grid0.coords t) == 1#1)) = false
    rw [h]; rfl
  unfold left8
  rw [hi]

/-! ## The body at each kind of point -/

def bodyPre (c : Dev nD) (t : Fin cfg0.N) : sProp 𝕄 :=
  iprop((dats m 0 c).Φ t.castSucc ∗
    (dats m 0 c).owesAt () t.castSucc ∗
    (∃ d, owns (c : Thread nD τ) (st0_0 t) fullShare ((dats m 0 c).before 0 t d)) ∗
    (∃ d, owns (c : Thread nD τ) (st0_1 t) fullShare ((dats m 0 c).before 1 t d)) ∗
    (∃ d, owns (c : Thread nD τ) (st0_2 t) fullShare ((dats m 0 c).before 2 t d)) ∗
    (∃ d, owns (c : Thread nD τ) (st0_3 t) fullShare ((dats m 0 c).before 3 t d)) ∗
    (∃ d, owns (c : Thread nD τ) (st0_4 t) fullShare ((dats m 0 c).before 4 t d)) ∗
    (∃ d, owns (c : Thread nD τ) (st0_5 t) fullShare ((dats m 0 c).before 5 t d)) ∗
    (∃ d, owns (c : Thread nD τ) (st0_6 t) fullShare ((dats m 0 c).before 6 t d)) ∗
    (∃ d, owns (c : Thread nD τ) (st0_7 t) fullShare ((dats m 0 c).before 7 t d)) ∗
    (∃ d, owns (c : Thread nD τ) (st0_8 t) fullShare ((dats m 0 c).before 8 t d)))

def bodyPost (c : Dev nD) (t : Fin cfg0.N) : sProp 𝕄 :=
  iprop((dats m 0 c).Φ t.succ ∗
    (dats m 0 c).owesAt () t.succ ∗
    owns (c : Thread nD τ) (st0_0 t) fullShare ((dats m 0 c).after 0 t) ∗
    owns (c : Thread nD τ) (st0_1 t) fullShare ((dats m 0 c).after 1 t) ∗
    owns (c : Thread nD τ) (st0_2 t) fullShare ((dats m 0 c).after 2 t) ∗
    owns (c : Thread nD τ) (st0_3 t) fullShare ((dats m 0 c).after 3 t) ∗
    owns (c : Thread nD τ) (st0_4 t) fullShare ((dats m 0 c).after 4 t) ∗
    owns (c : Thread nD τ) (st0_5 t) fullShare ((dats m 0 c).after 5 t) ∗
    owns (c : Thread nD τ) (st0_6 t) fullShare ((dats m 0 c).after 6 t) ∗
    left7 m c t ∗
    left8 m c t)

/-- The body at a first query block. -/
theorem sound_first (c : Dev nD) (t : Fin cfg0.N) (h : t.val % 65 = 0) :
    bodyPre m c t ⊢ wp Idealize.ShloMosaic.frame (wpE (defs₀ (F := F)) Variants.none c none) Set.univ (bodyAt0 t) (fun _ => bodyPost m c t) := by
  have hc1 : firstW (grid0.coords t) = 1#1 := (first_iff t).mpr h
  have hc2 : ¬ k0_cond2 (grid0.coords t) = 1#1 := fun e => by have := (last_iff t).mp e; omega
  unfold bodyPre bodyPost bodyAt0
  rw [inv_before, inv_after, after0_0, after0_1, after0_2, after0_3, after0_4, after0_5, after0_6, left7_idle m c t hc2, left8_idle m c t hc2]
  unfold Dat.owesAt Pipeline.owesWithin scrInv
  rw [show (dats m 0 c).owed t.castSucc = 0 from rfl, show (dats m 0 c).owed t.succ = 0 from rfl]
  simp only [before0_0, before0_1, before0_2, before0_3, before0_4, before0_5]
  have hS : scrIn m c t.val = zeroScr := scrIn_first m c t.val h
  have hN : (t.val + 1) % 65 ≠ 0 := by omega
  iintro ⟨⟨%e0, %e1, %he, HS0, HS1, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r _ _ _)
  isplitl [H0 H1 H2 H3 H4 H5 H6 HS0 HS1]
  · iapply (point_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) hc1 hc2)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    iexists _; iexact HS1
  iintro %a ⟨H0, H1, H2, H3, H4, H5, H6, HS0, HS1⟩
  isplitl [HS0 HS1 Hg]
  · iexists _, _; isplitr; swap
    · isplitl [HS0]; · iexact HS0
      isplitl [HS1]; · iexact HS1
      iexact Hg
    ipureintro; exact fun _ => by rw [scrIn_succ m c t hN, hS]; exact ⟨rfl, rfl⟩
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  unfold ptFin; rw [hS]
  isplitl [H6]; · iexact H6
  isplitl [H7]; · iexists d7; iexact H7
  iexists d8; iexact H8

/-- The body at a query block in the middle. -/
theorem sound_mid (c : Dev nD) (t : Fin cfg0.N) (h : t.val % 65 ≠ 0) (h' : t.val % 65 ≠ 64) :
    bodyPre m c t ⊢ wp Idealize.ShloMosaic.frame (wpE (defs₀ (F := F)) Variants.none c none) Set.univ (bodyAt0 t) (fun _ => bodyPost m c t) := by
  have hc1 : ¬ firstW (grid0.coords t) = 1#1 := fun e => h ((first_iff t).mp e)
  have hc2 : ¬ k0_cond2 (grid0.coords t) = 1#1 := fun e => h' ((last_iff t).mp e)
  unfold bodyPre bodyPost bodyAt0
  rw [inv_before, inv_after, after0_0, after0_1, after0_2, after0_3, after0_4, after0_5, after0_6, left7_idle m c t hc2, left8_idle m c t hc2]
  unfold Dat.owesAt Pipeline.owesWithin scrInv
  rw [show (dats m 0 c).owed t.castSucc = 0 from rfl, show (dats m 0 c).owed t.succ = 0 from rfl]
  simp only [before0_0, before0_1, before0_2, before0_3, before0_4, before0_5]
  have hN : (t.val + 1) % 65 ≠ 0 := by omega
  iintro ⟨⟨%e0, %e1, %he, HS0, HS1, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨q0, q1⟩ := he h
  subst q0; subst q1
  iapply (wp_wand_r _ _ _)
  isplitl [H0 H1 H2 H3 H4 H5 H6 HS0 HS1]
  · iapply (point_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (scrIn m c t.val).1 (scrIn m c t.val).2 hc1 hc2)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iexact HS1
  iintro %a ⟨H0, H1, H2, H3, H4, H5, H6, HS0, HS1⟩
  isplitl [HS0 HS1 Hg]
  · iexists _, _; isplitr; swap
    · isplitl [HS0]; · iexact HS0
      isplitl [HS1]; · iexact HS1
      iexact Hg
    ipureintro; exact fun _ => by rw [scrIn_succ m c t hN]; exact ⟨rfl, rfl⟩
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexists d8; iexact H8

/-- The body at a last query block. -/
theorem sound_last (c : Dev nD) (t : Fin cfg0.N) (h : t.val % 65 = 64) :
    bodyPre m c t ⊢ wp Idealize.ShloMosaic.frame (wpE (defs₀ (F := F)) Variants.none c none) Set.univ (bodyAt0 t) (fun _ => bodyPost m c t) := by
  have hc1 : ¬ firstW (grid0.coords t) = 1#1 := fun e => by have := (first_iff t).mp e; omega
  have hc2 : k0_cond2 (grid0.coords t) = 1#1 := (last_iff t).mpr h
  unfold bodyPre bodyPost bodyAt0
  rw [inv_before, inv_after, after0_0, after0_1, after0_2, after0_3, after0_4, after0_5, after0_6, left7_last m c t hc2, left8_last m c t hc2, after0_7, after0_8]
  unfold Dat.owesAt Pipeline.owesWithin scrInv
  rw [show (dats m 0 c).owed t.castSucc = 0 from rfl, show (dats m 0 c).owed t.succ = 0 from rfl]
  simp only [before0_0, before0_1, before0_2, before0_3, before0_4, before0_5]
  have hN : (t.val + 1) % 65 = 0 := by omega
  iintro ⟨⟨%e0, %e1, %he, HS0, HS1, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨q0, q1⟩ := he (by omega)
  subst q0; subst q1
  iapply (wp_wand_r _ _ _)
  isplitl [H0 H1 H2 H3 H4 H5 H6 H7 H8 HS0 HS1]
  · iapply (point_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (scrIn m c t.val).1 (scrIn m c t.val).2 hc1 hc2)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iexact HS1
  iintro %a ⟨H0, H1, H2, H3, H4, H5, H6, H7, H8, HS0, HS1⟩
  isplitl [HS0 HS1 Hg]
  · iexists _, _; isplitr; swap
    · isplitl [HS0]; · iexact HS0
      isplitl [HS1]; · iexact HS1
      iexact Hg
    ipureintro; exact fun hn => absurd hN hn
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp Idealize.ShloMosaic.frame (wpE (defs₀ (F := F)) Variants.none c none) Set.univ (bodyAt0 t) (fun _ => bodyPost m c t) := by
  by_cases h : t.val % 65 = 0
  · exact sound_first m c t h
  by_cases h' : t.val % 65 = 64
  · exact sound_last m c t h'
  exact sound_mid m c t h h'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point and after the last one the scratch buffers hold anything. -/
theorem inv_free (c : Dev nD) (n : ℕ) (hn : n ≤ cfg0.N) (h : n % 65 = 0) : (Pipeline.ΦA spec0 c : sProp 𝕄) ⊢ scrInv m c n hn := by
  unfold Pipeline.ΦA scrInv
  rw [scopedRest0_eq]
  simp only [owns_whole]
  iintro ⟨⟨⟨%f0, H0⟩, ⟨%f1, H1⟩⟩, Hg⟩
  iexists f0, f1; isplitr; · ipureintro; exact fun e => absurd h e
  isplitl [H0]; · iexact H0
  isplitl [H1]; · iexact H1
  iexact Hg

theorem inv_done (c : Dev nD) (n : ℕ) (hn : n ≤ cfg0.N) : scrInv m c n hn ⊢ (Pipeline.ΦA spec0 c : sProp 𝕄) := by
  unfold Pipeline.ΦA scrInv
  rw [scopedRest0_eq]
  simp only [owns_whole]
  iintro ⟨%f0, %f1, -, H0, H1, Hg⟩
  isplitl [H0 H1]
  · isplitl [H0]
    · iexists f0; iexact H0
    · iexists f1; iexact H1
  iexact Hg

theorem inv_start (c : Dev nD) : (dats m 0 c).Φ 0 = scrInv m c 0 (Nat.zero_le _) := by dsimp only [dats]; rfl

/-- Every run of the program ends with its windowed arrays as the proof data name them and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m)
    (hin := fun c => by rw [inv_start]; exact inv_free m c 0 _ rfl) (hout := fun c => inv_done m c _ (Nat.le_refl _))
    (hQ' := fun _ h => h)

/-- The frame of the program over any float values: its arguments end unchanged and every semaphore ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c)))⟩, h.2⟩) (run_main m ρ)

end Cert.KernelIdeal.Hand

end
-- ==== Proof.Reals.lean ====
module

public import Idealize.ShloMosaic.Lib.Pointwise
public import Idealize.ShloMosaic.PureOps.Ideal.Laws
public import Mathlib.Analysis.SpecialFunctions.Log.Basic
public import Mathlib.Algebra.BigOperators.Intervals

/-!
  Extended reals that are real numbers, and the real mathematics of stick-breaking attention's gradients.
-/

@[expose] public section

noncomputable section

namespace Cert.Stick

open Idealize.ShloMosaic

/-! ## Extended reals that are real numbers -/

/-- A sum of real numbers is a real number. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

/-- The scale 1/√128 as both programs spell it. -/
def scale : ℝ := (Ideal.ofBits .f32 0x3DB504F3#32 : EReal).toReal

theorem scale_eq : (Ideal.ofBits .f32 0x3DB504F3#32 : EReal) = ((scale : ℝ) : EReal) := by
  have h : ∃ r : ℝ, (Ideal.ofBits .f32 0x3DB504F3#32 : EReal) = (r : EReal) := by
    simp only [Ideal.ofBits, Ideal.ieee]
    rw [if_neg (by decide)]
    exact ⟨_, rfl⟩
  obtain ⟨r, hr⟩ := h
  unfold scale
  rw [hr, EReal.toReal_coe]

/-- The logarithm of a positive number. -/
theorem log_pos {r : ℝ} (h : 0 < r) : Ideal.log (r : EReal) = (Real.log r : EReal) := by
  rw [Ideal.log_coe, if_neg (not_le.mpr h)]

/-! ## The gradients of one head

  `q k v g` are the head's queries, keys, values and incoming gradient, by position and column.
-/

/-- Query `r` looks at key `s`: only at earlier ones, and not at the padding. -/
abbrev Sees (r s : ℕ) : Prop := s < r ∧ 112 ≤ s

/-- The product of row `r` of `a` and row `s` of `b`. -/
def dotr (a b : ℕ → ℕ → ℝ) (r s : ℕ) : ℝ := ∑ d ∈ Finset.range 128, a r d * b s d

section Head

variable (q k v g : ℕ → ℕ → ℝ)

/-- The logit. -/
def zz (r s : ℕ) : ℝ := dotr q k r s * scale

/-- log β, the logarithm of the logit's sigmoid. -/
def lbb (r s : ℕ) : ℝ := min (zz q k r s) 0 - Real.log (1 + Real.exp (-|zz q k r s|))

/-- log(1 − β), nothing where the query does not look. -/
def ll (r s : ℕ) : ℝ := if Sees r s then lbb q k r s - zz q k r s else 0

/-- Its sum from key `a` on. -/
def tail (r a : ℕ) : ℝ := ∑ j ∈ Finset.Ico a 8320, ll q k r j

/-- The attention weight. -/
def ww (r s : ℕ) : ℝ := if Sees r s then Real.exp (lbb q k r s + tail q k r (s + 1)) else 0

/-- The weight times its gradient. -/
def pp (r s : ℕ) : ℝ := ww q k r s * dotr g v r s

/-- Its sum left of key `s`. -/
def below (r s : ℕ) : ℝ := ∑ j ∈ Finset.range s, pp q k v g r j

/-- The gradient of the unscaled logit. -/
def zd (r s : ℕ) : ℝ :=
  if Sees r s then (pp q k v g r s * (1 - Real.exp (lbb q k r s)) - below q k v g r s * Real.exp (lbb q k r s)) * scale else 0

/-- The gradient of `q`. -/
def dqR (r d : ℕ) : ℝ := ∑ s ∈ Finset.range 8320, zd q k v g r s * k s d

/-- The gradient of `k`. -/
def dkR (s d : ℕ) : ℝ := ∑ r ∈ Finset.range 8320, zd q k v g r s * q r d

/-- The gradient of `v`. -/
def dvR (s d : ℕ) : ℝ := ∑ r ∈ Finset.range 8320, ww q k r s * g r d

end Head

/-! ## Sums over a window -/

/-- A sum over the columns of a window that starts at key `n - δ`, the columns left of key 0 counting for nothing. -/
theorem sum_win (f : ℕ → ℝ) (h0 : f 0 = 0) (n δ m : ℕ) : ∑ c ∈ Finset.range m, f (n + c - δ) = ∑ j ∈ Finset.Ico (n - δ) (n + m - δ), f j := by
  induction m with
  | zero => simp
  | succ m ih =>
    rw [Finset.sum_range_succ, ih]
    by_cases h : δ ≤ n + m
    · rw [show n + (m + 1) - δ = (n + m - δ) + 1 by omega, Finset.sum_Ico_succ_top (by omega)]
    · rw [show n + m - δ = 0 by omega, show n + (m + 1) - δ = 0 by omega, h0]
      simp

/-- The columns of a window right of column `c`. -/
theorem sum_right (f : ℕ → ℝ) (n δ c : ℕ) (h : δ ≤ n + c) (hc : c < 384) :
    ∑ j ∈ Finset.Ico (c + 1) 384, f (n + j - δ) = ∑ j ∈ Finset.Ico (n + c - δ + 1) (n + 384 - δ), f j := by
  rw [Finset.sum_Ico_eq_sum_range, Finset.sum_Ico_eq_sum_range]
  rw [show n + 384 - δ - (n + c - δ + 1) = 384 - (c + 1) by omega]
  refine Finset.sum_congr rfl fun x hx => ?_
  congr 1
  omega

/-- A sum over the later ones of 128. -/
theorem sum_later (f : ℕ → ℝ) (c : ℕ) (hc : c < 128) : ∑ k ∈ Finset.range 128, (if c < k then f k else 0) = ∑ k ∈ Finset.Ico (c + 1) 128, f k := by
  rw [← Finset.sum_filter]
  refine Finset.sum_congr ?_ fun _ _ => rfl
  ext k
  simp only [Finset.mem_filter, Finset.mem_range, Finset.mem_Ico]
  omega

/-- A sum over the earlier ones of 128. -/
theorem sum_earlier (f : ℕ → ℝ) (c : ℕ) (hc : c < 128) : ∑ k ∈ Finset.range 128, (if k < c then f k else 0) = ∑ k ∈ Finset.range c, f k := by
  rw [← Finset.sum_filter]
  refine Finset.sum_congr ?_ fun _ _ => rfl
  ext k
  simp only [Finset.mem_filter, Finset.mem_range]
  omega

/-- A block's sum by positions. -/
theorem sum_blk (f : ℕ → ℝ) (b : ℕ) : ∑ k ∈ Finset.range 128, f (b + k) = ∑ k ∈ Finset.Ico b (b + 128), f k := by
  rw [Finset.sum_Ico_eq_sum_range]
  simp

/-- The columns right of `c` in three blocks: within its own, and the later ones whole. -/
theorem right0 (f : ℕ → ℝ) (c : ℕ) (hc : c < 128) :
    ∑ k ∈ Finset.range 128, (if c < k then f (0 + k) else 0) + ∑ k ∈ Finset.range 128, f (128 + k) + ∑ k ∈ Finset.range 128, f (256 + k)
      = ∑ j ∈ Finset.Ico (c + 1) 384, f j := by
  simp only [Nat.zero_add]
  rw [sum_later f c hc, sum_blk, sum_blk, Finset.sum_Ico_consecutive _ (by omega) (by omega), Finset.sum_Ico_consecutive _ (by omega) (by omega)]

theorem right1 (f : ℕ → ℝ) (c : ℕ) (hc : c < 128) :
    ∑ k ∈ Finset.range 128, (if c < k then f (128 + k) else 0) + ∑ k ∈ Finset.range 128, f (256 + k) = ∑ j ∈ Finset.Ico (128 + c + 1) 384, f j := by
  rw [sum_later (fun k => f (128 + k)) c hc, sum_blk, Finset.sum_Ico_add (fun k => f k) (c + 1) 128 128,
    show c + 1 + 128 = 128 + c + 1 by omega, Finset.sum_Ico_consecutive _ (by omega) (by omega)]

theorem right2 (f : ℕ → ℝ) (c : ℕ) (hc : c < 128) :
    ∑ k ∈ Finset.range 128, (if c < k then f (256 + k) else 0) = ∑ j ∈ Finset.Ico (256 + c + 1) 384, f j := by
  rw [sum_later (fun k => f (256 + k)) c hc, Finset.sum_Ico_add (fun k => f k) (c + 1) 128 256, show c + 1 + 256 = 256 + c + 1 by omega]

/-- The columns left of `c` in three blocks. -/
theorem left0 (f : ℕ → ℝ) (c : ℕ) (hc : c < 128) : ∑ k ∈ Finset.range 128, (if k < c then f (0 + k) else 0) = ∑ j ∈ Finset.range c, f j := by
  simp only [Nat.zero_add]
  exact sum_earlier f c hc

theorem left1 (f : ℕ → ℝ) (c : ℕ) (hc : c < 128) :
    ∑ k ∈ Finset.range 128, (if k < c then f (128 + k) else 0) + ∑ k ∈ Finset.range 128, f (0 + k) = ∑ j ∈ Finset.range (128 + c), f j := by
  simp only [Nat.zero_add]
  rw [sum_earlier (fun k => f (128 + k)) c hc, Finset.sum_range_add, add_comm]

theorem left2 (f : ℕ → ℝ) (c : ℕ) (hc : c < 128) :
    ∑ k ∈ Finset.range 128, (if k < c then f (256 + k) else 0) + ∑ k ∈ Finset.range 128, f (0 + k) + ∑ k ∈ Finset.range 128, f (128 + k)
      = ∑ j ∈ Finset.range (256 + c), f j := by
  simp only [Nat.zero_add]
  rw [sum_earlier (fun k => f (256 + k)) c hc, Finset.sum_range_add _ 256 c, show (256 : ℕ) = 128 + 128 from rfl, Finset.sum_range_add _ 128 128]
  ring

/-- Three blocks are the window. -/
theorem whole (f : ℕ → ℝ) :
    ∑ k ∈ Finset.range 128, f (0 + k) + ∑ k ∈ Finset.range 128, f (128 + k) + ∑ k ∈ Finset.range 128, f (256 + k) = ∑ j ∈ Finset.range 384, f j := by
  simp only [Nat.zero_add]
  rw [show (384 : ℕ) = 128 + 128 + 128 from rfl, Finset.sum_range_add _ (128 + 128) 128, Finset.sum_range_add _ 128 128]

end Cert.Stick

end
-- ==== Proof.Scan.lean ====
module

public import proofs.«01_k».proof.Proof.Gen.ReferenceIdeal.Read
public import proofs.«01_k».proof.Proof.Reals

/-!
  The reference's sums along a row, read from the right and from the left, and its softplus.
-/

@[expose] public section

set_option maxRecDepth 16384

noncomputable section

namespace Cert.ReferenceIdeal.Hand

open Cert.ReferenceIdeal Cert.ReferenceIdeal.Gen Cert.Stick
open Idealize.ShloMosaic Idealize.ShloMosaic.TcCoe

/-! ## Sums over a window -/

theorem fold_add {n : ℕ} (f : Fin n → EReal) (v : EReal) : (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

abbrev Row : Shape := ⟨3, ![1, 1, 8320]⟩

theorem row_at (n : Fin Row.numel) : (Row.rowMajor.symm n 0).val = 0 ∧ (Row.rowMajor.symm n 1).val = 0 ∧ (Row.rowMajor.symm n 2).val = n.val := by
  have h := Shape.rowMajor_val_three (Row.rowMajor.symm n)
  rw [Equiv.apply_symm_apply] at h
  have h0 : (Row.rowMajor.symm n 0).val < 1 := (Row.rowMajor.symm n 0).isLt
  have h1 : (Row.rowMajor.symm n 1).val < 1 := (Row.rowMajor.symm n 1).isLt
  have h' : n.val = ((Row.rowMajor.symm n 0).val * 1 + (Row.rowMajor.symm n 1).val) * 8320 + (Row.rowMajor.symm n 2).val := h
  omega

theorem row_numel : Row.numel = 8320 := by
  rw [Shape.numel, Fin.prod_univ_three]
  rfl

theorem host_scan {s t : Shape} (window strides lo hi : Fin s.rank → Nat) (h : s.ReduceWindows window strides lo hi t)
    (k : HostSchedule) (x : FVec Ideal s .f32) (v : Ideal .f32) :
    FloatOps.hostReduceWindowAdd (F := Ideal) (φ := .f32) window strides lo hi h k x v = Ideal.hostReduceWindowAdd window strides lo hi h x v := rfl

/-- Row sums up to a position: each window ends there. -/
theorem scan_left (x : FVec Ideal S8x8320x8320 .f32) (init : FVec Ideal S_ .f32) (hu : 0 < S_.numel)
    (h : S8x8320x8320.ReduceWindows ![1, 1, 8320] ![1, 1, 1] ![0, 0, 8319] ![0, 0, 0] S8x8320x8320)
    (h0 : init (Shape.Idx.first hu) = 0) (X : ℕ → ℕ → ℕ → ℝ) (hx : ∀ i, x i = (X (i 0).val (i 1).val (i 2).val : ℝ)) (j : S8x8320x8320.Idx) :
    Host.reduceWindowAdd ![1, 1, 8320] ![1, 1, 1] ![0, 0, 8319] ![0, 0, 0] x init h hu j
      = ((∑ m ∈ Finset.range ((j 2).val + 1), X (j 0).val (j 1).val m : ℝ) : EReal) := by
  unfold Host.reduceWindowAdd
  rw [h0, host_scan]
  unfold Ideal.hostReduceWindowAdd Host.reduceWindow
  have hj0 : (j 0).val < 8 := (j 0).isLt
  have hj1 : (j 1).val < 8320 := (j 1).isLt
  have hj2 : (j 2).val < 8320 := (j 2).isLt
  refine (fold_add (n := Row.numel) _ 0).trans ?_
  rw [zero_add]
  refine (Finset.sum_congr rfl (g := fun n : Fin Row.numel => (((fun m => if 8319 ≤ (j 2).val + m then X (j 0).val (j 1).val ((j 2).val + m - 8319) else 0) n.val : ℝ) : EReal)) fun n _ => ?_).trans ?_
  · obtain ⟨a0, a1, a2⟩ := row_at n
    have hn : n.val < 8320 := n.isLt.trans_eq row_numel
    by_cases c : 8319 ≤ (j 2).val + n.val
    · refine (dif_pos ?_).trans ((hx _).trans ?_)
      swap
      · beta_reduce
        rw [if_pos c]
        show ((X ((j 0).val * 1 + (Row.rowMajor.symm n 0).val - 0) ((j 1).val * 1 + (Row.rowMajor.symm n 1).val - 0) ((j 2).val * 1 + (Row.rowMajor.symm n 2).val - 8319) : ℝ) : EReal) = _
        rw [a0, a1, a2]
        simp
      · intro a
        match a with
        | ⟨0, _⟩ => exact ⟨Nat.zero_le _, by show (j 0).val * 1 + (Row.rowMajor.symm n 0).val - 0 < 8; omega⟩
        | ⟨1, _⟩ => exact ⟨Nat.zero_le _, by show (j 1).val * 1 + (Row.rowMajor.symm n 1).val - 0 < 8320; omega⟩
        | ⟨2, _⟩ => exact ⟨by show 8319 ≤ (j 2).val * 1 + (Row.rowMajor.symm n 2).val; omega, by show (j 2).val * 1 + (Row.rowMajor.symm n 2).val - 8319 < 8320; omega⟩
    · refine (dif_neg ?_).trans ?_
      swap
      · beta_reduce
        rw [if_neg c]; rfl
      · intro hin
        have := (hin 2).1
        have t : 8319 ≤ (j 2).val * 1 + (Row.rowMajor.symm n 2).val := this
        omega
  rw [coe_sum, ← Finset.sum_range (fun m => if 8319 ≤ (j 2).val + m then X (j 0).val (j 1).val ((j 2).val + m - 8319) else 0), row_numel]
  congr 1
  rw [show (8320 : ℕ) = (8319 - (j 2).val) + ((j 2).val + 1) by omega, Finset.sum_range_add, Finset.sum_eq_zero (s := Finset.range (8319 - (j 2).val)), zero_add]
  · refine Finset.sum_congr rfl fun m hm => ?_
    rw [if_pos (by omega)]
    rw [show (j 2).val + (8319 - (j 2).val + m) - 8319 = m by omega]
  · intro m hm
    rw [if_neg]
    have := Finset.mem_range.mp hm
    omega

/-- Row sums from a position on: each window begins there. -/
theorem scan_right (x : FVec Ideal S8x8320x8320 .f32) (init : FVec Ideal S_ .f32) (hu : 0 < S_.numel)
    (h : S8x8320x8320.ReduceWindows ![1, 1, 8320] ![1, 1, 1] ![0, 0, 0] ![0, 0, 8319] S8x8320x8320)
    (h0 : init (Shape.Idx.first hu) = 0) (X : ℕ → ℕ → ℕ → ℝ) (hx : ∀ i, x i = (X (i 0).val (i 1).val (i 2).val : ℝ)) (j : S8x8320x8320.Idx) :
    Host.reduceWindowAdd ![1, 1, 8320] ![1, 1, 1] ![0, 0, 0] ![0, 0, 8319] x init h hu j
      = ((∑ m ∈ Finset.range (8320 - (j 2).val), X (j 0).val (j 1).val ((j 2).val + m) : ℝ) : EReal) := by
  unfold Host.reduceWindowAdd
  rw [h0, host_scan]
  unfold Ideal.hostReduceWindowAdd Host.reduceWindow
  have hj0 : (j 0).val < 8 := (j 0).isLt
  have hj1 : (j 1).val < 8320 := (j 1).isLt
  have hj2 : (j 2).val < 8320 := (j 2).isLt
  refine (fold_add (n := Row.numel) _ 0).trans ?_
  rw [zero_add]
  refine (Finset.sum_congr rfl (g := fun n : Fin Row.numel => (((fun m => if (j 2).val + m < 8320 then X (j 0).val (j 1).val ((j 2).val + m) else 0) n.val : ℝ) : EReal)) fun n _ => ?_).trans ?_
  · obtain ⟨a0, a1, a2⟩ := row_at n
    have hn : n.val < 8320 := n.isLt.trans_eq row_numel
    by_cases c : (j 2).val + n.val < 8320
    · refine (dif_pos ?_).trans ((hx _).trans ?_)
      swap
      · beta_reduce
        rw [if_pos c]
        show ((X ((j 0).val * 1 + (Row.rowMajor.symm n 0).val - 0) ((j 1).val * 1 + (Row.rowMajor.symm n 1).val - 0) ((j 2).val * 1 + (Row.rowMajor.symm n 2).val - 0) : ℝ) : EReal) = _
        rw [a0, a1, a2]
        simp
      · intro a
        match a with
        | ⟨0, _⟩ => exact ⟨Nat.zero_le _, by show (j 0).val * 1 + (Row.rowMajor.symm n 0).val - 0 < 8; omega⟩
        | ⟨1, _⟩ => exact ⟨Nat.zero_le _, by show (j 1).val * 1 + (Row.rowMajor.symm n 1).val - 0 < 8320; omega⟩
        | ⟨2, _⟩ => exact ⟨Nat.zero_le _, by show (j 2).val * 1 + (Row.rowMajor.symm n 2).val - 0 < 8320; omega⟩
    · refine (dif_neg ?_).trans ?_
      swap
      · beta_reduce
        rw [if_neg c]; rfl
      · intro hin
        have := (hin 2).2
        have t : (j 2).val * 1 + (Row.rowMajor.symm n 2).val - 0 < 8320 := this
        omega
  rw [coe_sum, ← Finset.sum_range (fun m => if (j 2).val + m < 8320 then X (j 0).val (j 1).val ((j 2).val + m) else 0), row_numel]
  congr 1
  rw [show Finset.range 8320 = Finset.range ((8320 - (j 2).val) + (j 2).val) by congr 1; omega, Finset.sum_range_add,
    Finset.sum_eq_zero (s := Finset.range (j 2).val), add_zero]
  · refine Finset.sum_congr rfl fun m hm => ?_
    have := Finset.mem_range.mp hm
    rw [if_pos (by omega)]
  · intro m hm
    rw [if_neg]
    omega

/-- Reversing a row. -/
theorem rev_val (x : FVec Ideal S8x8320x8320 .f32) (X : ℕ → ℕ → ℕ → ℝ) (hx : ∀ i, x i = (X (i 0).val (i 1).val (i 2).val : ℝ)) (j : S8x8320x8320.Idx) :
    Host.reverse [2] x j = ((X (j 0).val (j 1).val (8319 - (j 2).val) : ℝ) : EReal) := by
  unfold Host.reverse
  rw [hx]
  have e2 : ((j 2).rev).val = 8319 - (j 2).val := by
    have : ((j 2).rev).val = 8320 - ((j 2).val + 1) := Fin.val_rev _
    omega
  show ((X (j 0).val (j 1).val ((j 2).rev).val : ℝ) : EReal) = _
  rw [e2]

/-! ## Softplus -/

/-- Softplus as the reference writes it. -/
def spW (x z : EReal) : EReal :=
  Scalar.select (FloatOps.cmpf (F := Ideal) (φ := .f32) .une (FloatOps.subf (F := Ideal) (φ := .f32) x z) (FloatOps.subf (F := Ideal) (φ := .f32) x z))
    (FloatOps.addf (F := Ideal) (φ := .f32) x z)
    (FloatOps.addf (F := Ideal) (φ := .f32) (FloatOps.maximumf (F := Ideal) (φ := .f32) x z)
      (FloatOps.hostUnary (F := Ideal) (φ := .f32) .log1p (FloatOps.hostUnary (F := Ideal) (φ := .f32) .exp
        (FloatOps.hostNegf (F := Ideal) (φ := .f32) (FloatOps.hostAbsf (F := Ideal) (φ := .f32) (FloatOps.subf (F := Ideal) (φ := .f32) x z))))))

def sp (x : ℝ) : ℝ := max x 0 + Real.log (1 + Real.exp (-|x|))

theorem abs_real (x : ℝ) : max (x : EReal) (-(x : EReal)) = ((|x| : ℝ) : EReal) := by
  rw [← EReal.coe_neg, coe_max]; rfl

theorem spW_real (x : ℝ) : spW (x : EReal) 0 = ((sp x : ℝ) : EReal) := by
  unfold spW
  have e : (FloatOps.cmpf (F := Ideal) (φ := .f32) .une (FloatOps.subf (F := Ideal) (φ := .f32) (x : EReal) 0) (FloatOps.subf (F := Ideal) (φ := .f32) (x : EReal) 0)) = 0#1 := by
    show BitVec.ofBool (decide (_ ≠ _)) = _
    simp
  rw [e]
  show (max (x : EReal) 0 + Ideal.log (1 + Ideal.exp (-(max ((x : EReal) - 0) (-((x : EReal) - 0))))) : EReal) = _
  rw [sub_zero, abs_real, ← EReal.coe_neg, Ideal.exp_coe, show (1 : EReal) = ((1 : ℝ) : EReal) from rfl, ← EReal.coe_add,
    log_pos (by positivity), show (0 : EReal) = ((0 : ℝ) : EReal) from rfl, coe_max, ← EReal.coe_add]
  rfl

/-- A comparison with +∞ that the reference guards its softplus's gradient with. -/
theorem guard_real (x : ℝ) (y : EReal) : Scalar.select (FloatOps.cmpf (F := Ideal) (φ := .f32) .oeq (x : EReal) (FloatOps.ofBits (F := Ideal) .f32 0x7F800000#32)) y (x : EReal) = (x : EReal) := by
  have e : (FloatOps.cmpf (F := Ideal) (φ := .f32) .oeq (x : EReal) (FloatOps.ofBits (F := Ideal) .f32 0x7F800000#32)) = 0#1 := by
    show BitVec.ofBool (decide ((x : EReal) = Ideal.ofBits .f32 0x7F800000#32)) = _
    rw [show Ideal.ofBits .f32 0x7F800000#32 = (⊤ : EReal) by simp [Ideal.ofBits, Ideal.ieee]]
    simp
  rw [e]
  rfl

theorem zero_bits : (FloatOps.ofBits (F := Ideal) .f32 0x00000000#32 : EReal) = 0 := by
  show Ideal.ofBits .f32 0x00000000#32 = 0
  simp [Ideal.ofBits, Ideal.ieee]

section Real
variable (q k : ℕ → ℕ → ℝ) (r s : ℕ)

theorem sp_neg : sp (-zz q k r s) = -lbb q k r s := by
  unfold sp lbb
  rw [abs_neg, show max (-zz q k r s) 0 = -min (zz q k r s) 0 by rw [← max_neg_neg, neg_zero]]
  ring

theorem sp_pos : sp (zz q k r s) = zz q k r s - lbb q k r s := by
  unfold sp lbb
  have := min_add_max (zz q k r s) 0
  linarith

theorem one_sub : Real.exp (-zz q k r s + lbb q k r s) = 1 - Real.exp (lbb q k r s) := by
  unfold lbb
  generalize zz q k r s = z
  have p : (0 : ℝ) < 1 + Real.exp (-|z|) := by positivity
  rw [← add_sub_assoc, Real.exp_sub, Real.exp_sub, Real.exp_log p, eq_sub_iff_add_eq, ← add_div, div_eq_one_iff_eq p.ne']
  rcases le_total 0 z with h | h
  · rw [min_eq_right h, abs_of_nonneg h]; simp [add_comm]
  · rw [min_eq_left h, abs_of_nonpos h]; simp
end Real

end Cert.ReferenceIdeal.Hand
-- ==== Proof.RefVal.lean ====
module

public import proofs.«01_k».proof.Proof.Scan

/-!
  The reference's results, as the gradients of each head of stick-breaking attention.
-/

@[expose] public section

set_option maxRecDepth 16384

noncomputable section

namespace Cert.ReferenceIdeal.Hand

open Cert.ReferenceIdeal Cert.ReferenceIdeal.Gen Cert.ReferenceIdeal.Read Cert.Stick
open Idealize.ShloMosaic Idealize.ShloMosaic.TcCoe

/-! ## The heads' queries, keys, values and incoming gradients -/

section Cols
variable (A : ℕ → ℕ → ℝ)
def colQ (h r d : ℕ) : ℝ := A r (4096 + (h * 128 + d))
def colK (h r d : ℕ) : ℝ := A r (5120 + (h * 128 + d))
def colV (h r d : ℕ) : ℝ := A r (6144 + (h * 128 + d))
def colG (h r d : ℕ) : ℝ := A r (h * 128 + d)
end Cols

variable (x0 : (⟨S8320x11264, .bf16⟩ : BufTy).Contents (Elt Ideal)) (x1 : (⟨S8320x1024, .f32⟩ : BufTy).Contents (Elt Ideal))
variable (A B : ℕ → ℕ → ℝ)
variable (hA : ∀ i : S8320x11264.Idx, 4096 ≤ (i 1).val → (i 1).val < 7168 → (x0 i : EReal) = (A (i 0).val (i 1).val : ℝ))
variable (hB : ∀ i : S8320x1024.Idx, (x1 i : EReal) = (B (i 0).val (i 1).val : ℝ))

include hA in
theorem q_val (i : S8x8320x128.Idx) : (val_main_v5 (F := Ideal) x0 i : EReal) = (colQ A (i 0).val (i 1).val (i 2).val : ℝ) := by
  have h0 : (i 0).val < 8 := (i 0).isLt
  have h1 : (i 1).val < 8320 := (i 1).isLt
  have h2 : (i 2).val < 128 := (i 2).isLt
  rw [val_main_v5_apply, val_main_v4_apply, val_main_v1_apply, val_main_v0_apply]
  have e0 : (((i 1).val * 8 + (i 0).val) * 128 + (i 2).val) / 1024 = (i 1).val := by omega
  have e1 : (((i 1).val * 8 + (i 0).val) * 128 + (i 2).val) % 1024 = (i 0).val * 128 + (i 2).val := by omega
  refine (hA _ ?_ ?_).trans ?_
  · show 4096 ≤ 4096 + (((i 1).val * 8 + (i 0).val) * 128 + (i 2).val) % 1024
    omega
  · show 4096 + (((i 1).val * 8 + (i 0).val) * 128 + (i 2).val) % 1024 < 7168
    omega
  · show ((A ((((i 1).val * 8 + (i 0).val) * 128 + (i 2).val) / 1024) (4096 + (((i 1).val * 8 + (i 0).val) * 128 + (i 2).val) % 1024) : ℝ) : EReal) = _
    rw [e0, e1]; rfl

include hA in
theorem k_val (i : S8x8320x128.Idx) : (val_main_v7 (F := Ideal) x0 i : EReal) = (colK A (i 0).val (i 1).val (i 2).val : ℝ) := by
  have h0 : (i 0).val < 8 := (i 0).isLt
  have h1 : (i 1).val < 8320 := (i 1).isLt
  have h2 : (i 2).val < 128 := (i 2).isLt
  rw [val_main_v7_apply, val_main_v6_apply, val_main_v2_apply, val_main_v0_apply]
  have e0 : (((i 1).val * 8 + (i 0).val) * 128 + (i 2).val) / 1024 = (i 1).val := by omega
  have e1 : (((i 1).val * 8 + (i 0).val) * 128 + (i 2).val) % 1024 = (i 0).val * 128 + (i 2).val := by omega
  refine (hA _ ?_ ?_).trans ?_
  · show 4096 ≤ 5120 + (((i 1).val * 8 + (i 0).val) * 128 + (i 2).val) % 1024
    omega
  · show 5120 + (((i 1).val * 8 + (i 0).val) * 128 + (i 2).val) % 1024 < 7168
    omega
  · show ((A ((((i 1).val * 8 + (i 0).val) * 128 + (i 2).val) / 1024) (5120 + (((i 1).val * 8 + (i 0).val) * 128 + (i 2).val) % 1024) : ℝ) : EReal) = _
    rw [e0, e1]; rfl

include hA in
theorem v_val (i : S8x8320x128.Idx) : (val_main_v9 (F := Ideal) x0 i : EReal) = (colV A (i 0).val (i 1).val (i 2).val : ℝ) := by
  have h0 : (i 0).val < 8 := (i 0).isLt
  have h1 : (i 1).val < 8320 := (i 1).isLt
  have h2 : (i 2).val < 128 := (i 2).isLt
  rw [val_main_v9_apply, val_main_v8_apply, val_main_v3_apply, val_main_v0_apply]
  have e0 : (((i 1).val * 8 + (i 0).val) * 128 + (i 2).val) / 1024 = (i 1).val := by omega
  have e1 : (((i 1).val * 8 + (i 0).val) * 128 + (i 2).val) % 1024 = (i 0).val * 128 + (i 2).val := by omega
  refine (hA _ ?_ ?_).trans ?_
  · show 4096 ≤ 6144 + (((i 1).val * 8 + (i 0).val) * 128 + (i 2).val) % 1024
    omega
  · show 6144 + (((i 1).val * 8 + (i 0).val) * 128 + (i 2).val) % 1024 < 7168
    omega
  · show ((A ((((i 1).val * 8 + (i 0).val) * 128 + (i 2).val) / 1024) (6144 + (((i 1).val * 8 + (i 0).val) * 128 + (i 2).val) % 1024) : ℝ) : EReal) = _
    rw [e0, e1]; rfl

include hB in
theorem g_val (i : S8x128x8320.Idx) : (val_main_v39 (F := Ideal) x1 i : EReal) = (colG B (i 0).val (i 2).val (i 1).val : ℝ) := by
  have h0 : (i 0).val < 8 := (i 0).isLt
  have h1 : (i 1).val < 128 := (i 1).isLt
  have h2 : (i 2).val < 8320 := (i 2).isLt
  rw [val_main_v39_apply, val_main_v38_apply]
  have e0 : (((i 2).val * 8 + (i 0).val) * 128 + (i 1).val) / 1024 = (i 2).val := by omega
  have e1 : (((i 2).val * 8 + (i 0).val) * 128 + (i 1).val) % 1024 = (i 0).val * 128 + (i 1).val := by omega
  refine (hB _).trans ?_
  show ((B ((((i 2).val * 8 + (i 0).val) * 128 + (i 1).val) / 1024) ((((i 2).val * 8 + (i 0).val) * 128 + (i 1).val) % 1024) : ℝ) : EReal) = _
  rw [e0, e1]; rfl

/-! ## The mask -/

theorem small_int (x : ℕ) (hx : x < 65536) : (BitVec.ofNat 32 x).toInt = x := by
  rw [BitVec.toInt_ofNat', show (2 : ℕ) ^ 32 = 4294967296 from rfl]; norm_num [Int.bmod]; omega

theorem mask_val (i : S8320x8320.Idx) : val_main_v23 (F := Ideal) i = if Sees (i 0).val (i 1).val then 1#1 else 0#1 := by
  have h0 : (i 0).val < 8320 := (i 0).isLt
  have h1 : (i 1).val < 8320 := (i 1).isLt
  simp only [val_main_v23_apply, val_main_v22_apply, val_main_v21_apply, val_main_v20_apply, val_main_v19_apply, val_main_c_apply,
    val_main_v18_apply, val_main_v17_apply, val_main_v16_apply, val_main_v15_apply, val_main_v14_apply, val_main_v13_apply]
  show IntOp.andi (BitVec.ofBool ((BitVec.ofNat 32 (i 1).val).slt (BitVec.ofNat 32 (i 0).val))) (BitVec.ofBool ((112#32).sle (BitVec.ofNat 32 (i 1).val))) = _
  rw [BitVec.slt, BitVec.sle, small_int _ (by omega), small_int _ (by omega), show (112#32 : BitVec 32).toInt = 112 from rfl]
  unfold IntOp.andi
  by_cases a : (i 1).val < (i 0).val <;> by_cases b : 112 ≤ (i 1).val
  · rw [if_pos ⟨a, b⟩, decide_eq_true (by omega), decide_eq_true (by omega)]; rfl
  · rw [if_neg (fun c => b c.2), decide_eq_true (by omega), decide_eq_false (by omega)]; rfl
  · rw [if_neg (fun c => a c.1), decide_eq_false (by omega), decide_eq_true (by omega)]; rfl
  · rw [if_neg (fun c => a c.1), decide_eq_false (by omega), decide_eq_false (by omega)]; rfl

/-- Choosing by the mask. -/
theorem select_val (p : Prop) [Decidable p] (a b : ℝ) (x y : EReal) (hx : x = (a : ℝ)) (hy : y = (b : ℝ)) :
    Scalar.select (if p then 1#1 else 0#1) x y = ((if p then a else b : ℝ) : EReal) := by
  by_cases h : p
  · rw [if_pos h, if_pos h, ← hx]; rfl
  · rw [if_neg h, if_neg h, ← hy]; rfl

theorem mask3_val (i : S8x8320x8320.Idx) : val_main_v27_1 (F := Ideal) i = if Sees (i 1).val (i 2).val then 1#1 else 0#1 := by
  rw [val_main_v27_1_apply, mask_val]

theorem mask3_val' (i : S8x8320x8320.Idx) : val_main_v34_1 (F := Ideal) i = if Sees (i 1).val (i 2).val then 1#1 else 0#1 := by
  rw [val_main_v34_1_apply, mask_val]

/-! ## Logits and their logarithms -/

include hA in
theorem z_val (i : S8x8320x8320.Idx) : (val_main_v12 (F := Ideal) x0 i : EReal) = (zz (colQ A (i 0).val) (colK A (i 0).val) (i 1).val (i 2).val : ℝ) := by
  rw [val_main_v12_apply, val_main_v11_apply, val_main_cst_apply, val_main_v10_apply]
  show ((∑ k : Fin 128, val_main_v5 (F := Ideal) x0 (lidx_main_v10 i k) * val_main_v7 (F := Ideal) x0 (ridx_main_v10 i k)) * Ideal.ofBits .f32 0x3DB504F3#32 : EReal) = _
  rw [scale_eq, Finset.sum_congr rfl (g := fun k : Fin 128 => ((colQ A (i 0).val (i 1).val k.val * colK A (i 0).val (i 2).val k.val : ℝ) : EReal)) (fun k _ => by
    rw [q_val x0 A hA, k_val x0 A hA, ← EReal.coe_mul]), coe_sum, ← EReal.coe_mul]
  unfold zz dotr
  rw [Finset.sum_range]

include hA in
theorem negz_val (i : S8x8320x8320.Idx) : (val_main_call0_v0 (F := Ideal) x0 i : EReal) = ((-zz (colQ A (i 0).val) (colK A (i 0).val) (i 1).val (i 2).val : ℝ) : EReal) := by
  rw [val_main_call0_v0_apply, z_val x0 A hA, EReal.coe_neg]; rfl

include hA in
theorem sp0_val (i : S8x8320x8320.Idx) : (val_main_call0_v1_0 (F := Ideal) x0 i : EReal) = ((-lbb (colQ A (i 0).val) (colK A (i 0).val) (i 1).val (i 2).val : ℝ) : EReal) := by
  have e : (val_main_call0_v1_0 (F := Ideal) x0 i : EReal) = spW (val_main_call0_v0 (F := Ideal) x0 i) (FloatOps.ofBits (F := Ideal) .f32 0x00000000#32) := by
    rw [val_main_call0_v1_0_apply, val_main_call0_call0_v4_apply, val_main_call0_call0_v6_apply, val_main_call0_call0_v5_apply, val_main_call0_call0_v11_apply,
      val_main_call0_call0_v10_apply, val_main_call0_call0_v9_apply, val_main_call0_call0_v8_apply, val_main_call0_call0_v7_apply,
      val_main_call0_call0_v3_apply, val_main_call0_call0_v2_apply, val_main_call0_call0_v1_apply, val_main_call0_call0_v0_apply, val_main_call0_call0_cst_apply]
    rfl
  rw [e, zero_bits, negz_val x0 A hA, spW_real, sp_neg]

include hA in
theorem lb_val (i : S8x8320x8320.Idx) : (val_main_v24_0 (F := Ideal) x0 i : EReal) = (lbb (colQ A (i 0).val) (colK A (i 0).val) (i 1).val (i 2).val : ℝ) := by
  rw [val_main_v24_0_apply, sp0_val x0 A hA]
  show -(((-lbb (colQ A (i 0).val) (colK A (i 0).val) (i 1).val (i 2).val : ℝ)) : EReal) = _
  rw [← EReal.coe_neg, neg_neg]

include hA in
theorem onemb_val (i : S8x8320x8320.Idx) : (val_main_v24_1 (F := Ideal) x0 i : EReal) = ((1 - Real.exp (lbb (colQ A (i 0).val) (colK A (i 0).val) (i 1).val (i 2).val) : ℝ) : EReal) := by
  rw [val_main_v24_1_apply, val_main_call0_call0_v21_apply, val_main_call0_call0_v20_apply, val_main_call0_call0_v18_apply, val_main_call0_call0_v17_apply,
    val_main_call0_call0_cst_2_apply, val_main_call0_call0_v16_apply, val_main_call0_call0_v14_apply, val_main_call0_call0_v13_apply, val_main_call0_call0_cst_0_apply,
    negz_val x0 A hA, sp0_val x0 A hA, guard_real, guard_real]
  show Ideal.exp ((((-zz (colQ A (i 0).val) (colK A (i 0).val) (i 1).val (i 2).val : ℝ)) : EReal) - ((-lbb (colQ A (i 0).val) (colK A (i 0).val) (i 1).val (i 2).val : ℝ) : EReal)) = _
  rw [← EReal.coe_sub, Ideal.exp_coe, sub_neg_eq_add, one_sub]

include hA in
theorem negz1_val (i : S8x8320x8320.Idx) : (val_main_call1_v0 (F := Ideal) x0 i : EReal) = (zz (colQ A (i 0).val) (colK A (i 0).val) (i 1).val (i 2).val : ℝ) := by
  rw [val_main_call1_v0_apply, val_main_v25_apply, z_val x0 A hA]
  show -(-((zz (colQ A (i 0).val) (colK A (i 0).val) (i 1).val (i 2).val : ℝ) : EReal)) = _
  rw [neg_neg]

include hA in
theorem sp1_val (i : S8x8320x8320.Idx) : (val_main_call1_v1_0 (F := Ideal) x0 i : EReal)
    = ((zz (colQ A (i 0).val) (colK A (i 0).val) (i 1).val (i 2).val - lbb (colQ A (i 0).val) (colK A (i 0).val) (i 1).val (i 2).val : ℝ) : EReal) := by
  have e : (val_main_call1_v1_0 (F := Ideal) x0 i : EReal) = spW (val_main_call1_v0 (F := Ideal) x0 i) (FloatOps.ofBits (F := Ideal) .f32 0x00000000#32) := by
    rw [val_main_call1_v1_0_apply, val_main_call1_call0_v4_apply, val_main_call1_call0_v6_apply, val_main_call1_call0_v5_apply, val_main_call1_call0_v11_apply,
      val_main_call1_call0_v10_apply, val_main_call1_call0_v9_apply, val_main_call1_call0_v8_apply, val_main_call1_call0_v7_apply,
      val_main_call1_call0_v3_apply, val_main_call1_call0_v2_apply, val_main_call1_call0_v1_apply, val_main_call1_call0_v0_apply, val_main_call1_call0_cst_apply]
    rfl
  rw [e, zero_bits, negz1_val x0 A hA, spW_real, sp_pos]

include hA in
theorem beta_val (i : S8x8320x8320.Idx) : (val_main_v26_1 (F := Ideal) x0 i : EReal) = ((Real.exp (lbb (colQ A (i 0).val) (colK A (i 0).val) (i 1).val (i 2).val) : ℝ) : EReal) := by
  rw [val_main_v26_1_apply, val_main_call1_call0_v21_apply, val_main_call1_call0_v20_apply, val_main_call1_call0_v18_apply, val_main_call1_call0_v17_apply,
    val_main_call1_call0_cst_2_apply, val_main_call1_call0_v16_apply, val_main_call1_call0_v14_apply, val_main_call1_call0_v13_apply, val_main_call1_call0_cst_0_apply,
    negz1_val x0 A hA, sp1_val x0 A hA, guard_real, guard_real]
  show Ideal.exp (((zz (colQ A (i 0).val) (colK A (i 0).val) (i 1).val (i 2).val : ℝ) : EReal)
    - ((zz (colQ A (i 0).val) (colK A (i 0).val) (i 1).val (i 2).val - lbb (colQ A (i 0).val) (colK A (i 0).val) (i 1).val (i 2).val : ℝ) : EReal)) = _
  rw [← EReal.coe_sub, Ideal.exp_coe, sub_sub_cancel]

include hA in
theorem ll_val (i : S8x8320x8320.Idx) : (val_main_v27_0 (F := Ideal) x0 i : EReal) = (ll (colQ A (i 0).val) (colK A (i 0).val) (i 1).val (i 2).val : ℝ) := by
  rw [val_main_v27_0_apply, mask3_val]
  refine select_val _ _ _ _ _ ?_ ?_
  · rw [val_main_v26_0_apply, sp1_val x0 A hA]
    show -(_ : EReal) = _
    rw [← EReal.coe_neg, neg_sub]
  · rw [val_main_call2_v2_apply, val_main_call2_v0_apply, val_main_cst_0_apply, zero_bits]; rfl

/-! ## Sums along a row -/

theorem first_zero (i : S_.Idx) : (FloatOps.ofBits (F := Ideal) .f32 0x00000000#32 : EReal) = 0 := zero_bits

include hA in
theorem tail_val (i : S8x8320x8320.Idx) : (val_main_v30 (F := Ideal) x0 i : EReal) = (tail (colQ A (i 0).val) (colK A (i 0).val) (i 1).val (i 2).val : ℝ) := by
  have h2 : (i 2).val < 8320 := (i 2).isLt
  unfold val_main_v30
  refine (rev_val _ (fun h r j => ∑ m ∈ Finset.range (j + 1), ll (colQ A h) (colK A h) r (8319 - m)) (fun j => ?_) i).trans ?_
  · unfold val_main_v29
    refine scan_left _ _ _ _ ?_ (fun h r m => ll (colQ A h) (colK A h) r (8319 - m)) (fun j => ?_) j
    · exact zero_bits
    · exact rev_val _ (fun h r m => ll (colQ A h) (colK A h) r m) (fun j => ll_val x0 A hA j) j
  · congr 1
    unfold tail
    rw [show 8319 - (i 2).val + 1 = 8320 - (i 2).val by omega, Finset.sum_Ico_eq_sum_range, ← Finset.sum_range_reflect]
    refine Finset.sum_congr rfl fun m hm => ?_
    have := Finset.mem_range.mp hm
    rw [show 8319 - (8320 - (i 2).val - 1 - m) = (i 2).val + m by omega]

theorem tail_step (q k : ℕ → ℕ → ℝ) (r s : ℕ) (hs : s < 8320) : tail q k r s = ll q k r s + tail q k r (s + 1) := by
  unfold tail
  rw [Finset.sum_eq_sum_Ico_succ_bot hs]

include hA in
theorem e_val (i : S8x8320x8320.Idx) : (val_main_v33 (F := Ideal) x0 i : EReal)
    = ((Real.exp (lbb (colQ A (i 0).val) (colK A (i 0).val) (i 1).val (i 2).val + tail (colQ A (i 0).val) (colK A (i 0).val) (i 1).val ((i 2).val + 1)) : ℝ) : EReal) := by
  rw [val_main_v33_apply, val_main_v32_apply, val_main_v31_apply, lb_val x0 A hA, tail_val x0 A hA, ll_val x0 A hA]
  show Ideal.exp (((lbb (colQ A (i 0).val) (colK A (i 0).val) (i 1).val (i 2).val : ℝ) : EReal) + (tail (colQ A (i 0).val) (colK A (i 0).val) (i 1).val (i 2).val : ℝ)
    - (ll (colQ A (i 0).val) (colK A (i 0).val) (i 1).val (i 2).val : ℝ)) = _
  rw [← EReal.coe_add, ← EReal.coe_sub, Ideal.exp_coe, tail_step _ _ _ (i 2).val (i 2).isLt]
  congr 2
  ring

include hA in
theorem w_val (i : S8x8320x8320.Idx) : (val_main_v34_0 (F := Ideal) x0 i : EReal) = (ww (colQ A (i 0).val) (colK A (i 0).val) (i 1).val (i 2).val : ℝ) := by
  rw [val_main_v34_0_apply, mask3_val']
  refine select_val _ _ _ _ _ (e_val x0 A hA i) ?_
  rw [val_main_call6_v2_apply, val_main_call6_v0_apply, val_main_cst_1_apply, zero_bits]; rfl

include hA hB in
theorem gv_val (i : S8x8320x8320.Idx) : (val_main_v40 (F := Ideal) x0 x1 i : EReal) = (dotr (colG B (i 0).val) (colV A (i 0).val) (i 1).val (i 2).val : ℝ) := by
  rw [val_main_v40_apply, Finset.sum_congr rfl (g := fun k : Fin 128 => ((colG B (i 0).val (i 1).val k.val * colV A (i 0).val (i 2).val k.val : ℝ) : EReal)) (fun k _ => by
    rw [g_val x1 B hB, v_val x0 A hA, ← EReal.coe_mul]), coe_sum]
  unfold dotr
  rw [Finset.sum_range]

include hA hB in
theorem p_val (i : S8x8320x8320.Idx) : (val_main_v44 (F := Ideal) x0 x1 i : EReal)
    = (pp (colQ A (i 0).val) (colK A (i 0).val) (colV A (i 0).val) (colG B (i 0).val) (i 1).val (i 2).val : ℝ) := by
  rw [val_main_v44_apply, val_main_v43_apply, mask3_val', e_val x0 A hA]
  rw [select_val _ _ 0 _ _ (gv_val x0 x1 A B hA hB i) (by rw [val_main_call7_v0_apply]; exact zero_bits)]
  show ((_ : EReal) * _) = _
  rw [← EReal.coe_mul]
  congr 1
  unfold pp ww
  by_cases h : Sees (i 1).val (i 2).val
  · rw [if_pos h, if_pos h, mul_comm]
  · rw [if_neg h, if_neg h, zero_mul, zero_mul]

include hA hB in
theorem psum_val (i : S8x8320x8320.Idx) : (val_main_v48 (F := Ideal) x0 x1 i : EReal)
    = (below (colQ A (i 0).val) (colK A (i 0).val) (colV A (i 0).val) (colG B (i 0).val) (i 1).val ((i 2).val + 1) : ℝ) := by
  have h2 : (i 2).val < 8320 := (i 2).isLt
  unfold val_main_v48
  refine (rev_val _ (fun h r j => ∑ m ∈ Finset.range (8320 - j), pp (colQ A h) (colK A h) (colV A h) (colG B h) r (8319 - (j + m))) (fun j => ?_) i).trans ?_
  · unfold val_main_v47
    refine scan_right _ _ _ _ ?_ (fun h r m => pp (colQ A h) (colK A h) (colV A h) (colG B h) r (8319 - m)) (fun j => ?_) j
    · exact zero_bits
    · exact rev_val _ (fun h r m => pp (colQ A h) (colK A h) (colV A h) (colG B h) r m) (fun j => p_val x0 x1 A B hA hB j) j
  · congr 1
    unfold below
    rw [show 8320 - (8319 - (i 2).val) = (i 2).val + 1 by omega, ← Finset.sum_range_reflect]
    refine Finset.sum_congr rfl fun m hm => ?_
    have := Finset.mem_range.mp hm
    rw [show 8319 - (8319 - (i 2).val + ((i 2).val + 1 - 1 - m)) = m by omega]

include hA hB in
theorem zd_val (i : S8x8320x8320.Idx) : (val_main_v56 (F := Ideal) x0 x1 i : EReal)
    = (zd (colQ A (i 0).val) (colK A (i 0).val) (colV A (i 0).val) (colG B (i 0).val) (i 1).val (i 2).val : ℝ) := by
  have e50 : (val_main_v50 (F := Ideal) x0 x1 i : EReal) = ((if Sees (i 1).val (i 2).val then
      below (colQ A (i 0).val) (colK A (i 0).val) (colV A (i 0).val) (colG B (i 0).val) (i 1).val (i 2).val else 0 : ℝ) : EReal) := by
    rw [val_main_v50_apply, mask3_val]
    refine select_val _ _ _ _ _ ?_ ?_
    · rw [val_main_v49_apply, val_main_v45_apply, p_val x0 x1 A B hA hB, psum_val x0 x1 A B hA hB]
      show (-(_ : EReal) + _) = _
      rw [← EReal.coe_neg, ← EReal.coe_add]
      congr 1
      unfold below
      rw [Finset.sum_range_succ]
      ring
    · rw [val_main_call11_v0_apply]; exact zero_bits
  rw [val_main_v56_apply, val_main_v55_apply, val_main_v54_apply, val_main_v53_apply, val_main_call13_v1_apply, val_main_call13_v0_apply,
    val_main_v52_apply, val_main_v51_apply, val_main_call12_v1_apply, val_main_call12_v0_apply, e50, p_val x0 x1 A B hA hB, onemb_val x0 A hA, beta_val x0 A hA]
  show ((-(-(-(_ : EReal) * _)) + -(-(_ : EReal) * _)) * Ideal.ofBits .f32 0x3DB504F3#32) = _
  rw [scale_eq]
  simp only [← EReal.coe_neg, ← EReal.coe_mul, ← EReal.coe_add]
  congr 1
  unfold zd
  by_cases h : Sees (i 1).val (i 2).val
  · rw [if_pos h, if_pos h]; ring
  · rw [if_neg h, if_neg h]
    unfold pp ww
    rw [if_neg h]; ring

/-! ## The results -/

include hA hB in
theorem dq3_val (i : S8x8320x128.Idx) : (val_main_v58 (F := Ideal) x0 x1 i : EReal)
    = (dqR (colQ A (i 0).val) (colK A (i 0).val) (colV A (i 0).val) (colG B (i 0).val) (i 1).val (i 2).val : ℝ) := by
  rw [val_main_v58_apply, Finset.sum_congr rfl (g := fun k : Fin 8320 => ((zd (colQ A (i 0).val) (colK A (i 0).val) (colV A (i 0).val) (colG B (i 0).val) (i 1).val k.val
    * colK A (i 0).val k.val (i 2).val : ℝ) : EReal)) (fun k _ => by rw [zd_val x0 x1 A B hA hB, k_val x0 A hA, ← EReal.coe_mul]), coe_sum]
  unfold dqR
  rw [Finset.sum_range]

include hA hB in
theorem dk3_val (i : S8x8320x128.Idx) : (val_main_v57 (F := Ideal) x0 x1 i : EReal)
    = (dkR (colQ A (i 0).val) (colK A (i 0).val) (colV A (i 0).val) (colG B (i 0).val) (i 1).val (i 2).val : ℝ) := by
  rw [val_main_v57_apply, Finset.sum_congr rfl (g := fun k : Fin 8320 => ((zd (colQ A (i 0).val) (colK A (i 0).val) (colV A (i 0).val) (colG B (i 0).val) k.val (i 1).val
    * colQ A (i 0).val k.val (i 2).val : ℝ) : EReal)) (fun k _ => by rw [zd_val x0 x1 A B hA hB, q_val x0 A hA, ← EReal.coe_mul]), coe_sum]
  unfold dkR
  rw [Finset.sum_range]

include hA hB in
theorem dv3_val (i : S8x128x8320.Idx) : (val_main_v41 (F := Ideal) x0 x1 i : EReal)
    = (dvR (colQ A (i 0).val) (colK A (i 0).val) (colG B (i 0).val) (i 2).val (i 1).val : ℝ) := by
  rw [val_main_v41_apply, Finset.sum_congr rfl (g := fun k : Fin 8320 => ((ww (colQ A (i 0).val) (colK A (i 0).val) k.val (i 2).val
    * colG B (i 0).val k.val (i 1).val : ℝ) : EReal)) (fun k _ => by rw [g_val x1 B hB, w_val x0 A hA, mul_comm, ← EReal.coe_mul]), coe_sum]
  unfold dvR
  rw [Finset.sum_range]

include hA hB in
theorem ref_dq (i : S8320x1024.Idx) : (val_main_v65 (F := Ideal) x0 x1 i : EReal)
    = (dqR (colQ A ((i 1).val / 128)) (colK A ((i 1).val / 128)) (colV A ((i 1).val / 128)) (colG B ((i 1).val / 128)) (i 0).val ((i 1).val % 128) : ℝ) := by
  have h0 : (i 0).val < 8320 := (i 0).isLt
  have h1 : (i 1).val < 1024 := (i 1).isLt
  rw [val_main_v65_apply, val_main_v64_apply, val_main_v63_apply]
  refine (dq3_val x0 x1 A B hA hB _).trans ?_
  show ((dqR (colQ A (((i 0).val * 1024 + (i 1).val) / 128 % 8)) (colK A (((i 0).val * 1024 + (i 1).val) / 128 % 8)) (colV A (((i 0).val * 1024 + (i 1).val) / 128 % 8)) (colG B (((i 0).val * 1024 + (i 1).val) / 128 % 8)) (((i 0).val * 1024 + (i 1).val) / 1024) (((i 0).val * 1024 + (i 1).val) % 128) : ℝ) : EReal) = _
  rw [show ((i 0).val * 1024 + (i 1).val) / 128 % 8 = (i 1).val / 128 by omega, show ((i 0).val * 1024 + (i 1).val) / 1024 = (i 0).val by omega, show ((i 0).val * 1024 + (i 1).val) % 128 = (i 1).val % 128 by omega]

include hA hB in
theorem ref_dk (i : S8320x1024.Idx) : (val_main_v66 (F := Ideal) x0 x1 i : EReal)
    = (dkR (colQ A ((i 1).val / 128)) (colK A ((i 1).val / 128)) (colV A ((i 1).val / 128)) (colG B ((i 1).val / 128)) (i 0).val ((i 1).val % 128) : ℝ) := by
  have h0 : (i 0).val < 8320 := (i 0).isLt
  have h1 : (i 1).val < 1024 := (i 1).isLt
  rw [val_main_v66_apply, val_main_v62_apply, val_main_v61_apply]
  refine (dk3_val x0 x1 A B hA hB _).trans ?_
  show ((dkR (colQ A (((i 0).val * 1024 + (i 1).val) / 128 % 8)) (colK A (((i 0).val * 1024 + (i 1).val) / 128 % 8)) (colV A (((i 0).val * 1024 + (i 1).val) / 128 % 8)) (colG B (((i 0).val * 1024 + (i 1).val) / 128 % 8)) (((i 0).val * 1024 + (i 1).val) / 1024) (((i 0).val * 1024 + (i 1).val) % 128) : ℝ) : EReal) = _
  rw [show ((i 0).val * 1024 + (i 1).val) / 128 % 8 = (i 1).val / 128 by omega, show ((i 0).val * 1024 + (i 1).val) / 1024 = (i 0).val by omega, show ((i 0).val * 1024 + (i 1).val) % 128 = (i 1).val % 128 by omega]

include hA hB in
theorem ref_dv (i : S8320x1024.Idx) : (val_main_v67 (F := Ideal) x0 x1 i : EReal)
    = (dvR (colQ A ((i 1).val / 128)) (colK A ((i 1).val / 128)) (colG B ((i 1).val / 128)) (i 0).val ((i 1).val % 128) : ℝ) := by
  have h0 : (i 0).val < 8320 := (i 0).isLt
  have h1 : (i 1).val < 1024 := (i 1).isLt
  rw [val_main_v67_apply, val_main_v60_apply, val_main_v59_apply, val_main_v42_apply]
  refine (dv3_val x0 x1 A B hA hB _).trans ?_
  show ((dvR (colQ A (((i 0).val * 1024 + (i 1).val) / 128 % 8)) (colK A (((i 0).val * 1024 + (i 1).val) / 128 % 8)) (colG B (((i 0).val * 1024 + (i 1).val) / 128 % 8)) (((i 0).val * 1024 + (i 1).val) / 1024) (((i 0).val * 1024 + (i 1).val) % 128) : ℝ) : EReal) = _
  rw [show ((i 0).val * 1024 + (i 1).val) / 128 % 8 = (i 1).val / 128 by omega, show ((i 0).val * 1024 + (i 1).val) / 1024 = (i 0).val by omega, show ((i 0).val * 1024 + (i 1).val) % 128 = (i 1).val % 128 by omega]

end Cert.ReferenceIdeal.Hand
-- ==== Proof.HostRun.lean ====
module

public import proofs.«01_k».proof.Proof.Gen.KernelIdeal.Frame
public import proofs.«01_k».proof.Proof.RefVal
public import Idealize.ShloMosaic.Lib.StableHlo.Run

/-!
  What the host computes before the kernel: the sums each query block starts with and its count of key blocks.
-/

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.StableHlo
open Cert.ReferenceIdeal.Read (val_main_v23 val_main_v25 val_main_v26_0 val_main_v27_0)

/-! ## Each part of the host's program -/

section Parts
variable (W : Valuation τ sig (Elt Ideal))

/-- The quotient of a query block's number by three, as the host computes it. -/
def thirdA (v0 : (⟨S65, .i32⟩ : BufTy).Contents (Elt Ideal)) (c : (⟨S_, .i32⟩ : BufTy).Contents (Elt Ideal)) : (⟨S65, .i32⟩ : BufTy).Contents (Elt Ideal) :=
  select (andi (cmpi .ne (signi v0) (broadcastInDim S65 ![] bcast_S_S65 (signi (id c)))) (cmpi .ne (Host.remsi v0 (broadcastInDim S65 ![] bcast_S_S65 (id c)))
      (broadcastInDim S65 ![] bcast_S_S65 (constantI S_ 32 0#32))))
    (subi (Host.divsi v0 (broadcastInDim S65 ![] bcast_S_S65 (id c))) (broadcastInDim S65 ![] bcast_S_S65 (constantI S_ 32 1#32)))
    (Host.divsi v0 (broadcastInDim S65 ![] bcast_S_S65 (id c)))

theorem part0_v0 : after (hostOps0 : List (HloOp τ sig (Elt Ideal))) W (Proc.devRef .tc main_v0) = iotaInDim S65 32 0 := by
  simp only [hostOps0, TRef.binary, TRef.nullary, TRef.unary, TRef.toBuf, TRef.ofBuf, cast_eq]
  after_results_simp
  try rfl

theorem part0_c : after (hostOps0 : List (HloOp τ sig (Elt Ideal))) W (Proc.devRef .tc main_c) = constantI S_ 32 3#32 := by
  simp only [hostOps0, TRef.binary, TRef.nullary, TRef.unary, TRef.toBuf, TRef.ofBuf, cast_eq]
  after_results_simp
  try rfl

theorem part1_v1 : after (hostOps0_1 : List (HloOp τ sig (Elt Ideal))) W (Proc.devRef .tc main_v1) = thirdA (W (Proc.devRef .tc main_v0)) (W (Proc.devRef .tc main_c)) := by
  simp only [hostOps0_1, TRef.binary, TRef.ternary, TRef.nullary, TRef.unary, TRef.toBuf, TRef.ofBuf, cast_eq]
  after_results_simp
  try rfl

/-- The counts of key blocks. -/
def countA (v1 : (⟨S65, .i32⟩ : BufTy).Contents (Elt Ideal)) : (⟨S65, .i32⟩ : BufTy).Contents (Elt Ideal) :=
  muli (addi v1 (broadcastInDim S65 ![] bcast_S_S65 (constantI S_ 32 1#32))) (broadcastInDim S65 ![] bcast_S_S65 (constantI S_ 32 3#32))

theorem part2_v5 : after (hostOps0_2 : List (HloOp τ sig (Elt Ideal))) W (Proc.devRef .tc main_v5) = countA (W (Proc.devRef .tc main_v1)) := by
  simp only [hostOps0_2, TRef.binary, TRef.nullary, TRef.unary, TRef.toBuf, TRef.ofBuf, cast_eq]
  after_results_simp
  try rfl

theorem part2_v27 : after (hostOps0_2 : List (HloOp τ sig (Elt Ideal))) W (Proc.devRef .tc main_v27) = val_main_v23 (F := Ideal) := by
  simp only [hostOps0_2, TRef.binary, TRef.nullary, TRef.unary, TRef.toBuf, TRef.ofBuf, cast_eq]
  after_results_simp
  try rfl

theorem part2_v28 : after (hostOps0_2 : List (HloOp τ sig (Elt Ideal))) W (Proc.devRef .tc main_v28) = val_main_v25 (F := Ideal) (W (Proc.devRef .tc main_arg0)) := by
  simp only [hostOps0_2, TRef.binary, TRef.nullary, TRef.unary, TRef.toBuf, TRef.ofBuf, cast_eq]
  after_results_simp
  try rfl

theorem part3_v29 (x0 : (⟨S8320x11264, .bf16⟩ : BufTy).Contents (Elt Ideal)) (h : W (Proc.devRef .tc main_v28) = val_main_v25 (F := Ideal) x0) :
    after (hostOps0_3 : List (HloOp τ sig (Elt Ideal))) W (Proc.devRef .tc main_v29) = val_main_v26_0 (F := Ideal) x0 := by
  simp only [hostOps0_3, TRef.binary, TRef.ternary, TRef.nullary, TRef.unary, TRef.toBuf, TRef.ofBuf, cast_eq]
  after_results_simp
  simp only [h]
  try rfl

theorem part4_c : after (hostOps0_4 : List (HloOp τ sig (Elt Ideal))) W (Proc.devRef .tc main_cst_3) = constant (F := Ideal) S_ .f32 0x00000000#32 := by
  simp only [hostOps0_4, TRef.binary, TRef.ternary, TRef.nullary, TRef.unary, TRef.toBuf, TRef.ofBuf, cast_eq]
  after_results_simp
  try rfl

theorem part5_v30 (x0 : (⟨S8320x11264, .bf16⟩ : BufTy).Contents (Elt Ideal)) (h : W (Proc.devRef .tc main_v29) = val_main_v26_0 (F := Ideal) x0)
    (h' : W (Proc.devRef .tc main_v27) = val_main_v23 (F := Ideal)) (h'' : W (Proc.devRef .tc main_cst_3) = constant (F := Ideal) S_ .f32 0x00000000#32) :
    after (hostOps0_5 : List (HloOp τ sig (Elt Ideal))) W (Proc.devRef .tc main_v30) = val_main_v27_0 (F := Ideal) x0 := by
  simp only [hostOps0_5, TRef.binary, TRef.ternary, TRef.nullary, TRef.unary, TRef.toBuf, TRef.ofBuf, cast_eq]
  after_results_simp
  simp only [h, h', h'']
  try rfl

/-- The first key right of a query block's first window. -/
def firstA (v0 v5 : (⟨S65, .i32⟩ : BufTy).Contents (Elt Ideal)) : (⟨S65, .i32⟩ : BufTy).Contents (Elt Ideal) :=
  muli (addi (subi (addi v0 (broadcastInDim S65 ![] bcast_S_S65 (constantI S_ 32 1#32))) v5) (broadcastInDim S65 ![] bcast_S_S65 (constantI S_ 32 3#32)))
    (broadcastInDim S65 ![] bcast_S_S65 (constantI S_ 32 128#32))

/-- Which keys lie right of the first window of a query's block. -/
def rightA (v37 : (⟨S65, .i32⟩ : BufTy).Contents (Elt Ideal)) : (⟨S1x8320x8320, .i1⟩ : BufTy).Contents (Elt Ideal) :=
  broadcastInDim S1x8320x8320 ![1, 2] bcast_S8320x8320_S1x8320x8320_1_2
    (cmpi .sge (broadcastInDim S8320x8320 ![0, 1] bcast_S1x8320_S8320x8320_0_1 (broadcastInDim S1x8320 ![1] bcast_S8320_S1x8320_1 (iotaInDim S8320 32 0)))
      (broadcastInDim S8320x8320 ![0, 1] bcast_S8320x1_S8320x8320_0_1 (broadcastInDim S8320x1 ![0] bcast_S8320_S8320x1_0
        (shapeCast S8320 (broadcastInDim S65x128 ![0] bcast_S65_S65x128_0 v37) shapeCasts_S65x128_S8320))))

theorem part6_v46 : after (hostOps0_6 : List (HloOp τ sig (Elt Ideal))) W (Proc.devRef .tc main_v46)
    = rightA (firstA (W (Proc.devRef .tc main_v0)) (W (Proc.devRef .tc main_v5))) := by
  simp only [hostOps0_6, TRef.binary, TRef.ternary, TRef.nullary, TRef.unary, TRef.toBuf, TRef.ofBuf, cast_eq]
  after_results_simp
  try rfl

theorem part6_c : after (hostOps0_6 : List (HloOp τ sig (Elt Ideal))) W (Proc.devRef .tc main_cst_7) = constant (F := Ideal) S_ .f32 0x00000000#32 := by
  simp only [hostOps0_6, TRef.binary, TRef.ternary, TRef.nullary, TRef.unary, TRef.toBuf, TRef.ofBuf, cast_eq]
  after_results_simp
  try rfl

/-- The logarithms right of the first window. -/
def keptA (v46 : (⟨S1x8320x8320, .i1⟩ : BufTy).Contents (Elt Ideal)) (v30 : (⟨S8x8320x8320, .f32⟩ : BufTy).Contents (Elt Ideal)) :
    (⟨S8x8320x8320, .f32⟩ : BufTy).Contents (Elt Ideal) :=
  select (broadcastInDim S8x8320x8320 ![0, 1, 2] bcast_S1x8320x8320_S8x8320x8320_0_1_2 v46) v30
    (broadcastInDim S8x8320x8320 ![] bcast_S_S8x8320x8320 (id (constant (F := Ideal) S_ .f32 0x00000000#32)))

theorem part7_v47 (h : W (Proc.devRef .tc main_cst_7) = constant (F := Ideal) S_ .f32 0x00000000#32) :
    after (hostOps0_7 : List (HloOp τ sig (Elt Ideal))) W (Proc.devRef .tc main_v47) = keptA (W (Proc.devRef .tc main_v46)) (W (Proc.devRef .tc main_v30)) := by
  simp only [hostOps0_7, TRef.binary, TRef.ternary, TRef.nullary, TRef.unary, TRef.toBuf, TRef.ofBuf, cast_eq]
  after_results_simp
  simp only [h]
  try rfl

/-- The sums each query starts with. -/
def startA (v47 : (⟨S8x8320x8320, .f32⟩ : BufTy).Contents (Elt Ideal)) : (⟨S8x8320x128, .f32⟩ : BufTy).Contents (Elt Ideal) :=
  broadcastInDim S8x8320x128 ![0, 1, 2] bcast_S8x8320x1_S8x8320x128_0_1_2 (broadcastInDim S8x8320x1 ![0, 1] bcast_S8x8320_S8x8320x1_0_1
    (Host.reduceAdd v47 (constant (F := Ideal) S_ .f32 0x00000000#32) reducesTo_S8x8320x8320_S8x8320_d2 h_S_))

/-- The counts as the kernel is handed them. -/
def countsA (v5 : (⟨S65, .i32⟩ : BufTy).Contents (Elt Ideal)) : (⟨S4x65, .f32⟩ : BufTy).Contents (Elt Ideal) :=
  broadcastInDim S4x65 ![0, 1] bcast_S1x65_S4x65_0_1 (broadcastInDim S1x65 ![1] bcast_S65_S1x65_1 (sitofp (F := Ideal) .f32 v5))

theorem part8_v50 : after (hostOps0_8 : List (HloOp τ sig (Elt Ideal))) W (Proc.devRef .tc main_v50) = startA (W (Proc.devRef .tc main_v47)) := by
  simp only [hostOps0_8, TRef.binary, TRef.ternary, TRef.nullary, TRef.unary, TRef.toBuf, TRef.ofBuf, cast_eq]
  after_results_simp
  try rfl

theorem part8_v53 : after (hostOps0_8 : List (HloOp τ sig (Elt Ideal))) W (Proc.devRef .tc main_v53) = countsA (W (Proc.devRef .tc main_v5)) := by
  simp only [hostOps0_8, TRef.binary, TRef.ternary, TRef.nullary, TRef.unary, TRef.toBuf, TRef.ofBuf, cast_eq]
  after_results_simp
  try rfl

end Parts

/-! ## What each part leaves as it was -/

section Kept
variable (W : Valuation τ sig (Elt Ideal))

theorem part1_writes : (hostOps0_1 : List (HloOp τ sig (Elt Ideal))).Forall fun op => op.writes ⊆ ((([main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v1] : List (Ref sig .tc)).map (Proc.devRef (τ := τ) .tc)).toFinset) := by
  simp only [List.Forall]
  refine ⟨?_, ?_, ?_, ?_, ?_, ?_, ?_, ?_, ?_, ?_, ?_, ?_, ?_, ?_, ?_, ?_, ?_⟩ <;>
  · simp only [TRef.nullary, TRef.unary, TRef.binary, TRef.ternary, nullary_writes, unary_writes, binary_writes, ternary_writes, reshape_writes, Finset.singleton_subset_iff, List.mem_toFinset]
    exact List.mem_map_of_mem (by decide)
theorem part1_keep_v0 : after (hostOps0_1 : List (HloOp τ sig (Elt Ideal))) W (Proc.devRef .tc main_v0) = W (Proc.devRef .tc main_v0) :=
  after_of_writes_sub _ _ part1_writes (by decide)

theorem part2_writes : (hostOps0_2 : List (HloOp τ sig (Elt Ideal))).Forall fun op => op.writes ⊆ ((([main_c_0, main_v2, main_v3, main_c_1, main_v4, main_v5, main_v6, main_v7, main_v8, main_v9, main_v10, main_v11, main_v12, main_v13, main_v14, main_cst, main_v15, main_v16, main_v17, main_v18, main_v19, main_v20, main_v21, main_v22, main_c_2, main_v23, main_v24, main_v25, main_v26, main_v27, main_v28] : List (Ref sig .tc)).map (Proc.devRef (τ := τ) .tc)).toFinset) := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  · simp only [TRef.nullary, TRef.unary, TRef.binary, TRef.ternary, nullary_writes, unary_writes, binary_writes, ternary_writes, reshape_writes, Finset.singleton_subset_iff, List.mem_toFinset]
    exact List.mem_map_of_mem (by decide)
theorem part2_keep_v0 : after (hostOps0_2 : List (HloOp τ sig (Elt Ideal))) W (Proc.devRef .tc main_v0) = W (Proc.devRef .tc main_v0) :=
  after_of_writes_sub _ _ part2_writes (by decide)

theorem part3_writes : (hostOps0_3 : List (HloOp τ sig (Elt Ideal))).Forall fun op => op.writes ⊆ ((([main_call1_v0, main_call1_call0_cst, main_call1_call0_v0, main_call1_call0_v1, main_call1_call0_v2, main_call1_call0_v3, main_call1_call0_v4, main_call1_call0_v5, main_call1_call0_v6, main_call1_call0_v7, main_call1_call0_v8, main_call1_call0_v9, main_call1_call0_v10, main_call1_call0_v11, main_call1_v1, main_v29] : List (Ref sig .tc)).map (Proc.devRef (τ := τ) .tc)).toFinset) := by
  simp only [List.Forall]
  refine ⟨?_, ?_, ?_, ?_, ?_, ?_, ?_, ?_, ?_, ?_, ?_, ?_, ?_, ?_, ?_, ?_⟩ <;>
  · simp only [TRef.nullary, TRef.unary, TRef.binary, TRef.ternary, nullary_writes, unary_writes, binary_writes, ternary_writes, reshape_writes, Finset.singleton_subset_iff, List.mem_toFinset]
    exact List.mem_map_of_mem (by decide)
theorem part3_keep_v0 : after (hostOps0_3 : List (HloOp τ sig (Elt Ideal))) W (Proc.devRef .tc main_v0) = W (Proc.devRef .tc main_v0) :=
  after_of_writes_sub _ _ part3_writes (by decide)
theorem part3_keep_v5 : after (hostOps0_3 : List (HloOp τ sig (Elt Ideal))) W (Proc.devRef .tc main_v5) = W (Proc.devRef .tc main_v5) :=
  after_of_writes_sub _ _ part3_writes (by decide)
theorem part3_keep_v27 : after (hostOps0_3 : List (HloOp τ sig (Elt Ideal))) W (Proc.devRef .tc main_v27) = W (Proc.devRef .tc main_v27) :=
  after_of_writes_sub _ _ part3_writes (by decide)

theorem part4_writes : (hostOps0_4 : List (HloOp τ sig (Elt Ideal))).Forall fun op => op.writes ⊆ ((([main_cst_3] : List (Ref sig .tc)).map (Proc.devRef (τ := τ) .tc)).toFinset) := by
  simp only [List.Forall]

  · simp only [TRef.nullary, TRef.unary, TRef.binary, TRef.ternary, nullary_writes, unary_writes, binary_writes, ternary_writes, reshape_writes, Finset.singleton_subset_iff, List.mem_toFinset]
    exact List.mem_map_of_mem (by decide)
theorem part4_keep_v0 : after (hostOps0_4 : List (HloOp τ sig (Elt Ideal))) W (Proc.devRef .tc main_v0) = W (Proc.devRef .tc main_v0) :=
  after_of_writes_sub _ _ part4_writes (by decide)
theorem part4_keep_v5 : after (hostOps0_4 : List (HloOp τ sig (Elt Ideal))) W (Proc.devRef .tc main_v5) = W (Proc.devRef .tc main_v5) :=
  after_of_writes_sub _ _ part4_writes (by decide)
theorem part4_keep_v27 : after (hostOps0_4 : List (HloOp τ sig (Elt Ideal))) W (Proc.devRef .tc main_v27) = W (Proc.devRef .tc main_v27) :=
  after_of_writes_sub _ _ part4_writes (by decide)
theorem part4_keep_v29 : after (hostOps0_4 : List (HloOp τ sig (Elt Ideal))) W (Proc.devRef .tc main_v29) = W (Proc.devRef .tc main_v29) :=
  after_of_writes_sub _ _ part4_writes (by decide)

theorem part5_writes : (hostOps0_5 : List (HloOp τ sig (Elt Ideal))).Forall fun op => op.writes ⊆ ((([main_call2_v0, main_call2_v1, main_call2_v2, main_v30] : List (Ref sig .tc)).map (Proc.devRef (τ := τ) .tc)).toFinset) := by
  simp only [List.Forall]
  refine ⟨?_, ?_, ?_, ?_⟩ <;>
  · simp only [TRef.nullary, TRef.unary, TRef.binary, TRef.ternary, nullary_writes, unary_writes, binary_writes, ternary_writes, reshape_writes, Finset.singleton_subset_iff, List.mem_toFinset]
    exact List.mem_map_of_mem (by decide)
theorem part5_keep_v0 : after (hostOps0_5 : List (HloOp τ sig (Elt Ideal))) W (Proc.devRef .tc main_v0) = W (Proc.devRef .tc main_v0) :=
  after_of_writes_sub _ _ part5_writes (by decide)
theorem part5_keep_v5 : after (hostOps0_5 : List (HloOp τ sig (Elt Ideal))) W (Proc.devRef .tc main_v5) = W (Proc.devRef .tc main_v5) :=
  after_of_writes_sub _ _ part5_writes (by decide)

theorem part6_writes : (hostOps0_6 : List (HloOp τ sig (Elt Ideal))).Forall fun op => op.writes ⊆ ((([main_c_4, main_v31, main_v32, main_v33, main_c_5, main_v34, main_v35, main_c_6, main_v36, main_v37, main_v38, main_v39, main_v40, main_v41, main_v42, main_v43, main_v44, main_v45, main_v46, main_cst_7] : List (Ref sig .tc)).map (Proc.devRef (τ := τ) .tc)).toFinset) := by
  simp only [List.Forall]
  refine ⟨?_, ?_, ?_, ?_, ?_, ?_, ?_, ?_, ?_, ?_, ?_, ?_, ?_, ?_, ?_, ?_, ?_, ?_, ?_, ?_⟩ <;>
  · simp only [TRef.nullary, TRef.unary, TRef.binary, TRef.ternary, nullary_writes, unary_writes, binary_writes, ternary_writes, reshape_writes, Finset.singleton_subset_iff, List.mem_toFinset]
    exact List.mem_map_of_mem (by decide)
theorem part6_keep_v5 : after (hostOps0_6 : List (HloOp τ sig (Elt Ideal))) W (Proc.devRef .tc main_v5) = W (Proc.devRef .tc main_v5) :=
  after_of_writes_sub _ _ part6_writes (by decide)
theorem part6_keep_v30 : after (hostOps0_6 : List (HloOp τ sig (Elt Ideal))) W (Proc.devRef .tc main_v30) = W (Proc.devRef .tc main_v30) :=
  after_of_writes_sub _ _ part6_writes (by decide)

theorem part7_writes : (hostOps0_7 : List (HloOp τ sig (Elt Ideal))).Forall fun op => op.writes ⊆ ((([main_call3_v0, main_call3_v1, main_call3_v2, main_v47] : List (Ref sig .tc)).map (Proc.devRef (τ := τ) .tc)).toFinset) := by
  simp only [List.Forall]
  refine ⟨?_, ?_, ?_, ?_⟩ <;>
  · simp only [TRef.nullary, TRef.unary, TRef.binary, TRef.ternary, nullary_writes, unary_writes, binary_writes, ternary_writes, reshape_writes, Finset.singleton_subset_iff, List.mem_toFinset]
    exact List.mem_map_of_mem (by decide)
theorem part7_keep_v5 : after (hostOps0_7 : List (HloOp τ sig (Elt Ideal))) W (Proc.devRef .tc main_v5) = W (Proc.devRef .tc main_v5) :=
  after_of_writes_sub _ _ part7_writes (by decide)

theorem part0_keep_arg0 : after (hostOps0 : List (HloOp τ sig (Elt Ideal))) W (Proc.devRef .tc main_arg0) = W (Proc.devRef .tc main_arg0) := by
  simp only [hostOps0]
  after_results_simp

theorem part1_keep_arg0 : after (hostOps0_1 : List (HloOp τ sig (Elt Ideal))) W (Proc.devRef .tc main_arg0) = W (Proc.devRef .tc main_arg0) :=
  after_of_writes_sub _ _ part1_writes (by decide)

end Kept

/-! ## The whole of it -/

theorem after_app (a b : List (HloOp τ sig (Elt Ideal))) (W : Valuation τ sig (Elt Ideal)) : after (a ++ b) W = after b (after a W) := by
  induction a generalizing W with
  | nil => rfl
  | cons op a ih => exact ih _

section Whole
variable (m : (ℓ : Loc nD τ sig) → Buf (Elt Ideal) ℓ) (c : Dev nD)

/-- The counts of key blocks. -/
def cntV : (⟨S65, .i32⟩ : BufTy).Contents (Elt Ideal) := countA (thirdA (iotaInDim S65 32 0) (constantI S_ 32 3#32))

theorem V_split (r : Ref sig .tc) : V m c r = after hostOps0_8 (after hostOps0_7 (after hostOps0_6 (after hostOps0_5 (after hostOps0_4 (after hostOps0_3
    (after hostOps0_2 (after hostOps0_1 (after (hostOps0 : List (HloOp τ sig (Elt Ideal))) (fun b => m (c, b)))))))))) (Proc.devRef .tc r) := by
  show after (List.flatten [hostOps0, hostOps0_1, hostOps0_2, hostOps0_3, hostOps0_4, hostOps0_5, hostOps0_6, hostOps0_7, hostOps0_8]) (fun b => m (c, b)) (Proc.devRef .tc r) = _
  simp only [List.flatten_cons, List.flatten_nil, List.append_nil, after_app]

theorem V_count : V m c main_v53 = countsA cntV := by
  rw [V_split, part8_v53, part7_keep_v5, part6_keep_v5, part5_keep_v5, part4_keep_v5, part3_keep_v5, part2_v5, part1_v1, part0_v0, part0_c]
  rfl

theorem V_start : V m c main_v50 = startA (keptA (rightA (firstA (iotaInDim S65 32 0) cntV)) (val_main_v27_0 (F := Ideal) (m (c, Proc.devRef .tc main_arg0)))) := by
  rw [V_split, part8_v50, part7_v47 _ (part6_c _), part6_v46, part6_keep_v30, part5_keep_v0, part4_keep_v0, part3_keep_v0, part2_keep_v0, part1_keep_v0, part0_v0,
    part5_keep_v5, part4_keep_v5, part3_keep_v5, part2_v5, part1_v1, part0_v0, part0_c,
    part5_v30 _ (m (c, Proc.devRef .tc main_arg0))
      ((part4_keep_v29 _).trans (part3_v29 _ (m (c, Proc.devRef .tc main_arg0)) ((part2_v28 _).trans (by rw [part1_keep_arg0, part0_keep_arg0]))))
      (by rw [part4_keep_v27, part3_keep_v27, part2_v27]) (part4_c _)]
  rfl

end Whole

end Cert.KernelIdeal.Hand

end
-- ==== Proof.Head.lean ====
module

public import proofs.«01_k».proof.Proof.Model
public import proofs.«01_k».proof.Proof.Reals

/-!
  One trip of one head over the extended reals, on blocks of real numbers.
-/

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.Tactic

/-! ## The triangular matrices of ones -/

theorem ofNat_slt (x c : ℕ) (hx : x < 128) (hc : c < 128) : (BitVec.ofNat 32 x).slt (BitVec.ofNat 32 c) = decide (x < c) := by
  have ex : (BitVec.ofNat 32 x).toInt = x := by rw [BitVec.toInt_ofNat', show (2 : ℕ) ^ 32 = 4294967296 from rfl]; norm_num [Int.bmod]; omega
  have ec : (BitVec.ofNat 32 c).toInt = c := by rw [BitVec.toInt_ofNat', show (2 : ℕ) ^ 32 = 4294967296 from rfl]; norm_num [Int.bmod]; omega
  rw [BitVec.slt, ex, ec]
  simp

theorem tri_above (k c : Fin 128) : k0_pay171 (F := Ideal) (ix2 k c) = ((if c.val < k.val then (1 : ℝ) else 0 : ℝ) : EReal) := by
  pointwise [k0_pay171]
  simp only [IntOp.cmpi]
  rw [ofNat_slt _ _ c.isLt k.isLt]
  by_cases h : c.val < k.val <;> simp [h, FloatOps.sitofp]

theorem tri_below (k c : Fin 128) : k0_pay172 (F := Ideal) (ix2 k c) = ((if k.val < c.val then (1 : ℝ) else 0 : ℝ) : EReal) := by
  pointwise [k0_pay172]
  simp only [IntOp.cmpi]
  rw [ofNat_slt _ _ k.isLt c.isLt]
  by_cases h : k.val < c.val <;> simp [h, FloatOps.sitofp]

/-! ## The window's stages

  The window's rows are the queries `R0, R0 + 1, …`; its column `c` is key `n + c - δ`. Columns left of key 0 count as key 0, which no
  query looks at.
-/

section Stages

variable (a jl w : BitVec 32) (q g : FVec Ideal S128x128 .bf16) (kw vw : FVec Ideal S384x128 .bf16) (right psum : FVec Ideal S128x1 .f32)
  (dq : FVec Ideal S128x128 .f32) (Q K V G kr vr : ℕ → ℕ → ℝ) (R0 n δ : ℕ)

theorem dot_congr {A B B' : ℕ → ℕ → ℝ} {r s s' : ℕ} (h : ∀ d < 128, B s d = B' s' d) : dotr A B r s = dotr A B' r s' :=
  Finset.sum_congr rfl fun d hd => by rw [h d (Finset.mem_range.mp hd)]

variable (hq : ∀ x d : Fin 128, q (ix2 x d) = ((Q (R0 + x.val) d.val : ℝ) : EReal)) (hg : ∀ x d : Fin 128, g (ix2 x d) = ((G (R0 + x.val) d.val : ℝ) : EReal))
  (hk : ∀ (c : Fin 384) (d : Fin 128), kw (ix2 c d) = ((kr c.val d.val : ℝ) : EReal))
  (hv : ∀ (c : Fin 384) (d : Fin 128), vw (ix2 c d) = ((vr c.val d.val : ℝ) : EReal))
  (hK : ∀ c < 384, 112 ≤ n + c - δ → ∀ d < 128, kr c d = K (n + c - δ) d) (hV : ∀ c < 384, 112 ≤ n + c - δ → ∀ d < 128, vr c d = V (n + c - δ) d)
  (hM : ∀ (x : Fin 128) (c : Fin 384), k0_pay18 a jl (ix2 x c) = if Sees (R0 + x.val) (n + c.val - δ) then 1#1 else 0#1)

include hK in
theorem zz_win (r c : ℕ) (hc : c < 384) (h : 112 ≤ n + c - δ) : zz Q kr r c = zz Q K r (n + c - δ) := by
  unfold zz
  rw [dot_congr (hK c hc h)]

include hK in
theorem lbb_win (r c : ℕ) (hc : c < 384) (h : 112 ≤ n + c - δ) : lbb Q kr r c = lbb Q K r (n + c - δ) := by
  unfold lbb
  rw [zz_win Q K kr n δ hK r c hc h]

include hq hk in
theorem z_eq (x : Fin 128) (c : Fin 384) : k0_pay16 (F := Ideal) q kw (ix2 x c) = ((zz Q kr (R0 + x.val) c.val : ℝ) : EReal) := by
  pointwise [k0_pay16]
  rw [scale_eq]
  simp only [hq, hk, ← EReal.coe_mul]
  rw [coe_sum, ← EReal.coe_mul, zz, dotr, Finset.sum_range]

include hq hk in
theorem lb_eq (x : Fin 128) (c : Fin 384) : k0_pay17 (F := Ideal) q kw (ix2 x c) = ((lbb Q kr (R0 + x.val) c.val : ℝ) : EReal) := by
  pointwise [k0_pay17]
  rw [z_eq q kw Q kr R0 hq hk]
  generalize hz : zz Q kr (R0 + x.val) c.val = z
  have e : (FloatOps.absf (F := Ideal) (φ := .f32) ((z : ℝ) : EReal) : EReal) = ((|z| : ℝ) : EReal) := by
    change max ((z : ℝ) : EReal) (-((z : ℝ) : EReal)) = _
    rw [← EReal.coe_neg, coe_max]
    rfl
  have e0 : (0 : EReal) - ((|z| : ℝ) : EReal) = ((-|z| : ℝ) : EReal) := by rw [← EReal.coe_zero, ← EReal.coe_sub, zero_sub]
  have e1 : (1 : EReal) + ((Real.exp (-|z|) : ℝ) : EReal) = ((1 + Real.exp (-|z|) : ℝ) : EReal) := by rw [← EReal.coe_one, ← EReal.coe_add]
  rw [lbb, hz]
  refine (congrArg₂ _ (show min ((z : ℝ) : EReal) 0 = ((min z 0 : ℝ) : EReal) by rw [← EReal.coe_zero, coe_min])
    (show Ideal.log (1 + Ideal.exp (0 - FloatOps.absf (F := Ideal) (φ := .f32) ((z : ℝ) : EReal))) = ((Real.log (1 + Real.exp (-|z|)) : ℝ) : EReal) by
      rw [e, e0, Ideal.exp_coe, e1, log_pos (by positivity)])).trans ?_
  rw [← EReal.coe_sub]

include hq hk hK hM in
theorem ll_eq (x : Fin 128) (c : Fin 384) : k0_pay19 (F := Ideal) a jl q kw (ix2 x c) = ((ll Q K (R0 + x.val) (n + c.val - δ) : ℝ) : EReal) := by
  pointwise [k0_pay19]
  rw [z_eq q kw Q kr R0 hq hk, lb_eq q kw Q kr R0 hq hk, hM, ll]
  by_cases h : Sees (R0 + x.val) (n + c.val - δ)
  · rw [if_pos h, if_pos h, ← zz_win Q K kr n δ hK _ _ c.isLt h.2, ← lbb_win Q K kr n δ hK _ _ c.isLt h.2, EReal.coe_sub]
    rfl
  · rw [if_neg h, if_neg h, EReal.coe_zero]
    rfl

/-- The blocks of log(1 − β). -/
def lw (x c : ℕ) : ℝ := ll Q K (R0 + x) (n + c - δ)

include hq hk hK hM in
theorem l0_eq (x : Fin 128) (c : Fin 128) : k0_pay20 (F := Ideal) a jl q kw (ix2 x c) = ((lw Q K R0 n δ x.val (0 + c.val) : ℝ) : EReal) := by
  pointwise [k0_pay20]
  exact (ll_eq a jl q kw Q K kr R0 n δ hq hk hK hM x _).trans (by simp [lw])

include hq hk hK hM in
theorem l1_eq (x : Fin 128) (c : Fin 128) : k0_pay21 (F := Ideal) a jl q kw (ix2 x c) = ((lw Q K R0 n δ x.val (128 + c.val) : ℝ) : EReal) := by
  pointwise [k0_pay21]
  exact ll_eq a jl q kw Q K kr R0 n δ hq hk hK hM x _

include hq hk hK hM in
theorem l2_eq (x : Fin 128) (c : Fin 128) : k0_pay22 (F := Ideal) a jl q kw (ix2 x c) = ((lw Q K R0 n δ x.val (256 + c.val) : ℝ) : EReal) := by
  pointwise [k0_pay22]
  exact ll_eq a jl q kw Q K kr R0 n δ hq hk hK hM x _

include hq hk hK hM in
theorem l_row (y : Fin 384) (c : Fin 128) :
    k0_pay23 (F := Ideal) a jl q kw (ix2 y c) = ((lw Q K R0 n δ (y.val % 128) (y.val / 128 * 128 + c.val) : ℝ) : EReal) := by
  pointwise [k0_pay23]
  have hy := y.isLt
  split
  · rename_i h
    rw [l0_eq a jl q kw Q K kr R0 n δ hq hk hK hM, Nat.mod_eq_of_lt h, Nat.div_eq_of_lt h, Nat.zero_mul]
  · split
    · rename_i h h'
      rw [l1_eq a jl q kw Q K kr R0 n δ hq hk hK hM, show y.val / 128 * 128 = 128 by omega, show y.val % 128 = y.val - 128 by omega]
    · rename_i h h'
      rw [l2_eq a jl q kw Q K kr R0 n δ hq hk hK hM, show y.val / 128 * 128 = 256 by omega, show y.val % 128 = y.val - 128 - 128 by omega]

include hq hk hK hM in
theorem rest_eq (y : Fin 384) (c : Fin 128) : k0_pay25 (F := Ideal) a jl q kw (ix2 y c) = 0 := by
  pointwise [k0_pay25, k0_pay24]
  rw [l_row a jl q kw Q K kr R0 n δ hq hk hK hM, ← EReal.coe_sub, sub_self, EReal.coe_zero]

include hq hk hK hM in
theorem later_eq (y : Fin 384) (c : Fin 128) : k0_pay26 (F := Ideal) a k0_pay171 jl q kw (ix2 y c)
    = ((∑ k ∈ Finset.range 128, (if c.val < k then lw Q K R0 n δ (y.val % 128) (y.val / 128 * 128 + k) else 0) : ℝ) : EReal) := by
  pointwise [k0_pay26, k0_pay24]
  simp only [l_row a jl q kw Q K kr R0 n δ hq hk hK hM, tri_above, ← EReal.coe_mul]
  rw [coe_sum, Finset.sum_range]
  simp only [mul_ite, mul_one, mul_zero]

include hq hk hK hM in
theorem sum1_eq (x : Fin 128) : k0_pay27 (F := Ideal) (k0_pay21 a jl q kw) (ix2 x 0) = ((∑ k ∈ Finset.range 128, lw Q K R0 n δ x.val (128 + k) : ℝ) : EReal) := by
  pointwise [k0_pay27]
  simp only [l1_eq a jl q kw Q K kr R0 n δ hq hk hK hM]
  rw [coe_sum, Finset.sum_range]

include hq hk hK hM in
theorem sum2_eq (x : Fin 128) : k0_pay28 (F := Ideal) (k0_pay22 a jl q kw) (ix2 x 0) = ((∑ k ∈ Finset.range 128, lw Q K R0 n δ x.val (256 + k) : ℝ) : EReal) := by
  pointwise [k0_pay28]
  simp only [l2_eq a jl q kw Q K kr R0 n δ hq hk hK hM]
  rw [coe_sum, Finset.sum_range]

include hq hk hK hM in
/-- The sum right of the window, after the trip. -/
theorem right_eq (ρ : ℕ → ℝ) (hr : ∀ x : Fin 128, right (ix2 x 0) = ((ρ x.val : ℝ) : EReal)) (x : Fin 128) : hRight (F := Ideal) a jl w q kw right (ix2 x 0)
    = ((if w = 0#32 then ρ x.val else ρ x.val - ∑ c ∈ Finset.range 384, lw Q K R0 n δ x.val c : ℝ) : EReal) := by
  unfold hRight
  pointwise [k0_pay29, k0_pay27, k0_pay28]
  simp only [l0_eq a jl q kw Q K kr R0 n δ hq hk hK hM, l1_eq a jl q kw Q K kr R0 n δ hq hk hK hM, l2_eq a jl q kw Q K kr R0 n δ hq hk hK hM, hr]
  rw [coe_sum, coe_sum, coe_sum, ← EReal.coe_add, ← EReal.coe_add, ← EReal.coe_sub, ← whole]
  simp only [Finset.sum_range]
  by_cases h : w = 0#32
  · simp [h, Scalar.select, Scalar.cmpi, IntOp.cmpi]
  · simp [h, Scalar.select, Scalar.cmpi, IntOp.cmpi, show (w == 0#32) = false by simpa using h]

variable (hR : ∀ x : Fin 128, hRight (F := Ideal) a jl w q kw right (ix2 x 0) = ((tail Q K (R0 + x.val) (n + 384 - δ) : ℝ) : EReal)) (hn : n + 384 - δ ≤ 8320)

include hn in
theorem tail_win (x c : ℕ) (hc : c < 384) (h : 112 ≤ n + c - δ) :
    ∑ j ∈ Finset.Ico (c + 1) 384, lw Q K R0 n δ x j + tail Q K (R0 + x) (n + 384 - δ) = tail Q K (R0 + x) (n + c - δ + 1) := by
  unfold lw tail
  rw [sum_right (ll Q K (R0 + x)) n δ c (by omega) hc, Finset.sum_Ico_consecutive _ (by omega) hn]

include hq hk hK hM hR hn in
/-- The window's attention weights. -/
theorem A_val (x : Fin 128) (c : Fin 384) : hA (F := Ideal) a jl w q kw right (ix2 x c) = ((ww Q K (R0 + x.val) (n + c.val - δ) : ℝ) : EReal) := by
  have hc := c.isLt
  have hx := x.isLt
  have hR' := hR x
  unfold hRight at hR'
  unfold hA
  pointwise [k0_pay30]
  rw [hR', hM, ww]
  by_cases h : Sees (R0 + x.val) (n + c.val - δ)
  · rw [if_pos h, if_pos h, lb_eq q kw Q kr R0 hq hk, lbb_win Q K kr n δ hK _ _ c.isLt h.2, ← tail_win Q K R0 n δ hn x.val c.val hc h.2]
    have key : ∀ E : EReal, E = ((∑ j ∈ Finset.Ico (c.val + 1) 384, lw Q K R0 n δ x.val j : ℝ) : EReal) →
        Scalar.select 1#1 (Ideal.exp (((lbb Q K (R0 + x.val) (n + c.val - δ) : ℝ) : EReal) + E + ((tail Q K (R0 + x.val) (n + 384 - δ) : ℝ) : EReal))) 0
        = ((Real.exp (lbb Q K (R0 + x.val) (n + c.val - δ) + (∑ j ∈ Finset.Ico (c.val + 1) 384, lw Q K R0 n δ x.val j + tail Q K (R0 + x.val) (n + 384 - δ))) : ℝ) : EReal) := by
      rintro E rfl
      rw [← EReal.coe_add, ← EReal.coe_add, Ideal.exp_coe, add_assoc]
      rfl
    refine key _ ?_
    have h1 := sum1_eq a jl q kw Q K kr R0 n δ hq hk hK hM x
    have h2 := sum2_eq a jl q kw Q K kr R0 n δ hq hk hK hM x
    have h25 := rest_eq a jl q kw Q K kr R0 n δ hq hk hK hM
    have h26 := later_eq a jl q kw Q K kr R0 n δ hq hk hK hM
    split
    · rename_i h'
      simp only [h25, zero_mul, Finset.sum_const_zero, add_zero]
      have := h26 ⟨x.val, by omega⟩ ⟨c.val, h'⟩
      rw [this, h1, h2, ← EReal.coe_add, ← EReal.coe_add, ← right0 (lw Q K R0 n δ x.val) c.val h']
      rw [Nat.mod_eq_of_lt hx, Nat.div_eq_of_lt hx, Nat.zero_mul]
    · split
      · rename_i h' h''
        simp only [h25, zero_mul, Finset.sum_const_zero, add_zero]
        have := h26 ⟨128 + x.val, by omega⟩ ⟨c.val - 128, h''⟩
        rw [this, h2, ← EReal.coe_add, show Finset.Ico (c.val + 1) 384 = Finset.Ico (128 + (c.val - 128) + 1) 384 by rw [show 128 + (c.val - 128) = c.val by omega], ← right1 (lw Q K R0 n δ x.val) (c.val - 128) h'']
        simp only [show (128 + x.val) % 128 = x.val by omega, show (128 + x.val) / 128 * 128 = 128 by omega]
      · rename_i h' h''
        simp only [h25, zero_mul, Finset.sum_const_zero, add_zero]
        have := h26 ⟨256 + x.val, by omega⟩ ⟨c.val - 128 - 128, by omega⟩
        rw [this, show Finset.Ico (c.val + 1) 384 = Finset.Ico (256 + (c.val - 128 - 128) + 1) 384 by rw [show 256 + (c.val - 128 - 128) = c.val by omega], ← right2 (lw Q K R0 n δ x.val) (c.val - 128 - 128) (by omega)]
        simp only [show (256 + x.val) % 128 = x.val by omega, show (256 + x.val) / 128 * 128 = 256 by omega]
  · rw [if_neg h, if_neg h, EReal.coe_zero]
    rfl

/-- The window's weighted products. -/
def pw (x c : ℕ) : ℝ := pp Q K V G (R0 + x) (n + c - δ)

include hq hg hk hv hK hV hM hR hn in
theorem P_val (x : Fin 128) (c : Fin 384) : hP (F := Ideal) a jl w q g kw vw right (ix2 x c) = ((pw Q K V G R0 n δ x.val c.val : ℝ) : EReal) := by
  have hA' := A_val a jl w q kw right Q K kr R0 n δ hq hk hK hM hR hn x c
  unfold hA at hA'
  unfold hP
  pointwise [k0_pay31]
  rw [hA']
  simp only [hg, hv, ← EReal.coe_mul]
  rw [coe_sum, ← EReal.coe_mul, pw, pp]
  congr 1
  by_cases h : Sees (R0 + x.val) (n + c.val - δ)
  · rw [← dot_congr (r := R0 + x.val) (A := G) (hV c.val c.isLt h.2), dotr, Finset.sum_range]
  · rw [ww, if_neg h, zero_mul, zero_mul]

include hq hg hk hv hK hV hM hR hn in
theorem scan_val (y : Fin 384) (c : Fin 128) : hScan (F := Ideal) a jl w q g kw vw right (ix2 y c)
    = ((∑ k ∈ Finset.range 128, (if k < c.val then pw Q K V G R0 n δ (y.val % 128) (y.val / 128 * 128 + k) else 0) : ℝ) : EReal) := by
  have hy := y.isLt
  have hP' := P_val a jl w q g kw vw right Q K V G kr vr R0 n δ hq hg hk hv hK hV hM hR hn
  unfold hP at hP'
  unfold hScan
  pointwise [k0_pay35, k0_pay32, k0_pay33, k0_pay34]
  simp only [hP', tri_below]
  have key : ∀ k : Fin 128, (if h : y.val < 128 then ((pw Q K V G R0 n δ y.val k.val : ℝ) : EReal) else
      if h : y.val - 128 < 128 then ((pw Q K V G R0 n δ (y.val - 128) (128 + k.val) : ℝ) : EReal) else
        ((pw Q K V G R0 n δ (y.val - 128 - 128) (256 + k.val) : ℝ) : EReal)) = ((pw Q K V G R0 n δ (y.val % 128) (y.val / 128 * 128 + k.val) : ℝ) : EReal) := by
    intro k
    split
    · rename_i h
      rw [Nat.mod_eq_of_lt h, Nat.div_eq_of_lt h, Nat.zero_mul, Nat.zero_add]
    · split
      · rw [show y.val / 128 * 128 = 128 by omega, show y.val % 128 = y.val - 128 by omega]
      · rw [show y.val / 128 * 128 = 256 by omega, show y.val % 128 = y.val - 128 - 128 by omega]
  simp only [key, ← EReal.coe_sub, sub_self, ← EReal.coe_mul, zero_mul]
  rw [coe_sum, coe_sum, ← EReal.coe_add, Finset.sum_range]
  simp only [mul_ite, mul_one, mul_zero, Finset.sum_const_zero, add_zero]

include hq hg hk hv hK hV hM hR hn in
theorem s0_val (x : Fin 128) : hS0 (F := Ideal) a jl w q g kw vw right (ix2 x 0) = ((∑ k ∈ Finset.range 128, pw Q K V G R0 n δ x.val (0 + k) : ℝ) : EReal) := by
  have hP' := P_val a jl w q g kw vw right Q K V G kr vr R0 n δ hq hg hk hv hK hV hM hR hn
  unfold hP at hP'
  unfold hS0
  pointwise [k0_pay36, k0_pay32]
  simp only [hP']
  rw [coe_sum, Finset.sum_range]
  try simp only [Nat.zero_add]

include hq hg hk hv hK hV hM hR hn in
theorem s1_val (x : Fin 128) : hS1 (F := Ideal) a jl w q g kw vw right (ix2 x 0) = ((∑ k ∈ Finset.range 128, pw Q K V G R0 n δ x.val (128 + k) : ℝ) : EReal) := by
  have hP' := P_val a jl w q g kw vw right Q K V G kr vr R0 n δ hq hg hk hv hK hV hM hR hn
  unfold hP at hP'
  unfold hS1
  pointwise [k0_pay37, k0_pay33]
  simp only [hP']
  rw [coe_sum, Finset.sum_range]

include hq hg hk hv hK hV hM hR hn in
theorem s2_val (x : Fin 128) : hS2 (F := Ideal) a jl w q g kw vw right (ix2 x 0) = ((∑ k ∈ Finset.range 128, pw Q K V G R0 n δ x.val (256 + k) : ℝ) : EReal) := by
  have hP' := P_val a jl w q g kw vw right Q K V G kr vr R0 n δ hq hg hk hv hK hV hM hR hn
  unfold hP at hP'
  unfold hS2
  pointwise [k0_pay38, k0_pay34]
  simp only [hP']
  rw [coe_sum, Finset.sum_range]

variable (hps : ∀ x : Fin 128, psum (ix2 x 0) = ((below Q K V G (R0 + x.val) (n - δ) : ℝ) : EReal))

theorem pp_zero (r : ℕ) : pp Q K V G r 0 = 0 := by
  rw [pp, ww, if_neg (by rintro ⟨_, h⟩; omega), zero_mul]

theorem below_win (x c : ℕ) (h : δ ≤ n + c) :
    below Q K V G (R0 + x) (n - δ) + ∑ j ∈ Finset.range c, pw Q K V G R0 n δ x j = below Q K V G (R0 + x) (n + c - δ) := by
  unfold pw below
  rw [sum_win (pp Q K V G (R0 + x)) (pp_zero Q K V G _) n δ c, Finset.range_eq_Ico, Finset.range_eq_Ico,
    Finset.sum_Ico_consecutive _ (by omega) (by omega)]

include hq hg hk hv hK hV hM hR hn hps in
/-- The window's sum left of the next one. -/
theorem psum_val (x : Fin 128) (hd : δ ≤ n + 384) :
    hPsum (F := Ideal) a jl w q g kw vw right psum (ix2 x 0) = ((below Q K V G (R0 + x.val) (n + 384 - δ) : ℝ) : EReal) := by
  unfold hPsum
  pointwise [k0_pay52, k0_pay39]
  rw [hps, s0_val a jl w q g kw vw right Q K V G kr vr R0 n δ hq hg hk hv hK hV hM hR hn, s1_val a jl w q g kw vw right Q K V G kr vr R0 n δ hq hg hk hv hK hV hM hR hn,
    s2_val a jl w q g kw vw right Q K V G kr vr R0 n δ hq hg hk hv hK hV hM hR hn]
  rw [← EReal.coe_add, ← EReal.coe_add, ← EReal.coe_add, whole, below_win Q K V G R0 n δ x.val 384 hd]

/-- The gradient of the window's logits. -/
def hDz : FVec Ideal S128x384 .bf16 :=
  k0_pay40 psum (k0_pay17 q kw) (k0_pay18 a jl) (hP a jl w q g kw vw right) (hScan a jl w q g kw vw right) (hS0 a jl w q g kw vw right) (hS1 a jl w q g kw vw right)

include hq hg hk hv hK hV hM hR hn hps in
theorem dz_val (x : Fin 128) (c : Fin 384) : hDz a jl w q g kw vw right psum (ix2 x c) = ((zd Q K V G (R0 + x.val) (n + c.val - δ) : ℝ) : EReal) := by
  have hc := c.isLt
  have hx := x.isLt
  unfold hDz
  pointwise [k0_pay40]
  rw [hM, zd]
  by_cases h : Sees (R0 + x.val) (n + c.val - δ)
  · rw [if_pos h, if_pos h, lb_eq q kw Q kr R0 hq hk, lbb_win Q K kr n δ hK _ _ c.isLt h.2, P_val a jl w q g kw vw right Q K V G kr vr R0 n δ hq hg hk hv hK hV hM hR hn]
    have h0 := s0_val a jl w q g kw vw right Q K V G kr vr R0 n δ hq hg hk hv hK hV hM hR hn x
    have h1 := s1_val a jl w q g kw vw right Q K V G kr vr R0 n δ hq hg hk hv hK hV hM hR hn x
    have hs := scan_val a jl w q g kw vw right Q K V G kr vr R0 n δ hq hg hk hv hK hV hM hR hn
    have hb : δ ≤ n + c.val := by have := h.2; omega
    have key : ∀ (l : ℝ) (E : EReal), E = ((∑ j ∈ Finset.range c.val, pw Q K V G R0 n δ x.val j : ℝ) : EReal) →
        Scalar.select 1#1 (((pw Q K V G R0 n δ x.val c.val : ℝ) * (1 - Ideal.exp (l : EReal)) - (psum (ix2 x 0) + E) * Ideal.exp (l : EReal)) * Ideal.ofBits FTy.f32 1035273459#32 : EReal) 0
        = (((pp Q K V G (R0 + x.val) (n + c.val - δ) * (1 - Real.exp l) - below Q K V G (R0 + x.val) (n + c.val - δ) * Real.exp l) * scale : ℝ) : EReal) := by
      rintro l E rfl
      have e1 : (1 : EReal) - ((Real.exp l : ℝ) : EReal) = ((1 - Real.exp l : ℝ) : EReal) := by rw [← EReal.coe_one, ← EReal.coe_sub]
      rw [hps, ← EReal.coe_add, below_win Q K V G R0 n δ x.val c.val hb, Ideal.exp_coe, e1, scale_eq, ← EReal.coe_mul, ← EReal.coe_mul, ← EReal.coe_sub, ← EReal.coe_mul]
      rfl
    refine key _ _ ?_
    split
    · rename_i h'
      rw [hs, ← left0 (pw Q K V G R0 n δ x.val) c.val h']
      simp only [Nat.mod_eq_of_lt hx, Nat.div_eq_of_lt hx, Nat.zero_mul]
    · split
      · rename_i h' h''
        rw [hs, h0, ← EReal.coe_add, show Finset.range c.val = Finset.range (128 + (c.val - 128)) by rw [show 128 + (c.val - 128) = c.val by omega],
          ← left1 (pw Q K V G R0 n δ x.val) (c.val - 128) h'']
        simp only [show (128 + x.val) % 128 = x.val by omega, show (128 + x.val) / 128 * 128 = 128 by omega]
      · rename_i h' h''
        rw [hs, h0, h1, ← EReal.coe_add, ← EReal.coe_add,
          show Finset.range c.val = Finset.range (256 + (c.val - 128 - 128)) by rw [show 256 + (c.val - 128 - 128) = c.val by omega],
          ← left2 (pw Q K V G R0 n δ x.val) (c.val - 128 - 128) (by omega)]
        simp only [show (256 + x.val) % 128 = x.val by omega, show (256 + x.val) / 128 * 128 = 256 by omega]
  · rw [if_neg h, if_neg h, EReal.coe_zero]
    rfl

theorem zd_zero (r : ℕ) : zd Q K V G r 0 = 0 := by
  rw [zd, if_neg (by rintro ⟨_, h⟩; omega)]

include hq hg hk hv hK hV hM hR hn hps in
/-- The gradient of `q` after the trip. -/
theorem dq_val (x d : Fin 128) (hd : δ ≤ n + 384) (hdq : dq (ix2 x d) = ((∑ s ∈ Finset.range (n - δ), zd Q K V G (R0 + x.val) s * K s d.val : ℝ) : EReal)) :
    hDq (F := Ideal) a jl w q g kw vw right psum dq (ix2 x d) = ((∑ s ∈ Finset.range (n + 384 - δ), zd Q K V G (R0 + x.val) s * K s d.val : ℝ) : EReal) := by
  have hz := dz_val a jl w q g kw vw right psum Q K V G kr vr R0 n δ hq hg hk hv hK hV hM hR hn hps
  unfold hDz at hz
  unfold hDq
  pointwise [k0_pay41]
  simp only [hz, hk, ← EReal.coe_mul]
  rw [coe_sum, hdq, ← EReal.coe_add]
  congr 1
  have e : ∀ c ∈ Finset.range 384, zd Q K V G (R0 + x.val) (n + c - δ) * kr c d.val = zd Q K V G (R0 + x.val) (n + c - δ) * K (n + c - δ) d.val := by
    intro c hc
    by_cases h : Sees (R0 + x.val) (n + c - δ)
    · rw [hK c (Finset.mem_range.mp hc) h.2 d.val d.isLt]
    · rw [zd, if_neg h, zero_mul, zero_mul]
  rw [← Finset.sum_range (fun c => zd Q K V G (R0 + x.val) (n + c - δ) * kr c d.val), Finset.sum_congr rfl e,
    sum_win (fun s => zd Q K V G (R0 + x.val) s * K s d.val) (by rw [zd_zero, zero_mul]) n δ 384, Finset.range_eq_Ico, Finset.range_eq_Ico,
    Finset.sum_Ico_consecutive _ (by omega) (by omega)]

include hq hg hk hv hK hV hM hR hn hps in
/-- The window's addition to the gradient of `k`. -/
theorem dk_val (c : Fin 384) (d : Fin 128) : hDk (F := Ideal) a jl w q g kw vw right psum (ix2 c d)
    = ((∑ x ∈ Finset.range 128, zd Q K V G (R0 + x) (n + c.val - δ) * Q (R0 + x) d.val : ℝ) : EReal) := by
  have hz := dz_val a jl w q g kw vw right psum Q K V G kr vr R0 n δ hq hg hk hv hK hV hM hR hn hps
  unfold hDz at hz
  unfold hDk
  pointwise [k0_pay42]
  simp only [hz, hq, ← EReal.coe_mul]
  rw [coe_sum, Finset.sum_range]

include hq hg hk hK hM hR hn in
/-- The window's addition to the gradient of `v`. -/
theorem dv_val (c : Fin 384) (d : Fin 128) : hDv (F := Ideal) a jl w q g kw right (ix2 c d)
    = ((∑ x ∈ Finset.range 128, ww Q K (R0 + x) (n + c.val - δ) * G (R0 + x) d.val : ℝ) : EReal) := by
  have hz := A_val a jl w q kw right Q K kr R0 n δ hq hk hK hM hR hn
  unfold hDv
  pointwise [k0_pay43]
  simp only [hz, hg, ← EReal.coe_mul]
  rw [coe_sum, Finset.sum_range]

end Stages

end Cert.KernelIdeal.Hand

end
-- ==== Proof.Window.lean ====
module

public import proofs.«01_k».proof.Proof.Head

/-!
  One trip over the extended reals: which queries of the block look at which keys of the window, and the scratch buffers' additions.
-/

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.Tactic

/-! ## The numbers of a trip -/

/-- How far the first window of query block `i`, which has `n` key blocks, reaches over key 0. -/
def over (i n : ℕ) : ℕ := (n - (i + 1)) * 128

theorem ofInt_small (z : ℤ) (h : -2147483648 ≤ z) (h' : z < 2147483648) : (BitVec.ofInt 32 z).toInt = z := by
  rw [BitVec.toInt_ofInt, show (2 : ℕ) ^ 32 = 4294967296 from rfl, Int.bmod]
  omega

theorem ofNat_ofInt (n : ℕ) : BitVec.ofNat 32 n = BitVec.ofInt 32 (n : ℤ) := by rw [BitVec.ofInt_natCast]

theorem leftW_int (i n t : ℕ) : leftW i (BitVec.ofNat 32 n) t = BitVec.ofInt 32 ((i : ℤ) + 1 - n + 3 * t) := by
  unfold leftW
  simp only [Scalar.addi, Scalar.subi, Scalar.muli, IntOp.addi, IntOp.subi, IntOp.muli, Scf.iv]
  rw [ofNat_ofInt i, ofNat_ofInt n, ofNat_ofInt t, show (1#32 : BitVec 32) = BitVec.ofInt 32 1 from rfl, show (3#32 : BitVec 32) = BitVec.ofInt 32 3 from rfl,
    show (0#32 : BitVec 32) = BitVec.ofInt 32 0 from rfl, BitVec.sub_eq_add_neg, ← BitVec.ofInt_neg, ← BitVec.ofInt_mul, ← BitVec.ofInt_add, ← BitVec.ofInt_add,
    ← BitVec.ofInt_add, ← BitVec.ofInt_mul, ← BitVec.ofInt_add]
  congr 1
  ring

theorem iv_zero (t : ℕ) (ht : t < 1000) : (Scf.iv 0#32 1#32 t = 0#32) ↔ t = 0 := by
  unfold Scf.iv
  constructor
  · intro h
    have := congrArg BitVec.toNat h
    simp at this
    omega
  · rintro rfl
    rfl

/-- Which queries of the block look at which keys of the window. -/
theorem mask_eq (i n t : ℕ) (hi : i < 65) (hn : i + 1 ≤ n) (hn' : n ≤ i + 3) (ht : t < 100) (x : Fin 128) (c : Fin 384) :
    k0_pay18 (BitVec.ofNat 32 i) (leftW i (BitVec.ofNat 32 n) t) (ix2 x c)
      = if Sees (128 * i + x.val) (384 * t + c.val - over i n) then 1#1 else 0#1 := by
  have hx := x.isLt
  have hc := c.isLt
  unfold over
  pointwise [k0_pay18]
  rw [leftW_int]
  simp only [Scalar.muli, IntOp.addi, IntOp.muli, IntOp.andi, IntOp.cmpi]
  rw [ofNat_ofInt i, ofNat_ofInt x.val, ofNat_ofInt c.val, show (128#32 : BitVec 32) = BitVec.ofInt 32 128 from rfl, show (112#32 : BitVec 32) = BitVec.ofInt 32 112 from rfl,
    ← BitVec.ofInt_mul, ← BitVec.ofInt_add, ← BitVec.ofInt_mul, ← BitVec.ofInt_add, BitVec.slt, BitVec.sle, ofInt_small _ (by omega) (by omega),
    ofInt_small _ (by omega) (by omega), ofInt_small _ (by omega) (by omega)]
  by_cases h1 : ((i : ℤ) + 1 - n + 3 * t) * 128 + c.val < (i : ℤ) * 128 + x.val <;> by_cases h2 : (112 : ℤ) ≤ ((i : ℤ) + 1 - n + 3 * t) * 128 + c.val
  · rw [if_pos (by unfold Sees; omega)]
    simp [h1, h2]
  · rw [if_neg (by unfold Sees; omega)]
    simp [h1, h2]
  · rw [if_neg (by unfold Sees; omega)]
    simp [h1, h2]
  · rw [if_neg (by unfold Sees; omega)]
    simp [h1, h2]

theorem keyBlk_val (i n t u : ℕ) (hi : i < 65) (hn : n ≤ i + 3) : (keyBlk i (BitVec.ofNat 32 n) t u).val = min (i + 1 + 3 * t + u - n) 64 := by
  unfold keyBlk
  dsimp only
  rw [BitVec.toNat_ofNat, Nat.mod_eq_of_lt (by norm_num; omega)]

/-! ## The blocks of a trip -/

section Blocks

variable {e : EltTy} (i n t : ℕ)

theorem pick_real (X : FVec Ideal S8320x256 .bf16) (R : ℕ → ℕ → ℕ → ℝ)
    (hX : ∀ (s : Fin 8320) (j : Fin 256), X (ix2 s j) = ((R (j.val / 128) s.val (j.val % 128) : ℝ) : EReal)) (b : Fin 65) (h : Fin 2) (c d : Fin 128) :
    (pick (F := Ideal) (e := .bf16) X b h : FVec Ideal S128x128 .bf16) (ix2 c d) = ((R h.val (b.val * 128 + c.val) d.val : ℝ) : EReal) := by
  have hd := d.isLt
  refine (hX _ _).trans ?_
  change ((R ((h.val * 128 + d.val) / 128) (b.val * 128 + c.val) ((h.val * 128 + d.val) % 128) : ℝ) : EReal) = _
  rw [show (h.val * 128 + d.val) / 128 = h.val by omega, show (h.val * 128 + d.val) % 128 = d.val by omega]

theorem pickT_real (X : FVec Ideal S128x256 .bf16) (R : ℕ → ℕ → ℕ → ℝ) (r0 : ℕ)
    (hX : ∀ (x : Fin 128) (j : Fin 256), X (ix2 x j) = ((R (j.val / 128) (r0 + x.val) (j.val % 128) : ℝ) : EReal)) (h : Fin 2) (x d : Fin 128) :
    (pickT (F := Ideal) (e := .bf16) X h : FVec Ideal S128x128 .bf16) (ix2 x d) = ((R h.val (r0 + x.val) d.val : ℝ) : EReal) := by
  have hd := d.isLt
  refine (hX _ _).trans ?_
  change ((R ((h.val * 128 + d.val) / 128) (r0 + x.val) ((h.val * 128 + d.val) % 128) : ℝ) : EReal) = _
  rw [show (h.val * 128 + d.val) / 128 = h.val by omega, show (h.val * 128 + d.val) % 128 = d.val by omega]

theorem pickT_real32 (X : FVec Ideal S128x256 .f32) (R : ℕ → ℕ → ℕ → ℝ) (r0 : ℕ)
    (hX : ∀ (x : Fin 128) (j : Fin 256), X (ix2 x j) = ((R (j.val / 128) (r0 + x.val) (j.val % 128) : ℝ) : EReal)) (h : Fin 2) (x d : Fin 128) :
    (pickT (F := Ideal) (e := .f32) X h : FVec Ideal S128x128 .f32) (ix2 x d) = ((R h.val (r0 + x.val) d.val : ℝ) : EReal) := by
  have hd := d.isLt
  refine (hX _ _).trans ?_
  change ((R ((h.val * 128 + d.val) / 128) (r0 + x.val) ((h.val * 128 + d.val) % 128) : ℝ) : EReal) = _
  rw [show (h.val * 128 + d.val) / 128 = h.val by omega, show (h.val * 128 + d.val) % 128 = d.val by omega]

theorem gradT_real (X : FVec Ideal S128x256 .f32) (R : ℕ → ℕ → ℕ → ℝ) (r0 : ℕ)
    (hX : ∀ (x : Fin 128) (j : Fin 256), X (ix2 x j) = ((R (j.val / 128) (r0 + x.val) (j.val % 128) : ℝ) : EReal)) (h : Fin 2) (x d : Fin 128) :
    gradT (F := Ideal) X h (ix2 x d) = ((R h.val (r0 + x.val) d.val : ℝ) : EReal) := by
  unfold gradT
  pointwise [k0_pay13]
  exact pickT_real32 X R r0 hX h x d

/-- The row of the keys' array that column `c` of a window reads. -/
def keyRow (i n t c : ℕ) : ℕ := (keyBlk i (BitVec.ofNat 32 n) t (c / 128)).val * 128 + c % 128

theorem keyWin_real (X : FVec Ideal S8320x256 .bf16) (R : ℕ → ℕ → ℕ → ℝ)
    (hX : ∀ (s : Fin 8320) (j : Fin 256), X (ix2 s j) = ((R (j.val / 128) s.val (j.val % 128) : ℝ) : EReal)) (h : Fin 2) (c : Fin 384) (d : Fin 128) :
    keyWin (F := Ideal) X i (BitVec.ofNat 32 n) t h (ix2 c d) = ((R h.val (keyRow i n t c.val) d.val : ℝ) : EReal) := by
  have hc := c.isLt
  unfold keyWin keyRow
  pointwise [k0_pay14]
  split
  · rename_i h'
    refine (pick_real X R hX _ h _ d).trans ?_
    simp only [Nat.mod_eq_of_lt h', Nat.div_eq_of_lt h']
  · split
    · refine (pick_real X R hX _ h _ d).trans ?_
      simp only [show c.val / 128 = 1 by omega, show c.val % 128 = c.val - 128 by omega]
    · refine (pick_real X R hX _ h _ d).trans ?_
      simp only [show c.val / 128 = 2 by omega, show c.val % 128 = c.val - 128 - 128 by omega]

theorem keyRow_eq (c : ℕ) (hc : c < 384) (hi : i < 65) (hn : i + 1 ≤ n) (hn' : n ≤ i + 3) (ht : 3 * t + 3 ≤ n) (h : 112 ≤ 384 * t + c - over i n) :
    keyRow i n t c = 384 * t + c - over i n := by
  unfold keyRow
  rw [keyBlk_val i n t _ hi hn']
  unfold over at *
  rcases (by omega : c / 128 = 0 ∨ c / 128 = 1 ∨ c / 128 = 2) with e | e | e <;> rw [e] <;> omega

/-! ## The additions to the scratch buffers -/

/-- Head `h`'s window rows from key `lo` to `hi`, without the end. -/
abbrev InWin (lo hi h s j : ℕ) : Prop := j / 128 = h ∧ lo ≤ s ∧ s < hi

theorem addBlk_real (K : Vec Ideal S8320x256 .f32) (h : Fin 2) (D : FVec Ideal S384x128 .f32) (DR : ℕ → ℕ → ℝ) (u : Fin 3)
    (hi : i < 65) (hn : i + 1 ≤ n) (hn' : n ≤ i + 3) (ht : 3 * t + 3 ≤ n) (h0 : ∀ d, DR 0 d = 0)
    (hD : ∀ (c : Fin 384) (d : Fin 128), D (ix2 c d) = ((DR (384 * t + c.val - over i n) d.val : ℝ) : EReal))
    (s : Fin 8320) (j : Fin 256) (κ : ℝ) (hκ : K (ix2 s j) = (κ : EReal)) :
    addBlk (F := Ideal) K (keyBlk i (BitVec.ofNat 32 n) t u.val) h D u (ix2 s j)
      = ((κ + (if InWin (384 * t + 128 * u.val - over i n) (384 * t + 128 * u.val + 128 - over i n) h.val s.val j.val then DR s.val (j.val % 128) else 0) : ℝ) : EReal) := by
  have hs := s.isLt
  have hj := j.isLt
  have hu := u.isLt
  have hh := h.isLt
  have hb := keyBlk_val i n t u.val hi hn'
  have ho : over i n = (n - (i + 1)) * 128 := rfl
  generalize keyBlk i (BitVec.ofNat 32 n) t u.val = b at hb ⊢
  unfold addBlk
  by_cases hy : (b.val * 128 ≤ s.val ∧ s.val < b.val * 128 + 128) ∧ h.val * 128 ≤ j.val ∧ j.val < h.val * 128 + 128
  · refine (dif_pos hy).trans ?_
    refine (congrArg₂ (fun a b : EReal => a + b) hκ (hD _ _)).trans ?_
    rw [← EReal.coe_add]
    congr 2
    change DR (384 * t + (u.val * 128 + (s.val - b.val * 128)) - over i n) (j.val - h.val * 128) = _
    by_cases hw : n ≤ i + 1 + 3 * t + u.val
    · rw [if_pos (by unfold InWin; omega)]
      congr 1
      · omega
      · omega
    · rw [if_neg (by unfold InWin; omega), show 384 * t + (u.val * 128 + (s.val - b.val * 128)) - over i n = 0 by omega, h0]
  · refine (dif_neg hy).trans ?_
    rw [hκ, if_neg (by unfold InWin; omega), add_zero]

theorem addWin_real (K : Vec Ideal S8320x256 .f32) (h : Fin 2) (D : FVec Ideal S384x128 .f32) (DR : ℕ → ℕ → ℝ)
    (hi : i < 65) (hn : i + 1 ≤ n) (hn' : n ≤ i + 3) (ht : 3 * t + 3 ≤ n) (h0 : ∀ d, DR 0 d = 0)
    (hD : ∀ (c : Fin 384) (d : Fin 128), D (ix2 c d) = ((DR (384 * t + c.val - over i n) d.val : ℝ) : EReal))
    (s : Fin 8320) (j : Fin 256) (κ : ℝ) (hκ : K (ix2 s j) = (κ : EReal)) :
    addWin (F := Ideal) K i (BitVec.ofNat 32 n) t h D (ix2 s j)
      = ((κ + (if InWin (384 * t - over i n) (384 * t + 384 - over i n) h.val s.val j.val then DR s.val (j.val % 128) else 0) : ℝ) : EReal) := by
  unfold addWin
  have r0 := addBlk_real i n t K h D DR 0 hi hn hn' ht h0 hD s j κ hκ
  have r1 := addBlk_real i n t _ h D DR 1 hi hn hn' ht h0 hD s j _ r0
  have r2 := addBlk_real i n t _ h D DR 2 hi hn hn' ht h0 hD s j _ r1
  refine r2.trans ?_
  congr 1
  have ho : over i n = (n - (i + 1)) * 128 := rfl
  simp only [show (0 : Fin 3).val = 0 from rfl, show (1 : Fin 3).val = 1 from rfl, show (2 : Fin 3).val = 2 from rfl]
  by_cases hw : InWin (384 * t - over i n) (384 * t + 384 - over i n) h.val s.val j.val
  · rw [if_pos hw]
    unfold InWin at *
    rcases (by omega : (s.val < 384 * t + 128 - over i n) ∨ (384 * t + 128 - over i n ≤ s.val ∧ s.val < 384 * t + 256 - over i n) ∨ 384 * t + 256 - over i n ≤ s.val) with e | e | e
    · rw [if_pos (by omega), if_neg (by omega), if_neg (by omega)]
      ring
    · rw [if_neg (by omega), if_pos (by omega), if_neg (by omega)]
      ring
    · rw [if_neg (by omega), if_neg (by omega), if_pos (by omega)]
      ring
  · rw [if_neg hw]
    unfold InWin at *
    rw [if_neg (by omega), if_neg (by omega), if_neg (by omega)]
    ring

end Blocks

end Cert.KernelIdeal.Hand

end
-- ==== Proof.Trips.lean ====
module

public import proofs.«01_k».proof.Proof.Window

/-!
  All trips of one grid point over the extended reals: what they hand on and what they add to the scratch buffers.
-/

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.Tactic

/-! ## One head's trip, all its results -/

section Trip

variable (i n t : ℕ) (X2 : Vec Ideal S128x256 .bf16) (X3 X4 : Vec Ideal S8320x256 .bf16) (X5 : Vec Ideal S128x256 .f32) (Q K V G : ℕ → ℕ → ℕ → ℝ)
  (h2 : ∀ (x : Fin 128) (j : Fin 256), X2 (ix2 x j) = ((Q (j.val / 128) (128 * i + x.val) (j.val % 128) : ℝ) : EReal))
  (h3 : ∀ (s : Fin 8320) (j : Fin 256), X3 (ix2 s j) = ((K (j.val / 128) s.val (j.val % 128) : ℝ) : EReal))
  (h4 : ∀ (s : Fin 8320) (j : Fin 256), X4 (ix2 s j) = ((V (j.val / 128) s.val (j.val % 128) : ℝ) : EReal))
  (h5 : ∀ (x : Fin 128) (j : Fin 256), X5 (ix2 x j) = ((G (j.val / 128) (128 * i + x.val) (j.val % 128) : ℝ) : EReal))

/-- What head `h`'s part of the state is before trip `t`. -/
structure HeadInv (t : ℕ) (h : ℕ) (dq : FVec Ideal S128x128 .f32) (right psum : FVec Ideal S128x1 .f32) : Prop where
  dq : ∀ x d : Fin 128, dq (ix2 x d)
    = ((∑ s ∈ Finset.range (384 * t - over i n), zd (Q h) (K h) (V h) (G h) (128 * i + x.val) s * K h s d.val : ℝ) : EReal)
  right : ∀ x : Fin 128, right (ix2 x 0) = ((tail (Q h) (K h) (128 * i + x.val) (384 * max t 1 - over i n) : ℝ) : EReal)
  psum : ∀ x : Fin 128, psum (ix2 x 0) = ((below (Q h) (K h) (V h) (G h) (128 * i + x.val) (384 * t - over i n) : ℝ) : EReal)

/-- A scratch buffer before trip `t`: as at the point's start, with the point's part of the keys before the window added. -/
def ScrInv (t : ℕ) (KR : ℕ → ℕ → ℝ) (W : ℕ → ℕ → ℕ → ℝ) (S : Vec Ideal S8320x256 .f32) : Prop :=
  ∀ (s : Fin 8320) (j : Fin 256), S (ix2 s j) = ((KR s.val j.val + (if s.val < 384 * t - over i n then W (j.val / 128) s.val (j.val % 128) else 0) : ℝ) : EReal)

/-- The point's part of the gradient of `k`. -/
def dkPt (h s d : ℕ) : ℝ := ∑ x ∈ Finset.range 128, zd (Q h) (K h) (V h) (G h) (128 * i + x) s * Q h (128 * i + x) d

/-- The point's part of the gradient of `v`. -/
def dvPt (h s d : ℕ) : ℝ := ∑ x ∈ Finset.range 128, ww (Q h) (K h) (128 * i + x) s * G h (128 * i + x) d

theorem dkPt_zero (h d : ℕ) : dkPt i Q K V G h 0 d = 0 := by
  unfold dkPt
  exact Finset.sum_eq_zero fun x _ => by rw [zd_zero, zero_mul]

theorem dvPt_zero (h d : ℕ) : dvPt i Q K G h 0 d = 0 := by
  unfold dvPt
  exact Finset.sum_eq_zero fun x _ => by rw [ww, if_neg (by rintro ⟨_, h⟩; omega), zero_mul]

variable (hi : i < 65) (hn : i + 1 ≤ n) (hn' : n ≤ i + 3) (ht : 3 * t + 3 ≤ n)

include h2 h3 hi hn hn' ht in
theorem right_step (h : Fin 2) (dq : FVec Ideal S128x128 .f32) (right psum : FVec Ideal S128x1 .f32) (I : HeadInv i n Q K V G t h.val dq right psum) (x : Fin 128) :
    hRight (F := Ideal) (BitVec.ofNat 32 i) (leftW i (BitVec.ofNat 32 n) t) (Scf.iv 0#32 1#32 t) (pickT X2 h) (keyWin X3 i (BitVec.ofNat 32 n) t h) right (ix2 x 0)
      = ((tail (Q h.val) (K h.val) (128 * i + x.val) (384 * t + 384 - over i n) : ℝ) : EReal) := by
  have ho : over i n = (n - (i + 1)) * 128 := rfl
  rw [right_eq (BitVec.ofNat 32 i) (leftW i (BitVec.ofNat 32 n) t) (Scf.iv 0#32 1#32 t) (pickT X2 h) (keyWin X3 i (BitVec.ofNat 32 n) t h) right
    (Q h.val) (K h.val) (fun c d => K h.val (keyRow i n t c) d) (128 * i) (384 * t) (over i n) (pickT_real X2 Q (128 * i) h2 h) (keyWin_real i n t X3 K h3 h)
    (fun c hc hk d hd => by rw [keyRow_eq i n t c hc hi hn hn' ht hk]) (mask_eq i n t hi hn hn' (by omega))
    (fun x => tail (Q h.val) (K h.val) (128 * i + x) (384 * max t 1 - over i n)) I.right x]
  congr 1
  by_cases h0 : t = 0
  · rw [if_pos ((iv_zero t (by omega)).mpr h0), h0]
    rfl
  · rw [if_neg (fun h => h0 ((iv_zero t (by omega)).mp h)), show max t 1 = t by omega]
    unfold lw Cert.Stick.tail
    rw [sum_win (ll (Q h.val) (K h.val) (128 * i + x.val)) (by rw [ll, if_neg (by rintro ⟨_, h⟩; omega)]) (384 * t) (over i n) 384,
      ← Finset.sum_Ico_consecutive _ (show 384 * t - over i n ≤ 384 * t + 384 - over i n by omega) (show 384 * t + 384 - over i n ≤ 8320 by omega)]
    ring

include h2 h3 h4 h5 hi hn hn' ht in
theorem head_step (h : Fin 2) (dq : FVec Ideal S128x128 .f32) (right psum : FVec Ideal S128x1 .f32) (I : HeadInv i n Q K V G t h.val dq right psum) :
    HeadInv i n Q K V G (t + 1) h.val
      (hDq (F := Ideal) (BitVec.ofNat 32 i) (leftW i (BitVec.ofNat 32 n) t) (Scf.iv 0#32 1#32 t) (pickT X2 h) (gradT X5 h) (keyWin X3 i (BitVec.ofNat 32 n) t h)
        (keyWin X4 i (BitVec.ofNat 32 n) t h) right psum dq)
      (hRight (F := Ideal) (BitVec.ofNat 32 i) (leftW i (BitVec.ofNat 32 n) t) (Scf.iv 0#32 1#32 t) (pickT X2 h) (keyWin X3 i (BitVec.ofNat 32 n) t h) right)
      (hPsum (F := Ideal) (BitVec.ofNat 32 i) (leftW i (BitVec.ofNat 32 n) t) (Scf.iv 0#32 1#32 t) (pickT X2 h) (gradT X5 h) (keyWin X3 i (BitVec.ofNat 32 n) t h)
        (keyWin X4 i (BitVec.ofNat 32 n) t h) right psum) := by
  have ho : over i n = (n - (i + 1)) * 128 := rfl
  have hq := pickT_real X2 Q (128 * i) h2 h
  have hg := gradT_real X5 G (128 * i) h5 h
  have hk := keyWin_real i n t X3 K h3 h
  have hv := keyWin_real i n t X4 V h4 h
  have hR := right_step i n t X2 X3 Q K V G h2 h3 hi hn hn' ht h dq right psum I
  have hM := mask_eq i n t hi hn hn' (by omega)
  refine ⟨fun x d => ?_, fun x => ?_, fun x => ?_⟩
  · exact dq_val (BitVec.ofNat 32 i) (leftW i (BitVec.ofNat 32 n) t) (Scf.iv 0#32 1#32 t) (pickT X2 h) (gradT X5 h) (keyWin X3 i (BitVec.ofNat 32 n) t h)
      (keyWin X4 i (BitVec.ofNat 32 n) t h) right psum dq (Q h.val) (K h.val) (V h.val) (G h.val) (fun c d => K h.val (keyRow i n t c) d)
      (fun c d => V h.val (keyRow i n t c) d) (128 * i) (384 * t) (over i n) hq hg hk hv
      (fun c hc hk d hd => by rw [keyRow_eq i n t c hc hi hn hn' ht hk]) (fun c hc hk d hd => by rw [keyRow_eq i n t c hc hi hn hn' ht hk]) hM hR (by omega)
      I.psum x d (by omega) (I.dq x d)
  · exact (hR x).trans (by rw [show max (t + 1) 1 = t + 1 by omega]; rfl)
  · exact psum_val (BitVec.ofNat 32 i) (leftW i (BitVec.ofNat 32 n) t) (Scf.iv 0#32 1#32 t) (pickT X2 h) (gradT X5 h) (keyWin X3 i (BitVec.ofNat 32 n) t h)
      (keyWin X4 i (BitVec.ofNat 32 n) t h) right psum (Q h.val) (K h.val) (V h.val) (G h.val) (fun c d => K h.val (keyRow i n t c) d)
      (fun c d => V h.val (keyRow i n t c) d) (128 * i) (384 * t) (over i n) hq hg hk hv
      (fun c hc hk d hd => by rw [keyRow_eq i n t c hc hi hn hn' ht hk]) (fun c hc hk d hd => by rw [keyRow_eq i n t c hc hi hn hn' ht hk]) hM hR (by omega)
      I.psum x (by omega)

include h2 h3 h4 h5 hi hn hn' ht in
theorem dk_step (h : Fin 2) (dq : FVec Ideal S128x128 .f32) (right psum : FVec Ideal S128x1 .f32) (I : HeadInv i n Q K V G t h.val dq right psum)
    (c : Fin 384) (d : Fin 128) : hDk (F := Ideal) (BitVec.ofNat 32 i) (leftW i (BitVec.ofNat 32 n) t) (Scf.iv 0#32 1#32 t) (pickT X2 h) (gradT X5 h)
      (keyWin X3 i (BitVec.ofNat 32 n) t h) (keyWin X4 i (BitVec.ofNat 32 n) t h) right psum (ix2 c d)
    = ((dkPt i Q K V G h.val (384 * t + c.val - over i n) d.val : ℝ) : EReal) := by
  have ho : over i n = (n - (i + 1)) * 128 := rfl
  exact dk_val (BitVec.ofNat 32 i) (leftW i (BitVec.ofNat 32 n) t) (Scf.iv 0#32 1#32 t) (pickT X2 h) (gradT X5 h) (keyWin X3 i (BitVec.ofNat 32 n) t h)
      (keyWin X4 i (BitVec.ofNat 32 n) t h) right psum (Q h.val) (K h.val) (V h.val) (G h.val) (fun c d => K h.val (keyRow i n t c) d)
      (fun c d => V h.val (keyRow i n t c) d) (128 * i) (384 * t) (over i n) (pickT_real X2 Q (128 * i) h2 h) (gradT_real X5 G (128 * i) h5 h)
      (keyWin_real i n t X3 K h3 h) (keyWin_real i n t X4 V h4 h)
      (fun c hc hk d hd => by rw [keyRow_eq i n t c hc hi hn hn' ht hk]) (fun c hc hk d hd => by rw [keyRow_eq i n t c hc hi hn hn' ht hk])
      (mask_eq i n t hi hn hn' (by omega)) (right_step i n t X2 X3 Q K V G h2 h3 hi hn hn' ht h dq right psum I) (by omega) I.psum c d

include h2 h3 h4 h5 hi hn hn' ht in
theorem dv_step (h : Fin 2) (dq : FVec Ideal S128x128 .f32) (right psum : FVec Ideal S128x1 .f32) (I : HeadInv i n Q K V G t h.val dq right psum)
    (c : Fin 384) (d : Fin 128) : hDv (F := Ideal) (BitVec.ofNat 32 i) (leftW i (BitVec.ofNat 32 n) t) (Scf.iv 0#32 1#32 t) (pickT X2 h) (gradT X5 h)
      (keyWin X3 i (BitVec.ofNat 32 n) t h) right (ix2 c d)
    = ((dvPt i Q K G h.val (384 * t + c.val - over i n) d.val : ℝ) : EReal) := by
  have ho : over i n = (n - (i + 1)) * 128 := rfl
  exact dv_val (BitVec.ofNat 32 i) (leftW i (BitVec.ofNat 32 n) t) (Scf.iv 0#32 1#32 t) (pickT X2 h) (gradT X5 h) (keyWin X3 i (BitVec.ofNat 32 n) t h)
      right (Q h.val) (K h.val) (G h.val) (fun c d => K h.val (keyRow i n t c) d)
      (128 * i) (384 * t) (over i n) (pickT_real X2 Q (128 * i) h2 h) (gradT_real X5 G (128 * i) h5 h) (keyWin_real i n t X3 K h3 h)
      (fun c hc hk d hd => by rw [keyRow_eq i n t c hc hi hn hn' ht hk])
      (mask_eq i n t hi hn hn' (by omega)) (right_step i n t X2 X3 Q K V G h2 h3 hi hn hn' ht h dq right psum I) (by omega) c d

include hi hn hn' ht in
theorem scr_step (S : Vec Ideal S8320x256 .f32) (KR : ℕ → ℕ → ℝ) (W : ℕ → ℕ → ℕ → ℝ) (I : ScrInv i n t KR W S) (D0 D1 : FVec Ideal S384x128 .f32)
    (h0 : ∀ h d, W h 0 d = 0)
    (hD0 : ∀ (c : Fin 384) (d : Fin 128), D0 (ix2 c d) = ((W 0 (384 * t + c.val - over i n) d.val : ℝ) : EReal))
    (hD1 : ∀ (c : Fin 384) (d : Fin 128), D1 (ix2 c d) = ((W 1 (384 * t + c.val - over i n) d.val : ℝ) : EReal)) :
    ScrInv i n (t + 1) KR W (addWin (addWin S i (BitVec.ofNat 32 n) t 0 D0) i (BitVec.ofNat 32 n) t 1 D1) := by
  intro s j
  have hj := j.isLt
  have ho : over i n = (n - (i + 1)) * 128 := rfl
  have r0 := addWin_real i n t S 0 D0 (W 0) hi hn hn' ht (h0 0) hD0 s j _ (I s j)
  have r1 := addWin_real i n t _ 1 D1 (W 1) hi hn hn' ht (h0 1) hD1 s j _ r0
  refine r1.trans ?_
  congr 1
  rw [show 384 * (t + 1) - over i n = 384 * t + 384 - over i n by omega, add_assoc, add_assoc]
  congr 1
  change _ + ((if InWin _ _ 0 _ _ then _ else _) + (if InWin _ _ 1 _ _ then _ else _)) = _
  rcases (by omega : j.val / 128 = 0 ∨ j.val / 128 = 1) with e | e
  · rw [show W (j.val / 128) = W 0 by rw [e], if_neg (show ¬ InWin _ _ 1 _ _ by unfold InWin; omega), add_zero]
    by_cases ha : s.val < 384 * t - over i n
    · rw [if_pos ha, if_neg (by unfold InWin; omega), if_pos (by omega), add_zero]
    · rw [if_neg ha, zero_add]
      by_cases hb : s.val < 384 * t + 384 - over i n
      · rw [if_pos hb, if_pos (by unfold InWin; omega)]
      · rw [if_neg hb, if_neg (by unfold InWin; omega)]
  · rw [show W (j.val / 128) = W 1 by rw [e], if_neg (show ¬ InWin _ _ 0 _ _ by unfold InWin; omega), zero_add]
    by_cases ha : s.val < 384 * t - over i n
    · rw [if_pos ha, if_neg (by unfold InWin; omega), if_pos (by omega), add_zero]
    · rw [if_neg ha, zero_add]
      by_cases hb : s.val < 384 * t + 384 - over i n
      · rw [if_pos hb, if_pos (by unfold InWin; omega)]
      · rw [if_neg hb, if_neg (by unfold InWin; omega)]

/-- The whole state before trip `t`. -/
structure PtInv (t : ℕ) (KR VR : ℕ → ℕ → ℝ) (S : PtState Ideal) : Prop where
  a : HeadInv i n Q K V G t 0 S.1.1 S.1.2.2.1 S.1.2.2.2.2.1
  b : HeadInv i n Q K V G t 1 S.1.2.1 S.1.2.2.2.1 S.1.2.2.2.2.2
  k : ScrInv i n t KR (dkPt i Q K V G) S.2.1
  v : ScrInv i n t VR (dvPt i Q K G) S.2.2

include h2 h3 h4 h5 hi hn hn' ht in
theorem pt_step (KR VR : ℕ → ℕ → ℝ) (S : PtState Ideal) (I : PtInv i n Q K V G t KR VR S) :
    PtInv i n Q K V G (t + 1) KR VR (ptStep i (BitVec.ofNat 32 n) X2 X3 X4 X5 t S) :=
  ⟨head_step i n t X2 X3 X4 X5 Q K V G h2 h3 h4 h5 hi hn hn' ht 0 _ _ _ I.a, head_step i n t X2 X3 X4 X5 Q K V G h2 h3 h4 h5 hi hn hn' ht 1 _ _ _ I.b,
    scr_step i n t hi hn hn' ht _ KR _ I.k _ _ (dkPt_zero i Q K V G) (dk_step i n t X2 X3 X4 X5 Q K V G h2 h3 h4 h5 hi hn hn' ht 0 _ _ _ I.a)
      (dk_step i n t X2 X3 X4 X5 Q K V G h2 h3 h4 h5 hi hn hn' ht 1 _ _ _ I.b),
    scr_step i n t hi hn hn' ht _ VR _ I.v _ _ (dvPt_zero i Q K G) (dv_step i n t X2 X3 X4 X5 Q K V G h2 h3 h4 h5 hi hn hn' ht 0 _ _ _ I.a)
      (dv_step i n t X2 X3 X4 X5 Q K V G h2 h3 h4 h5 hi hn hn' ht 1 _ _ _ I.b)⟩

include h2 h3 h4 h5 hi hn hn' in
theorem pt_trips (KR VR : ℕ → ℕ → ℝ) (S : PtState Ideal) (I : PtInv i n Q K V G 0 KR VR S) (m : ℕ) (hm : 3 * m ≤ n) :
    PtInv i n Q K V G m KR VR (ptAt i (BitVec.ofNat 32 n) X2 X3 X4 X5 S m) := by
  induction m with
  | zero => exact I
  | succ m ih => exact pt_step i n m X2 X3 X4 X5 Q K V G h2 h3 h4 h5 hi hn hn' (by omega) KR VR _ (ih (by omega))

end Trip

end Cert.KernelIdeal.Hand

end
-- ==== Proof.PtVal.lean ====
module

public import proofs.«01_k».proof.Proof.Trips

/-!
  A grid point over the extended reals: its block of the gradient of `q`, and what it adds to the gradients of `k` and `v`.
-/

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.Tactic

/-- How many key blocks query block `i` walks: a multiple of three that covers the blocks up to its own. -/
def blocks (i : ℕ) : ℕ := 3 * (i / 3 + 1)

theorem blocks_ge (i : ℕ) : i + 1 ≤ blocks i := by unfold blocks; omega
theorem blocks_le (i : ℕ) : blocks i ≤ i + 3 := by unfold blocks; omega

theorem trips_eq (i : ℕ) (hi : i < 65) : ((BitVec.ofNat 32 (blocks i)).toInt / 3).toNat = i / 3 + 1 := by
  have : (BitVec.ofNat 32 (blocks i)).toInt = blocks i := by
    rw [BitVec.toInt_ofNat', show (2 : ℕ) ^ 32 = 4294967296 from rfl]; unfold blocks; norm_num [Int.bmod]; omega
  rw [this]; unfold blocks; omega

theorem last_key (i : ℕ) : 384 * (i / 3 + 1) - over i (blocks i) = 128 * (i + 1) := by unfold over blocks; omega

theorem first_key (i : ℕ) : 384 * max 0 1 - over i (blocks i) = 384 - over i (blocks i) := by rfl

theorem nothing (i : ℕ) (hi : i < 65) : 384 * 0 - over i (blocks i) = 0 := by omega

/-- A sum of gradients over the keys ends with the query's block. -/
theorem sum_keys (q k v g : ℕ → ℕ → ℝ) (i x d : ℕ) (hi : i < 65) (hx : x < 128) :
    ∑ s ∈ Finset.range (128 * (i + 1)), zd q k v g (128 * i + x) s * k s d = dqR q k v g (128 * i + x) d := by
  unfold dqR
  refine Finset.sum_subset (Finset.range_mono (by omega)) fun s _ hs => ?_
  rw [Finset.mem_range] at hs
  rw [zd, if_neg (by rintro ⟨h, _⟩; omega), zero_mul]

section Point
variable (i : ℕ) (X2 : Vec Ideal S128x256 .bf16) (X3 X4 : Vec Ideal S8320x256 .bf16) (X5 : Vec Ideal S128x256 .f32) (X6 : Vec Ideal S2x128x128 .f32)
variable (Q K V G : ℕ → ℕ → ℕ → ℝ)
variable (h2 : ∀ (x : Fin 128) (j : Fin 256), (X2 (ix2 x j) : EReal) = (Q (j.val / 128) (128 * i + x.val) (j.val % 128) : ℝ))
variable (h3 : ∀ (s : Fin 8320) (j : Fin 256), (X3 (ix2 s j) : EReal) = (K (j.val / 128) s.val (j.val % 128) : ℝ))
variable (h4 : ∀ (s : Fin 8320) (j : Fin 256), (X4 (ix2 s j) : EReal) = (V (j.val / 128) s.val (j.val % 128) : ℝ))
variable (h5 : ∀ (x : Fin 128) (j : Fin 256), (X5 (ix2 x j) : EReal) = (G (j.val / 128) (128 * i + x.val) (j.val % 128) : ℝ))
variable (h6 : ∀ (h : Fin 2) (x : Fin 128), (X6 (ValueIdx.ix3 h x 0) : EReal) = (tail (Q h.val) (K h.val) (128 * i + x.val) (384 - over i (blocks i)) : ℝ))
variable (hi : i < 65) (KR VR : ℕ → ℕ → ℝ) (S1 S2 : Vec Ideal S8320x256 .f32)
variable (hK : ∀ (s : Fin 8320) (j : Fin 256), (S1 (ix2 s j) : EReal) = (KR s.val j.val : ℝ))
variable (hV : ∀ (s : Fin 8320) (j : Fin 256), (S2 (ix2 s j) : EReal) = (VR s.val j.val : ℝ))

include h6 hi hK hV in
theorem init_inv : PtInv i (blocks i) Q K V G 0 KR VR (ptInit X6 S1 S2) := by
  have z : (Ideal.ofBits .f32 0x00000000#32 : EReal) = ((0 : ℝ) : EReal) := by simp [Ideal.ofBits, Ideal.ieee]
  have e0 := nothing i hi
  refine ⟨⟨fun x d => ?_, fun x => ?_, fun x => ?_⟩, ⟨fun x d => ?_, fun x => ?_, fun x => ?_⟩, fun s j => ?_, fun s j => ?_⟩
  · rw [e0, Finset.range_zero, Finset.sum_empty]; exact z
  · exact h6 0 x
  · rw [e0]; unfold below; rw [Finset.range_zero, Finset.sum_empty]; exact z
  · rw [e0, Finset.range_zero, Finset.sum_empty]; exact z
  · exact h6 1 x
  · rw [e0]; unfold below; rw [Finset.range_zero, Finset.sum_empty]; exact z
  · rw [e0, if_neg (Nat.not_lt_zero _), add_zero]; exact hK s j
  · rw [e0, if_neg (Nat.not_lt_zero _), add_zero]; exact hV s j

include h2 h3 h4 h5 h6 hi hK hV in
theorem end_inv : PtInv i (blocks i) Q K V G (i / 3 + 1) KR VR (ptEnd i (BitVec.ofNat 32 (blocks i)) X2 X3 X4 X5 X6 S1 S2) := by
  unfold ptEnd
  rw [trips_eq i hi]
  exact pt_trips i (blocks i) X2 X3 X4 X5 Q K V G h2 h3 h4 h5 hi (blocks_ge i) (blocks_le i) KR VR _
    (init_inv i X6 Q K V G h6 hi KR VR S1 S2 hK hV) (i / 3 + 1) (le_refl _)

include h2 h3 h4 h5 h6 hi hK hV in
theorem end_dq (x : Fin 128) (j : Fin 256) : (dqBlk (ptEnd i (BitVec.ofNat 32 (blocks i)) X2 X3 X4 X5 X6 S1 S2).1 (ix2 x j) : EReal)
    = (dqR (Q (j.val / 128)) (K (j.val / 128)) (V (j.val / 128)) (G (j.val / 128)) (128 * i + x.val) (j.val % 128) : ℝ) := by
  have I := end_inv i X2 X3 X4 X5 X6 Q K V G h2 h3 h4 h5 h6 hi KR VR S1 S2 hK hV
  have hj := j.isLt
  unfold dqBlk
  by_cases h : j.val < 128
  · refine (dif_pos h).trans ((I.a.dq x ⟨j.val, h⟩).trans ?_)
    rw [last_key, sum_keys _ _ _ _ i x.val _ hi x.isLt, show j.val / 128 = 0 by omega]
    show ((dqR _ _ _ _ _ j.val : ℝ) : EReal) = _
    rw [show j.val % 128 = j.val by omega]
  · refine (dif_neg h).trans ((I.b.dq x ⟨j.val - 128, by omega⟩).trans ?_)
    rw [last_key, sum_keys _ _ _ _ i x.val _ hi x.isLt, show j.val / 128 = 1 by omega]
    show ((dqR _ _ _ _ _ (j.val - 128) : ℝ) : EReal) = _
    rw [show j.val % 128 = j.val - 128 by omega]

include h2 h3 h4 h5 h6 hi hK hV in
theorem end_k (s : Fin 8320) (j : Fin 256) : ((ptEnd i (BitVec.ofNat 32 (blocks i)) X2 X3 X4 X5 X6 S1 S2).2.1 (ix2 s j) : EReal)
    = ((KR s.val j.val + dkPt i Q K V G (j.val / 128) s.val (j.val % 128) : ℝ) : EReal) := by
  rw [(end_inv i X2 X3 X4 X5 X6 Q K V G h2 h3 h4 h5 h6 hi KR VR S1 S2 hK hV).k s j, last_key]
  by_cases h : s.val < 128 * (i + 1)
  · rw [if_pos h]
  · rw [if_neg h]
    congr 2
    unfold dkPt
    symm
    refine Finset.sum_eq_zero fun x hx => ?_
    have := Finset.mem_range.mp hx
    rw [zd, if_neg (by rintro ⟨h, _⟩; omega), zero_mul]

include h2 h3 h4 h5 h6 hi hK hV in
theorem end_v (s : Fin 8320) (j : Fin 256) : ((ptEnd i (BitVec.ofNat 32 (blocks i)) X2 X3 X4 X5 X6 S1 S2).2.2 (ix2 s j) : EReal)
    = ((VR s.val j.val + dvPt i Q K G (j.val / 128) s.val (j.val % 128) : ℝ) : EReal) := by
  rw [(end_inv i X2 X3 X4 X5 X6 Q K V G h2 h3 h4 h5 h6 hi KR VR S1 S2 hK hV).v s j, last_key]
  by_cases h : s.val < 128 * (i + 1)
  · rw [if_pos h]
  · rw [if_neg h]
    congr 2
    unfold dvPt
    symm
    refine Finset.sum_eq_zero fun x hx => ?_
    have := Finset.mem_range.mp hx
    rw [ww, if_neg (by rintro ⟨h, _⟩; omega), zero_mul]

end Point

/-! ## Sums over the query blocks -/

section Sums
variable (Q K V G : ℕ → ℕ → ℕ → ℝ)

/-- The gradient of `k` from the query blocks before `i`. -/
def dkAcc (i h s d : ℕ) : ℝ := ∑ r ∈ Finset.range (128 * i), zd (Q h) (K h) (V h) (G h) r s * Q h r d
/-- The gradient of `v` from the query blocks before `i`. -/
def dvAcc (i h s d : ℕ) : ℝ := ∑ r ∈ Finset.range (128 * i), ww (Q h) (K h) r s * G h r d

theorem dkAcc_zero (h s d : ℕ) : dkAcc Q K V G 0 h s d = 0 := by simp [dkAcc]
theorem dvAcc_zero (h s d : ℕ) : dvAcc Q K G 0 h s d = 0 := by simp [dvAcc]
theorem dkAcc_succ (i h s d : ℕ) : dkAcc Q K V G i h s d + dkPt i Q K V G h s d = dkAcc Q K V G (i + 1) h s d := by
  unfold dkAcc dkPt
  rw [show 128 * (i + 1) = 128 * i + 128 by ring, Finset.sum_range_add]
theorem dvAcc_succ (i h s d : ℕ) : dvAcc Q K G i h s d + dvPt i Q K G h s d = dvAcc Q K G (i + 1) h s d := by
  unfold dvAcc dvPt
  rw [show 128 * (i + 1) = 128 * i + 128 by ring, Finset.sum_range_add]
theorem dkAcc_all (h s d : ℕ) : dkAcc Q K V G 65 h s d = dkR (Q h) (K h) (V h) (G h) s d := rfl
theorem dvAcc_all (h s d : ℕ) : dvAcc Q K G 65 h s d = dvR (Q h) (K h) (G h) s d := rfl
end Sums

end Cert.KernelIdeal.Hand

end
-- ==== Proof.HostVal.lean ====
module

public import proofs.«01_k».proof.Proof.HostRun
public import proofs.«01_k».proof.Proof.PtVal
public import Idealize.ShloMosaic.Lib.IdealHost
public import Idealize.ShloMosaic.Lib.Pipeline.ValueKit

/-!
  What the host hands the kernel, over the extended reals: each query's sum right of its block's first window, and each query block's count
  of key blocks.
-/

@[expose] public section

set_option maxRecDepth 16384

noncomputable section

namespace Cert.KernelIdeal.Hand

open Cert.KernelIdeal Cert.KernelIdeal.Gen Cert.Stick
open Idealize.ShloMosaic Idealize.ShloMosaic.TcCoe
open Cert.ReferenceIdeal.Read (val_main_v27_0)
open Cert.ReferenceIdeal.Hand (colQ colK colV colG small_int select_val ll_val)

/-! ## The counts and the first keys -/

theorem cnt_at : ∀ k : Fin 65, cntV (ValueIdx.ix1 k) = BitVec.ofNat 32 (blocks k.val) := by
  decide +kernel

theorem first_at : ∀ k : Fin 65, firstA (iotaInDim S65 32 0) cntV (ValueIdx.ix1 k) = BitVec.ofNat 32 (384 - over k.val (blocks k.val)) := by
  decide +kernel

/-- A small integer handed over as a real comes back as it was. -/
theorem roundtrip (n : ℕ) (hn : n < 65536) : (Scalar.fptosi (F := Ideal) (φ := .f32) 32 (Scalar.sitofp (F := Ideal) .f32 (BitVec.ofNat 32 n)) : BitVec 32) = BitVec.ofNat 32 n := by
  show Ideal.fptosi 32 (((BitVec.ofNat 32 n).toInt : ℝ) : EReal) = _
  rw [small_int n hn, Ideal.fptosi, Ideal.toIntClamped_coe, if_pos (by positivity), Int.cast_natCast, Int.floor_natCast]
  rw [show max (-((2 ^ (32 - 1) : ℕ) : ℤ)) (min (((2 ^ (32 - 1) : ℕ) : ℤ) - 1) (n : ℤ)) = (n : ℤ) by norm_num; omega]
  exact BitVec.ofInt_natCast 32 n

theorem counts_at (a : Fin 4) (k : Fin 65) : (Scalar.fptosi (F := Ideal) (φ := .f32) 32 (countsA cntV (ix2 a k)) : BitVec 32) = BitVec.ofNat 32 (blocks k.val) := by
  have e : countsA cntV (ix2 a k) = Scalar.sitofp (F := Ideal) .f32 (cntV (ValueIdx.ix1 k)) := by
    refine (broadcastInDim_apply _ _ _ _ (ix2 (0 : Fin 1) k) ?_).trans ((broadcastInDim_apply _ _ _ _ (ValueIdx.ix1 k) ?_).trans rfl)
    · intro d; match d with
      | 0 => rfl
      | 1 => rfl
    · intro d; match d with
      | 0 => rfl
  rw [e, cnt_at]
  exact roundtrip _ (by have := blocks_le k.val; omega)

theorem right_at (v : (⟨S65, .i32⟩ : BufTy).Contents (Elt Ideal)) (r s : Fin 8320) :
    rightA v (ValueIdx.ix3 (0 : Fin 1) r s) = IntOp.cmpi .sge (BitVec.ofNat 32 s.val) (v (ValueIdx.ix1 (⟨r.val / 128, by omega⟩ : Fin 65))) := by
  refine (broadcastInDim_apply _ _ _ _ (ix2 r s) ?_).trans ?_
  · intro d; match d with
    | 0 => rfl
    | 1 => rfl
  refine congrArg₂ (IntOp.cmpi .sge) ?_ ?_
  · refine (broadcastInDim_apply _ _ _ _ (ix2 (0 : Fin 1) s) ?_).trans ((broadcastInDim_apply _ _ _ _ (ValueIdx.ix1 s) ?_).trans rfl)
    · intro d; match d with
      | 0 => rfl
      | 1 => rfl
    · intro d; match d with
      | 0 => rfl
  · refine (broadcastInDim_apply _ _ _ _ (ix2 r (0 : Fin 1)) ?_).trans ((broadcastInDim_apply _ _ _ _ (ValueIdx.ix1 r) ?_).trans ?_)
    · intro d; match d with
      | 0 => rfl
      | 1 => rfl
    · intro d; match d with
      | 0 => rfl
    · refine (shapeCast_apply _ _ _ (ix2 (⟨r.val / 128, by omega⟩ : Fin 65) (⟨r.val % 128, by omega⟩ : Fin 128)) ?_).trans ((broadcastInDim_apply _ _ _ _ (ValueIdx.ix1 (⟨r.val / 128, by omega⟩ : Fin 65)) ?_))
      · rw [Shape.rowMajor_val_two, Shape.rowMajor_val_one]
        show r.val / 128 * 128 + r.val % 128 = r.val
        omega
      · intro d; match d with
        | 0 => rfl

section Start
variable (x0 : (⟨S8320x11264, .bf16⟩ : BufTy).Contents (Elt Ideal)) (A : ℕ → ℕ → ℝ)
variable (hA : ∀ i : S8320x11264.Idx, 4096 ≤ (i 1).val → (i 1).val < 7168 → (x0 i : EReal) = (A (i 0).val (i 1).val : ℝ))

include hA in
theorem kept_at (h : Fin 8) (r s : Fin 8320) :
    (keptA (rightA (firstA (iotaInDim S65 32 0) cntV)) (val_main_v27_0 (F := Ideal) x0) (ValueIdx.ix3 h r s) : EReal)
      = (if 384 - over (r.val / 128) (blocks (r.val / 128)) ≤ s.val then ll (colQ A h.val) (colK A h.val) r.val s.val else 0 : ℝ) := by
  have e : keptA (rightA (firstA (iotaInDim S65 32 0) cntV)) (val_main_v27_0 (F := Ideal) x0) (ValueIdx.ix3 h r s)
      = Scalar.select (rightA (firstA (iotaInDim S65 32 0) cntV) (ValueIdx.ix3 (0 : Fin 1) r s)) (val_main_v27_0 (F := Ideal) x0 (ValueIdx.ix3 h r s)) (Ideal.ofBits .f32 0x00000000#32) := by
    refine congrArg (fun w => Scalar.select w (val_main_v27_0 (F := Ideal) x0 (ValueIdx.ix3 h r s)) (Ideal.ofBits .f32 0x00000000#32)) ?_
    refine broadcastInDim_apply _ _ _ _ (ValueIdx.ix3 (0 : Fin 1) r s) ?_
    intro d; match d with
    | 0 => rfl
    | 1 => rfl
    | 2 => rfl
  have w : rightA (firstA (iotaInDim S65 32 0) cntV) (ValueIdx.ix3 (0 : Fin 1) r s)
      = if 384 - over (r.val / 128) (blocks (r.val / 128)) ≤ s.val then 1#1 else 0#1 := by
    rw [right_at, first_at]
    show BitVec.ofBool ((BitVec.ofNat 32 (384 - over (r.val / 128) (blocks (r.val / 128)))).sle (BitVec.ofNat 32 s.val)) = _
    rw [BitVec.sle, small_int _ (by omega), small_int _ (by omega)]
    by_cases q : 384 - over (r.val / 128) (blocks (r.val / 128)) ≤ s.val
    · rw [if_pos q, decide_eq_true (by exact_mod_cast q)]; rfl
    · rw [if_neg q, decide_eq_false (by exact_mod_cast q)]; rfl
  rw [e, w]
  exact select_val _ _ _ _ _ (ll_val x0 A hA (ValueIdx.ix3 h r s)) (by simp [Ideal.ofBits, Ideal.ieee])

include hA in
theorem start_at (h : Fin 8) (r : Fin 8320) (d : Fin 128) :
    (startA (keptA (rightA (firstA (iotaInDim S65 32 0) cntV)) (val_main_v27_0 (F := Ideal) x0)) (ValueIdx.ix3 h r d) : EReal)
      = (tail (colQ A h.val) (colK A h.val) r.val (384 - over (r.val / 128) (blocks (r.val / 128))) : ℝ) := by
  have hr : S8x8320x8320.Reduces [2] S8x8320 := by decide
  refine (broadcastInDim_apply _ _ _ _ (ValueIdx.ix3 h r (0 : Fin 1)) ?_).trans ((broadcastInDim_apply _ _ _ _ (ix2 h r) ?_).trans ?_)
  · intro d; match d with
    | 0 => rfl
    | 1 => rfl
    | 2 => rfl
  · intro d; match d with
    | 0 => rfl
    | 1 => rfl
  rw [ValueIdx.hostReduceAdd_apply, Ideal.hostReduceAdd_single _ hr]
  have l : ∀ s : Fin 8320, hr.lift (ix2 h r) s = ValueIdx.ix3 h r s := by
    intro s; funext d; match d with
    | 0 => rfl
    | 1 => rfl
    | 2 => rfl
  have z : ∀ j : S_.Idx, (constant (F := Ideal) S_ .f32 0x00000000#32 j : EReal) = 0 := by intro j; show Ideal.ofBits .f32 0x00000000#32 = _; simp [Ideal.ofBits, Ideal.ieee]
  rw [z, zero_add]
  refine (show _ = ∑ s : Fin 8320, (((if 384 - over (r.val / 128) (blocks (r.val / 128)) ≤ s.val then ll (colQ A h.val) (colK A h.val) r.val s.val else 0 : ℝ)) : EReal) from
    Finset.sum_congr rfl fun s _ => (congrArg _ (l s)).trans (kept_at x0 A hA h r s)).trans ?_
  rw [Fin.sum_univ_eq_sum_range (fun s => ((if 384 - over (r.val / 128) (blocks (r.val / 128)) ≤ s then ll (colQ A h.val) (colK A h.val) r.val s else 0 : ℝ) : EReal)) 8320, coe_sum]
  refine congrArg _ ?_
  unfold tail
  rw [← Finset.sum_filter]
  refine Finset.sum_congr ?_ fun _ _ => rfl
  ext s; simp only [Finset.mem_filter, Finset.mem_range, Finset.mem_Ico]; tauto

end Start

end Cert.KernelIdeal.Hand

end
-- ==== Proof.Blocks.lean ====
module

public import proofs.«01_k».proof.Proof.HostVal
public import proofs.«01_k».proof.Proof.Run

/-!
  What each grid point of the kernel is handed, as parts of the arrays.
-/

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.Tactic
open Cert.ReferenceIdeal.Hand (colQ colK colV colG)

/-! ## Where the blocks lie -/

theorem where_in : ∀ t : Fin cfg0.N, win0_0.index t = ![t.val % 65, 16 + t.val / 65] ∧ win0_1.index t = ![0, 20 + t.val / 65] ∧ win0_2.index t = ![0, 24 + t.val / 65]
    ∧ win0_3.index t = ![t.val % 65, t.val / 65] ∧ win0_4.index t = ![t.val / 65, t.val % 65, 0] ∧ win0_5.index t = ![0, 0] :=
  (by decide +kernel : ∀ t : Fin grid0.N, _)

theorem where_out : ∀ t : Fin cfg0.N, win0_6.index t = ![t.val % 65, t.val / 65] ∧ win0_7.index t = ![0, t.val / 65] ∧ win0_8.index t = ![0, t.val / 65] :=
  (by decide +kernel : ∀ t : Fin grid0.N, _)

theorem coords_at : ∀ t : Fin cfg0.N, (grid0.coords t 0).val = t.val / 65 ∧ (grid0.coords t 1).val = t.val % 65 :=
  (by decide +kernel : ∀ t : Fin grid0.N, _)

variable (m : (ℓ : Loc nD τ sig) → Buf (Elt Ideal) ℓ) (c : Dev nD)

theorem points (t : Fin cfg0.N) : t.val < 260 := t.isLt

theorem q_at (t : Fin cfg0.N) (x : Fin 128) (j : Fin 256) :
    iblk m c 0 t (ix2 x j) = m (c, Proc.devRef .tc main_arg0) (ix2 (⟨128 * (t.val % 65) + x.val, by have := points t; omega⟩ : Fin 8320) (⟨4096 + 256 * (t.val / 65) + j.val, by have := points t; omega⟩ : Fin 11264)) := by
  have e := where_in t
  show V m c main_arg0 (((cfg0.win 0).blk t).view.emb (ix2 x j)) = _
  rw [V_main_arg0]
  blk_ext [e]

theorem k_at (t : Fin cfg0.N) (s : Fin 8320) (j : Fin 256) :
    iblk m c 1 t (ix2 s j) = m (c, Proc.devRef .tc main_arg0) (ix2 s (⟨5120 + 256 * (t.val / 65) + j.val, by have := points t; omega⟩ : Fin 11264)) := by
  have e := where_in t
  show V m c main_arg0 (((cfg0.win 1).blk t).view.emb (ix2 s j)) = _
  rw [V_main_arg0]
  blk_ext [e]

theorem v_at (t : Fin cfg0.N) (s : Fin 8320) (j : Fin 256) :
    iblk m c 2 t (ix2 s j) = m (c, Proc.devRef .tc main_arg0) (ix2 s (⟨6144 + 256 * (t.val / 65) + j.val, by have := points t; omega⟩ : Fin 11264)) := by
  have e := where_in t
  show V m c main_arg0 (((cfg0.win 2).blk t).view.emb (ix2 s j)) = _
  rw [V_main_arg0]
  blk_ext [e]

theorem g_at (t : Fin cfg0.N) (x : Fin 128) (j : Fin 256) :
    iblk m c 3 t (ix2 x j) = m (c, Proc.devRef .tc main_arg1) (ix2 (⟨128 * (t.val % 65) + x.val, by have := points t; omega⟩ : Fin 8320) (⟨256 * (t.val / 65) + j.val, by have := points t; omega⟩ : Fin 1024)) := by
  have e := where_in t
  show V m c main_arg1 (((cfg0.win 3).blk t).view.emb (ix2 x j)) = _
  rw [V_main_arg1]
  blk_ext [e]

theorem s_at (t : Fin cfg0.N) (h : Fin 2) (x d : Fin 128) :
    iblk m c 4 t (ValueIdx.ix3 h x d) = V m c main_v50 (ValueIdx.ix3 (⟨2 * (t.val / 65) + h.val, by have := points t; omega⟩ : Fin 8) (⟨128 * (t.val % 65) + x.val, by have := points t; omega⟩ : Fin 8320) d) := by
  have e := where_in t
  show V m c main_v50 (((cfg0.win 4).blk t).view.emb (ValueIdx.ix3 h x d)) = _
  generalize V m c main_v50 = y
  blk_ext [e]
  · exact congrArg (· + h.val) (Nat.mul_comm _ _)
  · exact congrArg (· + x.val) (Nat.mul_comm _ _)

theorem c_at (t : Fin cfg0.N) (a : Fin 4) (k : Fin 65) : iblk m c 5 t (ix2 a k) = V m c main_v53 (ix2 a k) := by
  have e := where_in t
  show V m c main_v53 (((cfg0.win 5).blk t).view.emb (ix2 a k)) = _
  generalize V m c main_v53 = y
  blk_ext [e]

end Cert.KernelIdeal.Hand

end
-- ==== Proof.Points.lean ====
module

public import proofs.«01_k».proof.Proof.Blocks

/-!
  The grid points of the kernel over the extended reals: what each is handed, and what its scratch buffers hold.
-/

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.Tactic
open Cert.ReferenceIdeal.Hand (colQ colK colV colG)

variable (m : (ℓ : Loc nD τ sig) → Buf (Elt Ideal) ℓ) (c : Dev nD)

/-! ## What a point is handed -/

/-- The arguments and the blocks a point is handed. -/
abbrev argA : (⟨S8320x11264, .bf16⟩ : BufTy).Contents (Elt Ideal) := m (c, Proc.devRef .tc main_arg0)
abbrev argB : (⟨S8320x1024, .f32⟩ : BufTy).Contents (Elt Ideal) := m (c, Proc.devRef .tc main_arg1)
abbrev blkQ (t : Fin cfg0.N) : Vec Ideal S128x256 .bf16 := iblk m c 0 t
abbrev blkK (t : Fin cfg0.N) : Vec Ideal S8320x256 .bf16 := iblk m c 1 t
abbrev blkV (t : Fin cfg0.N) : Vec Ideal S8320x256 .bf16 := iblk m c 2 t
abbrev blkG (t : Fin cfg0.N) : Vec Ideal S128x256 .f32 := iblk m c 3 t
abbrev blkS (t : Fin cfg0.N) : Vec Ideal S2x128x128 .f32 := iblk m c 4 t
abbrev blkC (t : Fin cfg0.N) : Vec Ideal S4x65 .f32 := iblk m c 5 t

section Values
variable (A B : ℕ → ℕ → ℝ)
variable (hA : ∀ i : S8320x11264.Idx, 4096 ≤ (i 1).val → (i 1).val < 7168 → (argA m c i : EReal) = (A (i 0).val (i 1).val : ℝ))
variable (hB : ∀ i : S8320x1024.Idx, (argB m c i : EReal) = (B (i 0).val (i 1).val : ℝ))

/-- The two heads of head pair `p`. -/
def pairQ (p h : ℕ) := colQ A (2 * p + h)
def pairK (p h : ℕ) := colK A (2 * p + h)
def pairV (p h : ℕ) := colV A (2 * p + h)
def pairG (p h : ℕ) := colG B (2 * p + h)

include hA in
theorem q_val (t : Fin cfg0.N) (x : Fin 128) (j : Fin 256) :
    (blkQ m c t (ix2 x j) : EReal) = (pairQ A (t.val / 65) (j.val / 128) (128 * (t.val % 65) + x.val) (j.val % 128) : ℝ) := by
  have hj := j.isLt
  have hb := points t
  refine (q_at m c t x j).trans ((hA _ (show 4096 ≤ 4096 + 256 * (t.val / 65) + j.val by omega) (show 4096 + 256 * (t.val / 65) + j.val < 7168 by omega)).trans ?_)
  show ((A (128 * (t.val % 65) + x.val) (4096 + 256 * (t.val / 65) + j.val) : ℝ) : EReal) = (A (128 * (t.val % 65) + x.val) (4096 + ((2 * (t.val / 65) + j.val / 128) * 128 + j.val % 128)) : ℝ)
  rw [show 4096 + 256 * (t.val / 65) + j.val = 4096 + ((2 * (t.val / 65) + j.val / 128) * 128 + j.val % 128) by omega]

include hA in
theorem k_val (t : Fin cfg0.N) (s : Fin 8320) (j : Fin 256) :
    (blkK m c t (ix2 s j) : EReal) = (pairK A (t.val / 65) (j.val / 128) s.val (j.val % 128) : ℝ) := by
  have hj := j.isLt
  have hb := points t
  refine (k_at m c t s j).trans ((hA _ (show 4096 ≤ 5120 + 256 * (t.val / 65) + j.val by omega) (show 5120 + 256 * (t.val / 65) + j.val < 7168 by omega)).trans ?_)
  show ((A s.val (5120 + 256 * (t.val / 65) + j.val) : ℝ) : EReal) = (A s.val (5120 + ((2 * (t.val / 65) + j.val / 128) * 128 + j.val % 128)) : ℝ)
  rw [show 5120 + 256 * (t.val / 65) + j.val = 5120 + ((2 * (t.val / 65) + j.val / 128) * 128 + j.val % 128) by omega]

include hA in
theorem v_val (t : Fin cfg0.N) (s : Fin 8320) (j : Fin 256) :
    (blkV m c t (ix2 s j) : EReal) = (pairV A (t.val / 65) (j.val / 128) s.val (j.val % 128) : ℝ) := by
  have hj := j.isLt
  have hb := points t
  refine (v_at m c t s j).trans ((hA _ (show 4096 ≤ 6144 + 256 * (t.val / 65) + j.val by omega) (show 6144 + 256 * (t.val / 65) + j.val < 7168 by omega)).trans ?_)
  show ((A s.val (6144 + 256 * (t.val / 65) + j.val) : ℝ) : EReal) = (A s.val (6144 + ((2 * (t.val / 65) + j.val / 128) * 128 + j.val % 128)) : ℝ)
  rw [show 6144 + 256 * (t.val / 65) + j.val = 6144 + ((2 * (t.val / 65) + j.val / 128) * 128 + j.val % 128) by omega]

include hB in
theorem g_val (t : Fin cfg0.N) (x : Fin 128) (j : Fin 256) :
    (blkG m c t (ix2 x j) : EReal) = (pairG B (t.val / 65) (j.val / 128) (128 * (t.val % 65) + x.val) (j.val % 128) : ℝ) := by
  have hj := j.isLt
  have hb := points t
  refine (g_at m c t x j).trans ((hB _).trans ?_)
  show ((B (128 * (t.val % 65) + x.val) (256 * (t.val / 65) + j.val) : ℝ) : EReal) = (B (128 * (t.val % 65) + x.val) ((2 * (t.val / 65) + j.val / 128) * 128 + j.val % 128) : ℝ)
  rw [show 256 * (t.val / 65) + j.val = (2 * (t.val / 65) + j.val / 128) * 128 + j.val % 128 by omega]

include hA in
theorem s_val (t : Fin cfg0.N) (h : Fin 2) (x : Fin 128) :
    (blkS m c t (ValueIdx.ix3 h x 0) : EReal)
      = (tail (pairQ A (t.val / 65) h.val) (pairK A (t.val / 65) h.val) (128 * (t.val % 65) + x.val) (384 - over (t.val % 65) (blocks (t.val % 65))) : ℝ) := by
  refine (s_at m c t h x 0).trans ((congrFun (V_start m c) _).trans ((start_at _ A hA _ _ _).trans ?_))
  show ((tail (colQ A (2 * (t.val / 65) + h.val)) (colK A (2 * (t.val / 65) + h.val)) (128 * (t.val % 65) + x.val)
    (384 - over ((128 * (t.val % 65) + x.val) / 128) (blocks ((128 * (t.val % 65) + x.val) / 128))) : ℝ) : EReal) = _
  rw [show (128 * (t.val % 65) + x.val) / 128 = t.val % 65 by omega]
  rfl

theorem c_val (t : Fin cfg0.N) : cntW (blkC m c t) (grid0.coords t) = BitVec.ofNat 32 (blocks (t.val % 65)) := by
  have e : blkC m c t (ix2 (grid0.coords t 0 : Fin 4) (grid0.coords t 1 : Fin 65)) = countsA cntV (ix2 (grid0.coords t 0 : Fin 4) (grid0.coords t 1 : Fin 65)) :=
    (c_at m c t _ _).trans (congrFun (V_count m c) _)
  refine (congrArg (fun x => (Scalar.fptosi (F := Ideal) (φ := .f32) 32 x : BitVec 32)) e).trans ((counts_at (grid0.coords t 0) (grid0.coords t 1)).trans ?_)
  rw [(coords_at t).2]

theorem pt_eq (t : Fin cfg0.N) (S : Vec Ideal S8320x256 .f32 × Vec Ideal S8320x256 .f32) : ptT m c t S
    = ptEnd (t.val % 65) (BitVec.ofNat 32 (blocks (t.val % 65))) (blkQ m c t) (blkK m c t) (blkV m c t) (blkG m c t) (blkS m c t) S.1 S.2 := by
  have e : ptT m c t S = ptEnd (grid0.coords t 1).val (cntW (blkC m c t) (grid0.coords t)) (blkQ m c t) (blkK m c t) (blkV m c t) (blkG m c t) (blkS m c t) S.1 S.2 := rfl
  rw [e, c_val, (coords_at t).2]

/-! ## What its scratch buffers hold -/

/-- The scratch buffers hold the gradients of `k` and `v` from the query blocks before this one. -/
def ScrIs (n : ℕ) (S : Vec Ideal S8320x256 .f32 × Vec Ideal S8320x256 .f32) : Prop :=
  (∀ (s : Fin 8320) (j : Fin 256), (S.1 (ix2 s j) : EReal) = (dkAcc (pairQ A (n / 65)) (pairK A (n / 65)) (pairV A (n / 65)) (pairG B (n / 65)) (n % 65) (j.val / 128) s.val (j.val % 128) : ℝ))
  ∧ ∀ (s : Fin 8320) (j : Fin 256), (S.2 (ix2 s j) : EReal) = (dvAcc (pairQ A (n / 65)) (pairK A (n / 65)) (pairG B (n / 65)) (n % 65) (j.val / 128) s.val (j.val % 128) : ℝ)

theorem zero_is (n : ℕ) (h : n % 65 = 0) : ScrIs A B n zeroScr := by
  have z : (Ideal.ofBits .f32 0x00000000#32 : EReal) = ((0 : ℝ) : EReal) := by simp [Ideal.ofBits, Ideal.ieee]
  refine ⟨fun s j => ?_, fun s j => ?_⟩
  · rw [h, dkAcc_zero]; exact z
  · rw [h, dvAcc_zero]; exact z

section Step
variable (t : Fin cfg0.N) (S : Vec Ideal S8320x256 .f32 × Vec Ideal S8320x256 .f32) (hS : ScrIs A B t.val S)

include hA hB hS in
theorem step_dq (x : Fin 128) (j : Fin 256) : (dqBlk (ptT m c t S).1 (ix2 x j) : EReal)
    = (dqR (pairQ A (t.val / 65) (j.val / 128)) (pairK A (t.val / 65) (j.val / 128)) (pairV A (t.val / 65) (j.val / 128)) (pairG B (t.val / 65) (j.val / 128))
      (128 * (t.val % 65) + x.val) (j.val % 128) : ℝ) := by
  rw [pt_eq]
  exact end_dq (t.val % 65) _ _ _ _ _ (pairQ A (t.val / 65)) (pairK A (t.val / 65)) (pairV A (t.val / 65)) (pairG B (t.val / 65))
    (q_val m c A hA t) (k_val m c A hA t) (v_val m c A hA t) (g_val m c B hB t) (s_val m c A hA t) (by omega)
    (fun s j => dkAcc (pairQ A (t.val / 65)) (pairK A (t.val / 65)) (pairV A (t.val / 65)) (pairG B (t.val / 65)) (t.val % 65) (j / 128) s (j % 128))
    (fun s j => dvAcc (pairQ A (t.val / 65)) (pairK A (t.val / 65)) (pairG B (t.val / 65)) (t.val % 65) (j / 128) s (j % 128)) S.1 S.2 hS.1 hS.2 x j

include hA hB hS in
theorem step_k (s : Fin 8320) (j : Fin 256) : ((ptT m c t S).2.1 (ix2 s j) : EReal)
    = (dkAcc (pairQ A (t.val / 65)) (pairK A (t.val / 65)) (pairV A (t.val / 65)) (pairG B (t.val / 65)) (t.val % 65 + 1) (j.val / 128) s.val (j.val % 128) : ℝ) := by
  rw [pt_eq, ← dkAcc_succ]
  exact end_k (t.val % 65) _ _ _ _ _ (pairQ A (t.val / 65)) (pairK A (t.val / 65)) (pairV A (t.val / 65)) (pairG B (t.val / 65))
    (q_val m c A hA t) (k_val m c A hA t) (v_val m c A hA t) (g_val m c B hB t) (s_val m c A hA t) (by omega)
    (fun s j => dkAcc (pairQ A (t.val / 65)) (pairK A (t.val / 65)) (pairV A (t.val / 65)) (pairG B (t.val / 65)) (t.val % 65) (j / 128) s (j % 128))
    (fun s j => dvAcc (pairQ A (t.val / 65)) (pairK A (t.val / 65)) (pairG B (t.val / 65)) (t.val % 65) (j / 128) s (j % 128)) S.1 S.2 hS.1 hS.2 s j

include hA hB hS in
theorem step_v (s : Fin 8320) (j : Fin 256) : ((ptT m c t S).2.2 (ix2 s j) : EReal)
    = (dvAcc (pairQ A (t.val / 65)) (pairK A (t.val / 65)) (pairG B (t.val / 65)) (t.val % 65 + 1) (j.val / 128) s.val (j.val % 128) : ℝ) := by
  rw [pt_eq, ← dvAcc_succ]
  exact end_v (t.val % 65) _ _ _ _ _ (pairQ A (t.val / 65)) (pairK A (t.val / 65)) (pairV A (t.val / 65)) (pairG B (t.val / 65))
    (q_val m c A hA t) (k_val m c A hA t) (v_val m c A hA t) (g_val m c B hB t) (s_val m c A hA t) (by omega)
    (fun s j => dkAcc (pairQ A (t.val / 65)) (pairK A (t.val / 65)) (pairV A (t.val / 65)) (pairG B (t.val / 65)) (t.val % 65) (j / 128) s (j % 128))
    (fun s j => dvAcc (pairQ A (t.val / 65)) (pairK A (t.val / 65)) (pairG B (t.val / 65)) (t.val % 65) (j / 128) s (j % 128)) S.1 S.2 hS.1 hS.2 s j

end Step

include hA hB in
theorem scr_is (n : ℕ) (hn : n < 260) : ScrIs A B n (scrIn m c n) := by
  induction n with
  | zero => exact zero_is A B 0 rfl
  | succ n ih =>
    by_cases h : (n + 1) % 65 = 0
    · rw [scrIn_first m c _ h]; exact zero_is A B _ h
    · have I := ih (by omega)
      rw [scrIn_succ m c (⟨n, by exact Nat.lt_of_succ_lt hn⟩ : Fin cfg0.N) h]
      have e1 : (n + 1) / 65 = n / 65 := by omega
      have e2 : (n + 1) % 65 = n % 65 + 1 := by omega
      unfold ScrIs
      rw [e1, e2]
      exact ⟨step_k m c A B hA hB ⟨n, by exact Nat.lt_of_succ_lt hn⟩ _ I, step_v m c A B hA hB ⟨n, by exact Nat.lt_of_succ_lt hn⟩ _ I⟩

end Values

end Cert.KernelIdeal.Hand

end
-- ==== Proof.Results.lean ====
module

public import proofs.«01_k».proof.Proof.Points

/-!
  The three results of the kernel over the extended reals, as the gradients of each head.
-/

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.Tactic
open Cert.ReferenceIdeal.Hand (colQ colK colV colG)

variable (m : (ℓ : Loc nD τ sig) → Buf (Elt Ideal) ℓ) (c : Dev nD)

variable (A B : ℕ → ℕ → ℝ)

/-- A result of the kernel as one array. -/
def resQ : (⟨S8320x1024, .bf16⟩ : BufTy).Contents (Elt Ideal) := fun i =>
  ((dqR (colQ A ((i 1).val / 128)) (colK A ((i 1).val / 128)) (colV A ((i 1).val / 128)) (colG B ((i 1).val / 128)) (i 0).val ((i 1).val % 128) : ℝ) : EReal)
def resK : (⟨S8320x1024, .bf16⟩ : BufTy).Contents (Elt Ideal) := fun i =>
  ((dkR (colQ A ((i 1).val / 128)) (colK A ((i 1).val / 128)) (colV A ((i 1).val / 128)) (colG B ((i 1).val / 128)) (i 0).val ((i 1).val % 128) : ℝ) : EReal)
def resV : (⟨S8320x1024, .bf16⟩ : BufTy).Contents (Elt Ideal) := fun i =>
  ((dvR (colQ A ((i 1).val / 128)) (colK A ((i 1).val / 128)) (colG B ((i 1).val / 128)) (i 0).val ((i 1).val % 128) : ℝ) : EReal)

/-- A block is a point's coordinates on its axes. -/
theorem eq2 {a b : ℕ} (y : (⟨2, ![a, b]⟩ : Shape).Idx) : y = ix2 (n0 := a) (n1 := b) (y 0) (y 1) := by
  funext d; match d with
  | 0 => rfl
  | 1 => rfl

theorem pay11_at (v : Vec Ideal S8320x256 .f32) (x : Fin 8320) (j : Fin 256) : (k0_pay11 v (ix2 x j) : EReal) = v (ix2 x j) := rfl
theorem pay12_at (v : Vec Ideal S8320x256 .f32) (x : Fin 8320) (j : Fin 256) : (k0_pay12 v (ix2 x j) : EReal) = v (ix2 x j) := rfl

/-- Where an element of a block of the first result lies. -/
theorem out6 (t : Fin cfg0.N) (x : Fin 128) (j : Fin 256) : ((win0_6.blk t).view.emb (ix2 x j) 0).val = 128 * (t.val % 65) + x.val
    ∧ ((win0_6.blk t).view.emb (ix2 x j) 1).val = 256 * (t.val / 65) + j.val := by
  have e := where_out t
  refine ⟨?_, ?_⟩ <;> blk_simp [e] <;> omega

theorem out7 (t : Fin cfg0.N) (s : Fin 8320) (j : Fin 256) : ((win0_7.blk t).view.emb (ix2 s j) 0).val = s.val
    ∧ ((win0_7.blk t).view.emb (ix2 s j) 1).val = 256 * (t.val / 65) + j.val := by
  have e := where_out t
  refine ⟨?_, ?_⟩ <;> (blk_simp [e]; try omega)

theorem out8 (t : Fin cfg0.N) (s : Fin 8320) (j : Fin 256) : ((win0_8.blk t).view.emb (ix2 s j) 0).val = s.val
    ∧ ((win0_8.blk t).view.emb (ix2 s j) 1).val = 256 * (t.val / 65) + j.val := by
  have e := where_out t
  refine ⟨?_, ?_⟩ <;> (blk_simp [e]; try omega)

variable (hA : ∀ i : S8320x11264.Idx, 4096 ≤ (i 1).val → (i 1).val < 7168 → (argA m c i : EReal) = (A (i 0).val (i 1).val : ℝ))
variable (hB : ∀ i : S8320x1024.Idx, (argB m c i : EReal) = (B (i 0).val (i 1).val : ℝ))

include hA hB in
theorem final_q : (dats m 0 c).arrAt 6 (cfgs 0).N = resQ A B := by
  refine (dats m 0 c).arrAt_eq_of_covers 6 _ (by decide +kernel) fun t _ y => ?_
  blk_simp
  rw [after0_6]
  have hb := points t
  have key : ∀ (x : Fin 128) (j : Fin 256), dqBlk (ptFin m c t).1 (ix2 x j) = resQ A B ((win0_6.blk t).view.emb (ix2 x j)) := by
    intro x j
    obtain ⟨e0, e1⟩ := out6 t x j
    have hj := j.isLt
    refine (step_dq m c A B hA hB t _ (scr_is m c A B hA hB t.val hb) x j).trans ?_
    unfold resQ
    rw [e0, e1, show (256 * (t.val / 65) + j.val) / 128 = 2 * (t.val / 65) + j.val / 128 by omega, show (256 * (t.val / 65) + j.val) % 128 = j.val % 128 by omega]
    rfl
  have hy := eq2 (a := 128) (b := 256) y
  rw [hy]
  exact key _ _

include hA hB in
theorem final_k : (dats m 0 c).arrAt 7 (cfgs 0).N = resK A B := by
  refine (dats m 0 c).arrAt_eq_of_covers 7 _ (by decide +kernel) fun t hf y => ?_
  blk_simp
  rw [after0_7]
  have hb := points t
  have hl : t.val % 65 = 64 := (flush0_7 t).mp hf
  have key : ∀ (x : Fin 8320) (j : Fin 256), k0_pay11 (ptFin m c t).2.1 (ix2 x j) = resK A B ((win0_7.blk t).view.emb (ix2 x j)) := by
    intro x j
    obtain ⟨e0, e1⟩ := out7 t x j
    have hj := j.isLt
    have e := step_k m c A B hA hB t (scrIn m c t.val) (scr_is m c A B hA hB t.val hb) x j
    have hp : ptFin m c t = ptT m c t (scrIn m c t.val) := rfl
    rw [← hp] at e
    generalize (ptFin m c t).2.1 = u at e ⊢
    refine ((pay11_at u x j).trans e).trans ?_
    clear e
    unfold resK
    rw [e0, e1, hl, dkAcc_all, show (256 * (t.val / 65) + j.val) / 128 = 2 * (t.val / 65) + j.val / 128 by omega, show (256 * (t.val / 65) + j.val) % 128 = j.val % 128 by omega]
    rfl
  have hy := eq2 (a := 8320) (b := 256) y
  rw [hy]
  exact key _ _

include hA hB in
theorem final_v : (dats m 0 c).arrAt 8 (cfgs 0).N = resV A B := by
  refine (dats m 0 c).arrAt_eq_of_covers 8 _ (by decide +kernel) fun t hf y => ?_
  blk_simp
  rw [after0_8]
  have hb := points t
  have hl : t.val % 65 = 64 := (flush0_8 t).mp hf
  have key : ∀ (x : Fin 8320) (j : Fin 256), k0_pay12 (ptFin m c t).2.2 (ix2 x j) = resV A B ((win0_8.blk t).view.emb (ix2 x j)) := by
    intro x j
    obtain ⟨e0, e1⟩ := out8 t x j
    have hj := j.isLt
    have e := step_v m c A B hA hB t (scrIn m c t.val) (scr_is m c A B hA hB t.val hb) x j
    have hp : ptFin m c t = ptT m c t (scrIn m c t.val) := rfl
    rw [← hp] at e
    generalize (ptFin m c t).2.2 = u at e ⊢
    refine ((pay12_at u x j).trans e).trans ?_
    clear e
    unfold resV
    rw [e0, e1, hl, dvAcc_all, show (256 * (t.val / 65) + j.val) / 128 = 2 * (t.val / 65) + j.val / 128 by omega, show (256 * (t.val / 65) + j.val) % 128 = j.val % 128 by omega]
    rfl
  have hy := eq2 (a := 8320) (b := 256) y
  rw [hy]
  exact key _ _

end Cert.KernelIdeal.Hand

end
-- ==== Proof.Finite.lean ====
module

public import proofs.«01_k».proof.Pre_finite
public import Idealize.ShloMosaic.Lib.ReduceAll
public import Idealize.ShloMosaic.Lib.IdealHost

/-!
  What the precondition `finite` says over the extended reals: the elements it speaks of are real numbers.
-/

@[expose] public section

noncomputable section

namespace Cert.Pre_finite.Hand

open Cert.Pre_finite
open Idealize.ShloMosaic

/-- A number whose difference with itself is zero is real. -/
theorem real_of_sub (x : EReal) (h : x - x = 0) : x = (x.toReal : EReal) := by
  induction x with
  | bot => exact absurd h (by decide)
  | top => exact absurd h (by decide)
  | coe r => rfl

theorem real_of_bit (x : EReal) (h : (Scalar.cmpf (F := Ideal) (φ := .f32) .oeq (x - x : EReal) (Ideal.ofBits .f32 0x00000000#32 : EReal) : BitVec 1) = 1#1) : x = (x.toReal : EReal) := by
  have z : (Ideal.ofBits .f32 0x00000000#32 : EReal) = 0 := by simp [Ideal.ofBits, Ideal.ieee]
  rw [z] at h
  refine real_of_sub x ?_
  by_contra hne
  revert h
  show ¬ (BitVec.ofBool (decide (x - x = 0)) : BitVec 1) = 1#1
  rw [decide_eq_false hne]; decide

variable [Facts] (x0 : FVec Ideal S8320x11264 .bf16) (x1 : FVec Ideal S8320x1024 .f32) (h : fn (F := Ideal) x0 x1 = fun _ => 1#1)

instance : Subsingleton S_.Idx := ⟨fun a b => funext fun d => d.elim0⟩

include h in
theorem both : Host.reduce IntOp.andi (cmpf (F := Ideal) .oeq (subf (extf .f32 (extractStridedSlice S8320x3072 ![0, 4096] x0 Facts.slices_S8320x11264_S8320x3072_0_4096) Facts.bitsLt_bf16_f32)
      (extf .f32 (extractStridedSlice S8320x3072 ![0, 4096] x0 Facts.slices_S8320x11264_S8320x3072_0_4096) Facts.bitsLt_bf16_f32))
      (broadcastInDim S8320x3072 ![] Facts.bcast_S_S8320x3072 (constant (F := Ideal) S_ .f32 0x00000000#32))) (constantI S_ 1 1#1) Facts.reducesTo_S8320x3072_S_d0_1 Facts.h_S_ (fun d => d.elim0) = 1#1
    ∧ Host.reduce IntOp.andi (cmpf (F := Ideal) .oeq (subf x1 x1) (broadcastInDim S8320x1024 ![] Facts.bcast_S_S8320x1024 (constant (F := Ideal) S_ .f32 0x00000000#32))) (constantI S_ 1 1#1)
      Facts.reducesTo_S8320x1024_S_d0_1 Facts.h_S_ (fun d => d.elim0) = 1#1 := by
  have e := congrFun h (fun d => d.elim0)
  exact ((show ∀ a b : BitVec 1, a &&& b = 1#1 → a = 1#1 ∧ b = 1#1 by decide) _ _ e)

include h in
theorem real0 (i : S8320x11264.Idx) (h0 : 4096 ≤ (i 1).val) (h1 : (i 1).val < 7168) : (x0 i : EReal) = ((x0 i : EReal).toReal : EReal) := by
  have e := Host.reduce_andi_all _ _ _ _ _ (both x0 x1 h).1 (ValueIdx.ix2 (i 0 : Fin 8320) (⟨(i 1).val - 4096, by omega⟩ : Fin 3072))
  refine real_of_bit (x0 i) (Eq.trans ?_ e)
  have hi : i = (fun a => ⟨(![0, 4096] : Fin 2 → ℕ) a + ((ValueIdx.ix2 (i 0 : Fin 8320) (⟨(i 1).val - 4096, by omega⟩ : Fin 3072)) a).val, by
      match a with
      | 0 => exact (by show 0 + (i 0).val < 8320; have h2 : (i 0).val < 8320 := (i 0).isLt; omega)
      | 1 => exact (by show 4096 + ((i 1).val - 4096) < 11264; omega)⟩ : S8320x11264.Idx) := by
    funext a; apply Fin.ext
    match a with
    | 0 => show (i 0).val = 0 + (i 0).val; omega
    | 1 => show (i 1).val = 4096 + ((i 1).val - 4096); omega
  conv_lhs => rw [hi]
  rfl

include h in
theorem real1 (i : S8320x1024.Idx) : (x1 i : EReal) = ((x1 i : EReal).toReal : EReal) := by
  have e := Host.reduce_andi_all _ _ _ _ _ (both x0 x1 h).2 i
  exact real_of_bit (x1 i) e

end Cert.Pre_finite.Hand

end
-- ==== Proof.Gates.lean ====
module

public import proofs.«01_k».proof.Proof.Gen.Kernel6Ideal.Value
public import proofs.«01_k».proof.Proof.Gen.Reference6Ideal.Run
public import Idealize.ShloMosaic.Lib.Pipeline.ValueKit

/-!
  The gated product of the feed forward and the two factors that the backward pass needs: the kernel's
  formula for the derivative of the gate is the reference's.
-/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic Idealize.SL.Sem

/-- The product of the input with one of the two weights. -/
abbrev prod (h : FVec Ideal S8320x2048 .f32) (g : FVec Ideal S8x2048x704 .bf16) : FVec Ideal Cert.Reference6Ideal.S8320x5632 .f32 :=
  Host.dotGeneral Cert.Reference6Ideal.dot_S8320x2048_S2048x5632_S8320x5632_1_0_0_1_n_n none h
    (shapeCast Cert.Reference6Ideal.S2048x5632 (transpose Cert.Reference6Ideal.S2048x8x704 [1, 0, 2] (extf .f32 g Cert.Reference6Ideal.Gen.bitsLt_bf16_f32) Cert.Reference6Ideal.Gen.transposes_S8x2048x704_S2048x8x704_1_0_2) Cert.Reference6Ideal.Gen.shapeCasts_S2048x8x704_S2048x5632)
abbrev ones : FVec Ideal Cert.Reference6Ideal.S8320x5632 .f32 :=
  broadcastInDim Cert.Reference6Ideal.S8320x5632 ![] Cert.Reference6Ideal.Gen.bcast_S_S8320x5632 (constant Cert.Reference6Ideal.S_ .f32 0x3F800000#32)
abbrev sigm (x : FVec Ideal Cert.Reference6Ideal.S8320x5632 .f32) : FVec Ideal Cert.Reference6Ideal.S8320x5632 .f32 :=
  Host.divf ones (addf ones (Host.exp (Host.negf x)))
/-- The stacked layout of the parts of the width. -/
abbrev stack (x : FVec Ideal Cert.Reference6Ideal.S8320x5632 .f32) : FVec Ideal S8x8320x704 .f32 :=
  transpose Cert.Reference6Ideal.S8x8320x704 [1, 0, 2] (shapeCast Cert.Reference6Ideal.S8320x8x704 x Cert.Reference6Ideal.Gen.shapeCasts_S8320x5632_S8320x8x704) Cert.Reference6Ideal.Gen.transposes_S8320x8x704_S8x8320x704_1_0_2

/-- The reference's three results. -/
abbrev resA (h : FVec Ideal S8320x2048 .f32) (g u : FVec Ideal S8x2048x704 .bf16) : FVec Ideal S8x8320x704 .f32 :=
  stack (addf (mulf (mulf ones (prod h u)) (sigm (prod h g))) (mulf (mulf (prod h g) (mulf ones (prod h u))) (mulf (sigm (prod h g)) (subf ones (sigm (prod h g))))))
abbrev resB (h : FVec Ideal S8320x2048 .f32) (g u : FVec Ideal S8x2048x704 .bf16) : FVec Ideal S8x8320x704 .f32 :=
  stack (mulf (mulf (prod h g) (sigm (prod h g))) ones)
abbrev resS (h : FVec Ideal S8320x2048 .f32) (g u : FVec Ideal S8x2048x704 .bf16) : FVec Ideal S8x8320x704 .bf16 :=
  truncf .bf16 (stack (mulf (mulf (prod h g) (sigm (prod h g))) (prod h u))) Cert.Reference6Ideal.Gen.bitsLt_bf16_f32

/-- An entry of a product. -/
def entry (h : FVec Ideal S8320x2048 .f32) (g : FVec Ideal S8x2048x704 .bf16) (y : S8x8320x704.Idx) : EReal :=
  ∑ k : Fin 2048, h (ix2 (y 1) k) * g (ix3 (y 0) k (y 2))

def sg (x : EReal) : EReal := Ideal.div 1 (1 + Ideal.exp (-x))

theorem resA_at (h : FVec Ideal S8320x2048 .f32) (g u : FVec Ideal S8x2048x704 .bf16) (y : S8x8320x704.Idx) :
    resA h g u y = entry h u y * sg (entry h g y) + entry h g y * entry h u y * (sg (entry h g y) * (1 - sg (entry h g y))) := by
  pointwise [resA, entry, sg]

/-- The sigmoid at a number, and at the two infinities. -/
theorem sg_real (r : ℝ) : sg (r : EReal) = ((1 / (1 + Real.exp (-r)) : ℝ) : EReal) := by
  have h : (1 : EReal) + ((Real.exp (-r) : ℝ) : EReal) = ((1 + Real.exp (-r) : ℝ) : EReal) := (EReal.coe_add _ _).symm
  have hp : (0 : ℝ) < 1 + Real.exp (-r) := by positivity
  rw [sg, ← EReal.coe_neg, Ideal.exp_coe, h, Ideal.div, if_neg (by exact_mod_cast hp.ne'), ← EReal.coe_inv, one_div, one_mul]
theorem sg_bot : sg ⊥ = 0 := by
  have h : (1 : EReal) + ⊤ = ⊤ := EReal.add_top_of_ne_bot (by decide)
  simp [sg, Ideal.div, h]
theorem sg_top : sg ⊤ = 1 := by
  simp [sg, Ideal.div]

/-- The kernel's and the reference's formula for the derivative of the gate agree at a number `u` and at any `x`. -/
theorem gate_eq (u : ℝ) (x : EReal) : (u : EReal) * sg x * (1 + x * (1 - sg x)) = u * sg x + x * u * (sg x * (1 - sg x)) := by
  induction x with
  | bot => simp [sg_bot]
  | top => rw [sg_top, show (1 : EReal) - 1 = 0 from EReal.sub_self (by decide) (by decide)]; simp
  | coe r =>
    rw [sg_real]
    generalize 1 / (1 + Real.exp (-r)) = s
    norm_cast
    ring

/-- A sum of products of numbers is a number. -/
theorem entry_real (h : FVec Ideal S8320x2048 .f32) (g : FVec Ideal S8x2048x704 .bf16) (hh : ∀ i, (h i : EReal) = ((h i : EReal).toReal : EReal)) (hg : ∀ i, (g i : EReal) = ((g i : EReal).toReal : EReal))
    (y : S8x8320x704.Idx) : ∃ r : ℝ, entry h g y = (r : EReal) := by
  refine Finset.sum_induction _ (fun x : EReal => ∃ r : ℝ, x = (r : EReal)) ?_ ⟨0, rfl⟩ fun k _ => ?_
  · rintro _ _ ⟨a, rfl⟩ ⟨b, rfl⟩; exact ⟨a + b, (EReal.coe_add a b).symm⟩
  · exact ⟨_, (congrArg₂ (fun a b : EReal => a * b) (hh _) (hg _)).trans (EReal.coe_mul _ _).symm⟩

/-- What a grid point computes from its block of rows and its part of the two weights. -/
theorem point_a (x : FVec Ideal S640x2048 .bf16) (g u : FVec Ideal S1x2048x704 .bf16) (y : S1x640x704.Idx) :
    k0_pay6 (F := Ideal) x g x u y = (∑ k : Fin 2048, x (ix2 (y 1) k) * u (ix3 0 k (y 2))) * sg (∑ k : Fin 2048, x (ix2 (y 1) k) * g (ix3 0 k (y 2)))
      * (1 + (∑ k : Fin 2048, x (ix2 (y 1) k) * g (ix3 0 k (y 2))) * (1 - sg (∑ k : Fin 2048, x (ix2 (y 1) k) * g (ix3 0 k (y 2))))) := by
  pointwise [k0_pay6, k0_pay4, k0_pay3, k0_pay2, sg]
  simp only [zero_sub]

theorem place : ∀ t : Fin cfg0.N, win0_0.index t = ![t.val / 8, 0] ∧ win0_1.index t = ![t.val % 8, 0, 0] ∧ win0_2.index t = ![t.val % 8, 0, 0]
    ∧ win0_3.index t = ![t.val % 8, t.val / 8, 0] ∧ win0_4.index t = ![t.val % 8, t.val / 8, 0] ∧ win0_5.index t = ![t.val % 8, t.val / 8, 0] :=
  (by decide +kernel : ∀ t : Fin grid0.N, _)

variable (m : (ℓ : Loc nD τ sig) → Buf (Elt Ideal) ℓ)

abbrev aH (c : Dev nD) : FVec Ideal S8320x2048 .f32 := m ((c : Thread nD τ).loc main_arg0)
abbrev aG (c : Dev nD) : FVec Ideal S8x2048x704 .bf16 := m ((c : Thread nD τ).loc main_arg1)
abbrev aU (c : Dev nD) : FVec Ideal S8x2048x704 .bf16 := m ((c : Thread nD τ).loc main_arg2)

/-- The three arrays after the run. -/
theorem final_a (c : Dev nD) (hh : ∀ i, (aH m c i : EReal) = ((aH m c i : EReal).toReal : EReal)) (hu : ∀ i, (aU m c i : EReal) = ((aU m c i : EReal).toReal : EReal)) :
    (dats m 0 c).arrAt 3 (cfgs 0).N = resA (aH m c) (aG m c) (aU m c) := by
  refine (dats m 0 c).arrAt_eq_of_covers 3 _ (by decide +kernel) fun t _ y => ?_
  blk_simp
  rw [after0_3]
  frame_out
  refine Eq.trans ?_ (resA_at _ _ _ _).symm
  obtain ⟨r, hr⟩ := entry_real _ _ hh hu (((cfg0.win 3).blk t).view.emb y)
  rw [hr]
  refine Eq.trans ?_ (gate_eq r _)
  rw [← hr]
  refine (point_a _ _ _ _).trans ?_
  unfold entry
  blk_point [iblk, V, place t]

theorem final_b (c : Dev nD) : (dats m 0 c).arrAt 4 (cfgs 0).N = resB (aH m c) (aG m c) (aU m c) := by
  refine (dats m 0 c).arrAt_eq_of_covers 4 _ (by decide +kernel) fun t _ y => ?_
  blk_simp
  rw [after0_4]
  frame_out
  pointwise [k0_pay7, k0_pay5, k0_pay4, k0_pay2, resB]
  simp only [zero_sub]
  blk_point [iblk, V, place t]

theorem final_s (c : Dev nD) : (dats m 0 c).arrAt 5 (cfgs 0).N = resS (aH m c) (aG m c) (aU m c) := by
  refine (dats m 0 c).arrAt_eq_of_covers 5 _ (by decide +kernel) fun t _ y => ?_
  blk_simp
  rw [after0_5]
  frame_out
  pointwise [k0_pay1, k0_pay8, k0_pay5, k0_pay4, k0_pay3, k0_pay2, resS]
  simp only [zero_sub]
  blk_point [iblk, V, place t]

end Cert.Kernel6Ideal.Hand

end
-- ==== Proof.GradProduct.lean ====
module

public import proofs.«01_k».proof.Proof.Gen.Kernel2Ideal.Value
public import proofs.«01_k».proof.Proof.Gen.Reference2Ideal.Run
public import proofs.«01_k».proof.Proof.Gates
public import Idealize.ShloMosaic.Lib.Pipeline.ValueKit

/-!
  The gradients before the gate: the incoming gradient times w_down, times the two factors that the forward
  pass saved, are the reference's derivatives of the gated product.
-/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.SL.Sem
open Cert.Kernel6Ideal.Hand (sg sg_real sg_bot sg_top)

/-- The product of the input with one of the two weights. -/
abbrev prod (h : FVec Ideal S8320x2048 .f32) (g : FVec Ideal S8x2048x704 .bf16) : FVec Ideal Cert.Reference2Ideal.S8320x5632 .f32 :=
  Host.dotGeneral Cert.Reference2Ideal.dot_S8320x2048_S2048x5632_S8320x5632_1_0_0_1_n_n none h
    (shapeCast Cert.Reference2Ideal.S2048x5632 (transpose Cert.Reference2Ideal.S2048x8x704 [1, 0, 2] (extf .f32 g Cert.Reference2Ideal.Gen.bitsLt_bf16_f32) Cert.Reference2Ideal.Gen.transposes_S8x2048x704_S2048x8x704_1_0_2) Cert.Reference2Ideal.Gen.shapeCasts_S2048x8x704_S2048x5632)
/-- The product of the halved incoming gradient with w_down. -/
abbrev down (w : FVec Ideal S8x704x2048 .bf16) (d : FVec Ideal S8320x2048 .f32) : FVec Ideal Cert.Reference2Ideal.S8320x5632 .f32 :=
  Host.dotGeneral Cert.Reference2Ideal.dot_S8320x2048_S5632x2048_S8320x5632_1_1_0_0_n_n none
    (mulf (broadcastInDim Cert.Reference2Ideal.S8320x2048 ![] Cert.Reference2Ideal.Gen.bcast_S_S8320x2048 (constant Cert.Reference2Ideal.S_ .f32 0x3F000000#32)) d)
    (shapeCast Cert.Reference2Ideal.S5632x2048 (extf .f32 w Cert.Reference2Ideal.Gen.bitsLt_bf16_f32) Cert.Reference2Ideal.Gen.shapeCasts_S8x704x2048_S5632x2048)
abbrev ones : FVec Ideal Cert.Reference2Ideal.S8320x5632 .f32 :=
  broadcastInDim Cert.Reference2Ideal.S8320x5632 ![] Cert.Reference2Ideal.Gen.bcast_S_S8320x5632 (constant Cert.Reference2Ideal.S_ .f32 0x3F800000#32)
abbrev sigm (x : FVec Ideal Cert.Reference2Ideal.S8320x5632 .f32) : FVec Ideal Cert.Reference2Ideal.S8320x5632 .f32 :=
  Host.divf ones (addf ones (Host.exp (Host.negf x)))
/-- The stacked layout of the parts of the width, in bf16. -/
abbrev stack (x : FVec Ideal Cert.Reference2Ideal.S8320x5632 .f32) : FVec Ideal S8x8320x704 .bf16 :=
  truncf .bf16 (transpose Cert.Reference2Ideal.S8x8320x704 [1, 0, 2] (shapeCast Cert.Reference2Ideal.S8320x8x704 x Cert.Reference2Ideal.Gen.shapeCasts_S8320x5632_S8320x8x704) Cert.Reference2Ideal.Gen.transposes_S8320x8x704_S8x8320x704_1_0_2) Cert.Reference2Ideal.Gen.bitsLt_bf16_f32

/-- The reference's two results. -/
abbrev resA (h : FVec Ideal S8320x2048 .f32) (g u : FVec Ideal S8x2048x704 .bf16) (w : FVec Ideal S8x704x2048 .bf16) (d : FVec Ideal S8320x2048 .f32) : FVec Ideal S8x8320x704 .bf16 :=
  stack (addf (mulf (mulf (down w d) (prod h u)) (sigm (prod h g))) (mulf (mulf (prod h g) (mulf (down w d) (prod h u))) (mulf (sigm (prod h g)) (subf ones (sigm (prod h g))))))
abbrev resB (h : FVec Ideal S8320x2048 .f32) (g : FVec Ideal S8x2048x704 .bf16) (w : FVec Ideal S8x704x2048 .bf16) (d : FVec Ideal S8320x2048 .f32) : FVec Ideal S8x8320x704 .bf16 :=
  stack (mulf (mulf (prod h g) (sigm (prod h g))) (down w d))

/-- An entry of a product, and of the gradient of the gated product. -/
def entry (h : FVec Ideal S8320x2048 .f32) (g : FVec Ideal S8x2048x704 .bf16) (y : S8x8320x704.Idx) : EReal :=
  ∑ k : Fin 2048, h (ix2 (y 1) k) * g (ix3 (y 0) k (y 2))
def back (w : FVec Ideal S8x704x2048 .bf16) (d : FVec Ideal S8320x2048 .f32) (y : S8x8320x704.Idx) : EReal :=
  ∑ k : Fin 2048, Ideal.ofBits .f32 0x3F000000#32 * d (ix2 (y 1) k) * w (ix3 (y 0) (y 2) k)

theorem resA_at (h : FVec Ideal S8320x2048 .f32) (g u : FVec Ideal S8x2048x704 .bf16) (w : FVec Ideal S8x704x2048 .bf16) (d : FVec Ideal S8320x2048 .f32) (y : S8x8320x704.Idx) :
    resA h g u w d y = back w d y * entry h u y * sg (entry h g y) + entry h g y * (back w d y * entry h u y) * (sg (entry h g y) * (1 - sg (entry h g y))) := by
  pointwise [resA, entry, back, sg]
theorem resB_at (h : FVec Ideal S8320x2048 .f32) (g : FVec Ideal S8x2048x704 .bf16) (w : FVec Ideal S8x704x2048 .bf16) (d : FVec Ideal S8320x2048 .f32) (y : S8x8320x704.Idx) :
    resB h g w d y = entry h g y * sg (entry h g y) * back w d y := by
  pointwise [resB, entry, back, sg]

/-- The gradient distributes over the two terms of the gate's derivative, at numbers `b` and `u` and at any `x`. -/
theorem gate_eq (b u : ℝ) (x : EReal) : (b : EReal) * (u * sg x + x * u * (sg x * (1 - sg x))) = b * u * sg x + x * (b * u) * (sg x * (1 - sg x)) := by
  induction x with
  | bot => simp [sg_bot]
  | top => rw [sg_top, show (1 : EReal) - 1 = 0 from EReal.sub_self (by decide) (by decide)]; simp
  | coe r =>
    rw [sg_real]
    generalize 1 / (1 + Real.exp (-r)) = s
    norm_cast
    ring

theorem sum_real {n : ℕ} (f : Fin n → EReal) (hf : ∀ k, ∃ r : ℝ, f k = (r : EReal)) : ∃ r : ℝ, ∑ k, f k = (r : EReal) := by
  refine Finset.sum_induction _ (fun x : EReal => ∃ r : ℝ, x = (r : EReal)) ?_ ⟨0, rfl⟩ fun k _ => hf k
  rintro _ _ ⟨a, rfl⟩ ⟨b, rfl⟩; exact ⟨a + b, (EReal.coe_add a b).symm⟩

theorem entry_real (h : FVec Ideal S8320x2048 .f32) (g : FVec Ideal S8x2048x704 .bf16) (hh : ∀ i, (h i : EReal) = ((h i : EReal).toReal : EReal)) (hg : ∀ i, (g i : EReal) = ((g i : EReal).toReal : EReal))
    (y : S8x8320x704.Idx) : ∃ r : ℝ, entry h g y = (r : EReal) :=
  sum_real _ fun k => ⟨_, (congrArg₂ (fun a b : EReal => a * b) (hh _) (hg _)).trans (EReal.coe_mul _ _).symm⟩

theorem half_real : ∃ r : ℝ, Ideal.ofBits .f32 0x3F000000#32 = (r : EReal) := ⟨_, by simp [Ideal.ofBits, Ideal.ieee]; rfl⟩

theorem back_real (w : FVec Ideal S8x704x2048 .bf16) (d : FVec Ideal S8320x2048 .f32) (hw : ∀ i, (w i : EReal) = ((w i : EReal).toReal : EReal)) (hd : ∀ i, (d i : EReal) = ((d i : EReal).toReal : EReal))
    (y : S8x8320x704.Idx) : ∃ r : ℝ, back w d y = (r : EReal) := by
  obtain ⟨s, hs⟩ := half_real
  refine sum_real _ fun k => ⟨s * (d (ix2 (y 1) k) : EReal).toReal * (w (ix3 (y 0) (y 2) k) : EReal).toReal, ?_⟩
  rw [hs]
  refine (congrArg₂ (fun a b : EReal => s * a * b) (hd _) (hw _)).trans ?_
  rw [EReal.coe_mul, EReal.coe_mul]

theorem place : ∀ t : Fin cfg0.N, win0_0.index t = ![t.val / 4, 0] ∧ win0_1.index t = ![t.val % 4, 0, 0] ∧ win0_2.index t = ![t.val % 4, t.val / 4, 0]
    ∧ win0_3.index t = ![t.val % 4, t.val / 4, 0] ∧ win0_4.index t = ![t.val % 4, t.val / 4, 0] ∧ win0_5.index t = ![t.val % 4, t.val / 4, 0] :=
  (by decide +kernel : ∀ t : Fin grid0.N, _)

variable (m : (ℓ : Loc nD τ sig) → Buf (Elt Ideal) ℓ)

abbrev aH (c : Dev nD) : FVec Ideal S8320x2048 .f32 := m ((c : Thread nD τ).loc main_arg0)
abbrev aG (c : Dev nD) : FVec Ideal S8x2048x704 .bf16 := m ((c : Thread nD τ).loc main_arg1)
abbrev aU (c : Dev nD) : FVec Ideal S8x2048x704 .bf16 := m ((c : Thread nD τ).loc main_arg2)
abbrev aW (c : Dev nD) : FVec Ideal S8x704x2048 .bf16 := m ((c : Thread nD τ).loc main_arg3)
abbrev aD (c : Dev nD) : FVec Ideal S8320x2048 .f32 := m ((c : Thread nD τ).loc main_arg4)

/-- What the host computes before the kernel, over whole arrays. -/
abbrev hostProd (h : FVec Ideal S8320x2048 .f32) (g : FVec Ideal S8x2048x704 .bf16) : FVec Ideal S8x8320x704 .f32 :=
  transpose S8x8320x704 [0, 2, 1] (Host.dotGeneral dot_S8x2048x704_S8320x2048_S8x704x8320_1_1_02_0_n_n none (extf .f32 g bitsLt_bf16_f32) h) transposes_S8x704x8320_S8x8320x704_0_2_1
abbrev hostOnes : FVec Ideal S8x8320x704 .f32 := broadcastInDim S8x8320x704 ![] bcast_S_S8x8320x704 (constant S_ .f32 0x3F800000#32)
abbrev hostSigm (x : FVec Ideal S8x8320x704 .f32) : FVec Ideal S8x8320x704 .f32 := Host.divf hostOnes (addf hostOnes (Host.exp (Host.negf x)))

theorem read_a (c : Dev nD) : V m c main_v7 = addf (mulf (hostProd (aH m c) (aU m c)) (hostSigm (hostProd (aH m c) (aG m c))))
    (mulf (mulf (hostProd (aH m c) (aG m c)) (hostProd (aH m c) (aU m c))) (mulf (hostSigm (hostProd (aH m c) (aG m c))) (subf hostOnes (hostSigm (hostProd (aH m c) (aG m c)))))) := by
  show StableHlo.after (List.flatten [hostOps0, hostOps0_1, hostOps0_2, hostOps0_3]) (fun b => m (c, b)) (Proc.devRef .tc main_v7) = _
  simp only [List.flatten_cons, List.flatten_nil, List.append_nil, List.cons_append, List.nil_append, hostOps0, hostOps0_1, hostOps0_2, hostOps0_3,
    StableHlo.TRef.binary, StableHlo.TRef.nullary, StableHlo.TRef.unary, StableHlo.TRef.toBuf, StableHlo.TRef.ofBuf, cast_eq]
  after_results_simp
theorem read_b (c : Dev nD) : V m c main_v6_0 = mulf (hostProd (aH m c) (aG m c)) (hostSigm (hostProd (aH m c) (aG m c))) := by
  show StableHlo.after (List.flatten [hostOps0, hostOps0_1, hostOps0_2, hostOps0_3]) (fun b => m (c, b)) (Proc.devRef .tc main_v6_0) = _
  simp only [List.flatten_cons, List.flatten_nil, List.append_nil, List.cons_append, List.nil_append, hostOps0, hostOps0_1, hostOps0_2, hostOps0_3,
    StableHlo.TRef.binary, StableHlo.TRef.nullary, StableHlo.TRef.unary, StableHlo.TRef.toBuf, StableHlo.TRef.ofBuf, cast_eq]
  after_results_simp
theorem read_half (c : Dev nD) : V m c main_v10 = truncf .bf16 (mulf (broadcastInDim S8320x2048 ![] bcast_S_S8320x2048 (constant S_ .f32 0x3F000000#32)) (aD m c)) bitsLt_bf16_f32 := by
  show StableHlo.after (List.flatten [hostOps0, hostOps0_1, hostOps0_2, hostOps0_3]) (fun b => m (c, b)) (Proc.devRef .tc main_v10) = _
  simp only [List.flatten_cons, List.flatten_nil, List.append_nil, List.cons_append, List.nil_append, hostOps0, hostOps0_1, hostOps0_2, hostOps0_3,
    StableHlo.TRef.binary, StableHlo.TRef.nullary, StableHlo.TRef.unary, StableHlo.TRef.toBuf, StableHlo.TRef.ofBuf, cast_eq]
  after_results_simp

theorem hostProd_at (h : FVec Ideal S8320x2048 .f32) (g : FVec Ideal S8x2048x704 .bf16) (y : S8x8320x704.Idx) : hostProd h g y = entry h g y := by
  pointwise [hostProd, entry]
  exact Finset.sum_congr rfl fun x _ => mul_comm _ _

/-- An entry of the two saved factors and of the halved gradient. -/
theorem saved_a (c : Dev nD) : V m c main_v7 = (fun y => entry (aH m c) (aU m c) y * sg (entry (aH m c) (aG m c) y)
    + entry (aH m c) (aG m c) y * entry (aH m c) (aU m c) y * (sg (entry (aH m c) (aG m c) y) * (1 - sg (entry (aH m c) (aG m c) y))) : FVec Ideal S8x8320x704 .f32) := by
  rw [read_a]
  funext y
  rw [← hostProd_at, ← hostProd_at]
  generalize hostProd (aH m c) (aU m c) = u
  generalize hostProd (aH m c) (aG m c) = x
  pointwise [sg]

theorem saved_b (c : Dev nD) : V m c main_v6_0 = (fun y => entry (aH m c) (aG m c) y * sg (entry (aH m c) (aG m c) y) : FVec Ideal S8x8320x704 .f32) := by
  rw [read_b]
  funext y
  rw [← hostProd_at]
  generalize hostProd (aH m c) (aG m c) = x
  pointwise [sg]

theorem half_at (c : Dev nD) : V m c main_v10 = (fun i => Ideal.ofBits .f32 0x3F000000#32 * aD m c i : FVec Ideal S8320x2048 .bf16) := by
  rw [read_half]
  funext i
  pointwise

/-- An entry of the kernel's two results at a grid point, from its blocks. -/
theorem out4_at (x : FVec Ideal S640x2048 .bf16) (w : FVec Ideal S2x704x2048 .bf16) (a b : FVec Ideal S2x640x704 .f32) (y : S2x640x704.Idx) :
    out0_4 (F := Ideal) x w a b y = (∑ k : Fin 2048, x (ix2 (y 1) k) * w (ix3 (y 0) (y 2) k)) * a (ix3 (y 0) (y 1) (y 2)) := by
  unfold out0_4
  canon_tiles z h
  · pointwise [k0_pay1, k0_pay8, k0_pay7, k0_pay3]
    blk_point []
  · pointwise [k0_pay5, k0_pay4, k0_pay3]
    blk_point []
theorem out5_at (x : FVec Ideal S640x2048 .bf16) (w : FVec Ideal S2x704x2048 .bf16) (a b : FVec Ideal S2x640x704 .f32) (y : S2x640x704.Idx) :
    out0_5 (F := Ideal) x w a b y = (∑ k : Fin 2048, x (ix2 (y 1) k) * w (ix3 (y 0) (y 2) k)) * b (ix3 (y 0) (y 1) (y 2)) := by
  unfold out0_5
  canon_tiles z h
  · pointwise [k0_pay2, k0_pay7, k0_pay3]
    blk_point []
  · pointwise [k0_pay6, k0_pay4, k0_pay3]
    blk_point []

/-- What the kernel's product is at an entry of the array. -/
theorem back_at (c : Dev nD) (t : Fin cfg0.N) (y : S2x640x704.Idx) (i : S8x8320x704.Idx) (h0 : (i 0 : ℕ) = t.val % 4 * 2 + (y 0 : ℕ)) (h1 : (i 1 : ℕ) = t.val / 4 * 640 + (y 1 : ℕ)) (h2 : (i 2 : ℕ) = (y 2 : ℕ)) :
    (∑ k : Fin 2048, (show FVec Ideal S640x2048 .bf16 from iblk m c 0 t) (ix2 (y 1) k) * (show FVec Ideal S2x704x2048 .bf16 from iblk m c 1 t) (ix3 (y 0) (y 2) k) : EReal)
      = back (aW m c) (aD m c) i := by
  unfold back
  refine Finset.sum_congr rfl fun k _ => ?_
  refine congrArg₂ (fun a b : EReal => a * b) ?_ ?_
  · blk_simp [iblk]
    rw [half_at]
    refine congrArg (fun i => Ideal.ofBits .f32 0x3F000000#32 * aD m c i) ?_
    blk_ext [place t]
  · blk_ext [iblk, V, place t]

/-- The two arrays after the run. -/
theorem final_a (c : Dev nD) (hh : ∀ i, (aH m c i : EReal) = ((aH m c i : EReal).toReal : EReal)) (hu : ∀ i, (aU m c i : EReal) = ((aU m c i : EReal).toReal : EReal))
    (hw : ∀ i, (aW m c i : EReal) = ((aW m c i : EReal).toReal : EReal)) (hd : ∀ i, (aD m c i : EReal) = ((aD m c i : EReal).toReal : EReal)) :
    (dats m 0 c).arrAt 4 (cfgs 0).N = resA (aH m c) (aG m c) (aU m c) (aW m c) (aD m c) := by
  refine (dats m 0 c).arrAt_eq_of_covers 4 _ (by decide +kernel) fun t _ y => ?_
  blk_simp
  rw [after0_4]
  refine Eq.trans ?_ (resA_at _ _ _ _ _ _).symm
  obtain ⟨u, hu⟩ := entry_real _ _ hh hu (((cfg0.win 4).blk t).view.emb y)
  obtain ⟨b, hb⟩ := back_real _ _ hw hd (((cfg0.win 4).blk t).view.emb y)
  rw [hu, hb]
  refine Eq.trans ?_ (gate_eq b u _)
  rw [← hu, ← hb]
  refine (out4_at _ _ _ _ _).trans ?_
  refine congrArg₂ (fun a b : EReal => a * b) (back_at m c t y _ ?_ ?_ ?_) ?_
  any_goals (blk_simp [place t] <;> try omega)
  blk_simp [iblk]
  rw [saved_a]
  refine congrArg (fun i => entry (aH m c) (aU m c) i * sg (entry (aH m c) (aG m c) i) + entry (aH m c) (aG m c) i * entry (aH m c) (aU m c) i * (sg (entry (aH m c) (aG m c) i) * (1 - sg (entry (aH m c) (aG m c) i)))) ?_
  blk_ext [place t]

theorem final_b (c : Dev nD) : (dats m 0 c).arrAt 5 (cfgs 0).N = resB (aH m c) (aG m c) (aW m c) (aD m c) := by
  refine (dats m 0 c).arrAt_eq_of_covers 5 _ (by decide +kernel) fun t _ y => ?_
  blk_simp
  rw [after0_5]
  refine Eq.trans ?_ (resB_at _ _ _ _ _).symm
  refine (out5_at _ _ _ _ _).trans ((mul_comm _ _).trans ?_)
  refine congrArg₂ (fun a b : EReal => a * b) ?_ (back_at m c t y _ ?_ ?_ ?_)
  any_goals (blk_simp [place t])
  blk_simp [iblk]
  rw [saved_b]
  refine congrArg (fun i => entry (aH m c) (aG m c) i * sg (entry (aH m c) (aG m c) i)) ?_
  blk_ext [place t]

end Cert.Kernel2Ideal.Hand

end
-- ==== Proof.GradDown.lean ====
module

public import proofs.«01_k».proof.Proof.Gen.Kernel3Ideal.Value
public import proofs.«01_k».proof.Proof.Gen.Reference3Ideal.Run
public import Idealize.ShloMosaic.Lib.Pipeline.ValueKit

/-!
  The gradient of the weight of the feed forward's second layer: the blocks of rows that the kernel adds up
  one after the other are the whole product.
-/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic Idealize.SL.Sem

/-- The reference's result, of the gated product and of the incoming gradient. -/
abbrev grad (s : FVec Ideal S8x8320x704 .bf16) (d : FVec Ideal S8320x2048 .f32) : FVec Ideal S8x704x2048 .bf16 :=
  truncf .bf16 (shapeCast Cert.Reference3Ideal.S8x704x2048 (transpose Cert.Reference3Ideal.S5632x2048 [1, 0]
    (Host.dotGeneral Cert.Reference3Ideal.dot_S8320x2048_S8320x5632_S2048x5632_0_0_1_1_n_n none
      (mulf (broadcastInDim Cert.Reference3Ideal.S8320x2048 ![] Cert.Reference3Ideal.Gen.bcast_S_S8320x2048 (constant Cert.Reference3Ideal.S_ .f32 0x3F000000#32)) d)
      (shapeCast Cert.Reference3Ideal.S8320x5632 (transpose Cert.Reference3Ideal.S8320x8x704 [1, 0, 2]
        (extf .f32 s Cert.Reference3Ideal.Gen.bitsLt_bf16_f32) Cert.Reference3Ideal.Gen.transposes_S8x8320x704_S8320x8x704_1_0_2)
        Cert.Reference3Ideal.Gen.shapeCasts_S8320x8x704_S8320x5632)) Cert.Reference3Ideal.Gen.transposes_S2048x5632_S5632x2048_1_0)
    Cert.Reference3Ideal.Gen.shapeCasts_S5632x2048_S8x704x2048) Cert.Reference3Ideal.Gen.bitsLt_bf16_f32

/-- An entry of it is a sum over all rows. -/
theorem grad_at (s : FVec Ideal S8x8320x704 .bf16) (d : FVec Ideal S8320x2048 .f32) (y : S8x704x2048.Idx) :
    grad s d y = ∑ l : Fin 8320, s (ix3 (y 0) l (y 1)) * (Ideal.ofBits .f32 0x3F000000#32 * d (ix2 l (y 2))) := by
  pointwise [grad]
  exact Finset.sum_congr rfl fun x _ => mul_comm _ _

theorem zero_at (j : S704x2048.Idx) : k0_pay1 (F := Ideal) j = 0 := by pointwise [k0_pay1]

theorem add_at (acc : FVec Ideal S704x2048 .f32) (x : FVec Ideal S1x1664x704 .bf16) (g : FVec Ideal S1664x2048 .bf16) (j : S704x2048.Idx) :
    k0_pay2 (F := Ideal) acc x g j = acc j + ∑ k : Fin 1664, x (ix3 0 k (j 0)) * g (ix2 k (j 1)) := by
  pointwise [k0_pay2]

theorem out_at (acc : FVec Ideal S704x2048 .f32) (j : S1x704x2048.Idx) : k0_pay3 (F := Ideal) acc j = acc (ix2 (j 1) (j 2)) := by
  pointwise [k0_pay3]

theorem place : ∀ t : Fin cfg0.N, win0_0.index t = ![t.val / 5, t.val % 5, 0] ∧ win0_1.index t = ![t.val % 5, 0] ∧ win0_2.index t = ![t.val / 5, 0, 0] :=
  (by decide +kernel : ∀ t : Fin grid0.N, _)

variable (m : (ℓ : Loc nD τ sig) → Buf (Elt Ideal) ℓ)

/-- The incoming gradient is halved before the kernel. -/
theorem half_at (c : Dev nD) : V m c main_v2 = (fun i => Ideal.ofBits .f32 0x3F000000#32 * (show FVec Ideal S8320x2048 .f32 from m ((c : Thread nD τ).loc main_arg1)) i : FVec Ideal S8320x2048 .bf16) := by
  entry_read
  funext i
  pointwise

/-- After each point the running sum holds what its run of five points has added. -/
theorem sum_at (c : Dev nD) (t : Fin cfg0.N) (ht : t.val % 5 = 4) (j : S704x2048.Idx) :
    (show EReal from (outsAt0 m c t.val t.isLt).2 j) = ∑ s : Fin 5, ∑ k : Fin 1664,
      (show FVec Ideal S1x1664x704 .bf16 from iblk m c 0 ⟨5 * (t.val / 5) + s.val, Pipeline.run_point_lt_of_flush t ht s⟩) (ix3 0 k (j 0))
        * (show FVec Ideal S1664x2048 .bf16 from iblk m c 1 ⟨5 * (t.val / 5) + s.val, Pipeline.run_point_lt_of_flush t ht s⟩) (ix2 k (j 1)) := by
  show (outsAt0 m c t.val t.isLt).2 j = _
  rw [Pipeline.eq_sum_fin_of_reset_step_apply_of_flush (fun n h => (outsAt0 m c n h).2) 5 (fun _ => (0 : EReal))
    (fun p j => ∑ k : Fin 1664, (show FVec Ideal S1x1664x704 .bf16 from iblk m c 0 p) (ix3 0 k (j 0)) * (show FVec Ideal S1664x2048 .bf16 from iblk m c 1 p) (ix2 k (j 1)))
    (fun t h j => by
      rw [outsAt0_A m c t h (by omega)]
      frame_out
      rw [add_at, zero_at])
    (fun t h j => by
      by_cases h1 : t.val % 5 = 4
      · rw [outsAt0_C m c t h h1]
        frame_out
        rw [add_at]
        exact congrArg (· + _) (congrFun (Memref.IsWhole.read_unread (Memref.isWhole_whole cc0_scratch0) _) j)
      · rw [outsAt0_B m c t h h1]
        frame_out
        rw [add_at]
        exact congrArg (· + _) (congrFun (Memref.IsWhole.read_unread (Memref.isWhole_whole cc0_scratch0) _) j))
    t ht j, zero_add]

/-- The array that the kernel leaves is the reference's. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 = k0_pay3 (F := Ideal) (outsAt0 m c t.val t.isLt).2 := by
    rw [outsAt0_C m c t (by omega) ht]
    frame_out
  rw [after0_2, e, out_at]
  refine (sum_at m c t ht _).trans ?_
  rw [grad_at]
  refine Fin.sum_mul_add_congr fun s k hl => ?_
  have q : (show FVec Ideal S1664x2048 .bf16 from iblk m c 1 ⟨5 * (t.val / 5) + s.val, Pipeline.run_point_lt_of_flush t ht s⟩) (ix2 k (ix2 (y 1) (y 2) 1))
      = Ideal.ofBits .f32 0x3F000000#32 * (show FVec Ideal S8320x2048 .f32 from m ((c : Thread nD τ).loc main_arg1)) (ix2 ⟨s.val * 1664 + k.val, hl⟩ (((cfg0.win 2).blk t).view.emb y 2)) := by
    blk_simp [iblk]
    rw [half_at]
    refine congrArg (fun i => Ideal.ofBits .f32 0x3F000000#32 * (show FVec Ideal S8320x2048 .f32 from m ((c : Thread nD τ).loc main_arg1)) i) ?_
    blk_ext [place t, place ⟨_, Pipeline.run_point_lt_of_flush t ht s⟩]
  refine congrArg₂ (fun a b : EReal => a * b) ?_ q
  blk_ext [iblk, V, place t, place ⟨_, Pipeline.run_point_lt_of_flush t ht s⟩]

end Cert.Kernel3Ideal.Hand
-- ==== Proof.GradGate.lean ====
module

public import proofs.«01_k».proof.Proof.Gen.Kernel4Ideal.Value
public import proofs.«01_k».proof.Proof.Gen.Reference4Ideal.Run
public import Idealize.ShloMosaic.Lib.Pipeline.ValueKit

/-!
  The gradient of a weight of the feed forward's first layer: the blocks of rows that the kernel adds up
  one after the other are the whole product.
-/

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic Idealize.SL.Sem

/-- The reference's result, of the rows and of the incoming gradient. -/
abbrev grad (h : FVec Ideal S8320x2048 .f32) (g : FVec Ideal S8x8320x704 .bf16) : FVec Ideal S8x2048x704 .bf16 :=
  truncf .bf16 (transpose Cert.Reference4Ideal.S8x2048x704 [1, 0, 2] (shapeCast Cert.Reference4Ideal.S2048x8x704
    (transpose Cert.Reference4Ideal.S2048x5632 [1, 0] (Host.dotGeneral Cert.Reference4Ideal.dot_S8320x5632_S8320x2048_S5632x2048_0_0_1_1_n_n none
      (shapeCast Cert.Reference4Ideal.S8320x5632 (transpose Cert.Reference4Ideal.S8320x8x704 [1, 0, 2]
        (extf .f32 g Cert.Reference4Ideal.Gen.bitsLt_bf16_f32) Cert.Reference4Ideal.Gen.transposes_S8x8320x704_S8320x8x704_1_0_2)
        Cert.Reference4Ideal.Gen.shapeCasts_S8320x8x704_S8320x5632) h) Cert.Reference4Ideal.Gen.transposes_S5632x2048_S2048x5632_1_0)
    Cert.Reference4Ideal.Gen.shapeCasts_S2048x5632_S2048x8x704) Cert.Reference4Ideal.Gen.transposes_S2048x8x704_S8x2048x704_1_0_2)
    Cert.Reference4Ideal.Gen.bitsLt_bf16_f32

/-- An entry of it is a sum over all rows. -/
theorem grad_at (h : FVec Ideal S8320x2048 .f32) (g : FVec Ideal S8x8320x704 .bf16) (y : S8x2048x704.Idx) :
    grad h g y = ∑ l : Fin 8320, h (ix2 l (y 1)) * g (ix3 (y 0) l (y 2)) := by
  pointwise [grad]
  exact Finset.sum_congr rfl fun x _ => mul_comm _ _

theorem zero_at (j : S2048x704.Idx) : k0_pay1 (F := Ideal) j = 0 := by pointwise [k0_pay1]

theorem add_at (acc : FVec Ideal S2048x704 .f32) (x : FVec Ideal S1664x2048 .bf16) (g : FVec Ideal S1x1664x704 .bf16) (j : S2048x704.Idx) :
    k0_pay2 (F := Ideal) acc x g j = acc j + ∑ k : Fin 1664, x (ix2 k (j 0)) * g (ix3 0 k (j 1)) := by
  pointwise [k0_pay2]

theorem out_at (acc : FVec Ideal S2048x704 .f32) (j : S1x2048x704.Idx) : k0_pay3 (F := Ideal) acc j = acc (ix2 (j 1) (j 2)) := by
  pointwise [k0_pay3]

theorem place : ∀ t : Fin cfg0.N, win0_0.index t = ![t.val % 5, 0] ∧ win0_1.index t = ![t.val / 5, t.val % 5, 0] ∧ win0_2.index t = ![t.val / 5, 0, 0] :=
  (by decide +kernel : ∀ t : Fin grid0.N, _)

variable (m : (ℓ : Loc nD τ sig) → Buf (Elt Ideal) ℓ)

/-- After each point the running sum holds what its run of five points has added. -/
theorem sum_at (c : Dev nD) (t : Fin cfg0.N) (ht : t.val % 5 = 4) (j : S2048x704.Idx) :
    (show EReal from (outsAt0 m c t.val t.isLt).2 j) = ∑ s : Fin 5, ∑ k : Fin 1664,
      (show FVec Ideal S1664x2048 .bf16 from iblk m c 0 ⟨5 * (t.val / 5) + s.val, Pipeline.run_point_lt_of_flush t ht s⟩) (ix2 k (j 0))
        * (show FVec Ideal S1x1664x704 .bf16 from iblk m c 1 ⟨5 * (t.val / 5) + s.val, Pipeline.run_point_lt_of_flush t ht s⟩) (ix3 0 k (j 1)) := by
  show (outsAt0 m c t.val t.isLt).2 j = _
  rw [Pipeline.eq_sum_fin_of_reset_step_apply_of_flush (fun n h => (outsAt0 m c n h).2) 5 (fun _ => (0 : EReal))
    (fun p j => ∑ k : Fin 1664, (show FVec Ideal S1664x2048 .bf16 from iblk m c 0 p) (ix2 k (j 0)) * (show FVec Ideal S1x1664x704 .bf16 from iblk m c 1 p) (ix3 0 k (j 1)))
    (fun t h j => by
      rw [outsAt0_A m c t h (by omega)]
      frame_out
      rw [add_at, zero_at])
    (fun t h j => by
      by_cases h1 : t.val % 5 = 4
      · rw [outsAt0_C m c t h h1]
        frame_out
        rw [add_at]
        exact congrArg (· + _) (congrFun (Memref.IsWhole.read_unread (Memref.isWhole_whole cc0_scratch0) _) j)
      · rw [outsAt0_B m c t h h1]
        frame_out
        rw [add_at]
        exact congrArg (· + _) (congrFun (Memref.IsWhole.read_unread (Memref.isWhole_whole cc0_scratch0) _) j))
    t ht j, zero_add]

/-- The array that the kernel leaves is the reference's. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 = k0_pay3 (F := Ideal) (outsAt0 m c t.val t.isLt).2 := by
    rw [outsAt0_C m c t (by omega) ht]
    frame_out
  rw [after0_2, e, out_at]
  refine (sum_at m c t ht _).trans ?_
  rw [grad_at]
  refine Fin.sum_mul_add_congr fun s k hl => ?_
  show (_ : EReal) = _
  blk_point [iblk, V, place t, place ⟨_, Pipeline.run_point_lt_of_flush t ht s⟩]

end Cert.Kernel4Ideal.Hand
-- ==== Proof.GradInput.lean ====
module

public import proofs.«01_k».proof.Proof.Gen.Kernel5Ideal.Value
public import proofs.«01_k».proof.Proof.Gen.Reference5Ideal.Run
public import Idealize.ShloMosaic.Lib.Pipeline.ValueKit

/-!
  The gradient of the feed forward's input, the residual included: the parts of the width that the kernel
  adds up, two at a time, are the whole of both products.
-/

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic Idealize.SL.Sem

/-- The reference's result, of the gradients before the gate, the two weights and the incoming gradient. -/
abbrev grad (a b : FVec Ideal S8x8320x704 .bf16) (g u : FVec Ideal S8x2048x704 .bf16) (d : FVec Ideal S8320x2048 .f32) : FVec Ideal S8320x2048 .f32 :=
  addf (addf (Host.dotGeneral Cert.Reference5Ideal.dot_S8320x5632_S2048x5632_S8320x2048_1_1_0_0_n_n none
      (shapeCast Cert.Reference5Ideal.S8320x5632 (transpose Cert.Reference5Ideal.S8320x8x704 [1, 0, 2] (extf .f32 b Cert.Reference5Ideal.Gen.bitsLt_bf16_f32) Cert.Reference5Ideal.Gen.transposes_S8x8320x704_S8320x8x704_1_0_2) Cert.Reference5Ideal.Gen.shapeCasts_S8320x8x704_S8320x5632)
      (shapeCast Cert.Reference5Ideal.S2048x5632 (transpose Cert.Reference5Ideal.S2048x8x704 [1, 0, 2] (extf .f32 u Cert.Reference5Ideal.Gen.bitsLt_bf16_f32) Cert.Reference5Ideal.Gen.transposes_S8x2048x704_S2048x8x704_1_0_2) Cert.Reference5Ideal.Gen.shapeCasts_S2048x8x704_S2048x5632))
    (Host.dotGeneral Cert.Reference5Ideal.dot_S8320x5632_S2048x5632_S8320x2048_1_1_0_0_n_n none
      (shapeCast Cert.Reference5Ideal.S8320x5632 (transpose Cert.Reference5Ideal.S8320x8x704 [1, 0, 2] (extf .f32 a Cert.Reference5Ideal.Gen.bitsLt_bf16_f32) Cert.Reference5Ideal.Gen.transposes_S8x8320x704_S8320x8x704_1_0_2) Cert.Reference5Ideal.Gen.shapeCasts_S8320x8x704_S8320x5632)
      (shapeCast Cert.Reference5Ideal.S2048x5632 (transpose Cert.Reference5Ideal.S2048x8x704 [1, 0, 2] (extf .f32 g Cert.Reference5Ideal.Gen.bitsLt_bf16_f32) Cert.Reference5Ideal.Gen.transposes_S8x2048x704_S2048x8x704_1_0_2) Cert.Reference5Ideal.Gen.shapeCasts_S2048x8x704_S2048x5632)))
    (mulf (broadcastInDim Cert.Reference5Ideal.S8320x2048 ![] Cert.Reference5Ideal.Gen.bcast_S_S8320x2048 (constant Cert.Reference5Ideal.S_ .f32 0x3F9837F0#32)) d)

/-- What one part of the feed forward's width adds to an entry. -/
def part (a b : FVec Ideal S8x8320x704 .bf16) (g u : FVec Ideal S8x2048x704 .bf16) (y : S8320x2048.Idx) (j : Fin 8) : EReal :=
  (∑ k : Fin 704, a (ix3 j (y 0) k) * g (ix3 j (y 1) k)) + ∑ k : Fin 704, b (ix3 j (y 0) k) * u (ix3 j (y 1) k)

/-- An entry of the reference's result. -/
theorem grad_at (a b : FVec Ideal S8x8320x704 .bf16) (g u : FVec Ideal S8x2048x704 .bf16) (d : FVec Ideal S8320x2048 .f32) (y : S8320x2048.Idx) :
    grad a b g u d y = Ideal.ofBits .f32 0x3F9837F0#32 * d y + ∑ j : Fin 8, part a b g u y j := by
  have e : ∀ (a : FVec Ideal S8x8320x704 .bf16) (g : FVec Ideal S8x2048x704 .bf16), (∑ x : Fin 5632, a (ix3 ⟨x.val / 704, by omega⟩ (y 0) ⟨x.val % 704, by omega⟩) * g (ix3 ⟨x.val / 704, by omega⟩ (y 1) ⟨x.val % 704, by omega⟩) : EReal)
      = ∑ j : Fin 8, ∑ k : Fin 704, a (ix3 j (y 0) k) * g (ix3 j (y 1) k) := fun a g =>
    Fin.sum_divmod_congr fun t h0 h1 => rfl
  pointwise [grad]
  refine (add_comm _ _).trans (congrArg (fun v : EReal => Ideal.ofBits .f32 0x3F9837F0#32 * d y + v) ?_)
  refine (add_comm _ _).trans ((congrArg₂ (fun a b : EReal => a + b) (e a g) (e b u)).trans ?_)
  exact (Finset.sum_add_distrib (f := fun j : Fin 8 => ∑ k : Fin 704, (a (ix3 j (y 0) k) * g (ix3 j (y 1) k) : EReal))).symm

theorem zero_at (j : S640x2048.Idx) : k0_pay3 (F := Ideal) j = 0 := by pointwise [k0_pay3]

/-- What the two parts that a grid point is handed add to an entry. -/
def two (x : FVec Ideal S2x640x704 .bf16) (g : FVec Ideal S2x2048x704 .bf16) (z : FVec Ideal S2x640x704 .bf16) (h : FVec Ideal S2x2048x704 .bf16) (j : S640x2048.Idx) : EReal :=
  ((∑ k : Fin 704, x (ix3 0 (j 0) k) * g (ix3 0 (j 1) k)) + ∑ k : Fin 704, x (ix3 1 (j 0) k) * g (ix3 1 (j 1) k))
  + ((∑ k : Fin 704, z (ix3 0 (j 0) k) * h (ix3 0 (j 1) k)) + ∑ k : Fin 704, z (ix3 1 (j 0) k) * h (ix3 1 (j 1) k))

/-- The first and the second of the two parts. -/
abbrev half0_640 (x : FVec Ideal S2x640x704 .bf16) : FVec Ideal S1x640x704 .bf16 :=
  View.ld (Val := Elt Ideal) (e' := .bf16) x (Rect.unit (s := S2x640x704) ![0, 0, 0] S1x640x704.size inb_S2x640x704_S1x640x704_0_0_0)
abbrev half1_640 (x : FVec Ideal S2x640x704 .bf16) : FVec Ideal S1x640x704 .bf16 :=
  View.ld (Val := Elt Ideal) (e' := .bf16) x (Rect.unit (s := S2x640x704) ![1, 0, 0] S1x640x704.size inb_S2x640x704_S1x640x704_1_0_0)
abbrev half0_2048 (x : FVec Ideal S2x2048x704 .bf16) : FVec Ideal S1x2048x704 .bf16 :=
  View.ld (Val := Elt Ideal) (e' := .bf16) x (Rect.unit (s := S2x2048x704) ![0, 0, 0] S1x2048x704.size inb_S2x2048x704_S1x2048x704_0_0_0)
abbrev half1_2048 (x : FVec Ideal S2x2048x704 .bf16) : FVec Ideal S1x2048x704 .bf16 :=
  View.ld (Val := Elt Ideal) (e' := .bf16) x (Rect.unit (s := S2x2048x704) ![1, 0, 0] S1x2048x704.size inb_S2x2048x704_S1x2048x704_1_0_0)
theorem half0_640_at (x : FVec Ideal S2x640x704 .bf16) (r : Fin 640) (k : Fin 704) : half0_640 x (ix3 0 r k) = x (ix3 0 r k) :=
  congrArg x (funext fun a => Fin.ext (by fin_cases a <;> simp [Rect.unit, ix3]))
theorem half1_640_at (x : FVec Ideal S2x640x704 .bf16) (r : Fin 640) (k : Fin 704) : half1_640 x (ix3 0 r k) = x (ix3 1 r k) :=
  congrArg x (funext fun a => Fin.ext (by fin_cases a <;> simp [Rect.unit, ix3]))
theorem half0_2048_at (x : FVec Ideal S2x2048x704 .bf16) (r : Fin 2048) (k : Fin 704) : half0_2048 x (ix3 0 r k) = x (ix3 0 r k) :=
  congrArg x (funext fun a => Fin.ext (by fin_cases a <;> simp [Rect.unit, ix3]))
theorem half1_2048_at (x : FVec Ideal S2x2048x704 .bf16) (r : Fin 2048) (k : Fin 704) : half1_2048 x (ix3 0 r k) = x (ix3 1 r k) :=
  congrArg x (funext fun a => Fin.ext (by fin_cases a <;> simp [Rect.unit, ix3]))

/-- A grid point adds what its two parts add. -/
theorem step_at (acc : FVec Ideal S640x2048 .f32) (x : FVec Ideal S2x640x704 .bf16) (g : FVec Ideal S2x2048x704 .bf16) (z : FVec Ideal S2x640x704 .bf16) (h : FVec Ideal S2x2048x704 .bf16) (j : S640x2048.Idx) :
    k0_pay1 (F := Ideal) (k0_pay4 (F := Ideal) acc (half0_640 x) (half0_2048 g) (half1_640 x) (half1_2048 g))
      (k0_pay5 (F := Ideal) (half0_640 z) (half0_2048 h)) (half1_640 z) (half1_2048 h) j = acc j + two x g z h j := by
  unfold two
  rw [← add_assoc]
  pointwise [k0_pay1, k0_pay4, k0_pay5]
  blk_point []
  all_goals first | exact half0_640_at _ _ _ | exact half1_640_at _ _ _ | exact half0_2048_at _ _ _ | exact half1_2048_at _ _ _

theorem out_at (acc d : FVec Ideal S640x2048 .f32) (j : S640x2048.Idx) : k0_pay2 (F := Ideal) acc d j = Ideal.ofBits .f32 0x3F9837F0#32 * d j + acc j := by
  pointwise [k0_pay2]

theorem place : ∀ t : Fin cfg0.N, win0_0.index t = ![t.val % 4, t.val / 4, 0] ∧ win0_1.index t = ![t.val % 4, 0, 0] ∧ win0_2.index t = ![t.val % 4, t.val / 4, 0]
    ∧ win0_3.index t = ![t.val % 4, 0, 0] ∧ win0_4.index t = ![t.val / 4, 0] ∧ win0_5.index t = ![t.val / 4, 0] :=
  (by decide +kernel : ∀ t : Fin grid0.N, _)

variable (m : (ℓ : Loc nD τ sig) → Buf (Elt Ideal) ℓ)

/-- What a grid point is handed of the two gradients and of the two weights: two parts of each. -/
abbrev dg (c : Dev nD) (t : Fin cfg0.N) : FVec Ideal S2x640x704 .bf16 := iblk m c 0 t
abbrev wg (c : Dev nD) (t : Fin cfg0.N) : FVec Ideal S2x2048x704 .bf16 := iblk m c 1 t
abbrev du (c : Dev nD) (t : Fin cfg0.N) : FVec Ideal S2x640x704 .bf16 := iblk m c 2 t
abbrev wu (c : Dev nD) (t : Fin cfg0.N) : FVec Ideal S2x2048x704 .bf16 := iblk m c 3 t

/-- After a run of four points the running sum holds what they have added. -/
theorem sum_at (c : Dev nD) (t : Fin cfg0.N) (ht : t.val % 4 = 3) (j : S640x2048.Idx) :
    (show EReal from (outsAt0 m c t.val t.isLt).2 j) = ∑ s : Fin 4, two (dg m c ⟨4 * (t.val / 4) + s.val, Pipeline.run_point_lt_of_flush t ht s⟩) (wg m c ⟨4 * (t.val / 4) + s.val, Pipeline.run_point_lt_of_flush t ht s⟩)
      (du m c ⟨4 * (t.val / 4) + s.val, Pipeline.run_point_lt_of_flush t ht s⟩) (wu m c ⟨4 * (t.val / 4) + s.val, Pipeline.run_point_lt_of_flush t ht s⟩) j := by
  show (outsAt0 m c t.val t.isLt).2 j = _
  rw [Pipeline.eq_sum_fin_of_reset_step_apply_of_flush (fun n h => (outsAt0 m c n h).2) 4 (fun _ => (0 : EReal)) (fun t j => two (dg m c t) (wg m c t) (du m c t) (wu m c t) j)
    (fun t h j => by
      rw [outsAt0_A m c t h (by omega)]
      frame_out
      exact (step_at _ _ _ _ _ j).trans (congrArg (· + _) (zero_at j)))
    (fun t h j => by
      by_cases h1 : t.val % 4 = 3
      · rw [outsAt0_C m c t h h1]
        frame_out
        refine (step_at _ (dg m c t) (wg m c t) (du m c t) (wu m c t) j).trans ?_
        exact congrArg (· + _) (congrFun (Memref.IsWhole.read_unread (Memref.isWhole_whole cc0_scratch0) _) j)
      · rw [outsAt0_B m c t h h1]
        frame_out
        refine (step_at _ (dg m c t) (wg m c t) (du m c t) (wu m c t) j).trans ?_
        exact congrArg (· + _) (congrFun (Memref.IsWhole.read_unread (Memref.isWhole_whole cc0_scratch0) _) j))
    t ht j, zero_add]

/-- The array that the kernel leaves is the reference's. -/
theorem final (c : Dev nD) : (dats m 0 c).arrAt 5 (cfgs 0).N
    = grad (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := (flush0_5 t).mp hf
  blk_simp
  have e : (outsAt0 m c t.val t.isLt).1 = k0_pay2 (F := Ideal) (outsAt0 m c t.val t.isLt).2 (show FVec Ideal S640x2048 .f32 from iblk m c 4 t) := by
    rw [outsAt0_C m c t (by omega) ht]
    frame_out
  rw [after0_5, e, out_at, grad_at]
  refine congrArg₂ (fun a b : EReal => a + b) ?_ ((sum_at m c t ht _).trans ?_)
  · refine congrArg (fun a : EReal => Ideal.ofBits .f32 0x3F9837F0#32 * a) ?_
    blk_ext [iblk, V, place t]
  · refine Eq.trans ?_ (Fin.sum_mul_add_fin 4 2 (fun j : Fin 8 => part _ _ _ _ _ j))
    refine Fin.sum_fin_congr fun s => ?_
    refine Eq.trans ?_ (Fin.sum_univ_two (fun k : Fin 2 => part _ _ _ _ _ ⟨s.val * 2 + k.val, by omega⟩)).symm
    unfold two part
    rw [add_add_add_comm]
    blk_point [iblk, V, place t, place ⟨_, Pipeline.run_point_lt_of_flush t ht s⟩]

end Cert.Kernel5Ideal.Hand
-- ==== Proof.GradInProj.lean ====
module

public import proofs.«01_k».proof.Proof.Gen.Kernel7Ideal.Value
public import proofs.«01_k».proof.Proof.Gen.Reference7Ideal.Run
public import Idealize.ShloMosaic.Lib.Pipeline.ValueKit

/-!
  The gradient of the weight of the mixer's input projection: the blocks of rows that the kernel adds up
  one after the other are the whole product.
-/

@[expose] public section

set_option maxRecDepth 16384

noncomputable section

namespace Cert.Reference7Ideal.Hand

open Cert.Reference7Ideal Cert.Reference7Ideal.Gen
open Idealize.ShloMosaic

/-- The reference's result, of the rows and of the incoming gradient. -/
abbrev grad (a0 : FVec Ideal S8320x2048 .f32) (a1 : FVec Ideal S8320x11264 .bf16) : FVec Ideal S8x2048x1408 .bf16 :=
    truncf .bf16 (transpose S8x2048x1408 [1, 0, 2] (shapeCast _ (transpose S2048x11264 [1, 0] (Host.dotGeneral
    dot_S8320x11264_S8320x2048_S11264x2048_0_0_1_1_n_n none (extf .f32 a1 bitsLt_bf16_f32) a0) transposes_S11264x2048_S2048x11264_1_0)
    shapeCasts_S2048x11264_S2048x8x1408) transposes_S2048x8x1408_S8x2048x1408_1_0_2) bitsLt_bf16_f32

end Cert.Reference7Ideal.Hand

namespace Cert.Kernel7Ideal.Hand

open Cert.Kernel7Ideal Cert.Kernel7Ideal.Gen Cert.Reference7Ideal.Hand
open Idealize.ShloMosaic Idealize.ShloMosaic.TcCoe Idealize.ShloMosaic.Tactic Idealize.SL.Sem

/-- An entry of it is a sum over all rows. -/
theorem grad_at (x : FVec Ideal S8320x2048 .f32) (g : FVec Ideal S8320x11264 .bf16) (y : S8x2048x1408.Idx) :
    grad x g y = ∑ l : Fin 8320, x (ix2 l (y 1)) * g (ix2 l (⟨(y 0).val * 1408 + (y 2).val, by have h0 : (y 0).val < 8 := (y 0).isLt; have h2 : (y 2).val < 1408 := (y 2).isLt; omega⟩)) := by
  pointwise [grad]
  exact Finset.sum_congr rfl fun x _ => mul_comm _ _

theorem zero_at (j : S2048x1408.Idx) : k0_pay1 (F := Ideal) j = 0 := by pointwise [k0_pay1]

theorem add_at (acc : FVec Ideal S2048x1408 .f32) (x : FVec Ideal S1664x2048 .bf16) (g : FVec Ideal S1664x1408 .bf16) (j : S2048x1408.Idx) :
    k0_pay2 (F := Ideal) acc x g j = acc j + ∑ k : Fin 1664, x (ix2 k (j 0)) * g (ix2 k (j 1)) := by
  pointwise [k0_pay2]

theorem out_at (acc : FVec Ideal S2048x1408 .f32) (j : S1x2048x1408.Idx) : k0_pay3 (F := Ideal) acc j = acc (ix2 (j 1) (j 2)) := by
  pointwise [k0_pay3]

theorem place : ∀ t : Fin cfg0.N, win0_0.index t = ![t.val % 5, 0] ∧ win0_1.index t = ![t.val % 5, t.val / 5] ∧ win0_2.index t = ![t.val / 5, 0, 0] :=
  (by decide +kernel : ∀ t : Fin grid0.N, _)

variable (m : (ℓ : Loc nD τ sig) → Buf (Elt Ideal) ℓ)

/-- What a point adds: the product of its two blocks of rows. -/
abbrev part (c : Dev nD) (p : Fin cfg0.N) (j : S2048x1408.Idx) : EReal :=
  ∑ k : Fin 1664, (show FVec Ideal S1664x2048 .bf16 from iblk m c 0 p) (ix2 k (j 0)) * (show FVec Ideal S1664x1408 .bf16 from iblk m c 1 p) (ix2 k (j 1))

/-- After its run of five points the running sum holds what they have added. -/
theorem sum_at (c : Dev nD) (t : Fin cfg0.N) (ht : t.val % 5 = 4) (j : S2048x1408.Idx) :
    (show EReal from (outsAt0 m c t.val t.isLt).2 j)
      = ∑ s : Fin 5, part m c ⟨5 * (t.val / 5) + s.val, Pipeline.run_point_lt_of_flush t ht s⟩ j := by
  show (outsAt0 m c t.val t.isLt).2 j = _
  rw [Pipeline.eq_sum_fin_of_reset_step_apply_of_flush (fun n h => (outsAt0 m c n h).2) 5 (fun _ => (0 : EReal)) (part m c)
    (fun t h j => by
      rw [outsAt0_A m c t h (by omega)]
      frame_out
      rw [add_at, zero_at])
    (fun t h j => by
      by_cases h1 : t.val % 5 = 4
      · rw [outsAt0_C m c t h h1]
        frame_out
        rw [add_at]
        exact congrArg (· + _) (congrFun (Memref.IsWhole.read_unread (Memref.isWhole_whole cc0_scratch0) _) j)
      · rw [outsAt0_B m c t h h1]
        frame_out
        rw [add_at]
        exact congrArg (· + _) (congrFun (Memref.IsWhole.read_unread (Memref.isWhole_whole cc0_scratch0) _) j))
    t ht j, zero_add]

/-- The array that the kernel leaves is the reference's. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 = k0_pay3 (F := Ideal) (outsAt0 m c t.val t.isLt).2 := by
    rw [outsAt0_C m c t (by omega) ht]
    frame_out
  rw [after0_2, e, out_at]
  refine (sum_at m c t ht _).trans ?_
  rw [grad_at]
  refine Fin.sum_mul_add_congr fun s k hl => ?_
  show (_ : EReal) = _
  blk_point [iblk, V, place t, place ⟨_, Pipeline.run_point_lt_of_flush t ht s⟩]

end Cert.Kernel7Ideal.Hand
-- ==== Proof.GradMixerInput.lean ====
module

public import proofs.«01_k».proof.Proof.Gen.Kernel8Ideal.Value
public import proofs.«01_k».proof.Proof.Gen.Reference8Ideal.Run
public import Idealize.ShloMosaic.Lib.Pipeline.ValueKit

/-!
  The gradient of the mixer's input, the residual included: the parts of the width that the kernel adds up,
  two at a time, are the whole product.
-/

@[expose] public section

set_option maxRecDepth 16384

noncomputable section

namespace Cert.Reference8Ideal.Hand

open Cert.Reference8Ideal Cert.Reference8Ideal.Gen
open Idealize.ShloMosaic

/-- The reference's result, of the gradient of the projected rows, the weight and the residual's gradient. -/
abbrev grad (a0 : FVec Ideal S8320x11264 .bf16) (a1 : FVec Ideal S8x2048x1408 .bf16) (a2 : FVec Ideal S8320x2048 .f32) : FVec Ideal S8320x2048 .f32 :=
    addf (Host.dotGeneral dot_S8320x11264_S2048x11264_S8320x2048_1_1_0_0_n_n none (extf .f32 a0 bitsLt_bf16_f32) (shapeCast _ (transpose S2048x8x1408
    [1, 0, 2] (extf .f32 a1 bitsLt_bf16_f32) transposes_S8x2048x1408_S2048x8x1408_1_0_2) shapeCasts_S2048x8x1408_S2048x11264)) (mulf (broadcastInDim
    S8320x2048 ![] bcast_S_S8320x2048 (constant S_ .f32 0x3F9837F0#32)) a2)

end Cert.Reference8Ideal.Hand

namespace Cert.Kernel8Ideal.Hand

open Cert.Kernel8Ideal Cert.Kernel8Ideal.Gen Cert.Reference8Ideal.Hand
open Idealize.ShloMosaic Idealize.ShloMosaic.TcCoe Idealize.ShloMosaic.Tactic Idealize.SL.Sem

/-- What one part of the width adds to an entry. -/
def part (p : FVec Ideal S8320x11264 .bf16) (w : FVec Ideal S8x2048x1408 .bf16) (y : S8320x2048.Idx) (j : Fin 8) : EReal :=
  ∑ k : Fin 1408, p (ix2 (y 0) ⟨j.val * 1408 + k.val, by omega⟩) * w (ix3 j (y 1) k)

/-- An entry of the reference's result. -/
theorem grad_at (p : FVec Ideal S8320x11264 .bf16) (w : FVec Ideal S8x2048x1408 .bf16) (d : FVec Ideal S8320x2048 .f32) (y : S8320x2048.Idx) :
    grad p w d y = Ideal.ofBits .f32 0x3F9837F0#32 * d y + ∑ j : Fin 8, part p w y j := by
  pointwise [grad]
  refine (add_comm _ _).trans (congrArg (fun v : EReal => Ideal.ofBits .f32 0x3F9837F0#32 * d y + v) ?_)
  refine Fin.sum_divmod_congr fun t h0 h1 => ?_
  refine congrArg (fun v : EReal => v * _) (congrArg p (congrArg (ix2 (y 0)) (Fin.ext ?_)))
  show t.val = t.val / 1408 * 1408 + t.val % 1408
  omega

theorem zero_at (j : S640x2048.Idx) : k0_pay1 (F := Ideal) j = 0 := by pointwise [k0_pay1]

/-- The first and the second of the two parts that a grid point is handed. -/
abbrev left (x : FVec Ideal S640x2816 .bf16) : FVec Ideal S640x1408 .bf16 :=
  View.ld (Val := Elt Ideal) (e' := .bf16) x (Rect.unit (s := S640x2816) ![0, 0] S640x1408.size inb_S640x2816_S640x1408_0_0)
abbrev right (x : FVec Ideal S640x2816 .bf16) : FVec Ideal S640x1408 .bf16 :=
  View.ld (Val := Elt Ideal) (e' := .bf16) x (Rect.unit (s := S640x2816) ![0, 1408] S640x1408.size inb_S640x2816_S640x1408_0_1408)
abbrev first (x : FVec Ideal S2x2048x1408 .bf16) : FVec Ideal S1x2048x1408 .bf16 :=
  View.ld (Val := Elt Ideal) (e' := .bf16) x (Rect.unit (s := S2x2048x1408) ![0, 0, 0] S1x2048x1408.size inb_S2x2048x1408_S1x2048x1408_0_0_0)
abbrev second (x : FVec Ideal S2x2048x1408 .bf16) : FVec Ideal S1x2048x1408 .bf16 :=
  View.ld (Val := Elt Ideal) (e' := .bf16) x (Rect.unit (s := S2x2048x1408) ![1, 0, 0] S1x2048x1408.size inb_S2x2048x1408_S1x2048x1408_1_0_0)
theorem left_at (x : FVec Ideal S640x2816 .bf16) (r : Fin 640) (k : Fin 1408) : left x (ix2 r k) = x (ix2 r ⟨k.val, by omega⟩) :=
  congrArg x (funext fun a => Fin.ext (by fin_cases a <;> simp [Rect.unit, ix2]))
theorem right_at (x : FVec Ideal S640x2816 .bf16) (r : Fin 640) (k : Fin 1408) : right x (ix2 r k) = x (ix2 r ⟨1408 + k.val, by omega⟩) :=
  congrArg x (funext fun a => Fin.ext (by fin_cases a <;> simp [Rect.unit, ix2]))
theorem first_at (x : FVec Ideal S2x2048x1408 .bf16) (r : Fin 2048) (k : Fin 1408) : first x (ix3 0 r k) = x (ix3 0 r k) :=
  congrArg x (funext fun a => Fin.ext (by fin_cases a <;> simp [Rect.unit, ix3]))
theorem second_at (x : FVec Ideal S2x2048x1408 .bf16) (r : Fin 2048) (k : Fin 1408) : second x (ix3 0 r k) = x (ix3 1 r k) :=
  congrArg x (funext fun a => Fin.ext (by fin_cases a <;> simp [Rect.unit, ix3]))

/-- What the two parts add to an entry. -/
def two (x : FVec Ideal S640x2816 .bf16) (w : FVec Ideal S2x2048x1408 .bf16) (j : S640x2048.Idx) : EReal :=
  (∑ k : Fin 1408, x (ix2 (j 0) ⟨k.val, by omega⟩) * w (ix3 0 (j 1) k)) + ∑ k : Fin 1408, x (ix2 (j 0) ⟨1408 + k.val, by omega⟩) * w (ix3 1 (j 1) k)

/-- A grid point adds what its two parts add. -/
theorem step_at (acc : FVec Ideal S640x2048 .f32) (x : FVec Ideal S640x2816 .bf16) (w : FVec Ideal S2x2048x1408 .bf16) (j : S640x2048.Idx) :
    k0_pay2 (F := Ideal) acc (left x) (first w) (right x) (second w) j = acc j + two x w j := by
  unfold two
  pointwise [k0_pay2]
  blk_point []
  all_goals first | exact left_at _ _ _ | exact right_at _ _ _ | exact first_at _ _ _ | exact second_at _ _ _

theorem out_at (acc d : FVec Ideal S640x2048 .f32) (j : S640x2048.Idx) : k0_pay3 (F := Ideal) acc d j = Ideal.ofBits .f32 0x3F9837F0#32 * d j + acc j := by
  pointwise [k0_pay3]

theorem place : ∀ t : Fin cfg0.N, win0_0.index t = ![t.val / 4, t.val % 4] ∧ win0_1.index t = ![t.val % 4, 0, 0] ∧ win0_2.index t = ![t.val / 4, 0] ∧ win0_3.index t = ![t.val / 4, 0] :=
  (by decide +kernel : ∀ t : Fin grid0.N, _)

variable (m : (ℓ : Loc nD τ sig) → Buf (Elt Ideal) ℓ)

/-- What a grid point is handed of the rows and of the weight. -/
abbrev dp (c : Dev nD) (t : Fin cfg0.N) : FVec Ideal S640x2816 .bf16 := iblk m c 0 t
abbrev wp (c : Dev nD) (t : Fin cfg0.N) : FVec Ideal S2x2048x1408 .bf16 := iblk m c 1 t

/-- After a run of four points the running sum holds what they have added. -/
theorem sum_at (c : Dev nD) (t : Fin cfg0.N) (ht : t.val % 4 = 3) (j : S640x2048.Idx) :
    (show EReal from (outsAt0 m c t.val t.isLt).2 j) = ∑ s : Fin 4, two (dp m c ⟨4 * (t.val / 4) + s.val, Pipeline.run_point_lt_of_flush t ht s⟩) (wp m c ⟨4 * (t.val / 4) + s.val, Pipeline.run_point_lt_of_flush t ht s⟩) j := by
  show (outsAt0 m c t.val t.isLt).2 j = _
  rw [Pipeline.eq_sum_fin_of_reset_step_apply_of_flush (fun n h => (outsAt0 m c n h).2) 4 (fun _ => (0 : EReal)) (fun t j => two (dp m c t) (wp m c t) j)
    (fun t h j => by
      rw [outsAt0_A m c t h (by omega)]
      frame_out
      exact (step_at _ (dp m c t) (wp m c t) j).trans (congrArg (· + _) (zero_at j)))
    (fun t h j => by
      by_cases h1 : t.val % 4 = 3
      · rw [outsAt0_C m c t h h1]
        frame_out
        refine (step_at _ (dp m c t) (wp m c t) j).trans ?_
        exact congrArg (· + _) (congrFun (Memref.IsWhole.read_unread (Memref.isWhole_whole cc0_scratch0) _) j)
      · rw [outsAt0_B m c t h h1]
        frame_out
        refine (step_at _ (dp m c t) (wp m c t) j).trans ?_
        exact congrArg (· + _) (congrFun (Memref.IsWhole.read_unread (Memref.isWhole_whole cc0_scratch0) _) j))
    t ht j, zero_add]

/-- The array that the kernel leaves is the reference's. -/
theorem final (c : Dev nD) : (dats m 0 c).arrAt 3 (cfgs 0).N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  blk_simp
  have e : (outsAt0 m c t.val t.isLt).1 = k0_pay3 (F := Ideal) (outsAt0 m c t.val t.isLt).2 (show FVec Ideal S640x2048 .f32 from iblk m c 2 t) := by
    rw [outsAt0_C m c t (by omega) ht]
    frame_out
  rw [after0_3, e, out_at, grad_at]
  refine congrArg₂ (fun a b : EReal => a + b) ?_ ((sum_at m c t ht _).trans ?_)
  · refine congrArg (fun a : EReal => Ideal.ofBits .f32 0x3F9837F0#32 * a) ?_
    blk_ext [iblk, V, place t]
  · refine Eq.trans ?_ (Fin.sum_mul_add_fin 4 2 (fun j : Fin 8 => part _ _ _ j))
    refine Fin.sum_fin_congr fun s => ?_
    refine Eq.trans ?_ (Fin.sum_univ_two (fun k : Fin 2 => part _ _ _ ⟨s.val * 2 + k.val, by omega⟩)).symm
    unfold two part
    blk_point [iblk, V, place t, place ⟨_, Pipeline.run_point_lt_of_flush t ht s⟩]

end Cert.Kernel8Ideal.Hand

end
-- ==== Proof.GradMerge.lean ====
module

public import proofs.«01_k».proof.Proof.Gen.Kernel9Ideal.Value
public import proofs.«01_k».proof.Proof.Gen.Reference9Ideal.Run
public import Idealize.ShloMosaic.Lib.Pipeline.ValueKit

/-!
  The gradients of the merge: those of the two merged products, of their gates, and of the gates' bias. The last is summed
  over 13 blocks of rows.
-/

@[expose] public section

set_option maxRecDepth 16384

noncomputable section

namespace Cert.Reference9Ideal.Hand

open Cert.Reference9Ideal Cert.Reference9Ideal.Gen
open Idealize.ShloMosaic

abbrev ones : FVec Ideal S8320x4096 .f32 := broadcastInDim S8320x4096 ![] bcast_S_S8320x4096 (constant S_ .f32 0x3F800000#32)
/-- Both gates, of the projected rows' last columns and the bias. -/
abbrev gates (p : FVec Ideal S8320x11264 .f32) (b : FVec Ideal S1x4096 .f32) : FVec Ideal S8320x4096 .f32 :=
  Host.divf ones (addf ones (Host.exp (Host.negf (addf (extractStridedSlice S8320x4096 ![0, 7168] p slices_S8320x11264_S8320x4096_0_7168) (broadcastInDim S8320x4096 ![0, 1] bcast_S1x4096_S8320x4096_0_1 b)))))
/-- The gradient of the gated sum. -/
abbrev mix (d : FVec Ideal S8320x2048 .f32) (w : FVec Ideal S8x256x2048 .bf16) : FVec Ideal S8320x2048 .f32 :=
  Host.dotGeneral dot_S8320x2048_S2048x2048_S8320x2048_1_1_0_0_n_n none d (shapeCast _ (extf .f32 w bitsLt_bf16_f32) shapeCasts_S8x256x2048_S2048x2048)
/-- The gradients of the two merged products. -/
abbrev left (d : FVec Ideal S8320x2048 .f32) (w : FVec Ideal S8x256x2048 .bf16) (p : FVec Ideal S8320x11264 .f32) (b : FVec Ideal S1x4096 .f32) : FVec Ideal S8320x2048 .bf16 :=
  truncf .bf16 (mulf (extractStridedSlice S8320x2048 ![0, 0] (gates p b) slices_S8320x4096_S8320x2048_0_0) (mix d w)) bitsLt_bf16_f32
abbrev right (d : FVec Ideal S8320x2048 .f32) (w : FVec Ideal S8x256x2048 .bf16) (p : FVec Ideal S8320x11264 .f32) (b : FVec Ideal S1x4096 .f32) : FVec Ideal S8320x2048 .bf16 :=
  truncf .bf16 (mulf (extractStridedSlice S8320x2048 ![0, 2048] (gates p b) slices_S8320x4096_S8320x2048_0_2048) (mix d w)) bitsLt_bf16_f32
/-- The gradients of both gates' arguments, side by side. -/
abbrev both (d : FVec Ideal S8320x2048 .f32) (w : FVec Ideal S8x256x2048 .bf16) (p : FVec Ideal S8320x11264 .f32) (b : FVec Ideal S1x4096 .f32) (u v : FVec Ideal S8320x2048 .f32) : FVec Ideal S8320x4096 .f32 :=
  mulf (concatenate S8320x4096 1 [⟨S8320x2048, (mulf (mix d w) u)⟩, ⟨S8320x2048, (mulf (mix d w) v)⟩] concatenates_S8320x2048_S8320x2048_S8320x4096_d1)
    (mulf (gates p b) (subf ones (gates p b)))
abbrev leftGate (d : FVec Ideal S8320x2048 .f32) (w : FVec Ideal S8x256x2048 .bf16) (p : FVec Ideal S8320x11264 .f32) (b : FVec Ideal S1x4096 .f32) (u v : FVec Ideal S8320x2048 .f32) : FVec Ideal S8320x2048 .bf16 :=
  truncf .bf16 (extractStridedSlice S8320x2048 ![0, 0] (both d w p b u v) slices_S8320x4096_S8320x2048_0_0) bitsLt_bf16_f32
abbrev rightGate (d : FVec Ideal S8320x2048 .f32) (w : FVec Ideal S8x256x2048 .bf16) (p : FVec Ideal S8320x11264 .f32) (b : FVec Ideal S1x4096 .f32) (u v : FVec Ideal S8320x2048 .f32) : FVec Ideal S8320x2048 .bf16 :=
  truncf .bf16 (extractStridedSlice S8320x2048 ![0, 2048] (both d w p b u v) slices_S8320x4096_S8320x2048_0_2048) bitsLt_bf16_f32
/-- The gradients of the bias. -/
abbrev bias (d : FVec Ideal S8320x2048 .f32) (w : FVec Ideal S8x256x2048 .bf16) (p : FVec Ideal S8320x11264 .f32) (b : FVec Ideal S1x4096 .f32) (u v : FVec Ideal S8320x2048 .f32) : FVec Ideal S1x4096 .f32 :=
  shapeCast _ (Host.reduceAdd (both d w p b u v) (constant S_ .f32 0x00000000#32) reducesTo_S8320x4096_S4096_d0 h_S_) shapeCasts_S4096_S1x4096
abbrev leftBias (d : FVec Ideal S8320x2048 .f32) (w : FVec Ideal S8x256x2048 .bf16) (p : FVec Ideal S8320x11264 .f32) (b : FVec Ideal S1x4096 .f32) (u v : FVec Ideal S8320x2048 .f32) : FVec Ideal S1x2048 .f32 :=
  extractStridedSlice S1x2048 ![0, 0] (bias d w p b u v) slices_S1x4096_S1x2048_0_0
abbrev rightBias (d : FVec Ideal S8320x2048 .f32) (w : FVec Ideal S8x256x2048 .bf16) (p : FVec Ideal S8320x11264 .f32) (b : FVec Ideal S1x4096 .f32) (u v : FVec Ideal S8320x2048 .f32) : FVec Ideal S1x2048 .f32 :=
  extractStridedSlice S1x2048 ![0, 2048] (bias d w p b u v) slices_S1x4096_S1x2048_0_2048

end Cert.Reference9Ideal.Hand

namespace Cert.Kernel9Ideal.Hand

open Cert.Kernel9Ideal Cert.Kernel9Ideal.Gen Cert.Reference9Ideal.Hand
open Idealize.ShloMosaic Idealize.ShloMosaic.TcCoe Idealize.ShloMosaic.Tactic Idealize.SL.Sem

/-- A column of the first half and of the second. -/
abbrev first (k : Fin 2048) : Fin 4096 := ⟨k.val, by omega⟩
abbrev second (k : Fin 2048) : Fin 4096 := ⟨2048 + k.val, by omega⟩

/-- A gate's entry. -/
def gate (p : FVec Ideal S8320x11264 .f32) (b : FVec Ideal S1x4096 .f32) (r : Fin 8320) (k : Fin 4096) : EReal :=
  Ideal.div 1 (1 + Ideal.exp (-(p (ix2 r ⟨7168 + k.val, by omega⟩) + b (ix2 0 k))))

theorem gates_at (p : FVec Ideal S8320x11264 .f32) (b : FVec Ideal S1x4096 .f32) (r : Fin 8320) (k : Fin 4096) : gates p b (ix2 r k) = gate p b r k := by
  unfold gate
  pointwise [gates, ones]

/-- An entry of the gated sum's gradient. -/
def mixed (d : FVec Ideal S8320x2048 .f32) (w : FVec Ideal S8x256x2048 .bf16) (r : Fin 8320) (k : Fin 2048) : EReal :=
  ∑ l : Fin 2048, d (ix2 r l) * w (ix3 ⟨k.val / 256, by omega⟩ ⟨k.val % 256, by omega⟩ l)
theorem mix_at (d : FVec Ideal S8320x2048 .f32) (w : FVec Ideal S8x256x2048 .bf16) (r : Fin 8320) (k : Fin 2048) : mix d w (ix2 r k) = mixed d w r k := by
  unfold mixed
  pointwise [mix]

/-- An entry of the gradient of a gate's argument. -/
def term (x u g : EReal) : EReal := x * u * g * (1 - g)

/-- An entry of the gradient of a merged product, and of a gate's argument, at a row and a column. -/
def scaled (d : FVec Ideal S8320x2048 .f32) (w : FVec Ideal S8x256x2048 .bf16) (p : FVec Ideal S8320x11264 .f32) (b : FVec Ideal S1x4096 .f32) (half : Fin 2048 → Fin 4096) (y : S8320x2048.Idx) : EReal :=
  mixed d w (y 0) (y 1) * gate p b (y 0) (half (y 1))
def slope (d : FVec Ideal S8320x2048 .f32) (w : FVec Ideal S8x256x2048 .bf16) (p : FVec Ideal S8320x11264 .f32) (b : FVec Ideal S1x4096 .f32) (half : Fin 2048 → Fin 4096) (u : FVec Ideal S8320x2048 .f32) (y : S8320x2048.Idx) : EReal :=
  term (mixed d w (y 0) (y 1)) (u (ix2 (y 0) (y 1))) (gate p b (y 0) (half (y 1)))

theorem left_at (d : FVec Ideal S8320x2048 .f32) (w : FVec Ideal S8x256x2048 .bf16) (p : FVec Ideal S8320x11264 .f32) (b : FVec Ideal S1x4096 .f32) (y : S8320x2048.Idx) :
    left d w p b y = scaled d w p b first y := by
  refine Eq.trans (b := gates p b (ix2 (y 0) (first (y 1))) * mixed d w (y 0) (y 1)) ?_
    ((congrArg (fun a : EReal => a * mixed d w (y 0) (y 1)) (gates_at p b (y 0) (first (y 1)))).trans (mul_comm _ _))
  unfold mixed
  generalize hz : gates p b = z
  pointwise [left, hz]
theorem right_at (d : FVec Ideal S8320x2048 .f32) (w : FVec Ideal S8x256x2048 .bf16) (p : FVec Ideal S8320x11264 .f32) (b : FVec Ideal S1x4096 .f32) (y : S8320x2048.Idx) :
    right d w p b y = scaled d w p b second y := by
  refine Eq.trans (b := gates p b (ix2 (y 0) (second (y 1))) * mixed d w (y 0) (y 1)) ?_
    ((congrArg (fun a : EReal => a * mixed d w (y 0) (y 1)) (gates_at p b (y 0) (second (y 1)))).trans (mul_comm _ _))
  unfold mixed
  generalize hz : gates p b = z
  pointwise [right, hz]

theorem both_first (d : FVec Ideal S8320x2048 .f32) (w : FVec Ideal S8x256x2048 .bf16) (p : FVec Ideal S8320x11264 .f32) (b : FVec Ideal S1x4096 .f32) (u v : FVec Ideal S8320x2048 .f32) (r : Fin 8320) (k : Fin 2048) :
    both d w p b u v (ix2 r (first k)) = term (mixed d w r k) (u (ix2 r k)) (gate p b r (first k)) := by
  unfold term mixed
  rw [mul_assoc _ (gate p b r (first k)), ← gates_at]
  generalize hz : gates p b = z
  pointwise [both, ones, hz]
theorem both_second (d : FVec Ideal S8320x2048 .f32) (w : FVec Ideal S8x256x2048 .bf16) (p : FVec Ideal S8320x11264 .f32) (b : FVec Ideal S1x4096 .f32) (u v : FVec Ideal S8320x2048 .f32) (r : Fin 8320) (k : Fin 2048) :
    both d w p b u v (ix2 r (second k)) = term (mixed d w r k) (v (ix2 r k)) (gate p b r (second k)) := by
  unfold term mixed
  rw [mul_assoc _ (gate p b r (second k)), ← gates_at]
  generalize hz : gates p b = z
  pointwise [both, ones, hz]

theorem leftGate_at (d : FVec Ideal S8320x2048 .f32) (w : FVec Ideal S8x256x2048 .bf16) (p : FVec Ideal S8320x11264 .f32) (b : FVec Ideal S1x4096 .f32) (u v : FVec Ideal S8320x2048 .f32) (y : S8320x2048.Idx) :
    leftGate d w p b u v y = slope d w p b first u y := by
  refine Eq.trans (b := both d w p b u v (ix2 (y 0) (first (y 1)))) ?_ (both_first d w p b u v (y 0) (y 1))
  generalize hx : both d w p b u v = x
  pointwise [leftGate, hx]
theorem rightGate_at (d : FVec Ideal S8320x2048 .f32) (w : FVec Ideal S8x256x2048 .bf16) (p : FVec Ideal S8320x11264 .f32) (b : FVec Ideal S1x4096 .f32) (u v : FVec Ideal S8320x2048 .f32) (y : S8320x2048.Idx) :
    rightGate d w p b u v y = slope d w p b second v y := by
  refine Eq.trans (b := both d w p b u v (ix2 (y 0) (second (y 1)))) ?_ (both_second d w p b u v (y 0) (y 1))
  generalize hx : both d w p b u v = x
  pointwise [rightGate, hx]
theorem leftBias_at (d : FVec Ideal S8320x2048 .f32) (w : FVec Ideal S8x256x2048 .bf16) (p : FVec Ideal S8320x11264 .f32) (b : FVec Ideal S1x4096 .f32) (u v : FVec Ideal S8320x2048 .f32) (y : S1x2048.Idx) :
    leftBias d w p b u v y = ∑ r : Fin 8320, slope d w p b first u (ix2 r (y 1)) := by
  refine Eq.trans (b := ∑ r : Fin 8320, both d w p b u v (ix2 r (first (y 1)))) ?_ (Finset.sum_congr rfl fun r _ => both_first d w p b u v r (y 1))
  generalize hx : both d w p b u v = x
  pointwise [leftBias, bias, hx]
theorem rightBias_at (d : FVec Ideal S8320x2048 .f32) (w : FVec Ideal S8x256x2048 .bf16) (p : FVec Ideal S8320x11264 .f32) (b : FVec Ideal S1x4096 .f32) (u v : FVec Ideal S8320x2048 .f32) (y : S1x2048.Idx) :
    rightBias d w p b u v y = ∑ r : Fin 8320, slope d w p b second v (ix2 r (y 1)) := by
  refine Eq.trans (b := ∑ r : Fin 8320, both d w p b u v (ix2 r (second (y 1)))) ?_ (Finset.sum_congr rfl fun r _ => both_second d w p b u v r (y 1))
  generalize hx : both d w p b u v = x
  pointwise [rightBias, bias, hx]

/-! What a grid point computes, from its blocks. -/

theorem dot_at (x : FVec Ideal S640x2048 .bf16) (w : FVec Ideal S512x2048 .bf16) (j : S640x512.Idx) :
    k0_pay1 (F := Ideal) x w j = ∑ l : Fin 2048, x (ix2 (j 0) l) * w (ix2 (j 1) l) := by
  pointwise [k0_pay1]
theorem gate_at (p : FVec Ideal S640x512 .f32) (b : FVec Ideal S1x512 .f32) (j : S640x512.Idx) :
    k0_pay2 (F := Ideal) p b j = Ideal.div 1 (1 + Ideal.exp (-(p j + b (ix2 0 (j 1))))) := by
  pointwise [k0_pay2]
  rw [zero_sub]
theorem term_at (x g u : FVec Ideal S640x512 .f32) (j : S640x512.Idx) : k0_pay6 (F := Ideal) x g u j = term (x j) (u j) (g j) := by
  unfold term
  pointwise [k0_pay6]
theorem acc_at (x g u : FVec Ideal S640x512 .f32) (acc : FVec Ideal S1x512 .f32) (j : S1x512.Idx) :
    k0_pay12 (F := Ideal) x g u acc j = acc j + ∑ k : Fin 640, k0_pay6 (F := Ideal) x g u (ix2 k (j 1)) := by
  generalize hz : k0_pay6 (F := Ideal) x g u = z
  pointwise [k0_pay12, hz]
theorem zero_at (j : S1x512.Idx) : k0_pay10 (F := Ideal) j = 0 := by pointwise [k0_pay10]

theorem place : ∀ t : Fin cfg0.N, win0_0.index t = ![t.val % 13, 0] ∧ win0_1.index t = ![t.val / 13, 0] ∧ win0_2.index t = ![t.val % 13, t.val / 13 + 14] ∧ win0_3.index t = ![t.val % 13, t.val / 13 + 18]
    ∧ win0_4.index t = ![0, t.val / 13] ∧ win0_5.index t = ![0, t.val / 13 + 4] ∧ win0_6.index t = ![t.val % 13, t.val / 13] ∧ win0_7.index t = ![t.val % 13, t.val / 13]
    ∧ win0_8.index t = ![t.val % 13, t.val / 13] ∧ win0_9.index t = ![t.val % 13, t.val / 13] ∧ win0_10.index t = ![t.val % 13, t.val / 13] ∧ win0_11.index t = ![t.val % 13, t.val / 13]
    ∧ win0_12.index t = ![0, t.val / 13] ∧ win0_13.index t = ![0, t.val / 13] :=
  (by decide +kernel : ∀ t : Fin grid0.N, _)

variable (m : (ℓ : Loc nD τ sig) → Buf (Elt Ideal) ℓ)

abbrev aD (c : Dev nD) : FVec Ideal S8320x2048 .f32 := m ((c : Thread nD τ).loc main_arg0)
abbrev aW (c : Dev nD) : FVec Ideal S8x256x2048 .bf16 := m ((c : Thread nD τ).loc main_arg1)
abbrev aP (c : Dev nD) : FVec Ideal S8320x11264 .f32 := m ((c : Thread nD τ).loc main_arg2)
abbrev aB (c : Dev nD) : FVec Ideal S1x4096 .f32 := m ((c : Thread nD τ).loc main_arg3)
abbrev aU (c : Dev nD) : FVec Ideal S8320x2048 .f32 := m ((c : Thread nD τ).loc main_arg4)
abbrev aV (c : Dev nD) : FVec Ideal S8320x2048 .f32 := m ((c : Thread nD τ).loc main_arg5)

/-- The rows and the columns of a grid point, and what it is handed. -/
abbrev row (t : Fin cfg0.N) (j : Fin 640) : Fin 8320 := ⟨t.val % 13 * 640 + j.val, by omega⟩
abbrev col (t : Fin cfg0.N) (j : Fin 512) : Fin 2048 := ⟨t.val / 13 * 512 + j.val, by have ht : t.val < 52 := t.isLt; omega⟩
abbrev bD (c : Dev nD) (t : Fin cfg0.N) : FVec Ideal S640x2048 .bf16 := iblk m c 0 t
abbrev bW (c : Dev nD) (t : Fin cfg0.N) : FVec Ideal S512x2048 .bf16 := iblk m c 1 t
abbrev bP (c : Dev nD) (t : Fin cfg0.N) : FVec Ideal S640x512 .f32 := iblk m c 2 t
abbrev bQ (c : Dev nD) (t : Fin cfg0.N) : FVec Ideal S640x512 .f32 := iblk m c 3 t
abbrev bB (c : Dev nD) (t : Fin cfg0.N) : FVec Ideal S1x512 .f32 := iblk m c 4 t
abbrev bC (c : Dev nD) (t : Fin cfg0.N) : FVec Ideal S1x512 .f32 := iblk m c 5 t
abbrev bU (c : Dev nD) (t : Fin cfg0.N) : FVec Ideal S640x512 .f32 := iblk m c 6 t
abbrev bV (c : Dev nD) (t : Fin cfg0.N) : FVec Ideal S640x512 .f32 := iblk m c 7 t

/-- The gated sum's gradient, and each gate, at a grid point. -/
theorem mix_rows (c : Dev nD) (t : Fin cfg0.N) (j : S640x512.Idx) :
    k0_pay1 (F := Ideal) (bD m c t) (bW m c t) j = mixed (aD m c) (aW m c) (row t (j 0)) (col t (j 1)) := by
  rw [dot_at]
  unfold mixed
  blk_point [iblk, V, place t]
theorem gate_p (c : Dev nD) (t : Fin cfg0.N) (j : S640x512.Idx) :
    k0_pay2 (F := Ideal) (bP m c t) (bB m c t) j = gate (aP m c) (aB m c) (row t (j 0)) (first (col t (j 1))) := by
  rw [gate_at]
  unfold gate
  refine congrArg₂ (fun a b : EReal => Ideal.div 1 (1 + Ideal.exp (-(a + b)))) ?_ ?_
  · blk_ext [iblk, V, place t]
  · blk_ext [iblk, V, place t]
theorem gate_q (c : Dev nD) (t : Fin cfg0.N) (j : S640x512.Idx) :
    k0_pay2 (F := Ideal) (bQ m c t) (bC m c t) j = gate (aP m c) (aB m c) (row t (j 0)) (second (col t (j 1))) := by
  rw [gate_at]
  unfold gate
  refine congrArg₂ (fun a b : EReal => Ideal.div 1 (1 + Ideal.exp (-(a + b)))) ?_ ?_
  · blk_ext [iblk, V, place t]
  · blk_ext [iblk, V, place t]

theorem bU_at (c : Dev nD) (t : Fin cfg0.N) (j : S640x512.Idx) : bU m c t j = aU m c (ix2 (row t (j 0)) (col t (j 1))) := by
  blk_ext [iblk, V, place t]
theorem bV_at (c : Dev nD) (t : Fin cfg0.N) (j : S640x512.Idx) : bV m c t j = aV m c (ix2 (row t (j 0)) (col t (j 1))) := by
  blk_ext [iblk, V, place t]

/-- The four arrays' blocks at a grid point. -/
theorem out_8 (c : Dev nD) (t : Fin cfg0.N) : (outsAt0 m c t.val t.isLt).1 = k0_pay4 (F := Ideal) (bD m c t) (bW m c t) (bP m c t) (bB m c t) := by
  by_cases h : t.val % 13 = 0
  · rw [outsAt0_A m c t h]
    frame_out
  · rw [outsAt0_B m c t h]
    frame_out
theorem out_9 (c : Dev nD) (t : Fin cfg0.N) : (outsAt0 m c t.val t.isLt).2.1 = k0_pay5 (F := Ideal) (bD m c t) (bW m c t) (bQ m c t) (bC m c t) := by
  by_cases h : t.val % 13 = 0
  · rw [outsAt0_A m c t h]
    frame_out
  · rw [outsAt0_B m c t h]
    frame_out
theorem out_10 (c : Dev nD) (t : Fin cfg0.N) : (outsAt0 m c t.val t.isLt).2.2.1 = k0_pay8 (F := Ideal) (k0_pay1 (F := Ideal) (bD m c t) (bW m c t)) (k0_pay2 (F := Ideal) (bP m c t) (bB m c t)) (bU m c t) := by
  by_cases h : t.val % 13 = 0
  · rw [outsAt0_A m c t h]
    frame_out
  · rw [outsAt0_B m c t h]
    frame_out
theorem out_11 (c : Dev nD) (t : Fin cfg0.N) : (outsAt0 m c t.val t.isLt).2.2.2.1 = k0_pay9 (F := Ideal) (k0_pay1 (F := Ideal) (bD m c t) (bW m c t)) (k0_pay3 (F := Ideal) (bQ m c t) (bC m c t)) (bV m c t) := by
  by_cases h : t.val % 13 = 0
  · rw [outsAt0_A m c t h]
    frame_out
  · rw [outsAt0_B m c t h]
    frame_out

/-- What a grid point adds to the gradient of a gate's bias. -/
def rise (x g u : FVec Ideal S640x512 .f32) (j : S1x512.Idx) : EReal := ∑ k : Fin 640, k0_pay6 (F := Ideal) x g u (ix2 k (j 1))

theorem sum_12 (c : Dev nD) (t : Fin cfg0.N) (ht : t.val % 13 = 12) (j : S1x512.Idx) :
    (outsAt0 m c t.val t.isLt).2.2.2.2.1 j = ∑ s : Fin 13, rise (k0_pay1 (F := Ideal) (bD m c ⟨13 * (t.val / 13) + s.val, Pipeline.run_point_lt_of_flush t ht s⟩) (bW m c ⟨13 * (t.val / 13) + s.val, Pipeline.run_point_lt_of_flush t ht s⟩))
      (k0_pay2 (F := Ideal) (bP m c ⟨13 * (t.val / 13) + s.val, Pipeline.run_point_lt_of_flush t ht s⟩) (bB m c ⟨13 * (t.val / 13) + s.val, Pipeline.run_point_lt_of_flush t ht s⟩)) (bU m c ⟨13 * (t.val / 13) + s.val, Pipeline.run_point_lt_of_flush t ht s⟩) j := by
  rw [Pipeline.eq_sum_fin_of_reset_step_apply_of_flush (fun n h => (outsAt0 m c n h).2.2.2.2.1) 13 (fun _ => (0 : EReal))
    (fun p j => rise (k0_pay1 (F := Ideal) (bD m c p) (bW m c p)) (k0_pay2 (F := Ideal) (bP m c p) (bB m c p)) (bU m c p) j)
    (fun t h j => by
      rw [outsAt0_A m c t h]
      frame_out
      refine (acc_at (k0_pay1 (F := Ideal) (bD m c t) (bW m c t)) (k0_pay2 (F := Ideal) (bP m c t) (bB m c t)) (bU m c t) _ j).trans ?_
      exact congrArg (· + _) (zero_at j))
    (fun t h j => by
      rw [outsAt0_B m c t h]
      frame_out
      exact acc_at (k0_pay1 (F := Ideal) (bD m c t) (bW m c t)) (k0_pay2 (F := Ideal) (bP m c t) (bB m c t)) (bU m c t) _ j)
    t ht j, zero_add]
theorem sum_13 (c : Dev nD) (t : Fin cfg0.N) (ht : t.val % 13 = 12) (j : S1x512.Idx) :
    (outsAt0 m c t.val t.isLt).2.2.2.2.2 j = ∑ s : Fin 13, rise (k0_pay1 (F := Ideal) (bD m c ⟨13 * (t.val / 13) + s.val, Pipeline.run_point_lt_of_flush t ht s⟩) (bW m c ⟨13 * (t.val / 13) + s.val, Pipeline.run_point_lt_of_flush t ht s⟩))
      (k0_pay2 (F := Ideal) (bQ m c ⟨13 * (t.val / 13) + s.val, Pipeline.run_point_lt_of_flush t ht s⟩) (bC m c ⟨13 * (t.val / 13) + s.val, Pipeline.run_point_lt_of_flush t ht s⟩)) (bV m c ⟨13 * (t.val / 13) + s.val, Pipeline.run_point_lt_of_flush t ht s⟩) j := by
  rw [Pipeline.eq_sum_fin_of_reset_step_apply_of_flush (fun n h => (outsAt0 m c n h).2.2.2.2.2) 13 (fun _ => (0 : EReal))
    (fun p j => rise (k0_pay1 (F := Ideal) (bD m c p) (bW m c p)) (k0_pay2 (F := Ideal) (bQ m c p) (bC m c p)) (bV m c p) j)
    (fun t h j => by
      rw [outsAt0_A m c t h]
      frame_out
      refine (acc_at (k0_pay1 (F := Ideal) (bD m c t) (bW m c t)) (k0_pay2 (F := Ideal) (bQ m c t) (bC m c t)) (bV m c t) _ j).trans ?_
      exact congrArg (· + _) (zero_at j))
    (fun t h j => by
      rw [outsAt0_B m c t h]
      frame_out
      exact acc_at (k0_pay1 (F := Ideal) (bD m c t) (bW m c t)) (k0_pay2 (F := Ideal) (bQ m c t) (bC m c t)) (bV m c t) _ j)
    t ht j, zero_add]

/-! The arrays that the kernel leaves are the reference's. -/

theorem final_8 (c : Dev nD) : (dats m 0 c).arrAt 8 (cfgs 0).N = left (aD m c) (aW m c) (aP m c) (aB m c) := by
  refine (dats m 0 c).arrAt_eq_of_covers 8 _ (by decide +kernel) fun t hf y => ?_
  blk_simp
  rw [after0_8, out_8]
  refine Eq.trans (b := k0_pay1 (F := Ideal) (bD m c t) (bW m c t) y * (k0_pay2 (F := Ideal) (bP m c t) (bB m c t)) y) rfl ?_
  refine Eq.trans (b := scaled (aD m c) (aW m c) (aP m c) (aB m c) first (ix2 (row t (y 0)) (col t (y 1)))) (congrArg₂ (fun a b : EReal => a * b) (mix_rows m c t y) (gate_p m c t y)) ?_
  refine Eq.trans ?_ (left_at (aD m c) (aW m c) (aP m c) (aB m c) _).symm
  blk_ext [place t]
theorem final_9 (c : Dev nD) : (dats m 0 c).arrAt 9 (cfgs 0).N = right (aD m c) (aW m c) (aP m c) (aB m c) := by
  refine (dats m 0 c).arrAt_eq_of_covers 9 _ (by decide +kernel) fun t hf y => ?_
  blk_simp
  rw [after0_9, out_9]
  refine Eq.trans (b := k0_pay1 (F := Ideal) (bD m c t) (bW m c t) y * (k0_pay2 (F := Ideal) (bQ m c t) (bC m c t)) y) rfl ?_
  refine Eq.trans (b := scaled (aD m c) (aW m c) (aP m c) (aB m c) second (ix2 (row t (y 0)) (col t (y 1)))) (congrArg₂ (fun a b : EReal => a * b) (mix_rows m c t y) (gate_q m c t y)) ?_
  refine Eq.trans ?_ (right_at (aD m c) (aW m c) (aP m c) (aB m c) _).symm
  blk_ext [place t]
theorem final_10 (c : Dev nD) : (dats m 0 c).arrAt 10 (cfgs 0).N = leftGate (aD m c) (aW m c) (aP m c) (aB m c) (aU m c) (aV m c) := by
  refine (dats m 0 c).arrAt_eq_of_covers 10 _ (by decide +kernel) fun t hf y => ?_
  blk_simp
  rw [after0_10, out_10]
  refine Eq.trans (term_at (k0_pay1 (F := Ideal) (bD m c t) (bW m c t)) (k0_pay2 (F := Ideal) (bP m c t) (bB m c t)) (bU m c t) y) ?_
  rw [mix_rows, gate_p, bU_at]
  refine Eq.trans (b := slope (aD m c) (aW m c) (aP m c) (aB m c) first (aU m c) (ix2 (row t (y 0)) (col t (y 1)))) rfl ?_
  refine Eq.trans ?_ (leftGate_at (aD m c) (aW m c) (aP m c) (aB m c) (aU m c) (aV m c) _).symm
  blk_ext [place t]
theorem final_11 (c : Dev nD) : (dats m 0 c).arrAt 11 (cfgs 0).N = rightGate (aD m c) (aW m c) (aP m c) (aB m c) (aU m c) (aV m c) := by
  refine (dats m 0 c).arrAt_eq_of_covers 11 _ (by decide +kernel) fun t hf y => ?_
  blk_simp
  rw [after0_11, out_11]
  refine Eq.trans (term_at (k0_pay1 (F := Ideal) (bD m c t) (bW m c t)) (k0_pay2 (F := Ideal) (bQ m c t) (bC m c t)) (bV m c t) y) ?_
  rw [mix_rows, gate_q, bV_at]
  refine Eq.trans (b := slope (aD m c) (aW m c) (aP m c) (aB m c) second (aV m c) (ix2 (row t (y 0)) (col t (y 1)))) rfl ?_
  refine Eq.trans ?_ (rightGate_at (aD m c) (aW m c) (aP m c) (aB m c) (aU m c) (aV m c) _).symm
  blk_ext [place t]
theorem final_12 (c : Dev nD) : (dats m 0 c).arrAt 12 (cfgs 0).N = leftBias (aD m c) (aW m c) (aP m c) (aB m c) (aU m c) (aV m c) := by
  refine (dats m 0 c).arrAt_eq_of_covers 12 _ (by decide +kernel) fun t hf y => ?_
  have ht := (flush0_12 t).mp hf
  blk_simp
  rw [after0_12]
  refine (sum_12 m c t ht _).trans ?_
  refine Eq.trans ?_ (leftBias_at (aD m c) (aW m c) (aP m c) (aB m c) (aU m c) (aV m c) _).symm
  refine Fin.sum_mul_add_congr fun s k hl => ?_
  refine Eq.trans (term_at _ _ _ _) ?_
  rw [mix_rows, gate_p, bU_at]
  show slope (aD m c) (aW m c) (aP m c) (aB m c) first (aU m c) (ix2 (row ⟨13 * (t.val / 13) + s.val, _⟩ k) (col ⟨13 * (t.val / 13) + s.val, _⟩ (y 1))) = _
  blk_ext [place t, place ⟨_, Pipeline.run_point_lt_of_flush t ht s⟩]
theorem final_13 (c : Dev nD) : (dats m 0 c).arrAt 13 (cfgs 0).N = rightBias (aD m c) (aW m c) (aP m c) (aB m c) (aU m c) (aV m c) := by
  refine (dats m 0 c).arrAt_eq_of_covers 13 _ (by decide +kernel) fun t hf y => ?_
  have ht := (flush0_13 t).mp hf
  blk_simp
  rw [after0_13]
  refine (sum_13 m c t ht _).trans ?_
  refine Eq.trans ?_ (rightBias_at (aD m c) (aW m c) (aP m c) (aB m c) (aU m c) (aV m c) _).symm
  refine Fin.sum_mul_add_congr fun s k hl => ?_
  refine Eq.trans (term_at _ _ _ _) ?_
  rw [mix_rows, gate_q, bV_at]
  show slope (aD m c) (aW m c) (aP m c) (aB m c) second (aV m c) (ix2 (row ⟨13 * (t.val / 13) + s.val, _⟩ k) (col ⟨13 * (t.val / 13) + s.val, _⟩ (y 1))) = _
  blk_ext [place t, place ⟨_, Pipeline.run_point_lt_of_flush t ht s⟩]

end Cert.Kernel9Ideal.Hand

end
-- ==== Proof.GradProj.lean ====
module

public import proofs.«01_k».proof.Proof.Gen.Kernel10Ideal.Value
public import proofs.«01_k».proof.Proof.Gen.Reference10Ideal.Run
public import Idealize.ShloMosaic.Lib.Pipeline.ValueKit

/-!
  The gradient of the weight of a mixer's own projection: the blocks of rows that the kernel adds up one
  after the other are the whole product.
-/

@[expose] public section

set_option maxRecDepth 16384

noncomputable section

namespace Cert.Reference10Ideal.Hand

open Cert.Reference10Ideal Cert.Reference10Ideal.Gen
open Idealize.ShloMosaic

/-- The reference's result, of the mixer's output and of the incoming gradient. -/
abbrev grad (a0 : FVec Ideal S8320x1024 .bf16) (a1 : FVec Ideal S8320x2048 .bf16) : FVec Ideal S8x1024x256 .bf16 :=
    truncf .bf16 (transpose S8x1024x256 [1, 0, 2] (shapeCast _ (transpose S1024x2048 [1, 0] (Host.dotGeneral
    dot_S8320x2048_S8320x1024_S2048x1024_0_0_1_1_n_n none (extf .f32 a1 bitsLt_bf16_f32) (extf .f32 a0 bitsLt_bf16_f32))
    transposes_S2048x1024_S1024x2048_1_0) shapeCasts_S1024x2048_S1024x8x256) transposes_S1024x8x256_S8x1024x256_1_0_2) bitsLt_bf16_f32

end Cert.Reference10Ideal.Hand

namespace Cert.Kernel10Ideal.Hand

open Cert.Kernel10Ideal Cert.Kernel10Ideal.Gen Cert.Reference10Ideal.Hand
open Idealize.ShloMosaic Idealize.ShloMosaic.TcCoe Idealize.ShloMosaic.Tactic Idealize.SL.Sem

/-- An entry of it is a sum over all rows. -/
theorem grad_at (x : FVec Ideal S8320x1024 .bf16) (g : FVec Ideal S8320x2048 .bf16) (y : S8x1024x256.Idx) :
    grad x g y = ∑ l : Fin 8320, x (ix2 l (y 1)) * g (ix2 l (⟨(y 0).val * 256 + (y 2).val, by have h0 : (y 0).val < 8 := (y 0).isLt; have h2 : (y 2).val < 256 := (y 2).isLt; omega⟩)) := by
  pointwise [grad]
  exact Finset.sum_congr rfl fun x _ => mul_comm _ _

theorem zero_at (j : S1024x256.Idx) : k0_pay1 (F := Ideal) j = 0 := by pointwise [k0_pay1]

theorem add_at (acc : FVec Ideal S1024x256 .f32) (x : FVec Ideal S1664x1024 .bf16) (g : FVec Ideal S1664x256 .bf16) (j : S1024x256.Idx) :
    k0_pay2 (F := Ideal) acc x g j = acc j + ∑ k : Fin 1664, x (ix2 k (j 0)) * g (ix2 k (j 1)) := by
  pointwise [k0_pay2]

theorem out_at (acc : FVec Ideal S1024x256 .f32) (j : S1x1024x256.Idx) : k0_pay3 (F := Ideal) acc j = acc (ix2 (j 1) (j 2)) := by
  pointwise [k0_pay3]

theorem place : ∀ t : Fin cfg0.N, win0_0.index t = ![t.val % 5, 0] ∧ win0_1.index t = ![t.val % 5, t.val / 5] ∧ win0_2.index t = ![t.val / 5, 0, 0] :=
  (by decide +kernel : ∀ t : Fin grid0.N, _)

variable (m : (ℓ : Loc nD τ sig) → Buf (Elt Ideal) ℓ)

/-- What a point adds: the product of its two blocks of rows. -/
abbrev part (c : Dev nD) (p : Fin cfg0.N) (j : S1024x256.Idx) : EReal :=
  ∑ k : Fin 1664, (show FVec Ideal S1664x1024 .bf16 from iblk m c 0 p) (ix2 k (j 0)) * (show FVec Ideal S1664x256 .bf16 from iblk m c 1 p) (ix2 k (j 1))

/-- After its run of five points the running sum holds what they have added. -/
theorem sum_at (c : Dev nD) (t : Fin cfg0.N) (ht : t.val % 5 = 4) (j : S1024x256.Idx) :
    (show EReal from (outsAt0 m c t.val t.isLt).2 j)
      = ∑ s : Fin 5, part m c ⟨5 * (t.val / 5) + s.val, Pipeline.run_point_lt_of_flush t ht s⟩ j := by
  show (outsAt0 m c t.val t.isLt).2 j = _
  rw [Pipeline.eq_sum_fin_of_reset_step_apply_of_flush (fun n h => (outsAt0 m c n h).2) 5 (fun _ => (0 : EReal)) (part m c)
    (fun t h j => by
      rw [outsAt0_A m c t h (by omega)]
      frame_out
      rw [add_at, zero_at])
    (fun t h j => by
      by_cases h1 : t.val % 5 = 4
      · rw [outsAt0_C m c t h h1]
        frame_out
        rw [add_at]
        exact congrArg (· + _) (congrFun (Memref.IsWhole.read_unread (Memref.isWhole_whole cc0_scratch0) _) j)
      · rw [outsAt0_B m c t h h1]
        frame_out
        rw [add_at]
        exact congrArg (· + _) (congrFun (Memref.IsWhole.read_unread (Memref.isWhole_whole cc0_scratch0) _) j))
    t ht j, zero_add]

/-- The array that the kernel leaves is the reference's. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 = k0_pay3 (F := Ideal) (outsAt0 m c t.val t.isLt).2 := by
    rw [outsAt0_C m c t (by omega) ht]
    frame_out
  rw [after0_2, e, out_at]
  refine (sum_at m c t ht _).trans ?_
  rw [grad_at]
  refine Fin.sum_mul_add_congr fun s k hl => ?_
  show (_ : EReal) = _
  blk_point [iblk, V, place t, place ⟨_, Pipeline.run_point_lt_of_flush t ht s⟩]

end Cert.Kernel10Ideal.Hand
-- ==== Proof.GradOut.lean ====
module

public import proofs.«01_k».proof.Proof.Gen.Kernel11Ideal.Value
public import proofs.«01_k».proof.Proof.Gen.Reference11Ideal.Run
public import Idealize.ShloMosaic.Lib.Pipeline.ValueKit

/-!
  The gradient of the weight of the mixer's output projection: the blocks of rows that the kernel adds up
  one after the other are the whole product.
-/

@[expose] public section

set_option maxRecDepth 16384

noncomputable section

namespace Cert.Reference11Ideal.Hand

open Cert.Reference11Ideal Cert.Reference11Ideal.Gen
open Idealize.ShloMosaic

/-- The reference's result, of the gated rows and of the incoming gradient. -/
abbrev grad (a0 : FVec Ideal S8320x2048 .bf16) (a1 : FVec Ideal S8320x2048 .f32) : FVec Ideal S8x256x2048 .bf16 :=
    truncf .bf16 (shapeCast _ (transpose S2048x2048 [1, 0] (Host.dotGeneral dot_S8320x2048_S8320x2048_S2048x2048_0_0_1_1_n_n none a1 (extf .f32 a0
    bitsLt_bf16_f32)) transposes_S2048x2048_S2048x2048_1_0) shapeCasts_S2048x2048_S8x256x2048) bitsLt_bf16_f32

end Cert.Reference11Ideal.Hand

namespace Cert.Kernel11Ideal.Hand

open Cert.Kernel11Ideal Cert.Kernel11Ideal.Gen Cert.Reference11Ideal.Hand
open Idealize.ShloMosaic Idealize.ShloMosaic.TcCoe Idealize.ShloMosaic.Tactic Idealize.SL.Sem

/-- An entry of it is a sum over all rows. -/
theorem grad_at (x : FVec Ideal S8320x2048 .bf16) (g : FVec Ideal S8320x2048 .f32) (y : S8x256x2048.Idx) :
    grad x g y = ∑ l : Fin 8320, x (ix2 l (⟨(y 0).val * 256 + (y 1).val, by have h0 : (y 0).val < 8 := (y 0).isLt; have h1 : (y 1).val < 256 := (y 1).isLt; omega⟩)) * g (ix2 l (y 2)) := by
  pointwise [grad]
  exact Finset.sum_congr rfl fun x _ => mul_comm _ _

theorem zero_at (j : S256x2048.Idx) : k0_pay1 (F := Ideal) j = 0 := by pointwise [k0_pay1]

theorem add_at (acc : FVec Ideal S256x2048 .f32) (x : FVec Ideal S1664x256 .bf16) (g : FVec Ideal S1664x2048 .bf16) (j : S256x2048.Idx) :
    k0_pay2 (F := Ideal) acc x g j = acc j + ∑ k : Fin 1664, x (ix2 k (j 0)) * g (ix2 k (j 1)) := by
  pointwise [k0_pay2]

theorem out_at (acc : FVec Ideal S256x2048 .f32) (j : S1x256x2048.Idx) : k0_pay3 (F := Ideal) acc j = acc (ix2 (j 1) (j 2)) := by
  pointwise [k0_pay3]

theorem place : ∀ t : Fin cfg0.N, win0_0.index t = ![t.val % 5, t.val / 5] ∧ win0_1.index t = ![t.val % 5, 0] ∧ win0_2.index t = ![t.val / 5, 0, 0] :=
  (by decide +kernel : ∀ t : Fin grid0.N, _)

variable (m : (ℓ : Loc nD τ sig) → Buf (Elt Ideal) ℓ)

/-- What a point adds: the product of its two blocks of rows. -/
abbrev part (c : Dev nD) (p : Fin cfg0.N) (j : S256x2048.Idx) : EReal :=
  ∑ k : Fin 1664, (show FVec Ideal S1664x256 .bf16 from iblk m c 0 p) (ix2 k (j 0)) * (show FVec Ideal S1664x2048 .bf16 from iblk m c 1 p) (ix2 k (j 1))

/-- After its run of five points the running sum holds what they have added. -/
theorem sum_at (c : Dev nD) (t : Fin cfg0.N) (ht : t.val % 5 = 4) (j : S256x2048.Idx) :
    (show EReal from (outsAt0 m c t.val t.isLt).2 j)
      = ∑ s : Fin 5, part m c ⟨5 * (t.val / 5) + s.val, Pipeline.run_point_lt_of_flush t ht s⟩ j := by
  show (outsAt0 m c t.val t.isLt).2 j = _
  rw [Pipeline.eq_sum_fin_of_reset_step_apply_of_flush (fun n h => (outsAt0 m c n h).2) 5 (fun _ => (0 : EReal)) (part m c)
    (fun t h j => by
      rw [outsAt0_A m c t h (by omega)]
      frame_out
      rw [add_at, zero_at])
    (fun t h j => by
      by_cases h1 : t.val % 5 = 4
      · rw [outsAt0_C m c t h h1]
        frame_out
        rw [add_at]
        exact congrArg (· + _) (congrFun (Memref.IsWhole.read_unread (Memref.isWhole_whole cc0_scratch0) _) j)
      · rw [outsAt0_B m c t h h1]
        frame_out
        rw [add_at]
        exact congrArg (· + _) (congrFun (Memref.IsWhole.read_unread (Memref.isWhole_whole cc0_scratch0) _) j))
    t ht j, zero_add]

/-- The array that the kernel leaves is the reference's. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 = k0_pay3 (F := Ideal) (outsAt0 m c t.val t.isLt).2 := by
    rw [outsAt0_C m c t (by omega) ht]
    frame_out
  rw [after0_2, e, out_at]
  refine (sum_at m c t ht _).trans ?_
  rw [grad_at]
  refine Fin.sum_mul_add_congr fun s k hl => ?_
  show (_ : EReal) = _
  blk_point [iblk, V, place t, place ⟨_, Pipeline.run_point_lt_of_flush t ht s⟩]

end Cert.Kernel11Ideal.Hand
-- ==== Proof.GradMixer.lean ====
module

public import proofs.«01_k».proof.Proof.Gen.Kernel12Ideal.Value
public import proofs.«01_k».proof.Proof.Gen.Reference12Ideal.Run
public import Idealize.ShloMosaic.Lib.Pipeline.ValueKit

/-!
  The gradient of a mixer's output: the rows go through one product with the whole of the weight.
-/

@[expose] public section

set_option maxRecDepth 16384

noncomputable section

namespace Cert.Reference12Ideal.Hand

open Cert.Reference12Ideal Cert.Reference12Ideal.Gen
open Idealize.ShloMosaic

/-- The reference's result, of the incoming gradient and of the weight. -/
abbrev grad (a0 : FVec Ideal S8320x2048 .bf16) (a1 : FVec Ideal S8x1024x256 .bf16) : FVec Ideal S8320x1024 .f32 :=
    Host.dotGeneral dot_S8320x2048_S1024x2048_S8320x1024_1_1_0_0_n_n none (extf .f32 a0 bitsLt_bf16_f32) (shapeCast _ (transpose S1024x8x256 [1, 0, 2]
    (extf .f32 a1 bitsLt_bf16_f32) transposes_S8x1024x256_S1024x8x256_1_0_2) shapeCasts_S1024x8x256_S1024x2048)

end Cert.Reference12Ideal.Hand

namespace Cert.Kernel12Ideal.Hand

open Cert.Kernel12Ideal Cert.Kernel12Ideal.Gen Cert.Reference12Ideal.Hand
open Idealize.ShloMosaic Idealize.ShloMosaic.TcCoe Idealize.ShloMosaic.Tactic Idealize.SL.Sem

theorem place : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The array that the kernel leaves is the reference's. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, grad]
  blk_point [iblk, V, place t]

end Cert.Kernel12Ideal.Hand

end
-- ==== Proof.Norm.lean ====
module

public import Idealize.ShloMosaic.Lib.Pipeline.ValueKit

/-!
  A row's norm, as both the kernels and the references compute it.
-/

@[expose] public section

noncomputable section

namespace Cert.Norm

open Idealize.ShloMosaic

/-- A row's mean: its sum over its length. -/
def mean (f : Fin 2048 → EReal) : EReal := Ideal.div (∑ k, f k) (Ideal.ofBits .f32 0x45000000#32)

/-- One over the root of the row's variance, the small constant added. -/
def inv (f : Fin 2048 → EReal) : EReal := Ideal.rsqrt (mean (fun k => (f k - mean f) * (f k - mean f)) + Ideal.ofBits .f32 0x3727C5AC#32)

/-- The normed entry, scaled by `g` and shifted by `b`. -/
def norm (f : Fin 2048 → EReal) (g b : EReal) (k : Fin 2048) : EReal := (f k - mean f) * inv f * g + b

theorem norm_congr {f f' : Fin 2048 → EReal} {g g' b b' : EReal} {k k' : Fin 2048} (hf : f = f') (hg : g = g') (hb : b = b') (hk : k = k') :
    norm f g b k = norm f' g' b' k' := by subst hf hg hb hk; rfl

end Cert.Norm

end
-- ==== Proof.NormGrad.lean ====
module

public import proofs.«01_k».proof.Proof.Norm
public import proofs.«01_k».proof.Proof.Reals

/-!
  The gradient of a row's norm by its input: the kernel's formula is the one that the reference's derivative gives.
-/

@[expose] public section

noncomputable section

namespace Cert.Norm

open Idealize.ShloMosaic
open Cert.Stick (coe_sum)

/-- What `inv` takes the root of. -/
def var (f : Fin 2048 → EReal) : EReal := mean (fun k => (f k - mean f) * (f k - mean f)) + Ideal.ofBits .f32 0x3727C5AC#32

/-- The derivative by the variance, and the gradient as the derivative of the lines of the norm gives it. -/
def steep (f e : Fin 2048 → EReal) : EReal :=
  Ideal.div ((∑ j, (f j - mean f) * e j) * (Ideal.ofBits .f32 0xBF000000#32 * Ideal.div (inv f) (var f))) (Ideal.ofBits .f32 0x45000000#32)
def derived (f e : Fin 2048 → EReal) (k : Fin 2048) : EReal :=
  e k * inv f + steep f e * (Ideal.ofBits .f32 0x40000000#32 * (f k - mean f))
    + Ideal.div ((∑ j, -(e j * inv f)) + ∑ j, -(steep f e * (Ideal.ofBits .f32 0x40000000#32 * (f j - mean f)))) (Ideal.ofBits .f32 0x45000000#32)

/-- The kernel's formula. -/
def direct (f e : Fin 2048 → EReal) (k : Fin 2048) : EReal :=
  inv f * (e k - mean e - (f k - mean f) * inv f * mean (fun j => e j * ((f j - mean f) * inv f)))

theorem length_eq : Ideal.ofBits .f32 0x45000000#32 = ((2048 : ℝ) : EReal) := by
  simp [Ideal.ofBits, Ideal.ieee]
  norm_num
  rw [← EReal.coe_mul]
  norm_num
theorem two_eq : Ideal.ofBits .f32 0x40000000#32 = ((2 : ℝ) : EReal) := by
  simp [Ideal.ofBits, Ideal.ieee]
  norm_num
  rw [← EReal.coe_mul]
  norm_num
theorem half_eq : Ideal.ofBits .f32 0xBF000000#32 = ((-(1 / 2) : ℝ) : EReal) := by
  simp [Ideal.ofBits, Ideal.ieee]
  norm_num
  rw [← EReal.coe_mul]
  norm_num
theorem small_eq : ∃ r : ℝ, 0 < r ∧ Ideal.ofBits .f32 0x3727C5AC#32 = (r : EReal) := by
  refine ⟨10995116 / 1099511627776, by positivity, ?_⟩
  simp [Ideal.ofBits, Ideal.ieee]
  norm_num
  rw [← EReal.coe_mul]
  norm_num

theorem div_real {a b : ℝ} (h : b ≠ 0) : Ideal.div (a : EReal) (b : EReal) = ((a / b : ℝ) : EReal) := by
  rw [Ideal.div, if_neg (by exact_mod_cast h), ← EReal.coe_inv, ← EReal.coe_mul, div_eq_mul_inv]
theorem mean_real (f : Fin 2048 → ℝ) : mean (fun k => (f k : EReal)) = (((∑ k, f k) / 2048 : ℝ) : EReal) := by
  rw [mean, coe_sum, length_eq, div_real (by norm_num)]

/-- A row of numbers has a positive variance, the small constant added. -/
theorem var_real (f : Fin 2048 → ℝ) : ∃ v : ℝ, 0 < v ∧ var (fun j => (f j : EReal)) = (v : EReal) ∧ inv (fun j => (f j : EReal)) = (((√v)⁻¹ : ℝ) : EReal) := by
  obtain ⟨ε, hε, hs⟩ := small_eq
  set M : ℝ := (∑ j, f j) / 2048 with hM
  set v : ℝ := (∑ j, (f j - M) * (f j - M)) / 2048 + ε with hv
  have hv0 : 0 < v := add_pos_of_nonneg_of_pos (div_nonneg (Finset.sum_nonneg fun j _ => mul_self_nonneg _) (by norm_num)) hε
  have hvar : var (fun j => (f j : EReal)) = (v : EReal) := by
    simp only [var, mean_real f, ← hM, ← EReal.coe_sub, ← EReal.coe_mul, hs]
    rw [mean_real (fun j => (f j - M) * (f j - M)), ← EReal.coe_add]
  have hinv : inv (fun j => (f j : EReal)) = (((√v)⁻¹ : ℝ) : EReal) := by
    show Ideal.rsqrt (var (fun j => (f j : EReal))) = _
    rw [hvar]
    show (if v < 0 then (⊥ : EReal) else if v = 0 then ⊤ else (((√v)⁻¹ : ℝ) : EReal)) = _
    rw [if_neg hv0.not_gt, if_neg hv0.ne']
  exact ⟨v, hv0, hvar, hinv⟩

/-- With numbers throughout, by algebra. -/
theorem direct_real (f e : Fin 2048 → ℝ) (k : Fin 2048) : direct (fun j => (f j : EReal)) (fun j => (e j : EReal)) k = derived (fun j => (f j : EReal)) (fun j => (e j : EReal)) k := by
  set M : ℝ := (∑ j, f j) / 2048 with hM
  have hx0 : ∑ j, (f j - M) = 0 := by
    rw [Finset.sum_sub_distrib, Finset.sum_const, Finset.card_univ, Fintype.card_fin, hM]
    simp only [nsmul_eq_mul]
    push_cast
    ring
  obtain ⟨v, hv0, hvar, hinv⟩ := var_real f
  set ρ : ℝ := (√v)⁻¹ with hρ
  have hρρ : ρ / v = ρ * (ρ * ρ) := by
    rw [hρ, ← mul_inv, Real.mul_self_sqrt hv0.le, div_eq_mul_inv]
  set X : ℝ := ∑ j, (f j - M) * e j with hX
  set E : ℝ := ∑ j, e j with hE
  have hst : steep (fun j => (f j : EReal)) (fun j => (e j : EReal)) = ((X * (-(1 / 2) * (ρ / v)) / 2048 : ℝ) : EReal) := by
    simp only [steep, mean_real f, ← hM, hinv, hvar, half_eq, length_eq, ← EReal.coe_sub, ← EReal.coe_mul, coe_sum, div_real hv0.ne', ← hX]
    rw [div_real (by norm_num)]
  set A : ℝ := X * (-(1 / 2) * (ρ / v)) / 2048 with hA
  have e1 : ∑ j, -(e j * ρ) = -(E * ρ) := by rw [Finset.sum_neg_distrib, ← Finset.sum_mul]
  have e2 : ∑ j, -(A * (2 * (f j - M))) = 0 := by
    rw [Finset.sum_neg_distrib, ← Finset.mul_sum, ← Finset.mul_sum, hx0]
    ring
  have e3 : ∑ j, e j * ((f j - M) * ρ) = X * ρ := by
    rw [hX, Finset.sum_mul]
    exact Finset.sum_congr rfl fun j _ => by ring
  simp only [direct, derived, mean_real f, mean_real e, ← hM, hinv, hst, two_eq, length_eq, ← EReal.coe_sub, ← EReal.coe_mul, ← EReal.coe_neg, coe_sum, ← EReal.coe_add, e1, e2]
  rw [mean_real (fun j => e j * ((f j - M) * ρ)), e3, div_real (by norm_num)]
  simp only [← EReal.coe_sub, ← EReal.coe_mul, ← EReal.coe_add]
  rw [hA, hρρ]
  congr 1
  ring

/-- A row that holds an infinite number has an infinite variance. -/
theorem var_top {f : Fin 2048 → EReal} {k : Fin 2048} (h : f k = ⊤ ∨ f k = ⊥) : var f = ⊤ := by
  obtain ⟨ε, hε, hs⟩ := small_eq
  have hn : ∀ x : EReal, 0 ≤ x * x := fun x => by
    induction x with
    | bot => simp
    | top => simp
    | coe r => exact_mod_cast mul_self_nonneg r
  have hk : (f k - mean f) * (f k - mean f) = ⊤ := by
    rcases h with h | h
    · rw [h]
      generalize mean f = a
      induction a with
      | bot => simp
      | top => simp [sub_eq_add_neg]
      | coe r => simp
    · rw [h, sub_eq_add_neg, EReal.bot_add, EReal.bot_mul_bot]
  have hsum : ∑ j, (f j - mean f) * (f j - mean f) = ⊤ :=
    top_le_iff.mp (hk ▸ Finset.single_le_sum (f := fun j => (f j - mean f) * (f j - mean f)) (fun j _ => hn _) (Finset.mem_univ k))
  rw [var, mean, hsum, length_eq, Ideal.div, if_neg (by norm_num), ← EReal.coe_inv, EReal.top_mul_coe_of_pos (by norm_num), hs, EReal.top_add_coe]

theorem inv_zero {f : Fin 2048 → EReal} {k : Fin 2048} (h : f k = ⊤ ∨ f k = ⊥) : inv f = 0 := by
  show Ideal.rsqrt (var f) = 0
  rw [var_top h]
  rfl

/-- The kernel's gradient is the reference's, where the incoming gradient times the gain is a number. -/
theorem direct_eq (f e : Fin 2048 → EReal) (he : ∀ k, e k = ((e k).toReal : EReal)) (k : Fin 2048) : direct f e k = derived f e k := by
  by_cases hf : ∃ k, f k = ⊤ ∨ f k = ⊥
  · obtain ⟨j, hj⟩ := hf
    have hst : steep f e = 0 := by
      rw [steep, inv_zero hj, var_top hj, length_eq, Ideal.div, if_neg (by norm_num), Ideal.div, if_neg (by simp)]
      simp
    simp only [direct, derived, hst, inv_zero hj, zero_mul, mul_zero, neg_zero, Finset.sum_const_zero, add_zero, length_eq]
    rw [Ideal.div, if_neg (by norm_num), zero_mul, add_zero]
  · push Not at hf
    have h1 : f = fun j => ((f j).toReal : EReal) := funext fun j => (EReal.coe_toReal (hf j).1 (hf j).2).symm
    have h2 : e = fun j => ((e j).toReal : EReal) := funext he
    rw [h1, h2]
    exact direct_real _ _ k

end Cert.Norm

end
-- ==== Proof.GradNorm.lean ====
module

public import proofs.«01_k».proof.Proof.Gen.Kernel13Ideal.Value
public import proofs.«01_k».proof.Proof.Gen.Reference13Ideal.Run
public import proofs.«01_k».proof.Proof.NormGrad
public import Idealize.ShloMosaic.Lib.Pipeline.ValueKit

/-!
  The gradients of a norm: by its input row by row, and by its gain and its bias, summed over 26 blocks of rows.
-/

@[expose] public section

set_option maxRecDepth 16384

noncomputable section

namespace Cert.Reference13Ideal.Hand

open Cert.Reference13Ideal Cert.Reference13Ideal.Gen
open Idealize.ShloMosaic

/-- The rows' means and sums, and a column of one entry per row laid over the rows in two ways. -/
abbrev lengths : FVec Ideal S8320x1 .f32 := broadcastInDim S8320x1 ![] bcast_S_S8320x1 (constant S_ .f32 0x45000000#32)
abbrev means (x : FVec Ideal S8320x2048 .f32) : FVec Ideal S8320x1 .f32 :=
  Host.divf (broadcastInDim S8320x1 ![0] bcast_S8320_S8320x1_0 (Host.reduceAdd x (constant S_ .f32 0x00000000#32) reducesTo_S8320x2048_S8320_d1 h_S_)) lengths
abbrev sums (x : FVec Ideal S8320x2048 .f32) : FVec Ideal S8320x1 .f32 :=
  shapeCast _ (Host.reduceAdd x (constant S_ .f32 0x00000000#32) reducesTo_S8320x2048_S8320_d1 h_S_) shapeCasts_S8320_S8320x1
abbrev over (x : FVec Ideal S8320x1 .f32) : FVec Ideal S8320x2048 .f32 := broadcastInDim S8320x2048 ![0, 1] bcast_S8320x1_S8320x2048_0_1 x
abbrev along (x : FVec Ideal S8320x1 .f32) : FVec Ideal S8320x2048 .f32 :=
  broadcastInDim S8320x2048 ![0] bcast_S8320_S8320x2048_0 (Host.reduceAdd x (constant S_ .f32 0x00000000#32) reducesTo_S8320x1_S8320_d1 h_S_)
/-- The rows less their means, the variances, and one over their roots. -/
abbrev centred (r : FVec Ideal S8320x2048 .f32) : FVec Ideal S8320x2048 .f32 := subf r (over (means r))
abbrev variances (r : FVec Ideal S8320x2048 .f32) : FVec Ideal S8320x1 .f32 :=
  addf (means (mulf (centred r) (centred r))) (broadcastInDim S8320x1 ![] bcast_S_S8320x1 (constant S_ .f32 0x3727C5AC#32))
abbrev roots (r : FVec Ideal S8320x2048 .f32) : FVec Ideal S8320x1 .f32 := Host.rsqrt (variances r)
/-- The incoming gradient times the gain. -/
abbrev scaled (g : FVec Ideal S1x2048 .f32) (d : FVec Ideal S8320x2048 .f32) : FVec Ideal S8320x2048 .f32 :=
  mulf (shapeCast _ d shapeCasts_S8320x2048_S8320x2048) (broadcastInDim S8320x2048 ![0, 1] bcast_S1x2048_S8320x2048_0_1 g)
/-- The derivative by the variances, and what it gives the rows. -/
abbrev steeps (r : FVec Ideal S8320x2048 .f32) (e : FVec Ideal S8320x2048 .f32) : FVec Ideal S8320x1 .f32 :=
  Host.divf (mulf (sums (mulf (centred r) e)) (mulf (broadcastInDim S8320x1 ![] bcast_S_S8320x1 (constant S_ .f32 0xBF000000#32)) (Host.divf (roots r) (variances r)))) lengths
abbrev spread (r : FVec Ideal S8320x2048 .f32) (e : FVec Ideal S8320x2048 .f32) : FVec Ideal S8320x2048 .f32 :=
  mulf (along (steeps r e)) (mulf (broadcastInDim S8320x2048 ![] bcast_S_S8320x2048 (constant S_ .f32 0x40000000#32)) (centred r))
abbrev back (r : FVec Ideal S8320x2048 .f32) (e : FVec Ideal S8320x2048 .f32) : FVec Ideal S8320x2048 .f32 :=
  addf (addf (mulf e (over (roots r))) (spread r e)) (along (Host.divf (addf (sums (Host.negf (mulf e (over (roots r))))) (sums (Host.negf (spread r e)))) lengths))
/-- The four results. -/
abbrev input (r : FVec Ideal S8320x2048 .f32) (g : FVec Ideal S1x2048 .f32) (d : FVec Ideal S8320x2048 .f32) : FVec Ideal S8320x2048 .f32 := back r (scaled g d)
abbrev short (r : FVec Ideal S8320x2048 .f32) (g : FVec Ideal S1x2048 .f32) (d : FVec Ideal S8320x2048 .f32) : FVec Ideal S8320x2048 .bf16 :=
  truncf .bf16 (mulf (broadcastInDim S8320x2048 ![] bcast_S_S8320x2048 (constant S_ .f32 0x3F000000#32)) (input r g d)) bitsLt_bf16_f32
abbrev gain (r d : FVec Ideal S8320x2048 .f32) : FVec Ideal S1x2048 .f32 :=
  shapeCast _ (Host.reduceAdd (mulf (mulf (centred r) (over (roots r))) (shapeCast _ d shapeCasts_S8320x2048_S8320x2048)) (constant S_ .f32 0x00000000#32) reducesTo_S8320x2048_S2048_d0 h_S_) shapeCasts_S2048_S1x2048
abbrev bias (d : FVec Ideal S8320x2048 .f32) : FVec Ideal S1x2048 .f32 :=
  shapeCast _ (Host.reduceAdd d (constant S_ .f32 0x00000000#32) reducesTo_S8320x2048_S2048_d0 h_S_) shapeCasts_S2048_S1x2048

end Cert.Reference13Ideal.Hand

namespace Cert.Kernel13Ideal.Hand

open Cert.Kernel13Ideal Cert.Kernel13Ideal.Gen Cert.Reference13Ideal.Hand Cert.Norm
open Idealize.ShloMosaic Idealize.ShloMosaic.TcCoe Idealize.ShloMosaic.Tactic Idealize.SL.Sem

/-! The reference's entries. -/

theorem means_at (x : FVec Ideal S8320x2048 .f32) (a : Fin 8320) (b : Fin 1) : means x (ix2 a b) = mean (fun k => x (ix2 a k)) := by
  unfold mean
  pointwise [means, lengths]
theorem sums_at (x : FVec Ideal S8320x2048 .f32) (a : Fin 8320) (b : Fin 1) : sums x (ix2 a b) = ∑ k : Fin 2048, x (ix2 a k) := by
  pointwise [sums]
theorem over_at (x : FVec Ideal Cert.Reference13Ideal.S8320x1 .f32) (a : Fin 8320) (k : Fin 2048) : over x (ix2 a k) = x (ix2 a 0) := by
  pointwise [over]
theorem along_at (x : FVec Ideal Cert.Reference13Ideal.S8320x1 .f32) (a : Fin 8320) (k : Fin 2048) : along x (ix2 a k) = x (ix2 a 0) := by
  pointwise [along]
  exact Fin.sum_univ_one _
theorem centred_at (r : FVec Ideal S8320x2048 .f32) (a : Fin 8320) (k : Fin 2048) : centred r (ix2 a k) = r (ix2 a k) - mean (fun j => r (ix2 a j)) := by
  rw [← means_at r a 0, ← over_at (means r) a k]
  rfl
theorem variances_at (r : FVec Ideal S8320x2048 .f32) (a : Fin 8320) (b : Fin 1) : variances r (ix2 a b) = var (fun j => r (ix2 a j)) := by
  refine Eq.trans (b := means (mulf (centred r) (centred r)) (ix2 a b) + Ideal.ofBits .f32 0x3727C5AC#32) rfl ?_
  rw [means_at]
  unfold var
  refine congrArg (fun f => mean f + _) (funext fun k => ?_)
  exact congrArg₂ (fun x y : EReal => x * y) (centred_at r a k) (centred_at r a k)
theorem roots_at (r : FVec Ideal S8320x2048 .f32) (a : Fin 8320) (b : Fin 1) : roots r (ix2 a b) = inv (fun j => r (ix2 a j)) :=
  congrArg Ideal.rsqrt (variances_at r a b)
theorem scaled_at (g : FVec Ideal S1x2048 .f32) (d : FVec Ideal S8320x2048 .f32) (a : Fin 8320) (k : Fin 2048) : scaled g d (ix2 a k) = d (ix2 a k) * g (ix2 0 k) := by
  pointwise [scaled]
theorem steeps_at (r : FVec Ideal S8320x2048 .f32) (e : FVec Ideal S8320x2048 .f32) (a : Fin 8320) (b : Fin 1) : steeps r e (ix2 a b) = steep (fun j => r (ix2 a j)) (fun j => e (ix2 a j)) := by
  refine Eq.trans (b := Ideal.div (sums (mulf (centred r) e) (ix2 a b) * (Ideal.ofBits .f32 0xBF000000#32 * Ideal.div (roots r (ix2 a b)) (variances r (ix2 a b)))) (Ideal.ofBits .f32 0x45000000#32)) rfl ?_
  rw [sums_at, roots_at, variances_at]
  unfold steep
  refine congrArg (fun x : EReal => Ideal.div (x * _) _) (Finset.sum_congr rfl fun k _ => ?_)
  exact congrArg (fun x : EReal => x * e (ix2 a k)) (centred_at r a k)
theorem spread_at (r : FVec Ideal S8320x2048 .f32) (e : FVec Ideal S8320x2048 .f32) (a : Fin 8320) (k : Fin 2048) :
    spread r e (ix2 a k) = steep (fun j => r (ix2 a j)) (fun j => e (ix2 a j)) * (Ideal.ofBits .f32 0x40000000#32 * (r (ix2 a k) - mean (fun j => r (ix2 a j)))) := by
  refine Eq.trans (b := along (steeps r e) (ix2 a k) * (Ideal.ofBits .f32 0x40000000#32 * centred r (ix2 a k))) rfl ?_
  rw [along_at, steeps_at, centred_at]
theorem back_at (r : FVec Ideal S8320x2048 .f32) (e : FVec Ideal S8320x2048 .f32) (a : Fin 8320) (k : Fin 2048) :
    back r e (ix2 a k) = derived (fun j => r (ix2 a j)) (fun j => e (ix2 a j)) k := by
  refine Eq.trans (b := e (ix2 a k) * over (roots r) (ix2 a k) + spread r e (ix2 a k) + along (Host.divf (addf (sums (Host.negf (mulf e (over (roots r))))) (sums (Host.negf (spread r e)))) lengths) (ix2 a k)) rfl ?_
  rw [over_at, roots_at, spread_at, along_at]
  unfold derived
  refine congrArg₂ (fun x y : EReal => x + y) rfl ?_
  refine Eq.trans (b := Ideal.div (sums (Host.negf (mulf e (over (roots r)))) (ix2 a 0) + sums (Host.negf (spread r e)) (ix2 a 0)) (Ideal.ofBits .f32 0x45000000#32)) rfl ?_
  rw [sums_at, sums_at]
  refine congrArg₂ (fun x y : EReal => Ideal.div (x + y) _) (Finset.sum_congr rfl fun j _ => ?_) (Finset.sum_congr rfl fun j _ => ?_)
  · exact congrArg (fun x : EReal => -(e (ix2 a j) * x)) ((over_at _ a j).trans (roots_at r a 0))
  · exact congrArg (fun x : EReal => -x) (spread_at r e a j)
/-- A row of the incoming gradient, times the gain. -/
abbrev ups (g : FVec Ideal S1x2048 .f32) (d : FVec Ideal S8320x2048 .f32) (a : Fin 8320) : Fin 2048 → EReal := fun k => d (ix2 a k) * g (ix2 0 k)
theorem input_at (r : FVec Ideal S8320x2048 .f32) (g : FVec Ideal S1x2048 .f32) (d : FVec Ideal S8320x2048 .f32) (a : Fin 8320) (k : Fin 2048) : input r g d (ix2 a k) = derived (fun j => r (ix2 a j)) (ups g d a) k :=
  (back_at r (scaled g d) a k).trans (congrArg (fun f => derived _ f k) (funext fun j => scaled_at g d a j))
/-- What an entry adds to the gradient of its column's gain. -/
def share (r d : FVec Ideal S8320x2048 .f32) (i : S8320x2048.Idx) : EReal :=
  d i * ((r i - mean (fun j => r (ix2 (i 0) j))) * inv (fun j => r (ix2 (i 0) j)))
theorem gain_at (r d : FVec Ideal S8320x2048 .f32) (y : S1x2048.Idx) : gain r d y = ∑ a : Fin 8320, share r d (ix2 a (y 1)) := by
  refine Eq.trans (b := ∑ a : Fin 8320, centred r (ix2 a (y 1)) * over (roots r) (ix2 a (y 1)) * d (ix2 a (y 1))) ?_ (Finset.sum_congr rfl fun a _ => ?_)
  · generalize hx : centred r = x
    generalize hz : over (roots r) = z
    pointwise [gain, hx, hz]
  · refine (mul_comm _ _).trans (congrArg (fun x : EReal => d (ix2 a (y 1)) * x) ?_)
    exact congrArg₂ (fun x y : EReal => x * y) (centred_at r a (y 1)) ((over_at _ a (y 1)).trans (roots_at r a 0))
theorem bias_at (d : FVec Ideal S8320x2048 .f32) (y : S1x2048.Idx) : bias d y = ∑ a : Fin 8320, d (ix2 a (y 1)) := by
  pointwise [bias]

/-! What a grid point computes, from its blocks. -/

theorem pay6_at (x : FVec Ideal S320x2048 .f32) (a : Fin 320) (k : Fin 2048) : k0_pay6 (F := Ideal) x (ix2 a k) = x (ix2 a k) - mean (fun j => x (ix2 a j)) := by
  unfold mean
  pointwise [k0_pay6]
theorem pay7_at (x : FVec Ideal S320x2048 .f32) (a : Fin 320) (b : Fin 1) : k0_pay7 (F := Ideal) x (ix2 a b) = inv (fun j => x (ix2 a j)) := by
  refine Eq.trans (b := Ideal.rsqrt (Ideal.div (∑ k : Fin 2048, k0_pay6 (F := Ideal) x (ix2 a k) * k0_pay6 (F := Ideal) x (ix2 a k)) (Ideal.ofBits .f32 0x45000000#32) + Ideal.ofBits .f32 0x3727C5AC#32)) ?_ ?_
  · generalize hz : k0_pay6 (F := Ideal) x = z
    pointwise [k0_pay7, hz]
  · simp only [pay6_at]
    rfl
theorem pay8_at (x : FVec Ideal S320x2048 .f32) (a : Fin 320) (k : Fin 2048) :
    k0_pay8 (F := Ideal) x (ix2 a k) = (x (ix2 a k) - mean (fun j => x (ix2 a j))) * inv (fun j => x (ix2 a j)) := by
  refine Eq.trans (b := k0_pay6 (F := Ideal) x (ix2 a k) * k0_pay7 (F := Ideal) x (ix2 a 0)) ?_ (congrArg₂ (fun x y : EReal => x * y) (pay6_at x a k) (pay7_at x a 0))
  generalize hz : k0_pay6 (F := Ideal) x = z
  generalize hy : k0_pay7 (F := Ideal) x = y
  pointwise [k0_pay8, hz, hy]
theorem pay9_at (x : FVec Ideal S320x2048 .f32) (g : FVec Ideal S1x2048 .f32) (d : FVec Ideal S320x2048 .f32) (a : Fin 320) (k : Fin 2048) :
    k0_pay9 (F := Ideal) x g d (ix2 a k) = direct (fun j => x (ix2 a j)) (fun j => d (ix2 a j) * g (ix2 0 j)) k := by
  refine Eq.trans (b := k0_pay7 (F := Ideal) x (ix2 a 0) * (d (ix2 a k) * g (ix2 0 k) - mean (fun j => d (ix2 a j) * g (ix2 0 j))
    - k0_pay8 (F := Ideal) x (ix2 a k) * mean (fun j => d (ix2 a j) * g (ix2 0 j) * k0_pay8 (F := Ideal) x (ix2 a j)))) ?_ ?_
  · unfold mean
    generalize hz : k0_pay8 (F := Ideal) x = z
    generalize hy : k0_pay7 (F := Ideal) x = y
    pointwise [k0_pay9, hz, hy]
  · simp only [pay7_at, pay8_at]
    rfl
theorem half_at (x : FVec Ideal S320x2048 .f32) (g : FVec Ideal S1x2048 .f32) (d : FVec Ideal S320x2048 .f32) (j : S320x2048.Idx) :
    k0_pay1 (F := Ideal) (k0_pay10 (F := Ideal) x g d) j = Ideal.ofBits .f32 0x3F000000#32 * k0_pay9 (F := Ideal) x g d j := rfl
theorem rise_at (x d : FVec Ideal S320x2048 .f32) (acc : FVec Ideal S1x2048 .f32) (j : S1x2048.Idx) :
    k0_pay4 (F := Ideal) x d acc j = acc j + ∑ k : Fin 320, d (ix2 k (j 1)) * x (ix2 k (j 1)) := by pointwise [k0_pay4]
theorem add_at (d : FVec Ideal S320x2048 .f32) (acc : FVec Ideal S1x2048 .f32) (j : S1x2048.Idx) :
    k0_pay5 (F := Ideal) d acc j = acc j + ∑ k : Fin 320, d (ix2 k (j 1)) := by pointwise [k0_pay5]
theorem zero_at (j : S1x2048.Idx) : k0_pay2 (F := Ideal) j = 0 := by pointwise [k0_pay2]

theorem place : ∀ t : Fin cfg0.N, win0_0.index t = ![t.val, 0] ∧ win0_1.index t = ![0, 0] ∧ win0_2.index t = ![t.val, 0] ∧ win0_3.index t = ![t.val, 0] ∧ win0_4.index t = ![t.val, 0]
    ∧ win0_5.index t = ![0, 0] ∧ win0_6.index t = ![0, 0] :=
  (by decide +kernel : ∀ t : Fin grid0.N, _)

variable (m : (ℓ : Loc nD τ sig) → Buf (Elt Ideal) ℓ)

abbrev aR (c : Dev nD) : FVec Ideal S8320x2048 .f32 := m ((c : Thread nD τ).loc main_arg0)
abbrev aG (c : Dev nD) : FVec Ideal S1x2048 .f32 := m ((c : Thread nD τ).loc main_arg1)
abbrev aD (c : Dev nD) : FVec Ideal S8320x2048 .f32 := m ((c : Thread nD τ).loc main_arg2)

/-- The rows of a grid point, and what it is handed. -/
abbrev row (t : Fin cfg0.N) (j : Fin 320) : Fin 8320 := ⟨t.val * 320 + j.val, by have ht : t.val < 26 := t.isLt; omega⟩
abbrev bR (c : Dev nD) (t : Fin cfg0.N) : FVec Ideal S320x2048 .f32 := iblk m c 0 t
abbrev bG (c : Dev nD) (t : Fin cfg0.N) : FVec Ideal S1x2048 .f32 := iblk m c 1 t
abbrev bD (c : Dev nD) (t : Fin cfg0.N) : FVec Ideal S320x2048 .f32 := iblk m c 2 t
theorem bR_at (c : Dev nD) (t : Fin cfg0.N) (a : Fin 320) (k : Fin 2048) : bR m c t (ix2 a k) = aR m c (ix2 (row t a) k) := by
  blk_ext [iblk, V, place t]
theorem bG_at (c : Dev nD) (t : Fin cfg0.N) (k : Fin 2048) : bG m c t (ix2 0 k) = aG m c (ix2 0 k) := by
  blk_ext [iblk, V, place t]
theorem bD_at (c : Dev nD) (t : Fin cfg0.N) (a : Fin 320) (k : Fin 2048) : bD m c t (ix2 a k) = aD m c (ix2 (row t a) k) := by
  blk_ext [iblk, V, place t]

theorem share_at (c : Dev nD) (t : Fin cfg0.N) (a : Fin 320) (k : Fin 2048) :
    bD m c t (ix2 a k) * k0_pay8 (F := Ideal) (bR m c t) (ix2 a k) = share (aR m c) (aD m c) (ix2 (row t a) k) := by
  rw [pay8_at]
  simp only [bR_at, bD_at]
  rfl

theorem out_3 (c : Dev nD) (t : Fin cfg0.N) : (outsAt0 m c t.val t.isLt).1 = k0_pay9 (F := Ideal) (bR m c t) (bG m c t) (bD m c t) := by
  by_cases h : t.val % 26 = 0
  · rw [outsAt0_A m c t h]
    frame_out
  · rw [outsAt0_B m c t h]
    frame_out
theorem out_4 (c : Dev nD) (t : Fin cfg0.N) : (outsAt0 m c t.val t.isLt).2.1 = k0_pay1 (F := Ideal) (k0_pay10 (F := Ideal) (bR m c t) (bG m c t) (bD m c t)) := by
  by_cases h : t.val % 26 = 0
  · rw [outsAt0_A m c t h]
    frame_out
  · rw [outsAt0_B m c t h]
    frame_out

/-- The gradient of the gain, and of the bias, is summed over the blocks of rows. -/
theorem sum_5 (c : Dev nD) (t : Fin cfg0.N) (ht : t.val % 26 = 25) (j : S1x2048.Idx) :
    (outsAt0 m c t.val t.isLt).2.2.1 j = ∑ s : Fin 26, ∑ k : Fin 320, bD m c ⟨26 * (t.val / 26) + s.val, Pipeline.run_point_lt_of_flush t ht s⟩ (ix2 k (j 1))
      * k0_pay8 (F := Ideal) (bR m c ⟨26 * (t.val / 26) + s.val, Pipeline.run_point_lt_of_flush t ht s⟩) (ix2 k (j 1)) := by
  rw [Pipeline.eq_sum_fin_of_reset_step_apply_of_flush (fun n h => (outsAt0 m c n h).2.2.1) 26 (fun _ => (0 : EReal))
    (fun p j => ∑ k : Fin 320, bD m c p (ix2 k (j 1)) * k0_pay8 (F := Ideal) (bR m c p) (ix2 k (j 1)))
    (fun t h j => by
      rw [outsAt0_A m c t h]
      frame_out
      refine (rise_at (k0_pay8 (F := Ideal) (bR m c t)) (bD m c t) _ j).trans ?_
      exact congrArg (· + _) (zero_at j))
    (fun t h j => by
      rw [outsAt0_B m c t h]
      frame_out
      exact rise_at (k0_pay8 (F := Ideal) (bR m c t)) (bD m c t) _ j)
    t ht j, zero_add]
theorem sum_6 (c : Dev nD) (t : Fin cfg0.N) (ht : t.val % 26 = 25) (j : S1x2048.Idx) :
    (outsAt0 m c t.val t.isLt).2.2.2 j = ∑ s : Fin 26, ∑ k : Fin 320, bD m c ⟨26 * (t.val / 26) + s.val, Pipeline.run_point_lt_of_flush t ht s⟩ (ix2 k (j 1)) := by
  rw [Pipeline.eq_sum_fin_of_reset_step_apply_of_flush (fun n h => (outsAt0 m c n h).2.2.2) 26 (fun _ => (0 : EReal))
    (fun p j => ∑ k : Fin 320, bD m c p (ix2 k (j 1)))
    (fun t h j => by
      rw [outsAt0_A m c t h]
      frame_out
      refine (add_at (bD m c t) _ j).trans ?_
      exact congrArg (· + _) (zero_at j))
    (fun t h j => by
      rw [outsAt0_B m c t h]
      frame_out
      exact add_at (bD m c t) _ j)
    t ht j, zero_add]

/-! The arrays that the kernel leaves are the reference's. -/

section

variable (c : Dev nD) (hg : ∀ i, (aG m c i : EReal) = ((aG m c i : EReal).toReal : EReal)) (hd : ∀ i, (aD m c i : EReal) = ((aD m c i : EReal).toReal : EReal))

include hg hd in
theorem grad_at (t : Fin cfg0.N) (y : S320x2048.Idx) :
    k0_pay9 (F := Ideal) (bR m c t) (bG m c t) (bD m c t) y = input (aR m c) (aG m c) (aD m c) (ix2 (row t (y 0)) (y 1)) := by
  obtain ⟨a, k, rfl⟩ : ∃ (a : Fin 320) (k : Fin 2048), y = ix2 a k := ⟨y 0, y 1, (ix2_eta y).symm⟩
  rw [pay9_at]
  refine Eq.trans ?_ (input_at (aR m c) (aG m c) (aD m c) (row t a) k).symm
  simp only [bR_at, bG_at, bD_at]
  refine direct_eq _ (ups (aG m c) (aD m c) (row t a)) (fun j => ?_) k
  show aD m c (ix2 (row t a) j) * aG m c (ix2 0 j) = _
  refine Eq.trans ?_ (congrArg Real.toEReal (EReal.toReal_mul (x := aD m c (ix2 (row t a) j)) (y := aG m c (ix2 0 j))).symm)
  rw [EReal.coe_mul, ← hd, ← hg]

include hg hd in
theorem final_3 : (dats m 0 c).arrAt 3 (cfgs 0).N = input (aR m c) (aG m c) (aD m c) := by
  refine (dats m 0 c).arrAt_eq_of_covers 3 _ (by decide +kernel) fun t hf y => ?_
  blk_simp
  rw [after0_3, out_3, grad_at m c hg hd]
  blk_ext [place t]
include hg hd in
theorem final_4 : (dats m 0 c).arrAt 4 (cfgs 0).N = short (aR m c) (aG m c) (aD m c) := by
  refine (dats m 0 c).arrAt_eq_of_covers 4 _ (by decide +kernel) fun t hf y => ?_
  blk_simp
  rw [after0_4, out_4, half_at, grad_at m c hg hd]
  refine Eq.trans (b := short (aR m c) (aG m c) (aD m c) (ix2 (row t (y 0)) (y 1))) rfl ?_
  blk_ext [place t]

end

theorem final_5 (c : Dev nD) : (dats m 0 c).arrAt 5 (cfgs 0).N = gain (aR m c) (aD m c) := by
  refine (dats m 0 c).arrAt_eq_of_covers 5 _ (by decide +kernel) fun t hf y => ?_
  have ht := (flush0_5 t).mp hf
  blk_simp
  rw [after0_5]
  refine (sum_5 m c t ht _).trans ?_
  refine Eq.trans ?_ (gain_at (aR m c) (aD m c) _).symm
  refine Fin.sum_mul_add_congr fun s k hl => ?_
  refine (share_at m c _ k _).trans ?_
  blk_ext [place t]
theorem final_6 (c : Dev nD) : (dats m 0 c).arrAt 6 (cfgs 0).N = bias (aD m c) := by
  refine (dats m 0 c).arrAt_eq_of_covers 6 _ (by decide +kernel) fun t hf y => ?_
  have ht := (flush0_6 t).mp hf
  blk_simp
  rw [after0_6]
  refine (sum_6 m c t ht _).trans ?_
  refine Eq.trans ?_ (bias_at (aD m c) _).symm
  refine Fin.sum_mul_add_congr fun s k hl => ?_
  show (_ : EReal) = _
  blk_ext [iblk, V, place t, place ⟨_, Pipeline.run_point_lt_of_flush t ht s⟩]

end Cert.Kernel13Ideal.Hand

end
-- ==== Proof.InProj.lean ====
module

public import proofs.«01_k».proof.Proof.Gen.Kernel14Ideal.Value
public import proofs.«01_k».proof.Proof.Gen.Reference14Ideal.Run
public import Idealize.ShloMosaic.Lib.Pipeline.ValueKit

/-!
  The mixer's input projection: the rows times the weight, kept in both precisions.
-/

@[expose] public section

set_option maxRecDepth 16384

noncomputable section

namespace Cert.Reference14Ideal.Hand

open Cert.Reference14Ideal Cert.Reference14Ideal.Gen
open Idealize.ShloMosaic

/-- The reference's two results, of the rows and of the weight: the product. -/
abbrev rows (a0 : FVec Ideal S8320x2048 .f32) (a1 : FVec Ideal S8x2048x1408 .bf16) : FVec Ideal S8320x11264 .f32 :=
    Host.dotGeneral dot_S8320x2048_S2048x11264_S8320x11264_1_0_0_1_n_n none a0 (shapeCast _ (transpose S2048x8x1408 [1, 0, 2] (extf .f32 a1
    bitsLt_bf16_f32) transposes_S8x2048x1408_S2048x8x1408_1_0_2) shapeCasts_S2048x8x1408_S2048x11264)

/-- The same product in the shorter format. -/
abbrev short (a0 : FVec Ideal S8320x2048 .f32) (a1 : FVec Ideal S8x2048x1408 .bf16) : FVec Ideal S8320x11264 .bf16 :=
    truncf .bf16 (Host.dotGeneral dot_S8320x2048_S2048x11264_S8320x11264_1_0_0_1_n_n none a0 (shapeCast _ (transpose S2048x8x1408 [1, 0, 2] (extf .f32
    a1 bitsLt_bf16_f32) transposes_S8x2048x1408_S2048x8x1408_1_0_2) shapeCasts_S2048x8x1408_S2048x11264)) bitsLt_bf16_f32

end Cert.Reference14Ideal.Hand

namespace Cert.Kernel14Ideal.Hand

open Cert.Kernel14Ideal Cert.Kernel14Ideal.Gen Cert.Reference14Ideal.Hand
open Idealize.ShloMosaic Idealize.ShloMosaic.TcCoe Idealize.ShloMosaic.Tactic Idealize.SL.Sem

theorem place : ∀ t : Fin cfg0.N, win0_0.index t = ![t.val / 8, 0] ∧ win0_1.index t = ![t.val % 8, 0, 0] ∧ win0_2.index t = ![t.val / 8, t.val % 8] ∧ win0_3.index t = ![t.val / 8, t.val % 8] :=
  (by decide +kernel : ∀ t : Fin grid0.N, _)

/-- What a grid point computes from its rows and its part of the weight. -/
theorem point_at (x : FVec Ideal S640x2048 .bf16) (w : FVec Ideal S1x2048x1408 .bf16) (j : S640x1408.Idx) :
    k0_pay1 (F := Ideal) x w j = ∑ k : Fin 2048, x (ix2 (j 0) k) * w (ix3 0 k (j 1)) := by
  pointwise [k0_pay1]

/-- An entry of the product. -/
theorem rows_at (h : FVec Ideal S8320x2048 .f32) (w : FVec Ideal S8x2048x1408 .bf16) (y : S8320x11264.Idx) :
    rows h w y = ∑ k : Fin 2048, h (ix2 (y 0) k) * w (ix3 ⟨(y 1).val / 1408, by have h1 : (y 1).val < 11264 := (y 1).isLt; omega⟩ k ⟨(y 1).val % 1408, by omega⟩) := by
  pointwise [rows]

variable (m : (ℓ : Loc nD τ sig) → Buf (Elt Ideal) ℓ)

abbrev aH (c : Dev nD) : FVec Ideal S8320x2048 .f32 := m ((c : Thread nD τ).loc main_arg0)
abbrev aW (c : Dev nD) : FVec Ideal S8x2048x1408 .bf16 := m ((c : Thread nD τ).loc main_arg1)

/-- The two arrays that the kernel leaves are the reference's. -/
theorem final_rows (c : Dev nD) : (dats m 0 c).arrAt 2 (cfgs 0).N = rows (aH m c) (aW m c) := by
  refine (dats m 0 c).arrAt_eq_of_covers 2 _ (by decide +kernel) fun t _ y => ?_
  blk_simp
  rw [after0_2]
  frame_out
  rw [rows_at, point_at]
  blk_point [iblk, V, place t]

theorem final_short (c : Dev nD) : (dats m 0 c).arrAt 3 (cfgs 0).N = short (aH m c) (aW m c) := by
  refine (dats m 0 c).arrAt_eq_of_covers 3 _ (by decide +kernel) fun t _ y => ?_
  blk_simp
  rw [after0_3]
  frame_out
  refine Eq.trans (b := k0_pay1 (F := Ideal) _ _ _) rfl ?_
  refine Eq.trans ?_ (show rows (aH m c) (aW m c) _ = _ from rfl)
  rw [rows_at, point_at]
  blk_point [iblk, V, place t]

end Cert.Kernel14Ideal.Hand

end
-- ==== Proof.Merge.lean ====
module

public import proofs.«01_k».proof.Proof.Gen.Kernel15Ideal.Value
public import proofs.«01_k».proof.Proof.Gen.Reference15Ideal.Run
public import Idealize.ShloMosaic.Lib.Pipeline.ValueKit

/-!
  The merge of the two mixers: each one's own projection, the gates' sigmoids and the gated sum.
-/

@[expose] public section

set_option maxRecDepth 16384

noncomputable section

namespace Cert.Reference15Ideal.Hand

open Cert.Reference15Ideal Cert.Reference15Ideal.Gen
open Idealize.ShloMosaic

/-- One mixer's own projection: its output times its weight. -/
abbrev proj (o : FVec Ideal S8320x1024 .bf16) (w : FVec Ideal S8x1024x256 .bf16) : FVec Ideal S8320x2048 .f32 :=
  Host.dotGeneral dot_S8320x1024_S1024x2048_S8320x2048_1_0_0_1_n_n none (extf .f32 o bitsLt_bf16_f32)
    (shapeCast _ (transpose S1024x8x256 [1, 0, 2] (extf .f32 w bitsLt_bf16_f32) transposes_S8x1024x256_S1024x8x256_1_0_2) shapeCasts_S1024x8x256_S1024x2048)
abbrev ones : FVec Ideal S8320x4096 .f32 := broadcastInDim S8320x4096 ![] bcast_S_S8320x4096 (constant S_ .f32 0x3F800000#32)
/-- Both gates, of the projected rows' last columns and the bias. -/
abbrev gates (p : FVec Ideal S8320x11264 .f32) (b : FVec Ideal S1x4096 .f32) : FVec Ideal S8320x4096 .f32 :=
  Host.divf ones (addf ones (Host.exp (Host.negf (addf (extractStridedSlice S8320x4096 ![0, 7168] p slices_S8320x11264_S8320x4096_0_7168) (broadcastInDim S8320x4096 ![0, 1] bcast_S1x4096_S8320x4096_0_1 b)))))
/-- The gated sum. -/
abbrev merged (o s : FVec Ideal S8320x1024 .bf16) (w v : FVec Ideal S8x1024x256 .bf16) (p : FVec Ideal S8320x11264 .f32) (b : FVec Ideal S1x4096 .f32) : FVec Ideal S8320x2048 .bf16 :=
  truncf .bf16 (addf (mulf (extractStridedSlice S8320x2048 ![0, 0] (gates p b) slices_S8320x4096_S8320x2048_0_0) (proj o w))
    (mulf (extractStridedSlice S8320x2048 ![0, 2048] (gates p b) slices_S8320x4096_S8320x2048_0_2048) (proj s v))) bitsLt_bf16_f32

end Cert.Reference15Ideal.Hand

namespace Cert.Kernel15Ideal.Hand

open Cert.Kernel15Ideal Cert.Kernel15Ideal.Gen Cert.Reference15Ideal.Hand
open Idealize.ShloMosaic Idealize.ShloMosaic.TcCoe Idealize.ShloMosaic.Tactic Idealize.SL.Sem

theorem place : ∀ t : Fin cfg0.N, win0_0.index t = ![t.val / 4, 0] ∧ win0_1.index t = ![0, t.val % 4] ∧ win0_2.index t = ![t.val / 4, 0] ∧ win0_3.index t = ![0, t.val % 4]
    ∧ win0_4.index t = ![t.val / 4, t.val % 4 + 14] ∧ win0_5.index t = ![t.val / 4, t.val % 4 + 18] ∧ win0_6.index t = ![0, t.val % 4] ∧ win0_7.index t = ![0, t.val % 4 + 4]
    ∧ win0_8.index t = ![t.val / 4, t.val % 4] ∧ win0_9.index t = ![t.val / 4, t.val % 4] ∧ win0_10.index t = ![t.val / 4, t.val % 4] :=
  (by decide +kernel : ∀ t : Fin grid0.N, _)

variable (m : (ℓ : Loc nD τ sig) → Buf (Elt Ideal) ℓ)

abbrev aO (c : Dev nD) : FVec Ideal S8320x1024 .bf16 := m ((c : Thread nD τ).loc main_arg0)
abbrev aS (c : Dev nD) : FVec Ideal S8320x1024 .bf16 := m ((c : Thread nD τ).loc main_arg1)
abbrev aW (c : Dev nD) : FVec Ideal S8x1024x256 .bf16 := m ((c : Thread nD τ).loc main_arg2)
abbrev aV (c : Dev nD) : FVec Ideal S8x1024x256 .bf16 := m ((c : Thread nD τ).loc main_arg3)
abbrev aP (c : Dev nD) : FVec Ideal S8320x11264 .f32 := m ((c : Thread nD τ).loc main_arg4)
abbrev aB (c : Dev nD) : FVec Ideal S1x4096 .f32 := m ((c : Thread nD τ).loc main_arg5)

/-- The eight parts of a weight laid side by side. -/
def side (w : FVec Ideal S8x1024x256 .bf16) (i : S1024x2048.Idx) : EReal :=
  w (ix3 ⟨(i 1).val / 256, by have h1 : (i 1).val < 2048 := (i 1).isLt; omega⟩ (i 0) ⟨(i 1).val % 256, by omega⟩)

/-- Both weights are laid so before the kernel. -/
theorem side_w (c : Dev nD) : V m c main_v1 = (side (aW m c) : FVec Ideal S1024x2048 .bf16) := by
  unfold side
  entry_read
  funext i
  pointwise
theorem side_v (c : Dev nD) : V m c main_v3 = (side (aV m c) : FVec Ideal S1024x2048 .bf16) := by
  unfold side
  entry_read
  funext i
  pointwise

/-- The columns of the two weights that a grid point is handed. -/
abbrev col (t : Fin cfg0.N) (j : Fin 512) : Fin 2048 := ⟨t.val % 4 * 512 + j.val, by omega⟩
abbrev row (t : Fin cfg0.N) (j : Fin 640) : Fin 8320 := ⟨t.val / 4 * 640 + j.val, by have ht : t.val < 52 := t.isLt; omega⟩
abbrev bO (c : Dev nD) (t : Fin cfg0.N) : FVec Ideal S640x1024 .bf16 := iblk m c 0 t
abbrev bW (c : Dev nD) (t : Fin cfg0.N) : FVec Ideal S1024x512 .bf16 := iblk m c 1 t
abbrev bS (c : Dev nD) (t : Fin cfg0.N) : FVec Ideal S640x1024 .bf16 := iblk m c 2 t
abbrev bV (c : Dev nD) (t : Fin cfg0.N) : FVec Ideal S1024x512 .bf16 := iblk m c 3 t
theorem bW_at (c : Dev nD) (t : Fin cfg0.N) (k : Fin 1024) (j : Fin 512) : bW m c t (ix2 k j) = side (aW m c) (ix2 k (col t j)) := by
  show (iblk m c 1 t) (ix2 k j) = _
  blk_simp [iblk]
  rw [side_w]
  exact congrArg (side (aW m c)) (by blk_ext [place t])
theorem bV_at (c : Dev nD) (t : Fin cfg0.N) (k : Fin 1024) (j : Fin 512) : bV m c t (ix2 k j) = side (aV m c) (ix2 k (col t j)) := by
  show (iblk m c 3 t) (ix2 k j) = _
  blk_simp [iblk]
  rw [side_v]
  exact congrArg (side (aV m c)) (by blk_ext [place t])

theorem proj_at (o : FVec Ideal S8320x1024 .bf16) (w : FVec Ideal S8x1024x256 .bf16) (y : S8320x2048.Idx) :
    proj o w y = ∑ k : Fin 1024, o (ix2 (y 0) k) * side w (ix2 k (y 1)) := by
  unfold side
  pointwise [proj]

/-- The rows of the two projections that a grid point computes. -/
theorem rows_o (c : Dev nD) (t : Fin cfg0.N) (j : S640x512.Idx) :
    k0_pay2 (F := Ideal) (bO m c t) (bW m c t) j = proj (aO m c) (aW m c) (ix2 (row t (j 0)) (col t (j 1))) := by
  rw [proj_at]
  refine Eq.trans (b := ∑ k : Fin 1024, bO m c t (ix2 (j 0) k) * bW m c t (ix2 k (j 1))) (by pointwise [k0_pay2]) ?_
  refine Finset.sum_congr rfl fun k _ => congrArg₂ (fun a b : EReal => a * b) ?_ (bW_at m c t k (j 1))
  show (iblk m c 0 t) _ = _
  blk_simp [iblk, V]
  exact congrArg (aO m c) (by blk_ext [place t])
theorem rows_s (c : Dev nD) (t : Fin cfg0.N) (j : S640x512.Idx) :
    k0_pay3 (F := Ideal) (bS m c t) (bV m c t) j = proj (aS m c) (aV m c) (ix2 (row t (j 0)) (col t (j 1))) := by
  rw [proj_at]
  refine Eq.trans (b := ∑ k : Fin 1024, bS m c t (ix2 (j 0) k) * bV m c t (ix2 k (j 1))) (by pointwise [k0_pay3]) ?_
  refine Finset.sum_congr rfl fun k _ => congrArg₂ (fun a b : EReal => a * b) ?_ (bV_at m c t k (j 1))
  show (iblk m c 2 t) _ = _
  blk_simp [iblk, V]
  exact congrArg (aS m c) (by blk_ext [place t])

/-- The three arrays that the kernel leaves are the reference's. -/
theorem final_o (c : Dev nD) : (dats m 0 c).arrAt 8 (cfgs 0).N = proj (aO m c) (aW m c) := by
  refine (dats m 0 c).arrAt_eq_of_covers 8 _ (by decide +kernel) fun t _ y => ?_
  blk_simp
  rw [after0_8]
  frame_out
  unfold k0_pay6 r0_0 r0_1
  frame_out
  blk_simp
  exact (rows_o m c t y).trans (by blk_ext [place t])

theorem final_s (c : Dev nD) : (dats m 0 c).arrAt 9 (cfgs 0).N = proj (aS m c) (aV m c) := by
  refine (dats m 0 c).arrAt_eq_of_covers 9 _ (by decide +kernel) fun t _ y => ?_
  blk_simp
  rw [after0_9]
  frame_out
  unfold k0_pay7 r0_0 r0_1
  frame_out
  blk_simp
  exact (rows_s m c t y).trans (by blk_ext [place t])

/-- What a grid point computes of the gated sum, from its parts of the two projections and of the gates. -/
theorem sum_at (a s : FVec Ideal S640x512 .f32) (p q : FVec Ideal S640x512 .f32) (b d : FVec Ideal S1x512 .f32) (j : S640x512.Idx) :
    k0_pay1 (F := Ideal) a s (k0_pay4 (F := Ideal) p b) (k0_pay5 (F := Ideal) q d) j
      = Ideal.div 1 (1 + Ideal.exp (-(p j + b (ix2 0 (j 1))))) * a j + Ideal.div 1 (1 + Ideal.exp (-(q j + d (ix2 0 (j 1))))) * s j := by
  pointwise [k0_pay1, k0_pay4, k0_pay5]
  simp only [zero_sub]

theorem merged_at (o s : FVec Ideal S8320x1024 .bf16) (w v : FVec Ideal S8x1024x256 .bf16) (p : FVec Ideal S8320x11264 .f32) (b : FVec Ideal S1x4096 .f32) (y : S8320x2048.Idx) :
    merged o s w v p b y
      = Ideal.div 1 (1 + Ideal.exp (-(p (ix2 (y 0) ⟨7168 + (y 1).val, by have h1 : (y 1).val < 2048 := (y 1).isLt; omega⟩) + b (ix2 0 ⟨(y 1).val, by have h1 : (y 1).val < 2048 := (y 1).isLt; omega⟩)))) * proj o w y
        + Ideal.div 1 (1 + Ideal.exp (-(p (ix2 (y 0) ⟨9216 + (y 1).val, by have h1 : (y 1).val < 2048 := (y 1).isLt; omega⟩) + b (ix2 0 ⟨2048 + (y 1).val, by have h1 : (y 1).val < 2048 := (y 1).isLt; omega⟩)))) * proj s v y := by
  generalize hx : proj o w = x
  generalize hz : proj s v = z
  pointwise [merged, gates, ones, hx, hz]
  refine congrArg (fun i => _ + Ideal.div 1 (1 + Ideal.exp (-(p (ix2 (y 0) i) + _))) * _) (Fin.ext ?_)
  show 7168 + (2048 + (y 1).val) = 9216 + (y 1).val
  omega

theorem final_y (c : Dev nD) : (dats m 0 c).arrAt 10 (cfgs 0).N = merged (aO m c) (aS m c) (aW m c) (aV m c) (aP m c) (aB m c) := by
  refine (dats m 0 c).arrAt_eq_of_covers 10 _ (by decide +kernel) fun t _ y => ?_
  blk_simp
  rw [after0_10]
  frame_out
  unfold k0_pay6 k0_pay7 r0_0 r0_1
  frame_out
  refine (sum_at _ _ _ _ _ _ y).trans (Eq.trans ?_ (merged_at _ _ _ _ _ _ (((cfg0.win 10).blk t).view.emb y)).symm)
  refine congrArg₂ (fun a b : EReal => a + b) (congrArg₂ (fun a b : EReal => a * b) ?_ ?_) (congrArg₂ (fun a b : EReal => a * b) ?_ ?_)
  · refine congrArg₂ (fun a b : EReal => Ideal.div 1 (1 + Ideal.exp (-(a + b)))) ?_ ?_
    · blk_ext [iblk, V, place t]
    · blk_ext [iblk, V, place t]
  · blk_simp
    exact (rows_o m c t y).trans (by blk_ext [place t])
  · refine congrArg₂ (fun a b : EReal => Ideal.div 1 (1 + Ideal.exp (-(a + b)))) ?_ ?_
    · blk_ext [iblk, V, place t]
    · blk_ext [iblk, V, place t]
  · blk_simp
    exact (rows_s m c t y).trans (by blk_ext [place t])

end Cert.Kernel15Ideal.Hand

end
-- ==== Proof.DownProj.lean ====
module

public import proofs.«01_k».proof.Proof.Gen.Kernel16Ideal.Value
public import proofs.«01_k».proof.Proof.Gen.Reference16Ideal.Run
public import Idealize.ShloMosaic.Lib.Pipeline.ValueKit
public import proofs.«01_k».proof.Proof.Norm
/-!
  The feed forward's second layer with the residual, and the norm of the sum: the eight parts of the width
  that a grid point adds up are the whole product.
-/

@[expose] public section

set_option maxRecDepth 16384

noncomputable section

namespace Cert.Reference16Ideal.Hand

open Cert.Reference16Ideal Cert.Reference16Ideal.Gen
open Idealize.ShloMosaic

/-- A column of row means. -/
abbrev means (x : FVec Ideal S8320x2048 .f32) : FVec Ideal S8320x1 .f32 :=
  Host.divf (broadcastInDim S8320x1 ![0] bcast_S8320_S8320x1_0 (Host.reduceAdd x (constant S_ .f32 0x00000000#32) reducesTo_S8320x2048_S8320_d1 h_S_)) (broadcastInDim S8320x1 ![] bcast_S_S8320x1 (constant S_ .f32 0x45000000#32))
abbrev centred (x : FVec Ideal S8320x2048 .f32) : FVec Ideal S8320x2048 .f32 := subf x (broadcastInDim S8320x2048 ![0, 1] bcast_S8320x1_S8320x2048_0_1 (means x))
/-- The norm of each row. -/
abbrev normed (x : FVec Ideal S8320x2048 .f32) (g b : FVec Ideal S1x2048 .f32) : FVec Ideal S8320x2048 .f32 :=
  addf (mulf (mulf (centred x) (broadcastInDim S8320x2048 ![0, 1] bcast_S8320x1_S8320x2048_0_1 (Host.rsqrt (addf (means (mulf (centred x) (centred x))) (broadcastInDim S8320x1 ![] bcast_S_S8320x1 (constant S_ .f32 0x3727C5AC#32))))))
    (broadcastInDim S8320x2048 ![0, 1] bcast_S1x2048_S8320x2048_0_1 g)) (broadcastInDim S8320x2048 ![0, 1] bcast_S1x2048_S8320x2048_0_1 b)
/-- The sum of the scaled residual and half the product. -/
abbrev total (s : FVec Ideal S8x8320x704 .bf16) (w : FVec Ideal S8x704x2048 .bf16) (h : FVec Ideal S8320x2048 .f32) : FVec Ideal S8320x2048 .f32 :=
  addf (mulf (broadcastInDim S8320x2048 ![] bcast_S_S8320x2048 (constant S_ .f32 0x3F9837F0#32)) h)
    (mulf (broadcastInDim S8320x2048 ![] bcast_S_S8320x2048 (constant S_ .f32 0x3F000000#32))
      (Host.dotGeneral dot_S8320x5632_S5632x2048_S8320x2048_1_0_0_1_n_n none
        (shapeCast _ (transpose S8320x8x704 [1, 0, 2] (extf .f32 s bitsLt_bf16_f32) transposes_S8x8320x704_S8320x8x704_1_0_2) shapeCasts_S8320x8x704_S8320x5632)
        (shapeCast _ (extf .f32 w bitsLt_bf16_f32) shapeCasts_S8x704x2048_S5632x2048)))

end Cert.Reference16Ideal.Hand

namespace Cert.Kernel16Ideal.Hand

open Cert.Kernel16Ideal Cert.Kernel16Ideal.Gen Cert.Reference16Ideal.Hand
open Idealize.ShloMosaic Idealize.ShloMosaic.TcCoe Idealize.ShloMosaic.Tactic Idealize.SL.Sem

/-- The reference's and the kernel's norm are a row's norm. -/
theorem normed_at (x : FVec Ideal S8320x2048 .f32) (g b : FVec Ideal S1x2048 .f32) (y : S8320x2048.Idx) :
    normed x g b y = Norm.norm (fun k => x (ix2 (y 0) k)) (g (ix2 0 (y 1))) (b (ix2 0 (y 1))) (y 1) := by
  pointwise [normed, centred, means, Norm.norm, Norm.inv, Norm.mean]
theorem norm_at (x : FVec Ideal S320x2048 .f32) (g b : FVec Ideal S1x2048 .f32) (j : S320x2048.Idx) :
    k0_pay1 (F := Ideal) x g b j = Norm.norm (fun k => x (ix2 (j 0) k)) (g (ix2 0 (j 1))) (b (ix2 0 (j 1))) (j 1) := by
  unfold Norm.norm Norm.inv Norm.mean
  pointwise [k0_pay1]

theorem total_at (s : FVec Ideal S8x8320x704 .bf16) (w : FVec Ideal S8x704x2048 .bf16) (h : FVec Ideal S8320x2048 .f32) (y : S8320x2048.Idx) :
    total s w h y = Ideal.ofBits .f32 0x3F9837F0#32 * h y + Ideal.ofBits .f32 0x3F000000#32 * ∑ n : Fin 8, ∑ k : Fin 704, s (ix3 n (y 0) k) * w (ix3 n k (y 1)) := by
  pointwise [total]
  exact congrArg (fun a : EReal => Ideal.ofBits .f32 0x3F9837F0#32 * h y + Ideal.ofBits .f32 0x3F000000#32 * a) (Fin.sum_divmod_congr fun t h0 h1 => rfl)

/-- The product of two parts. -/
def prod (a : FVec Ideal S1x320x704 .bf16) (b : FVec Ideal S1x704x2048 .bf16) (j : S320x2048.Idx) : EReal := ∑ k : Fin 704, a (ix3 0 (j 0) k) * b (ix3 0 k (j 1))

theorem eight_at (a₀ a₁ a₂ a₃ a₄ a₅ a₆ a₇ : FVec Ideal S1x320x704 .bf16) (b₀ b₁ b₂ b₃ b₄ b₅ b₆ b₇ : FVec Ideal S1x704x2048 .bf16) (h : FVec Ideal S320x2048 .f32) (j : S320x2048.Idx) :
    k0_pay5 (F := Ideal) (k0_pay3 (F := Ideal) a₀ b₀ a₁ b₁ a₂ b₂ a₃ b₃) (k0_pay4 (F := Ideal) a₄) b₄ a₅ b₅ a₆ b₆ a₇ b₇ h j
      = Ideal.ofBits .f32 0x3F9837F0#32 * h j + Ideal.ofBits .f32 0x3F000000#32 * (prod a₀ b₀ j + prod a₁ b₁ j + prod a₂ b₂ j + prod a₃ b₃ j + prod a₄ b₄ j + prod a₅ b₅ j + prod a₆ b₆ j + prod a₇ b₇ j) := by
  unfold prod
  pointwise [k0_pay3, k0_pay4, k0_pay5]

/-- The part at `n` of the eight that a grid point is handed. -/
theorem ld_x (x : FVec Ideal S8x320x704 .bf16) (n : Fin 8) (h) (r : Fin 320) (k : Fin 704) :
    (show FVec Ideal S1x320x704 .bf16 from View.ld (Val := Elt Ideal) (e' := .bf16) x (Rect.unit (s := S8x320x704) ![n.val, 0, 0] S1x320x704.size h)) (ix3 0 r k) = x (ix3 n r k) :=
  congrArg x (funext fun a => Fin.ext (by fin_cases a <;> simp [Rect.unit, ix3]))
theorem ld_w (w : FVec Ideal S8x704x2048 .bf16) (n : Fin 8) (h) (r : Fin 704) (k : Fin 2048) :
    (show FVec Ideal S1x704x2048 .bf16 from View.ld (Val := Elt Ideal) (e' := .bf16) w (Rect.unit (s := S8x704x2048) ![n.val, 0, 0] S1x704x2048.size h)) (ix3 0 r k) = w (ix3 n r k) :=
  congrArg w (funext fun a => Fin.ext (by fin_cases a <;> simp [Rect.unit, ix3]))
theorem prod_ld (x : FVec Ideal S8x320x704 .bf16) (w : FVec Ideal S8x704x2048 .bf16) (n : Fin 8) (h h') (j : S320x2048.Idx) :
    prod (View.ld (Val := Elt Ideal) (e' := .bf16) x (Rect.unit (s := S8x320x704) ![n.val, 0, 0] S1x320x704.size h)) (View.ld (Val := Elt Ideal) (e' := .bf16) w (Rect.unit (s := S8x704x2048) ![n.val, 0, 0] S1x704x2048.size h')) j
      = ∑ k : Fin 704, x (ix3 n (j 0) k) * w (ix3 n k (j 1)) :=
  Finset.sum_congr rfl fun k _ => congrArg₂ (fun a b : EReal => a * b) (ld_x x n h (j 0) k) (ld_w w n h' k (j 1))

theorem ld_h (h : FVec Ideal S320x2048 .f32) : View.ld (Val := Elt Ideal) (e' := .f32) h r0_16 = h := by
  unfold r0_16
  exact View.ld_unit_lit (Val := Elt Ideal) (S := S320x2048) (e := .f32) _ h (by decide)

/-- What a grid point computes of the sum. -/
theorem point_at (x : FVec Ideal S8x320x704 .bf16) (w : FVec Ideal S8x704x2048 .bf16) (h : FVec Ideal S320x2048 .f32) (g b : FVec Ideal S1x2048 .f32) (j : S320x2048.Idx) :
    k0_pay6 (F := Ideal) x w h g b j = Ideal.ofBits .f32 0x3F9837F0#32 * h j + Ideal.ofBits .f32 0x3F000000#32 * ∑ n : Fin 8, ∑ k : Fin 704, x (ix3 n (j 0) k) * w (ix3 n k (j 1)) := by
  unfold k0_pay6
  refine (eight_at _ _ _ _ _ _ _ _ _ _ _ _ _ _ _ _ _ j).trans ?_
  rw [Fin.sum_univ_eight]
  refine congrArg₂ (fun a b : EReal => Ideal.ofBits .f32 0x3F9837F0#32 * a + Ideal.ofBits .f32 0x3F000000#32 * b) (congrFun (ld_h h) j) ?_
  exact congrArg₂ (fun a b : EReal => a + b) (congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (prod_ld x w 0 _ _ j) (prod_ld x w 1 _ _ j)) (prod_ld x w 2 _ _ j)) (prod_ld x w 3 _ _ j)) (prod_ld x w 4 _ _ j))
    (prod_ld x w 5 _ _ j)) (prod_ld x w 6 _ _ j)) (prod_ld x w 7 _ _ j)

theorem place : ∀ t : Fin cfg0.N, win0_0.index t = ![0, t.val, 0] ∧ win0_1.index t = ![0, 0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ)

abbrev aS (c : Dev nD) : FVec Ideal S8x8320x704 .bf16 := m ((c : Thread nD τ).loc main_arg0)
abbrev aW (c : Dev nD) : FVec Ideal S8x704x2048 .bf16 := m ((c : Thread nD τ).loc main_arg1)
abbrev aH (c : Dev nD) : FVec Ideal S8320x2048 .f32 := m ((c : Thread nD τ).loc main_arg2)
abbrev aG (c : Dev nD) : FVec Ideal S1x2048 .f32 := m ((c : Thread nD τ).loc main_arg3)
abbrev aB (c : Dev nD) : FVec Ideal S1x2048 .f32 := m ((c : Thread nD τ).loc main_arg4)

/-- What a grid point is handed. -/
abbrev bS (c : Dev nD) (t : Fin cfg0.N) : FVec Ideal S8x320x704 .bf16 := iblk m c 0 t
abbrev bW (c : Dev nD) (t : Fin cfg0.N) : FVec Ideal S8x704x2048 .bf16 := iblk m c 1 t
abbrev bH (c : Dev nD) (t : Fin cfg0.N) : FVec Ideal S320x2048 .f32 := iblk m c 2 t

/-- The rows of the sum that a grid point computes. -/
theorem rows_at (c : Dev nD) (t : Fin cfg0.N) (g b : FVec Ideal S1x2048 .f32) (j : S320x2048.Idx) :
    k0_pay6 (F := Ideal) (bS m c t) (bW m c t) (bH m c t) g b j = total (aS m c) (aW m c) (aH m c) (ix2 ⟨t.val * 320 + (j 0).val, by have h0 : (j 0).val < 320 := (j 0).isLt; have ht : t.val < 26 := t.isLt; omega⟩ (j 1)) := by
  rw [point_at, total_at]
  blk_point [iblk, V, place t]

/-- The three arrays that the kernel leaves are the reference's. -/
theorem final_r (c : Dev nD) : (dats m 0 c).arrAt 5 (cfgs 0).N = total (aS m c) (aW m c) (aH m c) := by
  refine (dats m 0 c).arrAt_eq_of_covers 5 _ (by decide +kernel) fun t _ y => ?_
  blk_simp
  rw [after0_5]
  frame_out
  refine (rows_at m c t _ _ _).trans ?_
  blk_ext [place t]

/-- What a grid point writes of the norm. -/
theorem norm_rows (c : Dev nD) (t : Fin cfg0.N) (g b g' b' : FVec Ideal S1x2048 .f32) (j : S320x2048.Idx) :
    k0_pay1 (F := Ideal) (k0_pay6 (F := Ideal) (bS m c t) (bW m c t) (bH m c t) g' b') g b j = normed (total (aS m c) (aW m c) (aH m c)) g b (ix2 ⟨t.val * 320 + (j 0).val, by have h0 : (j 0).val < 320 := (j 0).isLt; have ht : t.val < 26 := t.isLt; omega⟩ (j 1)) := by
  rw [norm_at, normed_at]
  exact Norm.norm_congr (funext fun k => rows_at m c t _ _ _) rfl rfl rfl

/-- The scale and the shift are handed over whole. -/
theorem whole_g (c : Dev nD) (t : Fin cfg0.N) : (iblk m c 3 t : FVec Ideal S1x2048 .f32) = aG m c := by
  funext j
  blk_ext [iblk, V, place t]
theorem whole_b (c : Dev nD) (t : Fin cfg0.N) : (iblk m c 4 t : FVec Ideal S1x2048 .f32) = aB m c := by
  funext j
  blk_ext [iblk, V, place t]

theorem final_y (c : Dev nD) : (dats m 0 c).arrAt 6 (cfgs 0).N = normed (total (aS m c) (aW m c) (aH m c)) (aG m c) (aB m c) := by
  refine (dats m 0 c).arrAt_eq_of_covers 6 _ (by decide +kernel) fun t _ y => ?_
  blk_simp
  rw [after0_6]
  frame_out
  refine (norm_rows m c t _ _ _ _ _).trans ?_
  rw [whole_g, whole_b]
  blk_ext [place t]

theorem final_s (c : Dev nD) : (dats m 0 c).arrAt 7 (cfgs 0).N = truncf .bf16 (normed (total (aS m c) (aW m c) (aH m c)) (aG m c) (aB m c)) Cert.Reference16Ideal.Gen.bitsLt_bf16_f32 := by
  refine (dats m 0 c).arrAt_eq_of_covers 7 _ (by decide +kernel) fun t _ y => ?_
  blk_simp
  rw [after0_7]
  frame_out
  refine Eq.trans (b := k0_pay1 (F := Ideal) _ _ _ _) rfl ?_
  refine (norm_rows m c t _ _ _ _ _).trans ?_
  rw [whole_g, whole_b]
  refine Eq.trans (b := normed (total (aS m c) (aW m c) (aH m c)) (aG m c) (aB m c) _) ?_ rfl
  blk_ext [place t]

end Cert.Kernel16Ideal.Hand

end
-- ==== Proof.OutProj.lean ====
module

public import proofs.«01_k».proof.Proof.Gen.Kernel17Ideal.Value
public import proofs.«01_k».proof.Proof.Gen.Reference17Ideal.Run
public import Idealize.ShloMosaic.Lib.Pipeline.ValueKit
public import proofs.«01_k».proof.Proof.Norm
/-!
  The mixer's output projection with the residual, and the norm of the sum.
-/

@[expose] public section

set_option maxRecDepth 16384

noncomputable section

namespace Cert.Reference17Ideal.Hand

open Cert.Reference17Ideal Cert.Reference17Ideal.Gen
open Idealize.ShloMosaic

/-- A column of row means. -/
abbrev means (x : FVec Ideal S8320x2048 .f32) : FVec Ideal S8320x1 .f32 :=
  Host.divf (broadcastInDim S8320x1 ![0] bcast_S8320_S8320x1_0 (Host.reduceAdd x (constant S_ .f32 0x00000000#32) reducesTo_S8320x2048_S8320_d1 h_S_)) (broadcastInDim S8320x1 ![] bcast_S_S8320x1 (constant S_ .f32 0x45000000#32))
abbrev centred (x : FVec Ideal S8320x2048 .f32) : FVec Ideal S8320x2048 .f32 := subf x (broadcastInDim S8320x2048 ![0, 1] bcast_S8320x1_S8320x2048_0_1 (means x))
/-- The norm of each row. -/
abbrev normed (x : FVec Ideal S8320x2048 .f32) (g b : FVec Ideal S1x2048 .f32) : FVec Ideal S8320x2048 .f32 :=
  addf (mulf (mulf (centred x) (broadcastInDim S8320x2048 ![0, 1] bcast_S8320x1_S8320x2048_0_1 (Host.rsqrt (addf (means (mulf (centred x) (centred x))) (broadcastInDim S8320x1 ![] bcast_S_S8320x1 (constant S_ .f32 0x3727C5AC#32))))))
    (broadcastInDim S8320x2048 ![0, 1] bcast_S1x2048_S8320x2048_0_1 g)) (broadcastInDim S8320x2048 ![0, 1] bcast_S1x2048_S8320x2048_0_1 b)
/-- The sum of the scaled residual and the projected rows. -/
abbrev total (y : FVec Ideal S8320x2048 .bf16) (w : FVec Ideal S8x256x2048 .bf16) (h : FVec Ideal S8320x2048 .f32) : FVec Ideal S8320x2048 .f32 :=
  addf (mulf (broadcastInDim S8320x2048 ![] bcast_S_S8320x2048 (constant S_ .f32 0x3F9837F0#32)) h)
    (Host.dotGeneral dot_S8320x2048_S2048x2048_S8320x2048_1_0_0_1_n_n none (extf .f32 y bitsLt_bf16_f32) (shapeCast _ (extf .f32 w bitsLt_bf16_f32) shapeCasts_S8x256x2048_S2048x2048))

end Cert.Reference17Ideal.Hand

namespace Cert.Kernel17Ideal.Hand

open Cert.Kernel17Ideal Cert.Kernel17Ideal.Gen Cert.Reference17Ideal.Hand
open Idealize.ShloMosaic Idealize.ShloMosaic.TcCoe Idealize.ShloMosaic.Tactic Idealize.SL.Sem

/-- The reference's and the kernel's norm are a row's norm. -/
theorem normed_at (x : FVec Ideal S8320x2048 .f32) (g b : FVec Ideal S1x2048 .f32) (y : S8320x2048.Idx) :
    normed x g b y = Norm.norm (fun k => x (ix2 (y 0) k)) (g (ix2 0 (y 1))) (b (ix2 0 (y 1))) (y 1) := by
  pointwise [normed, centred, means, Norm.norm, Norm.inv, Norm.mean]
theorem norm_at (x : FVec Ideal S320x2048 .bf16) (w : FVec Ideal S2048x2048 .bf16) (h : FVec Ideal S320x2048 .f32) (g b : FVec Ideal S1x2048 .f32) (j : S320x2048.Idx) :
    k0_pay3 (F := Ideal) x w h g b j = Norm.norm (fun k => k0_pay2 (F := Ideal) x w h (ix2 (j 0) k)) (g (ix2 0 (j 1))) (b (ix2 0 (j 1))) (j 1) := by
  unfold Norm.norm Norm.inv Norm.mean
  pointwise [k0_pay3]

theorem place : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ)

abbrev aY (c : Dev nD) : FVec Ideal S8320x2048 .bf16 := m ((c : Thread nD τ).loc main_arg0)
abbrev aW (c : Dev nD) : FVec Ideal S8x256x2048 .bf16 := m ((c : Thread nD τ).loc main_arg1)
abbrev aH (c : Dev nD) : FVec Ideal S8320x2048 .f32 := m ((c : Thread nD τ).loc main_arg2)
abbrev aG (c : Dev nD) : FVec Ideal S1x2048 .f32 := m ((c : Thread nD τ).loc main_arg3)
abbrev aB (c : Dev nD) : FVec Ideal S1x2048 .f32 := m ((c : Thread nD τ).loc main_arg4)

/-- What a grid point is handed. -/
abbrev bY (c : Dev nD) (t : Fin cfg0.N) : FVec Ideal S320x2048 .bf16 := iblk m c 0 t
abbrev bW (c : Dev nD) (t : Fin cfg0.N) : FVec Ideal S2048x2048 .bf16 := iblk m c 1 t
abbrev bH (c : Dev nD) (t : Fin cfg0.N) : FVec Ideal S320x2048 .f32 := iblk m c 2 t

/-- The rows of the sum that a grid point computes. -/
theorem rows_at (c : Dev nD) (t : Fin cfg0.N) (j : S320x2048.Idx) :
    k0_pay2 (F := Ideal) (bY m c t) (bW m c t) (bH m c t) j = total (aY m c) (aW m c) (aH m c) (ix2 ⟨t.val * 320 + (j 0).val, by have h0 : (j 0).val < 320 := (j 0).isLt; have ht : t.val < 26 := t.isLt; omega⟩ (j 1)) := by
  pointwise [k0_pay2, total]
  blk_point [iblk, V, place t]

/-- The three arrays that the kernel leaves are the reference's. -/
theorem final_r (c : Dev nD) : (dats m 0 c).arrAt 5 (cfgs 0).N = total (aY m c) (aW m c) (aH m c) := by
  refine (dats m 0 c).arrAt_eq_of_covers 5 _ (by decide +kernel) fun t _ y => ?_
  blk_simp
  rw [after0_5]
  frame_out
  refine (rows_at m c t _).trans ?_
  blk_ext [place t]

theorem final_y (c : Dev nD) : (dats m 0 c).arrAt 6 (cfgs 0).N = normed (total (aY m c) (aW m c) (aH m c)) (aG m c) (aB m c) := by
  refine (dats m 0 c).arrAt_eq_of_covers 6 _ (by decide +kernel) fun t _ y => ?_
  blk_simp
  rw [after0_6]
  frame_out
  refine (norm_at (bY m c t) (bW m c t) (bH m c t) _ _ _).trans ?_
  refine Eq.trans ?_ (normed_at _ _ _ _).symm
  refine Norm.norm_congr (funext fun k => (rows_at m c t _).trans ?_) ?_ ?_ ?_
  · blk_ext [place t]
  · blk_ext [iblk, V, place t]
  · blk_ext [iblk, V, place t]
  · exact Fin.ext (by blk_simp [place t])

theorem final_s (c : Dev nD) : (dats m 0 c).arrAt 7 (cfgs 0).N = truncf .bf16 (normed (total (aY m c) (aW m c) (aH m c)) (aG m c) (aB m c)) Cert.Reference17Ideal.Gen.bitsLt_bf16_f32 := by
  refine (dats m 0 c).arrAt_eq_of_covers 7 _ (by decide +kernel) fun t _ y => ?_
  blk_simp
  rw [after0_7]
  frame_out
  refine Eq.trans (b := k0_pay3 (F := Ideal) (bY m c t) (bW m c t) (bH m c t) _ _ _) rfl ?_
  refine (norm_at (bY m c t) (bW m c t) (bH m c t) _ _ _).trans ?_
  refine Eq.trans ?_ (normed_at _ _ _ _).symm
  refine Norm.norm_congr (funext fun k => (rows_at m c t _).trans ?_) ?_ ?_ ?_
  · blk_ext [place t]
  · blk_ext [iblk, V, place t]
  · blk_ext [iblk, V, place t]
  · exact Fin.ext (by blk_simp [place t])

end Cert.Kernel17Ideal.Hand

end
-- ==== Proof.Loss.lean ====
module

public import proofs.«01_k».proof.Proof.Gen.Kernel18Ideal.Value
public import proofs.«01_k».proof.Proof.Gen.Reference18Ideal.Run
public import proofs.«01_k».proof.Proof.GradNorm
public import Idealize.ShloMosaic.Lib.Pipeline.ValueKit
public import Idealize.ShloMosaic.Lib.KernelVsHost

/-!
  The loss from the last norm's input, and its gradients by that input, by the norm's gain and by its bias, over 65 blocks of rows.
  The first block holds the padding and the meta rows: it has no loss and no gradient.
-/

@[expose] public section

set_option maxRecDepth 16384

noncomputable section

namespace Cert.Norm

open Idealize.ShloMosaic

theorem one_eq : Ideal.ofBits .f32 0x3F800000#32 = ((1 : ℝ) : EReal) := by
  simp [Ideal.ofBits, Ideal.ieee]
  norm_num
  rw [← EReal.coe_mul]
  norm_num
theorem share_eq : Ideal.ofBits .f32 0x3F000000#32 = ((1 / 2 : ℝ) : EReal) := by
  simp [Ideal.ofBits, Ideal.ieee]
  norm_num
  rw [← EReal.coe_mul]
  norm_num

/-- A normed row holds numbers, whatever the row holds. -/
theorem hat_real (f : Fin 2048 → EReal) (k : Fin 2048) : ∃ r : ℝ, (f k - mean f) * inv f = (r : EReal) := by
  by_cases hf : ∃ k, f k = ⊤ ∨ f k = ⊥
  · obtain ⟨j, hj⟩ := hf
    exact ⟨0, by rw [inv_zero hj, mul_zero]; rfl⟩
  · push Not at hf
    have h1 : f = fun j => ((f j).toReal : EReal) := funext fun j => (EReal.coe_toReal (hf j).1 (hf j).2).symm
    obtain ⟨x, rfl⟩ : ∃ x : Fin 2048 → ℝ, f = fun j => (x j : EReal) := ⟨_, h1⟩
    show ∃ r : ℝ, ((x k : EReal) - mean (fun j => (x j : EReal))) * inv (fun j => (x j : EReal)) = (r : EReal)
    obtain ⟨v, -, -, hinv⟩ := var_real x
    exact ⟨(x k - (∑ j, x j) / 2048) * (√v)⁻¹, by rw [hinv, mean_real x, ← EReal.coe_sub, ← EReal.coe_mul]⟩

/-- An error, and the gradient of the loss by the normed entry that it is of: half of twice the error over the row's length. -/
theorem turn (x : EReal) :
    Ideal.div (Ideal.ofBits .f32 0x3F000000#32 * Ideal.ofBits .f32 0x3F800000#32) (Ideal.ofBits .f32 0x45000000#32) * (Ideal.ofBits .f32 0x40000000#32 * x)
      = x * Ideal.div 1 (Ideal.ofBits .f32 0x45000000#32) := by
  rw [share_eq, one_eq, length_eq, two_eq, ← EReal.coe_mul, div_real (by norm_num), ← EReal.coe_one, div_real (by norm_num), ← mul_assoc, ← EReal.coe_mul, mul_comm]
  congr 2
  norm_num
theorem div_zero_length : Ideal.div 0 (Ideal.ofBits .f32 0x45000000#32) = 0 := by
  rw [length_eq, ← EReal.coe_zero, div_real (by norm_num), zero_div]
theorem div_length (x : EReal) : Ideal.div x (Ideal.ofBits .f32 0x45000000#32) = ((1 / 2048 : ℝ) : EReal) * x := by
  rw [length_eq, Ideal.div, if_neg (by norm_num), ← EReal.coe_inv, mul_comm]
  congr 2
  norm_num

theorem square_nonneg (x : EReal) : 0 ≤ x * x := by
  induction x with
  | bot => simp
  | top => simp
  | coe r => exact_mod_cast mul_self_nonneg r
/-- A nonnegative number distributes over a sum of nonnegative terms. -/
theorem scale_sum {ι : Type} (s : Finset ι) (c : EReal) (f : ι → EReal) (hf : ∀ i, 0 ≤ f i) : c * ∑ i ∈ s, f i = ∑ i ∈ s, c * f i := by
  classical
  induction s using Finset.induction_on with
  | empty => simp
  | insert a s ha ih => rw [Finset.sum_insert ha, Finset.sum_insert ha, EReal.left_distrib_of_nonneg (hf a) (Finset.sum_nonneg fun i _ => hf i), ih]

end Cert.Norm

namespace Cert.Reference18Ideal.Hand

open Cert.Reference18Ideal Cert.Reference18Ideal.Gen
open Cert.Reference13Ideal.Hand (centred over roots back)
open Idealize.ShloMosaic

abbrev wide (g : FVec Ideal S1x2048 .f32) : FVec Ideal S8320x2048 .f32 := broadcastInDim S8320x2048 ![0, 1] bcast_S1x2048_S8320x2048_0_1 g
/-- The normed rows, and what those past the meta rows miss the target by. -/
abbrev normed (r : FVec Ideal S8320x2048 .f32) (g b : FVec Ideal S1x2048 .f32) : FVec Ideal S8320x2048 .f32 :=
  addf (mulf (mulf (centred r) (over (roots r))) (wide g)) (wide b)
abbrev errs (r : FVec Ideal S8320x2048 .f32) (g b : FVec Ideal S1x2048 .f32) (t : FVec Ideal S8192x2048 .f32) : FVec Ideal S8192x2048 .f32 :=
  subf (extractStridedSlice S8192x2048 ![128, 0] (normed r g b) slices_S8320x2048_S8192x2048_128_0) t
/-- The gradient by the normed rows: none on the first 128. -/
abbrev down (x : FVec Ideal S8192x2048 .f32) : FVec Ideal S8320x2048 .f32 :=
  pad S8320x2048 ![128, 0] ![0, 0] ![0, 0]
    (mulf (broadcastInDim S8192x2048 ![0] bcast_S8192_S8192x2048_0 (Host.divf (broadcastInDim S8192 ![] bcast_S_S8192 (mulf (constant S_ .f32 0x3F000000#32) (constant S_ .f32 0x3F800000#32)))
      (broadcastInDim S8192 ![] bcast_S_S8192 (constant S_ .f32 0x45000000#32)))) (mulf (broadcastInDim S8192x2048 ![] bcast_S_S8192x2048 (constant S_ .f32 0x40000000#32)) x))
    (constant S_ .f32 0x00000000#32) pads_S8192x2048_S8320x2048_12800_000 h_S_
/-- The results: the gradients by the rows, as they are and as halves, by the gain, and the loss; `bias` gives the one by the bias. `d` is the gradient by the normed rows and `x` the errors. -/
abbrev input (r : FVec Ideal S8320x2048 .f32) (g : FVec Ideal S1x2048 .f32) (d : FVec Ideal S8320x2048 .f32) : FVec Ideal S8320x2048 .f32 := back r (mulf d (wide g))
abbrev short (r : FVec Ideal S8320x2048 .f32) (g : FVec Ideal S1x2048 .f32) (d : FVec Ideal S8320x2048 .f32) : FVec Ideal S8320x2048 .bf16 :=
  truncf .bf16 (mulf (broadcastInDim S8320x2048 ![] bcast_S_S8320x2048 (constant S_ .f32 0x3F000000#32)) (input r g d)) bitsLt_bf16_f32
abbrev gain (r d : FVec Ideal S8320x2048 .f32) : FVec Ideal S1x2048 .f32 :=
  shapeCast _ (Host.reduceAdd (mulf (mulf (centred r) (over (roots r))) d) (constant S_ .f32 0x00000000#32) reducesTo_S8320x2048_S2048_d0 h_S_) shapeCasts_S2048_S1x2048
abbrev loss (x : FVec Ideal S8192x2048 .f32) : FVec Ideal S1x128 .f32 :=
  broadcastInDim S1x128 ![] bcast_S_S1x128 (mulf (constant S_ .f32 0x3F000000#32) (Host.reduceAdd (Host.divf (Host.reduceAdd (mulf x x) (constant S_ .f32 0x00000000#32) reducesTo_S8192x2048_S8192_d1 h_S_)
    (broadcastInDim S8192 ![] bcast_S_S8192 (constant S_ .f32 0x45000000#32))) (constant S_ .f32 0x00000000#32) reducesTo_S8192_S_d0 h_S_))

end Cert.Reference18Ideal.Hand

namespace Cert.Kernel18Ideal.Hand

open Cert.Kernel18Ideal Cert.Kernel18Ideal.Gen Cert.Reference18Ideal.Hand Cert.Norm
open Cert.Reference13Ideal.Hand (centred over roots back bias)
open Cert.Kernel13Ideal.Hand (centred_at over_at roots_at back_at share bias_at)
open Idealize.ShloMosaic Idealize.ShloMosaic.TcCoe Idealize.ShloMosaic.Tactic Idealize.SL.Sem

/-! The reference's entries. -/

theorem wide_at (g : FVec Ideal S1x2048 .f32) (a : Fin 8320) (k : Fin 2048) : wide g (ix2 a k) = g (ix2 0 k) := by
  pointwise [wide]
theorem hat_at (r : FVec Ideal S8320x2048 .f32) (a : Fin 8320) (k : Fin 2048) :
    centred r (ix2 a k) * over (roots r) (ix2 a k) = (r (ix2 a k) - mean (fun j => r (ix2 a j))) * inv (fun j => r (ix2 a j)) :=
  congrArg₂ (fun x y : EReal => x * y) (centred_at r a k) ((over_at _ a k).trans (roots_at r a 0))
theorem normed_at (r : FVec Ideal S8320x2048 .f32) (g b : FVec Ideal S1x2048 .f32) (a : Fin 8320) (k : Fin 2048) :
    normed r g b (ix2 a k) = norm (fun j => r (ix2 a j)) (g (ix2 0 k)) (b (ix2 0 k)) k := by
  refine Eq.trans (b := centred r (ix2 a k) * over (roots r) (ix2 a k) * wide g (ix2 a k) + wide b (ix2 a k)) rfl ?_
  rw [hat_at, wide_at, wide_at]
  rfl
theorem errs_at (r : FVec Ideal S8320x2048 .f32) (g b : FVec Ideal S1x2048 .f32) (t : FVec Ideal Cert.Reference18Ideal.S8192x2048 .f32) (a : Fin 8192) (k : Fin 2048) :
    errs r g b t (ix2 a k) = norm (fun j => r (ix2 (⟨128 + a.val, by omega⟩ : Fin 8320) j)) (g (ix2 0 k)) (b (ix2 0 k)) k - t (ix2 a k) := by
  refine Eq.trans (b := normed r g b (ix2 (⟨128 + a.val, by omega⟩ : Fin 8320) k) - t (ix2 a k)) ?_ (congrArg (fun x : EReal => x - _) (normed_at r g b _ k))
  generalize hz : normed r g b = z
  pointwise [errs, hz]
theorem down_head (x : FVec Ideal Cert.Reference18Ideal.S8192x2048 .f32) (a : Fin 8320) (k : Fin 2048) (h : a.val < 128) : down x (ix2 a k) = 0 := by
  refine (pad_apply_of_not_inside _ _ _ _ _ _ _ _ 0 fun e => ?_).trans ?_
  · have := e.1
    change 128 ≤ a.val at this
    omega
  · pointwise
theorem down_tail (x : FVec Ideal Cert.Reference18Ideal.S8192x2048 .f32) (a : Fin 8320) (k : Fin 2048) (b : Fin 8192) (h : a.val = 128 + b.val) :
    down x (ix2 a k) = x (ix2 b k) * Ideal.div 1 (Ideal.ofBits .f32 0x45000000#32) := by
  refine (pad_apply_of_inside _ _ _ _ _ _ _ _ (ix2 b k) fun e => ?_).trans ?_
  · match e with
    | 0 => exact h.trans (by simp [ix2])
    | 1 => exact (by simp [ix2])
  · refine Eq.trans ?_ (turn _)
    pointwise
theorem input_at (r : FVec Ideal S8320x2048 .f32) (g : FVec Ideal S1x2048 .f32) (d : FVec Ideal S8320x2048 .f32) (a : Fin 8320) (k : Fin 2048) :
    input r g d (ix2 a k) = derived (fun j => r (ix2 a j)) (fun j => d (ix2 a j) * g (ix2 0 j)) k :=
  (back_at r (mulf d (wide g)) a k).trans (congrArg (fun f => derived _ f k) (funext fun j => congrArg (fun x : EReal => d (ix2 a j) * x) (wide_at g a j)))
theorem gain_at (r d : FVec Ideal S8320x2048 .f32) (y : S1x2048.Idx) : gain r d y = ∑ a : Fin 8320, share r d (ix2 a (y 1)) := by
  refine Eq.trans (b := ∑ a : Fin 8320, centred r (ix2 a (y 1)) * over (roots r) (ix2 a (y 1)) * d (ix2 a (y 1))) ?_ (Finset.sum_congr rfl fun a _ => ?_)
  · generalize hx : centred r = x
    generalize hz : over (roots r) = z
    pointwise [gain, hx, hz]
  · exact (mul_comm _ _).trans (congrArg (fun x : EReal => d (ix2 a (y 1)) * x) (hat_at r a (y 1)))
/-- A row's squared errors. -/
def miss (x : FVec Ideal Cert.Reference18Ideal.S8192x2048 .f32) (a : Fin 8192) : EReal := ∑ k : Fin 2048, x (ix2 a k) * x (ix2 a k)
theorem miss_nonneg (x : FVec Ideal Cert.Reference18Ideal.S8192x2048 .f32) (a : Fin 8192) : 0 ≤ miss x a := Finset.sum_nonneg fun k _ => square_nonneg _
theorem loss_at (x : FVec Ideal Cert.Reference18Ideal.S8192x2048 .f32) (y : S1x128.Idx) : loss x y = ((1 / 4096 : ℝ) : EReal) * ∑ a : Fin 8192, miss x a := by
  refine Eq.trans (b := Ideal.ofBits .f32 0x3F000000#32 * ∑ a : Fin 8192, Ideal.div (miss x a) (Ideal.ofBits .f32 0x45000000#32)) ?_ ?_
  · unfold miss
    pointwise [loss]
  · simp only [div_length]
    rw [← scale_sum _ _ _ (miss_nonneg x), share_eq, ← mul_assoc, ← EReal.coe_mul]
    congr 2
    norm_num

/-! What a grid point computes, from its blocks. -/

theorem pay3_at (x : FVec Ideal S128x2048 .f32) (a : Fin 128) (k : Fin 2048) : k0_pay3 (F := Ideal) x (ix2 a k) = x (ix2 a k) - mean (fun j => x (ix2 a j)) := by
  unfold mean
  pointwise [k0_pay3]
theorem pay4_at (x : FVec Ideal S128x2048 .f32) (a : Fin 128) (b : Fin 1) : k0_pay4 (F := Ideal) x (ix2 a b) = inv (fun j => x (ix2 a j)) := by
  refine Eq.trans (b := Ideal.rsqrt (Ideal.div (∑ k : Fin 2048, k0_pay3 (F := Ideal) x (ix2 a k) * k0_pay3 (F := Ideal) x (ix2 a k)) (Ideal.ofBits .f32 0x45000000#32) + Ideal.ofBits .f32 0x3727C5AC#32)) ?_ ?_
  · generalize hz : k0_pay3 (F := Ideal) x = z
    pointwise [k0_pay4, hz]
  · simp only [pay3_at]
    rfl
theorem pay5_at (x : FVec Ideal S128x2048 .f32) (a : Fin 128) (k : Fin 2048) :
    k0_pay5 (F := Ideal) x (ix2 a k) = (x (ix2 a k) - mean (fun j => x (ix2 a j))) * inv (fun j => x (ix2 a j)) := by
  refine Eq.trans (b := k0_pay3 (F := Ideal) x (ix2 a k) * k0_pay4 (F := Ideal) x (ix2 a 0)) ?_ (congrArg₂ (fun x y : EReal => x * y) (pay3_at x a k) (pay4_at x a 0))
  generalize hz : k0_pay3 (F := Ideal) x = z
  generalize hy : k0_pay4 (F := Ideal) x = y
  pointwise [k0_pay5, hz, hy]
theorem pay6_at (x : FVec Ideal S128x2048 .f32) (g b : FVec Ideal S1x2048 .f32) (t : FVec Ideal S128x2048 .f32) (a : Fin 128) (k : Fin 2048) :
    k0_pay6 (F := Ideal) x g b t (ix2 a k) = norm (fun j => x (ix2 a j)) (g (ix2 0 k)) (b (ix2 0 k)) k - t (ix2 a k) := by
  refine Eq.trans (b := k0_pay5 (F := Ideal) x (ix2 a k) * g (ix2 0 k) + b (ix2 0 k) - t (ix2 a k)) ?_ ?_
  · generalize hz : k0_pay5 (F := Ideal) x = z
    pointwise [k0_pay6, hz]
  · rw [pay5_at]
    rfl
/-- The first block does not count. -/
theorem word : ∀ t : Fin cfg0.N, (Scalar.extui (Scalar.cmpi .sge (BitVec.ofNat 32 (grid0.coords t 0).val) 1#32 : BitVec 1) : BitVec 32) = if t.val = 0 then 0#32 else 1#32 :=
  (by decide +kernel : ∀ t : Fin grid0.N, _)
theorem live_at (t : Fin cfg0.N) : k0_pay7 (F := Ideal) (grid0.coords t) = if t.val = 0 then (0 : EReal) else 1 := by
  refine (congrArg (fun w => (Scalar.sitofp .f32 w : Ideal .f32)) (word t)).trans ?_
  split
  · show (((0#32 : BitVec 32).toInt : ℝ) : EReal) = 0
    simp
  · show (((1#32 : BitVec 32).toInt : ℝ) : EReal) = 1
    simp
theorem pay8_at (i : grid0.Coords) (x : FVec Ideal S128x2048 .f32) (g b : FVec Ideal S1x2048 .f32) (t : FVec Ideal S128x2048 .f32) (j : S128x2048.Idx) :
    k0_pay8 (F := Ideal) i x g b t j = k0_pay6 (F := Ideal) x g b t j * Ideal.div (k0_pay7 (F := Ideal) i) (Ideal.ofBits .f32 0x45000000#32) := rfl
theorem pay12_at (x : FVec Ideal S128x2048 .f32) (g : FVec Ideal S1x2048 .f32) (d : FVec Ideal S128x2048 .f32) (a : Fin 128) (k : Fin 2048) :
    k0_pay12 (F := Ideal) (k0_pay4 (F := Ideal) x) (k0_pay5 (F := Ideal) x) g d (ix2 a k) = direct (fun j => x (ix2 a j)) (fun j => d (ix2 a j) * g (ix2 0 j)) k := by
  refine Eq.trans (b := k0_pay4 (F := Ideal) x (ix2 a 0) * (d (ix2 a k) * g (ix2 0 k) - mean (fun j => d (ix2 a j) * g (ix2 0 j))
    - k0_pay5 (F := Ideal) x (ix2 a k) * mean (fun j => d (ix2 a j) * g (ix2 0 j) * k0_pay5 (F := Ideal) x (ix2 a j)))) ?_ ?_
  · unfold mean
    generalize hz : k0_pay5 (F := Ideal) x = z
    generalize hy : k0_pay4 (F := Ideal) x = y
    pointwise [k0_pay12, hz, hy]
  · simp only [pay4_at, pay5_at]
    rfl
theorem half_at (v : FVec Ideal S128x1 .f32) (z : FVec Ideal S128x2048 .f32) (g : FVec Ideal S1x2048 .f32) (d : FVec Ideal S128x2048 .f32) (j : S128x2048.Idx) :
    k0_pay13 (F := Ideal) v z g d j = Ideal.ofBits .f32 0x3F000000#32 * k0_pay12 (F := Ideal) v z g d j := rfl
theorem rise_at (x d : FVec Ideal S128x2048 .f32) (acc : FVec Ideal S1x2048 .f32) (j : S1x2048.Idx) :
    k0_pay17 (F := Ideal) x d acc j = acc j + ∑ k : Fin 128, d (ix2 k (j 1)) * x (ix2 k (j 1)) := by pointwise [k0_pay17]
theorem add_at (d : FVec Ideal S128x2048 .f32) (acc : FVec Ideal S1x2048 .f32) (j : S1x2048.Idx) :
    k0_pay1 (F := Ideal) (k0_pay18 (F := Ideal) acc) (k0_pay19 (F := Ideal) d) j = acc j + ∑ k : Fin 128, d (ix2 k (j 1)) := by pointwise [k0_pay1, k0_pay18, k0_pay19]
theorem zero14_at (j : S1x2048.Idx) : k0_pay14 (F := Ideal) j = 0 := by pointwise [k0_pay14]
theorem zero15_at (j : S1x2048.Idx) : k0_pay15 (F := Ideal) j = 0 := by pointwise [k0_pay15]
theorem zero16_at (j : S1x128.Idx) : k0_pay16 (F := Ideal) j = 0 := by pointwise [k0_pay16]
/-- What a block adds to the loss. -/
def part (i : grid0.Coords) (x : FVec Ideal S128x2048 .f32) (g b : FVec Ideal S1x2048 .f32) (t : FVec Ideal S128x2048 .f32) : EReal :=
  Ideal.div (Ideal.ofBits .f32 0x3F000000#32 * k0_pay7 (F := Ideal) i * ∑ a : Fin 128, ∑ k : Fin 2048, k0_pay6 (F := Ideal) x g b t (ix2 a k) * k0_pay6 (F := Ideal) x g b t (ix2 a k))
    (Ideal.ofBits .f32 0x45000000#32)
theorem part_at (i : grid0.Coords) (x : FVec Ideal S128x2048 .f32) (g b : FVec Ideal S1x2048 .f32) (t : FVec Ideal S128x2048 .f32) (acc : FVec Ideal S1x128 .f32) (j : S1x128.Idx) :
    k0_pay2 (F := Ideal) (k0_pay11 (F := Ideal) (k0_pay9 (F := Ideal) i x g b t) (k0_pay10 (F := Ideal))) acc j = acc j + part i x g b t := by
  unfold part
  generalize hz : k0_pay6 (F := Ideal) x g b t = z
  generalize hl : k0_pay7 (F := Ideal) i = l
  pointwise [k0_pay2, k0_pay11, k0_pay10, k0_pay9, hz, hl]

theorem place : ∀ t : Fin cfg0.N, win0_0.index t = ![t.val, 0] ∧ win0_1.index t = ![0, 0] ∧ win0_2.index t = ![0, 0] ∧ win0_3.index t = ![t.val - 1, 0] ∧ win0_4.index t = ![t.val, 0]
    ∧ win0_5.index t = ![t.val, 0] ∧ win0_6.index t = ![0, 0] ∧ win0_7.index t = ![0, 0] ∧ win0_8.index t = ![0, 0] :=
  (by decide +kernel : ∀ t : Fin grid0.N, _)

variable (m : (ℓ : Loc nD τ sig) → Buf (Elt Ideal) ℓ)

abbrev aR (c : Dev nD) : FVec Ideal S8320x2048 .f32 := m ((c : Thread nD τ).loc main_arg0)
abbrev aG (c : Dev nD) : FVec Ideal S1x2048 .f32 := m ((c : Thread nD τ).loc main_arg1)
abbrev aB (c : Dev nD) : FVec Ideal S1x2048 .f32 := m ((c : Thread nD τ).loc main_arg2)
abbrev aT (c : Dev nD) : FVec Ideal S8192x2048 .f32 := m ((c : Thread nD τ).loc main_arg3)

/-- The rows of a grid point, those of the target, and what it is handed. -/
abbrev row (t : Fin cfg0.N) (j : Fin 128) : Fin 8320 := ⟨t.val * 128 + j.val, by have ht : t.val < 65 := t.isLt; omega⟩
abbrev goal (t : Fin cfg0.N) (j : Fin 128) : Fin 8192 := ⟨(t.val - 1) * 128 + j.val, by have ht : t.val < 65 := t.isLt; omega⟩
abbrev bR (c : Dev nD) (t : Fin cfg0.N) : FVec Ideal S128x2048 .f32 := iblk m c 0 t
abbrev bG (c : Dev nD) (t : Fin cfg0.N) : FVec Ideal S1x2048 .f32 := iblk m c 1 t
abbrev bB (c : Dev nD) (t : Fin cfg0.N) : FVec Ideal S1x2048 .f32 := iblk m c 2 t
abbrev bT (c : Dev nD) (t : Fin cfg0.N) : FVec Ideal S128x2048 .f32 := iblk m c 3 t
theorem bR_at (c : Dev nD) (t : Fin cfg0.N) (a : Fin 128) (k : Fin 2048) : bR m c t (ix2 a k) = aR m c (ix2 (row t a) k) := by
  blk_ext [iblk, V, place t]
theorem bG_at (c : Dev nD) (t : Fin cfg0.N) (k : Fin 2048) : bG m c t (ix2 0 k) = aG m c (ix2 0 k) := by
  blk_ext [iblk, V, place t]
theorem bB_at (c : Dev nD) (t : Fin cfg0.N) (k : Fin 2048) : bB m c t (ix2 0 k) = aB m c (ix2 0 k) := by
  blk_ext [iblk, V, place t]
theorem bT_at (c : Dev nD) (t : Fin cfg0.N) (a : Fin 128) (k : Fin 2048) : bT m c t (ix2 a k) = aT m c (ix2 (goal t a) k) := by
  blk_ext [iblk, V, place t]

/-- The errors, and the gradient by the normed rows: the reference's and a grid point's. -/
abbrev aX (c : Dev nD) : FVec Ideal Cert.Reference18Ideal.S8192x2048 .f32 := errs (aR m c) (aG m c) (aB m c) (aT m c)
abbrev aD (c : Dev nD) : FVec Ideal S8320x2048 .f32 := down (aX m c)
abbrev bX (c : Dev nD) (t : Fin cfg0.N) : FVec Ideal S128x2048 .f32 := k0_pay6 (F := Ideal) (bR m c t) (bG m c t) (bB m c t) (bT m c t)
abbrev bD (c : Dev nD) (t : Fin cfg0.N) : FVec Ideal S128x2048 .f32 := k0_pay8 (F := Ideal) (grid0.coords t) (bR m c t) (bG m c t) (bB m c t) (bT m c t)
abbrev bP (c : Dev nD) (t : Fin cfg0.N) : EReal := part (grid0.coords t) (bR m c t) (bG m c t) (bB m c t) (bT m c t)
theorem bX_at (c : Dev nD) (t : Fin cfg0.N) (h : t.val ≠ 0) (a : Fin 128) (k : Fin 2048) : bX m c t (ix2 a k) = aX m c (ix2 (goal t a) k) := by
  refine (pay6_at _ _ _ _ a k).trans (Eq.trans ?_ (errs_at (aR m c) (aG m c) (aB m c) (aT m c) (goal t a) k).symm)
  simp only [bR_at, bG_at, bB_at, bT_at]
  have hr : row t a = ⟨128 + (goal t a).val, by omega⟩ := Fin.ext (by show t.val * 128 + a.val = 128 + ((t.val - 1) * 128 + a.val); omega)
  rw [hr]
theorem bD_at (c : Dev nD) (t : Fin cfg0.N) (a : Fin 128) (k : Fin 2048) : bD m c t (ix2 a k) = aD m c (ix2 (row t a) k) := by
  refine (pay8_at _ _ _ _ _ _).trans ?_
  rw [live_at]
  by_cases h : t.val = 0
  · rw [if_pos h, div_zero_length, mul_zero]
    exact (down_head _ _ k (by show t.val * 128 + a.val < 128; omega)).symm
  · rw [if_neg h]
    refine (congrArg (fun x : EReal => x * _) (bX_at m c t h a k)).trans ?_
    exact (down_tail _ _ k (goal t a) (by show t.val * 128 + a.val = 128 + ((t.val - 1) * 128 + a.val); omega)).symm
theorem share_at (c : Dev nD) (t : Fin cfg0.N) (a : Fin 128) (k : Fin 2048) :
    bD m c t (ix2 a k) * k0_pay5 (F := Ideal) (bR m c t) (ix2 a k) = share (aR m c) (aD m c) (ix2 (row t a) k) := by
  rw [pay5_at, bD_at]
  simp only [bR_at]
  rfl

theorem out_4 (c : Dev nD) (t : Fin cfg0.N) : (outsAt0 m c t.val t.isLt).1 = k0_pay12 (F := Ideal) (k0_pay4 (F := Ideal) (bR m c t)) (k0_pay5 (F := Ideal) (bR m c t)) (bG m c t) (bD m c t) := by
  by_cases h : t.val % 65 = 0
  · rw [outsAt0_A m c t h]
    frame_out
  · rw [outsAt0_B m c t h]
    frame_out
theorem out_5 (c : Dev nD) (t : Fin cfg0.N) : (outsAt0 m c t.val t.isLt).2.1 = k0_pay13 (F := Ideal) (k0_pay4 (F := Ideal) (bR m c t)) (k0_pay5 (F := Ideal) (bR m c t)) (bG m c t) (bD m c t) := by
  by_cases h : t.val % 65 = 0
  · rw [outsAt0_A m c t h]
    frame_out
  · rw [outsAt0_B m c t h]
    frame_out

/-- The gradients of the gain and of the bias, and the loss, are summed over the blocks of rows. -/
theorem sum_6 (c : Dev nD) (t : Fin cfg0.N) (ht : t.val % 65 = 64) (j : S1x2048.Idx) :
    (outsAt0 m c t.val t.isLt).2.2.1 j = ∑ s : Fin 65, ∑ k : Fin 128, bD m c ⟨65 * (t.val / 65) + s.val, Pipeline.run_point_lt_of_flush t ht s⟩ (ix2 k (j 1))
      * k0_pay5 (F := Ideal) (bR m c ⟨65 * (t.val / 65) + s.val, Pipeline.run_point_lt_of_flush t ht s⟩) (ix2 k (j 1)) := by
  rw [Pipeline.eq_sum_fin_of_reset_step_apply_of_flush (fun n h => (outsAt0 m c n h).2.2.1) 65 (fun _ => (0 : EReal))
    (fun p j => ∑ k : Fin 128, bD m c p (ix2 k (j 1)) * k0_pay5 (F := Ideal) (bR m c p) (ix2 k (j 1)))
    (fun t h j => by
      rw [outsAt0_A m c t h]
      frame_out
      refine (rise_at (k0_pay5 (F := Ideal) (bR m c t)) (bD m c t) _ j).trans ?_
      exact congrArg (· + _) (zero14_at j))
    (fun t h j => by
      rw [outsAt0_B m c t h]
      frame_out
      exact rise_at (k0_pay5 (F := Ideal) (bR m c t)) (bD m c t) _ j)
    t ht j, zero_add]
theorem sum_7 (c : Dev nD) (t : Fin cfg0.N) (ht : t.val % 65 = 64) (j : S1x2048.Idx) :
    (outsAt0 m c t.val t.isLt).2.2.2.1 j = ∑ s : Fin 65, ∑ k : Fin 128, bD m c ⟨65 * (t.val / 65) + s.val, Pipeline.run_point_lt_of_flush t ht s⟩ (ix2 k (j 1)) := by
  rw [Pipeline.eq_sum_fin_of_reset_step_apply_of_flush (fun n h => (outsAt0 m c n h).2.2.2.1) 65 (fun _ => (0 : EReal))
    (fun p j => ∑ k : Fin 128, bD m c p (ix2 k (j 1)))
    (fun t h j => by
      rw [outsAt0_A m c t h]
      frame_out
      refine (add_at (bD m c t) _ j).trans ?_
      exact congrArg (· + _) (zero15_at j))
    (fun t h j => by
      rw [outsAt0_B m c t h]
      frame_out
      exact add_at (bD m c t) _ j)
    t ht j, zero_add]
theorem sum_8 (c : Dev nD) (t : Fin cfg0.N) (ht : t.val % 65 = 64) (j : S1x128.Idx) :
    (outsAt0 m c t.val t.isLt).2.2.2.2 j = ∑ s : Fin 65, bP m c ⟨65 * (t.val / 65) + s.val, Pipeline.run_point_lt_of_flush t ht s⟩ := by
  rw [Pipeline.eq_sum_fin_of_reset_step_apply_of_flush (fun n h => (outsAt0 m c n h).2.2.2.2) 65 (fun _ => (0 : EReal))
    (fun p j => bP m c p)
    (fun t h j => by
      rw [outsAt0_A m c t h]
      frame_out
      refine (part_at (grid0.coords t) (bR m c t) (bG m c t) (bB m c t) (bT m c t) _ j).trans ?_
      exact congrArg (· + _) (zero16_at j))
    (fun t h j => by
      rw [outsAt0_B m c t h]
      frame_out
      exact part_at (grid0.coords t) (bR m c t) (bG m c t) (bB m c t) (bT m c t) _ j)
    t ht j, zero_add]

theorem bP_head (c : Dev nD) (t : Fin cfg0.N) (h : t.val = 0) : bP m c t = 0 := by
  show Ideal.div (Ideal.ofBits .f32 0x3F000000#32 * k0_pay7 (F := Ideal) (grid0.coords t) * _) _ = 0
  rw [live_at, if_pos h, mul_zero, zero_mul, div_zero_length]
theorem bP_tail (c : Dev nD) (t : Fin cfg0.N) (h : t.val ≠ 0) : bP m c t = ((1 / 4096 : ℝ) : EReal) * ∑ a : Fin 128, miss (aX m c) (goal t a) := by
  show Ideal.div (Ideal.ofBits .f32 0x3F000000#32 * k0_pay7 (F := Ideal) (grid0.coords t) * ∑ a : Fin 128, ∑ k : Fin 2048, bX m c t (ix2 a k) * bX m c t (ix2 a k)) _ = _
  rw [live_at, if_neg h, mul_one, div_length, share_eq, ← mul_assoc, ← EReal.coe_mul]
  simp only [bX_at m c t h]
  refine congrArg₂ (fun x y : EReal => x * y) (congrArg Real.toEReal (by norm_num)) rfl

/-! The arrays that the kernel leaves are the reference's. -/

section

variable (c : Dev nD) (hg : ∀ i, (aG m c i : EReal) = ((aG m c i : EReal).toReal : EReal)) (hb : ∀ i, (aB m c i : EReal) = ((aB m c i : EReal).toReal : EReal))
  (ht : ∀ i, (aT m c i : EReal) = ((aT m c i : EReal).toReal : EReal))

include hg hb ht in
/-- The gradient by the normed rows is of numbers. -/
theorem aD_real (a : Fin 8320) (k : Fin 2048) : ∃ r : ℝ, aD m c (ix2 a k) = (r : EReal) := by
  by_cases h : a.val < 128
  · exact ⟨0, down_head _ a k h⟩
  · let b : Fin 8192 := ⟨a.val - 128, by omega⟩
    obtain ⟨z, hz⟩ := hat_real (fun j => aR m c (ix2 (⟨128 + b.val, by omega⟩ : Fin 8320) j)) k
    refine ⟨(z * (aG m c (ix2 0 k) : EReal).toReal + (aB m c (ix2 0 k) : EReal).toReal - (aT m c (ix2 b k) : EReal).toReal) * (1 / 2048), ?_⟩
    refine (down_tail _ a k b (by show a.val = 128 + (a.val - 128); omega)).trans ((congrArg (fun x : EReal => x * _) (errs_at (aR m c) (aG m c) (aB m c) (aT m c) b k)).trans ?_)
    rw [Cert.Norm.norm, hz, length_eq, ← EReal.coe_one, div_real (by norm_num)]
    push_cast
    rw [← hg, ← hb, ← ht]

include hg hb ht in
theorem grad_at (t : Fin cfg0.N) (y : S128x2048.Idx) :
    k0_pay12 (F := Ideal) (k0_pay4 (F := Ideal) (bR m c t)) (k0_pay5 (F := Ideal) (bR m c t)) (bG m c t) (bD m c t) y = input (aR m c) (aG m c) (aD m c) (ix2 (row t (y 0)) (y 1)) := by
  obtain ⟨a, k, rfl⟩ : ∃ (a : Fin 128) (k : Fin 2048), y = ix2 a k := ⟨y 0, y 1, (ix2_eta y).symm⟩
  rw [pay12_at]
  refine Eq.trans ?_ (input_at (aR m c) (aG m c) (aD m c) (row t a) k).symm
  simp only [bR_at, bG_at, bD_at]
  refine direct_eq _ (fun j => aD m c (ix2 (row t a) j) * aG m c (ix2 0 j)) (fun j => ?_) k
  obtain ⟨r, hr⟩ := aD_real m c hg hb ht (row t a) j
  show aD m c (ix2 (row t a) j) * aG m c (ix2 0 j) = ((aD m c (ix2 (row t a) j) * aG m c (ix2 0 j) : EReal).toReal : EReal)
  rw [hr, hg, ← EReal.coe_mul, EReal.toReal_coe]

include hg hb ht in
theorem final_4 : (dats m 0 c).arrAt 4 (cfgs 0).N = input (aR m c) (aG m c) (aD m c) := by
  refine (dats m 0 c).arrAt_eq_of_covers 4 _ (by decide +kernel) fun t hf y => ?_
  blk_simp
  rw [after0_4, out_4, grad_at m c hg hb ht]
  blk_ext [place t]
include hg hb ht in
theorem final_5 : (dats m 0 c).arrAt 5 (cfgs 0).N = short (aR m c) (aG m c) (aD m c) := by
  refine (dats m 0 c).arrAt_eq_of_covers 5 _ (by decide +kernel) fun t hf y => ?_
  blk_simp
  rw [after0_5, out_5, half_at, grad_at m c hg hb ht]
  refine Eq.trans (b := short (aR m c) (aG m c) (aD m c) (ix2 (row t (y 0)) (y 1))) rfl ?_
  blk_ext [place t]

end

theorem final_6 (c : Dev nD) : (dats m 0 c).arrAt 6 (cfgs 0).N = gain (aR m c) (aD m c) := by
  refine (dats m 0 c).arrAt_eq_of_covers 6 _ (by decide +kernel) fun t hf y => ?_
  have ht := (flush0_6 t).mp hf
  blk_simp
  rw [after0_6]
  refine (sum_6 m c t ht _).trans ?_
  refine Eq.trans ?_ (gain_at (aR m c) (aD m c) _).symm
  refine Fin.sum_mul_add_congr fun s k hl => ?_
  refine (share_at m c _ k _).trans ?_
  blk_ext [place t]
theorem final_7 (c : Dev nD) : (dats m 0 c).arrAt 7 (cfgs 0).N = bias (aD m c) := by
  refine (dats m 0 c).arrAt_eq_of_covers 7 _ (by decide +kernel) fun t hf y => ?_
  have ht := (flush0_7 t).mp hf
  blk_simp
  rw [after0_7]
  refine (sum_7 m c t ht _).trans ?_
  refine Eq.trans ?_ (bias_at (aD m c) _).symm
  refine Fin.sum_mul_add_congr fun s k hl => ?_
  refine (bD_at m c _ k _).trans ?_
  blk_ext [place t]
theorem final_8 (c : Dev nD) : (dats m 0 c).arrAt 8 (cfgs 0).N = loss (aX m c) := by
  refine (dats m 0 c).arrAt_eq_of_covers 8 _ (by decide +kernel) fun t hf y => ?_
  have ht := (flush0_8 t).mp hf
  have h65 : t.val < 65 := t.isLt
  blk_simp
  rw [after0_8]
  refine (sum_8 m c t ht _).trans ?_
  refine Eq.trans ?_ (loss_at (aX m c) _).symm
  rw [Fin.sum_univ_succ, bP_head m c _ (by show 65 * (t.val / 65) + 0 = 0; omega), zero_add]
  refine Eq.trans (Finset.sum_congr rfl fun s _ => bP_tail m c _ (by show 65 * (t.val / 65) + (s.val + 1) ≠ 0; omega)) ?_
  rw [← scale_sum _ _ _ (fun s => Finset.sum_nonneg fun a _ => miss_nonneg _ _)]
  refine congrArg (fun x : EReal => _ * x) (Fin.sum_mul_add_congr fun s k hl => ?_)
  exact congrArg (miss (aX m c)) (Fin.ext (by show (65 * (t.val / 65) + (s.val + 1) - 1) * 128 + k.val = s.val * 128 + k.val; omega))

end Cert.Kernel18Ideal.Hand

end
-- ==== Proof.SecondNormGrad.lean ====
module

public import proofs.«01_k».proof.Proof.Gen.Kernel19Ideal.Value
public import proofs.«01_k».proof.Proof.Gen.Reference19Ideal.Run
public import proofs.«01_k».proof.Proof.Loss
public import Idealize.ShloMosaic.Lib.Pipeline.ValueKit

/-!
  The gradients of the norm after the mixers. A grid point computes what it computes for the norm after the first feed forward, and the
  reference's gradients are the same; the second result is not halved.
-/

@[expose] public section

set_option maxRecDepth 16384

noncomputable section

namespace Cert.Kernel19Ideal.Hand

open Cert.Kernel19Ideal Cert.Kernel19Ideal.Gen Cert.Norm
open Cert.Reference13Ideal.Hand (input gain bias)
open Cert.Kernel13Ideal.Hand (pay8_at pay9_at rise_at add_at zero_at input_at share gain_at bias_at ups)
open Idealize.ShloMosaic Idealize.ShloMosaic.TcCoe Idealize.ShloMosaic.Tactic Idealize.SL.Sem

/-- The second result: the gradient in bf16. -/
abbrev short (r : FVec Ideal S8320x2048 .f32) (g : FVec Ideal S1x2048 .f32) (d : FVec Ideal S8320x2048 .f32) : FVec Ideal S8320x2048 .bf16 :=
  truncf .bf16 (input r g d) Cert.Reference13Ideal.Gen.bitsLt_bf16_f32
theorem short_at (x : FVec Ideal S320x2048 .f32) (g : FVec Ideal S1x2048 .f32) (d : FVec Ideal S320x2048 .f32) (j : S320x2048.Idx) :
    k0_pay1 (F := Ideal) (k0_pay10 (F := Ideal) x g d) j = k0_pay9 (F := Ideal) x g d j := by
  show Ideal.ofBits .f32 0x3F800000#32 * k0_pay9 (F := Ideal) x g d j = _
  rw [one_eq, EReal.coe_one, one_mul]

theorem place : ∀ t : Fin cfg0.N, win0_0.index t = ![t.val, 0] ∧ win0_1.index t = ![0, 0] ∧ win0_2.index t = ![t.val, 0] ∧ win0_3.index t = ![t.val, 0] ∧ win0_4.index t = ![t.val, 0]
    ∧ win0_5.index t = ![0, 0] ∧ win0_6.index t = ![0, 0] :=
  (by decide +kernel : ∀ t : Fin grid0.N, _)

variable (m : (ℓ : Loc nD τ sig) → Buf (Elt Ideal) ℓ)

abbrev aR (c : Dev nD) : FVec Ideal S8320x2048 .f32 := m ((c : Thread nD τ).loc main_arg0)
abbrev aG (c : Dev nD) : FVec Ideal S1x2048 .f32 := m ((c : Thread nD τ).loc main_arg1)
abbrev aD (c : Dev nD) : FVec Ideal S8320x2048 .f32 := m ((c : Thread nD τ).loc main_arg2)

/-- The rows of a grid point, and what it is handed. -/
abbrev row (t : Fin cfg0.N) (j : Fin 320) : Fin 8320 := ⟨t.val * 320 + j.val, by have ht : t.val < 26 := t.isLt; omega⟩
abbrev bR (c : Dev nD) (t : Fin cfg0.N) : FVec Ideal S320x2048 .f32 := iblk m c 0 t
abbrev bG (c : Dev nD) (t : Fin cfg0.N) : FVec Ideal S1x2048 .f32 := iblk m c 1 t
abbrev bD (c : Dev nD) (t : Fin cfg0.N) : FVec Ideal S320x2048 .f32 := iblk m c 2 t
theorem bR_at (c : Dev nD) (t : Fin cfg0.N) (a : Fin 320) (k : Fin 2048) : bR m c t (ix2 a k) = aR m c (ix2 (row t a) k) := by
  blk_ext [iblk, V, place t]
theorem bG_at (c : Dev nD) (t : Fin cfg0.N) (k : Fin 2048) : bG m c t (ix2 0 k) = aG m c (ix2 0 k) := by
  blk_ext [iblk, V, place t]
theorem bD_at (c : Dev nD) (t : Fin cfg0.N) (a : Fin 320) (k : Fin 2048) : bD m c t (ix2 a k) = aD m c (ix2 (row t a) k) := by
  blk_ext [iblk, V, place t]

theorem share_at (c : Dev nD) (t : Fin cfg0.N) (a : Fin 320) (k : Fin 2048) :
    bD m c t (ix2 a k) * k0_pay8 (F := Ideal) (bR m c t) (ix2 a k) = share (aR m c) (aD m c) (ix2 (row t a) k) := by
  refine (congrArg (fun x : EReal => bD m c t (ix2 a k) * x) (pay8_at (bR m c t) a k)).trans ?_
  simp only [bR_at, bD_at]
  rfl

theorem out_3 (c : Dev nD) (t : Fin cfg0.N) : (outsAt0 m c t.val t.isLt).1 = k0_pay9 (F := Ideal) (bR m c t) (bG m c t) (bD m c t) := by
  by_cases h : t.val % 26 = 0
  · rw [outsAt0_A m c t h]
    frame_out
  · rw [outsAt0_B m c t h]
    frame_out
theorem out_4 (c : Dev nD) (t : Fin cfg0.N) : (outsAt0 m c t.val t.isLt).2.1 = k0_pay1 (F := Ideal) (k0_pay10 (F := Ideal) (bR m c t) (bG m c t) (bD m c t)) := by
  by_cases h : t.val % 26 = 0
  · rw [outsAt0_A m c t h]
    frame_out
  · rw [outsAt0_B m c t h]
    frame_out

/-- The gradient of the gain, and of the bias, is summed over the blocks of rows. -/
theorem sum_5 (c : Dev nD) (t : Fin cfg0.N) (ht : t.val % 26 = 25) (j : S1x2048.Idx) :
    (outsAt0 m c t.val t.isLt).2.2.1 j = ∑ s : Fin 26, ∑ k : Fin 320, bD m c ⟨26 * (t.val / 26) + s.val, Pipeline.run_point_lt_of_flush t ht s⟩ (ix2 k (j 1))
      * k0_pay8 (F := Ideal) (bR m c ⟨26 * (t.val / 26) + s.val, Pipeline.run_point_lt_of_flush t ht s⟩) (ix2 k (j 1)) := by
  rw [Pipeline.eq_sum_fin_of_reset_step_apply_of_flush (fun n h => (outsAt0 m c n h).2.2.1) 26 (fun _ => (0 : EReal))
    (fun p j => ∑ k : Fin 320, bD m c p (ix2 k (j 1)) * k0_pay8 (F := Ideal) (bR m c p) (ix2 k (j 1)))
    (fun t h j => by
      rw [outsAt0_A m c t h]
      frame_out
      refine (rise_at (k0_pay8 (F := Ideal) (bR m c t)) (bD m c t) _ j).trans ?_
      exact congrArg (· + _) (zero_at j))
    (fun t h j => by
      rw [outsAt0_B m c t h]
      frame_out
      exact rise_at (k0_pay8 (F := Ideal) (bR m c t)) (bD m c t) _ j)
    t ht j, zero_add]
theorem sum_6 (c : Dev nD) (t : Fin cfg0.N) (ht : t.val % 26 = 25) (j : S1x2048.Idx) :
    (outsAt0 m c t.val t.isLt).2.2.2 j = ∑ s : Fin 26, ∑ k : Fin 320, bD m c ⟨26 * (t.val / 26) + s.val, Pipeline.run_point_lt_of_flush t ht s⟩ (ix2 k (j 1)) := by
  rw [Pipeline.eq_sum_fin_of_reset_step_apply_of_flush (fun n h => (outsAt0 m c n h).2.2.2) 26 (fun _ => (0 : EReal))
    (fun p j => ∑ k : Fin 320, bD m c p (ix2 k (j 1)))
    (fun t h j => by
      rw [outsAt0_A m c t h]
      frame_out
      refine (add_at (bD m c t) _ j).trans ?_
      exact congrArg (· + _) (zero_at j))
    (fun t h j => by
      rw [outsAt0_B m c t h]
      frame_out
      exact add_at (bD m c t) _ j)
    t ht j, zero_add]

/-! The arrays that the kernel leaves are the reference's. -/

section

variable (c : Dev nD) (hg : ∀ i, (aG m c i : EReal) = ((aG m c i : EReal).toReal : EReal)) (hd : ∀ i, (aD m c i : EReal) = ((aD m c i : EReal).toReal : EReal))

include hg hd in
theorem grad_at (t : Fin cfg0.N) (y : S320x2048.Idx) :
    k0_pay9 (F := Ideal) (bR m c t) (bG m c t) (bD m c t) y = input (aR m c) (aG m c) (aD m c) (ix2 (row t (y 0)) (y 1)) := by
  obtain ⟨a, k, rfl⟩ : ∃ (a : Fin 320) (k : Fin 2048), y = ix2 a k := ⟨y 0, y 1, (ix2_eta y).symm⟩
  refine (pay9_at _ _ _ a k).trans ?_
  refine Eq.trans ?_ (input_at (aR m c) (aG m c) (aD m c) (row t a) k).symm
  simp only [bR_at, bG_at, bD_at]
  refine direct_eq _ (ups (aG m c) (aD m c) (row t a)) (fun j => ?_) k
  show aD m c (ix2 (row t a) j) * aG m c (ix2 0 j) = _
  refine Eq.trans ?_ (congrArg Real.toEReal (EReal.toReal_mul (x := aD m c (ix2 (row t a) j)) (y := aG m c (ix2 0 j))).symm)
  rw [EReal.coe_mul, ← hd, ← hg]

include hg hd in
theorem final_3 : (dats m 0 c).arrAt 3 (cfgs 0).N = input (aR m c) (aG m c) (aD m c) := by
  refine (dats m 0 c).arrAt_eq_of_covers 3 _ (by decide +kernel) fun t hf y => ?_
  blk_simp
  rw [after0_3, out_3, grad_at m c hg hd]
  blk_ext [place t]
include hg hd in
theorem final_4 : (dats m 0 c).arrAt 4 (cfgs 0).N = short (aR m c) (aG m c) (aD m c) := by
  refine (dats m 0 c).arrAt_eq_of_covers 4 _ (by decide +kernel) fun t hf y => ?_
  blk_simp
  rw [after0_4, out_4, short_at, grad_at m c hg hd]
  refine Eq.trans (b := short (aR m c) (aG m c) (aD m c) (ix2 (row t (y 0)) (y 1))) rfl ?_
  blk_ext [place t]

end

theorem final_5 (c : Dev nD) : (dats m 0 c).arrAt 5 (cfgs 0).N = gain (aR m c) (aD m c) := by
  refine (dats m 0 c).arrAt_eq_of_covers 5 _ (by decide +kernel) fun t hf y => ?_
  have ht := (flush0_5 t).mp hf
  blk_simp
  rw [after0_5]
  refine (sum_5 m c t ht _).trans ?_
  refine Eq.trans ?_ (gain_at (aR m c) (aD m c) _).symm
  refine Fin.sum_mul_add_congr fun s k hl => ?_
  refine (share_at m c _ k _).trans ?_
  blk_ext [place t]
theorem final_6 (c : Dev nD) : (dats m 0 c).arrAt 6 (cfgs 0).N = bias (aD m c) := by
  refine (dats m 0 c).arrAt_eq_of_covers 6 _ (by decide +kernel) fun t hf y => ?_
  have ht := (flush0_6 t).mp hf
  blk_simp
  rw [after0_6]
  refine (sum_6 m c t ht _).trans ?_
  refine Eq.trans ?_ (bias_at (aD m c) _).symm
  refine Fin.sum_mul_add_congr fun s k hl => ?_
  show (_ : EReal) = _
  blk_ext [iblk, V, place t, place ⟨_, Pipeline.run_point_lt_of_flush t ht s⟩]

end Cert.Kernel19Ideal.Hand

end
-- ==== Proof.Adam.lean ====
module

public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import Idealize.ShloMosaic.Lib.Pipeline.ValueKit

/-!
  The optimiser's step: the devices' gradients are summed, and both moments and the change of the weight follow entry by entry. For a
  weight of 2048 by 704, whose gradients come from eight devices, in 8 blocks of rows; and for a gain or a bias, whose gradient comes summed.
-/

@[expose] public section

set_option maxRecDepth 16384

noncomputable section

namespace Cert.Adam

open Idealize.ShloMosaic

/-! The reference's step, over any shape. -/

section

variable (S : Shape) (h : Cert.Reference20Ideal.S_.BroadcastsInDim S (![] : Fin 0 → Fin S.rank))

abbrev spread (b : BitVec 32) : FVec Ideal S .f32 := broadcastInDim S ![] h (constant Cert.Reference20Ideal.S_ .f32 b)
/-- The moments after the step, and the change of the weight by them. -/
abbrev first (m g : FVec Ideal S .f32) : FVec Ideal S .f32 := addf (mulf (spread S h 0x3F666666#32) m) (mulf (spread S h 0x3DCCCCCD#32) g)
abbrev second (v g : FVec Ideal S .f32) : FVec Ideal S .f32 := addf (mulf (spread S h 0x3F7FBE77#32) v) (mulf (spread S h 0x3A83126F#32) (mulf g g))
abbrev change (w m v : FVec Ideal S .f32) : FVec Ideal S .f32 :=
  mulf (spread S h 0xBA83126F#32) (addf (Host.divf (Host.divf m (spread S h 0x3F26BD02#32)) (addf (Host.sqrt (Host.divf v (spread S h 0x3C231ACC#32))) (spread S h 0x322BCC77#32)))
    (mulf (spread S h 0x3C23D70A#32) w))
abbrev step (w m v g : FVec Ideal S .f32) : FVec Ideal S .f32 := change S h w (first S h m g) (second S h v g)

end

/-! One entry of it. -/

def firstOf (m g : EReal) : EReal := Ideal.ofBits .f32 0x3F666666#32 * m + Ideal.ofBits .f32 0x3DCCCCCD#32 * g
def secondOf (v g : EReal) : EReal := Ideal.ofBits .f32 0x3F7FBE77#32 * v + Ideal.ofBits .f32 0x3A83126F#32 * (g * g)
def stepOf (w m v g : EReal) : EReal :=
  Ideal.ofBits .f32 0xBA83126F#32 * (Ideal.div (Ideal.div (firstOf m g) (Ideal.ofBits .f32 0x3F26BD02#32))
    (Ideal.sqrt (Ideal.div (secondOf v g) (Ideal.ofBits .f32 0x3C231ACC#32)) + Ideal.ofBits .f32 0x322BCC77#32) + Ideal.ofBits .f32 0x3C23D70A#32 * w)

theorem first_at (S : Shape) (h) (m g : FVec Ideal S .f32) (y : S.Idx) : first S h m g y = firstOf (m y) (g y) := rfl
theorem second_at (S : Shape) (h) (v g : FVec Ideal S .f32) (y : S.Idx) : second S h v g y = secondOf (v y) (g y) := rfl
theorem step_at (S : Shape) (h) (w m v g : FVec Ideal S .f32) (y : S.Idx) : step S h w m v g y = stepOf (w y) (m y) (v y) (g y) := rfl

end Cert.Adam

namespace Cert.Reference20Ideal.Hand

open Cert.Reference20Ideal Cert.Reference20Ideal.Gen
open Idealize.ShloMosaic

/-- The sum of the devices' gradients. -/
abbrev total (x : FVec Ideal S8x2048x704 .bf16) : FVec Ideal S2048x704 .f32 :=
  Host.reduceAdd (extf .f32 x bitsLt_bf16_f32) (constant S_ .f32 0x00000000#32) reducesTo_S8x2048x704_S2048x704_d0 h_S_
theorem total_at (x : FVec Ideal S8x2048x704 .bf16) (y : S2048x704.Idx) : total x y = ∑ s : Fin 8, x (ix3 s (y 0) (y 1)) := by
  pointwise [total]

end Cert.Reference20Ideal.Hand

namespace Cert.Kernel20Ideal.Hand

open Cert.Kernel20Ideal Cert.Kernel20Ideal.Gen Cert.Adam
open Cert.Reference20Ideal.Hand (total total_at)
open Idealize.ShloMosaic Idealize.ShloMosaic.TcCoe Idealize.ShloMosaic.Tactic Idealize.SL.Sem

abbrev spreads := Cert.Reference20Ideal.Gen.bcast_S_S2048x704

theorem place : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem pay5_at (w m v : FVec Ideal S256x704 .f32) (x : FVec Ideal S8x256x704 .bf16) (j : S256x704.Idx) :
    k0_pay5 (F := Ideal) w m v x j = ∑ s : Fin 8, x (ix3 s (j 0) (j 1)) := by
  rw [Fin.sum_univ_eight]
  unfold k0_pay5 r0_0 r0_1 r0_2 r0_3 r0_4 r0_5 r0_6 r0_7
  pointwise [k0_pay4]
theorem pay1_at (g m : FVec Ideal S256x704 .f32) (j : S256x704.Idx) :
    k0_pay1 (F := Ideal) g m (Scalar.ofBits .f32 0x3F666666#32) j = firstOf (m j) (g j) := rfl
theorem pay2_at (g v : FVec Ideal S256x704 .f32) (j : S256x704.Idx) : k0_pay2 (F := Ideal) g v j = secondOf (v j) (g j) := rfl
theorem pay3_at (g m v w : FVec Ideal S256x704 .f32) (j : S256x704.Idx) :
    k0_pay3 (F := Ideal) g m (Scalar.ofBits .f32 0x3F666666#32) v w j = stepOf (w j) (m j) (v j) (g j) := rfl

variable (m : (ℓ : Loc nD τ sig) → Buf (Elt Ideal) ℓ)

abbrev aW (c : Dev nD) : FVec Ideal S2048x704 .f32 := m ((c : Thread nD τ).loc main_arg0)
abbrev aM (c : Dev nD) : FVec Ideal S2048x704 .f32 := m ((c : Thread nD τ).loc main_arg1)
abbrev aV (c : Dev nD) : FVec Ideal S2048x704 .f32 := m ((c : Thread nD τ).loc main_arg2)
abbrev aC (c : Dev nD) : FVec Ideal S8x2048x704 .bf16 := m ((c : Thread nD τ).loc main_arg3)

/-- Where a grid point's entry lies in the arrays, and what the point is handed of them. -/
abbrev spot (t : Fin cfg0.N) (y : S256x704.Idx) : S2048x704.Idx :=
  ix2 (⟨t.val * 256 + (y 0).val, by have ht : t.val < 8 := t.isLt; have hy : (y 0).val < 256 := (y 0).isLt; omega⟩ : Fin 2048) (y 1)
theorem bW_at (c : Dev nD) (t : Fin cfg0.N) (y : S256x704.Idx) : (iblk m c 0 t : FVec Ideal S256x704 .f32) y = aW m c (spot t y) := by
  blk_ext [iblk, V, place t, spot]
theorem bM_at (c : Dev nD) (t : Fin cfg0.N) (y : S256x704.Idx) : (iblk m c 1 t : FVec Ideal S256x704 .f32) y = aM m c (spot t y) := by
  blk_ext [iblk, V, place t, spot]
theorem bV_at (c : Dev nD) (t : Fin cfg0.N) (y : S256x704.Idx) : (iblk m c 2 t : FVec Ideal S256x704 .f32) y = aV m c (spot t y) := by
  blk_ext [iblk, V, place t, spot]
theorem sum_at (c : Dev nD) (t : Fin cfg0.N) (y : S256x704.Idx) :
    k0_pay5 (F := Ideal) (iblk m c 0 t) (iblk m c 1 t) (iblk m c 2 t) (iblk m c 3 t) y = total (aC m c) (spot t y) := by
  refine (pay5_at _ _ _ _ y).trans (Eq.trans ?_ (total_at (aC m c) (spot t y)).symm)
  refine Finset.sum_congr rfl fun s _ => ?_
  show (iblk m c 3 t : FVec Ideal S8x256x704 .bf16) (ix3 s (y 0) (y 1)) = aC m c _
  blk_ext [iblk, V, place t, spot]

/-! The arrays that the kernel leaves are the reference's. -/

theorem final_4 (c : Dev nD) : (dats m 0 c).arrAt 4 (cfgs 0).N = total (aC m c) := by
  refine (dats m 0 c).arrAt_eq_of_covers 4 _ (by decide +kernel) fun t _ y => ?_
  blk_simp
  rw [after0_4]
  frame_out
  refine (sum_at m c t y).trans ?_
  blk_ext [place t, spot]
theorem final_5 (c : Dev nD) : (dats m 0 c).arrAt 5 (cfgs 0).N = step S2048x704 spreads (aW m c) (aM m c) (aV m c) (total (aC m c)) := by
  refine (dats m 0 c).arrAt_eq_of_covers 5 _ (by decide +kernel) fun t _ y => ?_
  blk_simp
  rw [after0_5]
  frame_out
  refine (pay3_at _ _ _ _ y).trans ?_
  rw [bW_at, bM_at, bV_at, sum_at]
  refine (step_at S2048x704 spreads (aW m c) (aM m c) (aV m c) (total (aC m c)) (spot t y)).symm.trans ?_
  blk_ext [place t, spot]
theorem final_6 (c : Dev nD) : (dats m 0 c).arrAt 6 (cfgs 0).N = first S2048x704 spreads (aM m c) (total (aC m c)) := by
  refine (dats m 0 c).arrAt_eq_of_covers 6 _ (by decide +kernel) fun t _ y => ?_
  blk_simp
  rw [after0_6]
  frame_out
  refine (pay1_at _ _ y).trans ?_
  rw [bM_at, sum_at]
  refine (first_at S2048x704 spreads (aM m c) (total (aC m c)) (spot t y)).symm.trans ?_
  blk_ext [place t, spot]
theorem final_7 (c : Dev nD) : (dats m 0 c).arrAt 7 (cfgs 0).N = second S2048x704 spreads (aV m c) (total (aC m c)) := by
  refine (dats m 0 c).arrAt_eq_of_covers 7 _ (by decide +kernel) fun t _ y => ?_
  blk_simp
  rw [after0_7]
  frame_out
  refine (pay2_at _ _ y).trans ?_
  rw [bV_at, sum_at]
  refine (second_at S2048x704 spreads (aV m c) (total (aC m c)) (spot t y)).symm.trans ?_
  blk_ext [place t, spot]

end Cert.Kernel20Ideal.Hand

namespace Cert.Kernel21Ideal.Hand

open Cert.Kernel21Ideal Cert.Kernel21Ideal.Gen Cert.Kernel21Ideal.Value Cert.Adam
open Idealize.ShloMosaic

abbrev spreads := Cert.Reference21Ideal.Gen.bcast_S_S1x2048
/-- The gradient as a row. -/
abbrev flat (x : FVec Ideal S1x1x2048 .f32) : FVec Ideal S1x2048 .f32 := shapeCast S1x2048 x Cert.Reference21Ideal.Gen.shapeCasts_S1x1x2048_S1x2048

/-! The kernel's one grid point computes the reference's results. -/

section

variable (w m v : FVec Ideal S1x2048 .f32) (x : FVec Ideal S1x1x2048 .f32)

theorem all_4 : G4 (F := Ideal) w m v x = flat x := rfl
theorem all_5 : G5 (F := Ideal) w m v x = step S1x2048 spreads w m v (flat x) := rfl
theorem all_6 : G6 (F := Ideal) w m v x = first S1x2048 spreads m (flat x) := rfl
theorem all_7 : G7 (F := Ideal) w m v x = second S1x2048 spreads v (flat x) := rfl

end

end Cert.Kernel21Ideal.Hand

end
-- ==== Proof.FiniteGate.lean ====
module

public import proofs.«01_k».proof.Pre_finite2
public import proofs.«01_k».proof.Pre_finite6
public import proofs.«01_k».proof.Pre_finite13
public import proofs.«01_k».proof.Pre_finite18
public import proofs.«01_k».proof.Proof.Finite

/-!
  What the preconditions of the feed forward's gate, of the norm's gradients and of the loss say over the extended reals: the entries they speak of are
  real numbers.
-/

@[expose] public section

noncomputable section

open Idealize.ShloMosaic
open Cert.Pre_finite.Hand (real_of_bit)

theorem Cert.Pre_finite2.Hand.and_both : ∀ a b : BitVec 1, a &&& b = 1#1 → a = 1#1 ∧ b = 1#1 := by decide

namespace Cert.Pre_finite2.Hand

open Cert.Pre_finite2

instance : Subsingleton S_.Idx := ⟨fun a b => funext fun d => d.elim0⟩

variable [Facts] (h : FVec Ideal S8320x2048 .f32) (g u : FVec Ideal S8x2048x704 .bf16) (w : FVec Ideal S8x704x2048 .bf16) (d : FVec Ideal S8320x2048 .f32)
  (e : fn (F := Ideal) h g u w d = fun _ => 1#1)

include e in
theorem real : (∀ i, (h i : EReal) = ((h i : EReal).toReal : EReal)) ∧ (∀ i, (d i : EReal) = ((d i : EReal).toReal : EReal))
    ∧ (∀ i, (u i : EReal) = ((u i : EReal).toReal : EReal)) ∧ (∀ i, (w i : EReal) = ((w i : EReal).toReal : EReal)) := by
  have e0 := congrFun e (fun a => a.elim0)
  obtain ⟨e1, ew⟩ := and_both _ _ e0
  obtain ⟨e2, eu⟩ := and_both _ _ e1
  obtain ⟨eh, ed⟩ := and_both _ _ e2
  exact ⟨fun i => real_of_bit (h i) (Host.reduce_andi_all _ _ _ _ _ eh i), fun i => real_of_bit (d i) (Host.reduce_andi_all _ _ _ _ _ ed i),
    fun i => real_of_bit (u i) (Host.reduce_andi_all _ _ _ _ _ eu i), fun i => real_of_bit (w i) (Host.reduce_andi_all _ _ _ _ _ ew i)⟩

end Cert.Pre_finite2.Hand

namespace Cert.Pre_finite6.Hand

open Cert.Pre_finite6

instance : Subsingleton S_.Idx := ⟨fun a b => funext fun d => d.elim0⟩

variable [Facts] (h : FVec Ideal S8320x2048 .f32) (g u : FVec Ideal S8x2048x704 .bf16) (e : fn (F := Ideal) h g u = fun _ => 1#1)

include e in
theorem real : (∀ i, (h i : EReal) = ((h i : EReal).toReal : EReal)) ∧ (∀ i, (u i : EReal) = ((u i : EReal).toReal : EReal)) := by
  have e0 := congrFun e (fun a => a.elim0)
  obtain ⟨eh, eu⟩ := Cert.Pre_finite2.Hand.and_both _ _ e0
  exact ⟨fun i => real_of_bit (h i) (Host.reduce_andi_all _ _ _ _ _ eh i), fun i => real_of_bit (u i) (Host.reduce_andi_all _ _ _ _ _ eu i)⟩

end Cert.Pre_finite6.Hand

namespace Cert.Pre_finite13.Hand

open Cert.Pre_finite13

instance : Subsingleton S_.Idx := ⟨fun a b => funext fun d => d.elim0⟩

variable [Facts] (r : FVec Ideal S8320x2048 .f32) (g : FVec Ideal S1x2048 .f32) (d : FVec Ideal S8320x2048 .f32) (e : fn (F := Ideal) r g d = fun _ => 1#1)

include e in
theorem real : (∀ i, (g i : EReal) = ((g i : EReal).toReal : EReal)) ∧ (∀ i, (d i : EReal) = ((d i : EReal).toReal : EReal)) := by
  have e0 := congrFun e (fun a => a.elim0)
  obtain ⟨eg, ed⟩ := Cert.Pre_finite2.Hand.and_both _ _ e0
  exact ⟨fun i => real_of_bit (g i) (Host.reduce_andi_all _ _ _ _ _ eg i), fun i => real_of_bit (d i) (Host.reduce_andi_all _ _ _ _ _ ed i)⟩

end Cert.Pre_finite13.Hand

namespace Cert.Pre_finite18.Hand

open Cert.Pre_finite18

instance : Subsingleton S_.Idx := ⟨fun a b => funext fun d => d.elim0⟩

variable [Facts] (r : FVec Ideal S8320x2048 .f32) (g b : FVec Ideal S1x2048 .f32) (t : FVec Ideal S8192x2048 .f32) (e : fn (F := Ideal) r g b t = fun _ => 1#1)

include e in
theorem real : (∀ i, (g i : EReal) = ((g i : EReal).toReal : EReal)) ∧ (∀ i, (b i : EReal) = ((b i : EReal).toReal : EReal)) ∧ (∀ i, (t i : EReal) = ((t i : EReal).toReal : EReal)) := by
  have e0 := congrFun e (fun a => a.elim0)
  obtain ⟨e1, et⟩ := Cert.Pre_finite2.Hand.and_both _ _ e0
  obtain ⟨eg, eb⟩ := Cert.Pre_finite2.Hand.and_both _ _ e1
  exact ⟨fun i => real_of_bit (g i) (Host.reduce_andi_all _ _ _ _ _ eg i), fun i => real_of_bit (b i) (Host.reduce_andi_all _ _ _ _ _ eb i),
    fun i => real_of_bit (t i) (Host.reduce_andi_all _ _ _ _ _ et i)⟩

end Cert.Pre_finite18.Hand

end
-- ==== Proof.lean ====
/- The proof of the claims of Defs.lean: the frames of each kernel, of its idealized text and of its reference, and the equality of their results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite2
public import proofs.«01_k».proof.Proof.Gen.Pre_finite6
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Run
public import proofs.«01_k».proof.Proof.Results
public import proofs.«01_k».proof.Proof.Finite
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Pre_finite13
public import proofs.«01_k».proof.Proof.Gen.Pre_finite18
public import proofs.«01_k».proof.Proof.GradProduct
public import proofs.«01_k».proof.Proof.GradDown
public import proofs.«01_k».proof.Proof.GradGate
public import proofs.«01_k».proof.Proof.GradInput
public import proofs.«01_k».proof.Proof.Gates
public import proofs.«01_k».proof.Proof.GradInProj
public import proofs.«01_k».proof.Proof.GradMixerInput
public import proofs.«01_k».proof.Proof.GradMerge
public import proofs.«01_k».proof.Proof.GradProj
public import proofs.«01_k».proof.Proof.GradOut
public import proofs.«01_k».proof.Proof.GradMixer
public import proofs.«01_k».proof.Proof.GradNorm
public import proofs.«01_k».proof.Proof.InProj
public import proofs.«01_k».proof.Proof.Merge
public import proofs.«01_k».proof.Proof.DownProj
public import proofs.«01_k».proof.Proof.OutProj
public import proofs.«01_k».proof.Proof.Loss
public import proofs.«01_k».proof.Proof.SecondNormGrad
public import proofs.«01_k».proof.Proof.Adam
public import proofs.«01_k».proof.Proof.FiniteGate
public import Idealize.ShloMosaic.Adequacy
public import Idealize.ShloMosaic.Init

@[expose] public section

noncomputable section

namespace Cert.Proof

open Idealize.ShloMosaic Idealize.SL.Sem Idealize.ShloMosaic.Tactic Cert.Kernel

/-- The frame of the idealized program at bit patterns. -/
def frameAtBits : Prop :=
  ∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩
      (fun r => (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)

/-- The kernel and its idealized program have the same text. -/
theorem frameAtBits_eq : Cert.quiescent_Kernel = frameAtBits := by sl_kernel_rfl

/-- The kernel terminates, changes no argument and leaves every semaphore at zero, over bit patterns: the run of the
    idealized program at bit patterns. -/
theorem frame_kernel : Cert.quiescent_Kernel :=
  frameAtBits_eq.mpr fun m ρ _ => Cert.KernelIdeal.Hand.frame_any (F := Bits) m ρ

/-- The same over the extended reals. -/
theorem frame_kernelIdeal : Cert.quiescent_KernelIdeal := fun m ρ _ => Cert.KernelIdeal.Hand.frame_any (F := Ideal) m ρ

/-- The reference terminates and changes no argument, over the extended reals; it has no semaphore. -/
theorem frame_referenceIdeal : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The arguments as real numbers, by row and column. -/
def realA (x : (⟨Cert.KernelIdeal.S8320x11264, .bf16⟩ : BufTy).Contents (Elt Ideal)) (r s : ℕ) : ℝ :=
  if h : r < 8320 ∧ s < 11264 then (x (ValueIdx.ix2 (⟨r, h.1⟩ : Fin 8320) (⟨s, h.2⟩ : Fin 11264)) : EReal).toReal else 0
def realB (x : (⟨Cert.KernelIdeal.S8320x1024, .f32⟩ : BufTy).Contents (Elt Ideal)) (r s : ℕ) : ℝ :=
  if h : r < 8320 ∧ s < 1024 then (x (ValueIdx.ix2 (⟨r, h.1⟩ : Fin 8320) (⟨s, h.2⟩ : Fin 1024)) : EReal).toReal else 0

theorem realA_eq (x : (⟨Cert.KernelIdeal.S8320x11264, .bf16⟩ : BufTy).Contents (Elt Ideal)) (i : Cert.KernelIdeal.S8320x11264.Idx) :
    realA x (i 0).val (i 1).val = (x i : EReal).toReal := by
  refine (dif_pos ⟨(i 0).isLt, (i 1).isLt⟩).trans ?_
  exact congrArg (fun k => (x k : EReal).toReal) (Cert.KernelIdeal.Hand.eq2 i).symm

theorem realB_eq (x : (⟨Cert.KernelIdeal.S8320x1024, .f32⟩ : BufTy).Contents (Elt Ideal)) (i : Cert.KernelIdeal.S8320x1024.Idx) :
    realB x (i 0).val (i 1).val = (x i : EReal).toReal := by
  refine (dif_pos ⟨(i 0).isLt, (i 1).isLt⟩).trans ?_
  exact congrArg (fun k => (x k : EReal).toReal) (Cert.KernelIdeal.Hand.eq2 i).symm

/-- The kernel and the reference end with equal results. -/
theorem same_results : @Cert.algebraic_KernelIdeal_ReferenceIdeal_pre_finite Cert.KernelIdeal.Gen.facts Cert.ReferenceIdeal.Gen.facts Cert.Pre_finite.Gen.facts := by
  intro m g m' g' hpre hsame
  have hA : ∀ (c : Dev Cert.KernelIdeal.nD) (i : Cert.KernelIdeal.S8320x11264.Idx), 4096 ≤ (i 1).val → (i 1).val < 7168 →
      (Cert.KernelIdeal.Hand.argA m c i : EReal) = (realA (Cert.KernelIdeal.Hand.argA m c) (i 0).val (i 1).val : ℝ) := fun c i h0 h1 =>
    (Cert.Pre_finite.Hand.real0 _ _ (hpre c) i h0 h1).trans (congrArg _ (realA_eq (Cert.KernelIdeal.Hand.argA m c) i).symm)
  have hB : ∀ (c : Dev Cert.KernelIdeal.nD) (i : Cert.KernelIdeal.S8320x1024.Idx),
      (Cert.KernelIdeal.Hand.argB m c i : EReal) = (realB (Cert.KernelIdeal.Hand.argB m c) (i 0).val (i 1).val : ℝ) := fun c i =>
    (Cert.Pre_finite.Hand.real1 _ _ (hpre c) i).trans (congrArg _ (realB_eq (Cert.KernelIdeal.Hand.argB m c) i).symm)
  refine ⟨fun c => Cert.KernelIdeal.Hand.resQ (realA (Cert.KernelIdeal.Hand.argA m c)) (realB (Cert.KernelIdeal.Hand.argB m c)),
    fun c => Cert.KernelIdeal.Hand.resK (realA (Cert.KernelIdeal.Hand.argA m c)) (realB (Cert.KernelIdeal.Hand.argB m c)),
    fun c => Cert.KernelIdeal.Hand.resV (realA (Cert.KernelIdeal.Hand.argA m c)) (realB (Cert.KernelIdeal.Hand.argB m c)), ?_, ?_⟩
  · refine (θ_run Cert.KernelIdeal.defs _ _).mono (fun r h c => ?_) (Cert.KernelIdeal.Hand.run_main (F := Ideal) m g)
    have q := ((h.1 c).1 6).trans (Cert.KernelIdeal.Hand.final_q m c _ _ (hA c) (hB c))
    have k := ((h.1 c).1 7).trans (Cert.KernelIdeal.Hand.final_k m c _ _ (hA c) (hB c))
    have v := ((h.1 c).1 8).trans (Cert.KernelIdeal.Hand.final_v m c _ _ (hA c) (hB c))
    refine ⟨q, k, v, ?_, ?_⟩
    · exact ((h.1 c).1 2).trans (((Cert.KernelIdeal.Hand.dats m 0 c).arrAt_in 2 rfl _).trans ((Cert.KernelIdeal.Hand.A_eq m c 2).trans (Cert.KernelIdeal.Gen.V_main_arg0 m c)))
    · exact ((h.1 c).1 3).trans (((Cert.KernelIdeal.Hand.dats m 0 c).arrAt_in 3 rfl _).trans ((Cert.KernelIdeal.Hand.A_eq m c 3).trans (Cert.KernelIdeal.Gen.V_main_arg1 m c)))
  · refine (θ_run Cert.ReferenceIdeal.defs _ _).mono (fun r h c => ?_) (Cert.ReferenceIdeal.Value.run (F := Ideal) m' g')
    obtain ⟨e0, e1⟩ := hsame c
    obtain ⟨q, k, v, a0, a1⟩ := h c
    refine ⟨q.trans ((Cert.ReferenceIdeal.Read.val_main_v65_eq (fun b => m' (c, b))).trans ((congrArg₂ (Cert.ReferenceIdeal.Read.val_main_v65 (F := Ideal)) e0 e1).trans (funext fun i => ?_))),
      k.trans ((Cert.ReferenceIdeal.Read.val_main_v66_eq (fun b => m' (c, b))).trans ((congrArg₂ (Cert.ReferenceIdeal.Read.val_main_v66 (F := Ideal)) e0 e1).trans (funext fun i => ?_))),
      v.trans ((Cert.ReferenceIdeal.Read.val_main_v67_eq (fun b => m' (c, b))).trans ((congrArg₂ (Cert.ReferenceIdeal.Read.val_main_v67 (F := Ideal)) e0 e1).trans (funext fun i => ?_))), a0, a1⟩
    · exact Cert.ReferenceIdeal.Hand.ref_dq _ _ _ _ (hA c) (hB c) i
    · exact Cert.ReferenceIdeal.Hand.ref_dk _ _ _ _ (hA c) (hB c) i
    · exact Cert.ReferenceIdeal.Hand.ref_dv _ _ _ _ (hA c) (hB c) i

/-- Kernel2, the products of the incoming gradient with w_down, times the saved factors: it terminates, changes no argument and leaves every semaphore at zero, over bit patterns and over the extended reals; so does its reference. -/
theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2Ideal : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- Kernel2 and its reference end with equal results. -/
theorem same_results2 : @Cert.algebraic_Kernel2Ideal_Reference2Ideal_pre_finite2 Cert.Kernel2Ideal.Gen.facts Cert.Reference2Ideal.Gen.facts Cert.Pre_finite2.Gen.facts := by
  intro m g m' g' hpre hsame
  refine ⟨fun c => Cert.Kernel2Ideal.Hand.resA (Cert.Kernel2Ideal.Hand.aH m c) (Cert.Kernel2Ideal.Hand.aG m c) (Cert.Kernel2Ideal.Hand.aU m c) (Cert.Kernel2Ideal.Hand.aW m c) (Cert.Kernel2Ideal.Hand.aD m c),
    fun c => Cert.Kernel2Ideal.Hand.resB (Cert.Kernel2Ideal.Hand.aH m c) (Cert.Kernel2Ideal.Hand.aG m c) (Cert.Kernel2Ideal.Hand.aW m c) (Cert.Kernel2Ideal.Hand.aD m c), ?_, ?_⟩
  · refine (θ_run Cert.Kernel2Ideal.defs _ _).mono (fun r h c => ?_) (Cert.Kernel2Ideal.Value.run_blocks (F := Ideal) m g)
    obtain ⟨hh, hd, hu, hw⟩ := Cert.Pre_finite2.Hand.real _ _ _ _ _ (hpre c)
    exact ⟨(h c).1.trans (Cert.Kernel2Ideal.Hand.final_a m c hh hu hw hd), (h c).2.1.trans (Cert.Kernel2Ideal.Hand.final_b m c), (h c).2.2⟩
  · refine (θ_run Cert.Reference2Ideal.defs _ _).mono (fun r h c => ⟨(h c).1.trans ?_, (h c).2.1.trans ?_, (h c).2.2⟩) (Cert.Reference2Ideal.Value.run (F := Ideal) m' g')
    all_goals
      obtain ⟨e0, e1, e2, e3, e4⟩ := hsame c
      simp only [e0, e1, e2, e3, e4]

/-- Kernel3, the gradient of w_down: it terminates, changes no argument and leaves every semaphore at zero, over bit patterns and over the extended reals; so does its reference. -/
theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3Ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Kernel3 and its reference end with equal results. -/
theorem same_results3 : @Cert.algebraic_Kernel3Ideal_Reference3Ideal Cert.Kernel3Ideal.Gen.facts Cert.Reference3Ideal.Gen.facts := by
  intro m g m' g' _ hsame
  refine ⟨fun c => Cert.Kernel3Ideal.Hand.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run Cert.Kernel3Ideal.defs _ _).mono (fun r h c => ⟨((h c).1).trans (Cert.Kernel3Ideal.Hand.final m c), (h c).2⟩) (Cert.Kernel3Ideal.Value.run_blocks (F := Ideal) m g)
  · refine (θ_run Cert.Reference3Ideal.defs _ _).mono (fun r h c => ⟨((h c).1).trans ?_, (h c).2⟩) (Cert.Reference3Ideal.Value.run (F := Ideal) m' g')
    obtain ⟨e0, e1⟩ := hsame c
    rw [e0, e1]

/-- Kernel4, the gradient of w_gate: it terminates, changes no argument and leaves every semaphore at zero, over bit patterns and over the extended reals; so does its reference. -/
theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_reference4Ideal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- Kernel4 and its reference end with equal results. -/
theorem same_results4 : @Cert.algebraic_Kernel4Ideal_Reference4Ideal Cert.Kernel4Ideal.Gen.facts Cert.Reference4Ideal.Gen.facts := by
  intro m g m' g' _ hsame
  refine ⟨fun c => Cert.Kernel4Ideal.Hand.grad (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run Cert.Kernel4Ideal.defs _ _).mono (fun r h c => ⟨((h c).1).trans (Cert.Kernel4Ideal.Hand.final m c), (h c).2⟩) (Cert.Kernel4Ideal.Value.run_blocks (F := Ideal) m g)
  · refine (θ_run Cert.Reference4Ideal.defs _ _).mono (fun r h c => ⟨((h c).1).trans ?_, (h c).2⟩) (Cert.Reference4Ideal.Value.run (F := Ideal) m' g')
    obtain ⟨e0, e1⟩ := hsame c
    rw [e0, e1]

/-- Kernel5, the gradient of the feed forward's input: it terminates, changes no argument and leaves every semaphore at zero, over bit patterns and over the extended reals; so does its reference. -/
theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_reference5Ideal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- Kernel5 and its reference end with equal results. -/
theorem same_results5 : @Cert.algebraic_Kernel5Ideal_Reference5Ideal Cert.Kernel5Ideal.Gen.facts Cert.Reference5Ideal.Gen.facts := by
  intro m g m' g' _ hsame
  refine ⟨fun c => Cert.Kernel5Ideal.Hand.grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), ?_, ?_⟩
  · exact (θ_run Cert.Kernel5Ideal.defs _ _).mono (fun r h c => ⟨((h c).1).trans (Cert.Kernel5Ideal.Hand.final m c), (h c).2⟩) (Cert.Kernel5Ideal.Value.run_blocks (F := Ideal) m g)
  · refine (θ_run Cert.Reference5Ideal.defs _ _).mono (fun r h c => ⟨((h c).1).trans ?_, (h c).2⟩) (Cert.Reference5Ideal.Value.run (F := Ideal) m' g')
    obtain ⟨e0, e1, e2, e3, e4⟩ := hsame c
    rw [e0, e1, e2, e3, e4]

/-- Kernel6, the two gates and the product: it terminates, changes no argument and leaves every semaphore at zero, over bit patterns and over the extended reals; so does its reference. -/
theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_reference6Ideal : Cert.quiescent_Reference6Ideal := fun m ρ _ =>
  (θ_run Cert.Reference6Ideal.defs _ _).mono (fun r h => ⟨fun c => (h c).2.2.2, Idealize.ShloMosaic.sem_eq_zero_of_no_sems (by decide) r.2⟩)
    (Cert.Reference6Ideal.Value.run (F := Ideal) m ρ)

/-- Kernel6 and its reference end with equal results. -/
theorem same_results6 : @Cert.algebraic_Kernel6Ideal_Reference6Ideal_pre_finite6 Cert.Kernel6Ideal.Gen.facts Cert.Reference6Ideal.Gen.facts Cert.Pre_finite6.Gen.facts := by
  intro m g m' g' hpre hsame
  refine ⟨fun c => Cert.Kernel6Ideal.Hand.resA (Cert.Kernel6Ideal.Hand.aH m c) (Cert.Kernel6Ideal.Hand.aG m c) (Cert.Kernel6Ideal.Hand.aU m c),
    fun c => Cert.Kernel6Ideal.Hand.resB (Cert.Kernel6Ideal.Hand.aH m c) (Cert.Kernel6Ideal.Hand.aG m c) (Cert.Kernel6Ideal.Hand.aU m c),
    fun c => Cert.Kernel6Ideal.Hand.resS (Cert.Kernel6Ideal.Hand.aH m c) (Cert.Kernel6Ideal.Hand.aG m c) (Cert.Kernel6Ideal.Hand.aU m c), ?_, ?_⟩
  · refine (θ_run Cert.Kernel6Ideal.defs _ _).mono (fun r h c => ?_) (Cert.Kernel6Ideal.Value.run_blocks (F := Ideal) m g)
    obtain ⟨hh, hu⟩ := Cert.Pre_finite6.Hand.real _ _ _ (hpre c)
    exact ⟨(h c).1.trans (Cert.Kernel6Ideal.Hand.final_a m c hh hu), (h c).2.1.trans (Cert.Kernel6Ideal.Hand.final_b m c), (h c).2.2.1.trans (Cert.Kernel6Ideal.Hand.final_s m c), (h c).2.2.2⟩
  · refine (θ_run Cert.Reference6Ideal.defs _ _).mono (fun r h c => ⟨(h c).1.trans ?_, (h c).2.1.trans ?_, (h c).2.2.1.trans ?_, (h c).2.2.2⟩) (Cert.Reference6Ideal.Value.run (F := Ideal) m' g')
    all_goals
      obtain ⟨e0, e1, e2⟩ := hsame c
      simp only [e0, e1, e2]

/-- Kernel7, the gradient of w_in: it terminates, changes no argument and leaves every semaphore at zero, over bit patterns and over the extended reals; so does its reference. -/
theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_reference7Ideal : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- Kernel7 and its reference end with equal results. -/
theorem same_results7 : @Cert.algebraic_Kernel7Ideal_Reference7Ideal Cert.Kernel7Ideal.Gen.facts Cert.Reference7Ideal.Gen.facts := by
  intro m g m' g' _ hsame
  refine ⟨fun c => Cert.Reference7Ideal.Hand.grad (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · exact (θ_run Cert.Kernel7Ideal.defs _ _).mono (fun r h c => ⟨((h c).1).trans (Cert.Kernel7Ideal.Hand.final m c), (h c).2⟩) (Cert.Kernel7Ideal.Value.run_blocks (F := Ideal) m g)
  · refine (θ_run Cert.Reference7Ideal.defs _ _).mono (fun r h c => ⟨((h c).1).trans ?_, (h c).2⟩) (Cert.Reference7Ideal.Value.run (F := Ideal) m' g')
    obtain ⟨e0, e1⟩ := hsame c
    rw [e0, e1]

/-- Kernel8, the gradient of the mixer's input: it terminates, changes no argument and leaves every semaphore at zero, over bit patterns and over the extended reals; so does its reference. -/
theorem frame_kernel8 : Cert.quiescent_Kernel8 := fun m ρ _ => Cert.Kernel8.Gen.frame m ρ
theorem frame_kernel8Ideal : Cert.quiescent_Kernel8Ideal := fun m ρ _ => Cert.Kernel8Ideal.Gen.frame m ρ
theorem frame_reference8Ideal : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- Kernel8 and its reference end with equal results. -/
theorem same_results8 : @Cert.algebraic_Kernel8Ideal_Reference8Ideal Cert.Kernel8Ideal.Gen.facts Cert.Reference8Ideal.Gen.facts := by
  intro m g m' g' _ hsame
  refine ⟨fun c => Cert.Reference8Ideal.Hand.grad (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), ?_, ?_⟩
  · exact (θ_run Cert.Kernel8Ideal.defs _ _).mono (fun r h c => ⟨((h c).1).trans (Cert.Kernel8Ideal.Hand.final m c), (h c).2⟩) (Cert.Kernel8Ideal.Value.run_blocks (F := Ideal) m g)
  · refine (θ_run Cert.Reference8Ideal.defs _ _).mono (fun r h c => ⟨((h c).1).trans ?_, (h c).2⟩) (Cert.Reference8Ideal.Value.run (F := Ideal) m' g')
    obtain ⟨e0, e1, e2⟩ := hsame c
    rw [e0, e1, e2]

/-- Kernel9, the gradients of the merged products and of their gates: it terminates, changes no argument and leaves every semaphore at zero, over bit patterns and over the extended reals; so does its reference. -/
theorem frame_kernel9 : Cert.quiescent_Kernel9 := fun m ρ _ => Cert.Kernel9.Gen.frame m ρ
theorem frame_kernel9Ideal : Cert.quiescent_Kernel9Ideal := fun m ρ _ => Cert.Kernel9Ideal.Gen.frame m ρ
theorem frame_reference9Ideal : Cert.quiescent_Reference9Ideal := fun m ρ _ =>
  (θ_run Cert.Reference9Ideal.defs _ _).mono (fun r h => ⟨fun c => (h c).2.2.2.2.2.2, Idealize.ShloMosaic.sem_eq_zero_of_no_sems (by decide) r.2⟩)
    (Cert.Reference9Ideal.Value.run (F := Ideal) m ρ)

/-- Kernel9 and its reference end with equal results. -/
theorem same_results9 : @Cert.algebraic_Kernel9Ideal_Reference9Ideal Cert.Kernel9Ideal.Gen.facts Cert.Reference9Ideal.Gen.facts := by
  intro m g m' g' _ hsame
  refine ⟨fun c => Cert.Reference9Ideal.Hand.left (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)), fun c => Cert.Reference9Ideal.Hand.right (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)), fun c => Cert.Reference9Ideal.Hand.leftGate (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)), fun c => Cert.Reference9Ideal.Hand.rightGate (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)), fun c => Cert.Reference9Ideal.Hand.leftBias (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)), fun c => Cert.Reference9Ideal.Hand.rightBias (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)), ?_, ?_⟩
  · exact (θ_run Cert.Kernel9Ideal.defs _ _).mono (fun r h c => ⟨((h c).1).trans (Cert.Kernel9Ideal.Hand.final_8 m c), ((h c).2.1).trans (Cert.Kernel9Ideal.Hand.final_9 m c), ((h c).2.2.1).trans (Cert.Kernel9Ideal.Hand.final_10 m c), ((h c).2.2.2.1).trans (Cert.Kernel9Ideal.Hand.final_11 m c), ((h c).2.2.2.2.1).trans (Cert.Kernel9Ideal.Hand.final_12 m c), ((h c).2.2.2.2.2.1).trans (Cert.Kernel9Ideal.Hand.final_13 m c), (h c).2.2.2.2.2.2⟩) (Cert.Kernel9Ideal.Value.run_blocks (F := Ideal) m g)
  · refine (θ_run Cert.Reference9Ideal.defs _ _).mono (fun r h c => ⟨((h c).1).trans ?_, ((h c).2.1).trans ?_, ((h c).2.2.1).trans ?_, ((h c).2.2.2.1).trans ?_, ((h c).2.2.2.2.1).trans ?_, ((h c).2.2.2.2.2.1).trans ?_, (h c).2.2.2.2.2.2⟩) (Cert.Reference9Ideal.Value.run (F := Ideal) m' g')
    all_goals
      obtain ⟨e0, e1, e2, e3, e4, e5⟩ := hsame c
      simp only [← e0, ← e1, ← e2, ← e3, ← e4, ← e5]

/-- Kernel10, the gradient of w_proj: it terminates, changes no argument and leaves every semaphore at zero, over bit patterns and over the extended reals; so does its reference. -/
theorem frame_kernel10 : Cert.quiescent_Kernel10 := fun m ρ _ => Cert.Kernel10.Gen.frame m ρ
theorem frame_kernel10Ideal : Cert.quiescent_Kernel10Ideal := fun m ρ _ => Cert.Kernel10Ideal.Gen.frame m ρ
theorem frame_reference10Ideal : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- Kernel10 and its reference end with equal results. -/
theorem same_results10 : @Cert.algebraic_Kernel10Ideal_Reference10Ideal Cert.Kernel10Ideal.Gen.facts Cert.Reference10Ideal.Gen.facts := by
  intro m g m' g' _ hsame
  refine ⟨fun c => Cert.Reference10Ideal.Hand.grad (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · exact (θ_run Cert.Kernel10Ideal.defs _ _).mono (fun r h c => ⟨((h c).1).trans (Cert.Kernel10Ideal.Hand.final m c), (h c).2⟩) (Cert.Kernel10Ideal.Value.run_blocks (F := Ideal) m g)
  · refine (θ_run Cert.Reference10Ideal.defs _ _).mono (fun r h c => ⟨((h c).1).trans ?_, (h c).2⟩) (Cert.Reference10Ideal.Value.run (F := Ideal) m' g')
    obtain ⟨e0, e1⟩ := hsame c
    rw [e0, e1]

/-- Kernel11, the gradient of w_out: it terminates, changes no argument and leaves every semaphore at zero, over bit patterns and over the extended reals; so does its reference. -/
theorem frame_kernel11 : Cert.quiescent_Kernel11 := fun m ρ _ => Cert.Kernel11.Gen.frame m ρ
theorem frame_kernel11Ideal : Cert.quiescent_Kernel11Ideal := fun m ρ _ => Cert.Kernel11Ideal.Gen.frame m ρ
theorem frame_reference11Ideal : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- Kernel11 and its reference end with equal results. -/
theorem same_results11 : @Cert.algebraic_Kernel11Ideal_Reference11Ideal Cert.Kernel11Ideal.Gen.facts Cert.Reference11Ideal.Gen.facts := by
  intro m g m' g' _ hsame
  refine ⟨fun c => Cert.Reference11Ideal.Hand.grad (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · exact (θ_run Cert.Kernel11Ideal.defs _ _).mono (fun r h c => ⟨((h c).1).trans (Cert.Kernel11Ideal.Hand.final m c), (h c).2⟩) (Cert.Kernel11Ideal.Value.run_blocks (F := Ideal) m g)
  · refine (θ_run Cert.Reference11Ideal.defs _ _).mono (fun r h c => ⟨((h c).1).trans ?_, (h c).2⟩) (Cert.Reference11Ideal.Value.run (F := Ideal) m' g')
    obtain ⟨e0, e1⟩ := hsame c
    rw [e0, e1]

/-- Kernel12, the gradient of a mixer's output: it terminates, changes no argument and leaves every semaphore at zero, over bit patterns and over the extended reals; so does its reference. -/
theorem frame_kernel12 : Cert.quiescent_Kernel12 := fun m ρ _ => Cert.Kernel12.Gen.frame m ρ
theorem frame_kernel12Ideal : Cert.quiescent_Kernel12Ideal := fun m ρ _ => Cert.Kernel12Ideal.Gen.frame m ρ
theorem frame_reference12Ideal : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- Kernel12 and its reference end with equal results. -/
theorem same_results12 : @Cert.algebraic_Kernel12Ideal_Reference12Ideal Cert.Kernel12Ideal.Gen.facts Cert.Reference12Ideal.Gen.facts := by
  intro m g m' g' _ hsame
  refine ⟨fun c => Cert.Reference12Ideal.Hand.grad (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · exact (θ_run Cert.Kernel12Ideal.defs _ _).mono (fun r h c => ⟨((h c).1).trans (Cert.Kernel12Ideal.Hand.final m c), (h c).2⟩) (Cert.Kernel12Ideal.Value.run_blocks (F := Ideal) m g)
  · refine (θ_run Cert.Reference12Ideal.defs _ _).mono (fun r h c => ⟨((h c).1).trans ?_, (h c).2⟩) (Cert.Reference12Ideal.Value.run (F := Ideal) m' g')
    obtain ⟨e0, e1⟩ := hsame c
    rw [e0, e1]

/-- Kernel13, the gradients of a norm: it terminates, changes no argument and leaves every semaphore at zero, over bit patterns and over the extended reals; so does its reference. -/
theorem frame_kernel13 : Cert.quiescent_Kernel13 := fun m ρ _ => Cert.Kernel13.Gen.frame m ρ
theorem frame_kernel13Ideal : Cert.quiescent_Kernel13Ideal := fun m ρ _ => Cert.Kernel13Ideal.Gen.frame m ρ
theorem frame_reference13Ideal : Cert.quiescent_Reference13Ideal := fun m ρ _ =>
  (θ_run Cert.Reference13Ideal.defs _ _).mono (fun r h => ⟨fun c => (h c).2.2.2.2, Idealize.ShloMosaic.sem_eq_zero_of_no_sems (by decide) r.2⟩)
    (Cert.Reference13Ideal.Value.run (F := Ideal) m ρ)

/-- Kernel13 and its reference end with equal results. -/
theorem same_results13 : @Cert.algebraic_Kernel13Ideal_Reference13Ideal_pre_finite13 Cert.Kernel13Ideal.Gen.facts Cert.Reference13Ideal.Gen.facts Cert.Pre_finite13.Gen.facts := by
  intro m g m' g' hpre hsame
  refine ⟨fun c => Cert.Reference13Ideal.Hand.input (Cert.Kernel13Ideal.Hand.aR m c) (Cert.Kernel13Ideal.Hand.aG m c) (Cert.Kernel13Ideal.Hand.aD m c),
    fun c => Cert.Reference13Ideal.Hand.short (Cert.Kernel13Ideal.Hand.aR m c) (Cert.Kernel13Ideal.Hand.aG m c) (Cert.Kernel13Ideal.Hand.aD m c),
    fun c => Cert.Reference13Ideal.Hand.gain (Cert.Kernel13Ideal.Hand.aR m c) (Cert.Kernel13Ideal.Hand.aD m c),
    fun c => Cert.Reference13Ideal.Hand.bias (Cert.Kernel13Ideal.Hand.aD m c), ?_, ?_⟩
  · refine (θ_run Cert.Kernel13Ideal.defs _ _).mono (fun r h c => ?_) (Cert.Kernel13Ideal.Value.run_blocks (F := Ideal) m g)
    obtain ⟨hg, hd⟩ := Cert.Pre_finite13.Hand.real _ _ _ (hpre c)
    exact ⟨(h c).1.trans (Cert.Kernel13Ideal.Hand.final_3 m c hg hd), (h c).2.1.trans (Cert.Kernel13Ideal.Hand.final_4 m c hg hd), (h c).2.2.1.trans (Cert.Kernel13Ideal.Hand.final_5 m c),
      (h c).2.2.2.1.trans (Cert.Kernel13Ideal.Hand.final_6 m c), (h c).2.2.2.2⟩
  · refine (θ_run Cert.Reference13Ideal.defs _ _).mono (fun r h c => ⟨(h c).1.trans ?_, (h c).2.1.trans ?_, (h c).2.2.1.trans ?_, (h c).2.2.2.1.trans ?_, (h c).2.2.2.2⟩) (Cert.Reference13Ideal.Value.run (F := Ideal) m' g')
    all_goals
      obtain ⟨e0, e1, e2⟩ := hsame c
      simp only [Cert.Reference13Ideal.Value.res_main_v59, Cert.Reference13Ideal.Value.res_main_v62, e0, e1, e2] <;> rfl

/-- Kernel14, the projections: it terminates, changes no argument and leaves every semaphore at zero, over bit patterns and over the extended reals; so does its reference. -/
theorem frame_kernel14 : Cert.quiescent_Kernel14 := fun m ρ _ => Cert.Kernel14.Gen.frame m ρ
theorem frame_kernel14Ideal : Cert.quiescent_Kernel14Ideal := fun m ρ _ => Cert.Kernel14Ideal.Gen.frame m ρ
theorem frame_reference14Ideal : Cert.quiescent_Reference14Ideal := fun m ρ _ =>
  (θ_run Cert.Reference14Ideal.defs _ _).mono (fun r h => ⟨fun c => (h c).2.2, Idealize.ShloMosaic.sem_eq_zero_of_no_sems (by decide) r.2⟩)
    (Cert.Reference14Ideal.Value.run (F := Ideal) m ρ)

/-- Kernel14 and its reference end with equal results. -/
theorem same_results14 : @Cert.algebraic_Kernel14Ideal_Reference14Ideal Cert.Kernel14Ideal.Gen.facts Cert.Reference14Ideal.Gen.facts := by
  intro m g m' g' _ hsame
  refine ⟨fun c => Cert.Reference14Ideal.Hand.rows (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), fun c => Cert.Reference14Ideal.Hand.short (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · exact (θ_run Cert.Kernel14Ideal.defs _ _).mono (fun r h c => ⟨((h c).1).trans (Cert.Kernel14Ideal.Hand.final_rows m c), ((h c).2.1).trans (Cert.Kernel14Ideal.Hand.final_short m c), (h c).2.2⟩) (Cert.Kernel14Ideal.Value.run_blocks (F := Ideal) m g)
  · refine (θ_run Cert.Reference14Ideal.defs _ _).mono (fun r h c => ⟨((h c).1).trans ?_, ((h c).2.1).trans ?_, (h c).2.2⟩) (Cert.Reference14Ideal.Value.run (F := Ideal) m' g')
    all_goals
      obtain ⟨e0, e1⟩ := hsame c
      simp only [e0, e1]

/-- Kernel15, the two mixers' products and their merging: it terminates, changes no argument and leaves every semaphore at zero, over bit patterns and over the extended reals; so does its reference. -/
theorem frame_kernel15 : Cert.quiescent_Kernel15 := fun m ρ _ => Cert.Kernel15.Gen.frame m ρ
theorem frame_kernel15Ideal : Cert.quiescent_Kernel15Ideal := fun m ρ _ => Cert.Kernel15Ideal.Gen.frame m ρ
theorem frame_reference15Ideal : Cert.quiescent_Reference15Ideal := fun m ρ _ =>
  (θ_run Cert.Reference15Ideal.defs _ _).mono (fun r h => ⟨fun c => (h c).2.2.2, Idealize.ShloMosaic.sem_eq_zero_of_no_sems (by decide) r.2⟩)
    (Cert.Reference15Ideal.Value.run (F := Ideal) m ρ)

/-- Kernel15 and its reference end with equal results. -/
theorem same_results15 : @Cert.algebraic_Kernel15Ideal_Reference15Ideal Cert.Kernel15Ideal.Gen.facts Cert.Reference15Ideal.Gen.facts := by
  intro m g m' g' _ hsame
  refine ⟨fun c => Cert.Reference15Ideal.Hand.proj (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg2)), fun c => Cert.Reference15Ideal.Hand.proj (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg3)), fun c => Cert.Reference15Ideal.Hand.merged (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)), ?_, ?_⟩
  · exact (θ_run Cert.Kernel15Ideal.defs _ _).mono (fun r h c => ⟨((h c).1).trans (Cert.Kernel15Ideal.Hand.final_o m c), ((h c).2.1).trans (Cert.Kernel15Ideal.Hand.final_s m c), ((h c).2.2.1).trans (Cert.Kernel15Ideal.Hand.final_y m c), (h c).2.2.2⟩) (Cert.Kernel15Ideal.Value.run_blocks (F := Ideal) m g)
  · refine (θ_run Cert.Reference15Ideal.defs _ _).mono (fun r h c => ⟨((h c).1).trans ?_, ((h c).2.1).trans ?_, ((h c).2.2.1).trans ?_, (h c).2.2.2⟩) (Cert.Reference15Ideal.Value.run (F := Ideal) m' g')
    all_goals
      obtain ⟨e0, e1, e2, e3, e4, e5⟩ := hsame c
      simp only [e0, e1, e2, e3, e4, e5]

/-- Kernel16, the feed forward's end: it terminates, changes no argument and leaves every semaphore at zero, over bit patterns and over the extended reals; so does its reference. -/
theorem frame_kernel16 : Cert.quiescent_Kernel16 := fun m ρ _ => Cert.Kernel16.Gen.frame m ρ
theorem frame_kernel16Ideal : Cert.quiescent_Kernel16Ideal := fun m ρ _ => Cert.Kernel16Ideal.Gen.frame m ρ
theorem frame_reference16Ideal : Cert.quiescent_Reference16Ideal := fun m ρ _ =>
  (θ_run Cert.Reference16Ideal.defs _ _).mono (fun r h => ⟨fun c => (h c).2.2.2, Idealize.ShloMosaic.sem_eq_zero_of_no_sems (by decide) r.2⟩)
    (Cert.Reference16Ideal.Value.run (F := Ideal) m ρ)

/-- Kernel16 and its reference end with equal results. -/
theorem same_results16 : @Cert.algebraic_Kernel16Ideal_Reference16Ideal Cert.Kernel16Ideal.Gen.facts Cert.Reference16Ideal.Gen.facts := by
  intro m g m' g' _ hsame
  refine ⟨fun c => (Cert.Reference16Ideal.Hand.total (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))), fun c => Cert.Reference16Ideal.Hand.normed (Cert.Reference16Ideal.Hand.total (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)), fun c => truncf .bf16 (Cert.Reference16Ideal.Hand.normed (Cert.Reference16Ideal.Hand.total (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))) Cert.Reference16Ideal.Gen.bitsLt_bf16_f32, ?_, ?_⟩
  · exact (θ_run Cert.Kernel16Ideal.defs _ _).mono (fun r h c => ⟨((h c).1).trans (Cert.Kernel16Ideal.Hand.final_r m c), ((h c).2.1).trans (Cert.Kernel16Ideal.Hand.final_y m c), ((h c).2.2.1).trans (Cert.Kernel16Ideal.Hand.final_s m c), (h c).2.2.2⟩) (Cert.Kernel16Ideal.Value.run_blocks (F := Ideal) m g)
  · refine (θ_run Cert.Reference16Ideal.defs _ _).mono (fun r h c => ⟨((h c).1).trans ?_, ((h c).2.1).trans ?_, ((h c).2.2.1).trans ?_, (h c).2.2.2⟩) (Cert.Reference16Ideal.Value.run (F := Ideal) m' g')
    all_goals
      obtain ⟨e0, e1, e2, e3, e4⟩ := hsame c
      simp only [Cert.Reference16Ideal.Value.res_main_v32, Cert.Reference16Ideal.Value.res_main_v33, e0, e1, e2, e3, e4]

/-- Kernel17, the mixer's end: it terminates, changes no argument and leaves every semaphore at zero, over bit patterns and over the extended reals; so does its reference. -/
theorem frame_kernel17 : Cert.quiescent_Kernel17 := fun m ρ _ => Cert.Kernel17.Gen.frame m ρ
theorem frame_kernel17Ideal : Cert.quiescent_Kernel17Ideal := fun m ρ _ => Cert.Kernel17Ideal.Gen.frame m ρ
theorem frame_reference17Ideal : Cert.quiescent_Reference17Ideal := fun m ρ _ =>
  (θ_run Cert.Reference17Ideal.defs _ _).mono (fun r h => ⟨fun c => (h c).2.2.2, Idealize.ShloMosaic.sem_eq_zero_of_no_sems (by decide) r.2⟩)
    (Cert.Reference17Ideal.Value.run (F := Ideal) m ρ)

/-- Kernel17 and its reference end with equal results. -/
theorem same_results17 : @Cert.algebraic_Kernel17Ideal_Reference17Ideal Cert.Kernel17Ideal.Gen.facts Cert.Reference17Ideal.Gen.facts := by
  intro m g m' g' _ hsame
  refine ⟨fun c => (Cert.Reference17Ideal.Hand.total (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))), fun c => Cert.Reference17Ideal.Hand.normed (Cert.Reference17Ideal.Hand.total (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)), fun c => truncf .bf16 (Cert.Reference17Ideal.Hand.normed (Cert.Reference17Ideal.Hand.total (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))) Cert.Reference17Ideal.Gen.bitsLt_bf16_f32, ?_, ?_⟩
  · exact (θ_run Cert.Kernel17Ideal.defs _ _).mono (fun r h c => ⟨((h c).1).trans (Cert.Kernel17Ideal.Hand.final_r m c), ((h c).2.1).trans (Cert.Kernel17Ideal.Hand.final_y m c), ((h c).2.2.1).trans (Cert.Kernel17Ideal.Hand.final_s m c), (h c).2.2.2⟩) (Cert.Kernel17Ideal.Value.run_blocks (F := Ideal) m g)
  · refine (θ_run Cert.Reference17Ideal.defs _ _).mono (fun r h c => ⟨((h c).1).trans ?_, ((h c).2.1).trans ?_, ((h c).2.2.1).trans ?_, (h c).2.2.2⟩) (Cert.Reference17Ideal.Value.run (F := Ideal) m' g')
    all_goals
      obtain ⟨e0, e1, e2, e3, e4⟩ := hsame c
      simp only [e0, e1, e2, e3, e4]

/-- Kernel18, the loss and the gradients of the last norm: it terminates, changes no argument and leaves every semaphore at zero, over bit patterns and over the extended reals; so does its reference. -/
theorem frame_kernel18 : Cert.quiescent_Kernel18 := fun m ρ _ => Cert.Kernel18.Gen.frame m ρ
theorem frame_kernel18Ideal : Cert.quiescent_Kernel18Ideal := fun m ρ _ => Cert.Kernel18Ideal.Gen.frame m ρ
theorem frame_reference18Ideal : Cert.quiescent_Reference18Ideal := fun m ρ _ =>
  (θ_run Cert.Reference18Ideal.defs _ _).mono (fun r h => ⟨fun c => (h c).2.2.2.2.2, Idealize.ShloMosaic.sem_eq_zero_of_no_sems (by decide) r.2⟩)
    (Cert.Reference18Ideal.Value.run (F := Ideal) m ρ)

/-- Kernel18 and its reference end with equal results. -/
theorem same_results18 : @Cert.algebraic_Kernel18Ideal_Reference18Ideal_pre_finite18 Cert.Kernel18Ideal.Gen.facts Cert.Reference18Ideal.Gen.facts Cert.Pre_finite18.Gen.facts := by
  intro m g m' g' hpre hsame
  refine ⟨fun c => Cert.Reference18Ideal.Hand.input (Cert.Kernel18Ideal.Hand.aR m c) (Cert.Kernel18Ideal.Hand.aG m c) (Cert.Kernel18Ideal.Hand.aD m c),
    fun c => Cert.Reference18Ideal.Hand.short (Cert.Kernel18Ideal.Hand.aR m c) (Cert.Kernel18Ideal.Hand.aG m c) (Cert.Kernel18Ideal.Hand.aD m c),
    fun c => Cert.Reference18Ideal.Hand.gain (Cert.Kernel18Ideal.Hand.aR m c) (Cert.Kernel18Ideal.Hand.aD m c),
    fun c => Cert.Reference13Ideal.Hand.bias (Cert.Kernel18Ideal.Hand.aD m c),
    fun c => Cert.Reference18Ideal.Hand.loss (Cert.Kernel18Ideal.Hand.aX m c), ?_, ?_⟩
  · refine (θ_run Cert.Kernel18Ideal.defs _ _).mono (fun r h c => ?_) (Cert.Kernel18Ideal.Value.run_blocks (F := Ideal) m g)
    obtain ⟨hg, hb, ht⟩ := Cert.Pre_finite18.Hand.real _ _ _ _ (hpre c)
    exact ⟨(h c).1.trans (Cert.Kernel18Ideal.Hand.final_4 m c hg hb ht), (h c).2.1.trans (Cert.Kernel18Ideal.Hand.final_5 m c hg hb ht), (h c).2.2.1.trans (Cert.Kernel18Ideal.Hand.final_6 m c),
      (h c).2.2.2.1.trans (Cert.Kernel18Ideal.Hand.final_7 m c), (h c).2.2.2.2.1.trans (Cert.Kernel18Ideal.Hand.final_8 m c), (h c).2.2.2.2.2⟩
  · refine (θ_run Cert.Reference18Ideal.defs _ _).mono (fun r h c => ⟨(h c).1.trans ?_, (h c).2.1.trans ?_, (h c).2.2.1.trans ?_, (h c).2.2.2.1.trans ?_, (h c).2.2.2.2.1.trans ?_, (h c).2.2.2.2.2⟩) (Cert.Reference18Ideal.Value.run (F := Ideal) m' g')
    all_goals
      obtain ⟨e0, e1, e2, e3⟩ := hsame c
      simp only [Cert.Reference18Ideal.Value.res_main_v74, Cert.Reference18Ideal.Value.res_main_v77, Cert.Reference18Ideal.Value.res_main_v48, Cert.Reference18Ideal.Value.res_main_v78, e0, e1, e2, e3] <;> rfl

/-- Kernel19, the gradients of the norm after the mixers: it terminates, changes no argument and leaves every semaphore at zero, over bit patterns and over the extended reals; so does its reference. -/
theorem frame_kernel19 : Cert.quiescent_Kernel19 := fun m ρ _ => Cert.Kernel19.Gen.frame m ρ
theorem frame_kernel19Ideal : Cert.quiescent_Kernel19Ideal := fun m ρ _ => Cert.Kernel19Ideal.Gen.frame m ρ
theorem frame_reference19Ideal : Cert.quiescent_Reference19Ideal := fun m ρ _ =>
  (θ_run Cert.Reference19Ideal.defs _ _).mono (fun r h => ⟨fun c => (h c).2.2.2.2, Idealize.ShloMosaic.sem_eq_zero_of_no_sems (by decide) r.2⟩)
    (Cert.Reference19Ideal.Value.run (F := Ideal) m ρ)

/-- Kernel19 and its reference end with equal results. -/
theorem same_results19 : @Cert.algebraic_Kernel19Ideal_Reference19Ideal_pre_finite13 Cert.Kernel19Ideal.Gen.facts Cert.Reference19Ideal.Gen.facts Cert.Pre_finite13.Gen.facts := by
  intro m g m' g' hpre hsame
  refine ⟨fun c => Cert.Reference13Ideal.Hand.input (Cert.Kernel19Ideal.Hand.aR m c) (Cert.Kernel19Ideal.Hand.aG m c) (Cert.Kernel19Ideal.Hand.aD m c),
    fun c => Cert.Kernel19Ideal.Hand.short (Cert.Kernel19Ideal.Hand.aR m c) (Cert.Kernel19Ideal.Hand.aG m c) (Cert.Kernel19Ideal.Hand.aD m c),
    fun c => Cert.Reference13Ideal.Hand.gain (Cert.Kernel19Ideal.Hand.aR m c) (Cert.Kernel19Ideal.Hand.aD m c),
    fun c => Cert.Reference13Ideal.Hand.bias (Cert.Kernel19Ideal.Hand.aD m c), ?_, ?_⟩
  · refine (θ_run Cert.Kernel19Ideal.defs _ _).mono (fun r h c => ?_) (Cert.Kernel19Ideal.Value.run_blocks (F := Ideal) m g)
    obtain ⟨hg, hd⟩ := Cert.Pre_finite13.Hand.real _ _ _ (hpre c)
    exact ⟨(h c).1.trans (Cert.Kernel19Ideal.Hand.final_3 m c hg hd), (h c).2.1.trans (Cert.Kernel19Ideal.Hand.final_4 m c hg hd), (h c).2.2.1.trans (Cert.Kernel19Ideal.Hand.final_5 m c),
      (h c).2.2.2.1.trans (Cert.Kernel19Ideal.Hand.final_6 m c), (h c).2.2.2.2⟩
  · refine (θ_run Cert.Reference19Ideal.defs _ _).mono (fun r h c => ⟨(h c).1.trans ?_, (h c).2.1.trans ?_, (h c).2.2.1.trans ?_, (h c).2.2.2.1.trans ?_, (h c).2.2.2.2⟩) (Cert.Reference19Ideal.Value.run (F := Ideal) m' g')
    all_goals
      obtain ⟨e0, e1, e2⟩ := hsame c
      simp only [Cert.Reference19Ideal.Value.res_main_v59, Cert.Reference19Ideal.Value.res_main_v60, e0, e1, e2] <;> rfl

/-- Kernel20, the step of a weight of 2048 by 704 with the gradients of eight devices: it terminates, changes no argument and leaves every semaphore at zero, over bit patterns and over the extended reals; so does its reference. -/
theorem frame_kernel20 : Cert.quiescent_Kernel20 := fun m ρ _ => Cert.Kernel20.Gen.frame m ρ
theorem frame_kernel20Ideal : Cert.quiescent_Kernel20Ideal := fun m ρ _ => Cert.Kernel20Ideal.Gen.frame m ρ
theorem frame_reference20Ideal : Cert.quiescent_Reference20Ideal := fun m ρ _ =>
  (θ_run Cert.Reference20Ideal.defs _ _).mono (fun r h => ⟨fun c => (h c).2.2.2.2, Idealize.ShloMosaic.sem_eq_zero_of_no_sems (by decide) r.2⟩)
    (Cert.Reference20Ideal.Value.run (F := Ideal) m ρ)

/-- Kernel20 and its reference end with equal results. -/
theorem same_results20 : @Cert.algebraic_Kernel20Ideal_Reference20Ideal Cert.Kernel20Ideal.Gen.facts Cert.Reference20Ideal.Gen.facts := by
  intro m g m' g' _ hsame
  refine ⟨fun c => Cert.Reference20Ideal.Hand.total (m ((c.tc : Thread Cert.Kernel20Ideal.nD Cert.Kernel20Ideal.τ).loc Cert.Kernel20Ideal.main_arg3)),
    fun c => Cert.Adam.step Cert.Kernel20Ideal.S2048x704 Cert.Kernel20Ideal.Hand.spreads (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (Cert.Reference20Ideal.Hand.total (m ((c.tc : Thread Cert.Kernel20Ideal.nD Cert.Kernel20Ideal.τ).loc Cert.Kernel20Ideal.main_arg3))),
    fun c => Cert.Adam.first Cert.Kernel20Ideal.S2048x704 Cert.Kernel20Ideal.Hand.spreads (m ((c.tc : Thread Cert.Kernel20Ideal.nD Cert.Kernel20Ideal.τ).loc Cert.Kernel20Ideal.main_arg1)) (Cert.Reference20Ideal.Hand.total (m ((c.tc : Thread Cert.Kernel20Ideal.nD Cert.Kernel20Ideal.τ).loc Cert.Kernel20Ideal.main_arg3))),
    fun c => Cert.Adam.second Cert.Kernel20Ideal.S2048x704 Cert.Kernel20Ideal.Hand.spreads (m ((c.tc : Thread Cert.Kernel20Ideal.nD Cert.Kernel20Ideal.τ).loc Cert.Kernel20Ideal.main_arg2)) (Cert.Reference20Ideal.Hand.total (m ((c.tc : Thread Cert.Kernel20Ideal.nD Cert.Kernel20Ideal.τ).loc Cert.Kernel20Ideal.main_arg3))), ?_, ?_⟩
  · exact (θ_run Cert.Kernel20Ideal.defs _ _).mono (fun r h c => ⟨(h c).1.trans (Cert.Kernel20Ideal.Hand.final_4 m c), (h c).2.1.trans (Cert.Kernel20Ideal.Hand.final_5 m c), (h c).2.2.1.trans (Cert.Kernel20Ideal.Hand.final_6 m c), (h c).2.2.2.1.trans (Cert.Kernel20Ideal.Hand.final_7 m c), (h c).2.2.2.2⟩) (Cert.Kernel20Ideal.Value.run_blocks (F := Ideal) m g)
  · refine (θ_run Cert.Reference20Ideal.defs _ _).mono (fun r h c => ⟨(h c).1.trans ?_, (h c).2.1.trans ?_, (h c).2.2.1.trans ?_, (h c).2.2.2.1.trans ?_, (h c).2.2.2.2⟩) (Cert.Reference20Ideal.Value.run (F := Ideal) m' g')
    all_goals
      obtain ⟨e0, e1, e2, e3⟩ := hsame c
      simp only [e0, e1, e2, e3]

/-- Kernel21, the step of a gain or a bias: it terminates, changes no argument and leaves every semaphore at zero, over bit patterns and over the extended reals; so does its reference. -/
theorem frame_kernel21 : Cert.quiescent_Kernel21 := fun m ρ _ => Cert.Kernel21.Gen.frame m ρ
theorem frame_kernel21Ideal : Cert.quiescent_Kernel21Ideal := fun m ρ _ => Cert.Kernel21Ideal.Gen.frame m ρ
theorem frame_reference21Ideal : Cert.quiescent_Reference21Ideal := fun m ρ _ =>
  (θ_run Cert.Reference21Ideal.defs _ _).mono (fun r h => ⟨fun c => (h c).2.2.2.2, Idealize.ShloMosaic.sem_eq_zero_of_no_sems (by decide) r.2⟩)
    (Cert.Reference21Ideal.Value.run (F := Ideal) m ρ)

/-- Kernel21 and its reference end with equal results. -/
theorem same_results21 : @Cert.algebraic_Kernel21Ideal_Reference21Ideal Cert.Kernel21Ideal.Gen.facts Cert.Reference21Ideal.Gen.facts := by
  intro m g m' g' _ hsame
  refine ⟨fun c => Cert.Kernel21Ideal.Hand.flat (m ((c.tc : Thread Cert.Kernel21Ideal.nD Cert.Kernel21Ideal.τ).loc Cert.Kernel21Ideal.main_arg3)),
    fun c => Cert.Adam.step Cert.Kernel21Ideal.S1x2048 Cert.Kernel21Ideal.Hand.spreads (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (Cert.Kernel21Ideal.Hand.flat (m ((c.tc : Thread Cert.Kernel21Ideal.nD Cert.Kernel21Ideal.τ).loc Cert.Kernel21Ideal.main_arg3))),
    fun c => Cert.Adam.first Cert.Kernel21Ideal.S1x2048 Cert.Kernel21Ideal.Hand.spreads (m ((c.tc : Thread Cert.Kernel21Ideal.nD Cert.Kernel21Ideal.τ).loc Cert.Kernel21Ideal.main_arg1)) (Cert.Kernel21Ideal.Hand.flat (m ((c.tc : Thread Cert.Kernel21Ideal.nD Cert.Kernel21Ideal.τ).loc Cert.Kernel21Ideal.main_arg3))),
    fun c => Cert.Adam.second Cert.Kernel21Ideal.S1x2048 Cert.Kernel21Ideal.Hand.spreads (m ((c.tc : Thread Cert.Kernel21Ideal.nD Cert.Kernel21Ideal.τ).loc Cert.Kernel21Ideal.main_arg2)) (Cert.Kernel21Ideal.Hand.flat (m ((c.tc : Thread Cert.Kernel21Ideal.nD Cert.Kernel21Ideal.τ).loc Cert.Kernel21Ideal.main_arg3))), ?_, ?_⟩
  · exact (θ_run Cert.Kernel21Ideal.defs _ _).mono (fun r h c => ⟨(h c).1.trans (Cert.Kernel21Ideal.Hand.all_4 _ _ _ _), (h c).2.1.trans (Cert.Kernel21Ideal.Hand.all_5 _ _ _ _), (h c).2.2.1.trans (Cert.Kernel21Ideal.Hand.all_6 _ _ _ _), (h c).2.2.2.1.trans (Cert.Kernel21Ideal.Hand.all_7 _ _ _ _), (h c).2.2.2.2⟩) (Cert.Kernel21Ideal.Value.run (F := Ideal) m g)
  · refine (θ_run Cert.Reference21Ideal.defs _ _).mono (fun r h c => ⟨(h c).1.trans ?_, (h c).2.1.trans ?_, (h c).2.2.1.trans ?_, (h c).2.2.2.1.trans ?_, (h c).2.2.2.2⟩) (Cert.Reference21Ideal.Value.run (F := Ideal) m' g')
    all_goals
      obtain ⟨e0, e1, e2, e3⟩ := hsame c
      simp only [e0, e1, e2, e3]

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts,
  Cert.Reference12Ideal.Gen.facts, Cert.Kernel13.Gen.facts, Cert.Kernel13Ideal.Gen.facts,
  Cert.Reference13Ideal.Gen.facts, Cert.Kernel14.Gen.facts, Cert.Kernel14Ideal.Gen.facts,
  Cert.Reference14Ideal.Gen.facts, Cert.Kernel15.Gen.facts, Cert.Kernel15Ideal.Gen.facts,
  Cert.Reference15Ideal.Gen.facts, Cert.Kernel16.Gen.facts, Cert.Kernel16Ideal.Gen.facts,
  Cert.Reference16Ideal.Gen.facts, Cert.Kernel17.Gen.facts, Cert.Kernel17Ideal.Gen.facts,
  Cert.Reference17Ideal.Gen.facts, Cert.Kernel18.Gen.facts, Cert.Kernel18Ideal.Gen.facts,
  Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Pre_finite.Gen.facts, Cert.Pre_finite2.Gen.facts, Cert.Pre_finite6.Gen.facts,
  Cert.Pre_finite13.Gen.facts, Cert.Pre_finite18.Gen.facts, frame_kernel, frame_kernelIdeal,
  fun m ρ _ => frame_kernelIdeal m ρ trivial, frame_referenceIdeal, fun m ρ _ => frame_referenceIdeal m ρ trivial,
  frame_kernel2, frame_kernel2Ideal, fun m ρ _ => frame_kernel2Ideal m ρ trivial, frame_reference2Ideal,
  fun m ρ _ => frame_reference2Ideal m ρ trivial, frame_kernel3, frame_kernel3Ideal, frame_reference3Ideal,
  frame_kernel4, frame_kernel4Ideal, frame_reference4Ideal, frame_kernel5, frame_kernel5Ideal, frame_reference5Ideal,
  frame_kernel6, frame_kernel6Ideal, fun m ρ _ => frame_kernel6Ideal m ρ trivial, frame_reference6Ideal,
  fun m ρ _ => frame_reference6Ideal m ρ trivial, frame_kernel7, frame_kernel7Ideal, frame_reference7Ideal,
  frame_kernel8, frame_kernel8Ideal, frame_reference8Ideal, frame_kernel9, frame_kernel9Ideal, frame_reference9Ideal,
  frame_kernel10, frame_kernel10Ideal, frame_reference10Ideal, frame_kernel11, frame_kernel11Ideal,
  frame_reference11Ideal, frame_kernel12, frame_kernel12Ideal, frame_reference12Ideal, frame_kernel13,
  frame_kernel13Ideal, fun m ρ _ => frame_kernel13Ideal m ρ trivial, frame_reference13Ideal,
  fun m ρ _ => frame_reference13Ideal m ρ trivial, frame_kernel14, frame_kernel14Ideal, frame_reference14Ideal,
  frame_kernel15, frame_kernel15Ideal, frame_reference15Ideal, frame_kernel16, frame_kernel16Ideal,
  frame_reference16Ideal, frame_kernel17, frame_kernel17Ideal, frame_reference17Ideal, frame_kernel18,
  frame_kernel18Ideal, fun m ρ _ => frame_kernel18Ideal m ρ trivial, frame_reference18Ideal,
  fun m ρ _ => frame_reference18Ideal m ρ trivial, frame_kernel19,
  frame_kernel19Ideal, fun m ρ _ => frame_kernel19Ideal m ρ trivial, frame_reference19Ideal,
  fun m ρ _ => frame_reference19Ideal m ρ trivial,
  frame_kernel20, frame_kernel20Ideal, frame_reference20Ideal, frame_kernel21, frame_kernel21Ideal, frame_reference21Ideal, trivial, same_results, trivial, same_results2, trivial, same_results3,
  trivial, same_results4, trivial, same_results5, trivial, same_results6, trivial, same_results7, trivial, same_results8,
  trivial, same_results9, trivial, same_results10, trivial, same_results11, trivial, same_results12, trivial,
  same_results13, trivial, same_results14, trivial, same_results15, trivial, same_results16, trivial, same_results17,
  trivial, same_results18, trivial, same_results19, trivial, same_results20, trivial, same_results21⟩

end Cert.Proof

end
